-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2Ideal_finite_ffn2 [hPre_finite_ffn2 : Cert.Pre_finite_ffn2.Facts] (m : (ℓ : Loc Cert.Ffn2Ideal.nD Cert.Ffn2Ideal.τ Cert.Ffn2Ideal.sig) → Buf (Elt Ideal) ℓ) : Prop :=
  ∀ c : Dev Cert.Ffn2Ideal.nD,
    (Cert.Pre_finite_ffn2.fn (F := Ideal) (m ((c.tc : Thread Cert.Ffn2Ideal.nD Cert.Ffn2Ideal.τ).loc Cert.Ffn2Ideal.main_arg0)) (m ((c.tc : Thread Cert.Ffn2Ideal.nD Cert.Ffn2Ideal.τ).loc Cert.Ffn2Ideal.main_arg1)) (m ((c.tc : Thread Cert.Ffn2Ideal.nD Cert.Ffn2Ideal.τ).loc Cert.Ffn2Ideal.main_arg2)) (m ((c.tc : Thread Cert.Ffn2Ideal.nD Cert.Ffn2Ideal.τ).loc Cert.Ffn2Ideal.main_arg3)) (m ((c.tc : Thread Cert.Ffn2Ideal.nD Cert.Ffn2Ideal.τ).loc Cert.Ffn2Ideal.main_arg4)) (m ((c.tc : Thread Cert.Ffn2Ideal.nD Cert.Ffn2Ideal.τ).loc Cert.Ffn2Ideal.main_arg5)) (m ((c.tc : Thread Cert.Ffn2Ideal.nD Cert.Ffn2Ideal.τ).loc Cert.Ffn2Ideal.main_arg6))).1 = (fun _ => 1#1)
    ∧ (Cert.Pre_finite_ffn2.fn (F := Ideal) (m ((c.tc : Thread Cert.Ffn2Ideal.nD Cert.Ffn2Ideal.τ).loc Cert.Ffn2Ideal.main_arg0)) (m ((c.tc : Thread Cert.Ffn2Ideal.nD Cert.Ffn2Ideal.τ).loc Cert.Ffn2Ideal.main_arg1)) (m ((c.tc : Thread Cert.Ffn2Ideal.nD Cert.Ffn2Ideal.τ).loc Cert.Ffn2Ideal.main_arg2)) (m ((c.tc : Thread Cert.Ffn2Ideal.nD Cert.Ffn2Ideal.τ).loc Cert.Ffn2Ideal.main_arg3)) (m ((c.tc : Thread Cert.Ffn2Ideal.nD Cert.Ffn2Ideal.τ).loc Cert.Ffn2Ideal.main_arg4)) (m ((c.tc : Thread Cert.Ffn2Ideal.nD Cert.Ffn2Ideal.τ).loc Cert.Ffn2Ideal.main_arg5)) (m ((c.tc : Thread Cert.Ffn2Ideal.nD Cert.Ffn2Ideal.τ).loc Cert.Ffn2Ideal.main_arg6))).2.1 = (fun _ => 1#1)
    ∧ (Cert.Pre_finite_ffn2.fn (F := Ideal) (m ((c.tc : Thread Cert.Ffn2Ideal.nD Cert.Ffn2Ideal.τ).loc Cert.Ffn2Ideal.main_arg0)) (m ((c.tc : Thread Cert.Ffn2Ideal.nD Cert.Ffn2Ideal.τ).loc Cert.Ffn2Ideal.main_arg1)) (m ((c.tc : Thread Cert.Ffn2Ideal.nD Cert.Ffn2Ideal.τ).loc Cert.Ffn2Ideal.main_arg2)) (m ((c.tc : Thread Cert.Ffn2Ideal.nD Cert.Ffn2Ideal.τ).loc Cert.Ffn2Ideal.main_arg3)) (m ((c.tc : Thread Cert.Ffn2Ideal.nD Cert.Ffn2Ideal.τ).loc Cert.Ffn2Ideal.main_arg4)) (m ((c.tc : Thread Cert.Ffn2Ideal.nD Cert.Ffn2Ideal.τ).loc Cert.Ffn2Ideal.main_arg5)) (m ((c.tc : Thread Cert.Ffn2Ideal.nD Cert.Ffn2Ideal.τ).loc Cert.Ffn2Ideal.main_arg6))).2.2.1 = (fun _ => 1#1)
    ∧ (Cert.Pre_finite_ffn2.fn (F := Ideal) (m ((c.tc : Thread Cert.Ffn2Ideal.nD Cert.Ffn2Ideal.τ).loc Cert.Ffn2Ideal.main_arg0)) (m ((c.tc : Thread Cert.Ffn2Ideal.nD Cert.Ffn2Ideal.τ).loc Cert.Ffn2Ideal.main_arg1)) (m ((c.tc : Thread Cert.Ffn2Ideal.nD Cert.Ffn2Ideal.τ).loc Cert.Ffn2Ideal.main_arg2)) (m ((c.tc : Thread Cert.Ffn2Ideal.nD Cert.Ffn2Ideal.τ).loc Cert.Ffn2Ideal.main_arg3)) (m ((c.tc : Thread Cert.Ffn2Ideal.nD Cert.Ffn2Ideal.τ).loc Cert.Ffn2Ideal.main_arg4)) (m ((c.tc : Thread Cert.Ffn2Ideal.nD Cert.Ffn2Ideal.τ).loc Cert.Ffn2Ideal.main_arg5)) (m ((c.tc : Thread Cert.Ffn2Ideal.nD Cert.Ffn2Ideal.τ).loc Cert.Ffn2Ideal.main_arg6))).2.2.2 = (fun _ => 1#1)

def Pre_Ffn2RefIdeal (m : (ℓ : Loc Cert.Ffn2RefIdeal.nD Cert.Ffn2RefIdeal.τ Cert.Ffn2RefIdeal.sig) → Buf (Elt Ideal) ℓ) : Prop :=
  True

def Pre_Ffn2RefIdeal_finite_ffn2 [hPre_finite_ffn2 : Cert.Pre_finite_ffn2.Facts] (m : (ℓ : Loc Cert.Ffn2RefIdeal.nD Cert.Ffn2RefIdeal.τ Cert.Ffn2RefIdeal.sig) → Buf (Elt Ideal) ℓ) : Prop :=
  ∀ c : Dev Cert.Ffn2RefIdeal.nD,
    (Cert.Pre_finite_ffn2.fn (F := Ideal) (m ((c.tc : Thread Cert.Ffn2RefIdeal.nD Cert.Ffn2RefIdeal.τ).loc Cert.Ffn2RefIdeal.main_arg0)) (m ((c.tc : Thread Cert.Ffn2RefIdeal.nD Cert.Ffn2RefIdeal.τ).loc Cert.Ffn2RefIdeal.main_arg1)) (m ((c.tc : Thread Cert.Ffn2RefIdeal.nD Cert.Ffn2RefIdeal.τ).loc Cert.Ffn2RefIdeal.main_arg2)) (m ((c.tc : Thread Cert.Ffn2RefIdeal.nD Cert.Ffn2RefIdeal.τ).loc Cert.Ffn2RefIdeal.main_arg3)) (m ((c.tc : Thread Cert.Ffn2RefIdeal.nD Cert.Ffn2RefIdeal.τ).loc Cert.Ffn2RefIdeal.main_arg4)) (m ((c.tc : Thread Cert.Ffn2RefIdeal.nD Cert.Ffn2RefIdeal.τ).loc Cert.Ffn2RefIdeal.main_arg5)) (m ((c.tc : Thread Cert.Ffn2RefIdeal.nD Cert.Ffn2RefIdeal.τ).loc Cert.Ffn2RefIdeal.main_arg6))).1 = (fun _ => 1#1)
    ∧ (Cert.Pre_finite_ffn2.fn (F := Ideal) (m ((c.tc : Thread Cert.Ffn2RefIdeal.nD Cert.Ffn2RefIdeal.τ).loc Cert.Ffn2RefIdeal.main_arg0)) (m ((c.tc : Thread Cert.Ffn2RefIdeal.nD Cert.Ffn2RefIdeal.τ).loc Cert.Ffn2RefIdeal.main_arg1)) (m ((c.tc : Thread Cert.Ffn2RefIdeal.nD Cert.Ffn2RefIdeal.τ).loc Cert.Ffn2RefIdeal.main_arg2)) (m ((c.tc : Thread Cert.Ffn2RefIdeal.nD Cert.Ffn2RefIdeal.τ).loc Cert.Ffn2RefIdeal.main_arg3)) (m ((c.tc : Thread Cert.Ffn2RefIdeal.nD Cert.Ffn2RefIdeal.τ).loc Cert.Ffn2RefIdeal.main_arg4)) (m ((c.tc : Thread Cert.Ffn2RefIdeal.nD Cert.Ffn2RefIdeal.τ).loc Cert.Ffn2RefIdeal.main_arg5)) (m ((c.tc : Thread Cert.Ffn2RefIdeal.nD Cert.Ffn2RefIdeal.τ).loc Cert.Ffn2RefIdeal.main_arg6))).2.1 = (fun _ => 1#1)
    ∧ (Cert.Pre_finite_ffn2.fn (F := Ideal) (m ((c.tc : Thread Cert.Ffn2RefIdeal.nD Cert.Ffn2RefIdeal.τ).loc Cert.Ffn2RefIdeal.main_arg0)) (m ((c.tc : Thread Cert.Ffn2RefIdeal.nD Cert.Ffn2RefIdeal.τ).loc Cert.Ffn2RefIdeal.main_arg1)) (m ((c.tc : Thread Cert.Ffn2RefIdeal.nD Cert.Ffn2RefIdeal.τ).loc Cert.Ffn2RefIdeal.main_arg2)) (m ((c.tc : Thread Cert.Ffn2RefIdeal.nD Cert.Ffn2RefIdeal.τ).loc Cert.Ffn2RefIdeal.main_arg3)) (m ((c.tc : Thread Cert.Ffn2RefIdeal.nD Cert.Ffn2RefIdeal.τ).loc Cert.Ffn2RefIdeal.main_arg4)) (m ((c.tc : Thread Cert.Ffn2RefIdeal.nD Cert.Ffn2RefIdeal.τ).loc Cert.Ffn2RefIdeal.main_arg5)) (m ((c.tc : Thread Cert.Ffn2RefIdeal.nD Cert.Ffn2RefIdeal.τ).loc Cert.Ffn2RefIdeal.main_arg6))).2.2.1 = (fun _ => 1#1)
    ∧ (Cert.Pre_finite_ffn2.fn (F := Ideal) (m ((c.tc : Thread Cert.Ffn2RefIdeal.nD Cert.Ffn2RefIdeal.τ).loc Cert.Ffn2RefIdeal.main_arg0)) (m ((c.tc : Thread Cert.Ffn2RefIdeal.nD Cert.Ffn2RefIdeal.τ).loc Cert.Ffn2RefIdeal.main_arg1)) (m ((c.tc : Thread Cert.Ffn2RefIdeal.nD Cert.Ffn2RefIdeal.τ).loc Cert.Ffn2RefIdeal.main_arg2)) (m ((c.tc : Thread Cert.Ffn2RefIdeal.nD Cert.Ffn2RefIdeal.τ).loc Cert.Ffn2RefIdeal.main_arg3)) (m ((c.tc : Thread Cert.Ffn2RefIdeal.nD Cert.Ffn2RefIdeal.τ).loc Cert.Ffn2RefIdeal.main_arg4)) (m ((c.tc : Thread Cert.Ffn2RefIdeal.nD Cert.Ffn2RefIdeal.τ).loc Cert.Ffn2RefIdeal.main_arg5)) (m ((c.tc : Thread Cert.Ffn2RefIdeal.nD Cert.Ffn2RefIdeal.τ).loc Cert.Ffn2RefIdeal.main_arg6))).2.2.2 = (fun _ => 1#1)

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1Ideal_finite_ffn1 [hPre_finite_ffn1 : Cert.Pre_finite_ffn1.Facts] (m : (ℓ : Loc Cert.Ffn1Ideal.nD Cert.Ffn1Ideal.τ Cert.Ffn1Ideal.sig) → Buf (Elt Ideal) ℓ) : Prop :=
  ∀ c : Dev Cert.Ffn1Ideal.nD,
    (Cert.Pre_finite_ffn1.fn (F := Ideal) (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4)) (m ((c.tc : Thread Cert.Ffn1Ideal.nD Cert.Ffn1Ideal.τ).loc Cert.Ffn1Ideal.main_arg5)) (m ((c.tc : Thread Cert.Ffn1Ideal.nD Cert.Ffn1Ideal.τ).loc Cert.Ffn1Ideal.main_arg6))).1 = (fun _ => 1#1)
    ∧ (Cert.Pre_finite_ffn1.fn (F := Ideal) (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4)) (m ((c.tc : Thread Cert.Ffn1Ideal.nD Cert.Ffn1Ideal.τ).loc Cert.Ffn1Ideal.main_arg5)) (m ((c.tc : Thread Cert.Ffn1Ideal.nD Cert.Ffn1Ideal.τ).loc Cert.Ffn1Ideal.main_arg6))).2.1 = (fun _ => 1#1)
    ∧ (Cert.Pre_finite_ffn1.fn (F := Ideal) (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4)) (m ((c.tc : Thread Cert.Ffn1Ideal.nD Cert.Ffn1Ideal.τ).loc Cert.Ffn1Ideal.main_arg5)) (m ((c.tc : Thread Cert.Ffn1Ideal.nD Cert.Ffn1Ideal.τ).loc Cert.Ffn1Ideal.main_arg6))).2.2.1 = (fun _ => 1#1)
    ∧ (Cert.Pre_finite_ffn1.fn (F := Ideal) (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4)) (m ((c.tc : Thread Cert.Ffn1Ideal.nD Cert.Ffn1Ideal.τ).loc Cert.Ffn1Ideal.main_arg5)) (m ((c.tc : Thread Cert.Ffn1Ideal.nD Cert.Ffn1Ideal.τ).loc Cert.Ffn1Ideal.main_arg6))).2.2.2 = (fun _ => 1#1)

def Pre_Ffn1RefIdeal (m : (ℓ : Loc Cert.Ffn1RefIdeal.nD Cert.Ffn1RefIdeal.τ Cert.Ffn1RefIdeal.sig) → Buf (Elt Ideal) ℓ) : Prop :=
  True

def Pre_Ffn1RefIdeal_finite_ffn1 [hPre_finite_ffn1 : Cert.Pre_finite_ffn1.Facts] (m : (ℓ : Loc Cert.Ffn1RefIdeal.nD Cert.Ffn1RefIdeal.τ Cert.Ffn1RefIdeal.sig) → Buf (Elt Ideal) ℓ) : Prop :=
  ∀ c : Dev Cert.Ffn1RefIdeal.nD,
    (Cert.Pre_finite_ffn1.fn (F := Ideal) (m ((c.tc : Thread Cert.Ffn1RefIdeal.nD Cert.Ffn1RefIdeal.τ).loc Cert.Ffn1RefIdeal.main_arg0)) (m ((c.tc : Thread Cert.Ffn1RefIdeal.nD Cert.Ffn1RefIdeal.τ).loc Cert.Ffn1RefIdeal.main_arg1)) (m ((c.tc : Thread Cert.Ffn1RefIdeal.nD Cert.Ffn1RefIdeal.τ).loc Cert.Ffn1RefIdeal.main_arg2)) (m ((c.tc : Thread Cert.Ffn1RefIdeal.nD Cert.Ffn1RefIdeal.τ).loc Cert.Ffn1RefIdeal.main_arg3)) (m ((c.tc : Thread Cert.Ffn1RefIdeal.nD Cert.Ffn1RefIdeal.τ).loc Cert.Ffn1RefIdeal.main_arg4)) (m ((c.tc : Thread Cert.Ffn1RefIdeal.nD Cert.Ffn1RefIdeal.τ).loc Cert.Ffn1RefIdeal.main_arg5)) (m ((c.tc : Thread Cert.Ffn1RefIdeal.nD Cert.Ffn1RefIdeal.τ).loc Cert.Ffn1RefIdeal.main_arg6))).1 = (fun _ => 1#1)
    ∧ (Cert.Pre_finite_ffn1.fn (F := Ideal) (m ((c.tc : Thread Cert.Ffn1RefIdeal.nD Cert.Ffn1RefIdeal.τ).loc Cert.Ffn1RefIdeal.main_arg0)) (m ((c.tc : Thread Cert.Ffn1RefIdeal.nD Cert.Ffn1RefIdeal.τ).loc Cert.Ffn1RefIdeal.main_arg1)) (m ((c.tc : Thread Cert.Ffn1RefIdeal.nD Cert.Ffn1RefIdeal.τ).loc Cert.Ffn1RefIdeal.main_arg2)) (m ((c.tc : Thread Cert.Ffn1RefIdeal.nD Cert.Ffn1RefIdeal.τ).loc Cert.Ffn1RefIdeal.main_arg3)) (m ((c.tc : Thread Cert.Ffn1RefIdeal.nD Cert.Ffn1RefIdeal.τ).loc Cert.Ffn1RefIdeal.main_arg4)) (m ((c.tc : Thread Cert.Ffn1RefIdeal.nD Cert.Ffn1RefIdeal.τ).loc Cert.Ffn1RefIdeal.main_arg5)) (m ((c.tc : Thread Cert.Ffn1RefIdeal.nD Cert.Ffn1RefIdeal.τ).loc Cert.Ffn1RefIdeal.main_arg6))).2.1 = (fun _ => 1#1)
    ∧ (Cert.Pre_finite_ffn1.fn (F := Ideal) (m ((c.tc : Thread Cert.Ffn1RefIdeal.nD Cert.Ffn1RefIdeal.τ).loc Cert.Ffn1RefIdeal.main_arg0)) (m ((c.tc : Thread Cert.Ffn1RefIdeal.nD Cert.Ffn1RefIdeal.τ).loc Cert.Ffn1RefIdeal.main_arg1)) (m ((c.tc : Thread Cert.Ffn1RefIdeal.nD Cert.Ffn1RefIdeal.τ).loc Cert.Ffn1RefIdeal.main_arg2)) (m ((c.tc : Thread Cert.Ffn1RefIdeal.nD Cert.Ffn1RefIdeal.τ).loc Cert.Ffn1RefIdeal.main_arg3)) (m ((c.tc : Thread Cert.Ffn1RefIdeal.nD Cert.Ffn1RefIdeal.τ).loc Cert.Ffn1RefIdeal.main_arg4)) (m ((c.tc : Thread Cert.Ffn1RefIdeal.nD Cert.Ffn1RefIdeal.τ).loc Cert.Ffn1RefIdeal.main_arg5)) (m ((c.tc : Thread Cert.Ffn1RefIdeal.nD Cert.Ffn1RefIdeal.τ).loc Cert.Ffn1RefIdeal.main_arg6))).2.2.1 = (fun _ => 1#1)
    ∧ (Cert.Pre_finite_ffn1.fn (F := Ideal) (m ((c.tc : Thread Cert.Ffn1RefIdeal.nD Cert.Ffn1RefIdeal.τ).loc Cert.Ffn1RefIdeal.main_arg0)) (m ((c.tc : Thread Cert.Ffn1RefIdeal.nD Cert.Ffn1RefIdeal.τ).loc Cert.Ffn1RefIdeal.main_arg1)) (m ((c.tc : Thread Cert.Ffn1RefIdeal.nD Cert.Ffn1RefIdeal.τ).loc Cert.Ffn1RefIdeal.main_arg2)) (m ((c.tc : Thread Cert.Ffn1RefIdeal.nD Cert.Ffn1RefIdeal.τ).loc Cert.Ffn1RefIdeal.main_arg3)) (m ((c.tc : Thread Cert.Ffn1RefIdeal.nD Cert.Ffn1RefIdeal.τ).loc Cert.Ffn1RefIdeal.main_arg4)) (m ((c.tc : Thread Cert.Ffn1RefIdeal.nD Cert.Ffn1RefIdeal.τ).loc Cert.Ffn1RefIdeal.main_arg5)) (m ((c.tc : Thread Cert.Ffn1RefIdeal.nD Cert.Ffn1RefIdeal.τ).loc Cert.Ffn1RefIdeal.main_arg6))).2.2.2 = (fun _ => 1#1)

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_Dh1RefIdeal (m : (ℓ : Loc Cert.Dh1RefIdeal.nD Cert.Dh1RefIdeal.τ Cert.Dh1RefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_InProjDx (m : (ℓ : Loc Cert.InProjDx.nD Cert.InProjDx.τ Cert.InProjDx.sig) → Buf (Elt Bits) ℓ) : Prop :=
  True

def Pre_InProjDxIdeal (m : (ℓ : Loc Cert.InProjDxIdeal.nD Cert.InProjDxIdeal.τ Cert.InProjDxIdeal.sig) → Buf (Elt Ideal) ℓ) : Prop :=
  True

def Pre_InProjDxRefIdeal (m : (ℓ : Loc Cert.InProjDxRefIdeal.nD Cert.InProjDxRefIdeal.τ Cert.InProjDxRefIdeal.sig) → Buf (Elt Ideal) ℓ) : Prop :=
  True

def Pre_Update (m : (ℓ : Loc Cert.Update.nD Cert.Update.τ Cert.Update.sig) → Buf (Elt Bits) ℓ) : Prop :=
  True

def Pre_UpdateIdeal (m : (ℓ : Loc Cert.UpdateIdeal.nD Cert.UpdateIdeal.τ Cert.UpdateIdeal.sig) → Buf (Elt Ideal) ℓ) : Prop :=
  True

def Pre_UpdateRefIdeal (m : (ℓ : Loc Cert.UpdateRefIdeal.nD Cert.UpdateRefIdeal.τ Cert.UpdateRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_MixDy (m : (ℓ : Loc Cert.MixDy.nD Cert.MixDy.τ Cert.MixDy.sig) → Buf (Elt Bits) ℓ) : Prop :=
  True

def Pre_MixDyIdeal (m : (ℓ : Loc Cert.MixDyIdeal.nD Cert.MixDyIdeal.τ Cert.MixDyIdeal.sig) → Buf (Elt Ideal) ℓ) : Prop :=
  True

def Pre_MixDyRefIdeal (m : (ℓ : Loc Cert.MixDyRefIdeal.nD Cert.MixDyRefIdeal.τ Cert.MixDyRefIdeal.sig) → Buf (Elt Ideal) ℓ) : Prop :=
  True

def Pre_UpdSmall (m : (ℓ : Loc Cert.UpdSmall.nD Cert.UpdSmall.τ Cert.UpdSmall.sig) → Buf (Elt Bits) ℓ) : Prop :=
  True

def Pre_UpdSmallIdeal (m : (ℓ : Loc Cert.UpdSmallIdeal.nD Cert.UpdSmallIdeal.τ Cert.UpdSmallIdeal.sig) → Buf (Elt Ideal) ℓ) : Prop :=
  True

def Pre_UpdSmallRefIdeal (m : (ℓ : Loc Cert.UpdSmallRefIdeal.nD Cert.UpdSmallRefIdeal.τ Cert.UpdSmallRefIdeal.sig) → Buf (Elt Ideal) ℓ) : Prop :=
  True

def Pre_UpdMod (m : (ℓ : Loc Cert.UpdMod.nD Cert.UpdMod.τ Cert.UpdMod.sig) → Buf (Elt Bits) ℓ) : Prop :=
  True

def Pre_UpdModIdeal (m : (ℓ : Loc Cert.UpdModIdeal.nD Cert.UpdModIdeal.τ Cert.UpdModIdeal.sig) → Buf (Elt Ideal) ℓ) : Prop :=
  True

def Pre_UpdModIdeal_finite_mod [hPre_finite_mod : Cert.Pre_finite_mod.Facts] (m : (ℓ : Loc Cert.UpdModIdeal.nD Cert.UpdModIdeal.τ Cert.UpdModIdeal.sig) → Buf (Elt Ideal) ℓ) : Prop :=
  ∀ c : Dev Cert.UpdModIdeal.nD,
    (Cert.Pre_finite_mod.fn (F := Ideal) (m ((c.tc : Thread Cert.UpdModIdeal.nD Cert.UpdModIdeal.τ).loc Cert.UpdModIdeal.main_arg0)) (m ((c.tc : Thread Cert.UpdModIdeal.nD Cert.UpdModIdeal.τ).loc Cert.UpdModIdeal.main_arg1)) (m ((c.tc : Thread Cert.UpdModIdeal.nD Cert.UpdModIdeal.τ).loc Cert.UpdModIdeal.main_arg2)) (m ((c.tc : Thread Cert.UpdModIdeal.nD Cert.UpdModIdeal.τ).loc Cert.UpdModIdeal.main_arg3)) (m ((c.tc : Thread Cert.UpdModIdeal.nD Cert.UpdModIdeal.τ).loc Cert.UpdModIdeal.main_arg4)) (m ((c.tc : Thread Cert.UpdModIdeal.nD Cert.UpdModIdeal.τ).loc Cert.UpdModIdeal.main_arg5)) (m ((c.tc : Thread Cert.UpdModIdeal.nD Cert.UpdModIdeal.τ).loc Cert.UpdModIdeal.main_arg6))).1 = (fun _ => 1#1)
    ∧ (Cert.Pre_finite_mod.fn (F := Ideal) (m ((c.tc : Thread Cert.UpdModIdeal.nD Cert.UpdModIdeal.τ).loc Cert.UpdModIdeal.main_arg0)) (m ((c.tc : Thread Cert.UpdModIdeal.nD Cert.UpdModIdeal.τ).loc Cert.UpdModIdeal.main_arg1)) (m ((c.tc : Thread Cert.UpdModIdeal.nD Cert.UpdModIdeal.τ).loc Cert.UpdModIdeal.main_arg2)) (m ((c.tc : Thread Cert.UpdModIdeal.nD Cert.UpdModIdeal.τ).loc Cert.UpdModIdeal.main_arg3)) (m ((c.tc : Thread Cert.UpdModIdeal.nD Cert.UpdModIdeal.τ).loc Cert.UpdModIdeal.main_arg4)) (m ((c.tc : Thread Cert.UpdModIdeal.nD Cert.UpdModIdeal.τ).loc Cert.UpdModIdeal.main_arg5)) (m ((c.tc : Thread Cert.UpdModIdeal.nD Cert.UpdModIdeal.τ).loc Cert.UpdModIdeal.main_arg6))).2.1 = (fun _ => 1#1)
    ∧ (Cert.Pre_finite_mod.fn (F := Ideal) (m ((c.tc : Thread Cert.UpdModIdeal.nD Cert.UpdModIdeal.τ).loc Cert.UpdModIdeal.main_arg0)) (m ((c.tc : Thread Cert.UpdModIdeal.nD Cert.UpdModIdeal.τ).loc Cert.UpdModIdeal.main_arg1)) (m ((c.tc : Thread Cert.UpdModIdeal.nD Cert.UpdModIdeal.τ).loc Cert.UpdModIdeal.main_arg2)) (m ((c.tc : Thread Cert.UpdModIdeal.nD Cert.UpdModIdeal.τ).loc Cert.UpdModIdeal.main_arg3)) (m ((c.tc : Thread Cert.UpdModIdeal.nD Cert.UpdModIdeal.τ).loc Cert.UpdModIdeal.main_arg4)) (m ((c.tc : Thread Cert.UpdModIdeal.nD Cert.UpdModIdeal.τ).loc Cert.UpdModIdeal.main_arg5)) (m ((c.tc : Thread Cert.UpdModIdeal.nD Cert.UpdModIdeal.τ).loc Cert.UpdModIdeal.main_arg6))).2.2.1 = (fun _ => 1#1)
    ∧ (Cert.Pre_finite_mod.fn (F := Ideal) (m ((c.tc : Thread Cert.UpdModIdeal.nD Cert.UpdModIdeal.τ).loc Cert.UpdModIdeal.main_arg0)) (m ((c.tc : Thread Cert.UpdModIdeal.nD Cert.UpdModIdeal.τ).loc Cert.UpdModIdeal.main_arg1)) (m ((c.tc : Thread Cert.UpdModIdeal.nD Cert.UpdModIdeal.τ).loc Cert.UpdModIdeal.main_arg2)) (m ((c.tc : Thread Cert.UpdModIdeal.nD Cert.UpdModIdeal.τ).loc Cert.UpdModIdeal.main_arg3)) (m ((c.tc : Thread Cert.UpdModIdeal.nD Cert.UpdModIdeal.τ).loc Cert.UpdModIdeal.main_arg4)) (m ((c.tc : Thread Cert.UpdModIdeal.nD Cert.UpdModIdeal.τ).loc Cert.UpdModIdeal.main_arg5)) (m ((c.tc : Thread Cert.UpdModIdeal.nD Cert.UpdModIdeal.τ).loc Cert.UpdModIdeal.main_arg6))).2.2.2 = (fun _ => 1#1)

def Pre_UpdModRefIdeal (m : (ℓ : Loc Cert.UpdModRefIdeal.nD Cert.UpdModRefIdeal.τ Cert.UpdModRefIdeal.sig) → Buf (Elt Ideal) ℓ) : Prop :=
  True

def Pre_UpdModRefIdeal_finite_mod [hPre_finite_mod : Cert.Pre_finite_mod.Facts] (m : (ℓ : Loc Cert.UpdModRefIdeal.nD Cert.UpdModRefIdeal.τ Cert.UpdModRefIdeal.sig) → Buf (Elt Ideal) ℓ) : Prop :=
  ∀ c : Dev Cert.UpdModRefIdeal.nD,
    (Cert.Pre_finite_mod.fn (F := Ideal) (m ((c.tc : Thread Cert.UpdModRefIdeal.nD Cert.UpdModRefIdeal.τ).loc Cert.UpdModRefIdeal.main_arg0)) (m ((c.tc : Thread Cert.UpdModRefIdeal.nD Cert.UpdModRefIdeal.τ).loc Cert.UpdModRefIdeal.main_arg1)) (m ((c.tc : Thread Cert.UpdModRefIdeal.nD Cert.UpdModRefIdeal.τ).loc Cert.UpdModRefIdeal.main_arg2)) (m ((c.tc : Thread Cert.UpdModRefIdeal.nD Cert.UpdModRefIdeal.τ).loc Cert.UpdModRefIdeal.main_arg3)) (m ((c.tc : Thread Cert.UpdModRefIdeal.nD Cert.UpdModRefIdeal.τ).loc Cert.UpdModRefIdeal.main_arg4)) (m ((c.tc : Thread Cert.UpdModRefIdeal.nD Cert.UpdModRefIdeal.τ).loc Cert.UpdModRefIdeal.main_arg5)) (m ((c.tc : Thread Cert.UpdModRefIdeal.nD Cert.UpdModRefIdeal.τ).loc Cert.UpdModRefIdeal.main_arg6))).1 = (fun _ => 1#1)
    ∧ (Cert.Pre_finite_mod.fn (F := Ideal) (m ((c.tc : Thread Cert.UpdModRefIdeal.nD Cert.UpdModRefIdeal.τ).loc Cert.UpdModRefIdeal.main_arg0)) (m ((c.tc : Thread Cert.UpdModRefIdeal.nD Cert.UpdModRefIdeal.τ).loc Cert.UpdModRefIdeal.main_arg1)) (m ((c.tc : Thread Cert.UpdModRefIdeal.nD Cert.UpdModRefIdeal.τ).loc Cert.UpdModRefIdeal.main_arg2)) (m ((c.tc : Thread Cert.UpdModRefIdeal.nD Cert.UpdModRefIdeal.τ).loc Cert.UpdModRefIdeal.main_arg3)) (m ((c.tc : Thread Cert.UpdModRefIdeal.nD Cert.UpdModRefIdeal.τ).loc Cert.UpdModRefIdeal.main_arg4)) (m ((c.tc : Thread Cert.UpdModRefIdeal.nD Cert.UpdModRefIdeal.τ).loc Cert.UpdModRefIdeal.main_arg5)) (m ((c.tc : Thread Cert.UpdModRefIdeal.nD Cert.UpdModRefIdeal.τ).loc Cert.UpdModRefIdeal.main_arg6))).2.1 = (fun _ => 1#1)
    ∧ (Cert.Pre_finite_mod.fn (F := Ideal) (m ((c.tc : Thread Cert.UpdModRefIdeal.nD Cert.UpdModRefIdeal.τ).loc Cert.UpdModRefIdeal.main_arg0)) (m ((c.tc : Thread Cert.UpdModRefIdeal.nD Cert.UpdModRefIdeal.τ).loc Cert.UpdModRefIdeal.main_arg1)) (m ((c.tc : Thread Cert.UpdModRefIdeal.nD Cert.UpdModRefIdeal.τ).loc Cert.UpdModRefIdeal.main_arg2)) (m ((c.tc : Thread Cert.UpdModRefIdeal.nD Cert.UpdModRefIdeal.τ).loc Cert.UpdModRefIdeal.main_arg3)) (m ((c.tc : Thread Cert.UpdModRefIdeal.nD Cert.UpdModRefIdeal.τ).loc Cert.UpdModRefIdeal.main_arg4)) (m ((c.tc : Thread Cert.UpdModRefIdeal.nD Cert.UpdModRefIdeal.τ).loc Cert.UpdModRefIdeal.main_arg5)) (m ((c.tc : Thread Cert.UpdModRefIdeal.nD Cert.UpdModRefIdeal.τ).loc Cert.UpdModRefIdeal.main_arg6))).2.2.1 = (fun _ => 1#1)
    ∧ (Cert.Pre_finite_mod.fn (F := Ideal) (m ((c.tc : Thread Cert.UpdModRefIdeal.nD Cert.UpdModRefIdeal.τ).loc Cert.UpdModRefIdeal.main_arg0)) (m ((c.tc : Thread Cert.UpdModRefIdeal.nD Cert.UpdModRefIdeal.τ).loc Cert.UpdModRefIdeal.main_arg1)) (m ((c.tc : Thread Cert.UpdModRefIdeal.nD Cert.UpdModRefIdeal.τ).loc Cert.UpdModRefIdeal.main_arg2)) (m ((c.tc : Thread Cert.UpdModRefIdeal.nD Cert.UpdModRefIdeal.τ).loc Cert.UpdModRefIdeal.main_arg3)) (m ((c.tc : Thread Cert.UpdModRefIdeal.nD Cert.UpdModRefIdeal.τ).loc Cert.UpdModRefIdeal.main_arg4)) (m ((c.tc : Thread Cert.UpdModRefIdeal.nD Cert.UpdModRefIdeal.τ).loc Cert.UpdModRefIdeal.main_arg5)) (m ((c.tc : Thread Cert.UpdModRefIdeal.nD Cert.UpdModRefIdeal.τ).loc Cert.UpdModRefIdeal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4)
      ∧ r.2.mem ((c.tc : Thread Cert.Ffn2.nD Cert.Ffn2.τ).loc Cert.Ffn2.main_arg5) = m ((c.tc : Thread Cert.Ffn2.nD Cert.Ffn2.τ).loc Cert.Ffn2.main_arg5)
      ∧ r.2.mem ((c.tc : Thread Cert.Ffn2.nD Cert.Ffn2.τ).loc Cert.Ffn2.main_arg6) = m ((c.tc : Thread Cert.Ffn2.nD Cert.Ffn2.τ).loc Cert.Ffn2.main_arg6))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
      ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6))
      ∧ r.2.sem = fun _ => 0)

def quiescent_Ffn2Ideal_pre_finite_ffn2 [hFfn2Ideal : Cert.Ffn2Ideal.Facts] [hPre_finite_ffn2 : Cert.Pre_finite_ffn2.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal_finite_ffn2 m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
      ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4)
      ∧ r.2.mem ((c.tc : Thread Cert.Ffn2RefIdeal.nD Cert.Ffn2RefIdeal.τ).loc Cert.Ffn2RefIdeal.main_arg5) = m ((c.tc : Thread Cert.Ffn2RefIdeal.nD Cert.Ffn2RefIdeal.τ).loc Cert.Ffn2RefIdeal.main_arg5)
      ∧ r.2.mem ((c.tc : Thread Cert.Ffn2RefIdeal.nD Cert.Ffn2RefIdeal.τ).loc Cert.Ffn2RefIdeal.main_arg6) = m ((c.tc : Thread Cert.Ffn2RefIdeal.nD Cert.Ffn2RefIdeal.τ).loc Cert.Ffn2RefIdeal.main_arg6))
      ∧ r.2.sem = fun _ => 0)

def quiescent_Ffn2RefIdeal_pre_finite_ffn2 [hFfn2RefIdeal : Cert.Ffn2RefIdeal.Facts] [hPre_finite_ffn2 : Cert.Pre_finite_ffn2.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal_finite_ffn2 m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4)
      ∧ r.2.mem ((c.tc : Thread Cert.Ffn2RefIdeal.nD Cert.Ffn2RefIdeal.τ).loc Cert.Ffn2RefIdeal.main_arg5) = m ((c.tc : Thread Cert.Ffn2RefIdeal.nD Cert.Ffn2RefIdeal.τ).loc Cert.Ffn2RefIdeal.main_arg5)
      ∧ r.2.mem ((c.tc : Thread Cert.Ffn2RefIdeal.nD Cert.Ffn2RefIdeal.τ).loc Cert.Ffn2RefIdeal.main_arg6) = m ((c.tc : Thread Cert.Ffn2RefIdeal.nD Cert.Ffn2RefIdeal.τ).loc Cert.Ffn2RefIdeal.main_arg6))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4)
      ∧ r.2.mem ((c.tc : Thread Cert.Ffn1.nD Cert.Ffn1.τ).loc Cert.Ffn1.main_arg5) = m ((c.tc : Thread Cert.Ffn1.nD Cert.Ffn1.τ).loc Cert.Ffn1.main_arg5)
      ∧ r.2.mem ((c.tc : Thread Cert.Ffn1.nD Cert.Ffn1.τ).loc Cert.Ffn1.main_arg6) = m ((c.tc : Thread Cert.Ffn1.nD Cert.Ffn1.τ).loc Cert.Ffn1.main_arg6))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
      ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6))
      ∧ r.2.sem = fun _ => 0)

def quiescent_Ffn1Ideal_pre_finite_ffn1 [hFfn1Ideal : Cert.Ffn1Ideal.Facts] [hPre_finite_ffn1 : Cert.Pre_finite_ffn1.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal_finite_ffn1 m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
      ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4)
      ∧ r.2.mem ((c.tc : Thread Cert.Ffn1RefIdeal.nD Cert.Ffn1RefIdeal.τ).loc Cert.Ffn1RefIdeal.main_arg5) = m ((c.tc : Thread Cert.Ffn1RefIdeal.nD Cert.Ffn1RefIdeal.τ).loc Cert.Ffn1RefIdeal.main_arg5)
      ∧ r.2.mem ((c.tc : Thread Cert.Ffn1RefIdeal.nD Cert.Ffn1RefIdeal.τ).loc Cert.Ffn1RefIdeal.main_arg6) = m ((c.tc : Thread Cert.Ffn1RefIdeal.nD Cert.Ffn1RefIdeal.τ).loc Cert.Ffn1RefIdeal.main_arg6))
      ∧ r.2.sem = fun _ => 0)

def quiescent_Ffn1RefIdeal_pre_finite_ffn1 [hFfn1RefIdeal : Cert.Ffn1RefIdeal.Facts] [hPre_finite_ffn1 : Cert.Pre_finite_ffn1.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal_finite_ffn1 m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4)
      ∧ r.2.mem ((c.tc : Thread Cert.Ffn1RefIdeal.nD Cert.Ffn1RefIdeal.τ).loc Cert.Ffn1RefIdeal.main_arg5) = m ((c.tc : Thread Cert.Ffn1RefIdeal.nD Cert.Ffn1RefIdeal.τ).loc Cert.Ffn1RefIdeal.main_arg5)
      ∧ r.2.mem ((c.tc : Thread Cert.Ffn1RefIdeal.nD Cert.Ffn1RefIdeal.τ).loc Cert.Ffn1RefIdeal.main_arg6) = m ((c.tc : Thread Cert.Ffn1RefIdeal.nD Cert.Ffn1RefIdeal.τ).loc Cert.Ffn1RefIdeal.main_arg6))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1)
      ∧ r.2.mem ((c.tc : Thread Cert.Dh2.nD Cert.Dh2.τ).loc Cert.Dh2.main_arg2) = m ((c.tc : Thread Cert.Dh2.nD Cert.Dh2.τ).loc Cert.Dh2.main_arg2)
      ∧ r.2.mem ((c.tc : Thread Cert.Dh2.nD Cert.Dh2.τ).loc Cert.Dh2.main_arg3) = m ((c.tc : Thread Cert.Dh2.nD Cert.Dh2.τ).loc Cert.Dh2.main_arg3))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
      ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2)
      ∧ r.2.mem ((c.tc : Thread Cert.Dh2Ideal.nD Cert.Dh2Ideal.τ).loc Cert.Dh2Ideal.main_arg3) = m ((c.tc : Thread Cert.Dh2Ideal.nD Cert.Dh2Ideal.τ).loc Cert.Dh2Ideal.main_arg3))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1)
      ∧ r.2.mem ((c.tc : Thread Cert.Dh2RefIdeal.nD Cert.Dh2RefIdeal.τ).loc Cert.Dh2RefIdeal.main_arg2) = m ((c.tc : Thread Cert.Dh2RefIdeal.nD Cert.Dh2RefIdeal.τ).loc Cert.Dh2RefIdeal.main_arg2)
      ∧ r.2.mem ((c.tc : Thread Cert.Dh2RefIdeal.nD Cert.Dh2RefIdeal.τ).loc Cert.Dh2RefIdeal.main_arg3) = m ((c.tc : Thread Cert.Dh2RefIdeal.nD Cert.Dh2RefIdeal.τ).loc Cert.Dh2RefIdeal.main_arg3))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1)
      ∧ r.2.mem ((c.tc : Thread Cert.Dh1.nD Cert.Dh1.τ).loc Cert.Dh1.main_arg2) = m ((c.tc : Thread Cert.Dh1.nD Cert.Dh1.τ).loc Cert.Dh1.main_arg2)
      ∧ r.2.mem ((c.tc : Thread Cert.Dh1.nD Cert.Dh1.τ).loc Cert.Dh1.main_arg3) = m ((c.tc : Thread Cert.Dh1.nD Cert.Dh1.τ).loc Cert.Dh1.main_arg3))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
      ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
      ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3))
      ∧ r.2.sem = fun _ => 0)

def quiescent_Dh1RefIdeal [hDh1RefIdeal : Cert.Dh1RefIdeal.Facts] : Prop :=
  ∀ (m : (ℓ : Loc Cert.Dh1RefIdeal.nD Cert.Dh1RefIdeal.τ Cert.Dh1RefIdeal.sig) → Buf (Elt Ideal) ℓ) (g : Dev Cert.Dh1RefIdeal.nD → PrngReg), Pre_Dh1RefIdeal m →
    θ_run (Cert.Dh1RefIdeal.defs (F := Ideal)) (onTc (τ := Cert.Dh1RefIdeal.τ) (Cert.Dh1RefIdeal.main (F := Ideal))) ⟨m, fun _ => 0, g⟩ (fun r => (∀ c : Dev Cert.Dh1RefIdeal.nD,
      r.2.mem ((c.tc : Thread Cert.Dh1RefIdeal.nD Cert.Dh1RefIdeal.τ).loc Cert.Dh1RefIdeal.main_arg0) = m ((c.tc : Thread Cert.Dh1RefIdeal.nD Cert.Dh1RefIdeal.τ).loc Cert.Dh1RefIdeal.main_arg0)
      ∧ r.2.mem ((c.tc : Thread Cert.Dh1RefIdeal.nD Cert.Dh1RefIdeal.τ).loc Cert.Dh1RefIdeal.main_arg1) = m ((c.tc : Thread Cert.Dh1RefIdeal.nD Cert.Dh1RefIdeal.τ).loc Cert.Dh1RefIdeal.main_arg1)
      ∧ r.2.mem ((c.tc : Thread Cert.Dh1RefIdeal.nD Cert.Dh1RefIdeal.τ).loc Cert.Dh1RefIdeal.main_arg2) = m ((c.tc : Thread Cert.Dh1RefIdeal.nD Cert.Dh1RefIdeal.τ).loc Cert.Dh1RefIdeal.main_arg2)
      ∧ r.2.mem ((c.tc : Thread Cert.Dh1RefIdeal.nD Cert.Dh1RefIdeal.τ).loc Cert.Dh1RefIdeal.main_arg3) = m ((c.tc : Thread Cert.Dh1RefIdeal.nD Cert.Dh1RefIdeal.τ).loc Cert.Dh1RefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_InProjDx [hInProjDx : Cert.InProjDx.Facts] : Prop :=
  ∀ (m : (ℓ : Loc Cert.InProjDx.nD Cert.InProjDx.τ Cert.InProjDx.sig) → Buf (Elt Bits) ℓ) (g : Dev Cert.InProjDx.nD → PrngReg), Pre_InProjDx m →
    θ_run (Cert.InProjDx.defs (F := Bits)) (onTc (τ := Cert.InProjDx.τ) (Cert.InProjDx.main (F := Bits))) ⟨m, fun _ => 0, g⟩ (fun r => (∀ c : Dev Cert.InProjDx.nD,
      r.2.mem ((c.tc : Thread Cert.InProjDx.nD Cert.InProjDx.τ).loc Cert.InProjDx.main_arg0) = m ((c.tc : Thread Cert.InProjDx.nD Cert.InProjDx.τ).loc Cert.InProjDx.main_arg0)
      ∧ r.2.mem ((c.tc : Thread Cert.InProjDx.nD Cert.InProjDx.τ).loc Cert.InProjDx.main_arg1) = m ((c.tc : Thread Cert.InProjDx.nD Cert.InProjDx.τ).loc Cert.InProjDx.main_arg1))
      ∧ r.2.sem = fun _ => 0)

def quiescent_InProjDxIdeal [hInProjDxIdeal : Cert.InProjDxIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg), Pre_InProjDxIdeal m →
    θ_run (Cert.InProjDxIdeal.defs (F := Ideal)) (onTc (τ := Cert.InProjDxIdeal.τ) (Cert.InProjDxIdeal.main (F := Ideal))) ⟨m, fun _ => 0, g⟩ (fun r => (∀ c : Dev Cert.InProjDxIdeal.nD,
      r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
      ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1))
      ∧ r.2.sem = fun _ => 0)

def quiescent_InProjDxRefIdeal [hInProjDxRefIdeal : Cert.InProjDxRefIdeal.Facts] : Prop :=
  ∀ (m : (ℓ : Loc Cert.InProjDxRefIdeal.nD Cert.InProjDxRefIdeal.τ Cert.InProjDxRefIdeal.sig) → Buf (Elt Ideal) ℓ) (g : Dev Cert.InProjDxRefIdeal.nD → PrngReg), Pre_InProjDxRefIdeal m →
    θ_run (Cert.InProjDxRefIdeal.defs (F := Ideal)) (onTc (τ := Cert.InProjDxRefIdeal.τ) (Cert.InProjDxRefIdeal.main (F := Ideal))) ⟨m, fun _ => 0, g⟩ (fun r => (∀ c : Dev Cert.InProjDxRefIdeal.nD,
      r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0)
      ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1))
      ∧ r.2.sem = fun _ => 0)

def quiescent_Update [hUpdate : Cert.Update.Facts] : Prop :=
  ∀ (m : (ℓ : Loc Cert.Update.nD Cert.Update.τ Cert.Update.sig) → Buf (Elt Bits) ℓ) (g : Dev Cert.Update.nD → PrngReg), Pre_Update m →
    θ_run (Cert.Update.defs (F := Bits)) (onTc (τ := Cert.Update.τ) (Cert.Update.main (F := Bits))) ⟨m, fun _ => 0, g⟩ (fun r => (∀ c : Dev Cert.Update.nD,
      r.2.mem ((c.tc : Thread Cert.Update.nD Cert.Update.τ).loc Cert.Update.main_arg0) = m ((c.tc : Thread Cert.Update.nD Cert.Update.τ).loc Cert.Update.main_arg0)
      ∧ r.2.mem ((c.tc : Thread Cert.Update.nD Cert.Update.τ).loc Cert.Update.main_arg1) = m ((c.tc : Thread Cert.Update.nD Cert.Update.τ).loc Cert.Update.main_arg1)
      ∧ r.2.mem ((c.tc : Thread Cert.Update.nD Cert.Update.τ).loc Cert.Update.main_arg2) = m ((c.tc : Thread Cert.Update.nD Cert.Update.τ).loc Cert.Update.main_arg2)
      ∧ r.2.mem ((c.tc : Thread Cert.Update.nD Cert.Update.τ).loc Cert.Update.main_arg3) = m ((c.tc : Thread Cert.Update.nD Cert.Update.τ).loc Cert.Update.main_arg3)
      ∧ r.2.mem ((c.tc : Thread Cert.Update.nD Cert.Update.τ).loc Cert.Update.main_arg4) = m ((c.tc : Thread Cert.Update.nD Cert.Update.τ).loc Cert.Update.main_arg4)
      ∧ r.2.mem ((c.tc : Thread Cert.Update.nD Cert.Update.τ).loc Cert.Update.main_arg5) = m ((c.tc : Thread Cert.Update.nD Cert.Update.τ).loc Cert.Update.main_arg5)
      ∧ r.2.mem ((c.tc : Thread Cert.Update.nD Cert.Update.τ).loc Cert.Update.main_arg6) = m ((c.tc : Thread Cert.Update.nD Cert.Update.τ).loc Cert.Update.main_arg6)
      ∧ r.2.mem ((c.tc : Thread Cert.Update.nD Cert.Update.τ).loc Cert.Update.main_arg7) = m ((c.tc : Thread Cert.Update.nD Cert.Update.τ).loc Cert.Update.main_arg7)
      ∧ r.2.mem ((c.tc : Thread Cert.Update.nD Cert.Update.τ).loc Cert.Update.main_arg8) = m ((c.tc : Thread Cert.Update.nD Cert.Update.τ).loc Cert.Update.main_arg8)
      ∧ r.2.mem ((c.tc : Thread Cert.Update.nD Cert.Update.τ).loc Cert.Update.main_arg9) = m ((c.tc : Thread Cert.Update.nD Cert.Update.τ).loc Cert.Update.main_arg9)
      ∧ r.2.mem ((c.tc : Thread Cert.Update.nD Cert.Update.τ).loc Cert.Update.main_arg10) = m ((c.tc : Thread Cert.Update.nD Cert.Update.τ).loc Cert.Update.main_arg10)
      ∧ r.2.mem ((c.tc : Thread Cert.Update.nD Cert.Update.τ).loc Cert.Update.main_arg11) = m ((c.tc : Thread Cert.Update.nD Cert.Update.τ).loc Cert.Update.main_arg11)
      ∧ r.2.mem ((c.tc : Thread Cert.Update.nD Cert.Update.τ).loc Cert.Update.main_arg12) = m ((c.tc : Thread Cert.Update.nD Cert.Update.τ).loc Cert.Update.main_arg12)
      ∧ r.2.mem ((c.tc : Thread Cert.Update.nD Cert.Update.τ).loc Cert.Update.main_arg13) = m ((c.tc : Thread Cert.Update.nD Cert.Update.τ).loc Cert.Update.main_arg13)
      ∧ r.2.mem ((c.tc : Thread Cert.Update.nD Cert.Update.τ).loc Cert.Update.main_arg14) = m ((c.tc : Thread Cert.Update.nD Cert.Update.τ).loc Cert.Update.main_arg14)
      ∧ r.2.mem ((c.tc : Thread Cert.Update.nD Cert.Update.τ).loc Cert.Update.main_arg15) = m ((c.tc : Thread Cert.Update.nD Cert.Update.τ).loc Cert.Update.main_arg15)
      ∧ r.2.mem ((c.tc : Thread Cert.Update.nD Cert.Update.τ).loc Cert.Update.main_arg16) = m ((c.tc : Thread Cert.Update.nD Cert.Update.τ).loc Cert.Update.main_arg16)
      ∧ r.2.mem ((c.tc : Thread Cert.Update.nD Cert.Update.τ).loc Cert.Update.main_arg17) = m ((c.tc : Thread Cert.Update.nD Cert.Update.τ).loc Cert.Update.main_arg17)
      ∧ r.2.mem ((c.tc : Thread Cert.Update.nD Cert.Update.τ).loc Cert.Update.main_arg18) = m ((c.tc : Thread Cert.Update.nD Cert.Update.τ).loc Cert.Update.main_arg18)
      ∧ r.2.mem ((c.tc : Thread Cert.Update.nD Cert.Update.τ).loc Cert.Update.main_arg19) = m ((c.tc : Thread Cert.Update.nD Cert.Update.τ).loc Cert.Update.main_arg19)
      ∧ r.2.mem ((c.tc : Thread Cert.Update.nD Cert.Update.τ).loc Cert.Update.main_arg20) = m ((c.tc : Thread Cert.Update.nD Cert.Update.τ).loc Cert.Update.main_arg20)
      ∧ r.2.mem ((c.tc : Thread Cert.Update.nD Cert.Update.τ).loc Cert.Update.main_arg21) = m ((c.tc : Thread Cert.Update.nD Cert.Update.τ).loc Cert.Update.main_arg21)
      ∧ r.2.mem ((c.tc : Thread Cert.Update.nD Cert.Update.τ).loc Cert.Update.main_arg22) = m ((c.tc : Thread Cert.Update.nD Cert.Update.τ).loc Cert.Update.main_arg22)
      ∧ r.2.mem ((c.tc : Thread Cert.Update.nD Cert.Update.τ).loc Cert.Update.main_arg23) = m ((c.tc : Thread Cert.Update.nD Cert.Update.τ).loc Cert.Update.main_arg23)
      ∧ r.2.mem ((c.tc : Thread Cert.Update.nD Cert.Update.τ).loc Cert.Update.main_arg24) = m ((c.tc : Thread Cert.Update.nD Cert.Update.τ).loc Cert.Update.main_arg24)
      ∧ r.2.mem ((c.tc : Thread Cert.Update.nD Cert.Update.τ).loc Cert.Update.main_arg25) = m ((c.tc : Thread Cert.Update.nD Cert.Update.τ).loc Cert.Update.main_arg25)
      ∧ r.2.mem ((c.tc : Thread Cert.Update.nD Cert.Update.τ).loc Cert.Update.main_arg26) = m ((c.tc : Thread Cert.Update.nD Cert.Update.τ).loc Cert.Update.main_arg26)
      ∧ r.2.mem ((c.tc : Thread Cert.Update.nD Cert.Update.τ).loc Cert.Update.main_arg27) = m ((c.tc : Thread Cert.Update.nD Cert.Update.τ).loc Cert.Update.main_arg27)
      ∧ r.2.mem ((c.tc : Thread Cert.Update.nD Cert.Update.τ).loc Cert.Update.main_arg28) = m ((c.tc : Thread Cert.Update.nD Cert.Update.τ).loc Cert.Update.main_arg28)
      ∧ r.2.mem ((c.tc : Thread Cert.Update.nD Cert.Update.τ).loc Cert.Update.main_arg29) = m ((c.tc : Thread Cert.Update.nD Cert.Update.τ).loc Cert.Update.main_arg29))
      ∧ r.2.sem = fun _ => 0)

def quiescent_UpdateIdeal [hUpdateIdeal : Cert.UpdateIdeal.Facts] : Prop :=
  ∀ (m : (ℓ : Loc Cert.UpdateIdeal.nD Cert.UpdateIdeal.τ Cert.UpdateIdeal.sig) → Buf (Elt Ideal) ℓ) (g : Dev Cert.UpdateIdeal.nD → PrngReg), Pre_UpdateIdeal m →
    θ_run (Cert.UpdateIdeal.defs (F := Ideal)) (onTc (τ := Cert.UpdateIdeal.τ) (Cert.UpdateIdeal.main (F := Ideal))) ⟨m, fun _ => 0, g⟩ (fun r => (∀ c : Dev Cert.UpdateIdeal.nD,
      r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
      ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
      ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
      ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
      ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4)
      ∧ r.2.mem ((c.tc : Thread Cert.UpdateIdeal.nD Cert.UpdateIdeal.τ).loc Cert.UpdateIdeal.main_arg5) = m ((c.tc : Thread Cert.UpdateIdeal.nD Cert.UpdateIdeal.τ).loc Cert.UpdateIdeal.main_arg5)
      ∧ r.2.mem ((c.tc : Thread Cert.UpdateIdeal.nD Cert.UpdateIdeal.τ).loc Cert.UpdateIdeal.main_arg6) = m ((c.tc : Thread Cert.UpdateIdeal.nD Cert.UpdateIdeal.τ).loc Cert.UpdateIdeal.main_arg6)
      ∧ r.2.mem ((c.tc : Thread Cert.UpdateIdeal.nD Cert.UpdateIdeal.τ).loc Cert.UpdateIdeal.main_arg7) = m ((c.tc : Thread Cert.UpdateIdeal.nD Cert.UpdateIdeal.τ).loc Cert.UpdateIdeal.main_arg7)
      ∧ r.2.mem ((c.tc : Thread Cert.UpdateIdeal.nD Cert.UpdateIdeal.τ).loc Cert.UpdateIdeal.main_arg8) = m ((c.tc : Thread Cert.UpdateIdeal.nD Cert.UpdateIdeal.τ).loc Cert.UpdateIdeal.main_arg8)
      ∧ r.2.mem ((c.tc : Thread Cert.UpdateIdeal.nD Cert.UpdateIdeal.τ).loc Cert.UpdateIdeal.main_arg9) = m ((c.tc : Thread Cert.UpdateIdeal.nD Cert.UpdateIdeal.τ).loc Cert.UpdateIdeal.main_arg9)
      ∧ r.2.mem ((c.tc : Thread Cert.UpdateIdeal.nD Cert.UpdateIdeal.τ).loc Cert.UpdateIdeal.main_arg10) = m ((c.tc : Thread Cert.UpdateIdeal.nD Cert.UpdateIdeal.τ).loc Cert.UpdateIdeal.main_arg10)
      ∧ r.2.mem ((c.tc : Thread Cert.UpdateIdeal.nD Cert.UpdateIdeal.τ).loc Cert.UpdateIdeal.main_arg11) = m ((c.tc : Thread Cert.UpdateIdeal.nD Cert.UpdateIdeal.τ).loc Cert.UpdateIdeal.main_arg11)
      ∧ r.2.mem ((c.tc : Thread Cert.UpdateIdeal.nD Cert.UpdateIdeal.τ).loc Cert.UpdateIdeal.main_arg12) = m ((c.tc : Thread Cert.UpdateIdeal.nD Cert.UpdateIdeal.τ).loc Cert.UpdateIdeal.main_arg12)
      ∧ r.2.mem ((c.tc : Thread Cert.UpdateIdeal.nD Cert.UpdateIdeal.τ).loc Cert.UpdateIdeal.main_arg13) = m ((c.tc : Thread Cert.UpdateIdeal.nD Cert.UpdateIdeal.τ).loc Cert.UpdateIdeal.main_arg13)
      ∧ r.2.mem ((c.tc : Thread Cert.UpdateIdeal.nD Cert.UpdateIdeal.τ).loc Cert.UpdateIdeal.main_arg14) = m ((c.tc : Thread Cert.UpdateIdeal.nD Cert.UpdateIdeal.τ).loc Cert.UpdateIdeal.main_arg14)
      ∧ r.2.mem ((c.tc : Thread Cert.UpdateIdeal.nD Cert.UpdateIdeal.τ).loc Cert.UpdateIdeal.main_arg15) = m ((c.tc : Thread Cert.UpdateIdeal.nD Cert.UpdateIdeal.τ).loc Cert.UpdateIdeal.main_arg15)
      ∧ r.2.mem ((c.tc : Thread Cert.UpdateIdeal.nD Cert.UpdateIdeal.τ).loc Cert.UpdateIdeal.main_arg16) = m ((c.tc : Thread Cert.UpdateIdeal.nD Cert.UpdateIdeal.τ).loc Cert.UpdateIdeal.main_arg16)
      ∧ r.2.mem ((c.tc : Thread Cert.UpdateIdeal.nD Cert.UpdateIdeal.τ).loc Cert.UpdateIdeal.main_arg17) = m ((c.tc : Thread Cert.UpdateIdeal.nD Cert.UpdateIdeal.τ).loc Cert.UpdateIdeal.main_arg17)
      ∧ r.2.mem ((c.tc : Thread Cert.UpdateIdeal.nD Cert.UpdateIdeal.τ).loc Cert.UpdateIdeal.main_arg18) = m ((c.tc : Thread Cert.UpdateIdeal.nD Cert.UpdateIdeal.τ).loc Cert.UpdateIdeal.main_arg18)
      ∧ r.2.mem ((c.tc : Thread Cert.UpdateIdeal.nD Cert.UpdateIdeal.τ).loc Cert.UpdateIdeal.main_arg19) = m ((c.tc : Thread Cert.UpdateIdeal.nD Cert.UpdateIdeal.τ).loc Cert.UpdateIdeal.main_arg19)
      ∧ r.2.mem ((c.tc : Thread Cert.UpdateIdeal.nD Cert.UpdateIdeal.τ).loc Cert.UpdateIdeal.main_arg20) = m ((c.tc : Thread Cert.UpdateIdeal.nD Cert.UpdateIdeal.τ).loc Cert.UpdateIdeal.main_arg20)
      ∧ r.2.mem ((c.tc : Thread Cert.UpdateIdeal.nD Cert.UpdateIdeal.τ).loc Cert.UpdateIdeal.main_arg21) = m ((c.tc : Thread Cert.UpdateIdeal.nD Cert.UpdateIdeal.τ).loc Cert.UpdateIdeal.main_arg21)
      ∧ r.2.mem ((c.tc : Thread Cert.UpdateIdeal.nD Cert.UpdateIdeal.τ).loc Cert.UpdateIdeal.main_arg22) = m ((c.tc : Thread Cert.UpdateIdeal.nD Cert.UpdateIdeal.τ).loc Cert.UpdateIdeal.main_arg22)
      ∧ r.2.mem ((c.tc : Thread Cert.UpdateIdeal.nD Cert.UpdateIdeal.τ).loc Cert.UpdateIdeal.main_arg23) = m ((c.tc : Thread Cert.UpdateIdeal.nD Cert.UpdateIdeal.τ).loc Cert.UpdateIdeal.main_arg23)
      ∧ r.2.mem ((c.tc : Thread Cert.UpdateIdeal.nD Cert.UpdateIdeal.τ).loc Cert.UpdateIdeal.main_arg24) = m ((c.tc : Thread Cert.UpdateIdeal.nD Cert.UpdateIdeal.τ).loc Cert.UpdateIdeal.main_arg24)
      ∧ r.2.mem ((c.tc : Thread Cert.UpdateIdeal.nD Cert.UpdateIdeal.τ).loc Cert.UpdateIdeal.main_arg25) = m ((c.tc : Thread Cert.UpdateIdeal.nD Cert.UpdateIdeal.τ).loc Cert.UpdateIdeal.main_arg25)
      ∧ r.2.mem ((c.tc : Thread Cert.UpdateIdeal.nD Cert.UpdateIdeal.τ).loc Cert.UpdateIdeal.main_arg26) = m ((c.tc : Thread Cert.UpdateIdeal.nD Cert.UpdateIdeal.τ).loc Cert.UpdateIdeal.main_arg26)
      ∧ r.2.mem ((c.tc : Thread Cert.UpdateIdeal.nD Cert.UpdateIdeal.τ).loc Cert.UpdateIdeal.main_arg27) = m ((c.tc : Thread Cert.UpdateIdeal.nD Cert.UpdateIdeal.τ).loc Cert.UpdateIdeal.main_arg27)
      ∧ r.2.mem ((c.tc : Thread Cert.UpdateIdeal.nD Cert.UpdateIdeal.τ).loc Cert.UpdateIdeal.main_arg28) = m ((c.tc : Thread Cert.UpdateIdeal.nD Cert.UpdateIdeal.τ).loc Cert.UpdateIdeal.main_arg28)
      ∧ r.2.mem ((c.tc : Thread Cert.UpdateIdeal.nD Cert.UpdateIdeal.τ).loc Cert.UpdateIdeal.main_arg29) = m ((c.tc : Thread Cert.UpdateIdeal.nD Cert.UpdateIdeal.τ).loc Cert.UpdateIdeal.main_arg29))
      ∧ r.2.sem = fun _ => 0)

def quiescent_UpdateRefIdeal [hUpdateRefIdeal : Cert.UpdateRefIdeal.Facts] : Prop :=
  ∀ (m : (ℓ : Loc Cert.UpdateRefIdeal.nD Cert.UpdateRefIdeal.τ Cert.UpdateRefIdeal.sig) → Buf (Elt Ideal) ℓ) (g : Dev Cert.UpdateRefIdeal.nD → PrngReg), Pre_UpdateRefIdeal m →
    θ_run (Cert.UpdateRefIdeal.defs (F := Ideal)) (onTc (τ := Cert.UpdateRefIdeal.τ) (Cert.UpdateRefIdeal.main (F := Ideal))) ⟨m, fun _ => 0, g⟩ (fun r => (∀ c : Dev Cert.UpdateRefIdeal.nD,
      r.2.mem ((c.tc : Thread Cert.UpdateRefIdeal.nD Cert.UpdateRefIdeal.τ).loc Cert.UpdateRefIdeal.main_arg0) = m ((c.tc : Thread Cert.UpdateRefIdeal.nD Cert.UpdateRefIdeal.τ).loc Cert.UpdateRefIdeal.main_arg0)
      ∧ r.2.mem ((c.tc : Thread Cert.UpdateRefIdeal.nD Cert.UpdateRefIdeal.τ).loc Cert.UpdateRefIdeal.main_arg1) = m ((c.tc : Thread Cert.UpdateRefIdeal.nD Cert.UpdateRefIdeal.τ).loc Cert.UpdateRefIdeal.main_arg1)
      ∧ r.2.mem ((c.tc : Thread Cert.UpdateRefIdeal.nD Cert.UpdateRefIdeal.τ).loc Cert.UpdateRefIdeal.main_arg2) = m ((c.tc : Thread Cert.UpdateRefIdeal.nD Cert.UpdateRefIdeal.τ).loc Cert.UpdateRefIdeal.main_arg2)
      ∧ r.2.mem ((c.tc : Thread Cert.UpdateRefIdeal.nD Cert.UpdateRefIdeal.τ).loc Cert.UpdateRefIdeal.main_arg3) = m ((c.tc : Thread Cert.UpdateRefIdeal.nD Cert.UpdateRefIdeal.τ).loc Cert.UpdateRefIdeal.main_arg3)
      ∧ r.2.mem ((c.tc : Thread Cert.UpdateRefIdeal.nD Cert.UpdateRefIdeal.τ).loc Cert.UpdateRefIdeal.main_arg4) = m ((c.tc : Thread Cert.UpdateRefIdeal.nD Cert.UpdateRefIdeal.τ).loc Cert.UpdateRefIdeal.main_arg4)
      ∧ r.2.mem ((c.tc : Thread Cert.UpdateRefIdeal.nD Cert.UpdateRefIdeal.τ).loc Cert.UpdateRefIdeal.main_arg5) = m ((c.tc : Thread Cert.UpdateRefIdeal.nD Cert.UpdateRefIdeal.τ).loc Cert.UpdateRefIdeal.main_arg5)
      ∧ r.2.mem ((c.tc : Thread Cert.UpdateRefIdeal.nD Cert.UpdateRefIdeal.τ).loc Cert.UpdateRefIdeal.main_arg6) = m ((c.tc : Thread Cert.UpdateRefIdeal.nD Cert.UpdateRefIdeal.τ).loc Cert.UpdateRefIdeal.main_arg6)
      ∧ r.2.mem ((c.tc : Thread Cert.UpdateRefIdeal.nD Cert.UpdateRefIdeal.τ).loc Cert.UpdateRefIdeal.main_arg7) = m ((c.tc : Thread Cert.UpdateRefIdeal.nD Cert.UpdateRefIdeal.τ).loc Cert.UpdateRefIdeal.main_arg7)
      ∧ r.2.mem ((c.tc : Thread Cert.UpdateRefIdeal.nD Cert.UpdateRefIdeal.τ).loc Cert.UpdateRefIdeal.main_arg8) = m ((c.tc : Thread Cert.UpdateRefIdeal.nD Cert.UpdateRefIdeal.τ).loc Cert.UpdateRefIdeal.main_arg8)
      ∧ r.2.mem ((c.tc : Thread Cert.UpdateRefIdeal.nD Cert.UpdateRefIdeal.τ).loc Cert.UpdateRefIdeal.main_arg9) = m ((c.tc : Thread Cert.UpdateRefIdeal.nD Cert.UpdateRefIdeal.τ).loc Cert.UpdateRefIdeal.main_arg9)
      ∧ r.2.mem ((c.tc : Thread Cert.UpdateRefIdeal.nD Cert.UpdateRefIdeal.τ).loc Cert.UpdateRefIdeal.main_arg10) = m ((c.tc : Thread Cert.UpdateRefIdeal.nD Cert.UpdateRefIdeal.τ).loc Cert.UpdateRefIdeal.main_arg10)
      ∧ r.2.mem ((c.tc : Thread Cert.UpdateRefIdeal.nD Cert.UpdateRefIdeal.τ).loc Cert.UpdateRefIdeal.main_arg11) = m ((c.tc : Thread Cert.UpdateRefIdeal.nD Cert.UpdateRefIdeal.τ).loc Cert.UpdateRefIdeal.main_arg11)
      ∧ r.2.mem ((c.tc : Thread Cert.UpdateRefIdeal.nD Cert.UpdateRefIdeal.τ).loc Cert.UpdateRefIdeal.main_arg12) = m ((c.tc : Thread Cert.UpdateRefIdeal.nD Cert.UpdateRefIdeal.τ).loc Cert.UpdateRefIdeal.main_arg12)
      ∧ r.2.mem ((c.tc : Thread Cert.UpdateRefIdeal.nD Cert.UpdateRefIdeal.τ).loc Cert.UpdateRefIdeal.main_arg13) = m ((c.tc : Thread Cert.UpdateRefIdeal.nD Cert.UpdateRefIdeal.τ).loc Cert.UpdateRefIdeal.main_arg13)
      ∧ r.2.mem ((c.tc : Thread Cert.UpdateRefIdeal.nD Cert.UpdateRefIdeal.τ).loc Cert.UpdateRefIdeal.main_arg14) = m ((c.tc : Thread Cert.UpdateRefIdeal.nD Cert.UpdateRefIdeal.τ).loc Cert.UpdateRefIdeal.main_arg14)
      ∧ r.2.mem ((c.tc : Thread Cert.UpdateRefIdeal.nD Cert.UpdateRefIdeal.τ).loc Cert.UpdateRefIdeal.main_arg15) = m ((c.tc : Thread Cert.UpdateRefIdeal.nD Cert.UpdateRefIdeal.τ).loc Cert.UpdateRefIdeal.main_arg15)
      ∧ r.2.mem ((c.tc : Thread Cert.UpdateRefIdeal.nD Cert.UpdateRefIdeal.τ).loc Cert.UpdateRefIdeal.main_arg16) = m ((c.tc : Thread Cert.UpdateRefIdeal.nD Cert.UpdateRefIdeal.τ).loc Cert.UpdateRefIdeal.main_arg16)
      ∧ r.2.mem ((c.tc : Thread Cert.UpdateRefIdeal.nD Cert.UpdateRefIdeal.τ).loc Cert.UpdateRefIdeal.main_arg17) = m ((c.tc : Thread Cert.UpdateRefIdeal.nD Cert.UpdateRefIdeal.τ).loc Cert.UpdateRefIdeal.main_arg17)
      ∧ r.2.mem ((c.tc : Thread Cert.UpdateRefIdeal.nD Cert.UpdateRefIdeal.τ).loc Cert.UpdateRefIdeal.main_arg18) = m ((c.tc : Thread Cert.UpdateRefIdeal.nD Cert.UpdateRefIdeal.τ).loc Cert.UpdateRefIdeal.main_arg18)
      ∧ r.2.mem ((c.tc : Thread Cert.UpdateRefIdeal.nD Cert.UpdateRefIdeal.τ).loc Cert.UpdateRefIdeal.main_arg19) = m ((c.tc : Thread Cert.UpdateRefIdeal.nD Cert.UpdateRefIdeal.τ).loc Cert.UpdateRefIdeal.main_arg19)
      ∧ r.2.mem ((c.tc : Thread Cert.UpdateRefIdeal.nD Cert.UpdateRefIdeal.τ).loc Cert.UpdateRefIdeal.main_arg20) = m ((c.tc : Thread Cert.UpdateRefIdeal.nD Cert.UpdateRefIdeal.τ).loc Cert.UpdateRefIdeal.main_arg20)
      ∧ r.2.mem ((c.tc : Thread Cert.UpdateRefIdeal.nD Cert.UpdateRefIdeal.τ).loc Cert.UpdateRefIdeal.main_arg21) = m ((c.tc : Thread Cert.UpdateRefIdeal.nD Cert.UpdateRefIdeal.τ).loc Cert.UpdateRefIdeal.main_arg21)
      ∧ r.2.mem ((c.tc : Thread Cert.UpdateRefIdeal.nD Cert.UpdateRefIdeal.τ).loc Cert.UpdateRefIdeal.main_arg22) = m ((c.tc : Thread Cert.UpdateRefIdeal.nD Cert.UpdateRefIdeal.τ).loc Cert.UpdateRefIdeal.main_arg22)
      ∧ r.2.mem ((c.tc : Thread Cert.UpdateRefIdeal.nD Cert.UpdateRefIdeal.τ).loc Cert.UpdateRefIdeal.main_arg23) = m ((c.tc : Thread Cert.UpdateRefIdeal.nD Cert.UpdateRefIdeal.τ).loc Cert.UpdateRefIdeal.main_arg23)
      ∧ r.2.mem ((c.tc : Thread Cert.UpdateRefIdeal.nD Cert.UpdateRefIdeal.τ).loc Cert.UpdateRefIdeal.main_arg24) = m ((c.tc : Thread Cert.UpdateRefIdeal.nD Cert.UpdateRefIdeal.τ).loc Cert.UpdateRefIdeal.main_arg24)
      ∧ r.2.mem ((c.tc : Thread Cert.UpdateRefIdeal.nD Cert.UpdateRefIdeal.τ).loc Cert.UpdateRefIdeal.main_arg25) = m ((c.tc : Thread Cert.UpdateRefIdeal.nD Cert.UpdateRefIdeal.τ).loc Cert.UpdateRefIdeal.main_arg25)
      ∧ r.2.mem ((c.tc : Thread Cert.UpdateRefIdeal.nD Cert.UpdateRefIdeal.τ).loc Cert.UpdateRefIdeal.main_arg26) = m ((c.tc : Thread Cert.UpdateRefIdeal.nD Cert.UpdateRefIdeal.τ).loc Cert.UpdateRefIdeal.main_arg26)
      ∧ r.2.mem ((c.tc : Thread Cert.UpdateRefIdeal.nD Cert.UpdateRefIdeal.τ).loc Cert.UpdateRefIdeal.main_arg27) = m ((c.tc : Thread Cert.UpdateRefIdeal.nD Cert.UpdateRefIdeal.τ).loc Cert.UpdateRefIdeal.main_arg27)
      ∧ r.2.mem ((c.tc : Thread Cert.UpdateRefIdeal.nD Cert.UpdateRefIdeal.τ).loc Cert.UpdateRefIdeal.main_arg28) = m ((c.tc : Thread Cert.UpdateRefIdeal.nD Cert.UpdateRefIdeal.τ).loc Cert.UpdateRefIdeal.main_arg28)
      ∧ r.2.mem ((c.tc : Thread Cert.UpdateRefIdeal.nD Cert.UpdateRefIdeal.τ).loc Cert.UpdateRefIdeal.main_arg29) = m ((c.tc : Thread Cert.UpdateRefIdeal.nD Cert.UpdateRefIdeal.τ).loc Cert.UpdateRefIdeal.main_arg29))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0)

def quiescent_MixDy [hMixDy : Cert.MixDy.Facts] : Prop :=
  ∀ (m : (ℓ : Loc Cert.MixDy.nD Cert.MixDy.τ Cert.MixDy.sig) → Buf (Elt Bits) ℓ) (g : Dev Cert.MixDy.nD → PrngReg), Pre_MixDy m →
    θ_run (Cert.MixDy.defs (F := Bits)) (onTc (τ := Cert.MixDy.τ) (Cert.MixDy.main (F := Bits))) ⟨m, fun _ => 0, g⟩ (fun r => (∀ c : Dev Cert.MixDy.nD,
      r.2.mem ((c.tc : Thread Cert.MixDy.nD Cert.MixDy.τ).loc Cert.MixDy.main_arg0) = m ((c.tc : Thread Cert.MixDy.nD Cert.MixDy.τ).loc Cert.MixDy.main_arg0)
      ∧ r.2.mem ((c.tc : Thread Cert.MixDy.nD Cert.MixDy.τ).loc Cert.MixDy.main_arg1) = m ((c.tc : Thread Cert.MixDy.nD Cert.MixDy.τ).loc Cert.MixDy.main_arg1))
      ∧ r.2.sem = fun _ => 0)

def quiescent_MixDyIdeal [hMixDyIdeal : Cert.MixDyIdeal.Facts] : Prop :=
  ∀ (m : (ℓ : Loc Cert.MixDyIdeal.nD Cert.MixDyIdeal.τ Cert.MixDyIdeal.sig) → Buf (Elt Ideal) ℓ) (g : Dev Cert.MixDyIdeal.nD → PrngReg), Pre_MixDyIdeal m →
    θ_run (Cert.MixDyIdeal.defs (F := Ideal)) (onTc (τ := Cert.MixDyIdeal.τ) (Cert.MixDyIdeal.main (F := Ideal))) ⟨m, fun _ => 0, g⟩ (fun r => (∀ c : Dev Cert.MixDyIdeal.nD,
      r.2.mem ((c.tc : Thread Cert.MixDyIdeal.nD Cert.MixDyIdeal.τ).loc Cert.MixDyIdeal.main_arg0) = m ((c.tc : Thread Cert.MixDyIdeal.nD Cert.MixDyIdeal.τ).loc Cert.MixDyIdeal.main_arg0)
      ∧ r.2.mem ((c.tc : Thread Cert.MixDyIdeal.nD Cert.MixDyIdeal.τ).loc Cert.MixDyIdeal.main_arg1) = m ((c.tc : Thread Cert.MixDyIdeal.nD Cert.MixDyIdeal.τ).loc Cert.MixDyIdeal.main_arg1))
      ∧ r.2.sem = fun _ => 0)

def quiescent_MixDyRefIdeal [hMixDyRefIdeal : Cert.MixDyRefIdeal.Facts] : Prop :=
  ∀ (m : (ℓ : Loc Cert.MixDyRefIdeal.nD Cert.MixDyRefIdeal.τ Cert.MixDyRefIdeal.sig) → Buf (Elt Ideal) ℓ) (g : Dev Cert.MixDyRefIdeal.nD → PrngReg), Pre_MixDyRefIdeal m →
    θ_run (Cert.MixDyRefIdeal.defs (F := Ideal)) (onTc (τ := Cert.MixDyRefIdeal.τ) (Cert.MixDyRefIdeal.main (F := Ideal))) ⟨m, fun _ => 0, g⟩ (fun r => (∀ c : Dev Cert.MixDyRefIdeal.nD,
      r.2.mem ((c.tc : Thread Cert.MixDyRefIdeal.nD Cert.MixDyRefIdeal.τ).loc Cert.MixDyRefIdeal.main_arg0) = m ((c.tc : Thread Cert.MixDyRefIdeal.nD Cert.MixDyRefIdeal.τ).loc Cert.MixDyRefIdeal.main_arg0)
      ∧ r.2.mem ((c.tc : Thread Cert.MixDyRefIdeal.nD Cert.MixDyRefIdeal.τ).loc Cert.MixDyRefIdeal.main_arg1) = m ((c.tc : Thread Cert.MixDyRefIdeal.nD Cert.MixDyRefIdeal.τ).loc Cert.MixDyRefIdeal.main_arg1))
      ∧ r.2.sem = fun _ => 0)

def quiescent_UpdSmall [hUpdSmall : Cert.UpdSmall.Facts] : Prop :=
  ∀ (m : (ℓ : Loc Cert.UpdSmall.nD Cert.UpdSmall.τ Cert.UpdSmall.sig) → Buf (Elt Bits) ℓ) (g : Dev Cert.UpdSmall.nD → PrngReg), Pre_UpdSmall m →
    θ_run (Cert.UpdSmall.defs (F := Bits)) (onTc (τ := Cert.UpdSmall.τ) (Cert.UpdSmall.main (F := Bits))) ⟨m, fun _ => 0, g⟩ (fun r => (∀ c : Dev Cert.UpdSmall.nD,
      r.2.mem ((c.tc : Thread Cert.UpdSmall.nD Cert.UpdSmall.τ).loc Cert.UpdSmall.main_arg0) = m ((c.tc : Thread Cert.UpdSmall.nD Cert.UpdSmall.τ).loc Cert.UpdSmall.main_arg0)
      ∧ r.2.mem ((c.tc : Thread Cert.UpdSmall.nD Cert.UpdSmall.τ).loc Cert.UpdSmall.main_arg1) = m ((c.tc : Thread Cert.UpdSmall.nD Cert.UpdSmall.τ).loc Cert.UpdSmall.main_arg1)
      ∧ r.2.mem ((c.tc : Thread Cert.UpdSmall.nD Cert.UpdSmall.τ).loc Cert.UpdSmall.main_arg2) = m ((c.tc : Thread Cert.UpdSmall.nD Cert.UpdSmall.τ).loc Cert.UpdSmall.main_arg2)
      ∧ r.2.mem ((c.tc : Thread Cert.UpdSmall.nD Cert.UpdSmall.τ).loc Cert.UpdSmall.main_arg3) = m ((c.tc : Thread Cert.UpdSmall.nD Cert.UpdSmall.τ).loc Cert.UpdSmall.main_arg3)
      ∧ r.2.mem ((c.tc : Thread Cert.UpdSmall.nD Cert.UpdSmall.τ).loc Cert.UpdSmall.main_arg4) = m ((c.tc : Thread Cert.UpdSmall.nD Cert.UpdSmall.τ).loc Cert.UpdSmall.main_arg4)
      ∧ r.2.mem ((c.tc : Thread Cert.UpdSmall.nD Cert.UpdSmall.τ).loc Cert.UpdSmall.main_arg5) = m ((c.tc : Thread Cert.UpdSmall.nD Cert.UpdSmall.τ).loc Cert.UpdSmall.main_arg5)
      ∧ r.2.mem ((c.tc : Thread Cert.UpdSmall.nD Cert.UpdSmall.τ).loc Cert.UpdSmall.main_arg6) = m ((c.tc : Thread Cert.UpdSmall.nD Cert.UpdSmall.τ).loc Cert.UpdSmall.main_arg6)
      ∧ r.2.mem ((c.tc : Thread Cert.UpdSmall.nD Cert.UpdSmall.τ).loc Cert.UpdSmall.main_arg7) = m ((c.tc : Thread Cert.UpdSmall.nD Cert.UpdSmall.τ).loc Cert.UpdSmall.main_arg7)
      ∧ r.2.mem ((c.tc : Thread Cert.UpdSmall.nD Cert.UpdSmall.τ).loc Cert.UpdSmall.main_arg8) = m ((c.tc : Thread Cert.UpdSmall.nD Cert.UpdSmall.τ).loc Cert.UpdSmall.main_arg8)
      ∧ r.2.mem ((c.tc : Thread Cert.UpdSmall.nD Cert.UpdSmall.τ).loc Cert.UpdSmall.main_arg9) = m ((c.tc : Thread Cert.UpdSmall.nD Cert.UpdSmall.τ).loc Cert.UpdSmall.main_arg9)
      ∧ r.2.mem ((c.tc : Thread Cert.UpdSmall.nD Cert.UpdSmall.τ).loc Cert.UpdSmall.main_arg10) = m ((c.tc : Thread Cert.UpdSmall.nD Cert.UpdSmall.τ).loc Cert.UpdSmall.main_arg10)
      ∧ r.2.mem ((c.tc : Thread Cert.UpdSmall.nD Cert.UpdSmall.τ).loc Cert.UpdSmall.main_arg11) = m ((c.tc : Thread Cert.UpdSmall.nD Cert.UpdSmall.τ).loc Cert.UpdSmall.main_arg11)
      ∧ r.2.mem ((c.tc : Thread Cert.UpdSmall.nD Cert.UpdSmall.τ).loc Cert.UpdSmall.main_arg12) = m ((c.tc : Thread Cert.UpdSmall.nD Cert.UpdSmall.τ).loc Cert.UpdSmall.main_arg12)
      ∧ r.2.mem ((c.tc : Thread Cert.UpdSmall.nD Cert.UpdSmall.τ).loc Cert.UpdSmall.main_arg13) = m ((c.tc : Thread Cert.UpdSmall.nD Cert.UpdSmall.τ).loc Cert.UpdSmall.main_arg13)
      ∧ r.2.mem ((c.tc : Thread Cert.UpdSmall.nD Cert.UpdSmall.τ).loc Cert.UpdSmall.main_arg14) = m ((c.tc : Thread Cert.UpdSmall.nD Cert.UpdSmall.τ).loc Cert.UpdSmall.main_arg14)
      ∧ r.2.mem ((c.tc : Thread Cert.UpdSmall.nD Cert.UpdSmall.τ).loc Cert.UpdSmall.main_arg15) = m ((c.tc : Thread Cert.UpdSmall.nD Cert.UpdSmall.τ).loc Cert.UpdSmall.main_arg15))
      ∧ r.2.sem = fun _ => 0)

def quiescent_UpdSmallIdeal [hUpdSmallIdeal : Cert.UpdSmallIdeal.Facts] : Prop :=
  ∀ (m : (ℓ : Loc Cert.UpdSmallIdeal.nD Cert.UpdSmallIdeal.τ Cert.UpdSmallIdeal.sig) → Buf (Elt Ideal) ℓ) (g : Dev Cert.UpdSmallIdeal.nD → PrngReg), Pre_UpdSmallIdeal m →
    θ_run (Cert.UpdSmallIdeal.defs (F := Ideal)) (onTc (τ := Cert.UpdSmallIdeal.τ) (Cert.UpdSmallIdeal.main (F := Ideal))) ⟨m, fun _ => 0, g⟩ (fun r => (∀ c : Dev Cert.UpdSmallIdeal.nD,
      r.2.mem ((c.tc : Thread Cert.UpdSmallIdeal.nD Cert.UpdSmallIdeal.τ).loc Cert.UpdSmallIdeal.main_arg0) = m ((c.tc : Thread Cert.UpdSmallIdeal.nD Cert.UpdSmallIdeal.τ).loc Cert.UpdSmallIdeal.main_arg0)
      ∧ r.2.mem ((c.tc : Thread Cert.UpdSmallIdeal.nD Cert.UpdSmallIdeal.τ).loc Cert.UpdSmallIdeal.main_arg1) = m ((c.tc : Thread Cert.UpdSmallIdeal.nD Cert.UpdSmallIdeal.τ).loc Cert.UpdSmallIdeal.main_arg1)
      ∧ r.2.mem ((c.tc : Thread Cert.UpdSmallIdeal.nD Cert.UpdSmallIdeal.τ).loc Cert.UpdSmallIdeal.main_arg2) = m ((c.tc : Thread Cert.UpdSmallIdeal.nD Cert.UpdSmallIdeal.τ).loc Cert.UpdSmallIdeal.main_arg2)
      ∧ r.2.mem ((c.tc : Thread Cert.UpdSmallIdeal.nD Cert.UpdSmallIdeal.τ).loc Cert.UpdSmallIdeal.main_arg3) = m ((c.tc : Thread Cert.UpdSmallIdeal.nD Cert.UpdSmallIdeal.τ).loc Cert.UpdSmallIdeal.main_arg3)
      ∧ r.2.mem ((c.tc : Thread Cert.UpdSmallIdeal.nD Cert.UpdSmallIdeal.τ).loc Cert.UpdSmallIdeal.main_arg4) = m ((c.tc : Thread Cert.UpdSmallIdeal.nD Cert.UpdSmallIdeal.τ).loc Cert.UpdSmallIdeal.main_arg4)
      ∧ r.2.mem ((c.tc : Thread Cert.UpdSmallIdeal.nD Cert.UpdSmallIdeal.τ).loc Cert.UpdSmallIdeal.main_arg5) = m ((c.tc : Thread Cert.UpdSmallIdeal.nD Cert.UpdSmallIdeal.τ).loc Cert.UpdSmallIdeal.main_arg5)
      ∧ r.2.mem ((c.tc : Thread Cert.UpdSmallIdeal.nD Cert.UpdSmallIdeal.τ).loc Cert.UpdSmallIdeal.main_arg6) = m ((c.tc : Thread Cert.UpdSmallIdeal.nD Cert.UpdSmallIdeal.τ).loc Cert.UpdSmallIdeal.main_arg6)
      ∧ r.2.mem ((c.tc : Thread Cert.UpdSmallIdeal.nD Cert.UpdSmallIdeal.τ).loc Cert.UpdSmallIdeal.main_arg7) = m ((c.tc : Thread Cert.UpdSmallIdeal.nD Cert.UpdSmallIdeal.τ).loc Cert.UpdSmallIdeal.main_arg7)
      ∧ r.2.mem ((c.tc : Thread Cert.UpdSmallIdeal.nD Cert.UpdSmallIdeal.τ).loc Cert.UpdSmallIdeal.main_arg8) = m ((c.tc : Thread Cert.UpdSmallIdeal.nD Cert.UpdSmallIdeal.τ).loc Cert.UpdSmallIdeal.main_arg8)
      ∧ r.2.mem ((c.tc : Thread Cert.UpdSmallIdeal.nD Cert.UpdSmallIdeal.τ).loc Cert.UpdSmallIdeal.main_arg9) = m ((c.tc : Thread Cert.UpdSmallIdeal.nD Cert.UpdSmallIdeal.τ).loc Cert.UpdSmallIdeal.main_arg9)
      ∧ r.2.mem ((c.tc : Thread Cert.UpdSmallIdeal.nD Cert.UpdSmallIdeal.τ).loc Cert.UpdSmallIdeal.main_arg10) = m ((c.tc : Thread Cert.UpdSmallIdeal.nD Cert.UpdSmallIdeal.τ).loc Cert.UpdSmallIdeal.main_arg10)
      ∧ r.2.mem ((c.tc : Thread Cert.UpdSmallIdeal.nD Cert.UpdSmallIdeal.τ).loc Cert.UpdSmallIdeal.main_arg11) = m ((c.tc : Thread Cert.UpdSmallIdeal.nD Cert.UpdSmallIdeal.τ).loc Cert.UpdSmallIdeal.main_arg11)
      ∧ r.2.mem ((c.tc : Thread Cert.UpdSmallIdeal.nD Cert.UpdSmallIdeal.τ).loc Cert.UpdSmallIdeal.main_arg12) = m ((c.tc : Thread Cert.UpdSmallIdeal.nD Cert.UpdSmallIdeal.τ).loc Cert.UpdSmallIdeal.main_arg12)
      ∧ r.2.mem ((c.tc : Thread Cert.UpdSmallIdeal.nD Cert.UpdSmallIdeal.τ).loc Cert.UpdSmallIdeal.main_arg13) = m ((c.tc : Thread Cert.UpdSmallIdeal.nD Cert.UpdSmallIdeal.τ).loc Cert.UpdSmallIdeal.main_arg13)
      ∧ r.2.mem ((c.tc : Thread Cert.UpdSmallIdeal.nD Cert.UpdSmallIdeal.τ).loc Cert.UpdSmallIdeal.main_arg14) = m ((c.tc : Thread Cert.UpdSmallIdeal.nD Cert.UpdSmallIdeal.τ).loc Cert.UpdSmallIdeal.main_arg14)
      ∧ r.2.mem ((c.tc : Thread Cert.UpdSmallIdeal.nD Cert.UpdSmallIdeal.τ).loc Cert.UpdSmallIdeal.main_arg15) = m ((c.tc : Thread Cert.UpdSmallIdeal.nD Cert.UpdSmallIdeal.τ).loc Cert.UpdSmallIdeal.main_arg15))
      ∧ r.2.sem = fun _ => 0)

def quiescent_UpdSmallRefIdeal [hUpdSmallRefIdeal : Cert.UpdSmallRefIdeal.Facts] : Prop :=
  ∀ (m : (ℓ : Loc Cert.UpdSmallRefIdeal.nD Cert.UpdSmallRefIdeal.τ Cert.UpdSmallRefIdeal.sig) → Buf (Elt Ideal) ℓ) (g : Dev Cert.UpdSmallRefIdeal.nD → PrngReg), Pre_UpdSmallRefIdeal m →
    θ_run (Cert.UpdSmallRefIdeal.defs (F := Ideal)) (onTc (τ := Cert.UpdSmallRefIdeal.τ) (Cert.UpdSmallRefIdeal.main (F := Ideal))) ⟨m, fun _ => 0, g⟩ (fun r => (∀ c : Dev Cert.UpdSmallRefIdeal.nD,
      r.2.mem ((c.tc : Thread Cert.UpdSmallRefIdeal.nD Cert.UpdSmallRefIdeal.τ).loc Cert.UpdSmallRefIdeal.main_arg0) = m ((c.tc : Thread Cert.UpdSmallRefIdeal.nD Cert.UpdSmallRefIdeal.τ).loc Cert.UpdSmallRefIdeal.main_arg0)
      ∧ r.2.mem ((c.tc : Thread Cert.UpdSmallRefIdeal.nD Cert.UpdSmallRefIdeal.τ).loc Cert.UpdSmallRefIdeal.main_arg1) = m ((c.tc : Thread Cert.UpdSmallRefIdeal.nD Cert.UpdSmallRefIdeal.τ).loc Cert.UpdSmallRefIdeal.main_arg1)
      ∧ r.2.mem ((c.tc : Thread Cert.UpdSmallRefIdeal.nD Cert.UpdSmallRefIdeal.τ).loc Cert.UpdSmallRefIdeal.main_arg2) = m ((c.tc : Thread Cert.UpdSmallRefIdeal.nD Cert.UpdSmallRefIdeal.τ).loc Cert.UpdSmallRefIdeal.main_arg2)
      ∧ r.2.mem ((c.tc : Thread Cert.UpdSmallRefIdeal.nD Cert.UpdSmallRefIdeal.τ).loc Cert.UpdSmallRefIdeal.main_arg3) = m ((c.tc : Thread Cert.UpdSmallRefIdeal.nD Cert.UpdSmallRefIdeal.τ).loc Cert.UpdSmallRefIdeal.main_arg3)
      ∧ r.2.mem ((c.tc : Thread Cert.UpdSmallRefIdeal.nD Cert.UpdSmallRefIdeal.τ).loc Cert.UpdSmallRefIdeal.main_arg4) = m ((c.tc : Thread Cert.UpdSmallRefIdeal.nD Cert.UpdSmallRefIdeal.τ).loc Cert.UpdSmallRefIdeal.main_arg4)
      ∧ r.2.mem ((c.tc : Thread Cert.UpdSmallRefIdeal.nD Cert.UpdSmallRefIdeal.τ).loc Cert.UpdSmallRefIdeal.main_arg5) = m ((c.tc : Thread Cert.UpdSmallRefIdeal.nD Cert.UpdSmallRefIdeal.τ).loc Cert.UpdSmallRefIdeal.main_arg5)
      ∧ r.2.mem ((c.tc : Thread Cert.UpdSmallRefIdeal.nD Cert.UpdSmallRefIdeal.τ).loc Cert.UpdSmallRefIdeal.main_arg6) = m ((c.tc : Thread Cert.UpdSmallRefIdeal.nD Cert.UpdSmallRefIdeal.τ).loc Cert.UpdSmallRefIdeal.main_arg6)
      ∧ r.2.mem ((c.tc : Thread Cert.UpdSmallRefIdeal.nD Cert.UpdSmallRefIdeal.τ).loc Cert.UpdSmallRefIdeal.main_arg7) = m ((c.tc : Thread Cert.UpdSmallRefIdeal.nD Cert.UpdSmallRefIdeal.τ).loc Cert.UpdSmallRefIdeal.main_arg7)
      ∧ r.2.mem ((c.tc : Thread Cert.UpdSmallRefIdeal.nD Cert.UpdSmallRefIdeal.τ).loc Cert.UpdSmallRefIdeal.main_arg8) = m ((c.tc : Thread Cert.UpdSmallRefIdeal.nD Cert.UpdSmallRefIdeal.τ).loc Cert.UpdSmallRefIdeal.main_arg8)
      ∧ r.2.mem ((c.tc : Thread Cert.UpdSmallRefIdeal.nD Cert.UpdSmallRefIdeal.τ).loc Cert.UpdSmallRefIdeal.main_arg9) = m ((c.tc : Thread Cert.UpdSmallRefIdeal.nD Cert.UpdSmallRefIdeal.τ).loc Cert.UpdSmallRefIdeal.main_arg9)
      ∧ r.2.mem ((c.tc : Thread Cert.UpdSmallRefIdeal.nD Cert.UpdSmallRefIdeal.τ).loc Cert.UpdSmallRefIdeal.main_arg10) = m ((c.tc : Thread Cert.UpdSmallRefIdeal.nD Cert.UpdSmallRefIdeal.τ).loc Cert.UpdSmallRefIdeal.main_arg10)
      ∧ r.2.mem ((c.tc : Thread Cert.UpdSmallRefIdeal.nD Cert.UpdSmallRefIdeal.τ).loc Cert.UpdSmallRefIdeal.main_arg11) = m ((c.tc : Thread Cert.UpdSmallRefIdeal.nD Cert.UpdSmallRefIdeal.τ).loc Cert.UpdSmallRefIdeal.main_arg11)
      ∧ r.2.mem ((c.tc : Thread Cert.UpdSmallRefIdeal.nD Cert.UpdSmallRefIdeal.τ).loc Cert.UpdSmallRefIdeal.main_arg12) = m ((c.tc : Thread Cert.UpdSmallRefIdeal.nD Cert.UpdSmallRefIdeal.τ).loc Cert.UpdSmallRefIdeal.main_arg12)
      ∧ r.2.mem ((c.tc : Thread Cert.UpdSmallRefIdeal.nD Cert.UpdSmallRefIdeal.τ).loc Cert.UpdSmallRefIdeal.main_arg13) = m ((c.tc : Thread Cert.UpdSmallRefIdeal.nD Cert.UpdSmallRefIdeal.τ).loc Cert.UpdSmallRefIdeal.main_arg13)
      ∧ r.2.mem ((c.tc : Thread Cert.UpdSmallRefIdeal.nD Cert.UpdSmallRefIdeal.τ).loc Cert.UpdSmallRefIdeal.main_arg14) = m ((c.tc : Thread Cert.UpdSmallRefIdeal.nD Cert.UpdSmallRefIdeal.τ).loc Cert.UpdSmallRefIdeal.main_arg14)
      ∧ r.2.mem ((c.tc : Thread Cert.UpdSmallRefIdeal.nD Cert.UpdSmallRefIdeal.τ).loc Cert.UpdSmallRefIdeal.main_arg15) = m ((c.tc : Thread Cert.UpdSmallRefIdeal.nD Cert.UpdSmallRefIdeal.τ).loc Cert.UpdSmallRefIdeal.main_arg15))
      ∧ r.2.sem = fun _ => 0)

def quiescent_UpdMod [hUpdMod : Cert.UpdMod.Facts] : Prop :=
  ∀ (m : (ℓ : Loc Cert.UpdMod.nD Cert.UpdMod.τ Cert.UpdMod.sig) → Buf (Elt Bits) ℓ) (g : Dev Cert.UpdMod.nD → PrngReg), Pre_UpdMod m →
    θ_run (Cert.UpdMod.defs (F := Bits)) (onTc (τ := Cert.UpdMod.τ) (Cert.UpdMod.main (F := Bits))) ⟨m, fun _ => 0, g⟩ (fun r => (∀ c : Dev Cert.UpdMod.nD,
      r.2.mem ((c.tc : Thread Cert.UpdMod.nD Cert.UpdMod.τ).loc Cert.UpdMod.main_arg0) = m ((c.tc : Thread Cert.UpdMod.nD Cert.UpdMod.τ).loc Cert.UpdMod.main_arg0)
      ∧ r.2.mem ((c.tc : Thread Cert.UpdMod.nD Cert.UpdMod.τ).loc Cert.UpdMod.main_arg1) = m ((c.tc : Thread Cert.UpdMod.nD Cert.UpdMod.τ).loc Cert.UpdMod.main_arg1)
      ∧ r.2.mem ((c.tc : Thread Cert.UpdMod.nD Cert.UpdMod.τ).loc Cert.UpdMod.main_arg2) = m ((c.tc : Thread Cert.UpdMod.nD Cert.UpdMod.τ).loc Cert.UpdMod.main_arg2)
      ∧ r.2.mem ((c.tc : Thread Cert.UpdMod.nD Cert.UpdMod.τ).loc Cert.UpdMod.main_arg3) = m ((c.tc : Thread Cert.UpdMod.nD Cert.UpdMod.τ).loc Cert.UpdMod.main_arg3)
      ∧ r.2.mem ((c.tc : Thread Cert.UpdMod.nD Cert.UpdMod.τ).loc Cert.UpdMod.main_arg4) = m ((c.tc : Thread Cert.UpdMod.nD Cert.UpdMod.τ).loc Cert.UpdMod.main_arg4)
      ∧ r.2.mem ((c.tc : Thread Cert.UpdMod.nD Cert.UpdMod.τ).loc Cert.UpdMod.main_arg5) = m ((c.tc : Thread Cert.UpdMod.nD Cert.UpdMod.τ).loc Cert.UpdMod.main_arg5)
      ∧ r.2.mem ((c.tc : Thread Cert.UpdMod.nD Cert.UpdMod.τ).loc Cert.UpdMod.main_arg6) = m ((c.tc : Thread Cert.UpdMod.nD Cert.UpdMod.τ).loc Cert.UpdMod.main_arg6))
      ∧ r.2.sem = fun _ => 0)

def quiescent_UpdModIdeal [hUpdModIdeal : Cert.UpdModIdeal.Facts] : Prop :=
  ∀ (m : (ℓ : Loc Cert.UpdModIdeal.nD Cert.UpdModIdeal.τ Cert.UpdModIdeal.sig) → Buf (Elt Ideal) ℓ) (g : Dev Cert.UpdModIdeal.nD → PrngReg), Pre_UpdModIdeal m →
    θ_run (Cert.UpdModIdeal.defs (F := Ideal)) (onTc (τ := Cert.UpdModIdeal.τ) (Cert.UpdModIdeal.main (F := Ideal))) ⟨m, fun _ => 0, g⟩ (fun r => (∀ c : Dev Cert.UpdModIdeal.nD,
      r.2.mem ((c.tc : Thread Cert.UpdModIdeal.nD Cert.UpdModIdeal.τ).loc Cert.UpdModIdeal.main_arg0) = m ((c.tc : Thread Cert.UpdModIdeal.nD Cert.UpdModIdeal.τ).loc Cert.UpdModIdeal.main_arg0)
      ∧ r.2.mem ((c.tc : Thread Cert.UpdModIdeal.nD Cert.UpdModIdeal.τ).loc Cert.UpdModIdeal.main_arg1) = m ((c.tc : Thread Cert.UpdModIdeal.nD Cert.UpdModIdeal.τ).loc Cert.UpdModIdeal.main_arg1)
      ∧ r.2.mem ((c.tc : Thread Cert.UpdModIdeal.nD Cert.UpdModIdeal.τ).loc Cert.UpdModIdeal.main_arg2) = m ((c.tc : Thread Cert.UpdModIdeal.nD Cert.UpdModIdeal.τ).loc Cert.UpdModIdeal.main_arg2)
      ∧ r.2.mem ((c.tc : Thread Cert.UpdModIdeal.nD Cert.UpdModIdeal.τ).loc Cert.UpdModIdeal.main_arg3) = m ((c.tc : Thread Cert.UpdModIdeal.nD Cert.UpdModIdeal.τ).loc Cert.UpdModIdeal.main_arg3)
      ∧ r.2.mem ((c.tc : Thread Cert.UpdModIdeal.nD Cert.UpdModIdeal.τ).loc Cert.UpdModIdeal.main_arg4) = m ((c.tc : Thread Cert.UpdModIdeal.nD Cert.UpdModIdeal.τ).loc Cert.UpdModIdeal.main_arg4)
      ∧ r.2.mem ((c.tc : Thread Cert.UpdModIdeal.nD Cert.UpdModIdeal.τ).loc Cert.UpdModIdeal.main_arg5) = m ((c.tc : Thread Cert.UpdModIdeal.nD Cert.UpdModIdeal.τ).loc Cert.UpdModIdeal.main_arg5)
      ∧ r.2.mem ((c.tc : Thread Cert.UpdModIdeal.nD Cert.UpdModIdeal.τ).loc Cert.UpdModIdeal.main_arg6) = m ((c.tc : Thread Cert.UpdModIdeal.nD Cert.UpdModIdeal.τ).loc Cert.UpdModIdeal.main_arg6))
      ∧ r.2.sem = fun _ => 0)

def quiescent_UpdModIdeal_pre_finite_mod [hUpdModIdeal : Cert.UpdModIdeal.Facts] [hPre_finite_mod : Cert.Pre_finite_mod.Facts] : Prop :=
  ∀ (m : (ℓ : Loc Cert.UpdModIdeal.nD Cert.UpdModIdeal.τ Cert.UpdModIdeal.sig) → Buf (Elt Ideal) ℓ) (g : Dev Cert.UpdModIdeal.nD → PrngReg), Pre_UpdModIdeal_finite_mod m →
    θ_run (Cert.UpdModIdeal.defs (F := Ideal)) (onTc (τ := Cert.UpdModIdeal.τ) (Cert.UpdModIdeal.main (F := Ideal))) ⟨m, fun _ => 0, g⟩ (fun r => (∀ c : Dev Cert.UpdModIdeal.nD,
      r.2.mem ((c.tc : Thread Cert.UpdModIdeal.nD Cert.UpdModIdeal.τ).loc Cert.UpdModIdeal.main_arg0) = m ((c.tc : Thread Cert.UpdModIdeal.nD Cert.UpdModIdeal.τ).loc Cert.UpdModIdeal.main_arg0)
      ∧ r.2.mem ((c.tc : Thread Cert.UpdModIdeal.nD Cert.UpdModIdeal.τ).loc Cert.UpdModIdeal.main_arg1) = m ((c.tc : Thread Cert.UpdModIdeal.nD Cert.UpdModIdeal.τ).loc Cert.UpdModIdeal.main_arg1)
      ∧ r.2.mem ((c.tc : Thread Cert.UpdModIdeal.nD Cert.UpdModIdeal.τ).loc Cert.UpdModIdeal.main_arg2) = m ((c.tc : Thread Cert.UpdModIdeal.nD Cert.UpdModIdeal.τ).loc Cert.UpdModIdeal.main_arg2)
      ∧ r.2.mem ((c.tc : Thread Cert.UpdModIdeal.nD Cert.UpdModIdeal.τ).loc Cert.UpdModIdeal.main_arg3) = m ((c.tc : Thread Cert.UpdModIdeal.nD Cert.UpdModIdeal.τ).loc Cert.UpdModIdeal.main_arg3)
      ∧ r.2.mem ((c.tc : Thread Cert.UpdModIdeal.nD Cert.UpdModIdeal.τ).loc Cert.UpdModIdeal.main_arg4) = m ((c.tc : Thread Cert.UpdModIdeal.nD Cert.UpdModIdeal.τ).loc Cert.UpdModIdeal.main_arg4)
      ∧ r.2.mem ((c.tc : Thread Cert.UpdModIdeal.nD Cert.UpdModIdeal.τ).loc Cert.UpdModIdeal.main_arg5) = m ((c.tc : Thread Cert.UpdModIdeal.nD Cert.UpdModIdeal.τ).loc Cert.UpdModIdeal.main_arg5)
      ∧ r.2.mem ((c.tc : Thread Cert.UpdModIdeal.nD Cert.UpdModIdeal.τ).loc Cert.UpdModIdeal.main_arg6) = m ((c.tc : Thread Cert.UpdModIdeal.nD Cert.UpdModIdeal.τ).loc Cert.UpdModIdeal.main_arg6))
      ∧ r.2.sem = fun _ => 0)

def quiescent_UpdModRefIdeal [hUpdModRefIdeal : Cert.UpdModRefIdeal.Facts] : Prop :=
  ∀ (m : (ℓ : Loc Cert.UpdModRefIdeal.nD Cert.UpdModRefIdeal.τ Cert.UpdModRefIdeal.sig) → Buf (Elt Ideal) ℓ) (g : Dev Cert.UpdModRefIdeal.nD → PrngReg), Pre_UpdModRefIdeal m →
    θ_run (Cert.UpdModRefIdeal.defs (F := Ideal)) (onTc (τ := Cert.UpdModRefIdeal.τ) (Cert.UpdModRefIdeal.main (F := Ideal))) ⟨m, fun _ => 0, g⟩ (fun r => (∀ c : Dev Cert.UpdModRefIdeal.nD,
      r.2.mem ((c.tc : Thread Cert.UpdModRefIdeal.nD Cert.UpdModRefIdeal.τ).loc Cert.UpdModRefIdeal.main_arg0) = m ((c.tc : Thread Cert.UpdModRefIdeal.nD Cert.UpdModRefIdeal.τ).loc Cert.UpdModRefIdeal.main_arg0)
      ∧ r.2.mem ((c.tc : Thread Cert.UpdModRefIdeal.nD Cert.UpdModRefIdeal.τ).loc Cert.UpdModRefIdeal.main_arg1) = m ((c.tc : Thread Cert.UpdModRefIdeal.nD Cert.UpdModRefIdeal.τ).loc Cert.UpdModRefIdeal.main_arg1)
      ∧ r.2.mem ((c.tc : Thread Cert.UpdModRefIdeal.nD Cert.UpdModRefIdeal.τ).loc Cert.UpdModRefIdeal.main_arg2) = m ((c.tc : Thread Cert.UpdModRefIdeal.nD Cert.UpdModRefIdeal.τ).loc Cert.UpdModRefIdeal.main_arg2)
      ∧ r.2.mem ((c.tc : Thread Cert.UpdModRefIdeal.nD Cert.UpdModRefIdeal.τ).loc Cert.UpdModRefIdeal.main_arg3) = m ((c.tc : Thread Cert.UpdModRefIdeal.nD Cert.UpdModRefIdeal.τ).loc Cert.UpdModRefIdeal.main_arg3)
      ∧ r.2.mem ((c.tc : Thread Cert.UpdModRefIdeal.nD Cert.UpdModRefIdeal.τ).loc Cert.UpdModRefIdeal.main_arg4) = m ((c.tc : Thread Cert.UpdModRefIdeal.nD Cert.UpdModRefIdeal.τ).loc Cert.UpdModRefIdeal.main_arg4)
      ∧ r.2.mem ((c.tc : Thread Cert.UpdModRefIdeal.nD Cert.UpdModRefIdeal.τ).loc Cert.UpdModRefIdeal.main_arg5) = m ((c.tc : Thread Cert.UpdModRefIdeal.nD Cert.UpdModRefIdeal.τ).loc Cert.UpdModRefIdeal.main_arg5)
      ∧ r.2.mem ((c.tc : Thread Cert.UpdModRefIdeal.nD Cert.UpdModRefIdeal.τ).loc Cert.UpdModRefIdeal.main_arg6) = m ((c.tc : Thread Cert.UpdModRefIdeal.nD Cert.UpdModRefIdeal.τ).loc Cert.UpdModRefIdeal.main_arg6))
      ∧ r.2.sem = fun _ => 0)

def quiescent_UpdModRefIdeal_pre_finite_mod [hUpdModRefIdeal : Cert.UpdModRefIdeal.Facts] [hPre_finite_mod : Cert.Pre_finite_mod.Facts] : Prop :=
  ∀ (m : (ℓ : Loc Cert.UpdModRefIdeal.nD Cert.UpdModRefIdeal.τ Cert.UpdModRefIdeal.sig) → Buf (Elt Ideal) ℓ) (g : Dev Cert.UpdModRefIdeal.nD → PrngReg), Pre_UpdModRefIdeal_finite_mod m →
    θ_run (Cert.UpdModRefIdeal.defs (F := Ideal)) (onTc (τ := Cert.UpdModRefIdeal.τ) (Cert.UpdModRefIdeal.main (F := Ideal))) ⟨m, fun _ => 0, g⟩ (fun r => (∀ c : Dev Cert.UpdModRefIdeal.nD,
      r.2.mem ((c.tc : Thread Cert.UpdModRefIdeal.nD Cert.UpdModRefIdeal.τ).loc Cert.UpdModRefIdeal.main_arg0) = m ((c.tc : Thread Cert.UpdModRefIdeal.nD Cert.UpdModRefIdeal.τ).loc Cert.UpdModRefIdeal.main_arg0)
      ∧ r.2.mem ((c.tc : Thread Cert.UpdModRefIdeal.nD Cert.UpdModRefIdeal.τ).loc Cert.UpdModRefIdeal.main_arg1) = m ((c.tc : Thread Cert.UpdModRefIdeal.nD Cert.UpdModRefIdeal.τ).loc Cert.UpdModRefIdeal.main_arg1)
      ∧ r.2.mem ((c.tc : Thread Cert.UpdModRefIdeal.nD Cert.UpdModRefIdeal.τ).loc Cert.UpdModRefIdeal.main_arg2) = m ((c.tc : Thread Cert.UpdModRefIdeal.nD Cert.UpdModRefIdeal.τ).loc Cert.UpdModRefIdeal.main_arg2)
      ∧ r.2.mem ((c.tc : Thread Cert.UpdModRefIdeal.nD Cert.UpdModRefIdeal.τ).loc Cert.UpdModRefIdeal.main_arg3) = m ((c.tc : Thread Cert.UpdModRefIdeal.nD Cert.UpdModRefIdeal.τ).loc Cert.UpdModRefIdeal.main_arg3)
      ∧ r.2.mem ((c.tc : Thread Cert.UpdModRefIdeal.nD Cert.UpdModRefIdeal.τ).loc Cert.UpdModRefIdeal.main_arg4) = m ((c.tc : Thread Cert.UpdModRefIdeal.nD Cert.UpdModRefIdeal.τ).loc Cert.UpdModRefIdeal.main_arg4)
      ∧ r.2.mem ((c.tc : Thread Cert.UpdModRefIdeal.nD Cert.UpdModRefIdeal.τ).loc Cert.UpdModRefIdeal.main_arg5) = m ((c.tc : Thread Cert.UpdModRefIdeal.nD Cert.UpdModRefIdeal.τ).loc Cert.UpdModRefIdeal.main_arg5)
      ∧ r.2.mem ((c.tc : Thread Cert.UpdModRefIdeal.nD Cert.UpdModRefIdeal.τ).loc Cert.UpdModRefIdeal.main_arg6) = m ((c.tc : Thread Cert.UpdModRefIdeal.nD Cert.UpdModRefIdeal.τ).loc Cert.UpdModRefIdeal.main_arg6))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn2_Ffn2Ideal : Prop :=
  True

def algebraic_Ffn2Ideal_Ffn2RefIdeal_pre_finite_ffn2 [hFfn2Ideal : Cert.Ffn2Ideal.Facts] [hFfn2RefIdeal : Cert.Ffn2RefIdeal.Facts] [hPre_finite_ffn2 : Cert.Pre_finite_ffn2.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal_finite_ffn2 m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)
      ∧ m' ((c.tc : Thread Cert.Ffn2RefIdeal.nD Cert.Ffn2RefIdeal.τ).loc Cert.Ffn2RefIdeal.main_arg2) = m ((c.tc : Thread Cert.Ffn2Ideal.nD Cert.Ffn2Ideal.τ).loc Cert.Ffn2Ideal.main_arg2)
      ∧ m' ((c.tc : Thread Cert.Ffn2RefIdeal.nD Cert.Ffn2RefIdeal.τ).loc Cert.Ffn2RefIdeal.main_arg3) = m ((c.tc : Thread Cert.Ffn2Ideal.nD Cert.Ffn2Ideal.τ).loc Cert.Ffn2Ideal.main_arg3)
      ∧ m' ((c.tc : Thread Cert.Ffn2RefIdeal.nD Cert.Ffn2RefIdeal.τ).loc Cert.Ffn2RefIdeal.main_arg4) = m ((c.tc : Thread Cert.Ffn2Ideal.nD Cert.Ffn2Ideal.τ).loc Cert.Ffn2Ideal.main_arg4)
      ∧ m' ((c.tc : Thread Cert.Ffn2RefIdeal.nD Cert.Ffn2RefIdeal.τ).loc Cert.Ffn2RefIdeal.main_arg5) = m ((c.tc : Thread Cert.Ffn2Ideal.nD Cert.Ffn2Ideal.τ).loc Cert.Ffn2Ideal.main_arg5)
      ∧ m' ((c.tc : Thread Cert.Ffn2RefIdeal.nD Cert.Ffn2RefIdeal.τ).loc Cert.Ffn2RefIdeal.main_arg6) = m ((c.tc : Thread Cert.Ffn2Ideal.nD Cert.Ffn2Ideal.τ).loc Cert.Ffn2Ideal.main_arg6)) →
    ∃ (v0 : (c : Dev Cert.Ffn2Ideal.nD) → Buf (Elt Ideal) ((c.tc : Thread Cert.Ffn2Ideal.nD Cert.Ffn2Ideal.τ).loc Cert.Ffn2Ideal.main_v1_0)) (v1 : (c : Dev Cert.Ffn2Ideal.nD) → Buf (Elt Ideal) ((c.tc : Thread Cert.Ffn2Ideal.nD Cert.Ffn2Ideal.τ).loc Cert.Ffn2Ideal.main_v1_1)) (v2 : (c : Dev Cert.Ffn2Ideal.nD) → Buf (Elt Ideal) ((c.tc : Thread Cert.Ffn2Ideal.nD Cert.Ffn2Ideal.τ).loc Cert.Ffn2Ideal.main_v4)) (v3 : (c : Dev Cert.Ffn2Ideal.nD) → Buf (Elt Ideal) ((c.tc : Thread Cert.Ffn2Ideal.nD Cert.Ffn2Ideal.τ).loc Cert.Ffn2Ideal.main_v5)) (v4 : (c : Dev Cert.Ffn2Ideal.nD) → Buf (Elt Ideal) ((c.tc : Thread Cert.Ffn2Ideal.nD Cert.Ffn2Ideal.τ).loc Cert.Ffn2Ideal.main_v2)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v1_0) = v0 c
          ∧ r.2.mem ((c.tc : Thread Cert.Ffn2Ideal.nD Cert.Ffn2Ideal.τ).loc Cert.Ffn2Ideal.main_v1_1) = v1 c
          ∧ r.2.mem ((c.tc : Thread Cert.Ffn2Ideal.nD Cert.Ffn2Ideal.τ).loc Cert.Ffn2Ideal.main_v4) = v2 c
          ∧ r.2.mem ((c.tc : Thread Cert.Ffn2Ideal.nD Cert.Ffn2Ideal.τ).loc Cert.Ffn2Ideal.main_v5) = v3 c
          ∧ r.2.mem ((c.tc : Thread Cert.Ffn2Ideal.nD Cert.Ffn2Ideal.τ).loc Cert.Ffn2Ideal.main_v2) = v4 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
          ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5)
          ∧ r.2.mem ((c.tc : Thread Cert.Ffn2Ideal.nD Cert.Ffn2Ideal.τ).loc Cert.Ffn2Ideal.main_arg6) = m ((c.tc : Thread Cert.Ffn2Ideal.nD Cert.Ffn2Ideal.τ).loc Cert.Ffn2Ideal.main_arg6))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v12) = v0 c
          ∧ r.2.mem ((c.tc : Thread Cert.Ffn2RefIdeal.nD Cert.Ffn2RefIdeal.τ).loc Cert.Ffn2RefIdeal.main_v35) = v1 c
          ∧ r.2.mem ((c.tc : Thread Cert.Ffn2RefIdeal.nD Cert.Ffn2RefIdeal.τ).loc Cert.Ffn2RefIdeal.main_v36) = v2 c
          ∧ r.2.mem ((c.tc : Thread Cert.Ffn2RefIdeal.nD Cert.Ffn2RefIdeal.τ).loc Cert.Ffn2RefIdeal.main_v37) = v3 c
          ∧ r.2.mem ((c.tc : Thread Cert.Ffn2RefIdeal.nD Cert.Ffn2RefIdeal.τ).loc Cert.Ffn2RefIdeal.main_v38) = v4 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2)
          ∧ r.2.mem ((c.tc : Thread Cert.Ffn2RefIdeal.nD Cert.Ffn2RefIdeal.τ).loc Cert.Ffn2RefIdeal.main_arg3) = m' ((c.tc : Thread Cert.Ffn2RefIdeal.nD Cert.Ffn2RefIdeal.τ).loc Cert.Ffn2RefIdeal.main_arg3)
          ∧ r.2.mem ((c.tc : Thread Cert.Ffn2RefIdeal.nD Cert.Ffn2RefIdeal.τ).loc Cert.Ffn2RefIdeal.main_arg4) = m' ((c.tc : Thread Cert.Ffn2RefIdeal.nD Cert.Ffn2RefIdeal.τ).loc Cert.Ffn2RefIdeal.main_arg4)
          ∧ r.2.mem ((c.tc : Thread Cert.Ffn2RefIdeal.nD Cert.Ffn2RefIdeal.τ).loc Cert.Ffn2RefIdeal.main_arg5) = m' ((c.tc : Thread Cert.Ffn2RefIdeal.nD Cert.Ffn2RefIdeal.τ).loc Cert.Ffn2RefIdeal.main_arg5)
          ∧ r.2.mem ((c.tc : Thread Cert.Ffn2RefIdeal.nD Cert.Ffn2RefIdeal.τ).loc Cert.Ffn2RefIdeal.main_arg6) = m' ((c.tc : Thread Cert.Ffn2RefIdeal.nD Cert.Ffn2RefIdeal.τ).loc Cert.Ffn2RefIdeal.main_arg6))

def preserves_Ffn1_Ffn1Ideal : Prop :=
  True

def algebraic_Ffn1Ideal_Ffn1RefIdeal_pre_finite_ffn1 [hFfn1Ideal : Cert.Ffn1Ideal.Facts] [hFfn1RefIdeal : Cert.Ffn1RefIdeal.Facts] [hPre_finite_ffn1 : Cert.Pre_finite_ffn1.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal_finite_ffn1 m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)
      ∧ m' ((c.tc : Thread Cert.Ffn1RefIdeal.nD Cert.Ffn1RefIdeal.τ).loc Cert.Ffn1RefIdeal.main_arg4) = m ((c.tc : Thread Cert.Ffn1Ideal.nD Cert.Ffn1Ideal.τ).loc Cert.Ffn1Ideal.main_arg4)
      ∧ m' ((c.tc : Thread Cert.Ffn1RefIdeal.nD Cert.Ffn1RefIdeal.τ).loc Cert.Ffn1RefIdeal.main_arg5) = m ((c.tc : Thread Cert.Ffn1Ideal.nD Cert.Ffn1Ideal.τ).loc Cert.Ffn1Ideal.main_arg5)
      ∧ m' ((c.tc : Thread Cert.Ffn1RefIdeal.nD Cert.Ffn1RefIdeal.τ).loc Cert.Ffn1RefIdeal.main_arg6) = m ((c.tc : Thread Cert.Ffn1Ideal.nD Cert.Ffn1Ideal.τ).loc Cert.Ffn1Ideal.main_arg6)) →
    ∃ (v0 : (c : Dev Cert.Ffn1Ideal.nD) → Buf (Elt Ideal) ((c.tc : Thread Cert.Ffn1Ideal.nD Cert.Ffn1Ideal.τ).loc Cert.Ffn1Ideal.main_v1_0)) (v1 : (c : Dev Cert.Ffn1Ideal.nD) → Buf (Elt Ideal) ((c.tc : Thread Cert.Ffn1Ideal.nD Cert.Ffn1Ideal.τ).loc Cert.Ffn1Ideal.main_v1_1)) (v2 : (c : Dev Cert.Ffn1Ideal.nD) → Buf (Elt Ideal) ((c.tc : Thread Cert.Ffn1Ideal.nD Cert.Ffn1Ideal.τ).loc Cert.Ffn1Ideal.main_v4)) (v3 : (c : Dev Cert.Ffn1Ideal.nD) → Buf (Elt Ideal) ((c.tc : Thread Cert.Ffn1Ideal.nD Cert.Ffn1Ideal.τ).loc Cert.Ffn1Ideal.main_v5)) (v4 : (c : Dev Cert.Ffn1Ideal.nD) → Buf (Elt Ideal) ((c.tc : Thread Cert.Ffn1Ideal.nD Cert.Ffn1Ideal.τ).loc Cert.Ffn1Ideal.main_v2)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v1_0) = v0 c
          ∧ r.2.mem ((c.tc : Thread Cert.Ffn1Ideal.nD Cert.Ffn1Ideal.τ).loc Cert.Ffn1Ideal.main_v1_1) = v1 c
          ∧ r.2.mem ((c.tc : Thread Cert.Ffn1Ideal.nD Cert.Ffn1Ideal.τ).loc Cert.Ffn1Ideal.main_v4) = v2 c
          ∧ r.2.mem ((c.tc : Thread Cert.Ffn1Ideal.nD Cert.Ffn1Ideal.τ).loc Cert.Ffn1Ideal.main_v5) = v3 c
          ∧ r.2.mem ((c.tc : Thread Cert.Ffn1Ideal.nD Cert.Ffn1Ideal.τ).loc Cert.Ffn1Ideal.main_v2) = v4 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
          ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
          ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v12) = v0 c
          ∧ r.2.mem ((c.tc : Thread Cert.Ffn1RefIdeal.nD Cert.Ffn1RefIdeal.τ).loc Cert.Ffn1RefIdeal.main_v41) = v1 c
          ∧ r.2.mem ((c.tc : Thread Cert.Ffn1RefIdeal.nD Cert.Ffn1RefIdeal.τ).loc Cert.Ffn1RefIdeal.main_v42) = v2 c
          ∧ r.2.mem ((c.tc : Thread Cert.Ffn1RefIdeal.nD Cert.Ffn1RefIdeal.τ).loc Cert.Ffn1RefIdeal.main_v43) = v3 c
          ∧ r.2.mem ((c.tc : Thread Cert.Ffn1RefIdeal.nD Cert.Ffn1RefIdeal.τ).loc Cert.Ffn1RefIdeal.main_v44) = v4 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3)
          ∧ r.2.mem ((c.tc : Thread Cert.Ffn1RefIdeal.nD Cert.Ffn1RefIdeal.τ).loc Cert.Ffn1RefIdeal.main_arg4) = m' ((c.tc : Thread Cert.Ffn1RefIdeal.nD Cert.Ffn1RefIdeal.τ).loc Cert.Ffn1RefIdeal.main_arg4)
          ∧ r.2.mem ((c.tc : Thread Cert.Ffn1RefIdeal.nD Cert.Ffn1RefIdeal.τ).loc Cert.Ffn1RefIdeal.main_arg5) = m' ((c.tc : Thread Cert.Ffn1RefIdeal.nD Cert.Ffn1RefIdeal.τ).loc Cert.Ffn1RefIdeal.main_arg5)
          ∧ r.2.mem ((c.tc : Thread Cert.Ffn1RefIdeal.nD Cert.Ffn1RefIdeal.τ).loc Cert.Ffn1RefIdeal.main_arg6) = m' ((c.tc : Thread Cert.Ffn1RefIdeal.nD Cert.Ffn1RefIdeal.τ).loc Cert.Ffn1RefIdeal.main_arg6))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)
      ∧ m' ((c.tc : Thread Cert.Dh2RefIdeal.nD Cert.Dh2RefIdeal.τ).loc Cert.Dh2RefIdeal.main_arg2) = m ((c.tc : Thread Cert.Dh2Ideal.nD Cert.Dh2Ideal.τ).loc Cert.Dh2Ideal.main_arg2)
      ∧ m' ((c.tc : Thread Cert.Dh2RefIdeal.nD Cert.Dh2RefIdeal.τ).loc Cert.Dh2RefIdeal.main_arg3) = m ((c.tc : Thread Cert.Dh2Ideal.nD Cert.Dh2Ideal.τ).loc Cert.Dh2Ideal.main_arg3)) →
    ∃ (v0 : (c : Dev Cert.Dh2Ideal.nD) → Buf (Elt Ideal) ((c.tc : Thread Cert.Dh2Ideal.nD Cert.Dh2Ideal.τ).loc Cert.Dh2Ideal.main_v0)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v0) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
          ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2)
          ∧ r.2.mem ((c.tc : Thread Cert.Dh2Ideal.nD Cert.Dh2Ideal.τ).loc Cert.Dh2Ideal.main_arg3) = m ((c.tc : Thread Cert.Dh2Ideal.nD Cert.Dh2Ideal.τ).loc Cert.Dh2Ideal.main_arg3))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v13) = v0 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1)
          ∧ r.2.mem ((c.tc : Thread Cert.Dh2RefIdeal.nD Cert.Dh2RefIdeal.τ).loc Cert.Dh2RefIdeal.main_arg2) = m' ((c.tc : Thread Cert.Dh2RefIdeal.nD Cert.Dh2RefIdeal.τ).loc Cert.Dh2RefIdeal.main_arg2)
          ∧ r.2.mem ((c.tc : Thread Cert.Dh2RefIdeal.nD Cert.Dh2RefIdeal.τ).loc Cert.Dh2RefIdeal.main_arg3) = m' ((c.tc : Thread Cert.Dh2RefIdeal.nD Cert.Dh2RefIdeal.τ).loc Cert.Dh2RefIdeal.main_arg3))

def preserves_Dh1_Dh1Ideal : Prop :=
  True

def algebraic_Dh1Ideal_Dh1RefIdeal [hDh1Ideal : Cert.Dh1Ideal.Facts] [hDh1RefIdeal : Cert.Dh1RefIdeal.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.Dh1RefIdeal.nD Cert.Dh1RefIdeal.τ Cert.Dh1RefIdeal.sig) → Buf (Elt Ideal) ℓ) (g' : Dev Cert.Dh1RefIdeal.nD → PrngReg), Pre_Dh1Ideal m →
    (∀ c : Dev Cert.Dh1Ideal.nD,
      m' ((c.tc : Thread Cert.Dh1RefIdeal.nD Cert.Dh1RefIdeal.τ).loc Cert.Dh1RefIdeal.main_arg0) = m ((c.tc : Thread Cert.Dh1Ideal.nD Cert.Dh1Ideal.τ).loc Cert.Dh1Ideal.main_arg0)
      ∧ m' ((c.tc : Thread Cert.Dh1RefIdeal.nD Cert.Dh1RefIdeal.τ).loc Cert.Dh1RefIdeal.main_arg1) = m ((c.tc : Thread Cert.Dh1Ideal.nD Cert.Dh1Ideal.τ).loc Cert.Dh1Ideal.main_arg1)
      ∧ m' ((c.tc : Thread Cert.Dh1RefIdeal.nD Cert.Dh1RefIdeal.τ).loc Cert.Dh1RefIdeal.main_arg2) = m ((c.tc : Thread Cert.Dh1Ideal.nD Cert.Dh1Ideal.τ).loc Cert.Dh1Ideal.main_arg2)
      ∧ m' ((c.tc : Thread Cert.Dh1RefIdeal.nD Cert.Dh1RefIdeal.τ).loc Cert.Dh1RefIdeal.main_arg3) = m ((c.tc : Thread Cert.Dh1Ideal.nD Cert.Dh1Ideal.τ).loc Cert.Dh1Ideal.main_arg3)) →
    ∃ (v0 : (c : Dev Cert.Dh1Ideal.nD) → Buf (Elt Ideal) ((c.tc : Thread Cert.Dh1Ideal.nD Cert.Dh1Ideal.τ).loc Cert.Dh1Ideal.main_v0)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v0) = v0 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1)
          ∧ r.2.mem ((c.tc : Thread Cert.Dh1Ideal.nD Cert.Dh1Ideal.τ).loc Cert.Dh1Ideal.main_arg2) = m ((c.tc : Thread Cert.Dh1Ideal.nD Cert.Dh1Ideal.τ).loc Cert.Dh1Ideal.main_arg2)
          ∧ r.2.mem ((c.tc : Thread Cert.Dh1Ideal.nD Cert.Dh1Ideal.τ).loc Cert.Dh1Ideal.main_arg3) = m ((c.tc : Thread Cert.Dh1Ideal.nD Cert.Dh1Ideal.τ).loc Cert.Dh1Ideal.main_arg3))
      ∧ θ_run (Cert.Dh1RefIdeal.defs (F := Ideal)) (onTc (τ := Cert.Dh1RefIdeal.τ) (Cert.Dh1RefIdeal.main (F := Ideal))) ⟨m', fun _ => 0, g'⟩ (fun r => ∀ c : Dev Cert.Dh1RefIdeal.nD,
          r.2.mem ((c.tc : Thread Cert.Dh1RefIdeal.nD Cert.Dh1RefIdeal.τ).loc Cert.Dh1RefIdeal.main_v13) = v0 c
          ∧ r.2.mem ((c.tc : Thread Cert.Dh1RefIdeal.nD Cert.Dh1RefIdeal.τ).loc Cert.Dh1RefIdeal.main_arg0) = m' ((c.tc : Thread Cert.Dh1RefIdeal.nD Cert.Dh1RefIdeal.τ).loc Cert.Dh1RefIdeal.main_arg0)
          ∧ r.2.mem ((c.tc : Thread Cert.Dh1RefIdeal.nD Cert.Dh1RefIdeal.τ).loc Cert.Dh1RefIdeal.main_arg1) = m' ((c.tc : Thread Cert.Dh1RefIdeal.nD Cert.Dh1RefIdeal.τ).loc Cert.Dh1RefIdeal.main_arg1)
          ∧ r.2.mem ((c.tc : Thread Cert.Dh1RefIdeal.nD Cert.Dh1RefIdeal.τ).loc Cert.Dh1RefIdeal.main_arg2) = m' ((c.tc : Thread Cert.Dh1RefIdeal.nD Cert.Dh1RefIdeal.τ).loc Cert.Dh1RefIdeal.main_arg2)
          ∧ r.2.mem ((c.tc : Thread Cert.Dh1RefIdeal.nD Cert.Dh1RefIdeal.τ).loc Cert.Dh1RefIdeal.main_arg3) = m' ((c.tc : Thread Cert.Dh1RefIdeal.nD Cert.Dh1RefIdeal.τ).loc Cert.Dh1RefIdeal.main_arg3))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0)) (v1 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_v1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v4) = v0 c
          ∧ r.2.mem ((c.tc : Thread Cert.InProjRefIdeal.nD Cert.InProjRefIdeal.τ).loc Cert.InProjRefIdeal.main_v10) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_InProjDx_InProjDxIdeal : Prop :=
  True

def algebraic_InProjDxIdeal_InProjDxRefIdeal [hInProjDxIdeal : Cert.InProjDxIdeal.Facts] [hInProjDxRefIdeal : Cert.InProjDxRefIdeal.Facts] : Prop :=
  ∀ (m : (ℓ : Loc Cert.InProjDxIdeal.nD Cert.InProjDxIdeal.τ Cert.InProjDxIdeal.sig) → Buf (Elt Ideal) ℓ) (g : Dev Cert.InProjDxIdeal.nD → PrngReg)
    (m' : (ℓ : Loc Cert.InProjDxRefIdeal.nD Cert.InProjDxRefIdeal.τ Cert.InProjDxRefIdeal.sig) → Buf (Elt Ideal) ℓ) (g' : Dev Cert.InProjDxRefIdeal.nD → PrngReg), Pre_InProjDxIdeal m →
    (∀ c : Dev Cert.InProjDxIdeal.nD,
      m' ((c.tc : Thread Cert.InProjDxRefIdeal.nD Cert.InProjDxRefIdeal.τ).loc Cert.InProjDxRefIdeal.main_arg0) = m ((c.tc : Thread Cert.InProjDxIdeal.nD Cert.InProjDxIdeal.τ).loc Cert.InProjDxIdeal.main_arg0)
      ∧ m' ((c.tc : Thread Cert.InProjDxRefIdeal.nD Cert.InProjDxRefIdeal.τ).loc Cert.InProjDxRefIdeal.main_arg1) = m ((c.tc : Thread Cert.InProjDxIdeal.nD Cert.InProjDxIdeal.τ).loc Cert.InProjDxIdeal.main_arg1)) →
    ∃ (v0 : (c : Dev Cert.InProjDxIdeal.nD) → Buf (Elt Ideal) ((c.tc : Thread Cert.InProjDxIdeal.nD Cert.InProjDxIdeal.τ).loc Cert.InProjDxIdeal.main_v0)),
      θ_run (Cert.InProjDxIdeal.defs (F := Ideal)) (onTc (τ := Cert.InProjDxIdeal.τ) (Cert.InProjDxIdeal.main (F := Ideal))) ⟨m, fun _ => 0, g⟩ (fun r => ∀ c : Dev Cert.InProjDxIdeal.nD,
          r.2.mem ((c.tc : Thread Cert.InProjDxIdeal.nD Cert.InProjDxIdeal.τ).loc Cert.InProjDxIdeal.main_v0) = v0 c
          ∧ r.2.mem ((c.tc : Thread Cert.InProjDxIdeal.nD Cert.InProjDxIdeal.τ).loc Cert.InProjDxIdeal.main_arg0) = m ((c.tc : Thread Cert.InProjDxIdeal.nD Cert.InProjDxIdeal.τ).loc Cert.InProjDxIdeal.main_arg0)
          ∧ r.2.mem ((c.tc : Thread Cert.InProjDxIdeal.nD Cert.InProjDxIdeal.τ).loc Cert.InProjDxIdeal.main_arg1) = m ((c.tc : Thread Cert.InProjDxIdeal.nD Cert.InProjDxIdeal.τ).loc Cert.InProjDxIdeal.main_arg1))
      ∧ θ_run (Cert.InProjDxRefIdeal.defs (F := Ideal)) (onTc (τ := Cert.InProjDxRefIdeal.τ) (Cert.InProjDxRefIdeal.main (F := Ideal))) ⟨m', fun _ => 0, g'⟩ (fun r => ∀ c : Dev Cert.InProjDxRefIdeal.nD,
          r.2.mem ((c.tc : Thread Cert.InProjDxRefIdeal.nD Cert.InProjDxRefIdeal.τ).loc Cert.InProjDxRefIdeal.main_v6) = v0 c
          ∧ r.2.mem ((c.tc : Thread Cert.InProjDxRefIdeal.nD Cert.InProjDxRefIdeal.τ).loc Cert.InProjDxRefIdeal.main_arg0) = m' ((c.tc : Thread Cert.InProjDxRefIdeal.nD Cert.InProjDxRefIdeal.τ).loc Cert.InProjDxRefIdeal.main_arg0)
          ∧ r.2.mem ((c.tc : Thread Cert.InProjDxRefIdeal.nD Cert.InProjDxRefIdeal.τ).loc Cert.InProjDxRefIdeal.main_arg1) = m' ((c.tc : Thread Cert.InProjDxRefIdeal.nD Cert.InProjDxRefIdeal.τ).loc Cert.InProjDxRefIdeal.main_arg1))

def preserves_Update_UpdateIdeal : Prop :=
  True

def algebraic_UpdateIdeal_UpdateRefIdeal [hUpdateIdeal : Cert.UpdateIdeal.Facts] [hUpdateRefIdeal : Cert.UpdateRefIdeal.Facts] : Prop :=
  ∀ (m : (ℓ : Loc Cert.UpdateIdeal.nD Cert.UpdateIdeal.τ Cert.UpdateIdeal.sig) → Buf (Elt Ideal) ℓ) (g : Dev Cert.UpdateIdeal.nD → PrngReg)
    (m' : (ℓ : Loc Cert.UpdateRefIdeal.nD Cert.UpdateRefIdeal.τ Cert.UpdateRefIdeal.sig) → Buf (Elt Ideal) ℓ) (g' : Dev Cert.UpdateRefIdeal.nD → PrngReg), Pre_UpdateIdeal m →
    (∀ c : Dev Cert.UpdateIdeal.nD,
      m' ((c.tc : Thread Cert.UpdateRefIdeal.nD Cert.UpdateRefIdeal.τ).loc Cert.UpdateRefIdeal.main_arg0) = m ((c.tc : Thread Cert.UpdateIdeal.nD Cert.UpdateIdeal.τ).loc Cert.UpdateIdeal.main_arg0)
      ∧ m' ((c.tc : Thread Cert.UpdateRefIdeal.nD Cert.UpdateRefIdeal.τ).loc Cert.UpdateRefIdeal.main_arg1) = m ((c.tc : Thread Cert.UpdateIdeal.nD Cert.UpdateIdeal.τ).loc Cert.UpdateIdeal.main_arg1)
      ∧ m' ((c.tc : Thread Cert.UpdateRefIdeal.nD Cert.UpdateRefIdeal.τ).loc Cert.UpdateRefIdeal.main_arg2) = m ((c.tc : Thread Cert.UpdateIdeal.nD Cert.UpdateIdeal.τ).loc Cert.UpdateIdeal.main_arg2)
      ∧ m' ((c.tc : Thread Cert.UpdateRefIdeal.nD Cert.UpdateRefIdeal.τ).loc Cert.UpdateRefIdeal.main_arg3) = m ((c.tc : Thread Cert.UpdateIdeal.nD Cert.UpdateIdeal.τ).loc Cert.UpdateIdeal.main_arg3)
      ∧ m' ((c.tc : Thread Cert.UpdateRefIdeal.nD Cert.UpdateRefIdeal.τ).loc Cert.UpdateRefIdeal.main_arg4) = m ((c.tc : Thread Cert.UpdateIdeal.nD Cert.UpdateIdeal.τ).loc Cert.UpdateIdeal.main_arg4)
      ∧ m' ((c.tc : Thread Cert.UpdateRefIdeal.nD Cert.UpdateRefIdeal.τ).loc Cert.UpdateRefIdeal.main_arg5) = m ((c.tc : Thread Cert.UpdateIdeal.nD Cert.UpdateIdeal.τ).loc Cert.UpdateIdeal.main_arg5)
      ∧ m' ((c.tc : Thread Cert.UpdateRefIdeal.nD Cert.UpdateRefIdeal.τ).loc Cert.UpdateRefIdeal.main_arg6) = m ((c.tc : Thread Cert.UpdateIdeal.nD Cert.UpdateIdeal.τ).loc Cert.UpdateIdeal.main_arg6)
      ∧ m' ((c.tc : Thread Cert.UpdateRefIdeal.nD Cert.UpdateRefIdeal.τ).loc Cert.UpdateRefIdeal.main_arg7) = m ((c.tc : Thread Cert.UpdateIdeal.nD Cert.UpdateIdeal.τ).loc Cert.UpdateIdeal.main_arg7)
      ∧ m' ((c.tc : Thread Cert.UpdateRefIdeal.nD Cert.UpdateRefIdeal.τ).loc Cert.UpdateRefIdeal.main_arg8) = m ((c.tc : Thread Cert.UpdateIdeal.nD Cert.UpdateIdeal.τ).loc Cert.UpdateIdeal.main_arg8)
      ∧ m' ((c.tc : Thread Cert.UpdateRefIdeal.nD Cert.UpdateRefIdeal.τ).loc Cert.UpdateRefIdeal.main_arg9) = m ((c.tc : Thread Cert.UpdateIdeal.nD Cert.UpdateIdeal.τ).loc Cert.UpdateIdeal.main_arg9)
      ∧ m' ((c.tc : Thread Cert.UpdateRefIdeal.nD Cert.UpdateRefIdeal.τ).loc Cert.UpdateRefIdeal.main_arg10) = m ((c.tc : Thread Cert.UpdateIdeal.nD Cert.UpdateIdeal.τ).loc Cert.UpdateIdeal.main_arg10)
      ∧ m' ((c.tc : Thread Cert.UpdateRefIdeal.nD Cert.UpdateRefIdeal.τ).loc Cert.UpdateRefIdeal.main_arg11) = m ((c.tc : Thread Cert.UpdateIdeal.nD Cert.UpdateIdeal.τ).loc Cert.UpdateIdeal.main_arg11)
      ∧ m' ((c.tc : Thread Cert.UpdateRefIdeal.nD Cert.UpdateRefIdeal.τ).loc Cert.UpdateRefIdeal.main_arg12) = m ((c.tc : Thread Cert.UpdateIdeal.nD Cert.UpdateIdeal.τ).loc Cert.UpdateIdeal.main_arg12)
      ∧ m' ((c.tc : Thread Cert.UpdateRefIdeal.nD Cert.UpdateRefIdeal.τ).loc Cert.UpdateRefIdeal.main_arg13) = m ((c.tc : Thread Cert.UpdateIdeal.nD Cert.UpdateIdeal.τ).loc Cert.UpdateIdeal.main_arg13)
      ∧ m' ((c.tc : Thread Cert.UpdateRefIdeal.nD Cert.UpdateRefIdeal.τ).loc Cert.UpdateRefIdeal.main_arg14) = m ((c.tc : Thread Cert.UpdateIdeal.nD Cert.UpdateIdeal.τ).loc Cert.UpdateIdeal.main_arg14)
      ∧ m' ((c.tc : Thread Cert.UpdateRefIdeal.nD Cert.UpdateRefIdeal.τ).loc Cert.UpdateRefIdeal.main_arg15) = m ((c.tc : Thread Cert.UpdateIdeal.nD Cert.UpdateIdeal.τ).loc Cert.UpdateIdeal.main_arg15)
      ∧ m' ((c.tc : Thread Cert.UpdateRefIdeal.nD Cert.UpdateRefIdeal.τ).loc Cert.UpdateRefIdeal.main_arg16) = m ((c.tc : Thread Cert.UpdateIdeal.nD Cert.UpdateIdeal.τ).loc Cert.UpdateIdeal.main_arg16)
      ∧ m' ((c.tc : Thread Cert.UpdateRefIdeal.nD Cert.UpdateRefIdeal.τ).loc Cert.UpdateRefIdeal.main_arg17) = m ((c.tc : Thread Cert.UpdateIdeal.nD Cert.UpdateIdeal.τ).loc Cert.UpdateIdeal.main_arg17)
      ∧ m' ((c.tc : Thread Cert.UpdateRefIdeal.nD Cert.UpdateRefIdeal.τ).loc Cert.UpdateRefIdeal.main_arg18) = m ((c.tc : Thread Cert.UpdateIdeal.nD Cert.UpdateIdeal.τ).loc Cert.UpdateIdeal.main_arg18)
      ∧ m' ((c.tc : Thread Cert.UpdateRefIdeal.nD Cert.UpdateRefIdeal.τ).loc Cert.UpdateRefIdeal.main_arg19) = m ((c.tc : Thread Cert.UpdateIdeal.nD Cert.UpdateIdeal.τ).loc Cert.UpdateIdeal.main_arg19)
      ∧ m' ((c.tc : Thread Cert.UpdateRefIdeal.nD Cert.UpdateRefIdeal.τ).loc Cert.UpdateRefIdeal.main_arg20) = m ((c.tc : Thread Cert.UpdateIdeal.nD Cert.UpdateIdeal.τ).loc Cert.UpdateIdeal.main_arg20)
      ∧ m' ((c.tc : Thread Cert.UpdateRefIdeal.nD Cert.UpdateRefIdeal.τ).loc Cert.UpdateRefIdeal.main_arg21) = m ((c.tc : Thread Cert.UpdateIdeal.nD Cert.UpdateIdeal.τ).loc Cert.UpdateIdeal.main_arg21)
      ∧ m' ((c.tc : Thread Cert.UpdateRefIdeal.nD Cert.UpdateRefIdeal.τ).loc Cert.UpdateRefIdeal.main_arg22) = m ((c.tc : Thread Cert.UpdateIdeal.nD Cert.UpdateIdeal.τ).loc Cert.UpdateIdeal.main_arg22)
      ∧ m' ((c.tc : Thread Cert.UpdateRefIdeal.nD Cert.UpdateRefIdeal.τ).loc Cert.UpdateRefIdeal.main_arg23) = m ((c.tc : Thread Cert.UpdateIdeal.nD Cert.UpdateIdeal.τ).loc Cert.UpdateIdeal.main_arg23)
      ∧ m' ((c.tc : Thread Cert.UpdateRefIdeal.nD Cert.UpdateRefIdeal.τ).loc Cert.UpdateRefIdeal.main_arg24) = m ((c.tc : Thread Cert.UpdateIdeal.nD Cert.UpdateIdeal.τ).loc Cert.UpdateIdeal.main_arg24)
      ∧ m' ((c.tc : Thread Cert.UpdateRefIdeal.nD Cert.UpdateRefIdeal.τ).loc Cert.UpdateRefIdeal.main_arg25) = m ((c.tc : Thread Cert.UpdateIdeal.nD Cert.UpdateIdeal.τ).loc Cert.UpdateIdeal.main_arg25)
      ∧ m' ((c.tc : Thread Cert.UpdateRefIdeal.nD Cert.UpdateRefIdeal.τ).loc Cert.UpdateRefIdeal.main_arg26) = m ((c.tc : Thread Cert.UpdateIdeal.nD Cert.UpdateIdeal.τ).loc Cert.UpdateIdeal.main_arg26)
      ∧ m' ((c.tc : Thread Cert.UpdateRefIdeal.nD Cert.UpdateRefIdeal.τ).loc Cert.UpdateRefIdeal.main_arg27) = m ((c.tc : Thread Cert.UpdateIdeal.nD Cert.UpdateIdeal.τ).loc Cert.UpdateIdeal.main_arg27)
      ∧ m' ((c.tc : Thread Cert.UpdateRefIdeal.nD Cert.UpdateRefIdeal.τ).loc Cert.UpdateRefIdeal.main_arg28) = m ((c.tc : Thread Cert.UpdateIdeal.nD Cert.UpdateIdeal.τ).loc Cert.UpdateIdeal.main_arg28)
      ∧ m' ((c.tc : Thread Cert.UpdateRefIdeal.nD Cert.UpdateRefIdeal.τ).loc Cert.UpdateRefIdeal.main_arg29) = m ((c.tc : Thread Cert.UpdateIdeal.nD Cert.UpdateIdeal.τ).loc Cert.UpdateIdeal.main_arg29)) →
    ∃ (v0 : (c : Dev Cert.UpdateIdeal.nD) → Buf (Elt Ideal) ((c.tc : Thread Cert.UpdateIdeal.nD Cert.UpdateIdeal.τ).loc Cert.UpdateIdeal.main_v0_0)) (v1 : (c : Dev Cert.UpdateIdeal.nD) → Buf (Elt Ideal) ((c.tc : Thread Cert.UpdateIdeal.nD Cert.UpdateIdeal.τ).loc Cert.UpdateIdeal.main_v0_1)) (v2 : (c : Dev Cert.UpdateIdeal.nD) → Buf (Elt Ideal) ((c.tc : Thread Cert.UpdateIdeal.nD Cert.UpdateIdeal.τ).loc Cert.UpdateIdeal.main_v0_2)) (v3 : (c : Dev Cert.UpdateIdeal.nD) → Buf (Elt Ideal) ((c.tc : Thread Cert.UpdateIdeal.nD Cert.UpdateIdeal.τ).loc Cert.UpdateIdeal.main_v0_3)) (v4 : (c : Dev Cert.UpdateIdeal.nD) → Buf (Elt Ideal) ((c.tc : Thread Cert.UpdateIdeal.nD Cert.UpdateIdeal.τ).loc Cert.UpdateIdeal.main_v1_0)) (v5 : (c : Dev Cert.UpdateIdeal.nD) → Buf (Elt Ideal) ((c.tc : Thread Cert.UpdateIdeal.nD Cert.UpdateIdeal.τ).loc Cert.UpdateIdeal.main_v1_1)) (v6 : (c : Dev Cert.UpdateIdeal.nD) → Buf (Elt Ideal) ((c.tc : Thread Cert.UpdateIdeal.nD Cert.UpdateIdeal.τ).loc Cert.UpdateIdeal.main_v1_2)) (v7 : (c : Dev Cert.UpdateIdeal.nD) → Buf (Elt Ideal) ((c.tc : Thread Cert.UpdateIdeal.nD Cert.UpdateIdeal.τ).loc Cert.UpdateIdeal.main_v1_3)) (v8 : (c : Dev Cert.UpdateIdeal.nD) → Buf (Elt Ideal) ((c.tc : Thread Cert.UpdateIdeal.nD Cert.UpdateIdeal.τ).loc Cert.UpdateIdeal.main_v2_0)) (v9 : (c : Dev Cert.UpdateIdeal.nD) → Buf (Elt Ideal) ((c.tc : Thread Cert.UpdateIdeal.nD Cert.UpdateIdeal.τ).loc Cert.UpdateIdeal.main_v2_1)) (v10 : (c : Dev Cert.UpdateIdeal.nD) → Buf (Elt Ideal) ((c.tc : Thread Cert.UpdateIdeal.nD Cert.UpdateIdeal.τ).loc Cert.UpdateIdeal.main_v2_2)) (v11 : (c : Dev Cert.UpdateIdeal.nD) → Buf (Elt Ideal) ((c.tc : Thread Cert.UpdateIdeal.nD Cert.UpdateIdeal.τ).loc Cert.UpdateIdeal.main_v2_3)) (v12 : (c : Dev Cert.UpdateIdeal.nD) → Buf (Elt Ideal) ((c.tc : Thread Cert.UpdateIdeal.nD Cert.UpdateIdeal.τ).loc Cert.UpdateIdeal.main_v3_0)) (v13 : (c : Dev Cert.UpdateIdeal.nD) → Buf (Elt Ideal) ((c.tc : Thread Cert.UpdateIdeal.nD Cert.UpdateIdeal.τ).loc Cert.UpdateIdeal.main_v3_1)) (v14 : (c : Dev Cert.UpdateIdeal.nD) → Buf (Elt Ideal) ((c.tc : Thread Cert.UpdateIdeal.nD Cert.UpdateIdeal.τ).loc Cert.UpdateIdeal.main_v3_2)) (v15 : (c : Dev Cert.UpdateIdeal.nD) → Buf (Elt Ideal) ((c.tc : Thread Cert.UpdateIdeal.nD Cert.UpdateIdeal.τ).loc Cert.UpdateIdeal.main_v3_3)) (v16 : (c : Dev Cert.UpdateIdeal.nD) → Buf (Elt Ideal) ((c.tc : Thread Cert.UpdateIdeal.nD Cert.UpdateIdeal.τ).loc Cert.UpdateIdeal.main_v4_0)) (v17 : (c : Dev Cert.UpdateIdeal.nD) → Buf (Elt Ideal) ((c.tc : Thread Cert.UpdateIdeal.nD Cert.UpdateIdeal.τ).loc Cert.UpdateIdeal.main_v4_1)) (v18 : (c : Dev Cert.UpdateIdeal.nD) → Buf (Elt Ideal) ((c.tc : Thread Cert.UpdateIdeal.nD Cert.UpdateIdeal.τ).loc Cert.UpdateIdeal.main_v4_2)) (v19 : (c : Dev Cert.UpdateIdeal.nD) → Buf (Elt Ideal) ((c.tc : Thread Cert.UpdateIdeal.nD Cert.UpdateIdeal.τ).loc Cert.UpdateIdeal.main_v4_3)) (v20 : (c : Dev Cert.UpdateIdeal.nD) → Buf (Elt Ideal) ((c.tc : Thread Cert.UpdateIdeal.nD Cert.UpdateIdeal.τ).loc Cert.UpdateIdeal.main_v5_0)) (v21 : (c : Dev Cert.UpdateIdeal.nD) → Buf (Elt Ideal) ((c.tc : Thread Cert.UpdateIdeal.nD Cert.UpdateIdeal.τ).loc Cert.UpdateIdeal.main_v5_1)) (v22 : (c : Dev Cert.UpdateIdeal.nD) → Buf (Elt Ideal) ((c.tc : Thread Cert.UpdateIdeal.nD Cert.UpdateIdeal.τ).loc Cert.UpdateIdeal.main_v5_2)) (v23 : (c : Dev Cert.UpdateIdeal.nD) → Buf (Elt Ideal) ((c.tc : Thread Cert.UpdateIdeal.nD Cert.UpdateIdeal.τ).loc Cert.UpdateIdeal.main_v5_3)),
      θ_run (Cert.UpdateIdeal.defs (F := Ideal)) (onTc (τ := Cert.UpdateIdeal.τ) (Cert.UpdateIdeal.main (F := Ideal))) ⟨m, fun _ => 0, g⟩ (fun r => ∀ c : Dev Cert.UpdateIdeal.nD,
          r.2.mem ((c.tc : Thread Cert.UpdateIdeal.nD Cert.UpdateIdeal.τ).loc Cert.UpdateIdeal.main_v0_0) = v0 c
          ∧ r.2.mem ((c.tc : Thread Cert.UpdateIdeal.nD Cert.UpdateIdeal.τ).loc Cert.UpdateIdeal.main_v0_1) = v1 c
          ∧ r.2.mem ((c.tc : Thread Cert.UpdateIdeal.nD Cert.UpdateIdeal.τ).loc Cert.UpdateIdeal.main_v0_2) = v2 c
          ∧ r.2.mem ((c.tc : Thread Cert.UpdateIdeal.nD Cert.UpdateIdeal.τ).loc Cert.UpdateIdeal.main_v0_3) = v3 c
          ∧ r.2.mem ((c.tc : Thread Cert.UpdateIdeal.nD Cert.UpdateIdeal.τ).loc Cert.UpdateIdeal.main_v1_0) = v4 c
          ∧ r.2.mem ((c.tc : Thread Cert.UpdateIdeal.nD Cert.UpdateIdeal.τ).loc Cert.UpdateIdeal.main_v1_1) = v5 c
          ∧ r.2.mem ((c.tc : Thread Cert.UpdateIdeal.nD Cert.UpdateIdeal.τ).loc Cert.UpdateIdeal.main_v1_2) = v6 c
          ∧ r.2.mem ((c.tc : Thread Cert.UpdateIdeal.nD Cert.UpdateIdeal.τ).loc Cert.UpdateIdeal.main_v1_3) = v7 c
          ∧ r.2.mem ((c.tc : Thread Cert.UpdateIdeal.nD Cert.UpdateIdeal.τ).loc Cert.UpdateIdeal.main_v2_0) = v8 c
          ∧ r.2.mem ((c.tc : Thread Cert.UpdateIdeal.nD Cert.UpdateIdeal.τ).loc Cert.UpdateIdeal.main_v2_1) = v9 c
          ∧ r.2.mem ((c.tc : Thread Cert.UpdateIdeal.nD Cert.UpdateIdeal.τ).loc Cert.UpdateIdeal.main_v2_2) = v10 c
          ∧ r.2.mem ((c.tc : Thread Cert.UpdateIdeal.nD Cert.UpdateIdeal.τ).loc Cert.UpdateIdeal.main_v2_3) = v11 c
          ∧ r.2.mem ((c.tc : Thread Cert.UpdateIdeal.nD Cert.UpdateIdeal.τ).loc Cert.UpdateIdeal.main_v3_0) = v12 c
          ∧ r.2.mem ((c.tc : Thread Cert.UpdateIdeal.nD Cert.UpdateIdeal.τ).loc Cert.UpdateIdeal.main_v3_1) = v13 c
          ∧ r.2.mem ((c.tc : Thread Cert.UpdateIdeal.nD Cert.UpdateIdeal.τ).loc Cert.UpdateIdeal.main_v3_2) = v14 c
          ∧ r.2.mem ((c.tc : Thread Cert.UpdateIdeal.nD Cert.UpdateIdeal.τ).loc Cert.UpdateIdeal.main_v3_3) = v15 c
          ∧ r.2.mem ((c.tc : Thread Cert.UpdateIdeal.nD Cert.UpdateIdeal.τ).loc Cert.UpdateIdeal.main_v4_0) = v16 c
          ∧ r.2.mem ((c.tc : Thread Cert.UpdateIdeal.nD Cert.UpdateIdeal.τ).loc Cert.UpdateIdeal.main_v4_1) = v17 c
          ∧ r.2.mem ((c.tc : Thread Cert.UpdateIdeal.nD Cert.UpdateIdeal.τ).loc Cert.UpdateIdeal.main_v4_2) = v18 c
          ∧ r.2.mem ((c.tc : Thread Cert.UpdateIdeal.nD Cert.UpdateIdeal.τ).loc Cert.UpdateIdeal.main_v4_3) = v19 c
          ∧ r.2.mem ((c.tc : Thread Cert.UpdateIdeal.nD Cert.UpdateIdeal.τ).loc Cert.UpdateIdeal.main_v5_0) = v20 c
          ∧ r.2.mem ((c.tc : Thread Cert.UpdateIdeal.nD Cert.UpdateIdeal.τ).loc Cert.UpdateIdeal.main_v5_1) = v21 c
          ∧ r.2.mem ((c.tc : Thread Cert.UpdateIdeal.nD Cert.UpdateIdeal.τ).loc Cert.UpdateIdeal.main_v5_2) = v22 c
          ∧ r.2.mem ((c.tc : Thread Cert.UpdateIdeal.nD Cert.UpdateIdeal.τ).loc Cert.UpdateIdeal.main_v5_3) = v23 c
          ∧ r.2.mem ((c.tc : Thread Cert.UpdateIdeal.nD Cert.UpdateIdeal.τ).loc Cert.UpdateIdeal.main_arg0) = m ((c.tc : Thread Cert.UpdateIdeal.nD Cert.UpdateIdeal.τ).loc Cert.UpdateIdeal.main_arg0)
          ∧ r.2.mem ((c.tc : Thread Cert.UpdateIdeal.nD Cert.UpdateIdeal.τ).loc Cert.UpdateIdeal.main_arg1) = m ((c.tc : Thread Cert.UpdateIdeal.nD Cert.UpdateIdeal.τ).loc Cert.UpdateIdeal.main_arg1)
          ∧ r.2.mem ((c.tc : Thread Cert.UpdateIdeal.nD Cert.UpdateIdeal.τ).loc Cert.UpdateIdeal.main_arg2) = m ((c.tc : Thread Cert.UpdateIdeal.nD Cert.UpdateIdeal.τ).loc Cert.UpdateIdeal.main_arg2)
          ∧ r.2.mem ((c.tc : Thread Cert.UpdateIdeal.nD Cert.UpdateIdeal.τ).loc Cert.UpdateIdeal.main_arg3) = m ((c.tc : Thread Cert.UpdateIdeal.nD Cert.UpdateIdeal.τ).loc Cert.UpdateIdeal.main_arg3)
          ∧ r.2.mem ((c.tc : Thread Cert.UpdateIdeal.nD Cert.UpdateIdeal.τ).loc Cert.UpdateIdeal.main_arg4) = m ((c.tc : Thread Cert.UpdateIdeal.nD Cert.UpdateIdeal.τ).loc Cert.UpdateIdeal.main_arg4)
          ∧ r.2.mem ((c.tc : Thread Cert.UpdateIdeal.nD Cert.UpdateIdeal.τ).loc Cert.UpdateIdeal.main_arg5) = m ((c.tc : Thread Cert.UpdateIdeal.nD Cert.UpdateIdeal.τ).loc Cert.UpdateIdeal.main_arg5)
          ∧ r.2.mem ((c.tc : Thread Cert.UpdateIdeal.nD Cert.UpdateIdeal.τ).loc Cert.UpdateIdeal.main_arg6) = m ((c.tc : Thread Cert.UpdateIdeal.nD Cert.UpdateIdeal.τ).loc Cert.UpdateIdeal.main_arg6)
          ∧ r.2.mem ((c.tc : Thread Cert.UpdateIdeal.nD Cert.UpdateIdeal.τ).loc Cert.UpdateIdeal.main_arg7) = m ((c.tc : Thread Cert.UpdateIdeal.nD Cert.UpdateIdeal.τ).loc Cert.UpdateIdeal.main_arg7)
          ∧ r.2.mem ((c.tc : Thread Cert.UpdateIdeal.nD Cert.UpdateIdeal.τ).loc Cert.UpdateIdeal.main_arg8) = m ((c.tc : Thread Cert.UpdateIdeal.nD Cert.UpdateIdeal.τ).loc Cert.UpdateIdeal.main_arg8)
          ∧ r.2.mem ((c.tc : Thread Cert.UpdateIdeal.nD Cert.UpdateIdeal.τ).loc Cert.UpdateIdeal.main_arg9) = m ((c.tc : Thread Cert.UpdateIdeal.nD Cert.UpdateIdeal.τ).loc Cert.UpdateIdeal.main_arg9)
          ∧ r.2.mem ((c.tc : Thread Cert.UpdateIdeal.nD Cert.UpdateIdeal.τ).loc Cert.UpdateIdeal.main_arg10) = m ((c.tc : Thread Cert.UpdateIdeal.nD Cert.UpdateIdeal.τ).loc Cert.UpdateIdeal.main_arg10)
          ∧ r.2.mem ((c.tc : Thread Cert.UpdateIdeal.nD Cert.UpdateIdeal.τ).loc Cert.UpdateIdeal.main_arg11) = m ((c.tc : Thread Cert.UpdateIdeal.nD Cert.UpdateIdeal.τ).loc Cert.UpdateIdeal.main_arg11)
          ∧ r.2.mem ((c.tc : Thread Cert.UpdateIdeal.nD Cert.UpdateIdeal.τ).loc Cert.UpdateIdeal.main_arg12) = m ((c.tc : Thread Cert.UpdateIdeal.nD Cert.UpdateIdeal.τ).loc Cert.UpdateIdeal.main_arg12)
          ∧ r.2.mem ((c.tc : Thread Cert.UpdateIdeal.nD Cert.UpdateIdeal.τ).loc Cert.UpdateIdeal.main_arg13) = m ((c.tc : Thread Cert.UpdateIdeal.nD Cert.UpdateIdeal.τ).loc Cert.UpdateIdeal.main_arg13)
          ∧ r.2.mem ((c.tc : Thread Cert.UpdateIdeal.nD Cert.UpdateIdeal.τ).loc Cert.UpdateIdeal.main_arg14) = m ((c.tc : Thread Cert.UpdateIdeal.nD Cert.UpdateIdeal.τ).loc Cert.UpdateIdeal.main_arg14)
          ∧ r.2.mem ((c.tc : Thread Cert.UpdateIdeal.nD Cert.UpdateIdeal.τ).loc Cert.UpdateIdeal.main_arg15) = m ((c.tc : Thread Cert.UpdateIdeal.nD Cert.UpdateIdeal.τ).loc Cert.UpdateIdeal.main_arg15)
          ∧ r.2.mem ((c.tc : Thread Cert.UpdateIdeal.nD Cert.UpdateIdeal.τ).loc Cert.UpdateIdeal.main_arg16) = m ((c.tc : Thread Cert.UpdateIdeal.nD Cert.UpdateIdeal.τ).loc Cert.UpdateIdeal.main_arg16)
          ∧ r.2.mem ((c.tc : Thread Cert.UpdateIdeal.nD Cert.UpdateIdeal.τ).loc Cert.UpdateIdeal.main_arg17) = m ((c.tc : Thread Cert.UpdateIdeal.nD Cert.UpdateIdeal.τ).loc Cert.UpdateIdeal.main_arg17)
          ∧ r.2.mem ((c.tc : Thread Cert.UpdateIdeal.nD Cert.UpdateIdeal.τ).loc Cert.UpdateIdeal.main_arg18) = m ((c.tc : Thread Cert.UpdateIdeal.nD Cert.UpdateIdeal.τ).loc Cert.UpdateIdeal.main_arg18)
          ∧ r.2.mem ((c.tc : Thread Cert.UpdateIdeal.nD Cert.UpdateIdeal.τ).loc Cert.UpdateIdeal.main_arg19) = m ((c.tc : Thread Cert.UpdateIdeal.nD Cert.UpdateIdeal.τ).loc Cert.UpdateIdeal.main_arg19)
          ∧ r.2.mem ((c.tc : Thread Cert.UpdateIdeal.nD Cert.UpdateIdeal.τ).loc Cert.UpdateIdeal.main_arg20) = m ((c.tc : Thread Cert.UpdateIdeal.nD Cert.UpdateIdeal.τ).loc Cert.UpdateIdeal.main_arg20)
          ∧ r.2.mem ((c.tc : Thread Cert.UpdateIdeal.nD Cert.UpdateIdeal.τ).loc Cert.UpdateIdeal.main_arg21) = m ((c.tc : Thread Cert.UpdateIdeal.nD Cert.UpdateIdeal.τ).loc Cert.UpdateIdeal.main_arg21)
          ∧ r.2.mem ((c.tc : Thread Cert.UpdateIdeal.nD Cert.UpdateIdeal.τ).loc Cert.UpdateIdeal.main_arg22) = m ((c.tc : Thread Cert.UpdateIdeal.nD Cert.UpdateIdeal.τ).loc Cert.UpdateIdeal.main_arg22)
          ∧ r.2.mem ((c.tc : Thread Cert.UpdateIdeal.nD Cert.UpdateIdeal.τ).loc Cert.UpdateIdeal.main_arg23) = m ((c.tc : Thread Cert.UpdateIdeal.nD Cert.UpdateIdeal.τ).loc Cert.UpdateIdeal.main_arg23)
          ∧ r.2.mem ((c.tc : Thread Cert.UpdateIdeal.nD Cert.UpdateIdeal.τ).loc Cert.UpdateIdeal.main_arg24) = m ((c.tc : Thread Cert.UpdateIdeal.nD Cert.UpdateIdeal.τ).loc Cert.UpdateIdeal.main_arg24)
          ∧ r.2.mem ((c.tc : Thread Cert.UpdateIdeal.nD Cert.UpdateIdeal.τ).loc Cert.UpdateIdeal.main_arg25) = m ((c.tc : Thread Cert.UpdateIdeal.nD Cert.UpdateIdeal.τ).loc Cert.UpdateIdeal.main_arg25)
          ∧ r.2.mem ((c.tc : Thread Cert.UpdateIdeal.nD Cert.UpdateIdeal.τ).loc Cert.UpdateIdeal.main_arg26) = m ((c.tc : Thread Cert.UpdateIdeal.nD Cert.UpdateIdeal.τ).loc Cert.UpdateIdeal.main_arg26)
          ∧ r.2.mem ((c.tc : Thread Cert.UpdateIdeal.nD Cert.UpdateIdeal.τ).loc Cert.UpdateIdeal.main_arg27) = m ((c.tc : Thread Cert.UpdateIdeal.nD Cert.UpdateIdeal.τ).loc Cert.UpdateIdeal.main_arg27)
          ∧ r.2.mem ((c.tc : Thread Cert.UpdateIdeal.nD Cert.UpdateIdeal.τ).loc Cert.UpdateIdeal.main_arg28) = m ((c.tc : Thread Cert.UpdateIdeal.nD Cert.UpdateIdeal.τ).loc Cert.UpdateIdeal.main_arg28)
          ∧ r.2.mem ((c.tc : Thread Cert.UpdateIdeal.nD Cert.UpdateIdeal.τ).loc Cert.UpdateIdeal.main_arg29) = m ((c.tc : Thread Cert.UpdateIdeal.nD Cert.UpdateIdeal.τ).loc Cert.UpdateIdeal.main_arg29))
      ∧ θ_run (Cert.UpdateRefIdeal.defs (F := Ideal)) (onTc (τ := Cert.UpdateRefIdeal.τ) (Cert.UpdateRefIdeal.main (F := Ideal))) ⟨m', fun _ => 0, g'⟩ (fun r => ∀ c : Dev Cert.UpdateRefIdeal.nD,
          r.2.mem ((c.tc : Thread Cert.UpdateRefIdeal.nD Cert.UpdateRefIdeal.τ).loc Cert.UpdateRefIdeal.main_v1) = v0 c
          ∧ r.2.mem ((c.tc : Thread Cert.UpdateRefIdeal.nD Cert.UpdateRefIdeal.τ).loc Cert.UpdateRefIdeal.main_v25) = v1 c
          ∧ r.2.mem ((c.tc : Thread Cert.UpdateRefIdeal.nD Cert.UpdateRefIdeal.τ).loc Cert.UpdateRefIdeal.main_v6) = v2 c
          ∧ r.2.mem ((c.tc : Thread Cert.UpdateRefIdeal.nD Cert.UpdateRefIdeal.τ).loc Cert.UpdateRefIdeal.main_v12) = v3 c
          ∧ r.2.mem ((c.tc : Thread Cert.UpdateRefIdeal.nD Cert.UpdateRefIdeal.τ).loc Cert.UpdateRefIdeal.main_v27) = v4 c
          ∧ r.2.mem ((c.tc : Thread Cert.UpdateRefIdeal.nD Cert.UpdateRefIdeal.τ).loc Cert.UpdateRefIdeal.main_v51) = v5 c
          ∧ r.2.mem ((c.tc : Thread Cert.UpdateRefIdeal.nD Cert.UpdateRefIdeal.τ).loc Cert.UpdateRefIdeal.main_v32) = v6 c
          ∧ r.2.mem ((c.tc : Thread Cert.UpdateRefIdeal.nD Cert.UpdateRefIdeal.τ).loc Cert.UpdateRefIdeal.main_v38) = v7 c
          ∧ r.2.mem ((c.tc : Thread Cert.UpdateRefIdeal.nD Cert.UpdateRefIdeal.τ).loc Cert.UpdateRefIdeal.main_v53) = v8 c
          ∧ r.2.mem ((c.tc : Thread Cert.UpdateRefIdeal.nD Cert.UpdateRefIdeal.τ).loc Cert.UpdateRefIdeal.main_v77) = v9 c
          ∧ r.2.mem ((c.tc : Thread Cert.UpdateRefIdeal.nD Cert.UpdateRefIdeal.τ).loc Cert.UpdateRefIdeal.main_v58) = v10 c
          ∧ r.2.mem ((c.tc : Thread Cert.UpdateRefIdeal.nD Cert.UpdateRefIdeal.τ).loc Cert.UpdateRefIdeal.main_v64) = v11 c
          ∧ r.2.mem ((c.tc : Thread Cert.UpdateRefIdeal.nD Cert.UpdateRefIdeal.τ).loc Cert.UpdateRefIdeal.main_v79) = v12 c
          ∧ r.2.mem ((c.tc : Thread Cert.UpdateRefIdeal.nD Cert.UpdateRefIdeal.τ).loc Cert.UpdateRefIdeal.main_v103) = v13 c
          ∧ r.2.mem ((c.tc : Thread Cert.UpdateRefIdeal.nD Cert.UpdateRefIdeal.τ).loc Cert.UpdateRefIdeal.main_v84) = v14 c
          ∧ r.2.mem ((c.tc : Thread Cert.UpdateRefIdeal.nD Cert.UpdateRefIdeal.τ).loc Cert.UpdateRefIdeal.main_v90) = v15 c
          ∧ r.2.mem ((c.tc : Thread Cert.UpdateRefIdeal.nD Cert.UpdateRefIdeal.τ).loc Cert.UpdateRefIdeal.main_v105) = v16 c
          ∧ r.2.mem ((c.tc : Thread Cert.UpdateRefIdeal.nD Cert.UpdateRefIdeal.τ).loc Cert.UpdateRefIdeal.main_v129) = v17 c
          ∧ r.2.mem ((c.tc : Thread Cert.UpdateRefIdeal.nD Cert.UpdateRefIdeal.τ).loc Cert.UpdateRefIdeal.main_v110) = v18 c
          ∧ r.2.mem ((c.tc : Thread Cert.UpdateRefIdeal.nD Cert.UpdateRefIdeal.τ).loc Cert.UpdateRefIdeal.main_v116) = v19 c
          ∧ r.2.mem ((c.tc : Thread Cert.UpdateRefIdeal.nD Cert.UpdateRefIdeal.τ).loc Cert.UpdateRefIdeal.main_v131) = v20 c
          ∧ r.2.mem ((c.tc : Thread Cert.UpdateRefIdeal.nD Cert.UpdateRefIdeal.τ).loc Cert.UpdateRefIdeal.main_v155) = v21 c
          ∧ r.2.mem ((c.tc : Thread Cert.UpdateRefIdeal.nD Cert.UpdateRefIdeal.τ).loc Cert.UpdateRefIdeal.main_v136) = v22 c
          ∧ r.2.mem ((c.tc : Thread Cert.UpdateRefIdeal.nD Cert.UpdateRefIdeal.τ).loc Cert.UpdateRefIdeal.main_v142) = v23 c
          ∧ r.2.mem ((c.tc : Thread Cert.UpdateRefIdeal.nD Cert.UpdateRefIdeal.τ).loc Cert.UpdateRefIdeal.main_arg0) = m' ((c.tc : Thread Cert.UpdateRefIdeal.nD Cert.UpdateRefIdeal.τ).loc Cert.UpdateRefIdeal.main_arg0)
          ∧ r.2.mem ((c.tc : Thread Cert.UpdateRefIdeal.nD Cert.UpdateRefIdeal.τ).loc Cert.UpdateRefIdeal.main_arg1) = m' ((c.tc : Thread Cert.UpdateRefIdeal.nD Cert.UpdateRefIdeal.τ).loc Cert.UpdateRefIdeal.main_arg1)
          ∧ r.2.mem ((c.tc : Thread Cert.UpdateRefIdeal.nD Cert.UpdateRefIdeal.τ).loc Cert.UpdateRefIdeal.main_arg2) = m' ((c.tc : Thread Cert.UpdateRefIdeal.nD Cert.UpdateRefIdeal.τ).loc Cert.UpdateRefIdeal.main_arg2)
          ∧ r.2.mem ((c.tc : Thread Cert.UpdateRefIdeal.nD Cert.UpdateRefIdeal.τ).loc Cert.UpdateRefIdeal.main_arg3) = m' ((c.tc : Thread Cert.UpdateRefIdeal.nD Cert.UpdateRefIdeal.τ).loc Cert.UpdateRefIdeal.main_arg3)
          ∧ r.2.mem ((c.tc : Thread Cert.UpdateRefIdeal.nD Cert.UpdateRefIdeal.τ).loc Cert.UpdateRefIdeal.main_arg4) = m' ((c.tc : Thread Cert.UpdateRefIdeal.nD Cert.UpdateRefIdeal.τ).loc Cert.UpdateRefIdeal.main_arg4)
          ∧ r.2.mem ((c.tc : Thread Cert.UpdateRefIdeal.nD Cert.UpdateRefIdeal.τ).loc Cert.UpdateRefIdeal.main_arg5) = m' ((c.tc : Thread Cert.UpdateRefIdeal.nD Cert.UpdateRefIdeal.τ).loc Cert.UpdateRefIdeal.main_arg5)
          ∧ r.2.mem ((c.tc : Thread Cert.UpdateRefIdeal.nD Cert.UpdateRefIdeal.τ).loc Cert.UpdateRefIdeal.main_arg6) = m' ((c.tc : Thread Cert.UpdateRefIdeal.nD Cert.UpdateRefIdeal.τ).loc Cert.UpdateRefIdeal.main_arg6)
          ∧ r.2.mem ((c.tc : Thread Cert.UpdateRefIdeal.nD Cert.UpdateRefIdeal.τ).loc Cert.UpdateRefIdeal.main_arg7) = m' ((c.tc : Thread Cert.UpdateRefIdeal.nD Cert.UpdateRefIdeal.τ).loc Cert.UpdateRefIdeal.main_arg7)
          ∧ r.2.mem ((c.tc : Thread Cert.UpdateRefIdeal.nD Cert.UpdateRefIdeal.τ).loc Cert.UpdateRefIdeal.main_arg8) = m' ((c.tc : Thread Cert.UpdateRefIdeal.nD Cert.UpdateRefIdeal.τ).loc Cert.UpdateRefIdeal.main_arg8)
          ∧ r.2.mem ((c.tc : Thread Cert.UpdateRefIdeal.nD Cert.UpdateRefIdeal.τ).loc Cert.UpdateRefIdeal.main_arg9) = m' ((c.tc : Thread Cert.UpdateRefIdeal.nD Cert.UpdateRefIdeal.τ).loc Cert.UpdateRefIdeal.main_arg9)
          ∧ r.2.mem ((c.tc : Thread Cert.UpdateRefIdeal.nD Cert.UpdateRefIdeal.τ).loc Cert.UpdateRefIdeal.main_arg10) = m' ((c.tc : Thread Cert.UpdateRefIdeal.nD Cert.UpdateRefIdeal.τ).loc Cert.UpdateRefIdeal.main_arg10)
          ∧ r.2.mem ((c.tc : Thread Cert.UpdateRefIdeal.nD Cert.UpdateRefIdeal.τ).loc Cert.UpdateRefIdeal.main_arg11) = m' ((c.tc : Thread Cert.UpdateRefIdeal.nD Cert.UpdateRefIdeal.τ).loc Cert.UpdateRefIdeal.main_arg11)
          ∧ r.2.mem ((c.tc : Thread Cert.UpdateRefIdeal.nD Cert.UpdateRefIdeal.τ).loc Cert.UpdateRefIdeal.main_arg12) = m' ((c.tc : Thread Cert.UpdateRefIdeal.nD Cert.UpdateRefIdeal.τ).loc Cert.UpdateRefIdeal.main_arg12)
          ∧ r.2.mem ((c.tc : Thread Cert.UpdateRefIdeal.nD Cert.UpdateRefIdeal.τ).loc Cert.UpdateRefIdeal.main_arg13) = m' ((c.tc : Thread Cert.UpdateRefIdeal.nD Cert.UpdateRefIdeal.τ).loc Cert.UpdateRefIdeal.main_arg13)
          ∧ r.2.mem ((c.tc : Thread Cert.UpdateRefIdeal.nD Cert.UpdateRefIdeal.τ).loc Cert.UpdateRefIdeal.main_arg14) = m' ((c.tc : Thread Cert.UpdateRefIdeal.nD Cert.UpdateRefIdeal.τ).loc Cert.UpdateRefIdeal.main_arg14)
          ∧ r.2.mem ((c.tc : Thread Cert.UpdateRefIdeal.nD Cert.UpdateRefIdeal.τ).loc Cert.UpdateRefIdeal.main_arg15) = m' ((c.tc : Thread Cert.UpdateRefIdeal.nD Cert.UpdateRefIdeal.τ).loc Cert.UpdateRefIdeal.main_arg15)
          ∧ r.2.mem ((c.tc : Thread Cert.UpdateRefIdeal.nD Cert.UpdateRefIdeal.τ).loc Cert.UpdateRefIdeal.main_arg16) = m' ((c.tc : Thread Cert.UpdateRefIdeal.nD Cert.UpdateRefIdeal.τ).loc Cert.UpdateRefIdeal.main_arg16)
          ∧ r.2.mem ((c.tc : Thread Cert.UpdateRefIdeal.nD Cert.UpdateRefIdeal.τ).loc Cert.UpdateRefIdeal.main_arg17) = m' ((c.tc : Thread Cert.UpdateRefIdeal.nD Cert.UpdateRefIdeal.τ).loc Cert.UpdateRefIdeal.main_arg17)
          ∧ r.2.mem ((c.tc : Thread Cert.UpdateRefIdeal.nD Cert.UpdateRefIdeal.τ).loc Cert.UpdateRefIdeal.main_arg18) = m' ((c.tc : Thread Cert.UpdateRefIdeal.nD Cert.UpdateRefIdeal.τ).loc Cert.UpdateRefIdeal.main_arg18)
          ∧ r.2.mem ((c.tc : Thread Cert.UpdateRefIdeal.nD Cert.UpdateRefIdeal.τ).loc Cert.UpdateRefIdeal.main_arg19) = m' ((c.tc : Thread Cert.UpdateRefIdeal.nD Cert.UpdateRefIdeal.τ).loc Cert.UpdateRefIdeal.main_arg19)
          ∧ r.2.mem ((c.tc : Thread Cert.UpdateRefIdeal.nD Cert.UpdateRefIdeal.τ).loc Cert.UpdateRefIdeal.main_arg20) = m' ((c.tc : Thread Cert.UpdateRefIdeal.nD Cert.UpdateRefIdeal.τ).loc Cert.UpdateRefIdeal.main_arg20)
          ∧ r.2.mem ((c.tc : Thread Cert.UpdateRefIdeal.nD Cert.UpdateRefIdeal.τ).loc Cert.UpdateRefIdeal.main_arg21) = m' ((c.tc : Thread Cert.UpdateRefIdeal.nD Cert.UpdateRefIdeal.τ).loc Cert.UpdateRefIdeal.main_arg21)
          ∧ r.2.mem ((c.tc : Thread Cert.UpdateRefIdeal.nD Cert.UpdateRefIdeal.τ).loc Cert.UpdateRefIdeal.main_arg22) = m' ((c.tc : Thread Cert.UpdateRefIdeal.nD Cert.UpdateRefIdeal.τ).loc Cert.UpdateRefIdeal.main_arg22)
          ∧ r.2.mem ((c.tc : Thread Cert.UpdateRefIdeal.nD Cert.UpdateRefIdeal.τ).loc Cert.UpdateRefIdeal.main_arg23) = m' ((c.tc : Thread Cert.UpdateRefIdeal.nD Cert.UpdateRefIdeal.τ).loc Cert.UpdateRefIdeal.main_arg23)
          ∧ r.2.mem ((c.tc : Thread Cert.UpdateRefIdeal.nD Cert.UpdateRefIdeal.τ).loc Cert.UpdateRefIdeal.main_arg24) = m' ((c.tc : Thread Cert.UpdateRefIdeal.nD Cert.UpdateRefIdeal.τ).loc Cert.UpdateRefIdeal.main_arg24)
          ∧ r.2.mem ((c.tc : Thread Cert.UpdateRefIdeal.nD Cert.UpdateRefIdeal.τ).loc Cert.UpdateRefIdeal.main_arg25) = m' ((c.tc : Thread Cert.UpdateRefIdeal.nD Cert.UpdateRefIdeal.τ).loc Cert.UpdateRefIdeal.main_arg25)
          ∧ r.2.mem ((c.tc : Thread Cert.UpdateRefIdeal.nD Cert.UpdateRefIdeal.τ).loc Cert.UpdateRefIdeal.main_arg26) = m' ((c.tc : Thread Cert.UpdateRefIdeal.nD Cert.UpdateRefIdeal.τ).loc Cert.UpdateRefIdeal.main_arg26)
          ∧ r.2.mem ((c.tc : Thread Cert.UpdateRefIdeal.nD Cert.UpdateRefIdeal.τ).loc Cert.UpdateRefIdeal.main_arg27) = m' ((c.tc : Thread Cert.UpdateRefIdeal.nD Cert.UpdateRefIdeal.τ).loc Cert.UpdateRefIdeal.main_arg27)
          ∧ r.2.mem ((c.tc : Thread Cert.UpdateRefIdeal.nD Cert.UpdateRefIdeal.τ).loc Cert.UpdateRefIdeal.main_arg28) = m' ((c.tc : Thread Cert.UpdateRefIdeal.nD Cert.UpdateRefIdeal.τ).loc Cert.UpdateRefIdeal.main_arg28)
          ∧ r.2.mem ((c.tc : Thread Cert.UpdateRefIdeal.nD Cert.UpdateRefIdeal.τ).loc Cert.UpdateRefIdeal.main_arg29) = m' ((c.tc : Thread Cert.UpdateRefIdeal.nD Cert.UpdateRefIdeal.τ).loc Cert.UpdateRefIdeal.main_arg29))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)) →
    ∃ (v0 : (c : Dev Cert.MixIdeal.nD) → Buf (Elt Ideal) ((c.tc : Thread Cert.MixIdeal.nD Cert.MixIdeal.τ).loc Cert.MixIdeal.main_v1_0)) (v1 : (c : Dev Cert.MixIdeal.nD) → Buf (Elt Ideal) ((c.tc : Thread Cert.MixIdeal.nD Cert.MixIdeal.τ).loc Cert.MixIdeal.main_v1_1)) (v2 : (c : Dev Cert.MixIdeal.nD) → Buf (Elt Ideal) ((c.tc : Thread Cert.MixIdeal.nD Cert.MixIdeal.τ).loc Cert.MixIdeal.main_v2_2)) (v3 : (c : Dev Cert.MixIdeal.nD) → Buf (Elt Ideal) ((c.tc : Thread Cert.MixIdeal.nD Cert.MixIdeal.τ).loc Cert.MixIdeal.main_v2_3)) (v4 : (c : Dev Cert.MixIdeal.nD) → Buf (Elt Ideal) ((c.tc : Thread Cert.MixIdeal.nD Cert.MixIdeal.τ).loc Cert.MixIdeal.main_v3)) (v5 : (c : Dev Cert.MixIdeal.nD) → Buf (Elt Ideal) ((c.tc : Thread Cert.MixIdeal.nD Cert.MixIdeal.τ).loc Cert.MixIdeal.main_v4)) (v6 : (c : Dev Cert.MixIdeal.nD) → Buf (Elt Ideal) ((c.tc : Thread Cert.MixIdeal.nD Cert.MixIdeal.τ).loc Cert.MixIdeal.main_v5)) (v7 : (c : Dev Cert.MixIdeal.nD) → Buf (Elt Ideal) ((c.tc : Thread Cert.MixIdeal.nD Cert.MixIdeal.τ).loc Cert.MixIdeal.main_v6)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v1_0) = v0 c
          ∧ r.2.mem ((c.tc : Thread Cert.MixIdeal.nD Cert.MixIdeal.τ).loc Cert.MixIdeal.main_v1_1) = v1 c
          ∧ r.2.mem ((c.tc : Thread Cert.MixIdeal.nD Cert.MixIdeal.τ).loc Cert.MixIdeal.main_v2_2) = v2 c
          ∧ r.2.mem ((c.tc : Thread Cert.MixIdeal.nD Cert.MixIdeal.τ).loc Cert.MixIdeal.main_v2_3) = v3 c
          ∧ r.2.mem ((c.tc : Thread Cert.MixIdeal.nD Cert.MixIdeal.τ).loc Cert.MixIdeal.main_v3) = v4 c
          ∧ r.2.mem ((c.tc : Thread Cert.MixIdeal.nD Cert.MixIdeal.τ).loc Cert.MixIdeal.main_v4) = v5 c
          ∧ r.2.mem ((c.tc : Thread Cert.MixIdeal.nD Cert.MixIdeal.τ).loc Cert.MixIdeal.main_v5) = v6 c
          ∧ r.2.mem ((c.tc : Thread Cert.MixIdeal.nD Cert.MixIdeal.τ).loc Cert.MixIdeal.main_v6) = v7 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v33) = v0 c
          ∧ r.2.mem ((c.tc : Thread Cert.MixRefIdeal.nD Cert.MixRefIdeal.τ).loc Cert.MixRefIdeal.main_v60) = v1 c
          ∧ r.2.mem ((c.tc : Thread Cert.MixRefIdeal.nD Cert.MixRefIdeal.τ).loc Cert.MixRefIdeal.main_v52) = v2 c
          ∧ r.2.mem ((c.tc : Thread Cert.MixRefIdeal.nD Cert.MixRefIdeal.τ).loc Cert.MixRefIdeal.main_v53) = v3 c
          ∧ r.2.mem ((c.tc : Thread Cert.MixRefIdeal.nD Cert.MixRefIdeal.τ).loc Cert.MixRefIdeal.main_v56) = v4 c
          ∧ r.2.mem ((c.tc : Thread Cert.MixRefIdeal.nD Cert.MixRefIdeal.τ).loc Cert.MixRefIdeal.main_v51) = v5 c
          ∧ r.2.mem ((c.tc : Thread Cert.MixRefIdeal.nD Cert.MixRefIdeal.τ).loc Cert.MixRefIdeal.main_v54) = v6 c
          ∧ r.2.mem ((c.tc : Thread Cert.MixRefIdeal.nD Cert.MixRefIdeal.τ).loc Cert.MixRefIdeal.main_v55) = v7 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8))

def preserves_MixDy_MixDyIdeal : Prop :=
  True

def algebraic_MixDyIdeal_MixDyRefIdeal [hMixDyIdeal : Cert.MixDyIdeal.Facts] [hMixDyRefIdeal : Cert.MixDyRefIdeal.Facts] : Prop :=
  ∀ (m : (ℓ : Loc Cert.MixDyIdeal.nD Cert.MixDyIdeal.τ Cert.MixDyIdeal.sig) → Buf (Elt Ideal) ℓ) (g : Dev Cert.MixDyIdeal.nD → PrngReg)
    (m' : (ℓ : Loc Cert.MixDyRefIdeal.nD Cert.MixDyRefIdeal.τ Cert.MixDyRefIdeal.sig) → Buf (Elt Ideal) ℓ) (g' : Dev Cert.MixDyRefIdeal.nD → PrngReg), Pre_MixDyIdeal m →
    (∀ c : Dev Cert.MixDyIdeal.nD,
      m' ((c.tc : Thread Cert.MixDyRefIdeal.nD Cert.MixDyRefIdeal.τ).loc Cert.MixDyRefIdeal.main_arg0) = m ((c.tc : Thread Cert.MixDyIdeal.nD Cert.MixDyIdeal.τ).loc Cert.MixDyIdeal.main_arg0)
      ∧ m' ((c.tc : Thread Cert.MixDyRefIdeal.nD Cert.MixDyRefIdeal.τ).loc Cert.MixDyRefIdeal.main_arg1) = m ((c.tc : Thread Cert.MixDyIdeal.nD Cert.MixDyIdeal.τ).loc Cert.MixDyIdeal.main_arg1)) →
    ∃ (v0 : (c : Dev Cert.MixDyIdeal.nD) → Buf (Elt Ideal) ((c.tc : Thread Cert.MixDyIdeal.nD Cert.MixDyIdeal.τ).loc Cert.MixDyIdeal.main_v0)),
      θ_run (Cert.MixDyIdeal.defs (F := Ideal)) (onTc (τ := Cert.MixDyIdeal.τ) (Cert.MixDyIdeal.main (F := Ideal))) ⟨m, fun _ => 0, g⟩ (fun r => ∀ c : Dev Cert.MixDyIdeal.nD,
          r.2.mem ((c.tc : Thread Cert.MixDyIdeal.nD Cert.MixDyIdeal.τ).loc Cert.MixDyIdeal.main_v0) = v0 c
          ∧ r.2.mem ((c.tc : Thread Cert.MixDyIdeal.nD Cert.MixDyIdeal.τ).loc Cert.MixDyIdeal.main_arg0) = m ((c.tc : Thread Cert.MixDyIdeal.nD Cert.MixDyIdeal.τ).loc Cert.MixDyIdeal.main_arg0)
          ∧ r.2.mem ((c.tc : Thread Cert.MixDyIdeal.nD Cert.MixDyIdeal.τ).loc Cert.MixDyIdeal.main_arg1) = m ((c.tc : Thread Cert.MixDyIdeal.nD Cert.MixDyIdeal.τ).loc Cert.MixDyIdeal.main_arg1))
      ∧ θ_run (Cert.MixDyRefIdeal.defs (F := Ideal)) (onTc (τ := Cert.MixDyRefIdeal.τ) (Cert.MixDyRefIdeal.main (F := Ideal))) ⟨m', fun _ => 0, g'⟩ (fun r => ∀ c : Dev Cert.MixDyRefIdeal.nD,
          r.2.mem ((c.tc : Thread Cert.MixDyRefIdeal.nD Cert.MixDyRefIdeal.τ).loc Cert.MixDyRefIdeal.main_v6) = v0 c
          ∧ r.2.mem ((c.tc : Thread Cert.MixDyRefIdeal.nD Cert.MixDyRefIdeal.τ).loc Cert.MixDyRefIdeal.main_arg0) = m' ((c.tc : Thread Cert.MixDyRefIdeal.nD Cert.MixDyRefIdeal.τ).loc Cert.MixDyRefIdeal.main_arg0)
          ∧ r.2.mem ((c.tc : Thread Cert.MixDyRefIdeal.nD Cert.MixDyRefIdeal.τ).loc Cert.MixDyRefIdeal.main_arg1) = m' ((c.tc : Thread Cert.MixDyRefIdeal.nD Cert.MixDyRefIdeal.τ).loc Cert.MixDyRefIdeal.main_arg1))

def preserves_UpdSmall_UpdSmallIdeal : Prop :=
  True

def algebraic_UpdSmallIdeal_UpdSmallRefIdeal [hUpdSmallIdeal : Cert.UpdSmallIdeal.Facts] [hUpdSmallRefIdeal : Cert.UpdSmallRefIdeal.Facts] : Prop :=
  ∀ (m : (ℓ : Loc Cert.UpdSmallIdeal.nD Cert.UpdSmallIdeal.τ Cert.UpdSmallIdeal.sig) → Buf (Elt Ideal) ℓ) (g : Dev Cert.UpdSmallIdeal.nD → PrngReg)
    (m' : (ℓ : Loc Cert.UpdSmallRefIdeal.nD Cert.UpdSmallRefIdeal.τ Cert.UpdSmallRefIdeal.sig) → Buf (Elt Ideal) ℓ) (g' : Dev Cert.UpdSmallRefIdeal.nD → PrngReg), Pre_UpdSmallIdeal m →
    (∀ c : Dev Cert.UpdSmallIdeal.nD,
      m' ((c.tc : Thread Cert.UpdSmallRefIdeal.nD Cert.UpdSmallRefIdeal.τ).loc Cert.UpdSmallRefIdeal.main_arg0) = m ((c.tc : Thread Cert.UpdSmallIdeal.nD Cert.UpdSmallIdeal.τ).loc Cert.UpdSmallIdeal.main_arg0)
      ∧ m' ((c.tc : Thread Cert.UpdSmallRefIdeal.nD Cert.UpdSmallRefIdeal.τ).loc Cert.UpdSmallRefIdeal.main_arg1) = m ((c.tc : Thread Cert.UpdSmallIdeal.nD Cert.UpdSmallIdeal.τ).loc Cert.UpdSmallIdeal.main_arg1)
      ∧ m' ((c.tc : Thread Cert.UpdSmallRefIdeal.nD Cert.UpdSmallRefIdeal.τ).loc Cert.UpdSmallRefIdeal.main_arg2) = m ((c.tc : Thread Cert.UpdSmallIdeal.nD Cert.UpdSmallIdeal.τ).loc Cert.UpdSmallIdeal.main_arg2)
      ∧ m' ((c.tc : Thread Cert.UpdSmallRefIdeal.nD Cert.UpdSmallRefIdeal.τ).loc Cert.UpdSmallRefIdeal.main_arg3) = m ((c.tc : Thread Cert.UpdSmallIdeal.nD Cert.UpdSmallIdeal.τ).loc Cert.UpdSmallIdeal.main_arg3)
      ∧ m' ((c.tc : Thread Cert.UpdSmallRefIdeal.nD Cert.UpdSmallRefIdeal.τ).loc Cert.UpdSmallRefIdeal.main_arg4) = m ((c.tc : Thread Cert.UpdSmallIdeal.nD Cert.UpdSmallIdeal.τ).loc Cert.UpdSmallIdeal.main_arg4)
      ∧ m' ((c.tc : Thread Cert.UpdSmallRefIdeal.nD Cert.UpdSmallRefIdeal.τ).loc Cert.UpdSmallRefIdeal.main_arg5) = m ((c.tc : Thread Cert.UpdSmallIdeal.nD Cert.UpdSmallIdeal.τ).loc Cert.UpdSmallIdeal.main_arg5)
      ∧ m' ((c.tc : Thread Cert.UpdSmallRefIdeal.nD Cert.UpdSmallRefIdeal.τ).loc Cert.UpdSmallRefIdeal.main_arg6) = m ((c.tc : Thread Cert.UpdSmallIdeal.nD Cert.UpdSmallIdeal.τ).loc Cert.UpdSmallIdeal.main_arg6)
      ∧ m' ((c.tc : Thread Cert.UpdSmallRefIdeal.nD Cert.UpdSmallRefIdeal.τ).loc Cert.UpdSmallRefIdeal.main_arg7) = m ((c.tc : Thread Cert.UpdSmallIdeal.nD Cert.UpdSmallIdeal.τ).loc Cert.UpdSmallIdeal.main_arg7)
      ∧ m' ((c.tc : Thread Cert.UpdSmallRefIdeal.nD Cert.UpdSmallRefIdeal.τ).loc Cert.UpdSmallRefIdeal.main_arg8) = m ((c.tc : Thread Cert.UpdSmallIdeal.nD Cert.UpdSmallIdeal.τ).loc Cert.UpdSmallIdeal.main_arg8)
      ∧ m' ((c.tc : Thread Cert.UpdSmallRefIdeal.nD Cert.UpdSmallRefIdeal.τ).loc Cert.UpdSmallRefIdeal.main_arg9) = m ((c.tc : Thread Cert.UpdSmallIdeal.nD Cert.UpdSmallIdeal.τ).loc Cert.UpdSmallIdeal.main_arg9)
      ∧ m' ((c.tc : Thread Cert.UpdSmallRefIdeal.nD Cert.UpdSmallRefIdeal.τ).loc Cert.UpdSmallRefIdeal.main_arg10) = m ((c.tc : Thread Cert.UpdSmallIdeal.nD Cert.UpdSmallIdeal.τ).loc Cert.UpdSmallIdeal.main_arg10)
      ∧ m' ((c.tc : Thread Cert.UpdSmallRefIdeal.nD Cert.UpdSmallRefIdeal.τ).loc Cert.UpdSmallRefIdeal.main_arg11) = m ((c.tc : Thread Cert.UpdSmallIdeal.nD Cert.UpdSmallIdeal.τ).loc Cert.UpdSmallIdeal.main_arg11)
      ∧ m' ((c.tc : Thread Cert.UpdSmallRefIdeal.nD Cert.UpdSmallRefIdeal.τ).loc Cert.UpdSmallRefIdeal.main_arg12) = m ((c.tc : Thread Cert.UpdSmallIdeal.nD Cert.UpdSmallIdeal.τ).loc Cert.UpdSmallIdeal.main_arg12)
      ∧ m' ((c.tc : Thread Cert.UpdSmallRefIdeal.nD Cert.UpdSmallRefIdeal.τ).loc Cert.UpdSmallRefIdeal.main_arg13) = m ((c.tc : Thread Cert.UpdSmallIdeal.nD Cert.UpdSmallIdeal.τ).loc Cert.UpdSmallIdeal.main_arg13)
      ∧ m' ((c.tc : Thread Cert.UpdSmallRefIdeal.nD Cert.UpdSmallRefIdeal.τ).loc Cert.UpdSmallRefIdeal.main_arg14) = m ((c.tc : Thread Cert.UpdSmallIdeal.nD Cert.UpdSmallIdeal.τ).loc Cert.UpdSmallIdeal.main_arg14)
      ∧ m' ((c.tc : Thread Cert.UpdSmallRefIdeal.nD Cert.UpdSmallRefIdeal.τ).loc Cert.UpdSmallRefIdeal.main_arg15) = m ((c.tc : Thread Cert.UpdSmallIdeal.nD Cert.UpdSmallIdeal.τ).loc Cert.UpdSmallIdeal.main_arg15)) →
    ∃ (v0 : (c : Dev Cert.UpdSmallIdeal.nD) → Buf (Elt Ideal) ((c.tc : Thread Cert.UpdSmallIdeal.nD Cert.UpdSmallIdeal.τ).loc Cert.UpdSmallIdeal.main_v31)) (v1 : (c : Dev Cert.UpdSmallIdeal.nD) → Buf (Elt Ideal) ((c.tc : Thread Cert.UpdSmallIdeal.nD Cert.UpdSmallIdeal.τ).loc Cert.UpdSmallIdeal.main_v40)) (v2 : (c : Dev Cert.UpdSmallIdeal.nD) → Buf (Elt Ideal) ((c.tc : Thread Cert.UpdSmallIdeal.nD Cert.UpdSmallIdeal.τ).loc Cert.UpdSmallIdeal.main_v49)) (v3 : (c : Dev Cert.UpdSmallIdeal.nD) → Buf (Elt Ideal) ((c.tc : Thread Cert.UpdSmallIdeal.nD Cert.UpdSmallIdeal.τ).loc Cert.UpdSmallIdeal.main_v58)) (v4 : (c : Dev Cert.UpdSmallIdeal.nD) → Buf (Elt Ideal) ((c.tc : Thread Cert.UpdSmallIdeal.nD Cert.UpdSmallIdeal.τ).loc Cert.UpdSmallIdeal.main_v33)) (v5 : (c : Dev Cert.UpdSmallIdeal.nD) → Buf (Elt Ideal) ((c.tc : Thread Cert.UpdSmallIdeal.nD Cert.UpdSmallIdeal.τ).loc Cert.UpdSmallIdeal.main_v42)) (v6 : (c : Dev Cert.UpdSmallIdeal.nD) → Buf (Elt Ideal) ((c.tc : Thread Cert.UpdSmallIdeal.nD Cert.UpdSmallIdeal.τ).loc Cert.UpdSmallIdeal.main_v51)) (v7 : (c : Dev Cert.UpdSmallIdeal.nD) → Buf (Elt Ideal) ((c.tc : Thread Cert.UpdSmallIdeal.nD Cert.UpdSmallIdeal.τ).loc Cert.UpdSmallIdeal.main_v60)) (v8 : (c : Dev Cert.UpdSmallIdeal.nD) → Buf (Elt Ideal) ((c.tc : Thread Cert.UpdSmallIdeal.nD Cert.UpdSmallIdeal.τ).loc Cert.UpdSmallIdeal.main_v35)) (v9 : (c : Dev Cert.UpdSmallIdeal.nD) → Buf (Elt Ideal) ((c.tc : Thread Cert.UpdSmallIdeal.nD Cert.UpdSmallIdeal.τ).loc Cert.UpdSmallIdeal.main_v44)) (v10 : (c : Dev Cert.UpdSmallIdeal.nD) → Buf (Elt Ideal) ((c.tc : Thread Cert.UpdSmallIdeal.nD Cert.UpdSmallIdeal.τ).loc Cert.UpdSmallIdeal.main_v53)) (v11 : (c : Dev Cert.UpdSmallIdeal.nD) → Buf (Elt Ideal) ((c.tc : Thread Cert.UpdSmallIdeal.nD Cert.UpdSmallIdeal.τ).loc Cert.UpdSmallIdeal.main_v62)) (v12 : (c : Dev Cert.UpdSmallIdeal.nD) → Buf (Elt Ideal) ((c.tc : Thread Cert.UpdSmallIdeal.nD Cert.UpdSmallIdeal.τ).loc Cert.UpdSmallIdeal.main_v37)) (v13 : (c : Dev Cert.UpdSmallIdeal.nD) → Buf (Elt Ideal) ((c.tc : Thread Cert.UpdSmallIdeal.nD Cert.UpdSmallIdeal.τ).loc Cert.UpdSmallIdeal.main_v46)) (v14 : (c : Dev Cert.UpdSmallIdeal.nD) → Buf (Elt Ideal) ((c.tc : Thread Cert.UpdSmallIdeal.nD Cert.UpdSmallIdeal.τ).loc Cert.UpdSmallIdeal.main_v55)) (v15 : (c : Dev Cert.UpdSmallIdeal.nD) → Buf (Elt Ideal) ((c.tc : Thread Cert.UpdSmallIdeal.nD Cert.UpdSmallIdeal.τ).loc Cert.UpdSmallIdeal.main_v64)),
      θ_run (Cert.UpdSmallIdeal.defs (F := Ideal)) (onTc (τ := Cert.UpdSmallIdeal.τ) (Cert.UpdSmallIdeal.main (F := Ideal))) ⟨m, fun _ => 0, g⟩ (fun r => ∀ c : Dev Cert.UpdSmallIdeal.nD,
          r.2.mem ((c.tc : Thread Cert.UpdSmallIdeal.nD Cert.UpdSmallIdeal.τ).loc Cert.UpdSmallIdeal.main_v31) = v0 c
          ∧ r.2.mem ((c.tc : Thread Cert.UpdSmallIdeal.nD Cert.UpdSmallIdeal.τ).loc Cert.UpdSmallIdeal.main_v40) = v1 c
          ∧ r.2.mem ((c.tc : Thread Cert.UpdSmallIdeal.nD Cert.UpdSmallIdeal.τ).loc Cert.UpdSmallIdeal.main_v49) = v2 c
          ∧ r.2.mem ((c.tc : Thread Cert.UpdSmallIdeal.nD Cert.UpdSmallIdeal.τ).loc Cert.UpdSmallIdeal.main_v58) = v3 c
          ∧ r.2.mem ((c.tc : Thread Cert.UpdSmallIdeal.nD Cert.UpdSmallIdeal.τ).loc Cert.UpdSmallIdeal.main_v33) = v4 c
          ∧ r.2.mem ((c.tc : Thread Cert.UpdSmallIdeal.nD Cert.UpdSmallIdeal.τ).loc Cert.UpdSmallIdeal.main_v42) = v5 c
          ∧ r.2.mem ((c.tc : Thread Cert.UpdSmallIdeal.nD Cert.UpdSmallIdeal.τ).loc Cert.UpdSmallIdeal.main_v51) = v6 c
          ∧ r.2.mem ((c.tc : Thread Cert.UpdSmallIdeal.nD Cert.UpdSmallIdeal.τ).loc Cert.UpdSmallIdeal.main_v60) = v7 c
          ∧ r.2.mem ((c.tc : Thread Cert.UpdSmallIdeal.nD Cert.UpdSmallIdeal.τ).loc Cert.UpdSmallIdeal.main_v35) = v8 c
          ∧ r.2.mem ((c.tc : Thread Cert.UpdSmallIdeal.nD Cert.UpdSmallIdeal.τ).loc Cert.UpdSmallIdeal.main_v44) = v9 c
          ∧ r.2.mem ((c.tc : Thread Cert.UpdSmallIdeal.nD Cert.UpdSmallIdeal.τ).loc Cert.UpdSmallIdeal.main_v53) = v10 c
          ∧ r.2.mem ((c.tc : Thread Cert.UpdSmallIdeal.nD Cert.UpdSmallIdeal.τ).loc Cert.UpdSmallIdeal.main_v62) = v11 c
          ∧ r.2.mem ((c.tc : Thread Cert.UpdSmallIdeal.nD Cert.UpdSmallIdeal.τ).loc Cert.UpdSmallIdeal.main_v37) = v12 c
          ∧ r.2.mem ((c.tc : Thread Cert.UpdSmallIdeal.nD Cert.UpdSmallIdeal.τ).loc Cert.UpdSmallIdeal.main_v46) = v13 c
          ∧ r.2.mem ((c.tc : Thread Cert.UpdSmallIdeal.nD Cert.UpdSmallIdeal.τ).loc Cert.UpdSmallIdeal.main_v55) = v14 c
          ∧ r.2.mem ((c.tc : Thread Cert.UpdSmallIdeal.nD Cert.UpdSmallIdeal.τ).loc Cert.UpdSmallIdeal.main_v64) = v15 c
          ∧ r.2.mem ((c.tc : Thread Cert.UpdSmallIdeal.nD Cert.UpdSmallIdeal.τ).loc Cert.UpdSmallIdeal.main_arg0) = m ((c.tc : Thread Cert.UpdSmallIdeal.nD Cert.UpdSmallIdeal.τ).loc Cert.UpdSmallIdeal.main_arg0)
          ∧ r.2.mem ((c.tc : Thread Cert.UpdSmallIdeal.nD Cert.UpdSmallIdeal.τ).loc Cert.UpdSmallIdeal.main_arg1) = m ((c.tc : Thread Cert.UpdSmallIdeal.nD Cert.UpdSmallIdeal.τ).loc Cert.UpdSmallIdeal.main_arg1)
          ∧ r.2.mem ((c.tc : Thread Cert.UpdSmallIdeal.nD Cert.UpdSmallIdeal.τ).loc Cert.UpdSmallIdeal.main_arg2) = m ((c.tc : Thread Cert.UpdSmallIdeal.nD Cert.UpdSmallIdeal.τ).loc Cert.UpdSmallIdeal.main_arg2)
          ∧ r.2.mem ((c.tc : Thread Cert.UpdSmallIdeal.nD Cert.UpdSmallIdeal.τ).loc Cert.UpdSmallIdeal.main_arg3) = m ((c.tc : Thread Cert.UpdSmallIdeal.nD Cert.UpdSmallIdeal.τ).loc Cert.UpdSmallIdeal.main_arg3)
          ∧ r.2.mem ((c.tc : Thread Cert.UpdSmallIdeal.nD Cert.UpdSmallIdeal.τ).loc Cert.UpdSmallIdeal.main_arg4) = m ((c.tc : Thread Cert.UpdSmallIdeal.nD Cert.UpdSmallIdeal.τ).loc Cert.UpdSmallIdeal.main_arg4)
          ∧ r.2.mem ((c.tc : Thread Cert.UpdSmallIdeal.nD Cert.UpdSmallIdeal.τ).loc Cert.UpdSmallIdeal.main_arg5) = m ((c.tc : Thread Cert.UpdSmallIdeal.nD Cert.UpdSmallIdeal.τ).loc Cert.UpdSmallIdeal.main_arg5)
          ∧ r.2.mem ((c.tc : Thread Cert.UpdSmallIdeal.nD Cert.UpdSmallIdeal.τ).loc Cert.UpdSmallIdeal.main_arg6) = m ((c.tc : Thread Cert.UpdSmallIdeal.nD Cert.UpdSmallIdeal.τ).loc Cert.UpdSmallIdeal.main_arg6)
          ∧ r.2.mem ((c.tc : Thread Cert.UpdSmallIdeal.nD Cert.UpdSmallIdeal.τ).loc Cert.UpdSmallIdeal.main_arg7) = m ((c.tc : Thread Cert.UpdSmallIdeal.nD Cert.UpdSmallIdeal.τ).loc Cert.UpdSmallIdeal.main_arg7)
          ∧ r.2.mem ((c.tc : Thread Cert.UpdSmallIdeal.nD Cert.UpdSmallIdeal.τ).loc Cert.UpdSmallIdeal.main_arg8) = m ((c.tc : Thread Cert.UpdSmallIdeal.nD Cert.UpdSmallIdeal.τ).loc Cert.UpdSmallIdeal.main_arg8)
          ∧ r.2.mem ((c.tc : Thread Cert.UpdSmallIdeal.nD Cert.UpdSmallIdeal.τ).loc Cert.UpdSmallIdeal.main_arg9) = m ((c.tc : Thread Cert.UpdSmallIdeal.nD Cert.UpdSmallIdeal.τ).loc Cert.UpdSmallIdeal.main_arg9)
          ∧ r.2.mem ((c.tc : Thread Cert.UpdSmallIdeal.nD Cert.UpdSmallIdeal.τ).loc Cert.UpdSmallIdeal.main_arg10) = m ((c.tc : Thread Cert.UpdSmallIdeal.nD Cert.UpdSmallIdeal.τ).loc Cert.UpdSmallIdeal.main_arg10)
          ∧ r.2.mem ((c.tc : Thread Cert.UpdSmallIdeal.nD Cert.UpdSmallIdeal.τ).loc Cert.UpdSmallIdeal.main_arg11) = m ((c.tc : Thread Cert.UpdSmallIdeal.nD Cert.UpdSmallIdeal.τ).loc Cert.UpdSmallIdeal.main_arg11)
          ∧ r.2.mem ((c.tc : Thread Cert.UpdSmallIdeal.nD Cert.UpdSmallIdeal.τ).loc Cert.UpdSmallIdeal.main_arg12) = m ((c.tc : Thread Cert.UpdSmallIdeal.nD Cert.UpdSmallIdeal.τ).loc Cert.UpdSmallIdeal.main_arg12)
          ∧ r.2.mem ((c.tc : Thread Cert.UpdSmallIdeal.nD Cert.UpdSmallIdeal.τ).loc Cert.UpdSmallIdeal.main_arg13) = m ((c.tc : Thread Cert.UpdSmallIdeal.nD Cert.UpdSmallIdeal.τ).loc Cert.UpdSmallIdeal.main_arg13)
          ∧ r.2.mem ((c.tc : Thread Cert.UpdSmallIdeal.nD Cert.UpdSmallIdeal.τ).loc Cert.UpdSmallIdeal.main_arg14) = m ((c.tc : Thread Cert.UpdSmallIdeal.nD Cert.UpdSmallIdeal.τ).loc Cert.UpdSmallIdeal.main_arg14)
          ∧ r.2.mem ((c.tc : Thread Cert.UpdSmallIdeal.nD Cert.UpdSmallIdeal.τ).loc Cert.UpdSmallIdeal.main_arg15) = m ((c.tc : Thread Cert.UpdSmallIdeal.nD Cert.UpdSmallIdeal.τ).loc Cert.UpdSmallIdeal.main_arg15))
      ∧ θ_run (Cert.UpdSmallRefIdeal.defs (F := Ideal)) (onTc (τ := Cert.UpdSmallRefIdeal.τ) (Cert.UpdSmallRefIdeal.main (F := Ideal))) ⟨m', fun _ => 0, g'⟩ (fun r => ∀ c : Dev Cert.UpdSmallRefIdeal.nD,
          r.2.mem ((c.tc : Thread Cert.UpdSmallRefIdeal.nD Cert.UpdSmallRefIdeal.τ).loc Cert.UpdSmallRefIdeal.main_arg12) = v0 c
          ∧ r.2.mem ((c.tc : Thread Cert.UpdSmallRefIdeal.nD Cert.UpdSmallRefIdeal.τ).loc Cert.UpdSmallRefIdeal.main_v23) = v1 c
          ∧ r.2.mem ((c.tc : Thread Cert.UpdSmallRefIdeal.nD Cert.UpdSmallRefIdeal.τ).loc Cert.UpdSmallRefIdeal.main_v4) = v2 c
          ∧ r.2.mem ((c.tc : Thread Cert.UpdSmallRefIdeal.nD Cert.UpdSmallRefIdeal.τ).loc Cert.UpdSmallRefIdeal.main_v10) = v3 c
          ∧ r.2.mem ((c.tc : Thread Cert.UpdSmallRefIdeal.nD Cert.UpdSmallRefIdeal.τ).loc Cert.UpdSmallRefIdeal.main_arg13) = v4 c
          ∧ r.2.mem ((c.tc : Thread Cert.UpdSmallRefIdeal.nD Cert.UpdSmallRefIdeal.τ).loc Cert.UpdSmallRefIdeal.main_v47) = v5 c
          ∧ r.2.mem ((c.tc : Thread Cert.UpdSmallRefIdeal.nD Cert.UpdSmallRefIdeal.τ).loc Cert.UpdSmallRefIdeal.main_v28) = v6 c
          ∧ r.2.mem ((c.tc : Thread Cert.UpdSmallRefIdeal.nD Cert.UpdSmallRefIdeal.τ).loc Cert.UpdSmallRefIdeal.main_v34) = v7 c
          ∧ r.2.mem ((c.tc : Thread Cert.UpdSmallRefIdeal.nD Cert.UpdSmallRefIdeal.τ).loc Cert.UpdSmallRefIdeal.main_arg14) = v8 c
          ∧ r.2.mem ((c.tc : Thread Cert.UpdSmallRefIdeal.nD Cert.UpdSmallRefIdeal.τ).loc Cert.UpdSmallRefIdeal.main_v71) = v9 c
          ∧ r.2.mem ((c.tc : Thread Cert.UpdSmallRefIdeal.nD Cert.UpdSmallRefIdeal.τ).loc Cert.UpdSmallRefIdeal.main_v52) = v10 c
          ∧ r.2.mem ((c.tc : Thread Cert.UpdSmallRefIdeal.nD Cert.UpdSmallRefIdeal.τ).loc Cert.UpdSmallRefIdeal.main_v58) = v11 c
          ∧ r.2.mem ((c.tc : Thread Cert.UpdSmallRefIdeal.nD Cert.UpdSmallRefIdeal.τ).loc Cert.UpdSmallRefIdeal.main_arg15) = v12 c
          ∧ r.2.mem ((c.tc : Thread Cert.UpdSmallRefIdeal.nD Cert.UpdSmallRefIdeal.τ).loc Cert.UpdSmallRefIdeal.main_v95) = v13 c
          ∧ r.2.mem ((c.tc : Thread Cert.UpdSmallRefIdeal.nD Cert.UpdSmallRefIdeal.τ).loc Cert.UpdSmallRefIdeal.main_v76) = v14 c
          ∧ r.2.mem ((c.tc : Thread Cert.UpdSmallRefIdeal.nD Cert.UpdSmallRefIdeal.τ).loc Cert.UpdSmallRefIdeal.main_v82) = v15 c
          ∧ r.2.mem ((c.tc : Thread Cert.UpdSmallRefIdeal.nD Cert.UpdSmallRefIdeal.τ).loc Cert.UpdSmallRefIdeal.main_arg0) = m' ((c.tc : Thread Cert.UpdSmallRefIdeal.nD Cert.UpdSmallRefIdeal.τ).loc Cert.UpdSmallRefIdeal.main_arg0)
          ∧ r.2.mem ((c.tc : Thread Cert.UpdSmallRefIdeal.nD Cert.UpdSmallRefIdeal.τ).loc Cert.UpdSmallRefIdeal.main_arg1) = m' ((c.tc : Thread Cert.UpdSmallRefIdeal.nD Cert.UpdSmallRefIdeal.τ).loc Cert.UpdSmallRefIdeal.main_arg1)
          ∧ r.2.mem ((c.tc : Thread Cert.UpdSmallRefIdeal.nD Cert.UpdSmallRefIdeal.τ).loc Cert.UpdSmallRefIdeal.main_arg2) = m' ((c.tc : Thread Cert.UpdSmallRefIdeal.nD Cert.UpdSmallRefIdeal.τ).loc Cert.UpdSmallRefIdeal.main_arg2)
          ∧ r.2.mem ((c.tc : Thread Cert.UpdSmallRefIdeal.nD Cert.UpdSmallRefIdeal.τ).loc Cert.UpdSmallRefIdeal.main_arg3) = m' ((c.tc : Thread Cert.UpdSmallRefIdeal.nD Cert.UpdSmallRefIdeal.τ).loc Cert.UpdSmallRefIdeal.main_arg3)
          ∧ r.2.mem ((c.tc : Thread Cert.UpdSmallRefIdeal.nD Cert.UpdSmallRefIdeal.τ).loc Cert.UpdSmallRefIdeal.main_arg4) = m' ((c.tc : Thread Cert.UpdSmallRefIdeal.nD Cert.UpdSmallRefIdeal.τ).loc Cert.UpdSmallRefIdeal.main_arg4)
          ∧ r.2.mem ((c.tc : Thread Cert.UpdSmallRefIdeal.nD Cert.UpdSmallRefIdeal.τ).loc Cert.UpdSmallRefIdeal.main_arg5) = m' ((c.tc : Thread Cert.UpdSmallRefIdeal.nD Cert.UpdSmallRefIdeal.τ).loc Cert.UpdSmallRefIdeal.main_arg5)
          ∧ r.2.mem ((c.tc : Thread Cert.UpdSmallRefIdeal.nD Cert.UpdSmallRefIdeal.τ).loc Cert.UpdSmallRefIdeal.main_arg6) = m' ((c.tc : Thread Cert.UpdSmallRefIdeal.nD Cert.UpdSmallRefIdeal.τ).loc Cert.UpdSmallRefIdeal.main_arg6)
          ∧ r.2.mem ((c.tc : Thread Cert.UpdSmallRefIdeal.nD Cert.UpdSmallRefIdeal.τ).loc Cert.UpdSmallRefIdeal.main_arg7) = m' ((c.tc : Thread Cert.UpdSmallRefIdeal.nD Cert.UpdSmallRefIdeal.τ).loc Cert.UpdSmallRefIdeal.main_arg7)
          ∧ r.2.mem ((c.tc : Thread Cert.UpdSmallRefIdeal.nD Cert.UpdSmallRefIdeal.τ).loc Cert.UpdSmallRefIdeal.main_arg8) = m' ((c.tc : Thread Cert.UpdSmallRefIdeal.nD Cert.UpdSmallRefIdeal.τ).loc Cert.UpdSmallRefIdeal.main_arg8)
          ∧ r.2.mem ((c.tc : Thread Cert.UpdSmallRefIdeal.nD Cert.UpdSmallRefIdeal.τ).loc Cert.UpdSmallRefIdeal.main_arg9) = m' ((c.tc : Thread Cert.UpdSmallRefIdeal.nD Cert.UpdSmallRefIdeal.τ).loc Cert.UpdSmallRefIdeal.main_arg9)
          ∧ r.2.mem ((c.tc : Thread Cert.UpdSmallRefIdeal.nD Cert.UpdSmallRefIdeal.τ).loc Cert.UpdSmallRefIdeal.main_arg10) = m' ((c.tc : Thread Cert.UpdSmallRefIdeal.nD Cert.UpdSmallRefIdeal.τ).loc Cert.UpdSmallRefIdeal.main_arg10)
          ∧ r.2.mem ((c.tc : Thread Cert.UpdSmallRefIdeal.nD Cert.UpdSmallRefIdeal.τ).loc Cert.UpdSmallRefIdeal.main_arg11) = m' ((c.tc : Thread Cert.UpdSmallRefIdeal.nD Cert.UpdSmallRefIdeal.τ).loc Cert.UpdSmallRefIdeal.main_arg11)
          ∧ r.2.mem ((c.tc : Thread Cert.UpdSmallRefIdeal.nD Cert.UpdSmallRefIdeal.τ).loc Cert.UpdSmallRefIdeal.main_arg12) = m' ((c.tc : Thread Cert.UpdSmallRefIdeal.nD Cert.UpdSmallRefIdeal.τ).loc Cert.UpdSmallRefIdeal.main_arg12)
          ∧ r.2.mem ((c.tc : Thread Cert.UpdSmallRefIdeal.nD Cert.UpdSmallRefIdeal.τ).loc Cert.UpdSmallRefIdeal.main_arg13) = m' ((c.tc : Thread Cert.UpdSmallRefIdeal.nD Cert.UpdSmallRefIdeal.τ).loc Cert.UpdSmallRefIdeal.main_arg13)
          ∧ r.2.mem ((c.tc : Thread Cert.UpdSmallRefIdeal.nD Cert.UpdSmallRefIdeal.τ).loc Cert.UpdSmallRefIdeal.main_arg14) = m' ((c.tc : Thread Cert.UpdSmallRefIdeal.nD Cert.UpdSmallRefIdeal.τ).loc Cert.UpdSmallRefIdeal.main_arg14)
          ∧ r.2.mem ((c.tc : Thread Cert.UpdSmallRefIdeal.nD Cert.UpdSmallRefIdeal.τ).loc Cert.UpdSmallRefIdeal.main_arg15) = m' ((c.tc : Thread Cert.UpdSmallRefIdeal.nD Cert.UpdSmallRefIdeal.τ).loc Cert.UpdSmallRefIdeal.main_arg15))

def preserves_UpdMod_UpdModIdeal : Prop :=
  True

def algebraic_UpdModIdeal_UpdModRefIdeal_pre_finite_mod [hUpdModIdeal : Cert.UpdModIdeal.Facts] [hUpdModRefIdeal : Cert.UpdModRefIdeal.Facts] [hPre_finite_mod : Cert.Pre_finite_mod.Facts] : Prop :=
  ∀ (m : (ℓ : Loc Cert.UpdModIdeal.nD Cert.UpdModIdeal.τ Cert.UpdModIdeal.sig) → Buf (Elt Ideal) ℓ) (g : Dev Cert.UpdModIdeal.nD → PrngReg)
    (m' : (ℓ : Loc Cert.UpdModRefIdeal.nD Cert.UpdModRefIdeal.τ Cert.UpdModRefIdeal.sig) → Buf (Elt Ideal) ℓ) (g' : Dev Cert.UpdModRefIdeal.nD → PrngReg), Pre_UpdModIdeal_finite_mod m →
    (∀ c : Dev Cert.UpdModIdeal.nD,
      m' ((c.tc : Thread Cert.UpdModRefIdeal.nD Cert.UpdModRefIdeal.τ).loc Cert.UpdModRefIdeal.main_arg0) = m ((c.tc : Thread Cert.UpdModIdeal.nD Cert.UpdModIdeal.τ).loc Cert.UpdModIdeal.main_arg0)
      ∧ m' ((c.tc : Thread Cert.UpdModRefIdeal.nD Cert.UpdModRefIdeal.τ).loc Cert.UpdModRefIdeal.main_arg1) = m ((c.tc : Thread Cert.UpdModIdeal.nD Cert.UpdModIdeal.τ).loc Cert.UpdModIdeal.main_arg1)
      ∧ m' ((c.tc : Thread Cert.UpdModRefIdeal.nD Cert.UpdModRefIdeal.τ).loc Cert.UpdModRefIdeal.main_arg2) = m ((c.tc : Thread Cert.UpdModIdeal.nD Cert.UpdModIdeal.τ).loc Cert.UpdModIdeal.main_arg2)
      ∧ m' ((c.tc : Thread Cert.UpdModRefIdeal.nD Cert.UpdModRefIdeal.τ).loc Cert.UpdModRefIdeal.main_arg3) = m ((c.tc : Thread Cert.UpdModIdeal.nD Cert.UpdModIdeal.τ).loc Cert.UpdModIdeal.main_arg3)
      ∧ m' ((c.tc : Thread Cert.UpdModRefIdeal.nD Cert.UpdModRefIdeal.τ).loc Cert.UpdModRefIdeal.main_arg4) = m ((c.tc : Thread Cert.UpdModIdeal.nD Cert.UpdModIdeal.τ).loc Cert.UpdModIdeal.main_arg4)
      ∧ m' ((c.tc : Thread Cert.UpdModRefIdeal.nD Cert.UpdModRefIdeal.τ).loc Cert.UpdModRefIdeal.main_arg5) = m ((c.tc : Thread Cert.UpdModIdeal.nD Cert.UpdModIdeal.τ).loc Cert.UpdModIdeal.main_arg5)
      ∧ m' ((c.tc : Thread Cert.UpdModRefIdeal.nD Cert.UpdModRefIdeal.τ).loc Cert.UpdModRefIdeal.main_arg6) = m ((c.tc : Thread Cert.UpdModIdeal.nD Cert.UpdModIdeal.τ).loc Cert.UpdModIdeal.main_arg6)) →
    ∃ (v0 : (c : Dev Cert.UpdModIdeal.nD) → Buf (Elt Ideal) ((c.tc : Thread Cert.UpdModIdeal.nD Cert.UpdModIdeal.τ).loc Cert.UpdModIdeal.main_v5_0)) (v1 : (c : Dev Cert.UpdModIdeal.nD) → Buf (Elt Ideal) ((c.tc : Thread Cert.UpdModIdeal.nD Cert.UpdModIdeal.τ).loc Cert.UpdModIdeal.main_v5_1)) (v2 : (c : Dev Cert.UpdModIdeal.nD) → Buf (Elt Ideal) ((c.tc : Thread Cert.UpdModIdeal.nD Cert.UpdModIdeal.τ).loc Cert.UpdModIdeal.main_v5_2)) (v3 : (c : Dev Cert.UpdModIdeal.nD) → Buf (Elt Ideal) ((c.tc : Thread Cert.UpdModIdeal.nD Cert.UpdModIdeal.τ).loc Cert.UpdModIdeal.main_v5_3)),
      θ_run (Cert.UpdModIdeal.defs (F := Ideal)) (onTc (τ := Cert.UpdModIdeal.τ) (Cert.UpdModIdeal.main (F := Ideal))) ⟨m, fun _ => 0, g⟩ (fun r => ∀ c : Dev Cert.UpdModIdeal.nD,
          r.2.mem ((c.tc : Thread Cert.UpdModIdeal.nD Cert.UpdModIdeal.τ).loc Cert.UpdModIdeal.main_v5_0) = v0 c
          ∧ r.2.mem ((c.tc : Thread Cert.UpdModIdeal.nD Cert.UpdModIdeal.τ).loc Cert.UpdModIdeal.main_v5_1) = v1 c
          ∧ r.2.mem ((c.tc : Thread Cert.UpdModIdeal.nD Cert.UpdModIdeal.τ).loc Cert.UpdModIdeal.main_v5_2) = v2 c
          ∧ r.2.mem ((c.tc : Thread Cert.UpdModIdeal.nD Cert.UpdModIdeal.τ).loc Cert.UpdModIdeal.main_v5_3) = v3 c
          ∧ r.2.mem ((c.tc : Thread Cert.UpdModIdeal.nD Cert.UpdModIdeal.τ).loc Cert.UpdModIdeal.main_arg0) = m ((c.tc : Thread Cert.UpdModIdeal.nD Cert.UpdModIdeal.τ).loc Cert.UpdModIdeal.main_arg0)
          ∧ r.2.mem ((c.tc : Thread Cert.UpdModIdeal.nD Cert.UpdModIdeal.τ).loc Cert.UpdModIdeal.main_arg1) = m ((c.tc : Thread Cert.UpdModIdeal.nD Cert.UpdModIdeal.τ).loc Cert.UpdModIdeal.main_arg1)
          ∧ r.2.mem ((c.tc : Thread Cert.UpdModIdeal.nD Cert.UpdModIdeal.τ).loc Cert.UpdModIdeal.main_arg2) = m ((c.tc : Thread Cert.UpdModIdeal.nD Cert.UpdModIdeal.τ).loc Cert.UpdModIdeal.main_arg2)
          ∧ r.2.mem ((c.tc : Thread Cert.UpdModIdeal.nD Cert.UpdModIdeal.τ).loc Cert.UpdModIdeal.main_arg3) = m ((c.tc : Thread Cert.UpdModIdeal.nD Cert.UpdModIdeal.τ).loc Cert.UpdModIdeal.main_arg3)
          ∧ r.2.mem ((c.tc : Thread Cert.UpdModIdeal.nD Cert.UpdModIdeal.τ).loc Cert.UpdModIdeal.main_arg4) = m ((c.tc : Thread Cert.UpdModIdeal.nD Cert.UpdModIdeal.τ).loc Cert.UpdModIdeal.main_arg4)
          ∧ r.2.mem ((c.tc : Thread Cert.UpdModIdeal.nD Cert.UpdModIdeal.τ).loc Cert.UpdModIdeal.main_arg5) = m ((c.tc : Thread Cert.UpdModIdeal.nD Cert.UpdModIdeal.τ).loc Cert.UpdModIdeal.main_arg5)
          ∧ r.2.mem ((c.tc : Thread Cert.UpdModIdeal.nD Cert.UpdModIdeal.τ).loc Cert.UpdModIdeal.main_arg6) = m ((c.tc : Thread Cert.UpdModIdeal.nD Cert.UpdModIdeal.τ).loc Cert.UpdModIdeal.main_arg6))
      ∧ θ_run (Cert.UpdModRefIdeal.defs (F := Ideal)) (onTc (τ := Cert.UpdModRefIdeal.τ) (Cert.UpdModRefIdeal.main (F := Ideal))) ⟨m', fun _ => 0, g'⟩ (fun r => ∀ c : Dev Cert.UpdModRefIdeal.nD,
          r.2.mem ((c.tc : Thread Cert.UpdModRefIdeal.nD Cert.UpdModRefIdeal.τ).loc Cert.UpdModRefIdeal.main_v11) = v0 c
          ∧ r.2.mem ((c.tc : Thread Cert.UpdModRefIdeal.nD Cert.UpdModRefIdeal.τ).loc Cert.UpdModRefIdeal.main_v35) = v1 c
          ∧ r.2.mem ((c.tc : Thread Cert.UpdModRefIdeal.nD Cert.UpdModRefIdeal.τ).loc Cert.UpdModRefIdeal.main_v16) = v2 c
          ∧ r.2.mem ((c.tc : Thread Cert.UpdModRefIdeal.nD Cert.UpdModRefIdeal.τ).loc Cert.UpdModRefIdeal.main_v22) = v3 c
          ∧ r.2.mem ((c.tc : Thread Cert.UpdModRefIdeal.nD Cert.UpdModRefIdeal.τ).loc Cert.UpdModRefIdeal.main_arg0) = m' ((c.tc : Thread Cert.UpdModRefIdeal.nD Cert.UpdModRefIdeal.τ).loc Cert.UpdModRefIdeal.main_arg0)
          ∧ r.2.mem ((c.tc : Thread Cert.UpdModRefIdeal.nD Cert.UpdModRefIdeal.τ).loc Cert.UpdModRefIdeal.main_arg1) = m' ((c.tc : Thread Cert.UpdModRefIdeal.nD Cert.UpdModRefIdeal.τ).loc Cert.UpdModRefIdeal.main_arg1)
          ∧ r.2.mem ((c.tc : Thread Cert.UpdModRefIdeal.nD Cert.UpdModRefIdeal.τ).loc Cert.UpdModRefIdeal.main_arg2) = m' ((c.tc : Thread Cert.UpdModRefIdeal.nD Cert.UpdModRefIdeal.τ).loc Cert.UpdModRefIdeal.main_arg2)
          ∧ r.2.mem ((c.tc : Thread Cert.UpdModRefIdeal.nD Cert.UpdModRefIdeal.τ).loc Cert.UpdModRefIdeal.main_arg3) = m' ((c.tc : Thread Cert.UpdModRefIdeal.nD Cert.UpdModRefIdeal.τ).loc Cert.UpdModRefIdeal.main_arg3)
          ∧ r.2.mem ((c.tc : Thread Cert.UpdModRefIdeal.nD Cert.UpdModRefIdeal.τ).loc Cert.UpdModRefIdeal.main_arg4) = m' ((c.tc : Thread Cert.UpdModRefIdeal.nD Cert.UpdModRefIdeal.τ).loc Cert.UpdModRefIdeal.main_arg4)
          ∧ r.2.mem ((c.tc : Thread Cert.UpdModRefIdeal.nD Cert.UpdModRefIdeal.τ).loc Cert.UpdModRefIdeal.main_arg5) = m' ((c.tc : Thread Cert.UpdModRefIdeal.nD Cert.UpdModRefIdeal.τ).loc Cert.UpdModRefIdeal.main_arg5)
          ∧ r.2.mem ((c.tc : Thread Cert.UpdModRefIdeal.nD Cert.UpdModRefIdeal.τ).loc Cert.UpdModRefIdeal.main_arg6) = m' ((c.tc : Thread Cert.UpdModRefIdeal.nD Cert.UpdModRefIdeal.τ).loc Cert.UpdModRefIdeal.main_arg6))

def Claim : Prop :=
  ∃ (hKernel : Cert.Kernel.Facts) (hKernelIdeal : Cert.KernelIdeal.Facts) (hReferenceIdeal : Cert.ReferenceIdeal.Facts) (hFfn2 : Cert.Ffn2.Facts) (hFfn2Ideal : Cert.Ffn2Ideal.Facts) (hFfn2RefIdeal : Cert.Ffn2RefIdeal.Facts) (hFfn1 : Cert.Ffn1.Facts) (hFfn1Ideal : Cert.Ffn1Ideal.Facts) (hFfn1RefIdeal : Cert.Ffn1RefIdeal.Facts) (hDh2 : Cert.Dh2.Facts) (hDh2Ideal : Cert.Dh2Ideal.Facts) (hDh2RefIdeal : Cert.Dh2RefIdeal.Facts) (hDh1 : Cert.Dh1.Facts) (hDh1Ideal : Cert.Dh1Ideal.Facts) (hDh1RefIdeal : Cert.Dh1RefIdeal.Facts) (hInProj : Cert.InProj.Facts) (hInProjIdeal : Cert.InProjIdeal.Facts) (hInProjRefIdeal : Cert.InProjRefIdeal.Facts) (hInProjDx : Cert.InProjDx.Facts) (hInProjDxIdeal : Cert.InProjDxIdeal.Facts) (hInProjDxRefIdeal : Cert.InProjDxRefIdeal.Facts) (hUpdate : Cert.Update.Facts) (hUpdateIdeal : Cert.UpdateIdeal.Facts) (hUpdateRefIdeal : Cert.UpdateRefIdeal.Facts) (hMix : Cert.Mix.Facts) (hMixIdeal : Cert.MixIdeal.Facts) (hMixRefIdeal : Cert.MixRefIdeal.Facts) (hMixDy : Cert.MixDy.Facts) (hMixDyIdeal : Cert.MixDyIdeal.Facts) (hMixDyRefIdeal : Cert.MixDyRefIdeal.Facts) (hUpdSmall : Cert.UpdSmall.Facts) (hUpdSmallIdeal : Cert.UpdSmallIdeal.Facts) (hUpdSmallRefIdeal : Cert.UpdSmallRefIdeal.Facts) (hUpdMod : Cert.UpdMod.Facts) (hUpdModIdeal : Cert.UpdModIdeal.Facts) (hUpdModRefIdeal : Cert.UpdModRefIdeal.Facts) (hPre_finite_qk : Cert.Pre_finite_qk.Facts) (hPre_finite_ffn2 : Cert.Pre_finite_ffn2.Facts) (hPre_finite_ffn1 : Cert.Pre_finite_ffn1.Facts) (hPre_finite_mod : Cert.Pre_finite_mod.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Ffn2 (hFfn2 := hFfn2)
    ∧ quiescent_Ffn2Ideal (hFfn2Ideal := hFfn2Ideal)
    ∧ quiescent_Ffn2Ideal_pre_finite_ffn2 (hFfn2Ideal := hFfn2Ideal) (hPre_finite_ffn2 := hPre_finite_ffn2)
    ∧ quiescent_Ffn2RefIdeal (hFfn2RefIdeal := hFfn2RefIdeal)
    ∧ quiescent_Ffn2RefIdeal_pre_finite_ffn2 (hFfn2RefIdeal := hFfn2RefIdeal) (hPre_finite_ffn2 := hPre_finite_ffn2)
    ∧ quiescent_Ffn1 (hFfn1 := hFfn1)
    ∧ quiescent_Ffn1Ideal (hFfn1Ideal := hFfn1Ideal)
    ∧ quiescent_Ffn1Ideal_pre_finite_ffn1 (hFfn1Ideal := hFfn1Ideal) (hPre_finite_ffn1 := hPre_finite_ffn1)
    ∧ quiescent_Ffn1RefIdeal (hFfn1RefIdeal := hFfn1RefIdeal)
    ∧ quiescent_Ffn1RefIdeal_pre_finite_ffn1 (hFfn1RefIdeal := hFfn1RefIdeal) (hPre_finite_ffn1 := hPre_finite_ffn1)
    ∧ quiescent_Dh2 (hDh2 := hDh2)
    ∧ quiescent_Dh2Ideal (hDh2Ideal := hDh2Ideal)
    ∧ quiescent_Dh2RefIdeal (hDh2RefIdeal := hDh2RefIdeal)
    ∧ quiescent_Dh1 (hDh1 := hDh1)
    ∧ quiescent_Dh1Ideal (hDh1Ideal := hDh1Ideal)
    ∧ quiescent_Dh1RefIdeal (hDh1RefIdeal := hDh1RefIdeal)
    ∧ quiescent_InProj (hInProj := hInProj)
    ∧ quiescent_InProjIdeal (hInProjIdeal := hInProjIdeal)
    ∧ quiescent_InProjRefIdeal (hInProjRefIdeal := hInProjRefIdeal)
    ∧ quiescent_InProjDx (hInProjDx := hInProjDx)
    ∧ quiescent_InProjDxIdeal (hInProjDxIdeal := hInProjDxIdeal)
    ∧ quiescent_InProjDxRefIdeal (hInProjDxRefIdeal := hInProjDxRefIdeal)
    ∧ quiescent_Update (hUpdate := hUpdate)
    ∧ quiescent_UpdateIdeal (hUpdateIdeal := hUpdateIdeal)
    ∧ quiescent_UpdateRefIdeal (hUpdateRefIdeal := hUpdateRefIdeal)
    ∧ quiescent_Mix (hMix := hMix)
    ∧ quiescent_MixIdeal (hMixIdeal := hMixIdeal)
    ∧ quiescent_MixRefIdeal (hMixRefIdeal := hMixRefIdeal)
    ∧ quiescent_MixDy (hMixDy := hMixDy)
    ∧ quiescent_MixDyIdeal (hMixDyIdeal := hMixDyIdeal)
    ∧ quiescent_MixDyRefIdeal (hMixDyRefIdeal := hMixDyRefIdeal)
    ∧ quiescent_UpdSmall (hUpdSmall := hUpdSmall)
    ∧ quiescent_UpdSmallIdeal (hUpdSmallIdeal := hUpdSmallIdeal)
    ∧ quiescent_UpdSmallRefIdeal (hUpdSmallRefIdeal := hUpdSmallRefIdeal)
    ∧ quiescent_UpdMod (hUpdMod := hUpdMod)
    ∧ quiescent_UpdModIdeal (hUpdModIdeal := hUpdModIdeal)
    ∧ quiescent_UpdModIdeal_pre_finite_mod (hUpdModIdeal := hUpdModIdeal) (hPre_finite_mod := hPre_finite_mod)
    ∧ quiescent_UpdModRefIdeal (hUpdModRefIdeal := hUpdModRefIdeal)
    ∧ quiescent_UpdModRefIdeal_pre_finite_mod (hUpdModRefIdeal := hUpdModRefIdeal) (hPre_finite_mod := hPre_finite_mod)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Ffn2_Ffn2Ideal
    ∧ algebraic_Ffn2Ideal_Ffn2RefIdeal_pre_finite_ffn2 (hFfn2Ideal := hFfn2Ideal) (hFfn2RefIdeal := hFfn2RefIdeal) (hPre_finite_ffn2 := hPre_finite_ffn2)
    ∧ preserves_Ffn1_Ffn1Ideal
    ∧ algebraic_Ffn1Ideal_Ffn1RefIdeal_pre_finite_ffn1 (hFfn1Ideal := hFfn1Ideal) (hFfn1RefIdeal := hFfn1RefIdeal) (hPre_finite_ffn1 := hPre_finite_ffn1)
    ∧ preserves_Dh2_Dh2Ideal
    ∧ algebraic_Dh2Ideal_Dh2RefIdeal (hDh2Ideal := hDh2Ideal) (hDh2RefIdeal := hDh2RefIdeal)
    ∧ preserves_Dh1_Dh1Ideal
    ∧ algebraic_Dh1Ideal_Dh1RefIdeal (hDh1Ideal := hDh1Ideal) (hDh1RefIdeal := hDh1RefIdeal)
    ∧ preserves_InProj_InProjIdeal
    ∧ algebraic_InProjIdeal_InProjRefIdeal (hInProjIdeal := hInProjIdeal) (hInProjRefIdeal := hInProjRefIdeal)
    ∧ preserves_InProjDx_InProjDxIdeal
    ∧ algebraic_InProjDxIdeal_InProjDxRefIdeal (hInProjDxIdeal := hInProjDxIdeal) (hInProjDxRefIdeal := hInProjDxRefIdeal)
    ∧ preserves_Update_UpdateIdeal
    ∧ algebraic_UpdateIdeal_UpdateRefIdeal (hUpdateIdeal := hUpdateIdeal) (hUpdateRefIdeal := hUpdateRefIdeal)
    ∧ preserves_Mix_MixIdeal
    ∧ algebraic_MixIdeal_MixRefIdeal (hMixIdeal := hMixIdeal) (hMixRefIdeal := hMixRefIdeal)
    ∧ preserves_MixDy_MixDyIdeal
    ∧ algebraic_MixDyIdeal_MixDyRefIdeal (hMixDyIdeal := hMixDyIdeal) (hMixDyRefIdeal := hMixDyRefIdeal)
    ∧ preserves_UpdSmall_UpdSmallIdeal
    ∧ algebraic_UpdSmallIdeal_UpdSmallRefIdeal (hUpdSmallIdeal := hUpdSmallIdeal) (hUpdSmallRefIdeal := hUpdSmallRefIdeal)
    ∧ preserves_UpdMod_UpdModIdeal
    ∧ algebraic_UpdModIdeal_UpdModRefIdeal_pre_finite_mod (hUpdModIdeal := hUpdModIdeal) (hUpdModRefIdeal := hUpdModRefIdeal) (hPre_finite_mod := hPre_finite_mod)
-- ==== Pre_finite_ffn1.lean ====
abbrev S2304x2048 : Shape := ⟨2, ![2304, 2048]⟩
abbrev S4x2048x1408 : Shape := ⟨3, ![4, 2048, 1408]⟩
abbrev S5632x2048 : Shape := ⟨2, ![5632, 2048]⟩
abbrev S2x2048 : Shape := ⟨2, ![2, 2048]⟩
abbrev S_ : Shape := ⟨0, ![]⟩

class Facts : Prop where
  bcast_S_S2304x2048 : S_.BroadcastsInDim S2304x2048 (![] : Fin 0 → Fin S2304x2048.rank)
  bcast_S_S4x2048x1408 : S_.BroadcastsInDim S4x2048x1408 (![] : Fin 0 → Fin S4x2048x1408.rank)
  bcast_S_S5632x2048 : S_.BroadcastsInDim S5632x2048 (![] : Fin 0 → Fin S5632x2048.rank)

variable [Facts]

def fn {F : FTy → Type} [FloatOps F] (main_arg0 : FVec F S2304x2048 .bf16) (main_arg1 : FVec F S4x2048x1408 .bf16) (main_arg2 : FVec F S4x2048x1408 .bf16) (main_arg3 : FVec F S5632x2048 .bf16) (main_arg4 : FVec F S2304x2048 .f32) (main_arg5 : FVec F S2x2048 .f32) (main_arg6 : FVec F S2304x2048 .bf16) : IVec S2304x2048 1 × IVec S4x2048x1408 1 × IVec S5632x2048 1 × IVec S2304x2048 1 :=
  let main_v0 : FVec F S2304x2048 .bf16 := Host.absf main_arg0
  let main_cst : FVec F S_ .bf16 := constant S_ .bf16 0x7F80#16
  let main_v1 : FVec F S2304x2048 .bf16 := broadcastInDim S2304x2048 ![] bcast_S_S2304x2048 main_cst
  let main_v2 : IVec S2304x2048 1 := cmpf .olt main_v0 main_v1
  let main_v3 : FVec F S4x2048x1408 .bf16 := Host.absf main_arg2
  let main_cst_0 : FVec F S_ .bf16 := constant S_ .bf16 0x7F80#16
  let main_v4 : FVec F S4x2048x1408 .bf16 := broadcastInDim S4x2048x1408 ![] bcast_S_S4x2048x1408 main_cst_0
  let main_v5 : IVec S4x2048x1408 1 := cmpf .olt main_v3 main_v4
  let main_v6 : FVec F S5632x2048 .bf16 := Host.absf main_arg3
  let main_cst_1 : FVec F S_ .bf16 := constant S_ .bf16 0x7F80#16
  let main_v7 : FVec F S5632x2048 .bf16 := broadcastInDim S5632x2048 ![] bcast_S_S5632x2048 main_cst_1
  let main_v8 : IVec S5632x2048 1 := cmpf .olt main_v6 main_v7
  let main_v9 : FVec F S2304x2048 .bf16 := Host.absf main_arg6
  let main_cst_2 : FVec F S_ .bf16 := constant S_ .bf16 0x7F80#16
  let main_v10 : FVec F S2304x2048 .bf16 := broadcastInDim S2304x2048 ![] bcast_S_S2304x2048 main_cst_2
  let main_v11 : IVec S2304x2048 1 := cmpf .olt main_v9 main_v10
  (main_v2, main_v5, main_v8, main_v11)
-- ==== Pre_finite_ffn2.lean ====
abbrev S2048x2048 : Shape := ⟨2, ![2048, 2048]⟩
abbrev S4x2048x1408 : Shape := ⟨3, ![4, 2048, 1408]⟩
abbrev S5632x2048 : Shape := ⟨2, ![5632, 2048]⟩
abbrev S1x2048 : Shape := ⟨2, ![1, 2048]⟩
abbrev S_ : Shape := ⟨0, ![]⟩

class Facts : Prop where
  bcast_S_S2048x2048 : S_.BroadcastsInDim S2048x2048 (![] : Fin 0 → Fin S2048x2048.rank)
  bcast_S_S4x2048x1408 : S_.BroadcastsInDim S4x2048x1408 (![] : Fin 0 → Fin S4x2048x1408.rank)
  bcast_S_S5632x2048 : S_.BroadcastsInDim S5632x2048 (![] : Fin 0 → Fin S5632x2048.rank)

variable [Facts]

def fn {F : FTy → Type} [FloatOps F] (main_arg0 : FVec F S2048x2048 .bf16) (main_arg1 : FVec F S4x2048x1408 .bf16) (main_arg2 : FVec F S4x2048x1408 .bf16) (main_arg3 : FVec F S5632x2048 .bf16) (main_arg4 : FVec F S2048x2048 .f32) (main_arg5 : FVec F S1x2048 .f32) (main_arg6 : FVec F S2048x2048 .bf16) : IVec S2048x2048 1 × IVec S4x2048x1408 1 × IVec S5632x2048 1 × IVec S2048x2048 1 :=
  let main_v0 : FVec F S2048x2048 .bf16 := Host.absf main_arg0
  let main_cst : FVec F S_ .bf16 := constant S_ .bf16 0x7F80#16
  let main_v1 : FVec F S2048x2048 .bf16 := broadcastInDim S2048x2048 ![] bcast_S_S2048x2048 main_cst
  let main_v2 : IVec S2048x2048 1 := cmpf .olt main_v0 main_v1
  let main_v3 : FVec F S4x2048x1408 .bf16 := Host.absf main_arg2
  let main_cst_0 : FVec F S_ .bf16 := constant S_ .bf16 0x7F80#16
  let main_v4 : FVec F S4x2048x1408 .bf16 := broadcastInDim S4x2048x1408 ![] bcast_S_S4x2048x1408 main_cst_0
  let main_v5 : IVec S4x2048x1408 1 := cmpf .olt main_v3 main_v4
  let main_v6 : FVec F S5632x2048 .bf16 := Host.absf main_arg3
  let main_cst_1 : FVec F S_ .bf16 := constant S_ .bf16 0x7F80#16
  let main_v7 : FVec F S5632x2048 .bf16 := broadcastInDim S5632x2048 ![] bcast_S_S5632x2048 main_cst_1
  let main_v8 : IVec S5632x2048 1 := cmpf .olt main_v6 main_v7
  let main_v9 : FVec F S2048x2048 .bf16 := Host.absf main_arg6
  let main_cst_2 : FVec F S_ .bf16 := constant S_ .bf16 0x7F80#16
  let main_v10 : FVec F S2048x2048 .bf16 := broadcastInDim S2048x2048 ![] bcast_S_S2048x2048 main_cst_2
  let main_v11 : IVec S2048x2048 1 := cmpf .olt main_v9 main_v10
  (main_v2, main_v5, main_v8, main_v11)
-- ==== Pre_finite_mod.lean ====
abbrev S8x2048 : Shape := ⟨2, ![8, 2048]⟩
abbrev S2048 : Shape := ⟨1, ![2048]⟩
abbrev S8x4608 : Shape := ⟨2, ![8, 4608]⟩
abbrev S1x4608 : Shape := ⟨2, ![1, 4608]⟩
abbrev S1x2048x4608 : Shape := ⟨3, ![1, 2048, 4608]⟩
abbrev S_ : Shape := ⟨0, ![]⟩

class Facts : Prop where
  bcast_S_S8x2048 : S_.BroadcastsInDim S8x2048 (![] : Fin 0 → Fin S8x2048.rank)
  bcast_S_S2048 : S_.BroadcastsInDim S2048 (![] : Fin 0 → Fin S2048.rank)
  bcast_S_S8x4608 : S_.BroadcastsInDim S8x4608 (![] : Fin 0 → Fin S8x4608.rank)
  bcast_S_S1x4608 : S_.BroadcastsInDim S1x4608 (![] : Fin 0 → Fin S1x4608.rank)

variable [Facts]

def fn {F : FTy → Type} [FloatOps F] (main_arg0 : FVec F S8x2048 .f32) (main_arg1 : FVec F S2048 .f32) (main_arg2 : FVec F S8x4608 .f32) (main_arg3 : FVec F S1x4608 .f32) (main_arg4 : FVec F S1x2048x4608 .f32) (main_arg5 : FVec F S1x2048x4608 .f32) (main_arg6 : FVec F S1x2048x4608 .f32) : IVec S8x2048 1 × IVec S2048 1 × IVec S8x4608 1 × IVec S1x4608 1 :=
  let main_cst : FVec F S_ .f32 := constant S_ .f32 0x7F800000#32
  let main_v0 : FVec F S8x2048 .f32 := broadcastInDim S8x2048 ![] bcast_S_S8x2048 main_cst
  let main_v1 : IVec S8x2048 1 := cmpf .olt main_arg0 main_v0
  let main_cst_0 : FVec F S_ .f32 := constant S_ .f32 0x7F800000#32
  let main_v2 : FVec F S2048 .f32 := broadcastInDim S2048 ![] bcast_S_S2048 main_cst_0
  let main_v3 : IVec S2048 1 := cmpf .olt main_arg1 main_v2
  let main_v4 : FVec F S8x4608 .f32 := Host.absf main_arg2
  let main_cst_1 : FVec F S_ .f32 := constant S_ .f32 0x7F800000#32
  let main_v5 : FVec F S8x4608 .f32 := broadcastInDim S8x4608 ![] bcast_S_S8x4608 main_cst_1
  let main_v6 : IVec S8x4608 1 := cmpf .olt main_v4 main_v5
  let main_v7 : FVec F S1x4608 .f32 := Host.absf main_arg3
  let main_cst_2 : FVec F S_ .f32 := constant S_ .f32 0x7F800000#32
  let main_v8 : FVec F S1x4608 .f32 := broadcastInDim S1x4608 ![] bcast_S_S1x4608 main_cst_2
  let main_v9 : IVec S1x4608 1 := cmpf .olt main_v7 main_v8
  (main_v1, main_v3, main_v6, main_v9)
-- ==== Pre_finite_qk.lean ====
abbrev S2304x2048 : Shape := ⟨2, ![2304, 2048]⟩
abbrev S2304x512 : Shape := ⟨2, ![2304, 512]⟩
abbrev S2048x2048 : Shape := ⟨2, ![2048, 2048]⟩
abbrev S_ : Shape := ⟨0, ![]⟩

class Facts : Prop where
  slices_S2304x2048_S2048x2048_256_0 : S2304x2048.Slices ![256, 0] S2048x2048
  bcast_S_S2048x2048 : S_.BroadcastsInDim S2048x2048 (![] : Fin 0 → Fin S2048x2048.rank)
  bcast_S_S2304x512 : S_.BroadcastsInDim S2304x512 (![] : Fin 0 → Fin S2304x512.rank)

variable [Facts]

def fn {F : FTy → Type} [FloatOps F] (main_arg0 : FVec F S2304x2048 .bf16) (main_arg1 : FVec F S2304x512 .bf16) (main_arg2 : FVec F S2304x512 .bf16) (main_arg3 : FVec F S2048x2048 .bf16) : IVec S2048x2048 1 × IVec S2304x512 1 :=
  let main_v0 : FVec F S2048x2048 .bf16 := (extractStridedSlice S2048x2048 ![256, 0] · slices_S2304x2048_S2048x2048_256_0) main_arg0
  let main_v1 : FVec F S2048x2048 .bf16 := Host.absf main_v0
  let main_cst : FVec F S_ .bf16 := constant S_ .bf16 0x7F80#16
  let main_v2 : FVec F S2048x2048 .bf16 := broadcastInDim S2048x2048 ![] bcast_S_S2048x2048 main_cst
  let main_v3 : IVec S2048x2048 1 := cmpf .olt main_v1 main_v2
  let main_v4 : FVec F S2304x512 .bf16 := Host.absf main_arg1
  let main_cst_0 : FVec F S_ .bf16 := constant S_ .bf16 0x7F80#16
  let main_v5 : FVec F S2304x512 .bf16 := broadcastInDim S2304x512 ![] bcast_S_S2304x512 main_cst_0
  let main_v6 : IVec S2304x512 1 := cmpf .olt main_v4 main_v5
  (main_v3, main_v6)
-- ==== Kernel.lean ====
abbrev S2304x2048 : Shape := ⟨2, ![2304, 2048]⟩
abbrev S2304x512 : Shape := ⟨2, ![2304, 512]⟩
abbrev S2048x2048 : Shape := ⟨2, ![2048, 2048]⟩
abbrev S256x512 : Shape := ⟨2, ![256, 512]⟩
abbrev S2304x128 : Shape := ⟨2, ![2304, 128]⟩
abbrev S256x128 : Shape := ⟨2, ![256, 128]⟩
abbrev S256x2304 : Shape := ⟨2, ![256, 2304]⟩
abbrev S256 : Shape := ⟨1, ![256]⟩
abbrev S256x1 : Shape := ⟨2, ![256, 1]⟩

abbrev nBuf : Space → Nat
  | .hbm => 7
  | .vmem => 14
  | .smem => 0
  | _ => 0

abbrev bufTy : (tb : Table) → Fin (tcTables nBuf tb) → BufTy
  | .hbm, ⟨0, _⟩ => ⟨S2304x2048, .bf16⟩
  | .hbm, ⟨1, _⟩ => ⟨S2304x512, .bf16⟩
  | .hbm, ⟨2, _⟩ => ⟨S2304x512, .bf16⟩
  | .hbm, ⟨3, _⟩ => ⟨S2048x2048, .bf16⟩
  | .hbm, ⟨4, _⟩ => ⟨S2048x2048, .f32⟩
  | .hbm, ⟨5, _⟩ => ⟨S2304x512, .f32⟩
  | .hbm, ⟨6, _⟩ => ⟨S2304x512, .f32⟩
  | .local _ .vmem, ⟨0, _⟩ => ⟨S256x512, .bf16⟩
  | .local _ .vmem, ⟨1, _⟩ => ⟨S256x512, .bf16⟩
  | .local _ .vmem, ⟨2, _⟩ => ⟨S2304x128, .bf16⟩
  | .local _ .vmem, ⟨3, _⟩ => ⟨S2304x128, .bf16⟩
  | .local _ .vmem, ⟨4, _⟩ => ⟨S2304x128, .bf16⟩
  | .local _ .vmem, ⟨5, _⟩ => ⟨S2304x128, .bf16⟩
  | .local _ .vmem, ⟨6, _⟩ => ⟨S256x512, .bf16⟩
  | .local _ .vmem, ⟨7, _⟩ => ⟨S256x512, .bf16⟩
  | .local _ .vmem, ⟨8, _⟩ => ⟨S256x512, .f32⟩
  | .local _ .vmem, ⟨9, _⟩ => ⟨S256x512, .f32⟩
  | .local _ .vmem, ⟨10, _⟩ => ⟨S2304x128, .f32⟩
  | .local _ .vmem, ⟨11, _⟩ => ⟨S2304x128, .f32⟩
  | .local _ .vmem, ⟨12, _⟩ => ⟨S2304x128, .f32⟩
  | .local _ .vmem, ⟨13, _⟩ => ⟨S2304x128, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 1, 8], ![false, false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v135 : BitVec 32 := Scalar.extui v2
  let c0_i32_68 : BitVec 32 := 0#32
  let v136 : BitVec 1 := Scalar.cmpi .ne v135 c0_i32_68
  v136

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v_true : BitVec 1 := 1#1
  let v137 : BitVec 1 := Scalar.xori v2 v_true
  let v138 : BitVec 32 := Scalar.extui v137
  let c0_i32_69 : BitVec 32 := 0#32
  let v139 : BitVec 1 := Scalar.cmpi .ne v138 c0_i32_69
  v139

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c1_i32_0 : BitVec 32 := 1#32
  let v1 : BitVec 32 := Scalar.muli arg0 c1_i32_0
  let v2 : BitVec 32 := Scalar.addi v1 arg1
  let c0_i32 : BitVec 32 := 0#32
  ![v0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg1
  let c0_i32 : BitVec 32 := 0#32
  ![arg2.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2304x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S2304x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== ReferenceIdeal.lean ====
abbrev S2304x2048 : Shape := ⟨2, ![2304, 2048]⟩
abbrev S2304x512 : Shape := ⟨2, ![2304, 512]⟩
abbrev S2048x2048 : Shape := ⟨2, ![2048, 2048]⟩
abbrev S2048x4x4x128 : Shape := ⟨4, ![2048, 4, 4, 128]⟩
abbrev S2304x4x128 : Shape := ⟨3, ![2304, 4, 128]⟩
abbrev S4x2304x2048x4 : Shape := ⟨4, ![4, 2304, 2048, 4]⟩
abbrev S4x4x2048x2304 : Shape := ⟨4, ![4, 4, 2048, 2304]⟩
abbrev S_ : Shape := ⟨0, ![]⟩
abbrev S4x4x2048 : Shape := ⟨3, ![4, 4, 2048]⟩
abbrev S4x4x2048x1 : Shape := ⟨4, ![4, 4, 2048, 1]⟩
abbrev S4x128x4x2048 : Shape := ⟨4, ![4, 128, 4, 2048]⟩
abbrev S4x128x2304 : Shape := ⟨3, ![4, 128, 2304]⟩
abbrev S4x2048x4x128 : Shape := ⟨4, ![4, 2048, 4, 128]⟩
abbrev S4x2304x128 : Shape := ⟨3, ![4, 2304, 128]⟩

abbrev nBuf : Space → Nat
  | .hbm => 88
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x512, .bf16⟩
  | .hbm, ⟨2, _⟩ => ⟨S2304x512, .bf16⟩
  | .hbm, ⟨3, _⟩ => ⟨S2048x2048, .bf16⟩
  | .hbm, ⟨4, _⟩ => ⟨S2048x2048, .bf16⟩
  | .hbm, ⟨5, _⟩ => ⟨S2048x2048, .f32⟩
  | .hbm, ⟨6, _⟩ => ⟨S2304x512, .f32⟩
  | .hbm, ⟨7, _⟩ => ⟨S2304x512, .f32⟩
  | .hbm, ⟨8, _⟩ => ⟨S2048x2048, .f32⟩
  | .hbm, ⟨9, _⟩ => ⟨S2048x4x4x128, .f32⟩
  | .hbm, ⟨10, _⟩ => ⟨S2304x4x128, .f32⟩
  | .hbm, ⟨11, _⟩ => ⟨S2304x4x128, .f32⟩
  | .hbm, ⟨12, _⟩ => ⟨S4x2304x2048x4, .f32⟩
  | .hbm, ⟨13, _⟩ => ⟨S4x4x2048x2304, .f32⟩
  | .hbm, ⟨14, _⟩ => ⟨S_, .f32⟩
  | .hbm, ⟨15, _⟩ => ⟨S4x4x2048x2304, .f32⟩
  | .hbm, ⟨16, _⟩ => ⟨S4x4x2048x2304, .f32⟩
  | .hbm, ⟨17, _⟩ => ⟨S_, .f32⟩
  | .hbm, ⟨18, _⟩ => ⟨S4x4x2048, .f32⟩
  | .hbm, ⟨19, _⟩ => ⟨S4x4x2048x1, .f32⟩
  | .hbm, ⟨20, _⟩ => ⟨S4x4x2048x2304, .f32⟩
  | .hbm, ⟨21, _⟩ => ⟨S4x4x2048x2304, .i1⟩
  | .hbm, ⟨22, _⟩ => ⟨S4x4x2048x2304, .f32⟩
  | .hbm, ⟨23, _⟩ => ⟨S_, .f32⟩
  | .hbm, ⟨24, _⟩ => ⟨S4x4x2048, .f32⟩
  | .hbm, ⟨25, _⟩ => ⟨S_, .f32⟩
  | .hbm, ⟨26, _⟩ => ⟨S4x4x2048, .f32⟩
  | .hbm, ⟨27, _⟩ => ⟨S4x4x2048, .f32⟩
  | .hbm, ⟨28, _⟩ => ⟨S_, .f32⟩
  | .hbm, ⟨29, _⟩ => ⟨S4x4x2048, .f32⟩
  | .hbm, ⟨30, _⟩ => ⟨S4x4x2048, .i1⟩
  | .hbm, ⟨31, _⟩ => ⟨S_, .f32⟩
  | .hbm, ⟨32, _⟩ => ⟨S4x4x2048, .f32⟩
  | .hbm, ⟨33, _⟩ => ⟨S4x4x2048, .i1⟩
  | .hbm, ⟨34, _⟩ => ⟨S_, .f32⟩
  | .hbm, ⟨35, _⟩ => ⟨S4x4x2048, .f32⟩
  | .hbm, ⟨36, _⟩ => ⟨S_, .f32⟩
  | .hbm, ⟨37, _⟩ => ⟨S4x4x2048, .f32⟩
  | .hbm, ⟨38, _⟩ => ⟨S_, .f32⟩
  | .hbm, ⟨39, _⟩ => ⟨S4x4x2048, .f32⟩
  | .hbm, ⟨40, _⟩ => ⟨S4x4x2048, .f32⟩
  | .hbm, ⟨41, _⟩ => ⟨S4x4x2048, .f32⟩
  | .hbm, ⟨42, _⟩ => ⟨S4x4x2048x1, .f32⟩
  | .hbm, ⟨43, _⟩ => ⟨S4x4x2048x2304, .f32⟩
  | .hbm, ⟨44, _⟩ => ⟨S4x4x2048x2304, .f32⟩
  | .hbm, ⟨45, _⟩ => ⟨S4x4x2048x2304, .f32⟩
  | .hbm, ⟨46, _⟩ => ⟨S_, .f32⟩
  | .hbm, ⟨47, _⟩ => ⟨S4x4x2048, .f32⟩
  | .hbm, ⟨48, _⟩ => ⟨S4x4x2048x1, .f32⟩
  | .hbm, ⟨49, _⟩ => ⟨S4x4x2048x2304, .f32⟩
  | .hbm, ⟨50, _⟩ => ⟨S4x4x2048x2304, .f32⟩
  | .hbm, ⟨51, _⟩ => ⟨S4x4x2048x1, .f32⟩
  | .hbm, ⟨52, _⟩ => ⟨S_, .f32⟩
  | .hbm, ⟨53, _⟩ => ⟨S4x4x2048x1, .f32⟩
  | .hbm, ⟨54, _⟩ => ⟨S4x4x2048x1, .f32⟩
  | .hbm, ⟨55, _⟩ => ⟨S4x128x4x2048, .f32⟩
  | .hbm, ⟨56, _⟩ => ⟨S2048x4x4x128, .f32⟩
  | .hbm, ⟨57, _⟩ => ⟨S2048x2048, .f32⟩
  | .hbm, ⟨58, _⟩ => ⟨S2048x4x4x128, .f32⟩
  | .hbm, ⟨59, _⟩ => ⟨S4x128x4x2048, .f32⟩
  | .hbm, ⟨60, _⟩ => ⟨S4x4x2048x2304, .f32⟩
  | .hbm, ⟨61, _⟩ => ⟨S4x128x2304, .f32⟩
  | .hbm, ⟨62, _⟩ => ⟨S2304x4x128, .f32⟩
  | .hbm, ⟨63, _⟩ => ⟨S4x4x2048x2304, .f32⟩
  | .hbm, ⟨64, _⟩ => ⟨S4x4x2048x2304, .f32⟩
  | .hbm, ⟨65, _⟩ => ⟨S4x4x2048x2304, .f32⟩
  | .hbm, ⟨66, _⟩ => ⟨S_, .f32⟩
  | .hbm, ⟨67, _⟩ => ⟨S4x4x2048, .f32⟩
  | .hbm, ⟨68, _⟩ => ⟨S4x4x2048x1, .f32⟩
  | .hbm, ⟨69, _⟩ => ⟨S4x4x2048x1, .f32⟩
  | .hbm, ⟨70, _⟩ => ⟨S4x4x2048x2304, .f32⟩
  | .hbm, ⟨71, _⟩ => ⟨S4x4x2048x2304, .f32⟩
  | .hbm, ⟨72, _⟩ => ⟨S_, .f32⟩
  | .hbm, ⟨73, _⟩ => ⟨S4x4x2048, .f32⟩
  | .hbm, ⟨74, _⟩ => ⟨S4x4x2048x2304, .f32⟩
  | .hbm, ⟨75, _⟩ => ⟨S4x4x2048x2304, .f32⟩
  | .hbm, ⟨76, _⟩ => ⟨S4x4x2048x2304, .f32⟩
  | .hbm, ⟨77, _⟩ => ⟨S_, .f32⟩
  | .hbm, ⟨78, _⟩ => ⟨S4x4x2048x2304, .f32⟩
  | .hbm, ⟨79, _⟩ => ⟨S4x4x2048x2304, .f32⟩
  | .hbm, ⟨80, _⟩ => ⟨S4x2304x2048x4, .f32⟩
  | .hbm, ⟨81, _⟩ => ⟨S4x2048x4x128, .f32⟩
  | .hbm, ⟨82, _⟩ => ⟨S2048x4x4x128, .f32⟩
  | .hbm, ⟨83, _⟩ => ⟨S4x2304x128, .f32⟩
  | .hbm, ⟨84, _⟩ => ⟨S2304x4x128, .f32⟩
  | .hbm, ⟨85, _⟩ => ⟨S2304x512, .f32⟩
  | .hbm, ⟨86, _⟩ => ⟨S2304x512, .f32⟩
  | .hbm, ⟨87, _⟩ => ⟨S2048x2048, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_11 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_12 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩

abbrev nD : Nat := 1
abbrev τ : Topo := Topo.v7x

variable {F : FTy → Type} [FloatOps F]
-- ==== Ffn2.lean ====
abbrev S2048x2048 : Shape := ⟨2, ![2048, 2048]⟩
abbrev S4x2048x1408 : Shape := ⟨3, ![4, 2048, 1408]⟩
abbrev S5632x2048 : Shape := ⟨2, ![5632, 2048]⟩
abbrev S1x2048 : Shape := ⟨2, ![1, 2048]⟩
abbrev S2048x5632 : Shape := ⟨2, ![2048, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩
abbrev S512x5632 : Shape := ⟨2, ![512, 5632]⟩
abbrev S5632x512 : Shape := ⟨2, ![5632, 512]⟩
abbrev S512x512 : Shape := ⟨2, ![512, 512]⟩
abbrev S1x512 : Shape := ⟨2, ![1, 512]⟩
abbrev S2048x512 : Shape := ⟨2, ![2048, 512]⟩
abbrev S2048x1024 : Shape := ⟨2, ![2048, 1024]⟩
abbrev S512x1024 : Shape := ⟨2, ![512, 1024]⟩
abbrev S1408x2048 : Shape := ⟨2, ![1408, 2048]⟩
abbrev S1x512x1408 : Shape := ⟨3, ![1, 512, 1408]⟩

abbrev nBuf : Space → Nat
  | .hbm => 17
  | .vmem => 56
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S4x2048x1408, .bf16⟩
  | .hbm, ⟨3, _⟩ => ⟨S5632x2048, .bf16⟩
  | .hbm, ⟨4, _⟩ => ⟨S2048x2048, .f32⟩
  | .hbm, ⟨5, _⟩ => ⟨S1x2048, .f32⟩
  | .hbm, ⟨6, _⟩ => ⟨S2048x2048, .bf16⟩
  | .hbm, ⟨7, _⟩ => ⟨S2048x5632, .bf16⟩
  | .hbm, ⟨8, _⟩ => ⟨S2048x5632, .bf16⟩
  | .hbm, ⟨9, _⟩ => ⟨S2048x5632, .bf16⟩
  | .hbm, ⟨10, _⟩ => ⟨S2048x2048, .f32⟩
  | .hbm, ⟨11, _⟩ => ⟨S2048x2048, .f32⟩
  | .hbm, ⟨12, _⟩ => ⟨S5632x2048, .bf16⟩
  | .hbm, ⟨13, _⟩ => ⟨S2048x5632, .bf16⟩
  | .hbm, ⟨14, _⟩ => ⟨S2048x5632, .bf16⟩
  | .hbm, ⟨15, _⟩ => ⟨S4x2048x1408, .bf16⟩
  | .hbm, ⟨16, _⟩ => ⟨S4x2048x1408, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S512x2048, .bf16⟩
  | .local _ .vmem, ⟨5, _⟩ => ⟨S512x2048, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x5632, .bf16⟩
  | .local _ .vmem, ⟨15, _⟩ => ⟨S512x5632, .bf16⟩
  | .local _ .vmem, ⟨16, _⟩ => ⟨S5632x512, .bf16⟩
  | .local _ .vmem, ⟨17, _⟩ => ⟨S5632x512, .bf16⟩
  | .local _ .vmem, ⟨18, _⟩ => ⟨S512x512, .f32⟩
  | .local _ .vmem, ⟨19, _⟩ => ⟨S512x512, .f32⟩
  | .local _ .vmem, ⟨20, _⟩ => ⟨S1x512, .f32⟩
  | .local _ .vmem, ⟨21, _⟩ => ⟨S1x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S2048x512, .bf16⟩
  | .local _ .vmem, ⟨27, _⟩ => ⟨S2048x512, .bf16⟩
  | .local _ .vmem, ⟨28, _⟩ => ⟨S2048x1024, .bf16⟩
  | .local _ .vmem, ⟨29, _⟩ => ⟨S2048x1024, .bf16⟩
  | .local _ .vmem, ⟨30, _⟩ => ⟨S512x1024, .bf16⟩
  | .local _ .vmem, ⟨31, _⟩ => ⟨S512x1024, .bf16⟩
  | .local _ .vmem, ⟨32, _⟩ => ⟨S512x2048, .bf16⟩
  | .local _ .vmem, ⟨33, _⟩ => ⟨S512x2048, .bf16⟩
  | .local _ .vmem, ⟨34, _⟩ => ⟨S1408x2048, .bf16⟩
  | .local _ .vmem, ⟨35, _⟩ => ⟨S1408x2048, .bf16⟩
  | .local _ .vmem, ⟨36, _⟩ => ⟨S512x1408, .bf16⟩
  | .local _ .vmem, ⟨37, _⟩ => ⟨S512x1408, .bf16⟩
  | .local _ .vmem, ⟨38, _⟩ => ⟨S512x1408, .bf16⟩
  | .local _ .vmem, ⟨39, _⟩ => ⟨S512x1408, .bf16⟩
  | .local _ .vmem, ⟨40, _⟩ => ⟨S512x1408, .bf16⟩
  | .local _ .vmem, ⟨41, _⟩ => ⟨S512x1408, .bf16⟩
  | .local _ .vmem, ⟨42, _⟩ => ⟨S512x1408, .bf16⟩
  | .local _ .vmem, ⟨43, _⟩ => ⟨S512x1408, .bf16⟩
  | .local _ .vmem, ⟨44, _⟩ => ⟨S2048x512, .bf16⟩
  | .local _ .vmem, ⟨45, _⟩ => ⟨S2048x512, .bf16⟩
  | .local _ .vmem, ⟨46, _⟩ => ⟨S2048x1408, .bf16⟩
  | .local _ .vmem, ⟨47, _⟩ => ⟨S2048x1408, .bf16⟩
  | .local _ .vmem, ⟨48, _⟩ => ⟨S1x512x1408, .bf16⟩
  | .local _ .vmem, ⟨49, _⟩ => ⟨S1x512x1408, .bf16⟩
  | .local _ .vmem, ⟨50, _⟩ => ⟨S2048x512, .bf16⟩
  | .local _ .vmem, ⟨51, _⟩ => ⟨S2048x512, .bf16⟩
  | .local _ .vmem, ⟨52, _⟩ => ⟨S2048x1408, .bf16⟩
  | .local _ .vmem, ⟨53, _⟩ => ⟨S2048x1408, .bf16⟩
  | .local _ .vmem, ⟨54, _⟩ => ⟨S1x512x1408, .bf16⟩
  | .local _ .vmem, ⟨55, _⟩ => ⟨S1x512x1408, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1_0 : Ref sig .tc := ⟨.hbm, 10, rfl⟩
abbrev main_v1_1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc3_stg4_0 : Ref sig .tc := ⟨.vmem, 40, rfl⟩
abbrev cc3_stg4_1 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem3_1 : DmaSem sig := 39
abbrev cc3_sem4_0 : DmaSem sig := 40
abbrev cc3_sem4_1 : DmaSem sig := 41
abbrev cc3_sem5_0 : DmaSem sig := 42
abbrev cc3_sem5_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev grid1 : Pipeline.Grid := ⟨3, ![4, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg0 c0_i32_0
  let c0_i32_1 : BitVec 32 := 0#32
  ![v0.toNat, v1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S512x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S5632x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S512x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev grid2 : Pipeline.Grid := ⟨3, ![2, 11, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S2048x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 2 → Memref sig .tc .vmem S2048x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg0 c0_i32_0
  let c0_i32_1 : BitVec 32 := 0#32
  ![v0.toNat, v1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg0 c0_i32_0
  let c0_i32_1 : BitVec 32 := 0#32
  ![v0.toNat, v1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S512x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 2 → Memref sig .tc .vmem S1408x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S512x1408 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S512x1408 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 2 → Memref sig .tc .vmem S512x1408 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev stage3_5 : Fin 2 → Memref sig .tc .vmem S512x1408 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev grid4 : Pipeline.Grid := ⟨3, ![4, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage4_0 : Fin 2 → Memref sig .tc .vmem S2048x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, true]

abbrev stage4_1 : Fin 2 → Memref sig .tc .vmem S2048x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S1x512x1408 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage5_0 : Fin 2 → Memref sig .tc .vmem S2048x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, true]

abbrev stage5_1 : Fin 2 → Memref sig .tc .vmem S2048x1408 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true]

abbrev stage5_2 : Fin 2 → Memref sig .tc .vmem S1x512x1408 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Ffn2RefIdeal.lean ====
abbrev S2048x2048 : Shape := ⟨2, ![2048, 2048]⟩
abbrev S4x2048x1408 : Shape := ⟨3, ![4, 2048, 1408]⟩
abbrev S5632x2048 : Shape := ⟨2, ![5632, 2048]⟩
abbrev S1x2048 : Shape := ⟨2, ![1, 2048]⟩
abbrev S2048x4x1408 : Shape := ⟨3, ![2048, 4, 1408]⟩
abbrev S2048x5632 : Shape := ⟨2, ![2048, 5632]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x1408, .bf16⟩
  | .hbm, ⟨2, _⟩ => ⟨S4x2048x1408, .bf16⟩
  | .hbm, ⟨3, _⟩ => ⟨S5632x2048, .bf16⟩
  | .hbm, ⟨4, _⟩ => ⟨S2048x2048, .f32⟩
  | .hbm, ⟨5, _⟩ => ⟨S1x2048, .f32⟩
  | .hbm, ⟨6, _⟩ => ⟨S2048x2048, .bf16⟩
  | .hbm, ⟨7, _⟩ => ⟨S2048x2048, .f32⟩
  | .hbm, ⟨8, _⟩ => ⟨S4x2048x1408, .f32⟩
  | .hbm, ⟨9, _⟩ => ⟨S4x2048x1408, .f32⟩
  | .hbm, ⟨10, _⟩ => ⟨S5632x2048, .f32⟩
  | .hbm, ⟨11, _⟩ => ⟨S2048x4x1408, .f32⟩
  | .hbm, ⟨12, _⟩ => ⟨S2048x5632, .f32⟩
  | .hbm, ⟨13, _⟩ => ⟨S2048x5632, .f32⟩
  | .hbm, ⟨14, _⟩ => ⟨S2048x5632, .f32⟩
  | .hbm, ⟨15, _⟩ => ⟨S2048x5632, .f32⟩
  | .hbm, ⟨16, _⟩ => ⟨S_, .f32⟩
  | .hbm, ⟨17, _⟩ => ⟨S2048x5632, .f32⟩
  | .hbm, ⟨18, _⟩ => ⟨S2048x5632, .f32⟩
  | .hbm, ⟨19, _⟩ => ⟨S_, .f32⟩
  | .hbm, ⟨20, _⟩ => ⟨S2048x5632, .f32⟩
  | .hbm, ⟨21, _⟩ => ⟨S2048x5632, .f32⟩
  | .hbm, ⟨22, _⟩ => ⟨S_, .f32⟩
  | .hbm, ⟨23, _⟩ => ⟨S2048x5632, .f32⟩
  | .hbm, ⟨24, _⟩ => ⟨S2048x5632, .f32⟩
  | .hbm, ⟨25, _⟩ => ⟨S2048x5632, .f32⟩
  | .hbm, ⟨26, _⟩ => ⟨S2048x5632, .f32⟩
  | .hbm, ⟨27, _⟩ => ⟨S2048x4x1408, .f32⟩
  | .hbm, ⟨28, _⟩ => ⟨S2048x5632, .f32⟩
  | .hbm, ⟨29, _⟩ => ⟨S2048x5632, .f32⟩
  | .hbm, ⟨30, _⟩ => ⟨S2048x5632, .f32⟩
  | .hbm, ⟨31, _⟩ => ⟨S2048x2048, .f32⟩
  | .hbm, ⟨32, _⟩ => ⟨S2048x2048, .f32⟩
  | .hbm, ⟨33, _⟩ => ⟨S2048x5632, .f32⟩
  | .hbm, ⟨34, _⟩ => ⟨S5632x2048, .f32⟩
  | .hbm, ⟨35, _⟩ => ⟨S2048x5632, .f32⟩
  | .hbm, ⟨36, _⟩ => ⟨S2048x5632, .f32⟩
  | .hbm, ⟨37, _⟩ => ⟨S2048x5632, .f32⟩
  | .hbm, ⟨38, _⟩ => ⟨S5632x2048, .f32⟩
  | .hbm, ⟨39, _⟩ => ⟨S2048x5632, .f32⟩
  | .hbm, ⟨40, _⟩ => ⟨S2048x2048, .f32⟩
  | .hbm, ⟨41, _⟩ => ⟨S2048x4x1408, .f32⟩
  | .hbm, ⟨42, _⟩ => ⟨S4x2048x1408, .f32⟩
  | .hbm, ⟨43, _⟩ => ⟨S2048x5632, .f32⟩
  | .hbm, ⟨44, _⟩ => ⟨S2048x5632, .f32⟩
  | .hbm, ⟨45, _⟩ => ⟨S2048x5632, .f32⟩
  | .hbm, ⟨46, _⟩ => ⟨S2048x5632, .f32⟩
  | .hbm, ⟨47, _⟩ => ⟨S5632x2048, .f32⟩
  | .hbm, ⟨48, _⟩ => ⟨S2048x5632, .f32⟩
  | .hbm, ⟨49, _⟩ => ⟨S2048x2048, .f32⟩
  | .hbm, ⟨50, _⟩ => ⟨S2048x2048, .f32⟩
  | .hbm, ⟨51, _⟩ => ⟨S2048x4x1408, .f32⟩
  | .hbm, ⟨52, _⟩ => ⟨S4x2048x1408, .f32⟩
  | .hbm, ⟨53, _⟩ => ⟨S_, .f32⟩
  | .hbm, ⟨54, _⟩ => ⟨S1x2048, .f32⟩
  | .hbm, ⟨55, _⟩ => ⟨S1x2048, .f32⟩
  | .hbm, ⟨56, _⟩ => ⟨S2048x2048, .f32⟩
  | .hbm, ⟨57, _⟩ => ⟨S2048x2048, .f32⟩
  | .hbm, ⟨58, _⟩ => ⟨S2048x2048, .f32⟩
  | .hbm, ⟨59, _⟩ => ⟨S4x2048x1408, .bf16⟩
  | .hbm, ⟨60, _⟩ => ⟨S4x2048x1408, .bf16⟩
  | .hbm, ⟨61, _⟩ => ⟨S5632x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v7_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v7_1 : Ref sig .tc := ⟨.hbm, 25, rfl⟩
abbrev main_v7_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩

abbrev nD : Nat := 1
abbrev τ : Topo := Topo.v7x

variable {F : FTy → Type} [FloatOps F]
-- ==== Ffn1.lean ====
abbrev S2304x2048 : Shape := ⟨2, ![2304, 2048]⟩
abbrev S4x2048x1408 : Shape := ⟨3, ![4, 2048, 1408]⟩
abbrev S5632x2048 : Shape := ⟨2, ![5632, 2048]⟩
abbrev S2x2048 : Shape := ⟨2, ![2, 2048]⟩
abbrev S2304x5632 : Shape := ⟨2, ![2304, 5632]⟩
abbrev S384x2048 : Shape := ⟨2, ![384, 2048]⟩
abbrev S1x2048x1408 : Shape := ⟨3, ![1, 2048, 1408]⟩
abbrev S384x1408 : Shape := ⟨2, ![384, 1408]⟩
abbrev S2048x1408 : Shape := ⟨2, ![2048, 1408]⟩
abbrev S768x5632 : Shape := ⟨2, ![768, 5632]⟩
abbrev S5632x512 : Shape := ⟨2, ![5632, 512]⟩
abbrev S768x512 : Shape := ⟨2, ![768, 512]⟩
abbrev S2x512 : Shape := ⟨2, ![2, 512]⟩
abbrev S768x1 : Shape := ⟨2, ![768, 1]⟩
abbrev S1x512 : Shape := ⟨2, ![1, 512]⟩
abbrev S2304x512 : Shape := ⟨2, ![2304, 512]⟩
abbrev S2304x1024 : Shape := ⟨2, ![2304, 1024]⟩
abbrev S512x1024 : Shape := ⟨2, ![512, 1024]⟩
abbrev S1408x2048 : Shape := ⟨2, ![1408, 2048]⟩
abbrev S2304x1408 : Shape := ⟨2, ![2304, 1408]⟩
abbrev S1x512x1408 : Shape := ⟨3, ![1, 512, 1408]⟩
abbrev S512x1408 : Shape := ⟨2, ![512, 1408]⟩

abbrev nBuf : Space → Nat
  | .hbm => 17
  | .vmem => 56
  | .smem => 0
  | _ => 0

abbrev bufTy : (tb : Table) → Fin (tcTables nBuf tb) → BufTy
  | .hbm, ⟨0, _⟩ => ⟨S2304x2048, .bf16⟩
  | .hbm, ⟨1, _⟩ => ⟨S4x2048x1408, .bf16⟩
  | .hbm, ⟨2, _⟩ => ⟨S4x2048x1408, .bf16⟩
  | .hbm, ⟨3, _⟩ => ⟨S5632x2048, .bf16⟩
  | .hbm, ⟨4, _⟩ => ⟨S2304x2048, .f32⟩
  | .hbm, ⟨5, _⟩ => ⟨S2x2048, .f32⟩
  | .hbm, ⟨6, _⟩ => ⟨S2304x2048, .bf16⟩
  | .hbm, ⟨7, _⟩ => ⟨S2304x5632, .bf16⟩
  | .hbm, ⟨8, _⟩ => ⟨S2304x5632, .bf16⟩
  | .hbm, ⟨9, _⟩ => ⟨S2304x5632, .bf16⟩
  | .hbm, ⟨10, _⟩ => ⟨S2304x2048, .f32⟩
  | .hbm, ⟨11, _⟩ => ⟨S2304x2048, .f32⟩
  | .hbm, ⟨12, _⟩ => ⟨S5632x2048, .bf16⟩
  | .hbm, ⟨13, _⟩ => ⟨S2304x5632, .bf16⟩
  | .hbm, ⟨14, _⟩ => ⟨S2304x5632, .bf16⟩
  | .hbm, ⟨15, _⟩ => ⟨S4x2048x1408, .bf16⟩
  | .hbm, ⟨16, _⟩ => ⟨S4x2048x1408, .bf16⟩
  | .local _ .vmem, ⟨0, _⟩ => ⟨S384x2048, .bf16⟩
  | .local _ .vmem, ⟨1, _⟩ => ⟨S384x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S384x2048, .bf16⟩
  | .local _ .vmem, ⟨5, _⟩ => ⟨S384x2048, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S384x1408, .bf16⟩
  | .local _ .vmem, ⟨9, _⟩ => ⟨S384x1408, .bf16⟩
  | .local _ .vmem, ⟨10, _⟩ => ⟨S384x1408, .bf16⟩
  | .local _ .vmem, ⟨11, _⟩ => ⟨S384x1408, .bf16⟩
  | .local _ .vmem, ⟨12, _⟩ => ⟨S384x1408, .bf16⟩
  | .local _ .vmem, ⟨13, _⟩ => ⟨S384x1408, .bf16⟩
  | .local _ .vmem, ⟨14, _⟩ => ⟨S768x5632, .bf16⟩
  | .local _ .vmem, ⟨15, _⟩ => ⟨S768x5632, .bf16⟩
  | .local _ .vmem, ⟨16, _⟩ => ⟨S5632x512, .bf16⟩
  | .local _ .vmem, ⟨17, _⟩ => ⟨S5632x512, .bf16⟩
  | .local _ .vmem, ⟨18, _⟩ => ⟨S768x512, .f32⟩
  | .local _ .vmem, ⟨19, _⟩ => ⟨S768x512, .f32⟩
  | .local _ .vmem, ⟨20, _⟩ => ⟨S2x512, .f32⟩
  | .local _ .vmem, ⟨21, _⟩ => ⟨S2x512, .f32⟩
  | .local _ .vmem, ⟨22, _⟩ => ⟨S768x512, .f32⟩
  | .local _ .vmem, ⟨23, _⟩ => ⟨S768x512, .f32⟩
  | .local _ .vmem, ⟨24, _⟩ => ⟨S768x512, .f32⟩
  | .local _ .vmem, ⟨25, _⟩ => ⟨S768x512, .f32⟩
  | .local _ .vmem, ⟨26, _⟩ => ⟨S2304x512, .bf16⟩
  | .local _ .vmem, ⟨27, _⟩ => ⟨S2304x512, .bf16⟩
  | .local _ .vmem, ⟨28, _⟩ => ⟨S2304x1024, .bf16⟩
  | .local _ .vmem, ⟨29, _⟩ => ⟨S2304x1024, .bf16⟩
  | .local _ .vmem, ⟨30, _⟩ => ⟨S512x1024, .bf16⟩
  | .local _ .vmem, ⟨31, _⟩ => ⟨S512x1024, .bf16⟩
  | .local _ .vmem, ⟨32, _⟩ => ⟨S384x2048, .bf16⟩
  | .local _ .vmem, ⟨33, _⟩ => ⟨S384x2048, .bf16⟩
  | .local _ .vmem, ⟨34, _⟩ => ⟨S1408x2048, .bf16⟩
  | .local _ .vmem, ⟨35, _⟩ => ⟨S1408x2048, .bf16⟩
  | .local _ .vmem, ⟨36, _⟩ => ⟨S384x1408, .bf16⟩
  | .local _ .vmem, ⟨37, _⟩ => ⟨S384x1408, .bf16⟩
  | .local _ .vmem, ⟨38, _⟩ => ⟨S384x1408, .bf16⟩
  | .local _ .vmem, ⟨39, _⟩ => ⟨S384x1408, .bf16⟩
  | .local _ .vmem, ⟨40, _⟩ => ⟨S384x1408, .bf16⟩
  | .local _ .vmem, ⟨41, _⟩ => ⟨S384x1408, .bf16⟩
  | .local _ .vmem, ⟨42, _⟩ => ⟨S384x1408, .bf16⟩
  | .local _ .vmem, ⟨43, _⟩ => ⟨S384x1408, .bf16⟩
  | .local _ .vmem, ⟨44, _⟩ => ⟨S2304x512, .bf16⟩
  | .local _ .vmem, ⟨45, _⟩ => ⟨S2304x512, .bf16⟩
  | .local _ .vmem, ⟨46, _⟩ => ⟨S2304x1408, .bf16⟩
  | .local _ .vmem, ⟨47, _⟩ => ⟨S2304x1408, .bf16⟩
  | .local _ .vmem, ⟨48, _⟩ => ⟨S1x512x1408, .bf16⟩
  | .local _ .vmem, ⟨49, _⟩ => ⟨S1x512x1408, .bf16⟩
  | .local _ .vmem, ⟨50, _⟩ => ⟨S2304x512, .bf16⟩
  | .local _ .vmem, ⟨51, _⟩ => ⟨S2304x512, .bf16⟩
  | .local _ .vmem, ⟨52, _⟩ => ⟨S2304x1408, .bf16⟩
  | .local _ .vmem, ⟨53, _⟩ => ⟨S2304x1408, .bf16⟩
  | .local _ .vmem, ⟨54, _⟩ => ⟨S1x512x1408, .bf16⟩
  | .local _ .vmem, ⟨55, _⟩ => ⟨S1x512x1408, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1_0 : Ref sig .tc := ⟨.hbm, 10, rfl⟩
abbrev main_v1_1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc3_stg4_0 : Ref sig .tc := ⟨.vmem, 40, rfl⟩
abbrev cc3_stg4_1 : Ref sig .tc := ⟨.vmem, 41, rfl⟩
abbrev cc3_stg5_0 : Ref sig .tc := ⟨.vmem, 42, rfl⟩
abbrev cc3_stg5_1 : Ref sig .tc := ⟨.vmem, 43, rfl⟩
abbrev cc4_stg0_0 : Ref sig .tc := ⟨.vmem, 44, rfl⟩
abbrev cc4_stg0_1 : Ref sig .tc := ⟨.vmem, 45, rfl⟩
abbrev cc4_stg1_0 : Ref sig .tc := ⟨.vmem, 46, rfl⟩
abbrev cc4_stg1_1 : Ref sig .tc := ⟨.vmem, 47, rfl⟩
abbrev cc4_stg2_0 : Ref sig .tc := ⟨.vmem, 48, rfl⟩
abbrev cc4_stg2_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg1_1 : Ref sig .tc := ⟨.vmem, 53, rfl⟩
abbrev cc5_stg2_0 : Ref sig .tc := ⟨.vmem, 54, rfl⟩
abbrev cc5_stg2_1 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem3_1 : DmaSem sig := 39
abbrev cc3_sem4_0 : DmaSem sig := 40
abbrev cc3_sem4_1 : DmaSem sig := 41
abbrev cc3_sem5_0 : DmaSem sig := 42
abbrev cc3_sem5_1 : DmaSem sig := 43
abbrev cc4_sem0_0 : DmaSem sig := 44
abbrev cc4_sem0_1 : DmaSem sig := 45
abbrev cc4_sem1_0 : DmaSem sig := 46
abbrev cc4_sem1_1 : DmaSem sig := 47
abbrev cc4_sem2_0 : DmaSem sig := 48
abbrev cc4_sem2_1 : DmaSem sig := 49
abbrev cc5_sem0_0 : DmaSem sig := 50
abbrev cc5_sem0_1 : DmaSem sig := 51
abbrev cc5_sem1_0 : DmaSem sig := 52
abbrev cc5_sem1_1 : DmaSem sig := 53
abbrev cc5_sem2_0 : DmaSem sig := 54
abbrev cc5_sem2_1 : DmaSem sig := 55

abbrev nD : Nat := 1
abbrev τ : Topo := Topo.v7x

variable {F : FTy → Type} [FloatOps F]

abbrev grid0 : Pipeline.Grid := ⟨3, ![4, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S384x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S384x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S384x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S384x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev grid1 : Pipeline.Grid := ⟨3, ![4, 3, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg0 c0_i32_0
  let c0_i32_1 : BitVec 32 := 0#32
  ![v0.toNat, v1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S768x5632 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S5632x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S768x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S2x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S768x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S768x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev grid2 : Pipeline.Grid := ⟨3, ![2, 11, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S2304x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 2 → Memref sig .tc .vmem S2304x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S512x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev grid3 : Pipeline.Grid := ⟨3, ![4, 6, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg0 c0_i32_0
  let c0_i32_1 : BitVec 32 := 0#32
  ![v0.toNat, v1.toNat]

def cc3_transform_3 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg0 c0_i32_0
  let c0_i32_1 : BitVec 32 := 0#32
  ![v0.toNat, v1.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc3_transform_5 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S384x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 2 → Memref sig .tc .vmem S1408x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S384x1408 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S384x1408 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 2 → Memref sig .tc .vmem S384x1408 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, false]

abbrev stage3_5 : Fin 2 → Memref sig .tc .vmem S384x1408 .bf16 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, true, false]

abbrev grid4 : Pipeline.Grid := ⟨3, ![4, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc4_transform_2 (i : grid4.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage4_0 : Fin 2 → Memref sig .tc .vmem S2304x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, true]

abbrev stage4_1 : Fin 2 → Memref sig .tc .vmem S2304x1408 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S1x512x1408 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_2 (i : grid5.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage5_0 : Fin 2 → Memref sig .tc .vmem S2304x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, true]

abbrev stage5_1 : Fin 2 → Memref sig .tc .vmem S2304x1408 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true]

abbrev stage5_2 : Fin 2 → Memref sig .tc .vmem S1x512x1408 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]
-- ==== Ffn1RefIdeal.lean ====
abbrev S2304x2048 : Shape := ⟨2, ![2304, 2048]⟩
abbrev S4x2048x1408 : Shape := ⟨3, ![4, 2048, 1408]⟩
abbrev S5632x2048 : Shape := ⟨2, ![5632, 2048]⟩
abbrev S2x2048 : Shape := ⟨2, ![2, 2048]⟩
abbrev S2048x4x1408 : Shape := ⟨3, ![2048, 4, 1408]⟩
abbrev S2048x5632 : Shape := ⟨2, ![2048, 5632]⟩
abbrev S2304x5632 : Shape := ⟨2, ![2304, 5632]⟩
abbrev S_ : Shape := ⟨0, ![]⟩
abbrev S2304 : Shape := ⟨1, ![2304]⟩
abbrev S2304x1 : Shape := ⟨2, ![2304, 1]⟩
abbrev S1x2048 : Shape := ⟨2, ![1, 2048]⟩

abbrev nBuf : Space → Nat
  | .hbm => 72
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S4x2048x1408, .bf16⟩
  | .hbm, ⟨2, _⟩ => ⟨S4x2048x1408, .bf16⟩
  | .hbm, ⟨3, _⟩ => ⟨S5632x2048, .bf16⟩
  | .hbm, ⟨4, _⟩ => ⟨S2304x2048, .f32⟩
  | .hbm, ⟨5, _⟩ => ⟨S2x2048, .f32⟩
  | .hbm, ⟨6, _⟩ => ⟨S2304x2048, .bf16⟩
  | .hbm, ⟨7, _⟩ => ⟨S2304x2048, .f32⟩
  | .hbm, ⟨8, _⟩ => ⟨S4x2048x1408, .f32⟩
  | .hbm, ⟨9, _⟩ => ⟨S4x2048x1408, .f32⟩
  | .hbm, ⟨10, _⟩ => ⟨S5632x2048, .f32⟩
  | .hbm, ⟨11, _⟩ => ⟨S2048x4x1408, .f32⟩
  | .hbm, ⟨12, _⟩ => ⟨S2048x5632, .f32⟩
  | .hbm, ⟨13, _⟩ => ⟨S2304x5632, .f32⟩
  | .hbm, ⟨14, _⟩ => ⟨S2304x5632, .f32⟩
  | .hbm, ⟨15, _⟩ => ⟨S2304x5632, .f32⟩
  | .hbm, ⟨16, _⟩ => ⟨S_, .f32⟩
  | .hbm, ⟨17, _⟩ => ⟨S2304x5632, .f32⟩
  | .hbm, ⟨18, _⟩ => ⟨S2304x5632, .f32⟩
  | .hbm, ⟨19, _⟩ => ⟨S_, .f32⟩
  | .hbm, ⟨20, _⟩ => ⟨S2304x5632, .f32⟩
  | .hbm, ⟨21, _⟩ => ⟨S2304x5632, .f32⟩
  | .hbm, ⟨22, _⟩ => ⟨S_, .f32⟩
  | .hbm, ⟨23, _⟩ => ⟨S2304x5632, .f32⟩
  | .hbm, ⟨24, _⟩ => ⟨S2304x5632, .f32⟩
  | .hbm, ⟨25, _⟩ => ⟨S2304x5632, .f32⟩
  | .hbm, ⟨26, _⟩ => ⟨S2304x5632, .f32⟩
  | .hbm, ⟨27, _⟩ => ⟨S2048x4x1408, .f32⟩
  | .hbm, ⟨28, _⟩ => ⟨S2048x5632, .f32⟩
  | .hbm, ⟨29, _⟩ => ⟨S2304x5632, .f32⟩
  | .hbm, ⟨30, _⟩ => ⟨S2304x5632, .f32⟩
  | .hbm, ⟨31, _⟩ => ⟨S2304x2048, .f32⟩
  | .hbm, ⟨32, _⟩ => ⟨S2304x2048, .f32⟩
  | .hbm, ⟨33, _⟩ => ⟨S2048x5632, .f32⟩
  | .hbm, ⟨34, _⟩ => ⟨S5632x2048, .f32⟩
  | .hbm, ⟨35, _⟩ => ⟨S2304x5632, .f32⟩
  | .hbm, ⟨36, _⟩ => ⟨S2304x5632, .f32⟩
  | .hbm, ⟨37, _⟩ => ⟨S2304x5632, .f32⟩
  | .hbm, ⟨38, _⟩ => ⟨S5632x2048, .f32⟩
  | .hbm, ⟨39, _⟩ => ⟨S2048x5632, .f32⟩
  | .hbm, ⟨40, _⟩ => ⟨S2304x2048, .f32⟩
  | .hbm, ⟨41, _⟩ => ⟨S2048x4x1408, .f32⟩
  | .hbm, ⟨42, _⟩ => ⟨S4x2048x1408, .f32⟩
  | .hbm, ⟨43, _⟩ => ⟨S2304x5632, .f32⟩
  | .hbm, ⟨44, _⟩ => ⟨S2304x5632, .f32⟩
  | .hbm, ⟨45, _⟩ => ⟨S2304x5632, .f32⟩
  | .hbm, ⟨46, _⟩ => ⟨S2304x5632, .f32⟩
  | .hbm, ⟨47, _⟩ => ⟨S5632x2048, .f32⟩
  | .hbm, ⟨48, _⟩ => ⟨S2048x5632, .f32⟩
  | .hbm, ⟨49, _⟩ => ⟨S2304x2048, .f32⟩
  | .hbm, ⟨50, _⟩ => ⟨S2304x2048, .f32⟩
  | .hbm, ⟨51, _⟩ => ⟨S2048x4x1408, .f32⟩
  | .hbm, ⟨52, _⟩ => ⟨S4x2048x1408, .f32⟩
  | .hbm, ⟨53, _⟩ => ⟨S2304, .i32⟩
  | .hbm, ⟨54, _⟩ => ⟨S2304x1, .i32⟩
  | .hbm, ⟨55, _⟩ => ⟨S_, .i32⟩
  | .hbm, ⟨56, _⟩ => ⟨S2304x1, .i32⟩
  | .hbm, ⟨57, _⟩ => ⟨S2304x1, .i1⟩
  | .hbm, ⟨58, _⟩ => ⟨S1x2048, .f32⟩
  | .hbm, ⟨59, _⟩ => ⟨S1x2048, .f32⟩
  | .hbm, ⟨60, _⟩ => ⟨S2304x2048, .i1⟩
  | .hbm, ⟨61, _⟩ => ⟨S2304x2048, .f32⟩
  | .hbm, ⟨62, _⟩ => ⟨S2304x2048, .f32⟩
  | .hbm, ⟨63, _⟩ => ⟨S2304x2048, .f32⟩
  | .hbm, ⟨64, _⟩ => ⟨S_, .f32⟩
  | .hbm, ⟨65, _⟩ => ⟨S2304x2048, .f32⟩
  | .hbm, ⟨66, _⟩ => ⟨S2304x2048, .f32⟩
  | .hbm, ⟨67, _⟩ => ⟨S2304x2048, .f32⟩
  | .hbm, ⟨68, _⟩ => ⟨S2304x2048, .f32⟩
  | .hbm, ⟨69, _⟩ => ⟨S4x2048x1408, .bf16⟩
  | .hbm, ⟨70, _⟩ => ⟨S4x2048x1408, .bf16⟩
  | .hbm, ⟨71, _⟩ => ⟨S5632x2048, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v7_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v7_1 : Ref sig .tc := ⟨.hbm, 25, rfl⟩
abbrev main_v7_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_v37 : Ref sig .tc := ⟨.hbm, 63, rfl⟩
abbrev main_cst : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩

abbrev nD : Nat := 1
abbrev τ : Topo := Topo.v7x

variable {F : FTy → Type} [FloatOps F]
-- ==== Dh2.lean ====
abbrev S2048x5632 : Shape := ⟨2, ![2048, 5632]⟩
abbrev S4x2048x1408 : Shape := ⟨3, ![4, 2048, 1408]⟩
abbrev S2048x2048 : Shape := ⟨2, ![2048, 2048]⟩
abbrev S512x1408 : Shape := ⟨2, ![512, 1408]⟩
abbrev S1x1024x1408 : Shape := ⟨3, ![1, 1024, 1408]⟩
abbrev S512x1024 : Shape := ⟨2, ![512, 1024]⟩
abbrev S1024x1408 : Shape := ⟨2, ![1024, 1408]⟩

abbrev nBuf : Space → Nat
  | .hbm => 5
  | .vmem => 11
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S4x2048x1408, .bf16⟩
  | .hbm, ⟨3, _⟩ => ⟨S4x2048x1408, .bf16⟩
  | .hbm, ⟨4, _⟩ => ⟨S2048x2048, .f32⟩
  | .local _ .vmem, ⟨0, _⟩ => ⟨S512x1408, .bf16⟩
  | .local _ .vmem, ⟨1, _⟩ => ⟨S512x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S512x1408, .bf16⟩
  | .local _ .vmem, ⟨5, _⟩ => ⟨S512x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32_13 : BitVec 32 := 3#32
  let v17 : BitVec 1 := Scalar.cmpi .eq arg2 c3_i32_13
  let v18 : BitVec 32 := Scalar.extui v17
  let c0_i32_14 : BitVec 32 := 0#32
  let v19 : BitVec 1 := Scalar.cmpi .ne v18 c0_i32_14
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Dh2RefIdeal.lean ====
abbrev S2048x5632 : Shape := ⟨2, ![2048, 5632]⟩
abbrev S4x2048x1408 : Shape := ⟨3, ![4, 2048, 1408]⟩
abbrev S_ : Shape := ⟨0, ![]⟩
abbrev S2048x2048 : Shape := ⟨2, ![2048, 2048]⟩
abbrev S2048x4x1408 : Shape := ⟨3, ![2048, 4, 1408]⟩

abbrev nBuf : Space → Nat
  | .hbm => 19
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x5632, .bf16⟩
  | .hbm, ⟨2, _⟩ => ⟨S4x2048x1408, .bf16⟩
  | .hbm, ⟨3, _⟩ => ⟨S4x2048x1408, .bf16⟩
  | .hbm, ⟨4, _⟩ => ⟨S2048x5632, .f32⟩
  | .hbm, ⟨5, _⟩ => ⟨S2048x5632, .f32⟩
  | .hbm, ⟨6, _⟩ => ⟨S4x2048x1408, .f32⟩
  | .hbm, ⟨7, _⟩ => ⟨S4x2048x1408, .f32⟩
  | .hbm, ⟨8, _⟩ => ⟨S_, .f32⟩
  | .hbm, ⟨9, _⟩ => ⟨S2048x2048, .f32⟩
  | .hbm, ⟨10, _⟩ => ⟨S2048x4x1408, .f32⟩
  | .hbm, ⟨11, _⟩ => ⟨S2048x5632, .f32⟩
  | .hbm, ⟨12, _⟩ => ⟨S2048x5632, .f32⟩
  | .hbm, ⟨13, _⟩ => ⟨S2048x4x1408, .f32⟩
  | .hbm, ⟨14, _⟩ => ⟨S2048x5632, .f32⟩
  | .hbm, ⟨15, _⟩ => ⟨S2048x5632, .f32⟩
  | .hbm, ⟨16, _⟩ => ⟨S2048x2048, .f32⟩
  | .hbm, ⟨17, _⟩ => ⟨S2048x2048, .f32⟩
  | .hbm, ⟨18, _⟩ => ⟨S2048x2048, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Dh1.lean ====
abbrev S2304x5632 : Shape := ⟨2, ![2304, 5632]⟩
abbrev S4x2048x1408 : Shape := ⟨3, ![4, 2048, 1408]⟩
abbrev S2304x2048 : Shape := ⟨2, ![2304, 2048]⟩
abbrev S768x1408 : Shape := ⟨2, ![768, 1408]⟩
abbrev S1x1024x1408 : Shape := ⟨3, ![1, 1024, 1408]⟩
abbrev S768x1024 : Shape := ⟨2, ![768, 1024]⟩
abbrev S1024x1408 : Shape := ⟨2, ![1024, 1408]⟩

abbrev nBuf : Space → Nat
  | .hbm => 5
  | .vmem => 11
  | .smem => 0
  | _ => 0

abbrev bufTy : (tb : Table) → Fin (tcTables nBuf tb) → BufTy
  | .hbm, ⟨0, _⟩ => ⟨S2304x5632, .bf16⟩
  | .hbm, ⟨1, _⟩ => ⟨S2304x5632, .bf16⟩
  | .hbm, ⟨2, _⟩ => ⟨S4x2048x1408, .bf16⟩
  | .hbm, ⟨3, _⟩ => ⟨S4x2048x1408, .bf16⟩
  | .hbm, ⟨4, _⟩ => ⟨S2304x2048, .f32⟩
  | .local _ .vmem, ⟨0, _⟩ => ⟨S768x1408, .bf16⟩
  | .local _ .vmem, ⟨1, _⟩ => ⟨S768x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S768x1408, .bf16⟩
  | .local _ .vmem, ⟨5, _⟩ => ⟨S768x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S768x1024, .f32⟩
  | .local _ .vmem, ⟨9, _⟩ => ⟨S768x1024, .f32⟩
  | .local _ .vmem, ⟨10, _⟩ => ⟨S768x1024, .f32⟩
  | _, _ => ⟨S2304x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32_13 : BitVec 32 := 3#32
  let v17 : BitVec 1 := Scalar.cmpi .eq arg2 c3_i32_13
  let v18 : BitVec 32 := Scalar.extui v17
  let c0_i32_14 : BitVec 32 := 0#32
  let v19 : BitVec 1 := Scalar.cmpi .ne v18 c0_i32_14
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S768x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Dh1RefIdeal.lean ====
abbrev S2304x5632 : Shape := ⟨2, ![2304, 5632]⟩
abbrev S4x2048x1408 : Shape := ⟨3, ![4, 2048, 1408]⟩
abbrev S_ : Shape := ⟨0, ![]⟩
abbrev S2304x2048 : Shape := ⟨2, ![2304, 2048]⟩
abbrev S2048x4x1408 : Shape := ⟨3, ![2048, 4, 1408]⟩
abbrev S2048x5632 : Shape := ⟨2, ![2048, 5632]⟩

abbrev nBuf : Space → Nat
  | .hbm => 19
  | .vmem => 0
  | .smem => 0
  | _ => 0

abbrev bufTy : (tb : Table) → Fin (tcTables nBuf tb) → BufTy
  | .hbm, ⟨0, _⟩ => ⟨S2304x5632, .bf16⟩
  | .hbm, ⟨1, _⟩ => ⟨S2304x5632, .bf16⟩
  | .hbm, ⟨2, _⟩ => ⟨S4x2048x1408, .bf16⟩
  | .hbm, ⟨3, _⟩ => ⟨S4x2048x1408, .bf16⟩
  | .hbm, ⟨4, _⟩ => ⟨S2304x5632, .f32⟩
  | .hbm, ⟨5, _⟩ => ⟨S2304x5632, .f32⟩
  | .hbm, ⟨6, _⟩ => ⟨S4x2048x1408, .f32⟩
  | .hbm, ⟨7, _⟩ => ⟨S4x2048x1408, .f32⟩
  | .hbm, ⟨8, _⟩ => ⟨S_, .f32⟩
  | .hbm, ⟨9, _⟩ => ⟨S2304x2048, .f32⟩
  | .hbm, ⟨10, _⟩ => ⟨S2048x4x1408, .f32⟩
  | .hbm, ⟨11, _⟩ => ⟨S2048x5632, .f32⟩
  | .hbm, ⟨12, _⟩ => ⟨S2304x5632, .f32⟩
  | .hbm, ⟨13, _⟩ => ⟨S2048x4x1408, .f32⟩
  | .hbm, ⟨14, _⟩ => ⟨S2048x5632, .f32⟩
  | .hbm, ⟨15, _⟩ => ⟨S2304x5632, .f32⟩
  | .hbm, ⟨16, _⟩ => ⟨S2304x2048, .f32⟩
  | .hbm, ⟨17, _⟩ => ⟨S2304x2048, .f32⟩
  | .hbm, ⟨18, _⟩ => ⟨S2304x2048, .f32⟩
  | _, _ => ⟨S2304x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== InProj.lean ====
abbrev S2304x2048 : Shape := ⟨2, ![2304, 2048]⟩
abbrev S4x2048x2048 : Shape := ⟨3, ![4, 2048, 2048]⟩
abbrev S2304x8192 : Shape := ⟨2, ![2304, 8192]⟩
abbrev S768x2048 : Shape := ⟨2, ![768, 2048]⟩
abbrev S1x2048x1024 : Shape := ⟨3, ![1, 2048, 1024]⟩
abbrev S768x1024 : Shape := ⟨2, ![768, 1024]⟩
abbrev S2048x1024 : Shape := ⟨2, ![2048, 1024]⟩
abbrev S2304x512 : Shape := ⟨2, ![2304, 512]⟩
abbrev S2304x1024 : Shape := ⟨2, ![2304, 1024]⟩
abbrev S1x512x1024 : Shape := ⟨3, ![1, 512, 1024]⟩
abbrev S512x1024 : Shape := ⟨2, ![512, 1024]⟩

abbrev nBuf : Space → Nat
  | .hbm => 5
  | .vmem => 12
  | .smem => 0
  | _ => 0

abbrev bufTy : (tb : Table) → Fin (tcTables nBuf tb) → BufTy
  | .hbm, ⟨0, _⟩ => ⟨S2304x2048, .bf16⟩
  | .hbm, ⟨1, _⟩ => ⟨S4x2048x2048, .bf16⟩
  | .hbm, ⟨2, _⟩ => ⟨S2304x8192, .bf16⟩
  | .hbm, ⟨3, _⟩ => ⟨S2304x8192, .f32⟩
  | .hbm, ⟨4, _⟩ => ⟨S4x2048x2048, .bf16⟩
  | .local _ .vmem, ⟨0, _⟩ => ⟨S768x2048, .bf16⟩
  | .local _ .vmem, ⟨1, _⟩ => ⟨S768x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S768x1024, .f32⟩
  | .local _ .vmem, ⟨5, _⟩ => ⟨S768x1024, .f32⟩
  | .local _ .vmem, ⟨6, _⟩ => ⟨S2304x512, .bf16⟩
  | .local _ .vmem, ⟨7, _⟩ => ⟨S2304x512, .bf16⟩
  | .local _ .vmem, ⟨8, _⟩ => ⟨S2304x1024, .bf16⟩
  | .local _ .vmem, ⟨9, _⟩ => ⟨S2304x1024, .bf16⟩
  | .local _ .vmem, ⟨10, _⟩ => ⟨S1x512x1024, .bf16⟩
  | .local _ .vmem, ⟨11, _⟩ => ⟨S1x512x1024, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage1_0 : Fin 2 → Memref sig .tc .vmem S2304x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S2304x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== InProjRefIdeal.lean ====
abbrev S2304x2048 : Shape := ⟨2, ![2304, 2048]⟩
abbrev S4x2048x2048 : Shape := ⟨3, ![4, 2048, 2048]⟩
abbrev S2304x8192 : Shape := ⟨2, ![2304, 8192]⟩
abbrev S2048x4x2048 : Shape := ⟨3, ![2048, 4, 2048]⟩
abbrev S2048x8192 : Shape := ⟨2, ![2048, 8192]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S4x2048x2048, .bf16⟩
  | .hbm, ⟨2, _⟩ => ⟨S2304x8192, .bf16⟩
  | .hbm, ⟨3, _⟩ => ⟨S2304x2048, .f32⟩
  | .hbm, ⟨4, _⟩ => ⟨S4x2048x2048, .f32⟩
  | .hbm, ⟨5, _⟩ => ⟨S2048x4x2048, .f32⟩
  | .hbm, ⟨6, _⟩ => ⟨S2048x8192, .f32⟩
  | .hbm, ⟨7, _⟩ => ⟨S2304x8192, .f32⟩
  | .hbm, ⟨8, _⟩ => ⟨S2304x8192, .f32⟩
  | .hbm, ⟨9, _⟩ => ⟨S8192x2048, .f32⟩
  | .hbm, ⟨10, _⟩ => ⟨S2048x8192, .f32⟩
  | .hbm, ⟨11, _⟩ => ⟨S2048x4x2048, .f32⟩
  | .hbm, ⟨12, _⟩ => ⟨S4x2048x2048, .f32⟩
  | .hbm, ⟨13, _⟩ => ⟨S4x2048x2048, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== InProjDx.lean ====
abbrev S2304x8192 : Shape := ⟨2, ![2304, 8192]⟩
abbrev S4x2048x2048 : Shape := ⟨3, ![4, 2048, 2048]⟩
abbrev S2304x2048 : Shape := ⟨2, ![2304, 2048]⟩
abbrev S768x2048 : Shape := ⟨2, ![768, 2048]⟩
abbrev S1x1024x2048 : Shape := ⟨3, ![1, 1024, 2048]⟩
abbrev S768x1024 : Shape := ⟨2, ![768, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S2304x8192, .bf16⟩
  | .hbm, ⟨1, _⟩ => ⟨S4x2048x2048, .bf16⟩
  | .hbm, ⟨2, _⟩ => ⟨S2304x2048, .f32⟩
  | .local _ .vmem, ⟨0, _⟩ => ⟨S768x2048, .bf16⟩
  | .local _ .vmem, ⟨1, _⟩ => ⟨S768x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InProjDxRefIdeal.lean ====
abbrev S2304x8192 : Shape := ⟨2, ![2304, 8192]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S_ : Shape := ⟨0, ![]⟩
abbrev S2304x2048 : Shape := ⟨2, ![2304, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2304x8192, .bf16⟩
  | .hbm, ⟨1, _⟩ => ⟨S4x2048x2048, .bf16⟩
  | .hbm, ⟨2, _⟩ => ⟨S4x2048x2048, .f32⟩
  | .hbm, ⟨3, _⟩ => ⟨S2048x4x2048, .f32⟩
  | .hbm, ⟨4, _⟩ => ⟨S2048x8192, .f32⟩
  | .hbm, ⟨5, _⟩ => ⟨S_, .f32⟩
  | .hbm, ⟨6, _⟩ => ⟨S2304x2048, .f32⟩
  | .hbm, ⟨7, _⟩ => ⟨S2304x8192, .f32⟩
  | .hbm, ⟨8, _⟩ => ⟨S2304x8192, .f32⟩
  | .hbm, ⟨9, _⟩ => ⟨S2304x2048, .f32⟩
  | _, _ => ⟨S2304x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Update.lean ====
abbrev S1x2048x1408 : Shape := ⟨3, ![1, 2048, 1408]⟩
abbrev S2048x1408 : Shape := ⟨2, ![2048, 1408]⟩
abbrev S1x1408x2048 : Shape := ⟨3, ![1, 1408, 2048]⟩
abbrev S1408x2048 : Shape := ⟨2, ![1408, 2048]⟩
abbrev S1x2048x2048 : Shape := ⟨3, ![1, 2048, 2048]⟩
abbrev S2048x2048 : Shape := ⟨2, ![2048, 2048]⟩
abbrev S1x512x2048 : Shape := ⟨3, ![1, 512, 2048]⟩
abbrev S512x2048 : Shape := ⟨2, ![512, 2048]⟩
abbrev S1x1024x512 : Shape := ⟨3, ![1, 1024, 512]⟩
abbrev S1024x512 : Shape := ⟨2, ![1024, 512]⟩
abbrev S1x256x1024 : Shape := ⟨3, ![1, 256, 1024]⟩
abbrev S256x1024 : Shape := ⟨2, ![256, 1024]⟩
abbrev S1x256x1408 : Shape := ⟨3, ![1, 256, 1408]⟩
abbrev S256x1408 : Shape := ⟨2, ![256, 1408]⟩
abbrev S1x176x2048 : Shape := ⟨3, ![1, 176, 2048]⟩
abbrev S176x2048 : Shape := ⟨2, ![176, 2048]⟩
abbrev S1x256x2048 : Shape := ⟨3, ![1, 256, 2048]⟩
abbrev S256x2048 : Shape := ⟨2, ![256, 2048]⟩

abbrev nBuf : Space → Nat
  | .hbm => 54
  | .vmem => 90
  | .smem => 0
  | _ => 0

abbrev bufTy : (tb : Table) → Fin (tcTables nBuf tb) → BufTy
  | .hbm, ⟨0, _⟩ => ⟨S1x2048x1408, .f32⟩
  | .hbm, ⟨1, _⟩ => ⟨S1x2048x1408, .f32⟩
  | .hbm, ⟨2, _⟩ => ⟨S1x2048x1408, .f32⟩
  | .hbm, ⟨3, _⟩ => ⟨S2048x1408, .f32⟩
  | .hbm, ⟨4, _⟩ => ⟨S2048x1408, .f32⟩
  | .hbm, ⟨5, _⟩ => ⟨S1x1408x2048, .f32⟩
  | .hbm, ⟨6, _⟩ => ⟨S1x1408x2048, .f32⟩
  | .hbm, ⟨7, _⟩ => ⟨S1x1408x2048, .f32⟩
  | .hbm, ⟨8, _⟩ => ⟨S1408x2048, .f32⟩
  | .hbm, ⟨9, _⟩ => ⟨S1408x2048, .f32⟩
  | .hbm, ⟨10, _⟩ => ⟨S1x2048x2048, .f32⟩
  | .hbm, ⟨11, _⟩ => ⟨S1x2048x2048, .f32⟩
  | .hbm, ⟨12, _⟩ => ⟨S1x2048x2048, .f32⟩
  | .hbm, ⟨13, _⟩ => ⟨S2048x2048, .f32⟩
  | .hbm, ⟨14, _⟩ => ⟨S2048x2048, .f32⟩
  | .hbm, ⟨15, _⟩ => ⟨S1x512x2048, .f32⟩
  | .hbm, ⟨16, _⟩ => ⟨S1x512x2048, .f32⟩
  | .hbm, ⟨17, _⟩ => ⟨S1x512x2048, .f32⟩
  | .hbm, ⟨18, _⟩ => ⟨S512x2048, .f32⟩
  | .hbm, ⟨19, _⟩ => ⟨S512x2048, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S1024x512, .f32⟩
  | .hbm, ⟨24, _⟩ => ⟨S1024x512, .f32⟩
  | .hbm, ⟨25, _⟩ => ⟨S1x256x1024, .f32⟩
  | .hbm, ⟨26, _⟩ => ⟨S1x256x1024, .f32⟩
  | .hbm, ⟨27, _⟩ => ⟨S1x256x1024, .f32⟩
  | .hbm, ⟨28, _⟩ => ⟨S256x1024, .f32⟩
  | .hbm, ⟨29, _⟩ => ⟨S256x1024, .f32⟩
  | .hbm, ⟨30, _⟩ => ⟨S1x2048x1408, .f32⟩
  | .hbm, ⟨31, _⟩ => ⟨S1x2048x1408, .f32⟩
  | .hbm, ⟨32, _⟩ => ⟨S1x2048x1408, .f32⟩
  | .hbm, ⟨33, _⟩ => ⟨S1x2048x1408, .f32⟩
  | .hbm, ⟨34, _⟩ => ⟨S1x1408x2048, .f32⟩
  | .hbm, ⟨35, _⟩ => ⟨S1x1408x2048, .f32⟩
  | .hbm, ⟨36, _⟩ => ⟨S1x1408x2048, .f32⟩
  | .hbm, ⟨37, _⟩ => ⟨S1x1408x2048, .f32⟩
  | .hbm, ⟨38, _⟩ => ⟨S1x2048x2048, .f32⟩
  | .hbm, ⟨39, _⟩ => ⟨S1x2048x2048, .f32⟩
  | .hbm, ⟨40, _⟩ => ⟨S1x2048x2048, .f32⟩
  | .hbm, ⟨41, _⟩ => ⟨S1x2048x2048, .f32⟩
  | .hbm, ⟨42, _⟩ => ⟨S1x512x2048, .f32⟩
  | .hbm, ⟨43, _⟩ => ⟨S1x512x2048, .f32⟩
  | .hbm, ⟨44, _⟩ => ⟨S1x512x2048, .f32⟩
  | .hbm, ⟨45, _⟩ => ⟨S1x512x2048, .f32⟩
  | .hbm, ⟨46, _⟩ => ⟨S1x1024x512, .f32⟩
  | .hbm, ⟨47, _⟩ => ⟨S1x1024x512, .f32⟩
  | .hbm, ⟨48, _⟩ => ⟨S1x1024x512, .f32⟩
  | .hbm, ⟨49, _⟩ => ⟨S1x1024x512, .f32⟩
  | .hbm, ⟨50, _⟩ => ⟨S1x256x1024, .f32⟩
  | .hbm, ⟨51, _⟩ => ⟨S1x256x1024, .f32⟩
  | .hbm, ⟨52, _⟩ => ⟨S1x256x1024, .f32⟩
  | .hbm, ⟨53, _⟩ => ⟨S1x256x1024, .f32⟩
  | .local _ .vmem, ⟨0, _⟩ => ⟨S1x256x1408, .f32⟩
  | .local _ .vmem, ⟨1, _⟩ => ⟨S1x256x1408, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S1x256x1408, .f32⟩
  | .local _ .vmem, ⟨11, _⟩ => ⟨S1x256x1408, .f32⟩
  | .local _ .vmem, ⟨12, _⟩ => ⟨S1x256x1408, .f32⟩
  | .local _ .vmem, ⟨13, _⟩ => ⟨S1x256x1408, .f32⟩
  | .local _ .vmem, ⟨14, _⟩ => ⟨S1x256x1408, .f32⟩
  | .local _ .vmem, ⟨15, _⟩ => ⟨S1x256x1408, .f32⟩
  | .local _ .vmem, ⟨16, _⟩ => ⟨S1x256x1408, .f32⟩
  | .local _ .vmem, ⟨17, _⟩ => ⟨S1x256x1408, .f32⟩
  | .local _ .vmem, ⟨18, _⟩ => ⟨S1x176x2048, .f32⟩
  | .local _ .vmem, ⟨19, _⟩ => ⟨S1x176x2048, .f32⟩
  | .local _ .vmem, ⟨20, _⟩ => ⟨S1x176x2048, .f32⟩
  | .local _ .vmem, ⟨21, _⟩ => ⟨S1x176x2048, .f32⟩
  | .local _ .vmem, ⟨22, _⟩ => ⟨S1x176x2048, .f32⟩
  | .local _ .vmem, ⟨23, _⟩ => ⟨S1x176x2048, .f32⟩
  | .local _ .vmem, ⟨24, _⟩ => ⟨S176x2048, .f32⟩
  | .local _ .vmem, ⟨25, _⟩ => ⟨S176x2048, .f32⟩
  | .local _ .vmem, ⟨26, _⟩ => ⟨S176x2048, .f32⟩
  | .local _ .vmem, ⟨27, _⟩ => ⟨S176x2048, .f32⟩
  | .local _ .vmem, ⟨28, _⟩ => ⟨S1x176x2048, .f32⟩
  | .local _ .vmem, ⟨29, _⟩ => ⟨S1x176x2048, .f32⟩
  | .local _ .vmem, ⟨30, _⟩ => ⟨S1x176x2048, .f32⟩
  | .local _ .vmem, ⟨31, _⟩ => ⟨S1x176x2048, .f32⟩
  | .local _ .vmem, ⟨32, _⟩ => ⟨S1x176x2048, .f32⟩
  | .local _ .vmem, ⟨33, _⟩ => ⟨S1x176x2048, .f32⟩
  | .local _ .vmem, ⟨34, _⟩ => ⟨S1x176x2048, .f32⟩
  | .local _ .vmem, ⟨35, _⟩ => ⟨S1x176x2048, .f32⟩
  | .local _ .vmem, ⟨36, _⟩ => ⟨S1x256x2048, .f32⟩
  | .local _ .vmem, ⟨37, _⟩ => ⟨S1x256x2048, .f32⟩
  | .local _ .vmem, ⟨38, _⟩ => ⟨S1x256x2048, .f32⟩
  | .local _ .vmem, ⟨39, _⟩ => ⟨S1x256x2048, .f32⟩
  | .local _ .vmem, ⟨40, _⟩ => ⟨S1x256x2048, .f32⟩
  | .local _ .vmem, ⟨41, _⟩ => ⟨S1x256x2048, .f32⟩
  | .local _ .vmem, ⟨42, _⟩ => ⟨S256x2048, .f32⟩
  | .local _ .vmem, ⟨43, _⟩ => ⟨S256x2048, .f32⟩
  | .local _ .vmem, ⟨44, _⟩ => ⟨S256x2048, .f32⟩
  | .local _ .vmem, ⟨45, _⟩ => ⟨S256x2048, .f32⟩
  | .local _ .vmem, ⟨46, _⟩ => ⟨S1x256x2048, .f32⟩
  | .local _ .vmem, ⟨47, _⟩ => ⟨S1x256x2048, .f32⟩
  | .local _ .vmem, ⟨48, _⟩ => ⟨S1x256x2048, .f32⟩
  | .local _ .vmem, ⟨49, _⟩ => ⟨S1x256x2048, .f32⟩
  | .local _ .vmem, ⟨50, _⟩ => ⟨S1x256x2048, .f32⟩
  | .local _ .vmem, ⟨51, _⟩ => ⟨S1x256x2048, .f32⟩
  | .local _ .vmem, ⟨52, _⟩ => ⟨S1x256x2048, .f32⟩
  | .local _ .vmem, ⟨53, _⟩ => ⟨S1x256x2048, .f32⟩
  | .local _ .vmem, ⟨54, _⟩ => ⟨S1x256x2048, .f32⟩
  | .local _ .vmem, ⟨55, _⟩ => ⟨S1x256x2048, .f32⟩
  | .local _ .vmem, ⟨56, _⟩ => ⟨S1x256x2048, .f32⟩
  | .local _ .vmem, ⟨57, _⟩ => ⟨S1x256x2048, .f32⟩
  | .local _ .vmem, ⟨58, _⟩ => ⟨S1x256x2048, .f32⟩
  | .local _ .vmem, ⟨59, _⟩ => ⟨S1x256x2048, .f32⟩
  | .local _ .vmem, ⟨60, _⟩ => ⟨S256x2048, .f32⟩
  | .local _ .vmem, ⟨61, _⟩ => ⟨S256x2048, .f32⟩
  | .local _ .vmem, ⟨62, _⟩ => ⟨S256x2048, .f32⟩
  | .local _ .vmem, ⟨63, _⟩ => ⟨S256x2048, .f32⟩
  | .local _ .vmem, ⟨64, _⟩ => ⟨S1x256x2048, .f32⟩
  | .local _ .vmem, ⟨65, _⟩ => ⟨S1x256x2048, .f32⟩
  | .local _ .vmem, ⟨66, _⟩ => ⟨S1x256x2048, .f32⟩
  | .local _ .vmem, ⟨67, _⟩ => ⟨S1x256x2048, .f32⟩
  | .local _ .vmem, ⟨68, _⟩ => ⟨S1x256x2048, .f32⟩
  | .local _ .vmem, ⟨69, _⟩ => ⟨S1x256x2048, .f32⟩
  | .local _ .vmem, ⟨70, _⟩ => ⟨S1x256x2048, .f32⟩
  | .local _ .vmem, ⟨71, _⟩ => ⟨S1x256x2048, .f32⟩
  | .local _ .vmem, ⟨72, _⟩ => ⟨S1x1024x512, .f32⟩
  | .local _ .vmem, ⟨73, _⟩ => ⟨S1x1024x512, .f32⟩
  | .local _ .vmem, ⟨74, _⟩ => ⟨S1x1024x512, .f32⟩
  | .local _ .vmem, ⟨75, _⟩ => ⟨S1024x512, .f32⟩
  | .local _ .vmem, ⟨76, _⟩ => ⟨S1024x512, .f32⟩
  | .local _ .vmem, ⟨77, _⟩ => ⟨S1x1024x512, .f32⟩
  | .local _ .vmem, ⟨78, _⟩ => ⟨S1x1024x512, .f32⟩
  | .local _ .vmem, ⟨79, _⟩ => ⟨S1x1024x512, .f32⟩
  | .local _ .vmem, ⟨80, _⟩ => ⟨S1x1024x512, .f32⟩
  | .local _ .vmem, ⟨81, _⟩ => ⟨S1x256x1024, .f32⟩
  | .local _ .vmem, ⟨82, _⟩ => ⟨S1x256x1024, .f32⟩
  | .local _ .vmem, ⟨83, _⟩ => ⟨S1x256x1024, .f32⟩
  | .local _ .vmem, ⟨84, _⟩ => ⟨S256x1024, .f32⟩
  | .local _ .vmem, ⟨85, _⟩ => ⟨S256x1024, .f32⟩
  | .local _ .vmem, ⟨86, _⟩ => ⟨S1x256x1024, .f32⟩
  | .local _ .vmem, ⟨87, _⟩ => ⟨S1x256x1024, .f32⟩
  | .local _ .vmem, ⟨88, _⟩ => ⟨S1x256x1024, .f32⟩
  | .local _ .vmem, ⟨89, _⟩ => ⟨S1x256x1024, .f32⟩
  | _, _ => ⟨S1x2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | _, _ => false

abbrev semScoped : Fin 0 → Bool
  | ⟨_, h⟩ => absurd h (Nat.not_lt_zero _)

abbrev dmaSemScoped : Fin 90 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTc nBuf bufTy 0 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0_0 : Ref sig .tc := ⟨.hbm, 30, rfl⟩
abbrev main_v0_1 : Ref sig .tc := ⟨.hbm, 31, rfl⟩
abbrev main_v0_2 : Ref sig .tc := ⟨.hbm, 32, rfl⟩
abbrev main_v0_3 : Ref sig .tc := ⟨.hbm, 33, rfl⟩
abbrev main_v1_0 : Ref sig .tc := ⟨.hbm, 34, rfl⟩
abbrev main_v1_1 : Ref sig .tc := ⟨.hbm, 35, rfl⟩
abbrev main_v1_2 : Ref sig .tc := ⟨.hbm, 36, rfl⟩
abbrev main_v1_3 : Ref sig .tc := ⟨.hbm, 37, rfl⟩
abbrev main_v2_0 : Ref sig .tc := ⟨.hbm, 38, rfl⟩
abbrev main_v2_1 : Ref sig .tc := ⟨.hbm, 39, rfl⟩
abbrev main_v2_2 : Ref sig .tc := ⟨.hbm, 40, rfl⟩
abbrev main_v2_3 : Ref sig .tc := ⟨.hbm, 41, rfl⟩
abbrev main_v3_0 : Ref sig .tc := ⟨.hbm, 42, rfl⟩
abbrev main_v3_1 : Ref sig .tc := ⟨.hbm, 43, rfl⟩
abbrev main_v3_2 : Ref sig .tc := ⟨.hbm, 44, rfl⟩
abbrev main_v3_3 : Ref sig .tc := ⟨.hbm, 45, rfl⟩
abbrev main_v4_0 : Ref sig .tc := ⟨.hbm, 46, rfl⟩
abbrev main_v4_1 : Ref sig .tc := ⟨.hbm, 47, rfl⟩
abbrev main_v4_2 : Ref sig .tc := ⟨.hbm, 48, rfl⟩
abbrev main_v4_3 : Ref sig .tc := ⟨.hbm, 49, rfl⟩
abbrev main_v5_0 : Ref sig .tc := ⟨.hbm, 50, rfl⟩
abbrev main_v5_1 : Ref sig .tc := ⟨.hbm, 51, rfl⟩
abbrev main_v5_2 : Ref sig .tc := ⟨.hbm, 52, rfl⟩
abbrev main_v5_3 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc1_stg6_0 : Ref sig .tc := ⟨.vmem, 30, rfl⟩
abbrev cc1_stg6_1 : Ref sig .tc := ⟨.vmem, 31, rfl⟩
abbrev cc1_stg7_0 : Ref sig .tc := ⟨.vmem, 32, rfl⟩
abbrev cc1_stg7_1 : Ref sig .tc := ⟨.vmem, 33, rfl⟩
abbrev cc1_stg8_0 : Ref sig .tc := ⟨.vmem, 34, rfl⟩
abbrev cc1_stg8_1 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc2_stg2_1 : Ref sig .tc := ⟨.vmem, 41, rfl⟩
abbrev cc2_stg3_0 : Ref sig .tc := ⟨.vmem, 42, rfl⟩
abbrev cc2_stg3_1 : Ref sig .tc := ⟨.vmem, 43, rfl⟩
abbrev cc2_stg4_0 : Ref sig .tc := ⟨.vmem, 44, rfl⟩
abbrev cc2_stg4_1 : Ref sig .tc := ⟨.vmem, 45, rfl⟩
abbrev cc2_stg5_0 : Ref sig .tc := ⟨.vmem, 46, rfl⟩
abbrev cc2_stg5_1 : Ref sig .tc := ⟨.vmem, 47, rfl⟩
abbrev cc2_stg6_0 : Ref sig .tc := ⟨.vmem, 48, rfl⟩
abbrev cc2_stg6_1 : Ref sig .tc := ⟨.vmem, 49, rfl⟩
abbrev cc2_stg7_0 : Ref sig .tc := ⟨.vmem, 50, rfl⟩
abbrev cc2_stg7_1 : Ref sig .tc := ⟨.vmem, 51, rfl⟩
abbrev cc2_stg8_0 : Ref sig .tc := ⟨.vmem, 52, rfl⟩
abbrev cc2_stg8_1 : Ref sig .tc := ⟨.vmem, 53, rfl⟩
abbrev cc3_stg0_0 : Ref sig .tc := ⟨.vmem, 54, rfl⟩
abbrev cc3_stg0_1 : Ref sig .tc := ⟨.vmem, 55, rfl⟩
abbrev cc3_stg1_0 : Ref sig .tc := ⟨.vmem, 56, rfl⟩
abbrev cc3_stg1_1 : Ref sig .tc := ⟨.vmem, 57, rfl⟩
abbrev cc3_stg2_0 : Ref sig .tc := ⟨.vmem, 58, rfl⟩
abbrev cc3_stg2_1 : Ref sig .tc := ⟨.vmem, 59, rfl⟩
abbrev cc3_stg3_0 : Ref sig .tc := ⟨.vmem, 60, rfl⟩
abbrev cc3_stg3_1 : Ref sig .tc := ⟨.vmem, 61, rfl⟩
abbrev cc3_stg4_0 : Ref sig .tc := ⟨.vmem, 62, rfl⟩
abbrev cc3_stg4_1 : Ref sig .tc := ⟨.vmem, 63, rfl⟩
abbrev cc3_stg5_0 : Ref sig .tc := ⟨.vmem, 64, rfl⟩
abbrev cc3_stg5_1 : Ref sig .tc := ⟨.vmem, 65, rfl⟩
abbrev cc3_stg6_0 : Ref sig .tc := ⟨.vmem, 66, rfl⟩
abbrev cc3_stg6_1 : Ref sig .tc := ⟨.vmem, 67, rfl⟩
abbrev cc3_stg7_0 : Ref sig .tc := ⟨.vmem, 68, rfl⟩
abbrev cc3_stg7_1 : Ref sig .tc := ⟨.vmem, 69, rfl⟩
abbrev cc3_stg8_0 : Ref sig .tc := ⟨.vmem, 70, rfl⟩
abbrev cc3_stg8_1 : Ref sig .tc := ⟨.vmem, 71, rfl⟩
abbrev cc4_stg0_0 : Ref sig .tc := ⟨.vmem, 72, rfl⟩
abbrev cc4_stg1_0 : Ref sig .tc := ⟨.vmem, 73, rfl⟩
abbrev cc4_stg2_0 : Ref sig .tc := ⟨.vmem, 74, rfl⟩
abbrev cc4_stg3_0 : Ref sig .tc := ⟨.vmem, 75, rfl⟩
abbrev cc4_stg4_0 : Ref sig .tc := ⟨.vmem, 76, rfl⟩
abbrev cc4_stg5_0 : Ref sig .tc := ⟨.vmem, 77, rfl⟩
abbrev cc4_stg6_0 : Ref sig .tc := ⟨.vmem, 78, rfl⟩
abbrev cc4_stg7_0 : Ref sig .tc := ⟨.vmem, 79, rfl⟩
abbrev cc4_stg8_0 : Ref sig .tc := ⟨.vmem, 80, rfl⟩
abbrev cc5_stg0_0 : Ref sig .tc := ⟨.vmem, 81, rfl⟩
abbrev cc5_stg1_0 : Ref sig .tc := ⟨.vmem, 82, rfl⟩
abbrev cc5_stg2_0 : Ref sig .tc := ⟨.vmem, 83, rfl⟩
abbrev cc5_stg3_0 : Ref sig .tc := ⟨.vmem, 84, rfl⟩
abbrev cc5_stg4_0 : Ref sig .tc := ⟨.vmem, 85, rfl⟩
abbrev cc5_stg5_0 : Ref sig .tc := ⟨.vmem, 86, rfl⟩
abbrev cc5_stg6_0 : Ref sig .tc := ⟨.vmem, 87, rfl⟩
abbrev cc5_stg7_0 : Ref sig .tc := ⟨.vmem, 88, rfl⟩
abbrev cc5_stg8_0 : Ref sig .tc := ⟨.vmem, 89, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40
abbrev cc2_sem2_1 : DmaSem sig := 41
abbrev cc2_sem3_0 : DmaSem sig := 42
abbrev cc2_sem3_1 : DmaSem sig := 43
abbrev cc2_sem4_0 : DmaSem sig := 44
abbrev cc2_sem4_1 : DmaSem sig := 45
abbrev cc2_sem5_0 : DmaSem sig := 46
abbrev cc2_sem5_1 : DmaSem sig := 47
abbrev cc2_sem6_0 : DmaSem sig := 48
abbrev cc2_sem6_1 : DmaSem sig := 49
abbrev cc2_sem7_0 : DmaSem sig := 50
abbrev cc2_sem7_1 : DmaSem sig := 51
abbrev cc2_sem8_0 : DmaSem sig := 52
abbrev cc2_sem8_1 : DmaSem sig := 53
abbrev cc3_sem0_0 : DmaSem sig := 54
abbrev cc3_sem0_1 : DmaSem sig := 55
abbrev cc3_sem1_0 : DmaSem sig := 56
abbrev cc3_sem1_1 : DmaSem sig := 57
abbrev cc3_sem2_0 : DmaSem sig := 58
abbrev cc3_sem2_1 : DmaSem sig := 59
abbrev cc3_sem3_0 : DmaSem sig := 60
abbrev cc3_sem3_1 : DmaSem sig := 61
abbrev cc3_sem4_0 : DmaSem sig := 62
abbrev cc3_sem4_1 : DmaSem sig := 63
abbrev cc3_sem5_0 : DmaSem sig := 64
abbrev cc3_sem5_1 : DmaSem sig := 65
abbrev cc3_sem6_0 : DmaSem sig := 66
abbrev cc3_sem6_1 : DmaSem sig := 67
abbrev cc3_sem7_0 : DmaSem sig := 68
abbrev cc3_sem7_1 : DmaSem sig := 69
abbrev cc3_sem8_0 : DmaSem sig := 70
abbrev cc3_sem8_1 : DmaSem sig := 71
abbrev cc4_sem0_0 : DmaSem sig := 72
abbrev cc4_sem1_0 : DmaSem sig := 73
abbrev cc4_sem2_0 : DmaSem sig := 74
abbrev cc4_sem3_0 : DmaSem sig := 75
abbrev cc4_sem4_0 : DmaSem sig := 76
abbrev cc4_sem5_0 : DmaSem sig := 77
abbrev cc4_sem6_0 : DmaSem sig := 78
abbrev cc4_sem7_0 : DmaSem sig := 79
abbrev cc4_sem8_0 : DmaSem sig := 80
abbrev cc5_sem0_0 : DmaSem sig := 81
abbrev cc5_sem1_0 : DmaSem sig := 82
abbrev cc5_sem2_0 : DmaSem sig := 83
abbrev cc5_sem3_0 : DmaSem sig := 84
abbrev cc5_sem4_0 : DmaSem sig := 85
abbrev cc5_sem5_0 : DmaSem sig := 86
abbrev cc5_sem6_0 : DmaSem sig := 87
abbrev cc5_sem7_0 : DmaSem sig := 88
abbrev cc5_sem8_0 : DmaSem sig := 89

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S1x176x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x176x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x176x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S176x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S176x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x176x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x176x2048 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x176x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x176x2048 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S1x256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x256x2048 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x256x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S256x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x256x2048 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x256x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x256x2048 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![2], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_6 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_7 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_8 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage3_0 : Fin 2 → Memref sig .tc .vmem S1x256x2048 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x256x2048 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x256x2048 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S256x2048 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S256x2048 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 2 → Memref sig .tc .vmem S1x256x2048 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S1x256x2048 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S1x256x2048 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S1x256x2048 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev grid4 : Pipeline.Grid := ⟨1, ![1], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_6 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_7 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_8 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage4_0 : Fin 1 → Memref sig .tc .vmem S1x1024x512 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S1x1024x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev stage4_2 : Fin 1 → Memref sig .tc .vmem S1x1024x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true]

abbrev stage4_3 : Fin 1 → Memref sig .tc .vmem S1024x512 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![true]

abbrev stage4_4 : Fin 1 → Memref sig .tc .vmem S1024x512 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![true]

abbrev stage4_5 : Fin 1 → Memref sig .tc .vmem S1x1024x512 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![true]

abbrev stage4_6 : Fin 1 → Memref sig .tc .vmem S1x1024x512 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![true]

abbrev stage4_7 : Fin 1 → Memref sig .tc .vmem S1x1024x512 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![true]

abbrev stage4_8 : Fin 1 → Memref sig .tc .vmem S1x1024x512 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![true]

abbrev grid5 : Pipeline.Grid := ⟨1, ![1], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_2 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_5 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_6 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_7 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_8 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage5_0 : Fin 1 → Memref sig .tc .vmem S1x256x1024 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S1x256x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev stage5_2 : Fin 1 → Memref sig .tc .vmem S1x256x1024 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true]

abbrev stage5_3 : Fin 1 → Memref sig .tc .vmem S256x1024 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![true]

abbrev stage5_4 : Fin 1 → Memref sig .tc .vmem S256x1024 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![true]

abbrev stage5_5 : Fin 1 → Memref sig .tc .vmem S1x256x1024 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![true]

abbrev stage5_6 : Fin 1 → Memref sig .tc .vmem S1x256x1024 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![true]

abbrev stage5_7 : Fin 1 → Memref sig .tc .vmem S1x256x1024 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![true]

abbrev stage5_8 : Fin 1 → Memref sig .tc .vmem S1x256x1024 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![true]
-- ==== UpdateRefIdeal.lean ====
abbrev S1x2048x1408 : Shape := ⟨3, ![1, 2048, 1408]⟩
abbrev S2048x1408 : Shape := ⟨2, ![2048, 1408]⟩
abbrev S1x1408x2048 : Shape := ⟨3, ![1, 1408, 2048]⟩
abbrev S1408x2048 : Shape := ⟨2, ![1408, 2048]⟩
abbrev S1x2048x2048 : Shape := ⟨3, ![1, 2048, 2048]⟩
abbrev S2048x2048 : Shape := ⟨2, ![2048, 2048]⟩
abbrev S1x512x2048 : Shape := ⟨3, ![1, 512, 2048]⟩
abbrev S512x2048 : Shape := ⟨2, ![512, 2048]⟩
abbrev S1x1024x512 : Shape := ⟨3, ![1, 1024, 512]⟩
abbrev S1024x512 : Shape := ⟨2, ![1024, 512]⟩
abbrev S1x256x1024 : Shape := ⟨3, ![1, 256, 1024]⟩
abbrev S256x1024 : Shape := ⟨2, ![256, 1024]⟩
abbrev S_ : Shape := ⟨0, ![]⟩

abbrev nBuf : Space → Nat
  | .hbm => 240
  | .vmem => 0
  | .smem => 0
  | _ => 0

abbrev hbmTy0_0 (i : Nat) : BufTy := match i % 128 with
  | 0 => ⟨S1x2048x1408, .f32⟩
  | 1 => ⟨S1x2048x1408, .f32⟩
  | 2 => ⟨S1x2048x1408, .f32⟩
  | 3 => ⟨S2048x1408, .f32⟩
  | 4 => ⟨S2048x1408, .f32⟩
  | 5 => ⟨S1x1408x2048, .f32⟩
  | 6 => ⟨S1x1408x2048, .f32⟩
  | 7 => ⟨S1x1408x2048, .f32⟩
  | 8 => ⟨S1408x2048, .f32⟩
  | 9 => ⟨S1408x2048, .f32⟩
  | 10 => ⟨S1x2048x2048, .f32⟩
  | 11 => ⟨S1x2048x2048, .f32⟩
  | 12 => ⟨S1x2048x2048, .f32⟩
  | 13 => ⟨S2048x2048, .f32⟩
  | 14 => ⟨S2048x2048, .f32⟩
  | 15 => ⟨S1x512x2048, .f32⟩
  | 16 => ⟨S1x512x2048, .f32⟩
  | 17 => ⟨S1x512x2048, .f32⟩
  | 18 => ⟨S512x2048, .f32⟩
  | 19 => ⟨S512x2048, .f32⟩
  | 20 => ⟨S1x1024x512, .f32⟩
  | 21 => ⟨S1x1024x512, .f32⟩
  | 22 => ⟨S1x1024x512, .f32⟩
  | 23 => ⟨S1024x512, .f32⟩
  | 24 => ⟨S1024x512, .f32⟩
  | 25 => ⟨S1x256x1024, .f32⟩
  | 26 => ⟨S1x256x1024, .f32⟩
  | 27 => ⟨S1x256x1024, .f32⟩
  | 28 => ⟨S256x1024, .f32⟩
  | 29 => ⟨S256x1024, .f32⟩
  | 30 => ⟨S2048x1408, .f32⟩
  | 31 => ⟨S1x2048x1408, .f32⟩
  | 32 => ⟨S_, .f32⟩
  | 33 => ⟨S1x2048x1408, .f32⟩
  | 34 => ⟨S1x2048x1408, .f32⟩
  | 35 => ⟨S_, .f32⟩
  | 36 => ⟨S1x2048x1408, .f32⟩
  | 37 => ⟨S1x2048x1408, .f32⟩
  | 38 => ⟨S1x2048x1408, .f32⟩
  | 39 => ⟨S_, .f32⟩
  | 40 => ⟨S1x2048x1408, .f32⟩
  | 41 => ⟨S1x2048x1408, .f32⟩
  | 42 => ⟨S1x2048x1408, .f32⟩
  | 43 => ⟨S_, .f32⟩
  | 44 => ⟨S1x2048x1408, .f32⟩
  | 45 => ⟨S1x2048x1408, .f32⟩
  | 46 => ⟨S1x2048x1408, .f32⟩
  | 47 => ⟨S_, .f32⟩
  | 48 => ⟨S1x2048x1408, .f32⟩
  | 49 => ⟨S1x2048x1408, .f32⟩
  | 50 => ⟨S_, .f32⟩
  | 51 => ⟨S1x2048x1408, .f32⟩
  | 52 => ⟨S1x2048x1408, .f32⟩
  | 53 => ⟨S1x2048x1408, .f32⟩
  | 54 => ⟨S_, .f32⟩
  | 55 => ⟨S1x2048x1408, .f32⟩
  | 56 => ⟨S1x2048x1408, .f32⟩
  | 57 => ⟨S1x2048x1408, .f32⟩
  | 58 => ⟨S_, .f32⟩
  | 59 => ⟨S1x2048x1408, .f32⟩
  | 60 => ⟨S1x2048x1408, .f32⟩
  | 61 => ⟨S1x2048x1408, .f32⟩
  | 62 => ⟨S_, .f32⟩
  | 63 => ⟨S1x2048x1408, .f32⟩
  | 64 => ⟨S1x2048x1408, .f32⟩
  | 65 => ⟨S1408x2048, .f32⟩
  | 66 => ⟨S1x1408x2048, .f32⟩
  | 67 => ⟨S_, .f32⟩
  | 68 => ⟨S1x1408x2048, .f32⟩
  | 69 => ⟨S1x1408x2048, .f32⟩
  | 70 => ⟨S_, .f32⟩
  | 71 => ⟨S1x1408x2048, .f32⟩
  | 72 => ⟨S1x1408x2048, .f32⟩
  | 73 => ⟨S1x1408x2048, .f32⟩
  | 74 => ⟨S_, .f32⟩
  | 75 => ⟨S1x1408x2048, .f32⟩
  | 76 => ⟨S1x1408x2048, .f32⟩
  | 77 => ⟨S1x1408x2048, .f32⟩
  | 78 => ⟨S_, .f32⟩
  | 79 => ⟨S1x1408x2048, .f32⟩
  | 80 => ⟨S1x1408x2048, .f32⟩
  | 81 => ⟨S1x1408x2048, .f32⟩
  | 82 => ⟨S_, .f32⟩
  | 83 => ⟨S1x1408x2048, .f32⟩
  | 84 => ⟨S1x1408x2048, .f32⟩
  | 85 => ⟨S_, .f32⟩
  | 86 => ⟨S1x1408x2048, .f32⟩
  | 87 => ⟨S1x1408x2048, .f32⟩
  | 88 => ⟨S1x1408x2048, .f32⟩
  | 89 => ⟨S_, .f32⟩
  | 90 => ⟨S1x1408x2048, .f32⟩
  | 91 => ⟨S1x1408x2048, .f32⟩
  | 92 => ⟨S1x1408x2048, .f32⟩
  | 93 => ⟨S_, .f32⟩
  | 94 => ⟨S1x1408x2048, .f32⟩
  | 95 => ⟨S1x1408x2048, .f32⟩
  | 96 => ⟨S1x1408x2048, .f32⟩
  | 97 => ⟨S_, .f32⟩
  | 98 => ⟨S1x1408x2048, .f32⟩
  | 99 => ⟨S1x1408x2048, .f32⟩
  | 100 => ⟨S2048x2048, .f32⟩
  | 101 => ⟨S1x2048x2048, .f32⟩
  | 102 => ⟨S_, .f32⟩
  | 103 => ⟨S1x2048x2048, .f32⟩
  | 104 => ⟨S1x2048x2048, .f32⟩
  | 105 => ⟨S_, .f32⟩
  | 106 => ⟨S1x2048x2048, .f32⟩
  | 107 => ⟨S1x2048x2048, .f32⟩
  | 108 => ⟨S1x2048x2048, .f32⟩
  | 109 => ⟨S_, .f32⟩
  | 110 => ⟨S1x2048x2048, .f32⟩
  | 111 => ⟨S1x2048x2048, .f32⟩
  | 112 => ⟨S1x2048x2048, .f32⟩
  | 113 => ⟨S_, .f32⟩
  | 114 => ⟨S1x2048x2048, .f32⟩
  | 115 => ⟨S1x2048x2048, .f32⟩
  | 116 => ⟨S1x2048x2048, .f32⟩
  | 117 => ⟨S_, .f32⟩
  | 118 => ⟨S1x2048x2048, .f32⟩
  | 119 => ⟨S1x2048x2048, .f32⟩
  | 120 => ⟨S_, .f32⟩
  | 121 => ⟨S1x2048x2048, .f32⟩
  | 122 => ⟨S1x2048x2048, .f32⟩
  | 123 => ⟨S1x2048x2048, .f32⟩
  | 124 => ⟨S_, .f32⟩
  | 125 => ⟨S1x2048x2048, .f32⟩
  | 126 => ⟨S1x2048x2048, .f32⟩
  | 127 => ⟨S1x2048x2048, .f32⟩
  | _ => ⟨S1x2048x1408, .f32⟩

abbrev hbmTy0_1 (i : Nat) : BufTy := match i % 128 with
  | 0 => ⟨S_, .f32⟩
  | 1 => ⟨S1x2048x2048, .f32⟩
  | 2 => ⟨S1x2048x2048, .f32⟩
  | 3 => ⟨S1x2048x2048, .f32⟩
  | 4 => ⟨S_, .f32⟩
  | 5 => ⟨S1x2048x2048, .f32⟩
  | 6 => ⟨S1x2048x2048, .f32⟩
  | 7 => ⟨S512x2048, .f32⟩
  | 8 => ⟨S1x512x2048, .f32⟩
  | 9 => ⟨S_, .f32⟩
  | 10 => ⟨S1x512x2048, .f32⟩
  | 11 => ⟨S1x512x2048, .f32⟩
  | 12 => ⟨S_, .f32⟩
  | 13 => ⟨S1x512x2048, .f32⟩
  | 14 => ⟨S1x512x2048, .f32⟩
  | 15 => ⟨S1x512x2048, .f32⟩
  | 16 => ⟨S_, .f32⟩
  | 17 => ⟨S1x512x2048, .f32⟩
  | 18 => ⟨S1x512x2048, .f32⟩
  | 19 => ⟨S1x512x2048, .f32⟩
  | 20 => ⟨S_, .f32⟩
  | 21 => ⟨S1x512x2048, .f32⟩
  | 22 => ⟨S1x512x2048, .f32⟩
  | 23 => ⟨S1x512x2048, .f32⟩
  | 24 => ⟨S_, .f32⟩
  | 25 => ⟨S1x512x2048, .f32⟩
  | 26 => ⟨S1x512x2048, .f32⟩
  | 27 => ⟨S_, .f32⟩
  | 28 => ⟨S1x512x2048, .f32⟩
  | 29 => ⟨S1x512x2048, .f32⟩
  | 30 => ⟨S1x512x2048, .f32⟩
  | 31 => ⟨S_, .f32⟩
  | 32 => ⟨S1x512x2048, .f32⟩
  | 33 => ⟨S1x512x2048, .f32⟩
  | 34 => ⟨S1x512x2048, .f32⟩
  | 35 => ⟨S_, .f32⟩
  | 36 => ⟨S1x512x2048, .f32⟩
  | 37 => ⟨S1x512x2048, .f32⟩
  | 38 => ⟨S1x512x2048, .f32⟩
  | 39 => ⟨S_, .f32⟩
  | 40 => ⟨S1x512x2048, .f32⟩
  | 41 => ⟨S1x512x2048, .f32⟩
  | 42 => ⟨S1024x512, .f32⟩
  | 43 => ⟨S1x1024x512, .f32⟩
  | 44 => ⟨S_, .f32⟩
  | 45 => ⟨S1x1024x512, .f32⟩
  | 46 => ⟨S1x1024x512, .f32⟩
  | 47 => ⟨S_, .f32⟩
  | 48 => ⟨S1x1024x512, .f32⟩
  | 49 => ⟨S1x1024x512, .f32⟩
  | 50 => ⟨S1x1024x512, .f32⟩
  | 51 => ⟨S_, .f32⟩
  | 52 => ⟨S1x1024x512, .f32⟩
  | 53 => ⟨S1x1024x512, .f32⟩
  | 54 => ⟨S1x1024x512, .f32⟩
  | 55 => ⟨S_, .f32⟩
  | 56 => ⟨S1x1024x512, .f32⟩
  | 57 => ⟨S1x1024x512, .f32⟩
  | 58 => ⟨S1x1024x512, .f32⟩
  | 59 => ⟨S_, .f32⟩
  | 60 => ⟨S1x1024x512, .f32⟩
  | 61 => ⟨S1x1024x512, .f32⟩
  | 62 => ⟨S_, .f32⟩
  | 63 => ⟨S1x1024x512, .f32⟩
  | 64 => ⟨S1x1024x512, .f32⟩
  | 65 => ⟨S1x1024x512, .f32⟩
  | 66 => ⟨S_, .f32⟩
  | 67 => ⟨S1x1024x512, .f32⟩
  | 68 => ⟨S1x1024x512, .f32⟩
  | 69 => ⟨S1x1024x512, .f32⟩
  | 70 => ⟨S_, .f32⟩
  | 71 => ⟨S1x1024x512, .f32⟩
  | 72 => ⟨S1x1024x512, .f32⟩
  | 73 => ⟨S1x1024x512, .f32⟩
  | 74 => ⟨S_, .f32⟩
  | 75 => ⟨S1x1024x512, .f32⟩
  | 76 => ⟨S1x1024x512, .f32⟩
  | 77 => ⟨S256x1024, .f32⟩
  | 78 => ⟨S1x256x1024, .f32⟩
  | 79 => ⟨S_, .f32⟩
  | 80 => ⟨S1x256x1024, .f32⟩
  | 81 => ⟨S1x256x1024, .f32⟩
  | 82 => ⟨S_, .f32⟩
  | 83 => ⟨S1x256x1024, .f32⟩
  | 84 => ⟨S1x256x1024, .f32⟩
  | 85 => ⟨S1x256x1024, .f32⟩
  | 86 => ⟨S_, .f32⟩
  | 87 => ⟨S1x256x1024, .f32⟩
  | 88 => ⟨S1x256x1024, .f32⟩
  | 89 => ⟨S1x256x1024, .f32⟩
  | 90 => ⟨S_, .f32⟩
  | 91 => ⟨S1x256x1024, .f32⟩
  | 92 => ⟨S1x256x1024, .f32⟩
  | 93 => ⟨S1x256x1024, .f32⟩
  | 94 => ⟨S_, .f32⟩
  | 95 => ⟨S1x256x1024, .f32⟩
  | 96 => ⟨S1x256x1024, .f32⟩
  | 97 => ⟨S_, .f32⟩
  | 98 => ⟨S1x256x1024, .f32⟩
  | 99 => ⟨S1x256x1024, .f32⟩
  | 100 => ⟨S1x256x1024, .f32⟩
  | 101 => ⟨S_, .f32⟩
  | 102 => ⟨S1x256x1024, .f32⟩
  | 103 => ⟨S1x256x1024, .f32⟩
  | 104 => ⟨S1x256x1024, .f32⟩
  | 105 => ⟨S_, .f32⟩
  | 106 => ⟨S1x256x1024, .f32⟩
  | 107 => ⟨S1x256x1024, .f32⟩
  | 108 => ⟨S1x256x1024, .f32⟩
  | 109 => ⟨S_, .f32⟩
  | 110 => ⟨S1x256x1024, .f32⟩
  | 111 => ⟨S1x256x1024, .f32⟩
  | _ => ⟨S1x2048x1408, .f32⟩

abbrev hbmTy (i : Nat) : BufTy := match i / 128 with
  | 0 => hbmTy0_0 i
  | 1 => hbmTy0_1 i
  | _ => ⟨S1x2048x1408, .f32⟩

abbrev bufTy : (tb : Table) → Fin (tcTables nBuf tb) → BufTy
  | .hbm, ⟨i, _⟩ => hbmTy i
  | _, _ => ⟨S1x2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_v0 : Ref sig .tc := ⟨.hbm, 30, rfl⟩
abbrev main_v1 : Ref sig .tc := ⟨.hbm, 31, rfl⟩
abbrev main_cst : Ref sig .tc := ⟨.hbm, 32, rfl⟩
abbrev main_v2 : Ref sig .tc := ⟨.hbm, 33, rfl⟩
abbrev main_v3 : Ref sig .tc := ⟨.hbm, 34, rfl⟩
abbrev main_cst_0 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_cst_1 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_cst_2 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_cst_3 : Ref sig .tc := ⟨.hbm, 47, rfl⟩
abbrev main_v13 : Ref sig .tc := ⟨.hbm, 48, rfl⟩
abbrev main_v14 : Ref sig .tc := ⟨.hbm, 49, rfl⟩
abbrev main_cst_4 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_cst_5 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_cst_6 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_7 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_cst_8 : Ref sig .tc := ⟨.hbm, 67, rfl⟩
abbrev main_v28 : Ref sig .tc := ⟨.hbm, 68, rfl⟩
abbrev main_v29 : Ref sig .tc := ⟨.hbm, 69, rfl⟩
abbrev main_cst_9 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst_10 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_cst_11 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_cst_12 : Ref sig .tc := ⟨.hbm, 82, rfl⟩
abbrev main_v39 : Ref sig .tc := ⟨.hbm, 83, rfl⟩
abbrev main_v40 : Ref sig .tc := ⟨.hbm, 84, rfl⟩
abbrev main_cst_13 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_cst_14 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_cst_15 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_cst_16 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_cst_17 : Ref sig .tc := ⟨.hbm, 102, rfl⟩
abbrev main_v54 : Ref sig .tc := ⟨.hbm, 103, rfl⟩
abbrev main_v55 : Ref sig .tc := ⟨.hbm, 104, rfl⟩
abbrev main_cst_18 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_19 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_cst_20 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_cst_21 : Ref sig .tc := ⟨.hbm, 117, rfl⟩
abbrev main_v65 : Ref sig .tc := ⟨.hbm, 118, rfl⟩
abbrev main_v66 : Ref sig .tc := ⟨.hbm, 119, rfl⟩
abbrev main_cst_22 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_23 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_cst_24 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_cst_25 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_cst_26 : Ref sig .tc := ⟨.hbm, 137, rfl⟩
abbrev main_v80 : Ref sig .tc := ⟨.hbm, 138, rfl⟩
abbrev main_v81 : Ref sig .tc := ⟨.hbm, 139, rfl⟩
abbrev main_cst_27 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_cst_28 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_cst_29 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_cst_30 : Ref sig .tc := ⟨.hbm, 152, rfl⟩
abbrev main_v91 : Ref sig .tc := ⟨.hbm, 153, rfl⟩
abbrev main_v92 : Ref sig .tc := ⟨.hbm, 154, rfl⟩
abbrev main_cst_31 : Ref sig .tc := ⟨.hbm, 155, rfl⟩
abbrev main_v93 : Ref sig .tc := ⟨.hbm, 156, rfl⟩
abbrev main_v94 : Ref sig .tc := ⟨.hbm, 157, rfl⟩
abbrev main_v95 : Ref sig .tc := ⟨.hbm, 158, rfl⟩
abbrev main_cst_32 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_cst_33 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_cst_34 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_cst_35 : Ref sig .tc := ⟨.hbm, 172, rfl⟩
abbrev main_v106 : Ref sig .tc := ⟨.hbm, 173, rfl⟩
abbrev main_v107 : Ref sig .tc := ⟨.hbm, 174, rfl⟩
abbrev main_cst_36 : Ref sig .tc := ⟨.hbm, 175, rfl⟩
abbrev main_v108 : Ref sig .tc := ⟨.hbm, 176, rfl⟩
abbrev main_v109 : Ref sig .tc := ⟨.hbm, 177, rfl⟩
abbrev main_v110 : Ref sig .tc := ⟨.hbm, 178, rfl⟩
abbrev main_cst_37 : Ref sig .tc := ⟨.hbm, 179, rfl⟩
abbrev main_v111 : Ref sig .tc := ⟨.hbm, 180, rfl⟩
abbrev main_v112 : Ref sig .tc := ⟨.hbm, 181, rfl⟩
abbrev main_v113 : Ref sig .tc := ⟨.hbm, 182, rfl⟩
abbrev main_cst_38 : Ref sig .tc := ⟨.hbm, 183, rfl⟩
abbrev main_v114 : Ref sig .tc := ⟨.hbm, 184, rfl⟩
abbrev main_v115 : Ref sig .tc := ⟨.hbm, 185, rfl⟩
abbrev main_v116 : Ref sig .tc := ⟨.hbm, 186, rfl⟩
abbrev main_cst_39 : Ref sig .tc := ⟨.hbm, 187, rfl⟩
abbrev main_v117 : Ref sig .tc := ⟨.hbm, 188, rfl⟩
abbrev main_v118 : Ref sig .tc := ⟨.hbm, 189, rfl⟩
abbrev main_cst_40 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_cst_41 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_cst_42 : Ref sig .tc := ⟨.hbm, 198, rfl⟩
abbrev main_v125 : Ref sig .tc := ⟨.hbm, 199, rfl⟩
abbrev main_v126 : Ref sig .tc := ⟨.hbm, 200, rfl⟩
abbrev main_v127 : Ref sig .tc := ⟨.hbm, 201, rfl⟩
abbrev main_cst_43 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_cst_44 : Ref sig .tc := ⟨.hbm, 207, rfl⟩
abbrev main_v132 : Ref sig .tc := ⟨.hbm, 208, rfl⟩
abbrev main_v133 : Ref sig .tc := ⟨.hbm, 209, rfl⟩
abbrev main_cst_45 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_cst_46 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_cst_47 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_cst_48 : Ref sig .tc := ⟨.hbm, 222, rfl⟩
abbrev main_v143 : Ref sig .tc := ⟨.hbm, 223, rfl⟩
abbrev main_v144 : Ref sig .tc := ⟨.hbm, 224, rfl⟩
abbrev main_cst_49 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_cst_50 : Ref sig .tc := ⟨.hbm, 229, rfl⟩
abbrev main_v148 : Ref sig .tc := ⟨.hbm, 230, rfl⟩
abbrev main_v149 : Ref sig .tc := ⟨.hbm, 231, rfl⟩
abbrev main_v150 : Ref sig .tc := ⟨.hbm, 232, rfl⟩
abbrev main_cst_51 : Ref sig .tc := ⟨.hbm, 233, rfl⟩
abbrev main_v151 : Ref sig .tc := ⟨.hbm, 234, rfl⟩
abbrev main_v152 : Ref sig .tc := ⟨.hbm, 235, rfl⟩
abbrev main_v153 : Ref sig .tc := ⟨.hbm, 236, rfl⟩
abbrev main_cst_52 : Ref sig .tc := ⟨.hbm, 237, rfl⟩
abbrev main_v154 : Ref sig .tc := ⟨.hbm, 238, rfl⟩
abbrev main_v155 : Ref sig .tc := ⟨.hbm, 239, rfl⟩

abbrev nD : Nat := 1
abbrev τ : Topo := Topo.v7x

variable {F : FTy → Type} [FloatOps F]
-- ==== Mix.lean ====
abbrev S2048x2048 : Shape := ⟨2, ![2048, 2048]⟩
abbrev S2048x1024 : Shape := ⟨2, ![2048, 1024]⟩
abbrev S4x1024x512 : Shape := ⟨3, ![4, 1024, 512]⟩
abbrev S2304x8192 : Shape := ⟨2, ![2304, 8192]⟩
abbrev S2304x2048 : Shape := ⟨2, ![2304, 2048]⟩
abbrev S1x2048 : Shape := ⟨2, ![1, 2048]⟩
abbrev S256x2048 : Shape := ⟨2, ![256, 2048]⟩
abbrev S2048x512 : Shape := ⟨2, ![2048, 512]⟩
abbrev S256x1024 : Shape := ⟨2, ![256, 1024]⟩
abbrev S1x1024x512 : Shape := ⟨3, ![1, 1024, 512]⟩
abbrev S256x512 : Shape := ⟨2, ![256, 512]⟩
abbrev S1024x512 : Shape := ⟨2, ![1024, 512]⟩
abbrev S1x1024 : Shape := ⟨2, ![1, 1024]⟩
abbrev S1024x2048 : Shape := ⟨2, ![1024, 2048]⟩
abbrev S512x1024 : Shape := ⟨2, ![512, 1024]⟩
abbrev S512x2048 : Shape := ⟨2, ![512, 2048]⟩
abbrev S1x512x512 : Shape := ⟨3, ![1, 512, 512]⟩
abbrev S512x512 : Shape := ⟨2, ![512, 512]⟩

abbrev nBuf : Space → Nat
  | .hbm => 22
  | .vmem => 74
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x2048, .bf16⟩
  | .hbm, ⟨3, _⟩ => ⟨S4x1024x512, .bf16⟩
  | .hbm, ⟨4, _⟩ => ⟨S2048x2048, .bf16⟩
  | .hbm, ⟨5, _⟩ => ⟨S2304x8192, .f32⟩
  | .hbm, ⟨6, _⟩ => ⟨S2304x2048, .f32⟩
  | .hbm, ⟨7, _⟩ => ⟨S1x2048, .f32⟩
  | .hbm, ⟨8, _⟩ => ⟨S2048x2048, .bf16⟩
  | .hbm, ⟨9, _⟩ => ⟨S2048x2048, .f32⟩
  | .hbm, ⟨10, _⟩ => ⟨S2048x2048, .f32⟩
  | .hbm, ⟨11, _⟩ => ⟨S2048x2048, .bf16⟩
  | .hbm, ⟨12, _⟩ => ⟨S2048x2048, .f32⟩
  | .hbm, ⟨13, _⟩ => ⟨S2048x2048, .f32⟩
  | .hbm, ⟨14, _⟩ => ⟨S2048x2048, .bf16⟩
  | .hbm, ⟨15, _⟩ => ⟨S2048x2048, .bf16⟩
  | .hbm, ⟨16, _⟩ => ⟨S2048x2048, .bf16⟩
  | .hbm, ⟨17, _⟩ => ⟨S2048x2048, .bf16⟩
  | .hbm, ⟨18, _⟩ => ⟨S2048x2048, .bf16⟩
  | .hbm, ⟨19, _⟩ => ⟨S2048x2048, .bf16⟩
  | .hbm, ⟨20, _⟩ => ⟨S2048x2048, .bf16⟩
  | .hbm, ⟨21, _⟩ => ⟨S4x1024x512, .bf16⟩
  | .local _ .vmem, ⟨0, _⟩ => ⟨S256x2048, .bf16⟩
  | .local _ .vmem, ⟨1, _⟩ => ⟨S256x2048, .bf16⟩
  | .local _ .vmem, ⟨2, _⟩ => ⟨S2048x512, .bf16⟩
  | .local _ .vmem, ⟨3, _⟩ => ⟨S2048x512, .bf16⟩
  | .local _ .vmem, ⟨4, _⟩ => ⟨S256x1024, .bf16⟩
  | .local _ .vmem, ⟨5, _⟩ => ⟨S256x1024, .bf16⟩
  | .local _ .vmem, ⟨6, _⟩ => ⟨S1x1024x512, .bf16⟩
  | .local _ .vmem, ⟨7, _⟩ => ⟨S1x1024x512, .bf16⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | .local _ .vmem, ⟨16, _⟩ => ⟨S256x512, .bf16⟩
  | .local _ .vmem, ⟨17, _⟩ => ⟨S256x512, .bf16⟩
  | .local _ .vmem, ⟨18, _⟩ => ⟨S256x2048, .bf16⟩
  | .local _ .vmem, ⟨19, _⟩ => ⟨S256x2048, .bf16⟩
  | .local _ .vmem, ⟨20, _⟩ => ⟨S2048x1024, .bf16⟩
  | .local _ .vmem, ⟨21, _⟩ => ⟨S2048x1024, .bf16⟩
  | .local _ .vmem, ⟨22, _⟩ => ⟨S256x1024, .f32⟩
  | .local _ .vmem, ⟨23, _⟩ => ⟨S256x1024, .f32⟩
  | .local _ .vmem, ⟨24, _⟩ => ⟨S1x1024, .f32⟩
  | .local _ .vmem, ⟨25, _⟩ => ⟨S1x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S256x2048, .bf16⟩
  | .local _ .vmem, ⟨31, _⟩ => ⟨S256x2048, .bf16⟩
  | .local _ .vmem, ⟨32, _⟩ => ⟨S1024x2048, .bf16⟩
  | .local _ .vmem, ⟨33, _⟩ => ⟨S1024x2048, .bf16⟩
  | .local _ .vmem, ⟨34, _⟩ => ⟨S256x1024, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .vmem, ⟨42, _⟩ => ⟨S256x1024, .bf16⟩
  | .local _ .vmem, ⟨43, _⟩ => ⟨S256x1024, .bf16⟩
  | .local _ .vmem, ⟨44, _⟩ => ⟨S256x1024, .bf16⟩
  | .local _ .vmem, ⟨45, _⟩ => ⟨S256x1024, .bf16⟩
  | .local _ .vmem, ⟨46, _⟩ => ⟨S256x1024, .bf16⟩
  | .local _ .vmem, ⟨47, _⟩ => ⟨S256x1024, .bf16⟩
  | .local _ .vmem, ⟨48, _⟩ => ⟨S256x1024, .bf16⟩
  | .local _ .vmem, ⟨49, _⟩ => ⟨S256x1024, .bf16⟩
  | .local _ .vmem, ⟨50, _⟩ => ⟨S2048x512, .bf16⟩
  | .local _ .vmem, ⟨51, _⟩ => ⟨S2048x512, .bf16⟩
  | .local _ .vmem, ⟨52, _⟩ => ⟨S2048x1024, .bf16⟩
  | .local _ .vmem, ⟨53, _⟩ => ⟨S2048x1024, .bf16⟩
  | .local _ .vmem, ⟨54, _⟩ => ⟨S512x1024, .bf16⟩
  | .local _ .vmem, ⟨55, _⟩ => ⟨S512x1024, .bf16⟩
  | .local _ .vmem, ⟨56, _⟩ => ⟨S512x2048, .bf16⟩
  | .local _ .vmem, ⟨57, _⟩ => ⟨S512x2048, .bf16⟩
  | .local _ .vmem, ⟨58, _⟩ => ⟨S1024x2048, .bf16⟩
  | .local _ .vmem, ⟨59, _⟩ => ⟨S1024x2048, .bf16⟩
  | .local _ .vmem, ⟨60, _⟩ => ⟨S512x1024, .bf16⟩
  | .local _ .vmem, ⟨61, _⟩ => ⟨S512x1024, .bf16⟩
  | .local _ .vmem, ⟨62, _⟩ => ⟨S2048x512, .bf16⟩
  | .local _ .vmem, ⟨63, _⟩ => ⟨S2048x512, .bf16⟩
  | .local _ .vmem, ⟨64, _⟩ => ⟨S2048x1024, .bf16⟩
  | .local _ .vmem, ⟨65, _⟩ => ⟨S2048x1024, .bf16⟩
  | .local _ .vmem, ⟨66, _⟩ => ⟨S512x1024, .bf16⟩
  | .local _ .vmem, ⟨67, _⟩ => ⟨S512x1024, .bf16⟩
  | .local _ .vmem, ⟨68, _⟩ => ⟨S2048x512, .bf16⟩
  | .local _ .vmem, ⟨69, _⟩ => ⟨S2048x512, .bf16⟩
  | .local _ .vmem, ⟨70, _⟩ => ⟨S2048x512, .bf16⟩
  | .local _ .vmem, ⟨71, _⟩ => ⟨S2048x512, .bf16⟩
  | .local _ .vmem, ⟨72, _⟩ => ⟨S1x512x512, .bf16⟩
  | .local _ .vmem, ⟨73, _⟩ => ⟨S1x512x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | _, _ => false

abbrev semScoped : Fin 0 → Bool
  | ⟨_, h⟩ => absurd h (Nat.not_lt_zero _)

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  ofTc nBuf bufTy 0 74 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v1_0 : Ref sig .tc := ⟨.hbm, 12, rfl⟩
abbrev main_v1_1 : Ref sig .tc := ⟨.hbm, 13, rfl⟩
abbrev main_v2_0 : Ref sig .tc := ⟨.hbm, 14, rfl⟩
abbrev main_v2_1 : Ref sig .tc := ⟨.hbm, 15, rfl⟩
abbrev main_v2_2 : Ref sig .tc := ⟨.hbm, 16, rfl⟩
abbrev main_v2_3 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc1_stg0_0 : Ref sig .tc := ⟨.vmem, 18, rfl⟩
abbrev cc1_stg0_1 : Ref sig .tc := ⟨.vmem, 19, rfl⟩
abbrev cc1_stg1_0 : Ref sig .tc := ⟨.vmem, 20, rfl⟩
abbrev cc1_stg1_1 : Ref sig .tc := ⟨.vmem, 21, rfl⟩
abbrev cc1_stg2_0 : Ref sig .tc := ⟨.vmem, 22, rfl⟩
abbrev cc1_stg2_1 : Ref sig .tc := ⟨.vmem, 23, rfl⟩
abbrev cc1_stg3_0 : Ref sig .tc := ⟨.vmem, 24, rfl⟩
abbrev cc1_stg3_1 : Ref sig .tc := ⟨.vmem, 25, rfl⟩
abbrev cc1_stg4_0 : Ref sig .tc := ⟨.vmem, 26, rfl⟩
abbrev cc1_stg4_1 : Ref sig .tc := ⟨.vmem, 27, rfl⟩
abbrev cc1_stg5_0 : Ref sig .tc := ⟨.vmem, 28, rfl⟩
abbrev cc1_stg5_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg1_1 : Ref sig .tc := ⟨.vmem, 33, rfl⟩
abbrev cc2_stg2_0 : Ref sig .tc := ⟨.vmem, 34, rfl⟩
abbrev cc2_stg2_1 : Ref sig .tc := ⟨.vmem, 35, rfl⟩
abbrev cc2_stg3_0 : Ref sig .tc := ⟨.vmem, 36, rfl⟩
abbrev cc2_stg3_1 : Ref sig .tc := ⟨.vmem, 37, rfl⟩
abbrev cc2_stg4_0 : Ref sig .tc := ⟨.vmem, 38, rfl⟩
abbrev cc2_stg4_1 : Ref sig .tc := ⟨.vmem, 39, rfl⟩
abbrev cc2_stg5_0 : Ref sig .tc := ⟨.vmem, 40, rfl⟩
abbrev cc2_stg5_1 : Ref sig .tc := ⟨.vmem, 41, rfl⟩
abbrev cc2_stg6_0 : Ref sig .tc := ⟨.vmem, 42, rfl⟩
abbrev cc2_stg6_1 : Ref sig .tc := ⟨.vmem, 43, rfl⟩
abbrev cc2_stg7_0 : Ref sig .tc := ⟨.vmem, 44, rfl⟩
abbrev cc2_stg7_1 : Ref sig .tc := ⟨.vmem, 45, rfl⟩
abbrev cc2_stg8_0 : Ref sig .tc := ⟨.vmem, 46, rfl⟩
abbrev cc2_stg8_1 : Ref sig .tc := ⟨.vmem, 47, rfl⟩
abbrev cc2_stg9_0 : Ref sig .tc := ⟨.vmem, 48, rfl⟩
abbrev cc2_stg9_1 : Ref sig .tc := ⟨.vmem, 49, rfl⟩
abbrev cc3_stg0_0 : Ref sig .tc := ⟨.vmem, 50, rfl⟩
abbrev cc3_stg0_1 : Ref sig .tc := ⟨.vmem, 51, rfl⟩
abbrev cc3_stg1_0 : Ref sig .tc := ⟨.vmem, 52, rfl⟩
abbrev cc3_stg1_1 : Ref sig .tc := ⟨.vmem, 53, rfl⟩
abbrev cc3_stg2_0 : Ref sig .tc := ⟨.vmem, 54, rfl⟩
abbrev cc3_stg2_1 : Ref sig .tc := ⟨.vmem, 55, rfl⟩
abbrev cc4_stg0_0 : Ref sig .tc := ⟨.vmem, 56, rfl⟩
abbrev cc4_stg0_1 : Ref sig .tc := ⟨.vmem, 57, rfl⟩
abbrev cc4_stg1_0 : Ref sig .tc := ⟨.vmem, 58, rfl⟩
abbrev cc4_stg1_1 : Ref sig .tc := ⟨.vmem, 59, rfl⟩
abbrev cc4_stg2_0 : Ref sig .tc := ⟨.vmem, 60, rfl⟩
abbrev cc4_stg2_1 : Ref sig .tc := ⟨.vmem, 61, rfl⟩
abbrev cc5_stg0_0 : Ref sig .tc := ⟨.vmem, 62, rfl⟩
abbrev cc5_stg0_1 : Ref sig .tc := ⟨.vmem, 63, rfl⟩
abbrev cc5_stg1_0 : Ref sig .tc := ⟨.vmem, 64, rfl⟩
abbrev cc5_stg1_1 : Ref sig .tc := ⟨.vmem, 65, rfl⟩
abbrev cc5_stg2_0 : Ref sig .tc := ⟨.vmem, 66, rfl⟩
abbrev cc5_stg2_1 : Ref sig .tc := ⟨.vmem, 67, rfl⟩
abbrev cc6_stg0_0 : Ref sig .tc := ⟨.vmem, 68, rfl⟩
abbrev cc6_stg0_1 : Ref sig .tc := ⟨.vmem, 69, rfl⟩
abbrev cc6_stg1_0 : Ref sig .tc := ⟨.vmem, 70, rfl⟩
abbrev cc6_stg1_1 : Ref sig .tc := ⟨.vmem, 71, rfl⟩
abbrev cc6_stg2_0 : Ref sig .tc := ⟨.vmem, 72, rfl⟩
abbrev cc6_stg2_1 : Ref sig .tc := ⟨.vmem, 73, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc2_sem0_0 : DmaSem sig := 30
abbrev cc2_sem0_1 : DmaSem sig := 31
abbrev cc2_sem1_0 : DmaSem sig := 32
abbrev cc2_sem1_1 : DmaSem sig := 33
abbrev cc2_sem2_0 : DmaSem sig := 34
abbrev cc2_sem2_1 : DmaSem sig := 35
abbrev cc2_sem3_0 : DmaSem sig := 36
abbrev cc2_sem3_1 : DmaSem sig := 37
abbrev cc2_sem4_0 : DmaSem sig := 38
abbrev cc2_sem4_1 : DmaSem sig := 39
abbrev cc2_sem5_0 : DmaSem sig := 40
abbrev cc2_sem5_1 : DmaSem sig := 41
abbrev cc2_sem6_0 : DmaSem sig := 42
abbrev cc2_sem6_1 : DmaSem sig := 43
abbrev cc2_sem7_0 : DmaSem sig := 44
abbrev cc2_sem7_1 : DmaSem sig := 45
abbrev cc2_sem8_0 : DmaSem sig := 46
abbrev cc2_sem8_1 : DmaSem sig := 47
abbrev cc2_sem9_0 : DmaSem sig := 48
abbrev cc2_sem9_1 : DmaSem sig := 49
abbrev cc3_sem0_0 : DmaSem sig := 50
abbrev cc3_sem0_1 : DmaSem sig := 51
abbrev cc3_sem1_0 : DmaSem sig := 52
abbrev cc3_sem1_1 : DmaSem sig := 53
abbrev cc3_sem2_0 : DmaSem sig := 54
abbrev cc3_sem2_1 : DmaSem sig := 55
abbrev cc4_sem0_0 : DmaSem sig := 56
abbrev cc4_sem0_1 : DmaSem sig := 57
abbrev cc4_sem1_0 : DmaSem sig := 58
abbrev cc4_sem1_1 : DmaSem sig := 59
abbrev cc4_sem2_0 : DmaSem sig := 60
abbrev cc4_sem2_1 : DmaSem sig := 61
abbrev cc5_sem0_0 : DmaSem sig := 62
abbrev cc5_sem0_1 : DmaSem sig := 63
abbrev cc5_sem1_0 : DmaSem sig := 64
abbrev cc5_sem1_1 : DmaSem sig := 65
abbrev cc5_sem2_0 : DmaSem sig := 66
abbrev cc5_sem2_1 : DmaSem sig := 67
abbrev cc6_sem0_0 : DmaSem sig := 68
abbrev cc6_sem0_1 : DmaSem sig := 69
abbrev cc6_sem1_0 : DmaSem sig := 70
abbrev cc6_sem1_1 : DmaSem sig := 71
abbrev cc6_sem2_0 : DmaSem sig := 72
abbrev cc6_sem2_1 : DmaSem sig := 73

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c8_i32 : BitVec 32 := 8#32
  let v1 : BitVec 32 := Scalar.addi arg0 c8_i32
  let c0_i32 : BitVec 32 := 0#32
  ![v0.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c12_i32 : BitVec 32 := 12#32
  let v1 : BitVec 32 := Scalar.addi arg0 c12_i32
  let c0_i32 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev grid1 : Pipeline.Grid := ⟨3, ![2, 8, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  let v1 : BitVec 32 := Scalar.addi arg0 c0_i32
  let c0_i32_0 : BitVec 32 := 0#32
  ![v0.toNat, v1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage1_0 : Fin 2 → Memref sig .tc .vmem S256x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true, true]

abbrev stage1_1 : Fin 2 → Memref sig .tc .vmem S2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, false]

abbrev stage1_5 : Fin 2 → Memref sig .tc .vmem S256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

abbrev grid2 : Pipeline.Grid := ⟨3, ![2, 8, 1], ![false, false, false]⟩

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg0 c0_i32_0
  let c0_i32_1 : BitVec 32 := 0#32
  ![v0.toNat, v1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let v1 : BitVec 32 := Scalar.addi arg0 c0_i32_0
  let c0_i32_1 : BitVec 32 := 0#32
  ![v0.toNat, v1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c4_i32 : BitVec 32 := 4#32
  let v1 : BitVec 32 := Scalar.addi arg0 c4_i32
  let c0_i32 : BitVec 32 := 0#32
  ![v0.toNat, v1.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c6_i32 : BitVec 32 := 6#32
  let v1 : BitVec 32 := Scalar.addi arg0 c6_i32
  let c0_i32 : BitVec 32 := 0#32
  ![v0.toNat, v1.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc2_transform_8 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc2_transform_9 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S256x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false, true]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S256x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev stage2_4 : Fin 2 → Memref sig .tc .vmem S256x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

abbrev stage2_5 : Fin 2 → Memref sig .tc .vmem S256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true, false]

abbrev stage2_6 : Fin 2 → Memref sig .tc .vmem S256x1024 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true, false]

abbrev stage2_7 : Fin 2 → Memref sig .tc .vmem S256x1024 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, false]

abbrev stage2_8 : Fin 2 → Memref sig .tc .vmem S256x1024 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, true, false]

abbrev stage2_9 : Fin 2 → Memref sig .tc .vmem S256x1024 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true, false]

abbrev grid3 : Pipeline.Grid := ⟨3, ![2, 4, 1], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage3_0 : Fin 2 → Memref sig .tc .vmem S2048x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true, true]

abbrev stage3_1 : Fin 2 → Memref sig .tc .vmem S2048x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S512x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![2, 4, 1], ![false, false, false]⟩

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage4_0 : Fin 2 → Memref sig .tc .vmem S512x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true, true]

abbrev stage4_1 : Fin 2 → Memref sig .tc .vmem S1024x2048 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false, true]

abbrev stage4_2 : Fin 2 → Memref sig .tc .vmem S512x1024 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![2, 4, 1], ![false, false, false]⟩

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage5_0 : Fin 2 → Memref sig .tc .vmem S2048x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![false, true, true]

abbrev stage5_1 : Fin 2 → Memref sig .tc .vmem S2048x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true]

abbrev stage5_2 : Fin 2 → Memref sig .tc .vmem S512x1024 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev grid6 : Pipeline.Grid := ⟨3, ![4, 2, 1], ![false, false, false]⟩

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc6_transform_2 (i : grid6.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage6_0 : Fin 2 → Memref sig .tc .vmem S2048x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![false, true, true]

abbrev stage6_1 : Fin 2 → Memref sig .tc .vmem S2048x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false, true]

abbrev stage6_2 : Fin 2 → Memref sig .tc .vmem S1x512x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]
-- ==== MixRefIdeal.lean ====
abbrev S2048x2048 : Shape := ⟨2, ![2048, 2048]⟩
abbrev S2048x1024 : Shape := ⟨2, ![2048, 1024]⟩
abbrev S4x1024x512 : Shape := ⟨3, ![4, 1024, 512]⟩
abbrev S2304x8192 : Shape := ⟨2, ![2304, 8192]⟩
abbrev S2304x2048 : Shape := ⟨2, ![2304, 2048]⟩
abbrev S1x2048 : Shape := ⟨2, ![1, 2048]⟩
abbrev S2048x4096 : Shape := ⟨2, ![2048, 4096]⟩
abbrev S_ : Shape := ⟨0, ![]⟩
abbrev S1024x4x512 : Shape := ⟨3, ![1024, 4, 512]⟩
abbrev S1024x2048 : Shape := ⟨2, ![1024, 2048]⟩

abbrev nBuf : Space → Nat
  | .hbm => 76
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x1024, .bf16⟩
  | .hbm, ⟨2, _⟩ => ⟨S2048x2048, .bf16⟩
  | .hbm, ⟨3, _⟩ => ⟨S4x1024x512, .bf16⟩
  | .hbm, ⟨4, _⟩ => ⟨S2048x2048, .bf16⟩
  | .hbm, ⟨5, _⟩ => ⟨S2304x8192, .f32⟩
  | .hbm, ⟨6, _⟩ => ⟨S2304x2048, .f32⟩
  | .hbm, ⟨7, _⟩ => ⟨S1x2048, .f32⟩
  | .hbm, ⟨8, _⟩ => ⟨S2048x2048, .bf16⟩
  | .hbm, ⟨9, _⟩ => ⟨S2048x2048, .f32⟩
  | .hbm, ⟨10, _⟩ => ⟨S2048x1024, .f32⟩
  | .hbm, ⟨11, _⟩ => ⟨S2048x2048, .f32⟩
  | .hbm, ⟨12, _⟩ => ⟨S4x1024x512, .f32⟩
  | .hbm, ⟨13, _⟩ => ⟨S2048x2048, .f32⟩
  | .hbm, ⟨14, _⟩ => ⟨S2048x4096, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S2048x2048, .f32⟩
  | .hbm, ⟨31, _⟩ => ⟨S_, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S2048x2048, .f32⟩
  | .hbm, ⟨39, _⟩ => ⟨S2048x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S1024x4x512, .f32⟩
  | .hbm, ⟨44, _⟩ => ⟨S1024x2048, .f32⟩
  | .hbm, ⟨45, _⟩ => ⟨S2048x2048, .f32⟩
  | .hbm, ⟨46, _⟩ => ⟨S2048x2048, .f32⟩
  | .hbm, ⟨47, _⟩ => ⟨S2048x2048, .f32⟩
  | .hbm, ⟨48, _⟩ => ⟨S2048x2048, .f32⟩
  | .hbm, ⟨49, _⟩ => ⟨S2048x2048, .f32⟩
  | .hbm, ⟨50, _⟩ => ⟨S2048x2048, .f32⟩
  | .hbm, ⟨51, _⟩ => ⟨S2048x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x1024, .f32⟩
  | .hbm, ⟨56, _⟩ => ⟨S1024x2048, .f32⟩
  | .hbm, ⟨57, _⟩ => ⟨S1024x4x512, .f32⟩
  | .hbm, ⟨58, _⟩ => ⟨S4x1024x512, .f32⟩
  | .hbm, ⟨59, _⟩ => ⟨S2048x2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S2048x2048, .f32⟩
  | .hbm, ⟨66, _⟩ => ⟨S2048x2048, .bf16⟩
  | .hbm, ⟨67, _⟩ => ⟨S2048x2048, .bf16⟩
  | .hbm, ⟨68, _⟩ => ⟨S2048x2048, .bf16⟩
  | .hbm, ⟨69, _⟩ => ⟨S2048x2048, .bf16⟩
  | .hbm, ⟨70, _⟩ => ⟨S4x1024x512, .bf16⟩
  | .hbm, ⟨71, _⟩ => ⟨S2048x2048, .bf16⟩
  | .hbm, ⟨72, _⟩ => ⟨S2048x2048, .f32⟩
  | .hbm, ⟨73, _⟩ => ⟨S2048x2048, .f32⟩
  | .hbm, ⟨74, _⟩ => ⟨S2048x2048, .f32⟩
  | .hbm, ⟨75, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩

abbrev nD : Nat := 1
abbrev τ : Topo := Topo.v7x

variable {F : FTy → Type} [FloatOps F]
-- ==== MixDy.lean ====
abbrev S2048x2048 : Shape := ⟨2, ![2048, 2048]⟩
abbrev S4x1024x512 : Shape := ⟨3, ![4, 1024, 512]⟩
abbrev S2048x1024 : Shape := ⟨2, ![2048, 1024]⟩
abbrev S512x512 : Shape := ⟨2, ![512, 512]⟩
abbrev S1x1024x512 : Shape := ⟨3, ![1, 1024, 512]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x1024x512, .bf16⟩
  | .hbm, ⟨2, _⟩ => ⟨S2048x1024, .f32⟩
  | .local _ .vmem, ⟨0, _⟩ => ⟨S512x512, .bf16⟩
  | .local _ .vmem, ⟨1, _⟩ => ⟨S512x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDyRefIdeal.lean ====
abbrev S2048x2048 : Shape := ⟨2, ![2048, 2048]⟩
abbrev S4x1024x512 : Shape := ⟨3, ![4, 1024, 512]⟩
abbrev S1024x4x512 : Shape := ⟨3, ![1024, 4, 512]⟩
abbrev S1024x2048 : Shape := ⟨2, ![1024, 2048]⟩
abbrev S_ : Shape := ⟨0, ![]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x1024x512, .bf16⟩
  | .hbm, ⟨2, _⟩ => ⟨S4x1024x512, .f32⟩
  | .hbm, ⟨3, _⟩ => ⟨S1024x4x512, .f32⟩
  | .hbm, ⟨4, _⟩ => ⟨S1024x2048, .f32⟩
  | .hbm, ⟨5, _⟩ => ⟨S_, .f32⟩
  | .hbm, ⟨6, _⟩ => ⟨S2048x1024, .f32⟩
  | .hbm, ⟨7, _⟩ => ⟨S2048x2048, .f32⟩
  | .hbm, ⟨8, _⟩ => ⟨S2048x2048, .f32⟩
  | .hbm, ⟨9, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpdSmall.lean ====
abbrev S1x2x64x64x16 : Shape := ⟨5, ![1, 2, 64, 64, 16]⟩
abbrev S1x2x64x16x64 : Shape := ⟨5, ![1, 2, 64, 16, 64]⟩
abbrev S131072 : Shape := ⟨1, ![131072]⟩
abbrev S524288 : Shape := ⟨1, ![524288]⟩
abbrev S_ : Shape := ⟨0, ![]⟩
abbrev S512x1024 : Shape := ⟨2, ![512, 1024]⟩

abbrev nBuf : Space → Nat
  | .hbm => 92
  | .vmem => 8
  | .smem => 0
  | _ => 0

abbrev bufTy : (tb : Table) → Fin (tcTables nBuf tb) → BufTy
  | .hbm, ⟨0, _⟩ => ⟨S1x2x64x64x16, .f32⟩
  | .hbm, ⟨1, _⟩ => ⟨S1x2x64x64x16, .f32⟩
  | .hbm, ⟨2, _⟩ => ⟨S1x2x64x16x64, .f32⟩
  | .hbm, ⟨3, _⟩ => ⟨S1x2x64x16x64, .f32⟩
  | .hbm, ⟨4, _⟩ => ⟨S1x2x64x64x16, .f32⟩
  | .hbm, ⟨5, _⟩ => ⟨S1x2x64x64x16, .f32⟩
  | .hbm, ⟨6, _⟩ => ⟨S1x2x64x16x64, .f32⟩
  | .hbm, ⟨7, _⟩ => ⟨S1x2x64x16x64, .f32⟩
  | .hbm, ⟨8, _⟩ => ⟨S1x2x64x64x16, .f32⟩
  | .hbm, ⟨9, _⟩ => ⟨S1x2x64x64x16, .f32⟩
  | .hbm, ⟨10, _⟩ => ⟨S1x2x64x16x64, .f32⟩
  | .hbm, ⟨11, _⟩ => ⟨S1x2x64x16x64, .f32⟩
  | .hbm, ⟨12, _⟩ => ⟨S1x2x64x64x16, .f32⟩
  | .hbm, ⟨13, _⟩ => ⟨S1x2x64x64x16, .f32⟩
  | .hbm, ⟨14, _⟩ => ⟨S1x2x64x16x64, .f32⟩
  | .hbm, ⟨15, _⟩ => ⟨S1x2x64x16x64, .f32⟩
  | .hbm, ⟨16, _⟩ => ⟨S131072, .f32⟩
  | .hbm, ⟨17, _⟩ => ⟨S131072, .f32⟩
  | .hbm, ⟨18, _⟩ => ⟨S131072, .f32⟩
  | .hbm, ⟨19, _⟩ => ⟨S131072, .f32⟩
  | .hbm, ⟨20, _⟩ => ⟨S524288, .f32⟩
  | .hbm, ⟨21, _⟩ => ⟨S_, .i32⟩
  | .hbm, ⟨22, _⟩ => ⟨S_, .f32⟩
  | .hbm, ⟨23, _⟩ => ⟨S524288, .f32⟩
  | .hbm, ⟨24, _⟩ => ⟨S512x1024, .f32⟩
  | .hbm, ⟨25, _⟩ => ⟨S131072, .f32⟩
  | .hbm, ⟨26, _⟩ => ⟨S131072, .f32⟩
  | .hbm, ⟨27, _⟩ => ⟨S131072, .f32⟩
  | .hbm, ⟨28, _⟩ => ⟨S131072, .f32⟩
  | .hbm, ⟨29, _⟩ => ⟨S524288, .f32⟩
  | .hbm, ⟨30, _⟩ => ⟨S_, .i32⟩
  | .hbm, ⟨31, _⟩ => ⟨S_, .f32⟩
  | .hbm, ⟨32, _⟩ => ⟨S524288, .f32⟩
  | .hbm, ⟨33, _⟩ => ⟨S512x1024, .f32⟩
  | .hbm, ⟨34, _⟩ => ⟨S131072, .f32⟩
  | .hbm, ⟨35, _⟩ => ⟨S131072, .f32⟩
  | .hbm, ⟨36, _⟩ => ⟨S131072, .f32⟩
  | .hbm, ⟨37, _⟩ => ⟨S131072, .f32⟩
  | .hbm, ⟨38, _⟩ => ⟨S524288, .f32⟩
  | .hbm, ⟨39, _⟩ => ⟨S_, .i32⟩
  | .hbm, ⟨40, _⟩ => ⟨S_, .f32⟩
  | .hbm, ⟨41, _⟩ => ⟨S524288, .f32⟩
  | .hbm, ⟨42, _⟩ => ⟨S512x1024, .f32⟩
  | .hbm, ⟨43, _⟩ => ⟨S131072, .f32⟩
  | .hbm, ⟨44, _⟩ => ⟨S131072, .f32⟩
  | .hbm, ⟨45, _⟩ => ⟨S131072, .f32⟩
  | .hbm, ⟨46, _⟩ => ⟨S131072, .f32⟩
  | .hbm, ⟨47, _⟩ => ⟨S524288, .f32⟩
  | .hbm, ⟨48, _⟩ => ⟨S_, .i32⟩
  | .hbm, ⟨49, _⟩ => ⟨S_, .f32⟩
  | .hbm, ⟨50, _⟩ => ⟨S524288, .f32⟩
  | .hbm, ⟨51, _⟩ => ⟨S512x1024, .f32⟩
  | .hbm, ⟨52, _⟩ => ⟨S512x1024, .f32⟩
  | .hbm, ⟨53, _⟩ => ⟨S512x1024, .f32⟩
  | .hbm, ⟨54, _⟩ => ⟨S512x1024, .f32⟩
  | .hbm, ⟨55, _⟩ => ⟨S512x1024, .f32⟩
  | .hbm, ⟨56, _⟩ => ⟨S524288, .f32⟩
  | .hbm, ⟨57, _⟩ => ⟨S131072, .f32⟩
  | .hbm, ⟨58, _⟩ => ⟨S1x2x64x64x16, .f32⟩
  | .hbm, ⟨59, _⟩ => ⟨S131072, .f32⟩
  | .hbm, ⟨60, _⟩ => ⟨S1x2x64x64x16, .f32⟩
  | .hbm, ⟨61, _⟩ => ⟨S131072, .f32⟩
  | .hbm, ⟨62, _⟩ => ⟨S1x2x64x16x64, .f32⟩
  | .hbm, ⟨63, _⟩ => ⟨S131072, .f32⟩
  | .hbm, ⟨64, _⟩ => ⟨S1x2x64x16x64, .f32⟩
  | .hbm, ⟨65, _⟩ => ⟨S524288, .f32⟩
  | .hbm, ⟨66, _⟩ => ⟨S131072, .f32⟩
  | .hbm, ⟨67, _⟩ => ⟨S1x2x64x64x16, .f32⟩
  | .hbm, ⟨68, _⟩ => ⟨S131072, .f32⟩
  | .hbm, ⟨69, _⟩ => ⟨S1x2x64x64x16, .f32⟩
  | .hbm, ⟨70, _⟩ => ⟨S131072, .f32⟩
  | .hbm, ⟨71, _⟩ => ⟨S1x2x64x16x64, .f32⟩
  | .hbm, ⟨72, _⟩ => ⟨S131072, .f32⟩
  | .hbm, ⟨73, _⟩ => ⟨S1x2x64x16x64, .f32⟩
  | .hbm, ⟨74, _⟩ => ⟨S524288, .f32⟩
  | .hbm, ⟨75, _⟩ => ⟨S131072, .f32⟩
  | .hbm, ⟨76, _⟩ => ⟨S1x2x64x64x16, .f32⟩
  | .hbm, ⟨77, _⟩ => ⟨S131072, .f32⟩
  | .hbm, ⟨78, _⟩ => ⟨S1x2x64x64x16, .f32⟩
  | .hbm, ⟨79, _⟩ => ⟨S131072, .f32⟩
  | .hbm, ⟨80, _⟩ => ⟨S1x2x64x16x64, .f32⟩
  | .hbm, ⟨81, _⟩ => ⟨S131072, .f32⟩
  | .hbm, ⟨82, _⟩ => ⟨S1x2x64x16x64, .f32⟩
  | .hbm, ⟨83, _⟩ => ⟨S524288, .f32⟩
  | .hbm, ⟨84, _⟩ => ⟨S131072, .f32⟩
  | .hbm, ⟨85, _⟩ => ⟨S1x2x64x64x16, .f32⟩
  | .hbm, ⟨86, _⟩ => ⟨S131072, .f32⟩
  | .hbm, ⟨87, _⟩ => ⟨S1x2x64x64x16, .f32⟩
  | .hbm, ⟨88, _⟩ => ⟨S131072, .f32⟩
  | .hbm, ⟨89, _⟩ => ⟨S1x2x64x16x64, .f32⟩
  | .hbm, ⟨90, _⟩ => ⟨S131072, .f32⟩
  | .hbm, ⟨91, _⟩ => ⟨S1x2x64x16x64, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | _, _ => ⟨S1x2x64x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_c : Ref sig .tc := ⟨.hbm, 21, rfl⟩
abbrev main_call0_v0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_0 : Ref sig .tc := ⟨.hbm, 30, rfl⟩
abbrev main_call1_v0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_c_1 : Ref sig .tc := ⟨.hbm, 39, rfl⟩
abbrev main_call2_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_2 : Ref sig .tc := ⟨.hbm, 48, rfl⟩
abbrev main_call3_v0 : Ref sig .tc := ⟨.hbm, 49, rfl⟩
abbrev main_v26 : Ref sig .tc := ⟨.hbm, 50, rfl⟩
abbrev main_v27 : Ref sig .tc := ⟨.hbm, 51, rfl⟩
abbrev main_v28_0 : Ref sig .tc := ⟨.hbm, 52, rfl⟩
abbrev main_v28_1 : Ref sig .tc := ⟨.hbm, 53, rfl⟩
abbrev main_v28_2 : Ref sig .tc := ⟨.hbm, 54, rfl⟩
abbrev main_v28_3 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpdSmallRefIdeal.lean ====
abbrev S1x2x64x64x16 : Shape := ⟨5, ![1, 2, 64, 64, 16]⟩
abbrev S1x2x64x16x64 : Shape := ⟨5, ![1, 2, 64, 16, 64]⟩
abbrev S_ : Shape := ⟨0, ![]⟩

abbrev nBuf : Space → Nat
  | .hbm => 148
  | .vmem => 0
  | .smem => 0
  | _ => 0

abbrev hbmTy0_0 (i : Nat) : BufTy := match i % 128 with
  | 0 => ⟨S1x2x64x64x16, .f32⟩
  | 1 => ⟨S1x2x64x64x16, .f32⟩
  | 2 => ⟨S1x2x64x16x64, .f32⟩
  | 3 => ⟨S1x2x64x16x64, .f32⟩
  | 4 => ⟨S1x2x64x64x16, .f32⟩
  | 5 => ⟨S1x2x64x64x16, .f32⟩
  | 6 => ⟨S1x2x64x16x64, .f32⟩
  | 7 => ⟨S1x2x64x16x64, .f32⟩
  | 8 => ⟨S1x2x64x64x16, .f32⟩
  | 9 => ⟨S1x2x64x64x16, .f32⟩
  | 10 => ⟨S1x2x64x16x64, .f32⟩
  | 11 => ⟨S1x2x64x16x64, .f32⟩
  | 12 => ⟨S1x2x64x64x16, .f32⟩
  | 13 => ⟨S1x2x64x64x16, .f32⟩
  | 14 => ⟨S1x2x64x16x64, .f32⟩
  | 15 => ⟨S1x2x64x16x64, .f32⟩
  | 16 => ⟨S_, .f32⟩
  | 17 => ⟨S1x2x64x64x16, .f32⟩
  | 18 => ⟨S1x2x64x64x16, .f32⟩
  | 19 => ⟨S_, .f32⟩
  | 20 => ⟨S1x2x64x64x16, .f32⟩
  | 21 => ⟨S1x2x64x64x16, .f32⟩
  | 22 => ⟨S1x2x64x64x16, .f32⟩
  | 23 => ⟨S_, .f32⟩
  | 24 => ⟨S1x2x64x64x16, .f32⟩
  | 25 => ⟨S1x2x64x64x16, .f32⟩
  | 26 => ⟨S1x2x64x64x16, .f32⟩
  | 27 => ⟨S_, .f32⟩
  | 28 => ⟨S1x2x64x64x16, .f32⟩
  | 29 => ⟨S1x2x64x64x16, .f32⟩
  | 30 => ⟨S1x2x64x64x16, .f32⟩
  | 31 => ⟨S_, .f32⟩
  | 32 => ⟨S1x2x64x64x16, .f32⟩
  | 33 => ⟨S1x2x64x64x16, .f32⟩
  | 34 => ⟨S_, .f32⟩
  | 35 => ⟨S1x2x64x64x16, .f32⟩
  | 36 => ⟨S1x2x64x64x16, .f32⟩
  | 37 => ⟨S1x2x64x64x16, .f32⟩
  | 38 => ⟨S_, .f32⟩
  | 39 => ⟨S1x2x64x64x16, .f32⟩
  | 40 => ⟨S1x2x64x64x16, .f32⟩
  | 41 => ⟨S1x2x64x64x16, .f32⟩
  | 42 => ⟨S_, .f32⟩
  | 43 => ⟨S1x2x64x64x16, .f32⟩
  | 44 => ⟨S1x2x64x64x16, .f32⟩
  | 45 => ⟨S1x2x64x64x16, .f32⟩
  | 46 => ⟨S_, .f32⟩
  | 47 => ⟨S1x2x64x64x16, .f32⟩
  | 48 => ⟨S1x2x64x64x16, .f32⟩
  | 49 => ⟨S_, .f32⟩
  | 50 => ⟨S1x2x64x64x16, .f32⟩
  | 51 => ⟨S1x2x64x64x16, .f32⟩
  | 52 => ⟨S_, .f32⟩
  | 53 => ⟨S1x2x64x64x16, .f32⟩
  | 54 => ⟨S1x2x64x64x16, .f32⟩
  | 55 => ⟨S1x2x64x64x16, .f32⟩
  | 56 => ⟨S_, .f32⟩
  | 57 => ⟨S1x2x64x64x16, .f32⟩
  | 58 => ⟨S1x2x64x64x16, .f32⟩
  | 59 => ⟨S1x2x64x64x16, .f32⟩
  | 60 => ⟨S_, .f32⟩
  | 61 => ⟨S1x2x64x64x16, .f32⟩
  | 62 => ⟨S1x2x64x64x16, .f32⟩
  | 63 => ⟨S1x2x64x64x16, .f32⟩
  | 64 => ⟨S_, .f32⟩
  | 65 => ⟨S1x2x64x64x16, .f32⟩
  | 66 => ⟨S1x2x64x64x16, .f32⟩
  | 67 => ⟨S_, .f32⟩
  | 68 => ⟨S1x2x64x64x16, .f32⟩
  | 69 => ⟨S1x2x64x64x16, .f32⟩
  | 70 => ⟨S1x2x64x64x16, .f32⟩
  | 71 => ⟨S_, .f32⟩
  | 72 => ⟨S1x2x64x64x16, .f32⟩
  | 73 => ⟨S1x2x64x64x16, .f32⟩
  | 74 => ⟨S1x2x64x64x16, .f32⟩
  | 75 => ⟨S_, .f32⟩
  | 76 => ⟨S1x2x64x64x16, .f32⟩
  | 77 => ⟨S1x2x64x64x16, .f32⟩
  | 78 => ⟨S1x2x64x64x16, .f32⟩
  | 79 => ⟨S_, .f32⟩
  | 80 => ⟨S1x2x64x64x16, .f32⟩
  | 81 => ⟨S1x2x64x64x16, .f32⟩
  | 82 => ⟨S_, .f32⟩
  | 83 => ⟨S1x2x64x16x64, .f32⟩
  | 84 => ⟨S1x2x64x16x64, .f32⟩
  | 85 => ⟨S_, .f32⟩
  | 86 => ⟨S1x2x64x16x64, .f32⟩
  | 87 => ⟨S1x2x64x16x64, .f32⟩
  | 88 => ⟨S1x2x64x16x64, .f32⟩
  | 89 => ⟨S_, .f32⟩
  | 90 => ⟨S1x2x64x16x64, .f32⟩
  | 91 => ⟨S1x2x64x16x64, .f32⟩
  | 92 => ⟨S1x2x64x16x64, .f32⟩
  | 93 => ⟨S_, .f32⟩
  | 94 => ⟨S1x2x64x16x64, .f32⟩
  | 95 => ⟨S1x2x64x16x64, .f32⟩
  | 96 => ⟨S1x2x64x16x64, .f32⟩
  | 97 => ⟨S_, .f32⟩
  | 98 => ⟨S1x2x64x16x64, .f32⟩
  | 99 => ⟨S1x2x64x16x64, .f32⟩
  | 100 => ⟨S_, .f32⟩
  | 101 => ⟨S1x2x64x16x64, .f32⟩
  | 102 => ⟨S1x2x64x16x64, .f32⟩
  | 103 => ⟨S1x2x64x16x64, .f32⟩
  | 104 => ⟨S_, .f32⟩
  | 105 => ⟨S1x2x64x16x64, .f32⟩
  | 106 => ⟨S1x2x64x16x64, .f32⟩
  | 107 => ⟨S1x2x64x16x64, .f32⟩
  | 108 => ⟨S_, .f32⟩
  | 109 => ⟨S1x2x64x16x64, .f32⟩
  | 110 => ⟨S1x2x64x16x64, .f32⟩
  | 111 => ⟨S1x2x64x16x64, .f32⟩
  | 112 => ⟨S_, .f32⟩
  | 113 => ⟨S1x2x64x16x64, .f32⟩
  | 114 => ⟨S1x2x64x16x64, .f32⟩
  | 115 => ⟨S_, .f32⟩
  | 116 => ⟨S1x2x64x16x64, .f32⟩
  | 117 => ⟨S1x2x64x16x64, .f32⟩
  | 118 => ⟨S_, .f32⟩
  | 119 => ⟨S1x2x64x16x64, .f32⟩
  | 120 => ⟨S1x2x64x16x64, .f32⟩
  | 121 => ⟨S1x2x64x16x64, .f32⟩
  | 122 => ⟨S_, .f32⟩
  | 123 => ⟨S1x2x64x16x64, .f32⟩
  | 124 => ⟨S1x2x64x16x64, .f32⟩
  | 125 => ⟨S1x2x64x16x64, .f32⟩
  | 126 => ⟨S_, .f32⟩
  | 127 => ⟨S1x2x64x16x64, .f32⟩
  | _ => ⟨S1x2x64x64x16, .f32⟩

abbrev hbmTy0_1 (i : Nat) : BufTy := match i % 128 with
  | 0 => ⟨S1x2x64x16x64, .f32⟩
  | 1 => ⟨S1x2x64x16x64, .f32⟩
  | 2 => ⟨S_, .f32⟩
  | 3 => ⟨S1x2x64x16x64, .f32⟩
  | 4 => ⟨S1x2x64x16x64, .f32⟩
  | 5 => ⟨S_, .f32⟩
  | 6 => ⟨S1x2x64x16x64, .f32⟩
  | 7 => ⟨S1x2x64x16x64, .f32⟩
  | 8 => ⟨S1x2x64x16x64, .f32⟩
  | 9 => ⟨S_, .f32⟩
  | 10 => ⟨S1x2x64x16x64, .f32⟩
  | 11 => ⟨S1x2x64x16x64, .f32⟩
  | 12 => ⟨S1x2x64x16x64, .f32⟩
  | 13 => ⟨S_, .f32⟩
  | 14 => ⟨S1x2x64x16x64, .f32⟩
  | 15 => ⟨S1x2x64x16x64, .f32⟩
  | 16 => ⟨S1x2x64x16x64, .f32⟩
  | 17 => ⟨S_, .f32⟩
  | 18 => ⟨S1x2x64x16x64, .f32⟩
  | 19 => ⟨S1x2x64x16x64, .f32⟩
  | _ => ⟨S1x2x64x64x16, .f32⟩

abbrev hbmTy (i : Nat) : BufTy := match i / 128 with
  | 0 => hbmTy0_0 i
  | 1 => hbmTy0_1 i
  | _ => ⟨S1x2x64x64x16, .f32⟩

abbrev bufTy : (tb : Table) → Fin (tcTables nBuf tb) → BufTy
  | .hbm, ⟨i, _⟩ => hbmTy i
  | _, _ => ⟨S1x2x64x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_3 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_cst_5 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_6 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_7 : Ref sig .tc := ⟨.hbm, 46, rfl⟩
abbrev main_v22 : Ref sig .tc := ⟨.hbm, 47, rfl⟩
abbrev main_v23 : Ref sig .tc := ⟨.hbm, 48, rfl⟩
abbrev main_cst_8 : Ref sig .tc := ⟨.hbm, 49, rfl⟩
abbrev main_v24 : Ref sig .tc := ⟨.hbm, 50, rfl⟩
abbrev main_v25 : Ref sig .tc := ⟨.hbm, 51, rfl⟩
abbrev main_cst_9 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_10 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_cst_11 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_cst_12 : Ref sig .tc := ⟨.hbm, 64, rfl⟩
abbrev main_v35 : Ref sig .tc := ⟨.hbm, 65, rfl⟩
abbrev main_v36 : Ref sig .tc := ⟨.hbm, 66, rfl⟩
abbrev main_cst_13 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_14 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_cst_15 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_cst_16 : Ref sig .tc := ⟨.hbm, 79, rfl⟩
abbrev main_v46 : Ref sig .tc := ⟨.hbm, 80, rfl⟩
abbrev main_v47 : Ref sig .tc := ⟨.hbm, 81, rfl⟩
abbrev main_cst_17 : Ref sig .tc := ⟨.hbm, 82, rfl⟩
abbrev main_v48 : Ref sig .tc := ⟨.hbm, 83, rfl⟩
abbrev main_v49 : Ref sig .tc := ⟨.hbm, 84, rfl⟩
abbrev main_cst_18 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_cst_19 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_cst_20 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_cst_21 : Ref sig .tc := ⟨.hbm, 97, rfl⟩
abbrev main_v59 : Ref sig .tc := ⟨.hbm, 98, rfl⟩
abbrev main_v60 : Ref sig .tc := ⟨.hbm, 99, rfl⟩
abbrev main_cst_22 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_23 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_cst_24 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_cst_25 : Ref sig .tc := ⟨.hbm, 112, rfl⟩
abbrev main_v70 : Ref sig .tc := ⟨.hbm, 113, rfl⟩
abbrev main_v71 : Ref sig .tc := ⟨.hbm, 114, rfl⟩
abbrev main_cst_26 : Ref sig .tc := ⟨.hbm, 115, rfl⟩
abbrev main_v72 : Ref sig .tc := ⟨.hbm, 116, rfl⟩
abbrev main_v73 : Ref sig .tc := ⟨.hbm, 117, rfl⟩
abbrev main_cst_27 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_cst_28 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_cst_29 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_cst_30 : Ref sig .tc := ⟨.hbm, 130, rfl⟩
abbrev main_v83 : Ref sig .tc := ⟨.hbm, 131, rfl⟩
abbrev main_v84 : Ref sig .tc := ⟨.hbm, 132, rfl⟩
abbrev main_cst_31 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_32 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_33 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_cst_34 : Ref sig .tc := ⟨.hbm, 145, rfl⟩
abbrev main_v94 : Ref sig .tc := ⟨.hbm, 146, rfl⟩
abbrev main_v95 : Ref sig .tc := ⟨.hbm, 147, rfl⟩

abbrev nD : Nat := 1
abbrev τ : Topo := Topo.v7x

variable {F : FTy → Type} [FloatOps F]
-- ==== UpdMod.lean ====
abbrev S8x2048 : Shape := ⟨2, ![8, 2048]⟩
abbrev S2048 : Shape := ⟨1, ![2048]⟩
abbrev S8x4608 : Shape := ⟨2, ![8, 4608]⟩
abbrev S1x4608 : Shape := ⟨2, ![1, 4608]⟩
abbrev S1x2048x4608 : Shape := ⟨3, ![1, 2048, 4608]⟩
abbrev S1x2048 : Shape := ⟨2, ![1, 2048]⟩
abbrev S_ : Shape := ⟨0, ![]⟩
abbrev S7x2048 : Shape := ⟨2, ![7, 2048]⟩
abbrev S16x2048 : Shape := ⟨2, ![16, 2048]⟩
abbrev S7x4608 : Shape := ⟨2, ![7, 4608]⟩
abbrev S16x4608 : Shape := ⟨2, ![16, 4608]⟩
abbrev S16x128 : Shape := ⟨2, ![16, 128]⟩
abbrev S1x128x4608 : Shape := ⟨3, ![1, 128, 4608]⟩
abbrev S128x4608 : Shape := ⟨2, ![128, 4608]⟩

abbrev nBuf : Space → Nat
  | .hbm => 18
  | .vmem => 17
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S8x4608, .f32⟩
  | .hbm, ⟨3, _⟩ => ⟨S1x4608, .f32⟩
  | .hbm, ⟨4, _⟩ => ⟨S1x2048x4608, .f32⟩
  | .hbm, ⟨5, _⟩ => ⟨S1x2048x4608, .f32⟩
  | .hbm, ⟨6, _⟩ => ⟨S1x2048x4608, .f32⟩
  | .hbm, ⟨7, _⟩ => ⟨S1x2048, .f32⟩
  | .hbm, ⟨8, _⟩ => ⟨S_, .f32⟩
  | .hbm, ⟨9, _⟩ => ⟨S7x2048, .f32⟩
  | .hbm, ⟨10, _⟩ => ⟨S16x2048, .f32⟩
  | .hbm, ⟨11, _⟩ => ⟨S_, .f32⟩
  | .hbm, ⟨12, _⟩ => ⟨S7x4608, .f32⟩
  | .hbm, ⟨13, _⟩ => ⟨S16x4608, .f32⟩
  | .hbm, ⟨14, _⟩ => ⟨S1x2048x4608, .f32⟩
  | .hbm, ⟨15, _⟩ => ⟨S1x2048x4608, .f32⟩
  | .hbm, ⟨16, _⟩ => ⟨S1x2048x4608, .f32⟩
  | .hbm, ⟨17, _⟩ => ⟨S1x2048x4608, .f32⟩
  | .local _ .vmem, ⟨0, _⟩ => ⟨S16x128, .f32⟩
  | .local _ .vmem, ⟨1, _⟩ => ⟨S16x128, .f32⟩
  | .local _ .vmem, ⟨2, _⟩ => ⟨S16x4608, .f32⟩
  | .local _ .vmem, ⟨3, _⟩ => ⟨S1x128x4608, .f32⟩
  | .local _ .vmem, ⟨4, _⟩ => ⟨S1x128x4608, .f32⟩
  | .local _ .vmem, ⟨5, _⟩ => ⟨S1x128x4608, .f32⟩
  | .local _ .vmem, ⟨6, _⟩ => ⟨S1x128x4608, .f32⟩
  | .local _ .vmem, ⟨7, _⟩ => ⟨S1x128x4608, .f32⟩
  | .local _ .vmem, ⟨8, _⟩ => ⟨S1x128x4608, .f32⟩
  | .local _ .vmem, ⟨9, _⟩ => ⟨S1x128x4608, .f32⟩
  | .local _ .vmem, ⟨10, _⟩ => ⟨S1x128x4608, .f32⟩
  | .local _ .vmem, ⟨11, _⟩ => ⟨S1x128x4608, .f32⟩
  | .local _ .vmem, ⟨12, _⟩ => ⟨S1x128x4608, .f32⟩
  | .local _ .vmem, ⟨13, _⟩ => ⟨S1x128x4608, .f32⟩
  | .local _ .vmem, ⟨14, _⟩ => ⟨S1x128x4608, .f32⟩
  | .local _ .vmem, ⟨15, _⟩ => ⟨S1x128x4608, .f32⟩
  | .local _ .vmem, ⟨16, _⟩ => ⟨S1x128x4608, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5_0 : Ref sig .tc := ⟨.hbm, 14, rfl⟩
abbrev main_v5_1 : Ref sig .tc := ⟨.hbm, 15, rfl⟩
abbrev main_v5_2 : Ref sig .tc := ⟨.hbm, 16, rfl⟩
abbrev main_v5_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x4608 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x4608 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x4608 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x4608 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x4608 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x4608 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x4608 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x4608 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== UpdModRefIdeal.lean ====
abbrev S8x2048 : Shape := ⟨2, ![8, 2048]⟩
abbrev S2048 : Shape := ⟨1, ![2048]⟩
abbrev S8x4608 : Shape := ⟨2, ![8, 4608]⟩
abbrev S1x4608 : Shape := ⟨2, ![1, 4608]⟩
abbrev S1x2048x4608 : Shape := ⟨3, ![1, 2048, 4608]⟩
abbrev S2048x4608 : Shape := ⟨2, ![2048, 4608]⟩
abbrev S_ : Shape := ⟨0, ![]⟩
abbrev S1x2048 : Shape := ⟨2, ![1, 2048]⟩
abbrev S4608x2048 : Shape := ⟨2, ![4608, 2048]⟩

abbrev nBuf : Space → Nat
  | .hbm => 68
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048, .f32⟩
  | .hbm, ⟨2, _⟩ => ⟨S8x4608, .f32⟩
  | .hbm, ⟨3, _⟩ => ⟨S1x4608, .f32⟩
  | .hbm, ⟨4, _⟩ => ⟨S1x2048x4608, .f32⟩
  | .hbm, ⟨5, _⟩ => ⟨S1x2048x4608, .f32⟩
  | .hbm, ⟨6, _⟩ => ⟨S1x2048x4608, .f32⟩
  | .hbm, ⟨7, _⟩ => ⟨S2048x4608, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S8x4608, .f32⟩
  | .hbm, ⟨18, _⟩ => ⟨S2048, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S_, .f32⟩
  | .hbm, ⟨24, _⟩ => ⟨S2048, .f32⟩
  | .hbm, ⟨25, _⟩ => ⟨S2048, .f32⟩
  | .hbm, ⟨26, _⟩ => ⟨S2048, .f32⟩
  | .hbm, ⟨27, _⟩ => ⟨S1x2048, .f32⟩
  | .hbm, ⟨28, _⟩ => ⟨S1x4608, .f32⟩
  | .hbm, ⟨29, _⟩ => ⟨S4608x2048, .f32⟩
  | .hbm, ⟨30, _⟩ => ⟨S2048x4608, .f32⟩
  | .hbm, ⟨31, _⟩ => ⟨S4608x2048, .f32⟩
  | .hbm, ⟨32, _⟩ => ⟨S2048x4608, .f32⟩
  | .hbm, ⟨33, _⟩ => ⟨S2048x4608, .f32⟩
  | .hbm, ⟨34, _⟩ => ⟨S1x2048x4608, .f32⟩
  | .hbm, ⟨35, _⟩ => ⟨S_, .f32⟩
  | .hbm, ⟨36, _⟩ => ⟨S1x2048x4608, .f32⟩
  | .hbm, ⟨37, _⟩ => ⟨S1x2048x4608, .f32⟩
  | .hbm, ⟨38, _⟩ => ⟨S_, .f32⟩
  | .hbm, ⟨39, _⟩ => ⟨S1x2048x4608, .f32⟩
  | .hbm, ⟨40, _⟩ => ⟨S1x2048x4608, .f32⟩
  | .hbm, ⟨41, _⟩ => ⟨S1x2048x4608, .f32⟩
  | .hbm, ⟨42, _⟩ => ⟨S_, .f32⟩
  | .hbm, ⟨43, _⟩ => ⟨S1x2048x4608, .f32⟩
  | .hbm, ⟨44, _⟩ => ⟨S1x2048x4608, .f32⟩
  | .hbm, ⟨45, _⟩ => ⟨S1x2048x4608, .f32⟩
  | .hbm, ⟨46, _⟩ => ⟨S_, .f32⟩
  | .hbm, ⟨47, _⟩ => ⟨S1x2048x4608, .f32⟩
  | .hbm, ⟨48, _⟩ => ⟨S1x2048x4608, .f32⟩
  | .hbm, ⟨49, _⟩ => ⟨S1x2048x4608, .f32⟩
  | .hbm, ⟨50, _⟩ => ⟨S_, .f32⟩
  | .hbm, ⟨51, _⟩ => ⟨S1x2048x4608, .f32⟩
  | .hbm, ⟨52, _⟩ => ⟨S1x2048x4608, .f32⟩
  | .hbm, ⟨53, _⟩ => ⟨S_, .f32⟩
  | .hbm, ⟨54, _⟩ => ⟨S1x2048x4608, .f32⟩
  | .hbm, ⟨55, _⟩ => ⟨S1x2048x4608, .f32⟩
  | .hbm, ⟨56, _⟩ => ⟨S1x2048x4608, .f32⟩
  | .hbm, ⟨57, _⟩ => ⟨S_, .f32⟩
  | .hbm, ⟨58, _⟩ => ⟨S1x2048x4608, .f32⟩
  | .hbm, ⟨59, _⟩ => ⟨S1x2048x4608, .f32⟩
  | .hbm, ⟨60, _⟩ => ⟨S1x2048x4608, .f32⟩
  | .hbm, ⟨61, _⟩ => ⟨S_, .f32⟩
  | .hbm, ⟨62, _⟩ => ⟨S1x2048x4608, .f32⟩
  | .hbm, ⟨63, _⟩ => ⟨S1x2048x4608, .f32⟩
  | .hbm, ⟨64, _⟩ => ⟨S1x2048x4608, .f32⟩
  | .hbm, ⟨65, _⟩ => ⟨S_, .f32⟩
  | .hbm, ⟨66, _⟩ => ⟨S1x2048x4608, .f32⟩
  | .hbm, ⟨67, _⟩ => ⟨S1x2048x4608, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_call1_v5 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_cst : Ref sig .tc := ⟨.hbm, 35, rfl⟩
abbrev main_v12 : Ref sig .tc := ⟨.hbm, 36, rfl⟩
abbrev main_v13 : Ref sig .tc := ⟨.hbm, 37, rfl⟩
abbrev main_cst_0 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_1 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst_2 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_cst_4 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_cst_5 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_6 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_7 : Ref sig .tc := ⟨.hbm, 65, rfl⟩
abbrev main_v34 : Ref sig .tc := ⟨.hbm, 66, rfl⟩
abbrev main_v35 : Ref sig .tc := ⟨.hbm, 67, rfl⟩

abbrev nD : Nat := 1
abbrev τ : Topo := Topo.v7x

variable {F : FTy → Type} [FloatOps F]
-- ==== Proof.Rows.lean ====
module

public import Idealize.ShloMosaic.Lib.Pointwise
public import Idealize.ShloMosaic.Lib.IdealHost

@[expose] public section

noncomputable section

/-! One row of a softmax and of its derivative, over the extended reals: the kernel's spelling and the reference's. -/

namespace Cert.Rows

open Idealize.ShloMosaic

variable {n : ℕ}

/-- The scale of the scores, one over the square root of the head's width as the programs hold it. -/
abbrev c0 : EReal := Ideal.ofBits .f32 1035273459#32

/-- The word of minus infinity, from which a row's maximum starts. -/
abbrev negInf : EReal := Ideal.ofBits .f32 4286578688#32

/-- The greatest entry of a row. -/
def mx (x : Fin n → EReal) : EReal := Finset.univ.fold max negInf x

/-- The exponential of an entry less the row's greatest. -/
def ex (x : Fin n → EReal) (s : Fin n) : EReal := Ideal.exp (x s - mx x)

/-- The sum of a row's exponentials. -/
def sm (x : Fin n → EReal) : EReal := ∑ s, ex x s

/-- A probability as the kernel forms it: times the sum's inverse. -/
def pr (x : Fin n → EReal) (s : Fin n) : EReal := ex x s * Ideal.div 1 (sm x)

/-- The derivative of a score as the kernel forms it, from the cotangents of the probabilities. -/
def ds (x a : Fin n → EReal) (s : Fin n) : EReal := pr x s * (a s - ∑ j, pr x j * a j) * c0

theorem negInf_eq : negInf = ⊥ := by simp [negInf, Ideal.ofBits, Ideal.ieee]

/-- A fold of `max` from `⊥` over real entries of a nonempty row is one of the entries, and bounds them all. -/
theorem mx_spec (x : Fin n → EReal) :
    (∀ s, x s ≤ mx x) ∧ (mx x = ⊥ ∨ ∃ s, mx x = x s) := by
  unfold mx
  rw [negInf_eq]
  constructor
  · intro s
    rw [Finset.le_fold_max]
    exact Or.inr ⟨s, Finset.mem_univ s, le_rfl⟩
  · have key : ∀ S : Finset (Fin n), S.fold max ⊥ x = ⊥ ∨ ∃ s, S.fold max ⊥ x = x s := by
      intro S
      induction S using Finset.induction_on with
      | empty => exact Or.inl rfl
      | insert a S ha ih =>
        rw [Finset.fold_insert ha]
        rcases max_choice (x a) (S.fold max ⊥ x) with h | h
        · exact Or.inr ⟨a, h⟩
        · rw [h]; exact ih
    exact key Finset.univ

/-- The exponentials of a row of reals are positive reals. -/
theorem ex_real (x : Fin n → EReal) (hx : ∀ s, ∃ r : ℝ, x s = r) (s : Fin n) : ∃ r : ℝ, 0 < r ∧ ex x s = r := by
  obtain ⟨hle, h⟩ := mx_spec x
  have hm : ∃ r : ℝ, mx x = r := by
    rcases h with h | ⟨j, h⟩
    · obtain ⟨r, hr⟩ := hx s
      have := hle s
      rw [h, hr] at this
      exact absurd (le_bot_iff.mp this) (EReal.coe_ne_bot r)
    · rw [h]; exact hx j
  obtain ⟨r, hr⟩ := hx s
  obtain ⟨u, hu⟩ := hm
  refine ⟨Real.exp (r - u), Real.exp_pos _, ?_⟩
  unfold ex
  rw [hr, hu, ← EReal.coe_sub]
  rfl

/-- A finite sum of reals, read as extended reals. -/
theorem coe_sum {ι : Type*} (S : Finset ι) (f : ι → ℝ) : ((∑ s ∈ S, f s : ℝ) : EReal) = ∑ s ∈ S, (f s : EReal) := by
  classical
  induction S using Finset.induction_on with
  | empty => simp
  | insert a S ha ih => rw [Finset.sum_insert ha, Finset.sum_insert ha, EReal.coe_add, ih]

/-- A positive real factor enters a finite sum of extended reals. -/
theorem mul_sum {ι : Type*} (S : Finset ι) (c : ℝ) (hc : 0 ≤ c) (f : ι → EReal) :
    (c : EReal) * ∑ s ∈ S, f s = ∑ s ∈ S, (c : EReal) * f s := by
  classical
  induction S using Finset.induction_on with
  | empty => simp
  | insert a S ha ih =>
    rw [Finset.sum_insert ha, Finset.sum_insert ha,
      EReal.left_distrib_of_nonneg_of_ne_top (EReal.coe_nonneg.mpr hc) (EReal.coe_ne_top c), ih]

/-- A row of reals with an entry has a positive real sum of exponentials. -/
theorem sm_real (x : Fin n → EReal) (hx : ∀ s, ∃ r : ℝ, x s = r) (hn : 0 < n) : ∃ r : ℝ, 0 < r ∧ sm x = r := by
  choose e he hxe using ex_real x hx
  refine ⟨∑ s, e s, Finset.sum_pos (fun s _ => he s) ⟨⟨0, hn⟩, Finset.mem_univ _⟩, ?_⟩
  rw [coe_sum]
  exact Finset.sum_congr rfl fun s _ => hxe s

/-- Division by a nonzero real is the product with its inverse. -/
theorem div_real (a : EReal) (r : ℝ) (hr : r ≠ 0) : Ideal.div a r = a * ((r⁻¹ : ℝ) : EReal) := by
  rw [Ideal.div, if_neg (by exact_mod_cast hr), EReal.coe_inv]

/-- The reference's probability is the kernel's. -/
theorem pr_eq (x : Fin n → EReal) (hx : ∀ s, ∃ r : ℝ, x s = r) (s : Fin n) : Ideal.div (ex x s) (sm x) = pr x s := by
  obtain ⟨t, ht, hs⟩ := sm_real x hx (Nat.lt_of_le_of_lt (Nat.zero_le _) s.isLt)
  rw [pr, hs, div_real _ _ ht.ne', div_real _ _ ht.ne', one_mul]

/-- The reference differentiates the softmax as a quotient: the result is the kernel's derivative. -/
theorem ds_eq (x a : Fin n → EReal) (hx : ∀ s, ∃ r : ℝ, x s = r) (s : Fin n) :
    (Ideal.div (a s) (sm x) + ∑ _j : Fin 1, -∑ j, a j * Ideal.div 1 (sm x * sm x) * ex x j) * ex x s * c0 = ds x a s := by
  obtain ⟨t, ht, hs⟩ := sm_real x hx (Nat.lt_of_le_of_lt (Nat.zero_le _) s.isLt)
  have hc : 0 ≤ t⁻¹ := (inv_pos.mpr ht).le
  have hsum : ∑ j, a j * Ideal.div 1 (sm x * sm x) * ex x j = ((t⁻¹ : ℝ) : EReal) * ∑ j, pr x j * a j := by
    rw [mul_sum _ _ hc]
    refine Finset.sum_congr rfl fun j _ => ?_
    rw [pr, hs, ← EReal.coe_mul, div_real _ _ ht.ne', div_real _ _ (mul_pos ht ht).ne', mul_inv, EReal.coe_mul]
    simp only [one_mul]
    ac_rfl
  rw [Fin.sum_univ_one, hsum, ds]
  conv_rhs => rw [pr]
  rw [hs, div_real _ _ ht.ne', div_real _ _ ht.ne', one_mul, sub_eq_add_neg, mul_comm (a s), ← mul_neg,
    ← EReal.left_distrib_of_nonneg_of_ne_top (EReal.coe_nonneg.mpr hc) (EReal.coe_ne_top _)]
  ac_rfl

/-- The scale is a real. -/
theorem c0_real : ∃ r : ℝ, c0 = r := by
  simp only [c0, Ideal.ofBits, Ideal.ieee]
  rw [if_neg (by decide), if_neg (by decide)]
  exact ⟨_, rfl⟩

/-- A scaled product of two real rows is a real. -/
theorem score_real {d : ℕ} (f g : Fin d → EReal) (hf : ∀ x, ∃ r : ℝ, f x = r) (hg : ∀ x, ∃ r : ℝ, g x = r) :
    ∃ r : ℝ, (∑ x, f x * g x) * c0 = r := by
  choose u hu using hf
  choose v hv using hg
  obtain ⟨c, hc⟩ := c0_real
  refine ⟨(∑ x, u x * v x) * c, ?_⟩
  rw [hc, EReal.coe_mul, coe_sum]
  simp only [hu, hv, EReal.coe_mul]

end Cert.Rows

end
-- ==== Proof.Spec.lean ====
module

public import proofs.«01_k».proof.Proof.Rows
public import Idealize.ShloMosaic.Lib.Pointwise

@[expose] public section

noncomputable section

/-! The attention's three gradients as sums over the argument arrays, the form both programs are brought to. -/

namespace Cert.Spec

open Idealize.ShloMosaic

/-- The arrays of the queries (context rows first) and of the keys and values. -/
abbrev Qs := (⟨2, ![2304, 2048]⟩ : Shape).Idx → EReal
abbrev Ks := (⟨2, ![2304, 512]⟩ : Shape).Idx → EReal
abbrev Os := (⟨2, ![2048, 2048]⟩ : Shape).Idx → EReal

variable (X0 : Qs) (X1 X2 : Ks) (X3 : Os)

/-- The scores of query row `i` of head `r` of group `g`. -/
def sc (g r : Fin 4) (i : Fin 2048) : Fin 2304 → EReal :=
  fun s => (∑ x : Fin 128, X0 (ix2 ⟨256 + i.val, by omega⟩ ⟨g.val * 512 + r.val * 128 + x.val, by omega⟩) * X1 (ix2 s ⟨g.val * 128 + x.val, by omega⟩)) * Rows.c0

/-- The cotangents of that row's probabilities. -/
def dp (g r : Fin 4) (i : Fin 2048) : Fin 2304 → EReal :=
  fun s => ∑ x : Fin 128, X3 (ix2 i ⟨g.val * 512 + r.val * 128 + x.val, by omega⟩) * X2 (ix2 s ⟨g.val * 128 + x.val, by omega⟩)

/-- The gradient of the queries. -/
def dq (i n : Fin 2048) : EReal :=
  ∑ s : Fin 2304, Rows.ds (sc X0 X1 ⟨n.val / 512, by omega⟩ ⟨n.val / 128 % 4, by omega⟩ i) (dp X2 X3 ⟨n.val / 512, by omega⟩ ⟨n.val / 128 % 4, by omega⟩ i) s
    * X1 (ix2 s ⟨n.val / 512 * 128 + n.val % 128, by omega⟩)

/-- The gradient of the keys. -/
def dk (s : Fin 2304) (n : Fin 512) : EReal :=
  ∑ r : Fin 4, ∑ i : Fin 2048, Rows.ds (sc X0 X1 ⟨n.val / 128, by omega⟩ r i) (dp X2 X3 ⟨n.val / 128, by omega⟩ r i) s
    * X0 (ix2 ⟨256 + i.val, by omega⟩ ⟨n.val / 128 * 512 + r.val * 128 + n.val % 128, by omega⟩)

/-- The gradient of the values. -/
def dv (s : Fin 2304) (n : Fin 512) : EReal :=
  ∑ r : Fin 4, ∑ i : Fin 2048, Rows.pr (sc X0 X1 ⟨n.val / 128, by omega⟩ r i) s
    * X3 (ix2 i ⟨n.val / 128 * 512 + r.val * 128 + n.val % 128, by omega⟩)

/-- The three as arrays. -/
def gradQ : Os := fun j => dq X0 X1 X2 X3 (j 0) (j 1)
def gradK : Ks := fun j => dk X0 X1 X2 X3 (j 0) (j 1)
def gradV : Ks := fun j => dv X0 X1 X3 (j 0) (j 1)

/-- Real queries and real keys have real scores. -/
theorem sc_real (h0 : ∀ (i : Fin 2048) (n : Fin 2048), ∃ x : ℝ, X0 (ix2 ⟨256 + i.val, by omega⟩ n) = x) (h1 : ∀ j, ∃ x : ℝ, X1 j = x)
    (g r : Fin 4) (i : Fin 2048) (s : Fin 2304) : ∃ x : ℝ, sc X0 X1 g r i s = x :=
  Rows.score_real _ _ (fun _ => h0 i _) (fun _ => h1 _)

end Cert.Spec

end
-- ==== Proof.Ref.lean ====
module

public import proofs.«01_k».proof.Proof.Gen.ReferenceIdeal.Run
public import proofs.«01_k».proof.Proof.Spec
public import Idealize.ShloMosaic.Lib.Pointwise

@[expose] public section

set_option maxRecDepth 16384

noncomputable section

/-! The reference's composed terms, cut where the mathematics cuts them, each read at an index. -/

namespace Cert.ReferenceIdeal.Value

open Cert.ReferenceIdeal Cert.ReferenceIdeal.Gen Idealize.ShloMosaic Idealize.ShloMosaic.TcCoe

/-- An array of one entry per (kv head, query head of the group, query row, key). -/
abbrev Cube := FVec Ideal S4x4x2048x2304 .f32

/-- The scaled scores of every head. -/
def scores (X0 : FVec Ideal S2304x2048 .bf16) (X1 : FVec Ideal S2304x512 .bf16) : Cube :=
  mulf (transpose S4x4x2048x2304 [0, 3, 2, 1] (Host.dotGeneral dot_S2304x4x128_S2048x4x4x128_S4x2304x2048x4_2_3_0_02_1_1 none (shapeCast _ (extf .f32 X1 bitsLt_bf16_f32) shapeCasts_S2304x512_S2304x4x128) (shapeCast _ (extf .f32 (extractStridedSlice S2048x2048 ![256, 0] X0 slices_S2304x2048_S2048x2048_256_0) bitsLt_bf16_f32) shapeCasts_S2048x2048_S2048x4x4x128)) transposes_S4x2304x2048x4_S4x4x2048x2304_0_3_2_1) (broadcastInDim S4x4x2048x2304 ![] bcast_S_S4x4x2048x2304 (constant S_ .f32 0x3DB504F3#32))

/-- The greatest score of every row. -/
def rowMax (x : Cube) : FVec Ideal S4x4x2048 .f32 :=
  Host.reduce FloatOps.maximumf x (constant S_ .f32 0xFF800000#32) reducesTo_S4x4x2048x2304_S4x4x2048_d3 h_S_

/-- The exponentials of the scores less the greatest of their row, which is `u`. -/
def expsOf (x : Cube) (u : FVec Ideal S4x4x2048 .f32) : Cube :=
  Host.exp (subf x (broadcastInDim S4x4x2048x2304 ![0, 1, 2, 3] bcast_S4x4x2048x1_S4x4x2048x2304_0_1_2_3 (broadcastInDim S4x4x2048x1 ![0, 1, 2] bcast_S4x4x2048_S4x4x2048x1_0_1_2 (maximumf (broadcastInDim S4x4x2048 ![] bcast_S_S4x4x2048 (constant S_ .f32 0xFF800000#32)) u))))

/-- The exponentials of the scores less their row's greatest. -/
def exps (x : Cube) : Cube := expsOf x (rowMax x)

/-- The rows' sums. -/
def sums (x : Cube) : FVec Ideal S4x4x2048 .f32 :=
  Host.reduceAdd x (constant S_ .f32 0x00000000#32) reducesTo_S4x4x2048x2304_S4x4x2048_d3 h_S_

/-- The cotangents of the probabilities: the products of the output's cotangents with the values. -/
def dprobs (X3 : FVec Ideal S2048x2048 .bf16) (X2 : FVec Ideal S2304x512 .bf16) : Cube :=
  Host.dotGeneral dot_S4x128x4x2048_S2304x4x128_S4x4x2048x2304_1_2_23_0_0_1 none (transpose S4x128x4x2048 [1, 3, 2, 0] (shapeCast _ (extf .f32 X3 bitsLt_bf16_f32) shapeCasts_S2048x2048_S2048x4x4x128) transposes_S2048x4x4x128_S4x128x4x2048_1_3_2_0) (shapeCast _ (extf .f32 X2 bitsLt_bf16_f32) shapeCasts_S2304x512_S2304x4x128)

/-- The cotangents of the scores before the scale, from the cotangents of the probabilities, the exponentials and the
    rows' sums: the softmax differentiated as a quotient. -/
def dscores (a e : Cube) (t : FVec Ideal S4x4x2048 .f32) : Cube :=
  mulf (mulf (addf (Host.divf a (broadcastInDim S4x4x2048x2304 ![0, 1, 2, 3] bcast_S4x4x2048x1_S4x4x2048x2304_0_1_2_3 (broadcastInDim S4x4x2048x1 ![0, 1, 2] bcast_S4x4x2048_S4x4x2048x1_0_1_2 t))) (broadcastInDim S4x4x2048x2304 ![0, 1, 2] bcast_S4x4x2048_S4x4x2048x2304_0_1_2 (Host.reduceAdd (Host.negf (shapeCast _ (Host.reduceAdd (mulf (mulf a (broadcastInDim S4x4x2048x2304 ![0, 1, 2, 3] bcast_S4x4x2048x1_S4x4x2048x2304_0_1_2_3 (Host.divf (broadcastInDim S4x4x2048x1 ![] bcast_S_S4x4x2048x1 (constant S_ .f32 0x3F800000#32)) (mulf (broadcastInDim S4x4x2048x1 ![0, 1, 2] bcast_S4x4x2048_S4x4x2048x1_0_1_2 t) (broadcastInDim S4x4x2048x1 ![0, 1, 2] bcast_S4x4x2048_S4x4x2048x1_0_1_2 t))))) e) (constant S_ .f32 0x00000000#32) reducesTo_S4x4x2048x2304_S4x4x2048_d3 h_S_) shapeCasts_S4x4x2048_S4x4x2048x1)) (constant S_ .f32 0x00000000#32) reducesTo_S4x4x2048x1_S4x4x2048_d3 h_S_))) e) (broadcastInDim S4x4x2048x2304 ![] bcast_S_S4x4x2048x2304 (constant S_ .f32 0x3DB504F3#32))

/-- The probabilities: the exponentials over their row's sum. -/
def probs (e : Cube) (t : FVec Ideal S4x4x2048 .f32) : Cube :=
  Host.divf e (broadcastInDim S4x4x2048x2304 ![0, 1, 2, 3] bcast_S4x4x2048x1_S4x4x2048x2304_0_1_2_3 (broadcastInDim S4x4x2048x1 ![0, 1, 2] bcast_S4x4x2048_S4x4x2048x1_0_1_2 t))

/-- The queries' gradient from the cotangents of the scores. -/
def dqOf (b : Cube) (X1 : FVec Ideal S2304x512 .bf16) : FVec Ideal S2048x2048 .f32 :=
  shapeCast _ (transpose S2048x4x4x128 [1, 0, 2, 3] (Host.dotGeneral dot_S4x2304x2048x4_S2304x4x128_S4x2048x4x128_1_0_23_2_0_1 none (transpose S4x2304x2048x4 [0, 3, 2, 1] b transposes_S4x4x2048x2304_S4x2304x2048x4_0_3_2_1) (shapeCast _ (extf .f32 X1 bitsLt_bf16_f32) shapeCasts_S2304x512_S2304x4x128)) transposes_S4x2048x4x128_S2048x4x4x128_1_0_2_3) shapeCasts_S2048x4x4x128_S2048x2048

/-- The keys' gradient from the cotangents of the scores. -/
def dkOf (b : Cube) (X0 : FVec Ideal S2304x2048 .bf16) : FVec Ideal S2304x512 .f32 :=
  shapeCast _ (transpose S2304x4x128 [1, 0, 2] (Host.dotGeneral dot_S4x2304x2048x4_S2048x4x4x128_S4x2304x128_23_02_1_3_0_1 none (transpose S4x2304x2048x4 [0, 3, 2, 1] b transposes_S4x4x2048x2304_S4x2304x2048x4_0_3_2_1) (shapeCast _ (extf .f32 (extractStridedSlice S2048x2048 ![256, 0] X0 slices_S2304x2048_S2048x2048_256_0) bitsLt_bf16_f32) shapeCasts_S2048x2048_S2048x4x4x128)) transposes_S4x2304x128_S2304x4x128_1_0_2) shapeCasts_S2304x4x128_S2304x512

/-- The values' gradient from the probabilities. -/
def dvOf (p : Cube) (X3 : FVec Ideal S2048x2048 .bf16) : FVec Ideal S2304x512 .f32 :=
  shapeCast _ (transpose S2304x4x128 [2, 0, 1] (Host.dotGeneral dot_S4x128x4x2048_S4x4x2048x2304_S4x128x2304_23_12_1_3_0_0 none (transpose S4x128x4x2048 [1, 3, 2, 0] (shapeCast _ (extf .f32 X3 bitsLt_bf16_f32) shapeCasts_S2048x2048_S2048x4x4x128) transposes_S2048x4x4x128_S4x128x4x2048_1_3_2_0) p) transposes_S4x128x2304_S2304x4x128_2_0_1) shapeCasts_S2304x4x128_S2304x512

/-- The three gradients of four argument arrays. -/
def gradQ (X0 : FVec Ideal S2304x2048 .bf16) (X1 X2 : FVec Ideal S2304x512 .bf16) (X3 : FVec Ideal S2048x2048 .bf16) : FVec Ideal S2048x2048 .f32 :=
  dqOf (dscores (dprobs X3 X2) (exps (scores X0 X1)) (sums (exps (scores X0 X1)))) X1

/-- The gradient of the keys. -/
def gradK (X0 : FVec Ideal S2304x2048 .bf16) (X1 X2 : FVec Ideal S2304x512 .bf16) (X3 : FVec Ideal S2048x2048 .bf16) : FVec Ideal S2304x512 .f32 :=
  dkOf (dscores (dprobs X3 X2) (exps (scores X0 X1)) (sums (exps (scores X0 X1)))) X0

/-- The gradient of the values. -/
def gradV (X0 : FVec Ideal S2304x2048 .bf16) (X1 : FVec Ideal S2304x512 .bf16) (X3 : FVec Ideal S2048x2048 .bf16) : FVec Ideal S2304x512 .f32 :=
  dvOf (probs (exps (scores X0 X1)) (sums (exps (scores X0 X1)))) X3

variable (m : (ℓ : Loc nD τ sig) → Buf (Elt Ideal) ℓ) (c : Dev nD)

/-- The reference's first result is `gradQ` of its arguments. -/
theorem res_gradQ : res_main_v69 m c = gradQ (m ((c.tc : Thread nD τ).loc main_arg0)) (m ((c.tc : Thread nD τ).loc main_arg1)) (m ((c.tc : Thread nD τ).loc main_arg2)) (m ((c.tc : Thread nD τ).loc main_arg3)) := rfl

/-- The reference's second result is `gradK` of its arguments. -/
theorem res_gradK : res_main_v68 m c = gradK (m ((c.tc : Thread nD τ).loc main_arg0)) (m ((c.tc : Thread nD τ).loc main_arg1)) (m ((c.tc : Thread nD τ).loc main_arg2)) (m ((c.tc : Thread nD τ).loc main_arg3)) := rfl

/-- The fold of the maximum along the last of four axes, at any extents. -/
theorem reduceMax_at {n0 n1 n2 n3 : ℕ} {u : Shape} (x : (⟨4, ![n0, n1, n2, n3]⟩ : Shape).Idx → EReal) (init : u.Idx → EReal)
    (h : (⟨4, ![n0, n1, n2, n3]⟩ : Shape).ReducesTo [3] ⟨3, ![n0, n1, n2]⟩) (hu : 0 < u.numel) (g : Fin n0) (r : Fin n1) (i : Fin n2) :
    Host.reduce (max : EReal → EReal → EReal) x init h hu (ix3 g r i) = Finset.univ.fold max (init (Shape.Idx.first hu)) (fun s => x (ix4 g r i s)) := by
  rw [Host.reduce_eq_fold, Shape.ReducesTo.fold_fiber_r4_a3]
  rfl

theorem rowMax_at (x : Cube) (g r : Fin 4) (i : Fin 2048) : rowMax x (ix3 g r i) = Rows.mx (fun s => x (ix4 g r i s)) :=
  reduceMax_at x _ _ _ g r i

theorem scores_at (X0 : FVec Ideal S2304x2048 .bf16) (X1 : FVec Ideal S2304x512 .bf16) (g r : Fin 4) (i : Fin 2048) (s : Fin 2304) :
    scores X0 X1 (ix4 g r i s) = (∑ x : Fin 128, X1 (ix2 s ⟨g.val * 128 + x.val, by omega⟩) * X0 (ix2 ⟨256 + i.val, by omega⟩ ⟨g.val * 512 + r.val * 128 + x.val, by omega⟩)) * Rows.c0 := by
  pointwise [scores]

theorem expsOf_at (x : Cube) (u : FVec Ideal S4x4x2048 .f32) (g r : Fin 4) (i : Fin 2048) (s : Fin 2304) :
    expsOf x u (ix4 g r i s) = Ideal.exp (x (ix4 g r i s) - max Rows.negInf (u (ix3 g r i))) := by
  pointwise [expsOf]

theorem exps_at (x : Cube) (g r : Fin 4) (i : Fin 2048) (s : Fin 2304) :
    exps x (ix4 g r i s) = Rows.ex (fun j => x (ix4 g r i j)) s := by
  rw [exps, expsOf_at, rowMax_at, Rows.negInf_eq, max_eq_right bot_le]
  rfl

theorem sums_at (x : Cube) (g r : Fin 4) (i : Fin 2048) : sums x (ix3 g r i) = ∑ s : Fin 2304, x (ix4 g r i s) := by
  pointwise [sums]

theorem dprobs_at (X3 : FVec Ideal S2048x2048 .bf16) (X2 : FVec Ideal S2304x512 .bf16) (g r : Fin 4) (i : Fin 2048) (s : Fin 2304) :
    dprobs X3 X2 (ix4 g r i s) = ∑ x : Fin 128, X3 (ix2 i ⟨g.val * 512 + r.val * 128 + x.val, by omega⟩) * X2 (ix2 s ⟨g.val * 128 + x.val, by omega⟩) := by
  pointwise [dprobs]

theorem dscores_at (a e : Cube) (t : FVec Ideal S4x4x2048 .f32) (g r : Fin 4) (i : Fin 2048) (s : Fin 2304) :
    dscores a e t (ix4 g r i s) = (Ideal.div (a (ix4 g r i s)) (t (ix3 g r i)) + ∑ _j : Fin 1, -∑ j : Fin 2304, a (ix4 g r i j) * Ideal.div 1 (t (ix3 g r i) * t (ix3 g r i)) * e (ix4 g r i j)) * e (ix4 g r i s) * Rows.c0 := by
  pointwise [dscores]

theorem probs_at (e : Cube) (t : FVec Ideal S4x4x2048 .f32) (g r : Fin 4) (i : Fin 2048) (s : Fin 2304) :
    probs e t (ix4 g r i s) = Ideal.div (e (ix4 g r i s)) (t (ix3 g r i)) := by
  pointwise [probs]

theorem dqOf_at (b : Cube) (X1 : FVec Ideal S2304x512 .bf16) (i : Fin 2048) (n : Fin 2048) :
    dqOf b X1 (ix2 i n) = ∑ s : Fin 2304, b (ix4 ⟨n.val / 512, by omega⟩ ⟨n.val / 128 % 4, by omega⟩ i s) * X1 (ix2 s ⟨n.val / 512 * 128 + n.val % 128, by omega⟩) := by
  pointwise [dqOf]

theorem dkOf_at (b : Cube) (X0 : FVec Ideal S2304x2048 .bf16) (s : Fin 2304) (n : Fin 512) :
    dkOf b X0 (ix2 s n) = ∑ i : Fin 2048, ∑ r : Fin 4, b (ix4 ⟨n.val / 128, by omega⟩ r i s) * X0 (ix2 ⟨256 + i.val, by omega⟩ ⟨n.val / 128 * 512 + r.val * 128 + n.val % 128, by omega⟩) := by
  pointwise [dkOf]

theorem dvOf_at (b : Cube) (X3 : FVec Ideal S2048x2048 .bf16) (s : Fin 2304) (n : Fin 512) :
    dvOf b X3 (ix2 s n) = ∑ r : Fin 4, ∑ i : Fin 2048, X3 (ix2 i ⟨n.val / 128 * 512 + r.val * 128 + n.val % 128, by omega⟩) * b (ix4 ⟨n.val / 128, by omega⟩ r i s) := by
  pointwise [dvOf]

section Grads

variable (X0 : FVec Ideal S2304x2048 .bf16) (X1 X2 : FVec Ideal S2304x512 .bf16) (X3 : FVec Ideal S2048x2048 .bf16)

/-- The reference's scores of a row. -/
theorem scores_row (g r : Fin 4) (i : Fin 2048) : (fun s => scores X0 X1 (ix4 g r i s)) = Spec.sc X0 X1 g r i := by
  funext s
  rw [scores_at, Spec.sc]
  simp only [mul_comm (X1 _)]

/-- The sum of a row's exponentials. -/
theorem sums_row (g r : Fin 4) (i : Fin 2048) : sums (exps (scores X0 X1)) (ix3 g r i) = Rows.sm (Spec.sc X0 X1 g r i) := by
  rw [sums_at, Rows.sm]
  simp only [exps_at, scores_row]

/-- Where the scores are real, the reference's derivative of a score is the row's. -/
theorem dscores_row (hs : ∀ g r i s, ∃ x : ℝ, Spec.sc X0 X1 g r i s = x) (g r : Fin 4) (i : Fin 2048) (s : Fin 2304) :
    dscores (dprobs X3 X2) (exps (scores X0 X1)) (sums (exps (scores X0 X1))) (ix4 g r i s) = Rows.ds (Spec.sc X0 X1 g r i) (Spec.dp X2 X3 g r i) s := by
  rw [dscores_at, ← Rows.ds_eq _ _ (hs g r i), sums_row]
  simp only [exps_at, scores_row, dprobs_at]
  rfl

/-- Where the scores are real, the reference's probability is the row's. -/
theorem probs_row (hs : ∀ g r i s, ∃ x : ℝ, Spec.sc X0 X1 g r i s = x) (g r : Fin 4) (i : Fin 2048) (s : Fin 2304) :
    probs (exps (scores X0 X1)) (sums (exps (scores X0 X1))) (ix4 g r i s) = Rows.pr (Spec.sc X0 X1 g r i) s := by
  rw [probs_at, ← Rows.pr_eq _ (hs g r i), sums_row, exps_at, scores_row]

/-- The reference's gradient of the queries. -/
theorem gradQ_eq (hs : ∀ g r i s, ∃ x : ℝ, Spec.sc X0 X1 g r i s = x) : gradQ X0 X1 X2 X3 = Spec.gradQ X0 X1 X2 X3 := by
  funext j
  obtain ⟨i, n, rfl⟩ : ∃ i n, j = ix2 i n := ⟨j 0, j 1, (ix2_eta j).symm⟩
  rw [gradQ, dqOf_at]
  simp only [dscores_row X0 X1 X2 X3 hs]
  rfl

/-- The reference's gradient of the keys. -/
theorem gradK_eq (hs : ∀ g r i s, ∃ x : ℝ, Spec.sc X0 X1 g r i s = x) : gradK X0 X1 X2 X3 = Spec.gradK X0 X1 X2 X3 := by
  funext j
  obtain ⟨i, n, rfl⟩ : ∃ i n, j = ix2 i n := ⟨j 0, j 1, (ix2_eta j).symm⟩
  rw [gradK, dkOf_at, Finset.sum_comm]
  simp only [dscores_row X0 X1 X2 X3 hs]
  rfl

/-- The reference's gradient of the values. -/
theorem gradV_eq (hs : ∀ g r i s, ∃ x : ℝ, Spec.sc X0 X1 g r i s = x) : gradV X0 X1 X3 = Spec.gradV X0 X1 X3 := by
  funext j
  obtain ⟨i, n, rfl⟩ : ∃ i n, j = ix2 i n := ⟨j 0, j 1, (ix2_eta j).symm⟩
  rw [gradV, dvOf_at]
  simp only [probs_row X0 X1 hs, mul_comm (X3 _)]
  rfl

end Grads

end Cert.ReferenceIdeal.Value

end
-- ==== Proof.Head.lean ====
module

public import proofs.«01_k».proof.Proof.Gen.KernelIdeal.Skeleton
public import proofs.«01_k».proof.Proof.Rows
public import Idealize.ShloMosaic.Lib.Pointwise

@[expose] public section

set_option maxRecDepth 16384

noncomputable section

/-! The kernel's values of one query tile, read at an index: one head's arithmetic, which the four heads share. -/

namespace Cert.KernelIdeal.Head

open Cert.KernelIdeal Cert.KernelIdeal.Gen Idealize.ShloMosaic Idealize.ShloMosaic.TcCoe

/-- The scaled scores of row `i` of a tile of queries against the keys. -/
abbrev sc (k : Vec Ideal S2304x128 .bf16) (q : Vec Ideal S256x128 .bf16) (i : Fin 256) : Fin 2304 → EReal :=
  fun s => (∑ x : Fin 128, q (ix2 i x) * k (ix2 s x)) * Rows.c0

/-- The cotangents of row `i`'s probabilities. -/
abbrev dp (v : Vec Ideal S2304x128 .bf16) (o : Vec Ideal S256x128 .bf16) (i : Fin 256) : Fin 2304 → EReal :=
  fun s => ∑ x : Fin 128, o (ix2 i x) * v (ix2 s x)

/-- One head's probabilities. -/
abbrev hpr (k : Vec Ideal S2304x128 .bf16) (q : Vec Ideal S256x128 .bf16) : FVec Ideal S256x2304 .f32 :=
  k0_pay14 (F := Ideal) (k0_pay6 k q)

/-- One head's derivatives of the scores. -/
abbrev hds (k v : Vec Ideal S2304x128 .bf16) (q o : Vec Ideal S256x128 .bf16) : FVec Ideal S256x2304 .bf16 :=
  k0_pay20 (F := Ideal) (k0_pay10 v o) (hpr k q)

theorem sc_at (k : Vec Ideal S2304x128 .bf16) (q : Vec Ideal S256x128 .bf16) (i : Fin 256) (s : Fin 2304) :
    k0_pay6 (F := Ideal) k q (ix2 i s) = sc k q i s := by
  pointwise [k0_pay6]

theorem dp_at (v : Vec Ideal S2304x128 .bf16) (o : Vec Ideal S256x128 .bf16) (i : Fin 256) (s : Fin 2304) :
    k0_pay10 (F := Ideal) v o (ix2 i s) = dp v o i s := by
  pointwise [k0_pay10]

theorem softmax_at (x : FVec Ideal S256x2304 .f32) (i : Fin 256) (s : Fin 2304) :
    k0_pay14 (F := Ideal) x (ix2 i s) = Rows.pr (fun j => x (ix2 i j)) s := by
  pointwise [k0_pay14]
  rfl

theorem dsoftmax_at (a p : FVec Ideal S256x2304 .f32) (i : Fin 256) (s : Fin 2304) :
    k0_pay20 (F := Ideal) a p (ix2 i s) = p (ix2 i s) * (a (ix2 i s) - ∑ x : Fin 2304, p (ix2 i x) * a (ix2 i x)) * Rows.c0 := by
  pointwise [k0_pay20]

/-- One head's probability at a row and a key. -/
theorem hpr_at (k : Vec Ideal S2304x128 .bf16) (q : Vec Ideal S256x128 .bf16) (i : Fin 256) (s : Fin 2304) :
    hpr k q (ix2 i s) = Rows.pr (sc k q i) s := by
  rw [hpr, softmax_at]
  simp only [sc_at]

/-- One head's derivative of a score at a row and a key. -/
theorem hds_at (k v : Vec Ideal S2304x128 .bf16) (q o : Vec Ideal S256x128 .bf16) (i : Fin 256) (s : Fin 2304) :
    hds k v q o (ix2 i s) = Rows.ds (sc k q i) (dp v o i) s := by
  rw [hds, dsoftmax_at]
  simp only [hpr_at, dp_at]
  rfl

/-- A head's piece of the queries' gradient from its derivatives of the scores. -/
theorem dq_at (k : Vec Ideal S2304x128 .bf16) (d : FVec Ideal S256x2304 .bf16) (i : Fin 256) (e : Fin 128) :
    k0_pay1 (F := Ideal) k d (ix2 i e) = ∑ s : Fin 2304, d (ix2 i s) * k (ix2 s e) := by
  pointwise [k0_pay1]

/-- The four heads' sum into the keys' gradient. -/
theorem dk_at (q0 q1 q2 q3 : Vec Ideal S256x128 .bf16) (d0 d1 d2 d3 : FVec Ideal S256x2304 .bf16) (s : Fin 2304) (e : Fin 128) :
    k0_pay2 (F := Ideal) q0 q1 q2 q3 d0 d1 d2 d3 (ix2 s e)
      = ∑ i : Fin 256, d0 (ix2 i s) * q0 (ix2 i e) + ∑ i : Fin 256, d1 (ix2 i s) * q1 (ix2 i e)
        + ∑ i : Fin 256, d2 (ix2 i s) * q2 (ix2 i e) + ∑ i : Fin 256, d3 (ix2 i s) * q3 (ix2 i e) := by
  pointwise [k0_pay2]

/-- The four heads' sum into the values' gradient. -/
theorem dv_at (o0 o1 o2 o3 : Vec Ideal S256x128 .bf16) (p0 p1 p2 p3 : FVec Ideal S256x2304 .f32) (s : Fin 2304) (e : Fin 128) :
    k0_pay3 (F := Ideal) o0 o1 o2 o3 p0 p1 p2 p3 (ix2 s e)
      = ∑ i : Fin 256, p0 (ix2 i s) * o0 (ix2 i e) + ∑ i : Fin 256, p1 (ix2 i s) * o1 (ix2 i e)
        + ∑ i : Fin 256, p2 (ix2 i s) * o2 (ix2 i e) + ∑ i : Fin 256, p3 (ix2 i s) * o3 (ix2 i e) := by
  pointwise [k0_pay3]

end Cert.KernelIdeal.Head

end
-- ==== Proof.Final.lean ====
module

public import proofs.«01_k».proof.Proof.Gen.KernelIdeal.Value
public import proofs.«01_k».proof.Proof.Head
public import proofs.«01_k».proof.Proof.Spec
public import Idealize.ShloMosaic.Lib.Pipeline.ValueKit

@[expose] public section

set_option maxRecDepth 16384

noncomputable section

/-! The kernel's three result arrays after its run: the queries' gradient written tile by tile, the gradients of the
    keys and the values summed over the eight query tiles of a group. -/

namespace Cert.KernelIdeal.Final

open Cert.KernelIdeal Cert.KernelIdeal.Gen Cert.KernelIdeal.Head Idealize.ShloMosaic Idealize.ShloMosaic.TcCoe

/-- The lanes of head `r` in a tile of a group's four heads. -/
def piece (B : Vec Ideal S256x512 .bf16) (r : Fin 4) : Vec Ideal S256x128 .bf16 :=
  fun j => B (ix2 (j 0) ⟨r.val * 128 + (j 1).val, by have : (j 1).val < 128 := (j 1).isLt; omega⟩)

/-! The four loads of a tile are its four pieces. -/

theorem ld0 (B : Vec Ideal S256x512 .bf16) : View.ld B (Rect.unit ![0, 0] ![256, 128] inb_S256x512_S256x128_0_0) = piece B 0 := by
  funext j
  obtain ⟨a, b, rfl⟩ : ∃ a b, j = ix2 a b := ⟨j 0, j 1, eq_ix2 j⟩
  pointwise [piece]

theorem ld1 (B : Vec Ideal S256x512 .bf16) : View.ld B (Rect.unit ![0, 128] ![256, 128] inb_S256x512_S256x128_0_128) = piece B 1 := by
  funext j
  obtain ⟨a, b, rfl⟩ : ∃ a b, j = ix2 a b := ⟨j 0, j 1, eq_ix2 j⟩
  pointwise [piece]

theorem ld2 (B : Vec Ideal S256x512 .bf16) : View.ld B (Rect.unit ![0, 256] ![256, 128] inb_S256x512_S256x128_0_256) = piece B 2 := by
  funext j
  obtain ⟨a, b, rfl⟩ : ∃ a b, j = ix2 a b := ⟨j 0, j 1, eq_ix2 j⟩
  pointwise [piece]

theorem ld3 (B : Vec Ideal S256x512 .bf16) : View.ld B (Rect.unit ![0, 384] ![256, 128] inb_S256x512_S256x128_0_384) = piece B 3 := by
  funext j
  obtain ⟨a, b, rfl⟩ : ∃ a b, j = ix2 a b := ⟨j 0, j 1, eq_ix2 j⟩
  pointwise [piece]

/-! One query tile's part of each gradient, from its blocks. -/

/-- A tile's gradient of its queries: row `i`, lane `n` of the group's four heads. -/
def tileQ (K V : Vec Ideal S2304x128 .bf16) (Q O : Vec Ideal S256x512 .bf16) (i : Fin 256) (n : Fin 512) : EReal :=
  ∑ s : Fin 2304, Rows.ds (sc K (piece Q ⟨n.val / 128, by omega⟩) i) (dp V (piece O ⟨n.val / 128, by omega⟩) i) s * K (ix2 s ⟨n.val % 128, by omega⟩)

/-- A tile's part of the keys' gradient. -/
def tileK (K V : Vec Ideal S2304x128 .bf16) (Q O : Vec Ideal S256x512 .bf16) (s : Fin 2304) (e : Fin 128) : EReal :=
  ∑ r : Fin 4, ∑ i : Fin 256, Rows.ds (sc K (piece Q r) i) (dp V (piece O r) i) s * piece Q r (ix2 i e)

/-- A tile's part of the values' gradient. -/
def tileV (K : Vec Ideal S2304x128 .bf16) (Q O : Vec Ideal S256x512 .bf16) (s : Fin 2304) (e : Fin 128) : EReal :=
  ∑ r : Fin 4, ∑ i : Fin 256, Rows.pr (sc K (piece Q r) i) s * piece O r (ix2 i e)

/-- The four heads' keys' part, summed as the kernel sums it. -/
theorem tileK_at (K V : Vec Ideal S2304x128 .bf16) (Q O : Vec Ideal S256x512 .bf16) (j : S2304x128.Idx) :
    k0_pay2 (F := Ideal) (piece Q 0) (piece Q 1) (piece Q 2) (piece Q 3) (hds K V (piece Q 0) (piece O 0)) (hds K V (piece Q 1) (piece O 1))
      (hds K V (piece Q 2) (piece O 2)) (hds K V (piece Q 3) (piece O 3)) j = tileK K V Q O (j 0) (j 1) := by
  obtain ⟨s, e, rfl⟩ : ∃ s e, j = ix2 s e := ⟨j 0, j 1, eq_ix2 j⟩
  rw [dk_at]
  simp only [hds_at]
  exact (Fin.sum_univ_four (fun r => ∑ i : Fin 256, Rows.ds (sc K (piece Q r) i) (dp V (piece O r) i) s * piece Q r (ix2 i e))).symm

/-- The four heads' values' part, summed as the kernel sums it. -/
theorem tileV_at (K : Vec Ideal S2304x128 .bf16) (Q O : Vec Ideal S256x512 .bf16) (j : S2304x128.Idx) :
    k0_pay3 (F := Ideal) (piece O 0) (piece O 1) (piece O 2) (piece O 3) (hpr K (piece Q 0)) (hpr K (piece Q 1))
      (hpr K (piece Q 2)) (hpr K (piece Q 3)) j = tileV K Q O (j 0) (j 1) := by
  obtain ⟨s, e, rfl⟩ : ∃ s e, j = ix2 s e := ⟨j 0, j 1, eq_ix2 j⟩
  rw [dv_at]
  simp only [hpr_at]
  exact (Fin.sum_univ_four (fun r => ∑ i : Fin 256, Rows.pr (sc K (piece Q r) i) s * piece O r (ix2 i e))).symm

/-- One head's piece of the queries' gradient. -/
theorem tileQ_at (K V : Vec Ideal S2304x128 .bf16) (Q O : Vec Ideal S256x512 .bf16) (r : Fin 4) (x : S256x128.Idx) (y : S256x512.Idx)
    (h0 : (y 0).val = (x 0).val) (h1 : (y 1).val = 128 * r.val + (x 1).val) :
    k0_pay1 (F := Ideal) K (hds K V (piece Q r) (piece O r)) x = tileQ K V Q O (y 0) (y 1) := by
  obtain ⟨i, e, rfl⟩ : ∃ (i : Fin 256) (e : Fin 128), x = ix2 i e := ⟨x 0, x 1, eq_ix2 x⟩
  obtain ⟨i', n, rfl⟩ : ∃ (i : Fin 256) (n : Fin 512), y = ix2 i n := ⟨y 0, y 1, eq_ix2 y⟩
  simp only [ix2_0, ix2_1] at h0 h1
  have he : e.val < 128 := e.isLt
  have hn : n.val < 512 := n.isLt
  obtain rfl : i' = i := Fin.ext h0
  have hr : (⟨n.val / 128, by omega⟩ : Fin 4) = r := Fin.ext (by show n.val / 128 = r.val; omega)
  have he : (⟨n.val % 128, by omega⟩ : Fin 128) = e := Fin.ext (by show n.val % 128 = e.val; omega)
  rw [dq_at, ix2_0, ix2_1, tileQ, hr, he]
  simp only [hds_at]

variable (m : (ℓ : Loc nD τ sig) → Buf (Elt Ideal) ℓ) (c : Dev nD)

/-- The queries' tile after a point's body. -/
theorem pointQ (t : Fin cfg0.N) (y : S256x512.Idx) :
    (outsAt0 m c t.val t.isLt).1 y = tileQ (iblk m c 1 t) (iblk m c 2 t) (iblk m c 0 t) (iblk m c 3 t) (y 0) (y 1) := by
  by_cases h0 : t.val % 8 = 0
  · have h1 : ¬1 ≤ t.val % 8 := by omega
    rw [outsAt0_A m c t h0 h1]
    frame_out
    simp only [ld0, ld1, ld2, ld3]
    canon_tiles x h
    · exact tileQ_at _ _ _ _ 3 x y (by omega) (by omega)
    · exact tileQ_at _ _ _ _ 2 x y (by omega) (by omega)
    · exact tileQ_at _ _ _ _ 1 x y (by omega) (by omega)
    · exact tileQ_at _ _ _ _ 0 x y (by omega) (by omega)
  · have h1 : 1 ≤ t.val % 8 := by omega
    rw [outsAt0_B m c t h0 h1]
    frame_out
    simp only [ld0, ld1, ld2, ld3]
    canon_tiles x h
    · exact tileQ_at _ _ _ _ 3 x y (by omega) (by omega)
    · exact tileQ_at _ _ _ _ 2 x y (by omega) (by omega)
    · exact tileQ_at _ _ _ _ 1 x y (by omega) (by omega)
    · exact tileQ_at _ _ _ _ 0 x y (by omega) (by omega)

/-- The keys' block at the first tile of a group. -/
theorem pointK_A (t : Fin cfg0.N) (h : t.val % 8 = 0) (y : S2304x128.Idx) :
    (outsAt0 m c t.val t.isLt).2.1 y = tileK (iblk m c 1 t) (iblk m c 2 t) (iblk m c 0 t) (iblk m c 3 t) (y 0) (y 1) := by
  rw [outsAt0_A m c t h (by omega)]
  frame_out
  simp only [ld0, ld1, ld2, ld3]
  exact tileK_at _ _ _ _ y

/-- At a later tile the block has the tile's part added. -/
theorem pointK_B (t : Fin cfg0.N) (h : ¬t.val % 8 = 0) (y : S2304x128.Idx) :
    (outsAt0 m c t.val t.isLt).2.1 y = (outsAt0 m c (t.val - 1) (Nat.lt_of_le_of_lt (Nat.sub_le _ _) t.isLt)).2.1 y
      + tileK (iblk m c 1 t) (iblk m c 2 t) (iblk m c 0 t) (iblk m c 3 t) (y 0) (y 1) := by
  rw [outsAt0_B m c t h (by omega)]
  frame_out
  simp only [ld0, ld1, ld2, ld3]
  rw [← tileK_at]
  obtain ⟨s, e, rfl⟩ : ∃ s e, y = ix2 s e := ⟨y 0, y 1, eq_ix2 y⟩
  pointwise [k0_pay4]
  rfl

/-- The values' block at the first tile of a group. -/
theorem pointV_A (t : Fin cfg0.N) (h : t.val % 8 = 0) (y : S2304x128.Idx) :
    (outsAt0 m c t.val t.isLt).2.2 y = tileV (iblk m c 1 t) (iblk m c 0 t) (iblk m c 3 t) (y 0) (y 1) := by
  rw [outsAt0_A m c t h (by omega)]
  frame_out
  simp only [ld0, ld1, ld2, ld3]
  exact tileV_at _ _ _ y

/-- At a later tile the block has the tile's part added. -/
theorem pointV_B (t : Fin cfg0.N) (h : ¬t.val % 8 = 0) (y : S2304x128.Idx) :
    (outsAt0 m c t.val t.isLt).2.2 y = (outsAt0 m c (t.val - 1) (Nat.lt_of_le_of_lt (Nat.sub_le _ _) t.isLt)).2.2 y
      + tileV (iblk m c 1 t) (iblk m c 0 t) (iblk m c 3 t) (y 0) (y 1) := by
  rw [outsAt0_B m c t h (by omega)]
  frame_out
  simp only [ld0, ld1, ld2, ld3]
  rw [← tileV_at]
  obtain ⟨s, e, rfl⟩ : ∃ s e, y = ix2 s e := ⟨y 0, y 1, eq_ix2 y⟩
  pointwise [k0_pay5]
  rfl

/-! The blocks of the argument arrays, and the final arrays. -/

/-- Which block of its array each window is on. -/
theorem idx : ∀ t : Fin cfg0.N, win0_0.index t = ![t.val % 8 + 1, t.val / 8] ∧ win0_1.index t = ![0, t.val / 8] ∧ win0_2.index t = ![0, t.val / 8]
    ∧ win0_3.index t = ![t.val % 8, t.val / 8] ∧ win0_4.index t = ![t.val % 8, t.val / 8] ∧ win0_5.index t = ![0, t.val / 8] ∧ win0_6.index t = ![0, t.val / 8] :=
  (by decide +kernel : ∀ t : Fin grid0.N, _)

abbrev X0 : Spec.Qs := m ((c : Thread nD τ).loc main_arg0)
abbrev X1 : Spec.Ks := m ((c : Thread nD τ).loc main_arg1)
abbrev X2 : Spec.Ks := m ((c : Thread nD τ).loc main_arg2)
abbrev X3 : Spec.Os := m ((c : Thread nD τ).loc main_arg3)

theorem lt_N (t : Fin cfg0.N) : t.val < 32 := lt_of_lt_of_eq t.isLt N_0

/-- The scores of a tile's row are those of the whole arrays. -/
theorem sc_eq (t : Fin cfg0.N) (r : Fin 4) (i : Fin 256) (g : Fin 4) (i' : Fin 2048) (hg : g.val = t.val / 8) (hi : i'.val = t.val % 8 * 256 + i.val) :
    sc (iblk m c 1 t) (piece (iblk m c 0 t) r) i = Spec.sc (X0 m c) (X1 m c) g r i' := by
  funext s
  unfold Spec.sc sc piece
  have hp : ∀ x : Fin 128, (iblk m c 0 t : Vec Ideal S256x512 .bf16) (ix2 i ⟨r.val * 128 + x.val, by omega⟩) = X0 m c (ix2 ⟨256 + i'.val, by omega⟩ ⟨g.val * 512 + r.val * 128 + x.val, by omega⟩) := by
    intro x
    blk_ext [iblk, V, idx t]
  have hk : ∀ x : Fin 128, (iblk m c 1 t : Vec Ideal S2304x128 .bf16) (ix2 s x) = X1 m c (ix2 s ⟨g.val * 128 + x.val, by omega⟩) := by
    intro x
    blk_ext [iblk, V, idx t]
  refine congrArg (· * Rows.c0) (Finset.sum_congr rfl fun x _ => ?_)
  exact congrArg₂ (· * ·) (hp x) (hk x)

/-- The cotangents of a tile's row are those of the whole arrays. -/
theorem dp_eq (t : Fin cfg0.N) (r : Fin 4) (i : Fin 256) (g : Fin 4) (i' : Fin 2048) (hg : g.val = t.val / 8) (hi : i'.val = t.val % 8 * 256 + i.val) :
    dp (iblk m c 2 t) (piece (iblk m c 3 t) r) i = Spec.dp (X2 m c) (X3 m c) g r i' := by
  funext s
  unfold Spec.dp dp piece
  have ho : ∀ x : Fin 128, (iblk m c 3 t : Vec Ideal S256x512 .bf16) (ix2 i ⟨r.val * 128 + x.val, by omega⟩) = X3 m c (ix2 i' ⟨g.val * 512 + r.val * 128 + x.val, by omega⟩) := by
    intro x
    blk_ext [iblk, V, idx t]
  have hv : ∀ x : Fin 128, (iblk m c 2 t : Vec Ideal S2304x128 .bf16) (ix2 s x) = X2 m c (ix2 s ⟨g.val * 128 + x.val, by omega⟩) := by
    intro x
    blk_ext [iblk, V, idx t]
  refine Finset.sum_congr rfl fun x _ => ?_
  exact congrArg₂ (· * ·) (ho x) (hv x)

/-- A tile's part of the queries' gradient is the whole arrays' there. -/
theorem tileQ_eq (t : Fin cfg0.N) (i : Fin 256) (n : Fin 512) (i' n' : Fin 2048) (hi : i'.val = t.val % 8 * 256 + i.val) (hn : n'.val = t.val / 8 * 512 + n.val) :
    tileQ (iblk m c 1 t) (iblk m c 2 t) (iblk m c 0 t) (iblk m c 3 t) i n = Spec.dq (X0 m c) (X1 m c) (X2 m c) (X3 m c) i' n' := by
  have ht := lt_N t
  have hr : (⟨n'.val / 128 % 4, by omega⟩ : Fin 4) = ⟨n.val / 128, by omega⟩ := Fin.ext (by show n'.val / 128 % 4 = n.val / 128; omega)
  unfold tileQ Spec.dq
  rw [hr, sc_eq m c t _ i ⟨n'.val / 512, by omega⟩ i' (by show n'.val / 512 = t.val / 8; omega) hi,
    dp_eq m c t _ i ⟨n'.val / 512, by omega⟩ i' (by show n'.val / 512 = t.val / 8; omega) hi]
  refine Finset.sum_congr rfl fun s _ => congrArg (Rows.ds _ _ s * ·) ?_
  show (iblk m c 1 t : Vec Ideal S2304x128 .bf16) (ix2 s ⟨n.val % 128, by omega⟩) = X1 m c (ix2 s ⟨n'.val / 512 * 128 + n'.val % 128, by omega⟩)
  blk_ext [iblk, V, idx t]

/-- The queries' gradient after the run. -/
theorem finalQ : (dats m 0 c).arrAt 4 cfg0.N = Spec.gradQ (X0 m c) (X1 m c) (X2 m c) (X3 m c) := by
  refine (dats m 0 c).arrAt_eq_of_covers 4 _ (by decide +kernel) fun t hf y => ?_
  blk_simp
  rw [after0_4, pointQ]
  refine tileQ_eq m c t _ _ _ _ ?_ ?_ <;> blk_simp [idx t]

/-- A summand of a tile's part of the keys' gradient is the whole arrays' there. -/
theorem termK_eq (t : Fin cfg0.N) (r : Fin 4) (i : Fin 256) (s : Fin 2304) (e : Fin 128) (i' : Fin 2048) (n : Fin 512)
    (hi : i'.val = t.val % 8 * 256 + i.val) (hn : n.val = t.val / 8 * 128 + e.val) :
    Rows.ds (sc (iblk m c 1 t) (piece (iblk m c 0 t) r) i) (dp (iblk m c 2 t) (piece (iblk m c 3 t) r) i) s * piece (iblk m c 0 t) r (ix2 i e)
      = Rows.ds (Spec.sc (X0 m c) (X1 m c) ⟨n.val / 128, by omega⟩ r i') (Spec.dp (X2 m c) (X3 m c) ⟨n.val / 128, by omega⟩ r i') s
        * X0 m c (ix2 ⟨256 + i'.val, by omega⟩ ⟨n.val / 128 * 512 + r.val * 128 + n.val % 128, by omega⟩) := by
  rw [sc_eq m c t r i ⟨n.val / 128, by omega⟩ i' (by show n.val / 128 = t.val / 8; omega) hi,
    dp_eq m c t r i ⟨n.val / 128, by omega⟩ i' (by show n.val / 128 = t.val / 8; omega) hi]
  refine congrArg (Rows.ds _ _ s * ·) ?_
  unfold piece
  show (iblk m c 0 t : Vec Ideal S256x512 .bf16) (ix2 i ⟨r.val * 128 + e.val, by omega⟩) = _
  blk_ext [iblk, V, idx t]

/-- A summand of a tile's part of the values' gradient is the whole arrays' there. -/
theorem termV_eq (t : Fin cfg0.N) (r : Fin 4) (i : Fin 256) (s : Fin 2304) (e : Fin 128) (i' : Fin 2048) (n : Fin 512)
    (hi : i'.val = t.val % 8 * 256 + i.val) (hn : n.val = t.val / 8 * 128 + e.val) :
    Rows.pr (sc (iblk m c 1 t) (piece (iblk m c 0 t) r) i) s * piece (iblk m c 3 t) r (ix2 i e)
      = Rows.pr (Spec.sc (X0 m c) (X1 m c) ⟨n.val / 128, by omega⟩ r i') s
        * X3 m c (ix2 i' ⟨n.val / 128 * 512 + r.val * 128 + n.val % 128, by omega⟩) := by
  rw [sc_eq m c t r i ⟨n.val / 128, by omega⟩ i' (by show n.val / 128 = t.val / 8; omega) hi]
  refine congrArg (Rows.pr _ s * ·) ?_
  unfold piece
  show (iblk m c 3 t : Vec Ideal S256x512 .bf16) (ix2 i ⟨r.val * 128 + e.val, by omega⟩) = _
  blk_ext [iblk, V, idx t]

/-- Eight tiles of 256 rows, head by head, are the 2048 rows head by head. -/
theorem sum_tiles (F : Fin 8 → Fin 4 → Fin 256 → EReal) (f : Fin 4 → Fin 2048 → EReal)
    (h : ∀ (u : Fin 8) (r : Fin 4) (i : Fin 256) (i' : Fin 2048), i'.val = u.val * 256 + i.val → F u r i = f r i') :
    ∑ u : Fin 8, ∑ r : Fin 4, ∑ i : Fin 256, F u r i = ∑ r : Fin 4, ∑ i : Fin 2048, f r i := by
  rw [Finset.sum_comm]
  refine Finset.sum_congr rfl fun r _ => ?_
  exact Fin.sum_mul_add_congr fun u i hl => h u r i ⟨_, hl⟩ rfl

/-- The parts of the eight tiles of a group sum to the whole arrays' gradient of the keys. -/
theorem sumK_eq (p : Fin 8 → Fin cfg0.N) (q : ℕ) (hp : ∀ u, (p u).val = 8 * q + u.val) (s : Fin 2304) (e : Fin 128) (n : Fin 512)
    (hn : n.val = q * 128 + e.val) :
    ∑ u : Fin 8, tileK (iblk m c 1 (p u)) (iblk m c 2 (p u)) (iblk m c 0 (p u)) (iblk m c 3 (p u)) s e = Spec.dk (X0 m c) (X1 m c) (X2 m c) (X3 m c) s n := by
  unfold tileK Spec.dk
  exact sum_tiles _ _ fun u r i i' hi => termK_eq m c (p u) r i s e i' n (by rw [hp u]; omega) (by rw [hp u]; omega)

/-- The parts of the eight tiles of a group sum to the whole arrays' gradient of the values. -/
theorem sumV_eq (p : Fin 8 → Fin cfg0.N) (q : ℕ) (hp : ∀ u, (p u).val = 8 * q + u.val) (s : Fin 2304) (e : Fin 128) (n : Fin 512)
    (hn : n.val = q * 128 + e.val) :
    ∑ u : Fin 8, tileV (iblk m c 1 (p u)) (iblk m c 0 (p u)) (iblk m c 3 (p u)) s e = Spec.dv (X0 m c) (X1 m c) (X3 m c) s n := by
  unfold tileV Spec.dv
  exact sum_tiles _ _ fun u r i i' hi => termV_eq m c (p u) r i s e i' n (by rw [hp u]; omega) (by rw [hp u]; omega)

/-- The keys' gradient after the run. -/
theorem finalK : (dats m 0 c).arrAt 5 cfg0.N = Spec.gradK (X0 m c) (X1 m c) (X2 m c) (X3 m c) := by
  refine (dats m 0 c).arrAt_eq_of_covers 5 _ (by decide +kernel) fun t hf y => ?_
  blk_simp
  rw [after0_5, Pipeline.eq_sum_fin_of_reset_step_apply_of_flush (fun n h => (outsAt0 m c n h).2.1) 8 (fun _ => 0)
    (fun (p : Fin cfg0.N) (j : S2304x128.Idx) => tileK (iblk m c 1 p) (iblk m c 2 p) (iblk m c 0 p) (iblk m c 3 p) (j 0) (j 1))
    (fun p h j => (pointK_A m c p h j).trans (zero_add _).symm)
    (fun p h j => pointK_B m c p h j) t ((flush0_5 t).mp hf) _, zero_add]
  refine (sumK_eq m c _ (t.val / 8) (fun u => rfl) _ _ _ ?_).trans (congrArg₂ (Spec.dk (X0 m c) (X1 m c) (X2 m c) (X3 m c)) ?_ rfl)
  · blk_simp [idx t]
  · refine Fin.ext ?_
    blk_simp [idx t]

/-- The values' gradient after the run. -/
theorem finalV : (dats m 0 c).arrAt 6 cfg0.N = Spec.gradV (X0 m c) (X1 m c) (X3 m c) := by
  refine (dats m 0 c).arrAt_eq_of_covers 6 _ (by decide +kernel) fun t hf y => ?_
  blk_simp
  rw [after0_6, Pipeline.eq_sum_fin_of_reset_step_apply_of_flush (fun n h => (outsAt0 m c n h).2.2) 8 (fun _ => 0)
    (fun (p : Fin cfg0.N) (j : S2304x128.Idx) => tileV (iblk m c 1 p) (iblk m c 0 p) (iblk m c 3 p) (j 0) (j 1))
    (fun p h j => (pointV_A m c p h j).trans (zero_add _).symm)
    (fun p h j => pointV_B m c p h j) t ((flush0_6 t).mp hf) _, zero_add]
  refine (sumV_eq m c _ (t.val / 8) (fun u => rfl) _ _ _ ?_).trans (congrArg₂ (Spec.dv (X0 m c) (X1 m c) (X3 m c)) ?_ rfl)
  · blk_simp [idx t]
  · refine Fin.ext ?_
    blk_simp [idx t]

end Cert.KernelIdeal.Final

end
-- ==== Proof.Attn.lean ====
/- The gradient of the attention: the precondition read, and the kernel's run set beside the reference's. -/
module

public import proofs.«01_k».proof.Defs
public import proofs.«01_k».proof.Proof.Ref
public import proofs.«01_k».proof.Proof.Final

@[expose] public section

set_option maxRecDepth 16384

noncomputable section

namespace Cert.Attn

open Idealize.ShloMosaic Idealize.ShloMosaic.TcCoe Idealize.SL.Sem Cert.Spec

/-- The precondition's function takes three shape relations, all decided. -/
theorem preFacts : Cert.Pre_finite_qk.Facts := ⟨by decide, by decide, by decide⟩

/-- The constant the precondition compares with is the greatest extended real. -/
theorem posInf_eq : Ideal.ofBits .bf16 0x7F80#16 = ⊤ := by simp [Ideal.ofBits, Ideal.ieee]

/-- An extended real whose magnitude is below the greatest one is a real. -/
theorem real_of_abs_lt {x : EReal} (h : max x (-x) < ⊤) : ∃ a : ℝ, x = a := by
  induction x with
  | bot => simp at h
  | coe a => exact ⟨a, rfl⟩
  | top => simp at h

section
variable [Cert.Pre_finite_qk.Facts] (X0 : FVec Ideal Cert.Pre_finite_qk.S2304x2048 .bf16) (X1 X2 : FVec Ideal Cert.Pre_finite_qk.S2304x512 .bf16)
  (X3 : FVec Ideal Cert.Pre_finite_qk.S2048x2048 .bf16)

/-- The precondition's first array at an index: the latent query there is below the greatest extended real in magnitude. -/
theorem fst_at (i n : Fin 2048) : (Cert.Pre_finite_qk.fn (F := Ideal) X0 X1 X2 X3).1 (ix2 i n)
    = BitVec.ofBool (decide (max (X0 (ix2 ⟨256 + i.val, by omega⟩ n)) (-X0 (ix2 ⟨256 + i.val, by omega⟩ n)) < ⊤)) := by
  rw [← posInf_eq]
  pointwise [Cert.Pre_finite_qk.fn]
  rfl

/-- The precondition's second array at an index: the key there is below the greatest extended real in magnitude. -/
theorem snd_at (s : Fin 2304) (n : Fin 512) : (Cert.Pre_finite_qk.fn (F := Ideal) X0 X1 X2 X3).2 (ix2 s n)
    = BitVec.ofBool (decide (max (X1 (ix2 s n)) (-X1 (ix2 s n)) < ⊤)) := by
  rw [← posInf_eq]
  pointwise [Cert.Pre_finite_qk.fn]
  rfl

/-- Under the precondition every score is a real. -/
theorem scores_real (h : (Cert.Pre_finite_qk.fn (F := Ideal) X0 X1 X2 X3).1 = (fun _ => 1#1) ∧ (Cert.Pre_finite_qk.fn (F := Ideal) X0 X1 X2 X3).2 = (fun _ => 1#1))
    (g r : Fin 4) (i : Fin 2048) (s : Fin 2304) : ∃ x : ℝ, Spec.sc X0 X1 g r i s = x := by
  refine Spec.sc_real X0 X1 (fun i n => real_of_abs_lt ?_) (fun j => ?_) g r i s
  · have := (fst_at X0 X1 X2 X3 i n).symm.trans (congrFun h.1 _)
    by_contra hc
    simp [hc] at this
  · obtain ⟨s, n, rfl⟩ : ∃ s n, j = ix2 s n := ⟨j 0, j 1, (ix2_eta j).symm⟩
    refine real_of_abs_lt ?_
    have := (snd_at X0 X1 X2 X3 s n).symm.trans (congrFun h.2 _)
    by_contra hc
    simp [hc] at this
end

/-- The reference's run keeps its arguments and leaves every counter at zero: it declares no semaphore. -/
theorem frameR (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ)

/-- Where the scores are real, the kernel and the reference end with the same three gradients. -/
theorem algebraic [Cert.Pre_finite_qk.Facts] :
    Cert.algebraic_KernelIdeal_ReferenceIdeal_pre_finite_qk (hKernelIdeal := Cert.KernelIdeal.Gen.facts) (hReferenceIdeal := Cert.ReferenceIdeal.Gen.facts) := by
  intro m ρ m' ρ' hpre hag
  have hs := fun c => scores_real _ _ _ _ (hpre c)
  refine ⟨fun c => Spec.gradQ (Cert.KernelIdeal.Final.X0 m c) (Cert.KernelIdeal.Final.X1 m c) (Cert.KernelIdeal.Final.X2 m c) (Cert.KernelIdeal.Final.X3 m c),
    fun c => Spec.gradK (Cert.KernelIdeal.Final.X0 m c) (Cert.KernelIdeal.Final.X1 m c) (Cert.KernelIdeal.Final.X2 m c) (Cert.KernelIdeal.Final.X3 m c),
    fun c => Spec.gradV (Cert.KernelIdeal.Final.X0 m c) (Cert.KernelIdeal.Final.X1 m c) (Cert.KernelIdeal.Final.X3 m c), ?_, ?_⟩
  · refine (θ_run Cert.KernelIdeal.defs _ _).mono (fun r h c => ?_) (Cert.KernelIdeal.Value.run_blocks m ρ)
    obtain ⟨h4, h5, h6, ha⟩ := h c
    exact ⟨h4.trans (Cert.KernelIdeal.Final.finalQ m c), h5.trans (Cert.KernelIdeal.Final.finalK m c), h6.trans (Cert.KernelIdeal.Final.finalV m c), ha⟩
  · refine (θ_run Cert.ReferenceIdeal.defs _ _).mono (fun r h c => ?_) (Cert.ReferenceIdeal.Value.run m' ρ')
    obtain ⟨h0, h1, h2, ha⟩ := h c
    obtain ⟨a0, a1, a2, a3⟩ := hag c
    refine ⟨h0.trans ?_, h1.trans ?_, h2.trans ?_, ha⟩
    · rw [Cert.ReferenceIdeal.Value.res_gradQ, a0, a1, a2, a3]
      exact Cert.ReferenceIdeal.Value.gradQ_eq _ _ _ _ (hs c)
    · rw [Cert.ReferenceIdeal.Value.res_gradK, a0, a1, a2, a3]
      exact Cert.ReferenceIdeal.Value.gradK_eq _ _ _ _ (hs c)
    · rw [a0, a1, a3]
      exact Cert.ReferenceIdeal.Value.gradV_eq _ _ _ (hs c)

end Cert.Attn

end
-- ==== Proof.FfnSpec.lean ====
/- The mathematics of one SwiGLU feed-forward layer and of its gradients, over functions of indices. -/
module

public import Idealize.ShloMosaic.PureOps.Ideal
public import Idealize.ShloMosaic.Lib.ValueIdx

@[expose] public section

noncomputable section

namespace Cert.Ffn

open Idealize.ShloMosaic

variable {M : ℕ}

/-- A matrix of `M` rows. -/
abbrev Mat (M N : ℕ) := Fin M → Fin N → EReal

/-- A weight of which each of the four chips holds a part of the columns. -/
abbrev Wt := Fin 4 → Fin 2048 → Fin 1408 → EReal

/-- The product of the rows with a weight whose columns lie on four chips. -/
def up (H : Mat M 2048) (W : Wt) : Mat M 5632 :=
  fun i n => ∑ x : Fin 2048, H i x * W ⟨n.val / 1408, by omega⟩ x ⟨n.val % 1408, by omega⟩

/-- The hidden layer's entries, from the two products. -/
def hid (A B : Mat M 5632) : Mat M 5632 := fun i n => A i n * Ideal.logistic (A i n) * B i n

/-- The product of the hidden layer with the down weight. -/
def down (S : Mat M 5632) (W : Mat 5632 2048) : Mat M 2048 := fun i j => ∑ n : Fin 5632, S i n * W n j

/-- One half, as the programs write it. -/
def half : EReal := Scalar.ofBits (F := Ideal) .f32 0x3F000000#32

/-- The residual sum: the rows with the gated half of the layer's output. -/
def res (X G Y : Mat M 2048) : Mat M 2048 := fun i j => X i j + half * G i j * Y i j

/-- The gradient that reaches the hidden layer. -/
def dhid (DF : Mat M 2048) (W : Mat 5632 2048) : Mat M 5632 := fun i n => ∑ j : Fin 2048, DF i j * W n j

/-- The gradient in the gate's product, as the kernel writes it. -/
def dgate (DS A B : Mat M 5632) : Mat M 5632 := fun i n =>
  DS i n * B i n * (Ideal.logistic (A i n) * (1 + A i n * (1 - Ideal.logistic (A i n))))

/-- The gradient in the up product. -/
def dup (DS A : Mat M 5632) : Mat M 5632 := fun i n => DS i n * (A i n * Ideal.logistic (A i n))

/-- The gradient in the down weight. -/
def gradDown (S : Mat M 5632) (DF : Mat M 2048) : Mat 5632 2048 := fun n j => ∑ i : Fin M, S i n * DF i j

/-- The gradient in a weight whose columns lie on four chips. -/
def gradUp (H : Mat M 2048) (DA : Mat M 5632) : Wt := fun q x e => ∑ i : Fin M, H i x * DA i ⟨q.val * 1408 + e.val, by omega⟩

end Cert.Ffn

end
-- ==== Proof.FfnReal.lean ====
/- The two ways of writing the gate's gradient agree where the other factors are real, and what makes those factors real. -/
module

public import proofs.«01_k».proof.Proof.FfnSpec

@[expose] public section

noncomputable section

namespace Cert.Ffn

open Idealize.ShloMosaic

/-- A product of two reals is real. -/
theorem mul_real {x y : EReal} (hx : ∃ a : ℝ, x = a) (hy : ∃ a : ℝ, y = a) : ∃ a : ℝ, x * y = a := by
  obtain ⟨a, rfl⟩ := hx
  obtain ⟨b, rfl⟩ := hy
  exact ⟨a * b, (EReal.coe_mul a b).symm⟩

/-- A finite sum of reals is real. -/
theorem sum_real {ι : Type} (s : Finset ι) (f : ι → EReal) (h : ∀ i, ∃ a : ℝ, f i = a) : ∃ a : ℝ, ∑ i ∈ s, f i = a := by
  classical
  induction s using Finset.induction_on with
  | empty => exact ⟨0, by simp⟩
  | insert i s hi ih =>
    obtain ⟨a, ha⟩ := h i
    obtain ⟨b, hb⟩ := ih
    exact ⟨a + b, by rw [Finset.sum_insert hi, ha, hb, EReal.coe_add]⟩

/-- The logistic function at plus infinity. -/
theorem logistic_top : Ideal.logistic ⊤ = 1 := by
  rw [Ideal.logistic, EReal.neg_top, show Ideal.exp ⊥ = 0 from rfl]
  simp [Ideal.div]

/-- The logistic function at minus infinity. -/
theorem logistic_bot : Ideal.logistic ⊥ = 0 := by
  rw [Ideal.logistic, EReal.neg_bot, show Ideal.exp ⊤ = ⊤ from rfl, show (1 : EReal) + ⊤ = ⊤ from rfl]
  simp [Ideal.div]

/-- The logistic function of a real is real. -/
theorem logistic_coe (r : ℝ) : ∃ s : ℝ, Ideal.logistic (r : EReal) = s := by
  refine ⟨1 * (1 + Real.exp (-r))⁻¹, ?_⟩
  have hp : (0 : ℝ) < 1 + Real.exp (-r) := by positivity
  have h1 : (1 : EReal) + Ideal.exp (-(r : EReal)) = ((1 + Real.exp (-r) : ℝ) : EReal) := by
    rw [EReal.coe_add, EReal.coe_one, ← EReal.coe_neg]
    rfl
  have h2 : ((1 + Real.exp (-r) : ℝ) : EReal) ≠ 0 := by
    rw [← EReal.coe_zero]
    exact fun h => hp.ne' (EReal.coe_injective h)
  rw [Ideal.logistic, h1, Ideal.div, if_neg h2, EReal.coe_mul, EReal.coe_one, EReal.coe_inv]

/-- The gate's gradient, as the chain rule gives it and as the kernel factors it. -/
theorem gate_law (d a b : EReal) (hd : ∃ x : ℝ, d = x) (hb : ∃ x : ℝ, b = x) :
    d * b * Ideal.logistic a + a * (d * b) * (Ideal.logistic a * (1 - Ideal.logistic a))
      = d * b * (Ideal.logistic a * (1 + a * (1 - Ideal.logistic a))) := by
  obtain ⟨t, ht⟩ := mul_real hd hb
  rw [ht]
  have h11 : (1 : EReal) - 1 = 0 := by
    rw [← EReal.coe_one, ← EReal.coe_sub, sub_self, EReal.coe_zero]
  induction a with
  | bot => simp [logistic_bot]
  | top => simp [logistic_top, h11]
  | coe r =>
    obtain ⟨s, hs⟩ := logistic_coe r
    rw [hs]
    norm_cast
    ring_nf

variable {M : ℕ}

/-- The up product of real rows with a real weight is real. -/
theorem up_real (H : Mat M 2048) (W : Wt) (hH : ∀ i x, ∃ a : ℝ, H i x = a) (hW : ∀ q x e, ∃ a : ℝ, W q x e = a) (i : Fin M) (n : Fin 5632) :
    ∃ a : ℝ, up H W i n = a :=
  sum_real _ _ fun _ => mul_real (hH _ _) (hW _ _ _)

/-- The hidden layer's cotangent is real where the cotangent and the down weight are. -/
theorem dhid_real (DF : Mat M 2048) (W : Mat 5632 2048) (hD : ∀ i j, ∃ a : ℝ, DF i j = a) (hW : ∀ n j, ∃ a : ℝ, W n j = a) (i : Fin M) (n : Fin 5632) :
    ∃ a : ℝ, dhid DF W i n = a :=
  sum_real _ _ fun _ => mul_real (hD _ _) (hW _ _)

end Cert.Ffn

end
-- ==== Proof.FfnPre.lean ====
/- What the two feed-forward layers' certificates share: arrays as functions of their indices, and a precondition's bit read. -/
module

public import proofs.«01_k».proof.Proof.Attn
public import proofs.«01_k».proof.Proof.FfnReal

@[expose] public section

noncomputable section

namespace Cert.Ffn

open Idealize.ShloMosaic

/-- An array of two indices as a function of them. -/
abbrev rd2 {M N : ℕ} (v : (⟨2, ![M, N]⟩ : Shape).Idx → EReal) : Mat M N := fun i j => v (ix2 i j)

/-- An array of three indices as a function of them. -/
abbrev rd3 {P M N : ℕ} (v : (⟨3, ![P, M, N]⟩ : Shape).Idx → EReal) : Fin P → Mat M N := fun q i j => v (ix3 q i j)

/-- A bit that says a magnitude is below the greatest extended real, when it is one, makes the number real. -/
theorem real_of_bit {x : EReal} (h : BitVec.ofBool (decide (max x (-x) < ⊤)) = 1#1) : ∃ a : ℝ, x = a :=
  Cert.Attn.real_of_abs_lt (by by_contra hc; simp [hc] at h)

end Cert.Ffn

end
-- ==== Proof.Ffn2Ref.lean ====
/- The terms of the second feed-forward layer's reference, cut where the mathematics cuts them, each read at an index. -/
module

public import proofs.«01_k».proof.Proof.Gen.Ffn2RefIdeal.Run
public import proofs.«01_k».proof.Proof.FfnReal
public import Idealize.ShloMosaic.Lib.Pointwise

@[expose] public section

set_option maxRecDepth 16384

noncomputable section

namespace Cert.Ffn2RefIdeal.Value

open Cert.Ffn2RefIdeal Cert.Ffn2RefIdeal.Gen Idealize.ShloMosaic Idealize.ShloMosaic.TcCoe

/-- A product with a weight whose columns lie on four chips. -/
def upT (h : FVec Ideal S2048x2048 .bf16) (w : FVec Ideal S4x2048x1408 .bf16) : FVec Ideal S2048x5632 .f32 :=
  Host.dotGeneral dot_S2048x2048_S2048x5632_S2048x5632_1_0_0_1_n_n none (extf .f32 h bitsLt_bf16_f32) (shapeCast _ (transpose S2048x4x1408 [1, 0, 2] (extf .f32 w bitsLt_bf16_f32) transposes_S4x2048x1408_S2048x4x1408_1_0_2) shapeCasts_S2048x4x1408_S2048x5632)

/-- The logistic function, as the reference writes it. -/
def sgT (a : FVec Ideal S2048x5632 .f32) : FVec Ideal S2048x5632 .f32 :=
  Host.divf (broadcastInDim S2048x5632 ![] bcast_S_S2048x5632 (constant S_ .f32 0x3F800000#32)) (addf (broadcastInDim S2048x5632 ![] bcast_S_S2048x5632 (constant S_ .f32 0x3F800000#32)) (Host.exp (Host.negf a)))

/-- The hidden layer. -/
def hidT (a b : FVec Ideal S2048x5632 .f32) : FVec Ideal S2048x5632 .f32 := mulf (mulf a (sgT a)) b

/-- The product with the down weight. -/
def downT (s : FVec Ideal S2048x5632 .f32) (w : FVec Ideal S5632x2048 .bf16) : FVec Ideal S2048x2048 .f32 :=
  Host.dotGeneral dot_S2048x5632_S5632x2048_S2048x2048_1_0_0_1_n_n none s (extf .f32 w bitsLt_bf16_f32)

/-- The residual sum. -/
def resT (x : FVec Ideal S2048x2048 .f32) (g : FVec Ideal S1x2048 .f32) (y : FVec Ideal S2048x2048 .f32) : FVec Ideal S2048x2048 .f32 :=
  addf x (mulf (broadcastInDim S2048x2048 ![0, 1] bcast_S1x2048_S2048x2048_0_1 (mulf (broadcastInDim S1x2048 ![] bcast_S_S1x2048 (constant S_ .f32 0x3F000000#32)) g)) y)

/-- The gradient that reaches the hidden layer. -/
def dhidT (df : FVec Ideal S2048x2048 .bf16) (w : FVec Ideal S5632x2048 .bf16) : FVec Ideal S2048x5632 .f32 :=
  Host.dotGeneral dot_S2048x2048_S5632x2048_S2048x5632_1_1_0_0_n_n none (extf .f32 df bitsLt_bf16_f32) (extf .f32 w bitsLt_bf16_f32)

/-- The gradient in the gate's product. -/
def dgateT (d a b : FVec Ideal S2048x5632 .f32) : FVec Ideal S2048x5632 .f32 :=
  addf (mulf (mulf d b) (sgT a)) (mulf (mulf a (mulf d b)) (mulf (sgT a) (subf (broadcastInDim S2048x5632 ![] bcast_S_S2048x5632 (constant S_ .f32 0x3F800000#32)) (sgT a))))

/-- The gradient in a weight whose columns lie on four chips. -/
def gradUpT (h : FVec Ideal S2048x2048 .bf16) (d : FVec Ideal S2048x5632 .f32) : FVec Ideal S4x2048x1408 .bf16 :=
  truncf .bf16 (transpose S4x2048x1408 [1, 0, 2] (shapeCast _ (transpose S2048x5632 [1, 0] (Host.dotGeneral dot_S2048x5632_S2048x2048_S5632x2048_0_0_1_1_n_n none d (extf .f32 h bitsLt_bf16_f32)) transposes_S5632x2048_S2048x5632_1_0) shapeCasts_S2048x5632_S2048x4x1408) transposes_S2048x4x1408_S4x2048x1408_1_0_2) bitsLt_bf16_f32

theorem upT_at (h : FVec Ideal S2048x2048 .bf16) (w : FVec Ideal S4x2048x1408 .bf16) (i : Fin 2048) (n : Fin 5632) :
    upT h w (ix2 i n) = Ffn.up (fun i x => h (ix2 i x)) (fun q x e => w (ix3 q x e)) i n := by
  pointwise [upT, Ffn.up]

theorem hidT_at (a b : FVec Ideal S2048x5632 .f32) (i : Fin 2048) (n : Fin 5632) :
    hidT a b (ix2 i n) = Ffn.hid (fun i n => a (ix2 i n)) (fun i n => b (ix2 i n)) i n := by
  pointwise [hidT, sgT, Ffn.hid]
  rfl

theorem downT_at (s : FVec Ideal S2048x5632 .f32) (w : FVec Ideal S5632x2048 .bf16) (i j : Fin 2048) :
    downT s w (ix2 i j) = Ffn.down (fun i n => s (ix2 i n)) (fun n j => w (ix2 n j)) i j := by
  pointwise [downT, Ffn.down]

theorem resT_at (x : FVec Ideal S2048x2048 .f32) (g : FVec Ideal S1x2048 .f32) (y : FVec Ideal S2048x2048 .f32) (i j : Fin 2048) :
    resT x g y (ix2 i j) = Ffn.res (fun i j => x (ix2 i j)) (fun _ j => g (ix2 0 j)) (fun i j => y (ix2 i j)) i j := by
  pointwise [resT, Ffn.res, Ffn.half]

theorem dhidT_at (df : FVec Ideal S2048x2048 .bf16) (w : FVec Ideal S5632x2048 .bf16) (i : Fin 2048) (n : Fin 5632) :
    dhidT df w (ix2 i n) = Ffn.dhid (fun i j => df (ix2 i j)) (fun n j => w (ix2 n j)) i n := by
  pointwise [dhidT, Ffn.dhid]

theorem dgateT_at (d a b : FVec Ideal S2048x5632 .f32) (i : Fin 2048) (n : Fin 5632) :
    dgateT d a b (ix2 i n) = d (ix2 i n) * b (ix2 i n) * Ideal.logistic (a (ix2 i n))
      + a (ix2 i n) * (d (ix2 i n) * b (ix2 i n)) * (Ideal.logistic (a (ix2 i n)) * (1 - Ideal.logistic (a (ix2 i n)))) := by
  pointwise [dgateT, sgT]
  rfl

theorem gradUpT_at (h : FVec Ideal S2048x2048 .bf16) (d : FVec Ideal S2048x5632 .f32) (q : Fin 4) (x : Fin 2048) (e : Fin 1408) :
    gradUpT h d (ix3 q x e) = Ffn.gradUp (fun i x => h (ix2 i x)) (fun i n => d (ix2 i n)) q x e := by
  pointwise [gradUpT, Ffn.gradUp]
  exact Finset.sum_congr rfl fun _ _ => mul_comm _ _

/-- The down weight's gradient. -/
def gradDownT (s : FVec Ideal S2048x5632 .f32) (df : FVec Ideal S2048x2048 .bf16) : FVec Ideal S5632x2048 .bf16 :=
  truncf .bf16 (transpose S5632x2048 [1, 0] (Host.dotGeneral dot_S2048x2048_S2048x5632_S2048x5632_0_0_1_1_n_n none (extf .f32 df bitsLt_bf16_f32) s) transposes_S2048x5632_S5632x2048_1_0) bitsLt_bf16_f32

theorem gradDownT_at (s : FVec Ideal S2048x5632 .f32) (df : FVec Ideal S2048x2048 .bf16) (n : Fin 5632) (j : Fin 2048) :
    gradDownT s df (ix2 n j) = Ffn.gradDown (fun i n => s (ix2 i n)) (fun i j => df (ix2 i j)) n j := by
  pointwise [gradDownT, Ffn.gradDown]
  exact Finset.sum_congr rfl fun _ _ => mul_comm _ _

/-- The gradient in the up product. -/
def dupT (d a : FVec Ideal S2048x5632 .f32) : FVec Ideal S2048x5632 .f32 := mulf (mulf a (sgT a)) d

theorem dupT_at (d a : FVec Ideal S2048x5632 .f32) (i : Fin 2048) (n : Fin 5632) :
    dupT d a (ix2 i n) = Ffn.dup (fun i n => d (ix2 i n)) (fun i n => a (ix2 i n)) i n := by
  refine Eq.trans ?_ (mul_comm _ _)
  pointwise [dupT, sgT]
  rfl

/-- The gradient in the gate's product is the one the kernel writes, wherever the two other factors are real. -/
theorem dgateT_eq (d a b : FVec Ideal S2048x5632 .f32) (i : Fin 2048) (n : Fin 5632) (hd : ∃ x : ℝ, d (ix2 i n) = x) (hb : ∃ x : ℝ, b (ix2 i n) = x) :
    dgateT d a b (ix2 i n) = Ffn.dgate (fun i n => d (ix2 i n)) (fun i n => a (ix2 i n)) (fun i n => b (ix2 i n)) i n :=
  (dgateT_at d a b i n).trans (Ffn.gate_law _ _ _ hd hb)

end Cert.Ffn2RefIdeal.Value

end
-- ==== Proof.Ffn2Tile.lean ====
/- What one grid point of each call of the second feed-forward layer computes from its blocks. -/
module

public import proofs.«01_k».proof.Proof.Gen.Ffn2Ideal.Frame
public import proofs.«01_k».proof.Proof.FfnSpec
public import Idealize.ShloMosaic.Lib.Pointwise
public import Idealize.ShloMosaic.Lib.Pipeline.ValueKit

@[expose] public section

set_option maxRecDepth 16384

noncomputable section

namespace Cert.Ffn2Ideal.Tile

open Cert.Ffn2Ideal Cert.Ffn2Ideal.Gen Idealize.ShloMosaic Idealize.ShloMosaic.TcCoe

/-- The tile of the gate's product. -/
theorem a_at (x0 : Vec Ideal S512x2048 .bf16) (x1 : Vec Ideal S1x2048x1408 .bf16) (x2 : Vec Ideal S512x2048 .bf16) (x3 : Vec Ideal S1x2048x1408 .bf16)
    (i : Fin 512) (n : Fin 1408) : out0_4 (F := Ideal) x0 x1 x2 x3 (ix2 i n) = ∑ x : Fin 2048, x0 (ix2 i x) * x1 (ix3 0 x n) := by
  unfold out0_4
  frame_out
  pointwise [k0_pay3, k0_pay1]

/-- The tile of the up product. -/
theorem b_at (x0 : Vec Ideal S512x2048 .bf16) (x1 : Vec Ideal S1x2048x1408 .bf16) (x2 : Vec Ideal S512x2048 .bf16) (x3 : Vec Ideal S1x2048x1408 .bf16)
    (i : Fin 512) (n : Fin 1408) : out0_5 (F := Ideal) x0 x1 x2 x3 (ix2 i n) = ∑ x : Fin 2048, x2 (ix2 i x) * x3 (ix3 0 x n) := by
  unfold out0_5
  frame_out
  pointwise [k0_pay4, k0_pay2]

/-- The tile of the hidden layer. -/
theorem s_at (x0 : Vec Ideal S512x2048 .bf16) (x1 : Vec Ideal S1x2048x1408 .bf16) (x2 : Vec Ideal S512x2048 .bf16) (x3 : Vec Ideal S1x2048x1408 .bf16)
    (i : Fin 512) (n : Fin 1408) : out0_6 (F := Ideal) x0 x1 x2 x3 (ix2 i n)
      = (∑ x : Fin 2048, x0 (ix2 i x) * x1 (ix3 0 x n)) * Ideal.logistic (∑ x : Fin 2048, x0 (ix2 i x) * x1 (ix3 0 x n))
        * (∑ x : Fin 2048, x2 (ix2 i x) * x3 (ix3 0 x n)) := by
  unfold out0_6
  frame_out
  pointwise [k0_pay5, k0_pay1, k0_pay2]

/-- The tile of the layer's output. -/
theorem y_at (x0 : Vec Ideal S512x5632 .bf16) (x1 : Vec Ideal S5632x512 .bf16) (x2 : Vec Ideal S512x512 .f32) (x3 : Vec Ideal S1x512 .f32)
    (i : Fin 512) (j : Fin 512) : out1_4 (F := Ideal) x0 x1 x2 x3 (ix2 i j) = ∑ n : Fin 5632, x0 (ix2 i n) * x1 (ix2 n j) := by
  unfold out1_4
  frame_out
  pointwise [k1_pay1]

/-- The tile of the residual sum. -/
theorem xo_at (x0 : Vec Ideal S512x5632 .bf16) (x1 : Vec Ideal S5632x512 .bf16) (x2 : Vec Ideal S512x512 .f32) (x3 : Vec Ideal S1x512 .f32)
    (i : Fin 512) (j : Fin 512) : out1_5 (F := Ideal) x0 x1 x2 x3 (ix2 i j)
      = x2 (ix2 i j) + Ffn.half * x3 (ix2 0 j) * ∑ n : Fin 5632, x0 (ix2 i n) * x1 (ix2 n j) := by
  unfold out1_5
  frame_out
  pointwise [k1_pay1, k1_pay2, Ffn.half]

/-- The tile of the down weight's gradient. -/
theorem wd_at (x0 : Vec Ideal S2048x512 .bf16) (x1 : Vec Ideal S2048x1024 .bf16) (n : Fin 512) (j : Fin 1024) :
    out2_2 (F := Ideal) x0 x1 (ix2 n j) = ∑ i : Fin 2048, x0 (ix2 i n) * x1 (ix2 i j) := by
  unfold out2_2
  frame_out
  pointwise [k2_pay1]

/-- The tile of the gradient in the gate's product. -/
theorem da_at (x0 : Vec Ideal S512x2048 .bf16) (x1 : Vec Ideal S1408x2048 .bf16) (x2 x3 : Vec Ideal S512x1408 .bf16) (i : Fin 512) (n : Fin 1408) :
    out3_4 (F := Ideal) x0 x1 x2 x3 (ix2 i n) = (∑ j : Fin 2048, x0 (ix2 i j) * x1 (ix2 n j)) * x3 (ix2 i n)
      * (Ideal.logistic (x2 (ix2 i n)) * (1 + x2 (ix2 i n) * (1 - Ideal.logistic (x2 (ix2 i n))))) := by
  unfold out3_4
  frame_out
  pointwise [k3_pay1, k3_pay2, k3_pay3, k3_pay4]

/-- The tile of the gradient in the up product. -/
theorem db_at (x0 : Vec Ideal S512x2048 .bf16) (x1 : Vec Ideal S1408x2048 .bf16) (x2 x3 : Vec Ideal S512x1408 .bf16) (i : Fin 512) (n : Fin 1408) :
    out3_5 (F := Ideal) x0 x1 x2 x3 (ix2 i n) = (∑ j : Fin 2048, x0 (ix2 i j) * x1 (ix2 n j)) * (x2 (ix2 i n) * Ideal.logistic (x2 (ix2 i n))) := by
  unfold out3_5
  frame_out
  pointwise [k3_pay1, k3_pay2, k3_pay3, k3_pay5]

/-- The tile of the gate weight's gradient. -/
theorem wg_at (x0 : Vec Ideal S2048x512 .bf16) (x1 : Vec Ideal S2048x1408 .bf16) (x : Fin 512) (n : Fin 1408) :
    out4_2 (F := Ideal) x0 x1 (ix3 0 x n) = ∑ i : Fin 2048, x0 (ix2 i x) * x1 (ix2 i n) := by
  unfold out4_2
  frame_out
  pointwise [k4_pay1]

/-- The tile of the up weight's gradient. -/
theorem wu_at (x0 : Vec Ideal S2048x512 .bf16) (x1 : Vec Ideal S2048x1408 .bf16) (x : Fin 512) (n : Fin 1408) :
    out5_2 (F := Ideal) x0 x1 (ix3 0 x n) = ∑ i : Fin 2048, x0 (ix2 i x) * x1 (ix2 i n) := by
  unfold out5_2
  frame_out
  pointwise [k5_pay1]

end Cert.Ffn2Ideal.Tile

end
-- ==== Proof.Ffn2Final.lean ====
/- The result arrays of each call of the second feed-forward layer. -/
module

public import proofs.«01_k».proof.Proof.Ffn2Tile

@[expose] public section

set_option maxRecDepth 16384

noncomputable section

namespace Cert.Ffn2Ideal.Final

open Cert.Ffn2Ideal Cert.Ffn2Ideal.Gen Idealize.ShloMosaic Idealize.ShloMosaic.TcCoe

/-! Which block of its array each window is on, call by call. -/

theorem idx0 : ∀ t : Fin cfg0.N, win0_0.index t = ![t.val % 4, 0]
    ∧ win0_1.index t = ![t.val / 4, 0, 0]
    ∧ win0_2.index t = ![t.val % 4, 0]
    ∧ win0_3.index t = ![t.val / 4, 0, 0]
    ∧ win0_4.index t = ![t.val % 4, t.val / 4]
    ∧ win0_5.index t = ![t.val % 4, t.val / 4]
    ∧ win0_6.index t = ![t.val % 4, t.val / 4] :=
  (by decide +kernel : ∀ t : Fin grid0.N, _)

theorem idx1 : ∀ t : Fin cfg1.N, win1_0.index t = ![t.val % 4, 0]
    ∧ win1_1.index t = ![0, t.val / 4]
    ∧ win1_2.index t = ![t.val % 4, t.val / 4]
    ∧ win1_3.index t = ![0, t.val / 4]
    ∧ win1_4.index t = ![t.val % 4, t.val / 4]
    ∧ win1_5.index t = ![t.val % 4, t.val / 4] :=
  (by decide +kernel : ∀ t : Fin grid1.N, _)

theorem idx2 : ∀ t : Fin cfg2.N, win2_0.index t = ![0, t.val % 11]
    ∧ win2_1.index t = ![0, t.val / 11]
    ∧ win2_2.index t = ![t.val % 11, t.val / 11] :=
  (by decide +kernel : ∀ t : Fin grid2.N, _)

theorem idx3 : ∀ t : Fin cfg3.N, win3_0.index t = ![t.val % 4, 0]
    ∧ win3_1.index t = ![t.val / 4, 0]
    ∧ win3_2.index t = ![t.val % 4, t.val / 4]
    ∧ win3_3.index t = ![t.val % 4, t.val / 4]
    ∧ win3_4.index t = ![t.val % 4, t.val / 4]
    ∧ win3_5.index t = ![t.val % 4, t.val / 4] :=
  (by decide +kernel : ∀ t : Fin grid3.N, _)

theorem idx4 : ∀ t : Fin cfg4.N, win4_0.index t = ![0, t.val % 4]
    ∧ win4_1.index t = ![0, t.val / 4]
    ∧ win4_2.index t = ![t.val / 4, t.val % 4, 0] :=
  (by decide +kernel : ∀ t : Fin grid4.N, _)

theorem idx5 : ∀ t : Fin cfg5.N, win5_0.index t = ![0, t.val % 4]
    ∧ win5_1.index t = ![0, t.val / 4]
    ∧ win5_2.index t = ![t.val / 4, t.val % 4, 0] :=
  (by decide +kernel : ∀ t : Fin grid5.N, _)

variable (V : (c : Dev nD) → (b : Ref sig .tc) → Buf (Elt Ideal) ((c : Thread nD τ).loc b)) (c : Dev nD)

/-! The arrays the calls read and write, as functions of their indices. -/

/-- The layer's input rows. -/
abbrev H : Ffn.Mat 2048 2048 := fun i x => (V c main_arg0 : Vec Ideal S2048x2048 .bf16) (ix2 i x)
/-- The gate's weight. -/
abbrev Wg : Ffn.Wt := fun q x e => (V c main_arg1 : Vec Ideal S4x2048x1408 .bf16) (ix3 q x e)
/-- The up weight. -/
abbrev Wu : Ffn.Wt := fun q x e => (V c main_arg2 : Vec Ideal S4x2048x1408 .bf16) (ix3 q x e)
/-- The down weight. -/
abbrev Wd : Ffn.Mat 5632 2048 := fun n j => (V c main_arg3 : Vec Ideal S5632x2048 .bf16) (ix2 n j)
/-- The residual rows. -/
abbrev X : Ffn.Mat 2048 2048 := fun i j => (V c main_arg4 : Vec Ideal S2048x2048 .f32) (ix2 i j)
/-- The residual's gate, the same for every row. -/
abbrev G : Ffn.Mat 2048 2048 := fun _ j => (V c main_arg5 : Vec Ideal S1x2048 .f32) (ix2 0 j)
/-- The cotangent of the layer's output. -/
abbrev DF : Ffn.Mat 2048 2048 := fun i j => (V c main_arg6 : Vec Ideal S2048x2048 .bf16) (ix2 i j)
/-- The saved gate's product. -/
abbrev A : Ffn.Mat 2048 5632 := fun i n => (V c main_v0_0 : Vec Ideal S2048x5632 .bf16) (ix2 i n)
/-- The saved up product. -/
abbrev B : Ffn.Mat 2048 5632 := fun i n => (V c main_v0_1 : Vec Ideal S2048x5632 .bf16) (ix2 i n)
/-- The saved hidden layer. -/
abbrev S : Ffn.Mat 2048 5632 := fun i n => (V c main_v0_2 : Vec Ideal S2048x5632 .bf16) (ix2 i n)
/-- The gradient in the gate's product. -/
abbrev DA : Ffn.Mat 2048 5632 := fun i n => (V c main_v3_0 : Vec Ideal S2048x5632 .bf16) (ix2 i n)
/-- The gradient in the up product. -/
abbrev DB : Ffn.Mat 2048 5632 := fun i n => (V c main_v3_1 : Vec Ideal S2048x5632 .bf16) (ix2 i n)

/-- The gate's product. -/
theorem fin0_4 : (dat0 V c).arrAt 4 cfg0.N = fun y => Ffn.up (H V c) (Wg V c) (y 0) (y 1) := by
  refine (dat0 V c).arrAt_eq_of_covers 4 _ (by decide +kernel) fun t hf y => ?_
  obtain ⟨i, n, rfl⟩ : ∃ (i : Fin 512) (n : Fin 1408), y = ix2 i n := ⟨y 0, y 1, eq_ix2 y⟩
  blk_simp
  show (_ : EReal) = _
  rw [after0_4, Tile.a_at]
  refine Finset.sum_congr rfl fun x _ => congrArg₂ (· * ·) ?_ ?_
  · blk_ext [iblk0, idx0 t]
  · blk_ext [iblk0, idx0 t]

/-- The up product. -/
theorem fin0_5 : (dat0 V c).arrAt 5 cfg0.N = fun y => Ffn.up (H V c) (Wu V c) (y 0) (y 1) := by
  refine (dat0 V c).arrAt_eq_of_covers 5 _ (by decide +kernel) fun t hf y => ?_
  obtain ⟨i, n, rfl⟩ : ∃ (i : Fin 512) (n : Fin 1408), y = ix2 i n := ⟨y 0, y 1, eq_ix2 y⟩
  blk_simp
  show (_ : EReal) = _
  rw [after0_5, Tile.b_at]
  refine Finset.sum_congr rfl fun x _ => congrArg₂ (· * ·) ?_ ?_
  · blk_ext [iblk0, idx0 t]
  · blk_ext [iblk0, idx0 t]

/-- The hidden layer. -/
theorem fin0_6 : (dat0 V c).arrAt 6 cfg0.N = fun y => Ffn.hid (Ffn.up (H V c) (Wg V c)) (Ffn.up (H V c) (Wu V c)) (y 0) (y 1) := by
  refine (dat0 V c).arrAt_eq_of_covers 6 _ (by decide +kernel) fun t hf y => ?_
  obtain ⟨i, n, rfl⟩ : ∃ (i : Fin 512) (n : Fin 1408), y = ix2 i n := ⟨y 0, y 1, eq_ix2 y⟩
  blk_simp
  show (_ : EReal) = _
  rw [after0_6, Tile.s_at]
  refine congrArg₂ (fun a b : EReal => a * Ideal.logistic a * b) (Finset.sum_congr rfl fun x _ => congrArg₂ (· * ·) ?_ ?_)
    (Finset.sum_congr rfl fun x _ => congrArg₂ (· * ·) ?_ ?_)
  · blk_ext [iblk0, idx0 t]
  · blk_ext [iblk0, idx0 t]
  · blk_ext [iblk0, idx0 t]
  · blk_ext [iblk0, idx0 t]

/-- The layer's output. -/
theorem fin1_4 : (dat1 V c).arrAt 4 cfg1.N = fun y => Ffn.down (S V c) (Wd V c) (y 0) (y 1) := by
  refine (dat1 V c).arrAt_eq_of_covers 4 _ (by decide +kernel) fun t hf y => ?_
  obtain ⟨i, n, rfl⟩ : ∃ (i : Fin 512) (n : Fin 512), y = ix2 i n := ⟨y 0, y 1, eq_ix2 y⟩
  blk_simp
  show (_ : EReal) = _
  rw [after1_4, Tile.y_at]
  refine Finset.sum_congr rfl fun x _ => congrArg₂ (· * ·) ?_ ?_
  · blk_ext [iblk1, idx1 t]
  · blk_ext [iblk1, idx1 t]

/-- The residual sum. -/
theorem fin1_5 : (dat1 V c).arrAt 5 cfg1.N = fun y => Ffn.res (X V c) (G V c) (Ffn.down (S V c) (Wd V c)) (y 0) (y 1) := by
  refine (dat1 V c).arrAt_eq_of_covers 5 _ (by decide +kernel) fun t hf y => ?_
  obtain ⟨i, n, rfl⟩ : ∃ (i : Fin 512) (n : Fin 512), y = ix2 i n := ⟨y 0, y 1, eq_ix2 y⟩
  blk_simp
  show (_ : EReal) = _
  rw [after1_5, Tile.xo_at]
  refine congrArg₂ (· + ·) ?_ (congrArg₂ (· * ·) (congrArg (Ffn.half * ·) ?_) (Finset.sum_congr rfl fun x _ => congrArg₂ (· * ·) ?_ ?_))
  · blk_ext [iblk1, idx1 t]
  · blk_ext [iblk1, idx1 t]
  · blk_ext [iblk1, idx1 t]
  · blk_ext [iblk1, idx1 t]

/-- The gradient in the down weight. -/
theorem fin2_2 : (dat2 V c).arrAt 2 cfg2.N = fun y => Ffn.gradDown (S V c) (DF V c) (y 0) (y 1) := by
  refine (dat2 V c).arrAt_eq_of_covers 2 _ (by decide +kernel) fun t hf y => ?_
  obtain ⟨i, n, rfl⟩ : ∃ (i : Fin 512) (n : Fin 1024), y = ix2 i n := ⟨y 0, y 1, eq_ix2 y⟩
  blk_simp
  show (_ : EReal) = _
  rw [after2_2, Tile.wd_at]
  refine Finset.sum_congr rfl fun x _ => congrArg₂ (· * ·) ?_ ?_
  · blk_ext [iblk2, idx2 t]
  · blk_ext [iblk2, idx2 t]

/-- The gradient in the gate's product. -/
theorem fin3_4 : (dat3 V c).arrAt 4 cfg3.N = fun y => Ffn.dgate (Ffn.dhid (DF V c) (Wd V c)) (A V c) (B V c) (y 0) (y 1) := by
  refine (dat3 V c).arrAt_eq_of_covers 4 _ (by decide +kernel) fun t hf y => ?_
  obtain ⟨i, n, rfl⟩ : ∃ (i : Fin 512) (n : Fin 1408), y = ix2 i n := ⟨y 0, y 1, eq_ix2 y⟩
  blk_simp
  show (_ : EReal) = _
  rw [after3_4, Tile.da_at]
  refine congrArg₂ (· * ·) (congrArg₂ (· * ·) (Finset.sum_congr rfl fun x _ => congrArg₂ (· * ·) ?_ ?_) ?_)
    (congrArg (fun a : EReal => Ideal.logistic a * (1 + a * (1 - Ideal.logistic a))) ?_)
  · blk_ext [iblk3, idx3 t]
  · blk_ext [iblk3, idx3 t]
  · blk_ext [iblk3, idx3 t]
  · blk_ext [iblk3, idx3 t]

/-- The gradient in the up product. -/
theorem fin3_5 : (dat3 V c).arrAt 5 cfg3.N = fun y => Ffn.dup (Ffn.dhid (DF V c) (Wd V c)) (A V c) (y 0) (y 1) := by
  refine (dat3 V c).arrAt_eq_of_covers 5 _ (by decide +kernel) fun t hf y => ?_
  obtain ⟨i, n, rfl⟩ : ∃ (i : Fin 512) (n : Fin 1408), y = ix2 i n := ⟨y 0, y 1, eq_ix2 y⟩
  blk_simp
  show (_ : EReal) = _
  rw [after3_5, Tile.db_at]
  refine congrArg₂ (· * ·) (Finset.sum_congr rfl fun x _ => congrArg₂ (· * ·) ?_ ?_) (congrArg (fun a : EReal => a * Ideal.logistic a) ?_)
  · blk_ext [iblk3, idx3 t]
  · blk_ext [iblk3, idx3 t]
  · blk_ext [iblk3, idx3 t]

/-- The gradient in the gate's weight. -/
theorem fin4_2 : (dat4 V c).arrAt 2 cfg4.N = fun y => Ffn.gradUp (H V c) (DA V c) (y 0) (y 1) (y 2) := by
  refine (dat4 V c).arrAt_eq_of_covers 2 _ (by decide +kernel) fun t hf y => ?_
  obtain ⟨z, i, n, rfl⟩ : ∃ (z : Fin 1) (i : Fin 512) (n : Fin 1408), y = ix3 z i n := ⟨y 0, y 1, y 2, eq_ix3 y⟩
  obtain rfl : z = 0 := Subsingleton.elim _ _
  blk_simp
  show (_ : EReal) = _
  rw [after4_2, Tile.wg_at]
  refine Finset.sum_congr rfl fun x _ => congrArg₂ (· * ·) ?_ ?_
  · blk_ext [iblk4, idx4 t]
  · blk_ext [iblk4, idx4 t]

/-- The gradient in the up weight. -/
theorem fin5_2 : (dat5 V c).arrAt 2 cfg5.N = fun y => Ffn.gradUp (H V c) (DB V c) (y 0) (y 1) (y 2) := by
  refine (dat5 V c).arrAt_eq_of_covers 2 _ (by decide +kernel) fun t hf y => ?_
  obtain ⟨z, i, n, rfl⟩ : ∃ (z : Fin 1) (i : Fin 512) (n : Fin 1408), y = ix3 z i n := ⟨y 0, y 1, y 2, eq_ix3 y⟩
  obtain rfl : z = 0 := Subsingleton.elim _ _
  blk_simp
  show (_ : EReal) = _
  rw [after5_2, Tile.wu_at]
  refine Finset.sum_congr rfl fun x _ => congrArg₂ (· * ·) ?_ ?_
  · blk_ext [iblk5, idx5 t]
  · blk_ext [iblk5, idx5 t]

end Cert.Ffn2Ideal.Final

end
-- ==== Proof.Ffn2Run.lean ====
/- What the six calls of the second feed-forward layer leave in the result arrays. -/
module

public import proofs.«01_k».proof.Proof.Ffn2Final

@[expose] public section

set_option maxRecDepth 16384

noncomputable section

namespace Cert.Ffn2Ideal.Run

open Cert.Ffn2Ideal Cert.Ffn2Ideal.Gen Cert.Ffn2Ideal.Final
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

/-! The arguments are what they were whenever a call reads them. -/

theorem hH0 : H (V4 m ρ) c = H (V0 m ρ) c := by
  show (fun i x => W4 m ρ c (Proc.devRef .tc main_arg0) (ix2 i x)) = _
  rw [W4_args m ρ c main_arg0 (by decide)]
theorem hH1 : H (V5 m ρ) c = H (V0 m ρ) c := by
  show (fun i x => W5 m ρ c (Proc.devRef .tc main_arg0) (ix2 i x)) = _
  rw [W5_args m ρ c main_arg0 (by decide)]
theorem hWd1 : Wd (V1 m ρ) c = Wd (V0 m ρ) c := by
  show (fun i x => W1 m ρ c (Proc.devRef .tc main_arg3) (ix2 i x)) = _
  rw [W1_args m ρ c main_arg3 (by decide)]
theorem hWd3 : Wd (V3 m ρ) c = Wd (V0 m ρ) c := by
  show (fun i x => W3 m ρ c (Proc.devRef .tc main_arg3) (ix2 i x)) = _
  rw [W3_args m ρ c main_arg3 (by decide)]
theorem hX1 : X (V1 m ρ) c = X (V0 m ρ) c := by
  show (fun i x => W1 m ρ c (Proc.devRef .tc main_arg4) (ix2 i x)) = _
  rw [W1_args m ρ c main_arg4 (by decide)]
theorem hG1 : G (V1 m ρ) c = G (V0 m ρ) c := by
  show (fun _ x => W1 m ρ c (Proc.devRef .tc main_arg5) (ix2 0 x)) = _
  rw [W1_args m ρ c main_arg5 (by decide)]
theorem hDF2 : DF (V2 m ρ) c = DF (V0 m ρ) c := by
  show (fun i x => W2 m ρ c (Proc.devRef .tc main_arg6) (ix2 i x)) = _
  rw [W2_args m ρ c main_arg6 (by decide)]
theorem hDF3 : DF (V3 m ρ) c = DF (V0 m ρ) c := by
  show (fun i x => W3 m ρ c (Proc.devRef .tc main_arg6) (ix2 i x)) = _
  rw [W3_args m ρ c main_arg6 (by decide)]

/-! What one call wrote is what a later call reads. -/

theorem hS1 : S (V1 m ρ) c = Ffn.hid (Ffn.up (H (V0 m ρ) c) (Wg (V0 m ρ) c)) (Ffn.up (H (V0 m ρ) c) (Wu (V0 m ρ) c)) := by
  show (fun i n => W1 m ρ c (Proc.devRef .tc (Pipeline.arrRef spec0 6)) (ix2 i n)) = _
  rw [W1_arr m ρ c 6, fin0_6]
  rfl

theorem hS2 : S (V2 m ρ) c = S (V1 m ρ) c := by
  show (fun i n => W2 m ρ c (Proc.devRef .tc main_v0_2) (ix2 i n)) = _
  rw [W2_of m ρ c main_v0_2 (by decide)]

theorem hA3 : A (V3 m ρ) c = Ffn.up (H (V0 m ρ) c) (Wg (V0 m ρ) c) := by
  show (fun i n => W3 m ρ c (Proc.devRef .tc main_v0_0) (ix2 i n)) = _
  rw [(W3_of m ρ c main_v0_0 (by decide)).trans ((W2_of m ρ c main_v0_0 (by decide)).trans ((W1_arr m ρ c 4).trans (fin0_4 (V0 m ρ) c)))]
  rfl

theorem hB3 : B (V3 m ρ) c = Ffn.up (H (V0 m ρ) c) (Wu (V0 m ρ) c) := by
  show (fun i n => W3 m ρ c (Proc.devRef .tc main_v0_1) (ix2 i n)) = _
  rw [(W3_of m ρ c main_v0_1 (by decide)).trans ((W2_of m ρ c main_v0_1 (by decide)).trans ((W1_arr m ρ c 5).trans (fin0_5 (V0 m ρ) c)))]
  rfl

theorem hDA4 : DA (V4 m ρ) c = Ffn.dgate (Ffn.dhid (DF (V0 m ρ) c) (Wd (V0 m ρ) c)) (Ffn.up (H (V0 m ρ) c) (Wg (V0 m ρ) c)) (Ffn.up (H (V0 m ρ) c) (Wu (V0 m ρ) c)) := by
  show (fun i n => W4 m ρ c (Proc.devRef .tc (Pipeline.arrRef spec3 4)) (ix2 i n)) = _
  rw [W4_arr m ρ c 4, fin3_4, hA3, hB3, hDF3, hWd3]
  rfl

theorem hDB5 : DB (V5 m ρ) c = Ffn.dup (Ffn.dhid (DF (V0 m ρ) c) (Wd (V0 m ρ) c)) (Ffn.up (H (V0 m ρ) c) (Wg (V0 m ρ) c)) := by
  show (fun i n => W5 m ρ c (Proc.devRef .tc main_v3_1) (ix2 i n)) = _
  rw [(W5_of m ρ c main_v3_1 (by decide)).trans ((W4_arr m ρ c 5).trans (fin3_5 (V3 m ρ) c)), hA3, hDF3, hWd3]
  rfl

/-! The five results at the end. -/

/-- The hidden layer from the arguments. -/
abbrev S0 : Ffn.Mat 2048 5632 := Ffn.hid (Ffn.up (H (V0 m ρ) c) (Wg (V0 m ρ) c)) (Ffn.up (H (V0 m ρ) c) (Wu (V0 m ρ) c))

/-- The layer's output. -/
theorem outF : W6 m ρ c (Proc.devRef .tc main_v1_0) = fun y => Ffn.down (S0 m ρ c) (Wd (V0 m ρ) c) (y 0) (y 1) := by
  refine (W6_of m ρ c main_v1_0 (by decide)).trans ((W5_of m ρ c main_v1_0 (by decide)).trans ((W4_of m ρ c main_v1_0 (by decide)).trans ((W3_of m ρ c main_v1_0 (by decide)).trans ((W2_arr m ρ c 4).trans ?_))))
  rw [fin1_4, hS1, hWd1]

/-- The residual sum. -/
theorem outX : W6 m ρ c (Proc.devRef .tc main_v1_1)
    = fun y => Ffn.res (X (V0 m ρ) c) (G (V0 m ρ) c) (Ffn.down (S0 m ρ c) (Wd (V0 m ρ) c)) (y 0) (y 1) := by
  refine (W6_of m ρ c main_v1_1 (by decide)).trans ((W5_of m ρ c main_v1_1 (by decide)).trans ((W4_of m ρ c main_v1_1 (by decide)).trans ((W3_of m ρ c main_v1_1 (by decide)).trans ((W2_arr m ρ c 5).trans ?_))))
  rw [fin1_5, hS1, hWd1, hX1, hG1]

/-- The gradient in the down weight. -/
theorem outWd : W6 m ρ c (Proc.devRef .tc main_v2) = fun y => Ffn.gradDown (S0 m ρ c) (DF (V0 m ρ) c) (y 0) (y 1) := by
  refine (W6_of m ρ c main_v2 (by decide)).trans ((W5_of m ρ c main_v2 (by decide)).trans ((W4_of m ρ c main_v2 (by decide)).trans ((W3_arr m ρ c 2).trans ?_)))
  rw [fin2_2, hS2, hS1, hDF2]

/-- The gradient in the gate's weight. -/
theorem outWg : W6 m ρ c (Proc.devRef .tc main_v4) = fun y => Ffn.gradUp (H (V0 m ρ) c)
    (Ffn.dgate (Ffn.dhid (DF (V0 m ρ) c) (Wd (V0 m ρ) c)) (Ffn.up (H (V0 m ρ) c) (Wg (V0 m ρ) c)) (Ffn.up (H (V0 m ρ) c) (Wu (V0 m ρ) c)))
    (y 0) (y 1) (y 2) := by
  refine (W6_of m ρ c main_v4 (by decide)).trans ((W5_arr m ρ c 2).trans ?_)
  rw [fin4_2, hH0, hDA4]

/-- The gradient in the up weight. -/
theorem outWu : W6 m ρ c (Proc.devRef .tc main_v5) = fun y => Ffn.gradUp (H (V0 m ρ) c)
    (Ffn.dup (Ffn.dhid (DF (V0 m ρ) c) (Wd (V0 m ρ) c)) (Ffn.up (H (V0 m ρ) c) (Wg (V0 m ρ) c))) (y 0) (y 1) (y 2) := by
  refine (W6_arr m ρ c 2).trans ?_
  rw [fin5_2, hH1, hDB5]

local notation "𝕄" => MT nD τ sig Unit (Elt Ideal) ℕ (UR sig nD τ) ℕ

set_option backward.isDefEq.respectTransparency.types false in
/-- From zero counters every schedule ends with each array outside the calls' own buffers as the last call left it, and the counters at zero. -/
theorem run : θ_run defs (onTc (τ := τ) (main (F := Ideal))) ⟨m, fun _ => 0, ρ⟩ (fun r => (∀ (c : Dev nD) (b : Ref sig .tc),
      ¬ (Proc.devRef .tc b : DevRef τ sig).isScoped → r.2.mem ((c.tc : Thread nD τ).loc b) = W6 m ρ c (Proc.devRef .tc b)) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨fun c b hb => h c _ (mem_uc b hb), funext fun g => hz g (.inr (no_unscoped g.2))⟩)

end Cert.Ffn2Ideal.Run

end
-- ==== Proof.Ffn2Cert.lean ====
/- The second feed-forward layer: the precondition read, and the kernel's run set beside the reference's. -/
module

public import proofs.«01_k».proof.Defs
public import proofs.«01_k».proof.Proof.FfnPre
public import proofs.«01_k».proof.Proof.Ffn2Ref
public import proofs.«01_k».proof.Proof.Ffn2Run

@[expose] public section

set_option maxRecDepth 16384

noncomputable section

namespace Cert.Ffn2RefIdeal.Value

open Cert.Ffn2RefIdeal Cert.Ffn2RefIdeal.Gen Idealize.ShloMosaic Idealize.ShloMosaic.TcCoe
open Cert.Ffn (rd2 rd3)

variable (h : FVec Ideal S2048x2048 .bf16) (wg wu : FVec Ideal S4x2048x1408 .bf16) (wd : FVec Ideal S5632x2048 .bf16)
  (x : FVec Ideal S2048x2048 .f32) (g : FVec Ideal S1x2048 .f32) (df : FVec Ideal S2048x2048 .bf16)

/-- The reference's hidden layer. -/
theorem hid_eq : rd2 (hidT (upT h wg) (upT h wu)) = Ffn.hid (Ffn.up (rd2 h) (rd3 wg)) (Ffn.up (rd2 h) (rd3 wu)) := by
  funext i n
  refine (hidT_at _ _ i n).trans ?_
  simp only [upT_at]

/-- The reference's output of the layer. -/
theorem out_eq : downT (hidT (upT h wg) (upT h wu)) wd
    = fun y => Ffn.down (Ffn.hid (Ffn.up (rd2 h) (rd3 wg)) (Ffn.up (rd2 h) (rd3 wu))) (rd2 wd) (y 0) (y 1) := by
  funext y
  obtain ⟨i, j, rfl⟩ : ∃ i j, y = ix2 i j := ⟨y 0, y 1, (ix2_eta y).symm⟩
  rw [downT_at]
  exact congrArg (fun s => Ffn.down s (rd2 wd) i j) (hid_eq h wg wu)

/-- The reference's residual sum. -/
theorem res_eq : resT x g (downT (hidT (upT h wg) (upT h wu)) wd)
    = fun y => Ffn.res (rd2 x) (fun _ j => g (ix2 0 j)) (Ffn.down (Ffn.hid (Ffn.up (rd2 h) (rd3 wg)) (Ffn.up (rd2 h) (rd3 wu))) (rd2 wd)) (y 0) (y 1) := by
  funext y
  obtain ⟨i, j, rfl⟩ : ∃ i j, y = ix2 i j := ⟨y 0, y 1, (ix2_eta y).symm⟩
  rw [resT_at, out_eq]
  rfl

/-- The reference's gradient in the down weight. -/
theorem gradDown_eq : gradDownT (hidT (upT h wg) (upT h wu)) df
    = fun y => Ffn.gradDown (Ffn.hid (Ffn.up (rd2 h) (rd3 wg)) (Ffn.up (rd2 h) (rd3 wu))) (rd2 df) (y 0) (y 1) := by
  funext y
  obtain ⟨n, j, rfl⟩ : ∃ n j, y = ix2 n j := ⟨y 0, y 1, (ix2_eta y).symm⟩
  rw [gradDownT_at]
  exact congrArg (fun s => Ffn.gradDown s (rd2 df) n j) (hid_eq h wg wu)

/-- The reference's gradient in the up weight. -/
theorem gradWu_eq : gradUpT h (dupT (dhidT df wd) (upT h wg))
    = fun y => Ffn.gradUp (rd2 h) (Ffn.dup (Ffn.dhid (rd2 df) (rd2 wd)) (Ffn.up (rd2 h) (rd3 wg))) (y 0) (y 1) (y 2) := by
  funext y
  obtain ⟨q, i, e, rfl⟩ : ∃ q i e, y = ix3 q i e := ⟨y 0, y 1, y 2, (ix3_eta y).symm⟩
  rw [gradUpT_at]
  simp only [dupT_at, dhidT_at, upT_at]
  rfl

/-- The reference's gradient in the gate's weight, where the up product and the hidden layer's cotangent are real. -/
theorem gradWg_eq (hd : ∀ i n, ∃ a : ℝ, Ffn.dhid (rd2 df) (rd2 wd) i n = a) (hb : ∀ i n, ∃ a : ℝ, Ffn.up (rd2 h) (rd3 wu) i n = a) :
    gradUpT h (dgateT (dhidT df wd) (upT h wg) (upT h wu))
      = fun y => Ffn.gradUp (rd2 h) (Ffn.dgate (Ffn.dhid (rd2 df) (rd2 wd)) (Ffn.up (rd2 h) (rd3 wg)) (Ffn.up (rd2 h) (rd3 wu))) (y 0) (y 1) (y 2) := by
  funext y
  obtain ⟨q, i, e, rfl⟩ : ∃ q i e, y = ix3 q i e := ⟨y 0, y 1, y 2, (ix3_eta y).symm⟩
  rw [gradUpT_at]
  refine congrArg (fun d => Ffn.gradUp (rd2 h) d q i e) (funext fun r => funext fun n => ?_)
  rw [dgateT_eq _ _ _ r n (by rw [dhidT_at]; exact hd r n) (by rw [upT_at]; exact hb r n)]
  simp only [dhidT_at, upT_at]

end Cert.Ffn2RefIdeal.Value

namespace Cert.Ffn2Cert

open Idealize.ShloMosaic Idealize.ShloMosaic.TcCoe Idealize.SL.Sem Cert.Ffn2RefIdeal.Value
open Cert.Ffn (rd2 rd3)

/-- The precondition's function takes three shape relations, all decided. -/
theorem preFacts : Cert.Pre_finite_ffn2.Facts := ⟨by decide, by decide, by decide⟩

section
variable [Cert.Pre_finite_ffn2.Facts] (X0 : FVec Ideal Cert.Pre_finite_ffn2.S2048x2048 .bf16) (X1 X2 : FVec Ideal Cert.Pre_finite_ffn2.S4x2048x1408 .bf16)
  (X3 : FVec Ideal Cert.Pre_finite_ffn2.S5632x2048 .bf16) (X4 : FVec Ideal Cert.Pre_finite_ffn2.S2048x2048 .f32)
  (X5 : FVec Ideal Cert.Pre_finite_ffn2.S1x2048 .f32) (X6 : FVec Ideal Cert.Pre_finite_ffn2.S2048x2048 .bf16)

/-- The precondition's first array: the rows' magnitudes are below the greatest extended real. -/
theorem pre0 (i j : Fin 2048) : (Cert.Pre_finite_ffn2.fn (F := Ideal) X0 X1 X2 X3 X4 X5 X6).1 (ix2 i j)
    = BitVec.ofBool (decide (max (X0 (ix2 i j)) (-X0 (ix2 i j)) < ⊤)) := by
  rw [← Cert.Attn.posInf_eq]
  pointwise [Cert.Pre_finite_ffn2.fn]
  rfl

/-- Its second: the up weight's. -/
theorem pre1 (q : Fin 4) (i : Fin 2048) (j : Fin 1408) : (Cert.Pre_finite_ffn2.fn (F := Ideal) X0 X1 X2 X3 X4 X5 X6).2.1 (ix3 q i j)
    = BitVec.ofBool (decide (max (X2 (ix3 q i j)) (-X2 (ix3 q i j)) < ⊤)) := by
  rw [← Cert.Attn.posInf_eq]
  pointwise [Cert.Pre_finite_ffn2.fn]
  rfl

/-- Its third: the down weight's. -/
theorem pre2 (i : Fin 5632) (j : Fin 2048) : (Cert.Pre_finite_ffn2.fn (F := Ideal) X0 X1 X2 X3 X4 X5 X6).2.2.1 (ix2 i j)
    = BitVec.ofBool (decide (max (X3 (ix2 i j)) (-X3 (ix2 i j)) < ⊤)) := by
  rw [← Cert.Attn.posInf_eq]
  pointwise [Cert.Pre_finite_ffn2.fn]
  rfl

/-- Its fourth: the cotangent's. -/
theorem pre3 (i j : Fin 2048) : (Cert.Pre_finite_ffn2.fn (F := Ideal) X0 X1 X2 X3 X4 X5 X6).2.2.2 (ix2 i j)
    = BitVec.ofBool (decide (max (X6 (ix2 i j)) (-X6 (ix2 i j)) < ⊤)) := by
  rw [← Cert.Attn.posInf_eq]
  pointwise [Cert.Pre_finite_ffn2.fn]
  rfl

/-- Under the precondition the up product and the hidden layer's cotangent are real. -/
theorem reals (h0 : (Cert.Pre_finite_ffn2.fn (F := Ideal) X0 X1 X2 X3 X4 X5 X6).1 = fun _ => 1#1)
    (h1 : (Cert.Pre_finite_ffn2.fn (F := Ideal) X0 X1 X2 X3 X4 X5 X6).2.1 = fun _ => 1#1)
    (h2 : (Cert.Pre_finite_ffn2.fn (F := Ideal) X0 X1 X2 X3 X4 X5 X6).2.2.1 = fun _ => 1#1)
    (h3 : (Cert.Pre_finite_ffn2.fn (F := Ideal) X0 X1 X2 X3 X4 X5 X6).2.2.2 = fun _ => 1#1) :
    (∀ i n, ∃ a : ℝ, Ffn.dhid (rd2 X6) (rd2 X3) i n = a) ∧ (∀ i n, ∃ a : ℝ, Ffn.up (rd2 X0) (rd3 X2) i n = a) :=
  ⟨Ffn.dhid_real _ _ (fun i j => Ffn.real_of_bit ((pre3 X0 X1 X2 X3 X4 X5 X6 i j).symm.trans (congrFun h3 _)))
      fun n j => Ffn.real_of_bit ((pre2 X0 X1 X2 X3 X4 X5 X6 n j).symm.trans (congrFun h2 _)),
    Ffn.up_real _ _ (fun i j => Ffn.real_of_bit ((pre0 X0 X1 X2 X3 X4 X5 X6 i j).symm.trans (congrFun h0 _)))
      fun q i j => Ffn.real_of_bit ((pre1 X0 X1 X2 X3 X4 X5 X6 q i j).symm.trans (congrFun h1 _))⟩
end

/-- The reference's run keeps its arguments and leaves every counter at zero: it declares no semaphore. -/
theorem frameR (m : (ℓ : Loc Cert.Ffn2RefIdeal.nD Cert.Ffn2RefIdeal.τ Cert.Ffn2RefIdeal.sig) → Buf (Elt Ideal) ℓ) (ρ : Dev Cert.Ffn2RefIdeal.nD → PrngReg) :
    θ_run (Cert.Ffn2RefIdeal.defs (F := Ideal)) (onTc (τ := Cert.Ffn2RefIdeal.τ) (Cert.Ffn2RefIdeal.main (F := Ideal))) ⟨m, fun _ => 0, ρ⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4)
      ∧ r.2.mem ((c.tc : Thread Cert.Ffn2RefIdeal.nD Cert.Ffn2RefIdeal.τ).loc Cert.Ffn2RefIdeal.main_arg5) = m ((c.tc : Thread Cert.Ffn2RefIdeal.nD Cert.Ffn2RefIdeal.τ).loc Cert.Ffn2RefIdeal.main_arg5)
      ∧ r.2.mem ((c.tc : Thread Cert.Ffn2RefIdeal.nD Cert.Ffn2RefIdeal.τ).loc Cert.Ffn2RefIdeal.main_arg6) = m ((c.tc : Thread Cert.Ffn2RefIdeal.nD Cert.Ffn2RefIdeal.τ).loc Cert.Ffn2RefIdeal.main_arg6))
      ∧ r.2.sem = fun _ => 0) :=
  (θ_run Cert.Ffn2RefIdeal.defs _ _).mono
    (fun r h => ⟨fun c => (h c).2.2.2.2.2, Idealize.ShloMosaic.sem_eq_zero_of_no_sems (by decide) r.2⟩)
    (Cert.Ffn2RefIdeal.Value.run (F := Ideal) m ρ)

/-- Where the rows, the up and down weights and the cotangent are finite, the kernel and the reference end with the same five results. -/
theorem algebraic [Cert.Pre_finite_ffn2.Facts] :
    Cert.algebraic_Ffn2Ideal_Ffn2RefIdeal_pre_finite_ffn2 (hFfn2Ideal := Cert.Ffn2Ideal.Gen.facts) (hFfn2RefIdeal := Cert.Ffn2RefIdeal.Gen.facts) := by
  intro m ρ m' ρ' hpre hag
  have hr := fun c => reals _ _ _ _ _ _ _ (hpre c).1 (hpre c).2.1 (hpre c).2.2.1 (hpre c).2.2.2
  refine ⟨fun c => Cert.Ffn2Ideal.Gen.W6 m ρ c (Proc.devRef .tc Cert.Ffn2Ideal.main_v1_0), fun c => Cert.Ffn2Ideal.Gen.W6 m ρ c (Proc.devRef .tc Cert.Ffn2Ideal.main_v1_1),
    fun c => Cert.Ffn2Ideal.Gen.W6 m ρ c (Proc.devRef .tc Cert.Ffn2Ideal.main_v4), fun c => Cert.Ffn2Ideal.Gen.W6 m ρ c (Proc.devRef .tc Cert.Ffn2Ideal.main_v5),
    fun c => Cert.Ffn2Ideal.Gen.W6 m ρ c (Proc.devRef .tc Cert.Ffn2Ideal.main_v2), ?_, ?_⟩
  · refine (θ_run Cert.Ffn2Ideal.defs _ _).mono (fun r h c => ?_) (Cert.Ffn2Ideal.Run.run m ρ)
    have h := h.1 c
    exact ⟨h _ (by decide), h _ (by decide), h _ (by decide), h _ (by decide), h _ (by decide),
      (h _ (by decide)).trans (Cert.Ffn2Ideal.Gen.W6_main_arg0 m ρ c), (h _ (by decide)).trans (Cert.Ffn2Ideal.Gen.W6_main_arg1 m ρ c),
      (h _ (by decide)).trans (Cert.Ffn2Ideal.Gen.W6_main_arg2 m ρ c), (h _ (by decide)).trans (Cert.Ffn2Ideal.Gen.W6_main_arg3 m ρ c),
      (h _ (by decide)).trans (Cert.Ffn2Ideal.Gen.W6_main_arg4 m ρ c), (h _ (by decide)).trans (Cert.Ffn2Ideal.Gen.W6_main_arg5 m ρ c),
      (h _ (by decide)).trans (Cert.Ffn2Ideal.Gen.W6_main_arg6 m ρ c)⟩
  · refine (θ_run Cert.Ffn2RefIdeal.defs _ _).mono (fun r h c => ?_) (Cert.Ffn2RefIdeal.Value.run m' ρ')
    obtain ⟨h0, h1, h2, h3, h4, ha⟩ := h c
    obtain ⟨a0, a1, a2, a3, a4, a5, a6⟩ := hag c
    rw [a0, a1, a2, a3] at h0
    rw [a0, a1, a2, a3, a4, a5] at h1
    rw [a0, a1, a2, a3, a6] at h2
    rw [a0, a1, a3, a6] at h3
    rw [a0, a1, a2, a6] at h4
    exact ⟨h0.trans ((out_eq _ _ _ _).trans (Cert.Ffn2Ideal.Run.outF m ρ c).symm),
      h1.trans ((res_eq _ _ _ _ _ _).trans (Cert.Ffn2Ideal.Run.outX m ρ c).symm),
      h2.trans ((gradWg_eq _ _ _ _ _ (hr c).1 (hr c).2).trans (Cert.Ffn2Ideal.Run.outWg m ρ c).symm),
      h3.trans ((gradWu_eq _ _ _ _).trans (Cert.Ffn2Ideal.Run.outWu m ρ c).symm),
      h4.trans ((gradDown_eq _ _ _ _).trans (Cert.Ffn2Ideal.Run.outWd m ρ c).symm), ha⟩

end Cert.Ffn2Cert

end
-- ==== Proof.Ffn1Ref.lean ====
/- The terms of the first feed-forward layer's reference, cut where the mathematics cuts them, each read at an index. -/
module

public import proofs.«01_k».proof.Proof.Gen.Ffn1RefIdeal.Run
public import proofs.«01_k».proof.Proof.FfnReal
public import Idealize.ShloMosaic.Lib.Pointwise

@[expose] public section

set_option maxRecDepth 16384

noncomputable section

namespace Cert.Ffn1RefIdeal.Value

open Cert.Ffn1RefIdeal Cert.Ffn1RefIdeal.Gen Idealize.ShloMosaic Idealize.ShloMosaic.TcCoe

/-- A product with a weight whose columns lie on four chips. -/
def upT (h : FVec Ideal S2304x2048 .bf16) (w : FVec Ideal S4x2048x1408 .bf16) : FVec Ideal S2304x5632 .f32 :=
  Host.dotGeneral dot_S2304x2048_S2048x5632_S2304x5632_1_0_0_1_n_n none (extf .f32 h bitsLt_bf16_f32) (shapeCast _ (transpose S2048x4x1408 [1, 0, 2] (extf .f32 w bitsLt_bf16_f32) transposes_S4x2048x1408_S2048x4x1408_1_0_2) shapeCasts_S2048x4x1408_S2048x5632)

/-- The logistic function, as the reference writes it. -/
def sgT (a : FVec Ideal S2304x5632 .f32) : FVec Ideal S2304x5632 .f32 :=
  Host.divf (broadcastInDim S2304x5632 ![] bcast_S_S2304x5632 (constant S_ .f32 0x3F800000#32)) (addf (broadcastInDim S2304x5632 ![] bcast_S_S2304x5632 (constant S_ .f32 0x3F800000#32)) (Host.exp (Host.negf a)))

/-- The hidden layer. -/
def hidT (a b : FVec Ideal S2304x5632 .f32) : FVec Ideal S2304x5632 .f32 := mulf (mulf a (sgT a)) b

/-- The product with the down weight. -/
def downT (s : FVec Ideal S2304x5632 .f32) (w : FVec Ideal S5632x2048 .bf16) : FVec Ideal S2304x2048 .f32 :=
  Host.dotGeneral dot_S2304x5632_S5632x2048_S2304x2048_1_0_0_1_n_n none s (extf .f32 w bitsLt_bf16_f32)

/-- The gate of each row: the context's for the first rows, the latents' for the others. -/
def gateT (g : FVec Ideal S2x2048 .f32) : FVec Ideal S2304x2048 .f32 :=
  select (broadcastInDim S2304x2048 ![0, 1] bcast_S2304x1_S2304x2048_0_1 (cmpi .slt (broadcastInDim S2304x1 ![0] bcast_S2304_S2304x1_0 (iotaInDim S2304 32 0)) (broadcastInDim S2304x1 ![] bcast_S_S2304x1 (constantI S_ 32 256#32))))
    (broadcastInDim S2304x2048 ![0, 1] bcast_S1x2048_S2304x2048_0_1 (extractStridedSlice S1x2048 ![0, 0] g slices_S2x2048_S1x2048_0_0))
    (broadcastInDim S2304x2048 ![0, 1] bcast_S1x2048_S2304x2048_0_1 (extractStridedSlice S1x2048 ![1, 0] g slices_S2x2048_S1x2048_1_0))

/-- The residual sum. -/
def resT (x : FVec Ideal S2304x2048 .f32) (g : FVec Ideal S2x2048 .f32) (y : FVec Ideal S2304x2048 .f32) : FVec Ideal S2304x2048 .f32 :=
  addf x (mulf (mulf (broadcastInDim S2304x2048 ![] bcast_S_S2304x2048 (constant S_ .f32 0x3F000000#32)) (gateT g)) y)

/-- The gradient that reaches the hidden layer. -/
def dhidT (df : FVec Ideal S2304x2048 .bf16) (w : FVec Ideal S5632x2048 .bf16) : FVec Ideal S2304x5632 .f32 :=
  Host.dotGeneral dot_S2304x2048_S5632x2048_S2304x5632_1_1_0_0_n_n none (extf .f32 df bitsLt_bf16_f32) (extf .f32 w bitsLt_bf16_f32)

/-- The gradient in the gate's product. -/
def dgateT (d a b : FVec Ideal S2304x5632 .f32) : FVec Ideal S2304x5632 .f32 :=
  addf (mulf (mulf d b) (sgT a)) (mulf (mulf a (mulf d b)) (mulf (sgT a) (subf (broadcastInDim S2304x5632 ![] bcast_S_S2304x5632 (constant S_ .f32 0x3F800000#32)) (sgT a))))

/-- The gradient in a weight whose columns lie on four chips. -/
def gradUpT (h : FVec Ideal S2304x2048 .bf16) (d : FVec Ideal S2304x5632 .f32) : FVec Ideal S4x2048x1408 .bf16 :=
  truncf .bf16 (transpose S4x2048x1408 [1, 0, 2] (shapeCast _ (transpose S2048x5632 [1, 0] (Host.dotGeneral dot_S2304x5632_S2304x2048_S5632x2048_0_0_1_1_n_n none d (extf .f32 h bitsLt_bf16_f32)) transposes_S5632x2048_S2048x5632_1_0) shapeCasts_S2048x5632_S2048x4x1408) transposes_S2048x4x1408_S4x2048x1408_1_0_2) bitsLt_bf16_f32

theorem upT_at (h : FVec Ideal S2304x2048 .bf16) (w : FVec Ideal S4x2048x1408 .bf16) (i : Fin 2304) (n : Fin 5632) :
    upT h w (ix2 i n) = Ffn.up (fun i x => h (ix2 i x)) (fun q x e => w (ix3 q x e)) i n := by
  pointwise [upT, Ffn.up]

theorem hidT_at (a b : FVec Ideal S2304x5632 .f32) (i : Fin 2304) (n : Fin 5632) :
    hidT a b (ix2 i n) = Ffn.hid (fun i n => a (ix2 i n)) (fun i n => b (ix2 i n)) i n := by
  pointwise [hidT, sgT, Ffn.hid]
  rfl

theorem downT_at (s : FVec Ideal S2304x5632 .f32) (w : FVec Ideal S5632x2048 .bf16) (i : Fin 2304) (j : Fin 2048) :
    downT s w (ix2 i j) = Ffn.down (fun i n => s (ix2 i n)) (fun n j => w (ix2 n j)) i j := by
  pointwise [downT, Ffn.down]

/-- The comparison of a row's number with the context's length, in the machine's integers. -/
theorem row_lt (a : ℕ) (ha : a < 2304) : IntOp.cmpi .slt (BitVec.ofNat 32 a) 256#32 = BitVec.ofBool (decide (a < 256)) := by
  show BitVec.ofBool (BitVec.slt (BitVec.ofNat 32 a) 256#32) = _
  have e : (BitVec.ofNat 32 a).toNat = a := by
    simp only [BitVec.toNat_ofNat]
    omega
  rw [BitVec.slt_eq_decide, BitVec.toInt_eq_toNat_of_lt (by omega), e]
  refine congrArg BitVec.ofBool (decide_eq_decide.mpr ?_)
  show ((a : ℕ) : ℤ) < 256 ↔ _
  omega

/-- A row's gate. -/
theorem gateT_at (g : FVec Ideal S2x2048 .f32) (i : Fin 2304) (j : Fin 2048) :
    gateT g (ix2 i j) = g (ix2 (if i.val < 256 then 0 else 1) j) := by
  pointwise [gateT]
  rw [row_lt _ i.isLt]
  by_cases h : i.val < 256
  · rw [if_pos h, decide_eq_true h]; rfl
  · rw [if_neg h, decide_eq_false h]; rfl

/-- The residual sum at an index. -/
theorem resT_at (x : FVec Ideal S2304x2048 .f32) (g : FVec Ideal S2x2048 .f32) (y : FVec Ideal S2304x2048 .f32) (i : Fin 2304) (j : Fin 2048) :
    resT x g y (ix2 i j)
      = Ffn.res (fun i j => x (ix2 i j)) (fun i j => g (ix2 (if i.val < 256 then 0 else 1) j)) (fun i j => y (ix2 i j)) i j := by
  unfold resT
  simp only [Ffn.res, ← gateT_at]
  pointwise [Ffn.half]

theorem dhidT_at (df : FVec Ideal S2304x2048 .bf16) (w : FVec Ideal S5632x2048 .bf16) (i : Fin 2304) (n : Fin 5632) :
    dhidT df w (ix2 i n) = Ffn.dhid (fun i j => df (ix2 i j)) (fun n j => w (ix2 n j)) i n := by
  pointwise [dhidT, Ffn.dhid]

theorem dgateT_at (d a b : FVec Ideal S2304x5632 .f32) (i : Fin 2304) (n : Fin 5632) :
    dgateT d a b (ix2 i n) = d (ix2 i n) * b (ix2 i n) * Ideal.logistic (a (ix2 i n))
      + a (ix2 i n) * (d (ix2 i n) * b (ix2 i n)) * (Ideal.logistic (a (ix2 i n)) * (1 - Ideal.logistic (a (ix2 i n)))) := by
  pointwise [dgateT, sgT]
  rfl

theorem gradUpT_at (h : FVec Ideal S2304x2048 .bf16) (d : FVec Ideal S2304x5632 .f32) (q : Fin 4) (x : Fin 2048) (e : Fin 1408) :
    gradUpT h d (ix3 q x e) = Ffn.gradUp (fun i x => h (ix2 i x)) (fun i n => d (ix2 i n)) q x e := by
  pointwise [gradUpT, Ffn.gradUp]
  exact Finset.sum_congr rfl fun _ _ => mul_comm _ _

/-- The down weight's gradient. -/
def gradDownT (s : FVec Ideal S2304x5632 .f32) (df : FVec Ideal S2304x2048 .bf16) : FVec Ideal S5632x2048 .bf16 :=
  truncf .bf16 (transpose S5632x2048 [1, 0] (Host.dotGeneral dot_S2304x2048_S2304x5632_S2048x5632_0_0_1_1_n_n none (extf .f32 df bitsLt_bf16_f32) s) transposes_S2048x5632_S5632x2048_1_0) bitsLt_bf16_f32

theorem gradDownT_at (s : FVec Ideal S2304x5632 .f32) (df : FVec Ideal S2304x2048 .bf16) (n : Fin 5632) (j : Fin 2048) :
    gradDownT s df (ix2 n j) = Ffn.gradDown (fun i n => s (ix2 i n)) (fun i j => df (ix2 i j)) n j := by
  pointwise [gradDownT, Ffn.gradDown]
  exact Finset.sum_congr rfl fun _ _ => mul_comm _ _

/-- The gradient in the up product. -/
def dupT (d a : FVec Ideal S2304x5632 .f32) : FVec Ideal S2304x5632 .f32 := mulf (mulf a (sgT a)) d

theorem dupT_at (d a : FVec Ideal S2304x5632 .f32) (i : Fin 2304) (n : Fin 5632) :
    dupT d a (ix2 i n) = Ffn.dup (fun i n => d (ix2 i n)) (fun i n => a (ix2 i n)) i n := by
  refine Eq.trans ?_ (mul_comm _ _)
  pointwise [dupT, sgT]
  rfl

/-- The gradient in the gate's product is the one the kernel writes, wherever the two other factors are real. -/
theorem dgateT_eq (d a b : FVec Ideal S2304x5632 .f32) (i : Fin 2304) (n : Fin 5632) (hd : ∃ x : ℝ, d (ix2 i n) = x) (hb : ∃ x : ℝ, b (ix2 i n) = x) :
    dgateT d a b (ix2 i n) = Ffn.dgate (fun i n => d (ix2 i n)) (fun i n => a (ix2 i n)) (fun i n => b (ix2 i n)) i n :=
  (dgateT_at d a b i n).trans (Ffn.gate_law _ _ _ hd hb)

end Cert.Ffn1RefIdeal.Value

end
-- ==== Proof.Ffn1Tile.lean ====
/- What one grid point of each call of the first feed-forward layer computes from its blocks. -/
module

public import proofs.«01_k».proof.Proof.Gen.Ffn1Ideal.Frame
public import proofs.«01_k».proof.Proof.FfnSpec
public import Idealize.ShloMosaic.Lib.Pointwise
public import Idealize.ShloMosaic.Lib.Pipeline.ValueKit

@[expose] public section

set_option maxRecDepth 16384

noncomputable section

namespace Cert.Ffn1Ideal.Tile

open Cert.Ffn1Ideal Cert.Ffn1Ideal.Gen Idealize.ShloMosaic Idealize.ShloMosaic.TcCoe

/-- The tile of the gate's product. -/
theorem a_at (x0 : Vec Ideal S384x2048 .bf16) (x1 : Vec Ideal S1x2048x1408 .bf16) (x2 : Vec Ideal S384x2048 .bf16) (x3 : Vec Ideal S1x2048x1408 .bf16)
    (i : Fin 384) (n : Fin 1408) : out0_4 (F := Ideal) x0 x1 x2 x3 (ix2 i n) = ∑ x : Fin 2048, x0 (ix2 i x) * x1 (ix3 0 x n) := by
  unfold out0_4
  frame_out
  pointwise [k0_pay3, k0_pay1]

/-- The tile of the up product. -/
theorem b_at (x0 : Vec Ideal S384x2048 .bf16) (x1 : Vec Ideal S1x2048x1408 .bf16) (x2 : Vec Ideal S384x2048 .bf16) (x3 : Vec Ideal S1x2048x1408 .bf16)
    (i : Fin 384) (n : Fin 1408) : out0_5 (F := Ideal) x0 x1 x2 x3 (ix2 i n) = ∑ x : Fin 2048, x2 (ix2 i x) * x3 (ix3 0 x n) := by
  unfold out0_5
  frame_out
  pointwise [k0_pay4, k0_pay2]

/-- The tile of the hidden layer. -/
theorem s_at (x0 : Vec Ideal S384x2048 .bf16) (x1 : Vec Ideal S1x2048x1408 .bf16) (x2 : Vec Ideal S384x2048 .bf16) (x3 : Vec Ideal S1x2048x1408 .bf16)
    (i : Fin 384) (n : Fin 1408) : out0_6 (F := Ideal) x0 x1 x2 x3 (ix2 i n)
      = (∑ x : Fin 2048, x0 (ix2 i x) * x1 (ix3 0 x n)) * Ideal.logistic (∑ x : Fin 2048, x0 (ix2 i x) * x1 (ix3 0 x n))
        * (∑ x : Fin 2048, x2 (ix2 i x) * x3 (ix3 0 x n)) := by
  unfold out0_6
  frame_out
  pointwise [k0_pay5, k0_pay1, k0_pay2]

/-- The tile of the layer's output. -/
theorem y_at (g : grid1.Coords) (x0 : Vec Ideal S768x5632 .bf16) (x1 : Vec Ideal S5632x512 .bf16) (x2 : Vec Ideal S768x512 .f32) (x3 : Vec Ideal S2x512 .f32)
    (i : Fin 768) (j : Fin 512) : out1_4 (F := Ideal) g x0 x1 x2 x3 (ix2 i j) = ∑ n : Fin 5632, x0 (ix2 i n) * x1 (ix2 n j) := by
  unfold out1_4
  frame_out
  pointwise [k1_pay1]

/-- The comparison of a row's number with the context's length, in the machine's integers. -/
theorem row_lt (a b : ℕ) (ha : a < 3) (hb : b < 768) :
    IntOp.cmpi .slt (IntOp.addi (Scalar.muli (BitVec.ofNat 32 a) 768#32) (BitVec.ofNat 32 b)) 256#32 = BitVec.ofBool (decide (a * 768 + b < 256)) := by
  show BitVec.ofBool (BitVec.slt (BitVec.ofNat 32 a * 768#32 + BitVec.ofNat 32 b) 256#32) = _
  have e : (BitVec.ofNat 32 a * 768#32 + BitVec.ofNat 32 b).toNat = a * 768 + b := by
    simp only [BitVec.toNat_add, BitVec.toNat_mul, BitVec.toNat_ofNat]
    omega
  rw [BitVec.slt_eq_decide, BitVec.toInt_eq_toNat_of_lt (by omega), e]
  refine congrArg BitVec.ofBool (decide_eq_decide.mpr ?_)
  show ((a * 768 + b : ℕ) : ℤ) < 256 ↔ _
  omega

/-- The tile of the residual sum. -/
theorem xo_at (g : grid1.Coords) (x0 : Vec Ideal S768x5632 .bf16) (x1 : Vec Ideal S5632x512 .bf16) (x2 : Vec Ideal S768x512 .f32) (x3 : Vec Ideal S2x512 .f32)
    (i : Fin 768) (j : Fin 512) : out1_5 (F := Ideal) g x0 x1 x2 x3 (ix2 i j)
      = x2 (ix2 i j) + Ffn.half * x3 (ix2 (if (g 1).val * 768 + i.val < 256 then 0 else 1) j) * ∑ n : Fin 5632, x0 (ix2 i n) * x1 (ix2 n j) := by
  unfold out1_5
  frame_out
  pointwise [k1_pay1, k1_pay2, Ffn.half]
  rw [row_lt _ _ (g 1).isLt i.isLt]
  by_cases h : (g 1).val * 768 + i.val < 256
  · rw [if_pos h, decide_eq_true h]; rfl
  · rw [if_neg h, decide_eq_false h]; rfl

/-- The tile of the down weight's gradient. -/
theorem wd_at (x0 : Vec Ideal S2304x512 .bf16) (x1 : Vec Ideal S2304x1024 .bf16) (n : Fin 512) (j : Fin 1024) :
    out2_2 (F := Ideal) x0 x1 (ix2 n j) = ∑ i : Fin 2304, x0 (ix2 i n) * x1 (ix2 i j) := by
  unfold out2_2
  frame_out
  pointwise [k2_pay1]

/-- The tile of the gradient in the gate's product. -/
theorem da_at (x0 : Vec Ideal S384x2048 .bf16) (x1 : Vec Ideal S1408x2048 .bf16) (x2 x3 : Vec Ideal S384x1408 .bf16) (i : Fin 384) (n : Fin 1408) :
    out3_4 (F := Ideal) x0 x1 x2 x3 (ix2 i n) = (∑ j : Fin 2048, x0 (ix2 i j) * x1 (ix2 n j)) * x3 (ix2 i n)
      * (Ideal.logistic (x2 (ix2 i n)) * (1 + x2 (ix2 i n) * (1 - Ideal.logistic (x2 (ix2 i n))))) := by
  unfold out3_4
  frame_out
  pointwise [k3_pay1, k3_pay2, k3_pay3, k3_pay4]

/-- The tile of the gradient in the up product. -/
theorem db_at (x0 : Vec Ideal S384x2048 .bf16) (x1 : Vec Ideal S1408x2048 .bf16) (x2 x3 : Vec Ideal S384x1408 .bf16) (i : Fin 384) (n : Fin 1408) :
    out3_5 (F := Ideal) x0 x1 x2 x3 (ix2 i n) = (∑ j : Fin 2048, x0 (ix2 i j) * x1 (ix2 n j)) * (x2 (ix2 i n) * Ideal.logistic (x2 (ix2 i n))) := by
  unfold out3_5
  frame_out
  pointwise [k3_pay1, k3_pay2, k3_pay3, k3_pay5]

/-- The tile of the gate weight's gradient. -/
theorem wg_at (x0 : Vec Ideal S2304x512 .bf16) (x1 : Vec Ideal S2304x1408 .bf16) (x : Fin 512) (n : Fin 1408) :
    out4_2 (F := Ideal) x0 x1 (ix3 0 x n) = ∑ i : Fin 2304, x0 (ix2 i x) * x1 (ix2 i n) := by
  unfold out4_2
  frame_out
  pointwise [k4_pay1]

/-- The tile of the up weight's gradient. -/
theorem wu_at (x0 : Vec Ideal S2304x512 .bf16) (x1 : Vec Ideal S2304x1408 .bf16) (x : Fin 512) (n : Fin 1408) :
    out5_2 (F := Ideal) x0 x1 (ix3 0 x n) = ∑ i : Fin 2304, x0 (ix2 i x) * x1 (ix2 i n) := by
  unfold out5_2
  frame_out
  pointwise [k5_pay1]

end Cert.Ffn1Ideal.Tile

end
-- ==== Proof.Ffn1Final.lean ====
/- The result arrays of each call of the first feed-forward layer. -/
module

public import proofs.«01_k».proof.Proof.Ffn1Tile

@[expose] public section

set_option maxRecDepth 16384

noncomputable section

namespace Cert.Ffn1Ideal.Final

open Cert.Ffn1Ideal Cert.Ffn1Ideal.Gen Idealize.ShloMosaic Idealize.ShloMosaic.TcCoe

/-! Which block of its array each window is on, call by call. -/

theorem idx0 : ∀ t : Fin cfg0.N, win0_0.index t = ![t.val % 6, 0]
    ∧ win0_1.index t = ![t.val / 6, 0, 0]
    ∧ win0_2.index t = ![t.val % 6, 0]
    ∧ win0_3.index t = ![t.val / 6, 0, 0]
    ∧ win0_4.index t = ![t.val % 6, t.val / 6]
    ∧ win0_5.index t = ![t.val % 6, t.val / 6]
    ∧ win0_6.index t = ![t.val % 6, t.val / 6] :=
  (by decide +kernel : ∀ t : Fin grid0.N, _)

theorem idx1 : ∀ t : Fin cfg1.N, win1_0.index t = ![t.val % 3, 0]
    ∧ win1_1.index t = ![0, t.val / 3]
    ∧ win1_2.index t = ![t.val % 3, t.val / 3]
    ∧ win1_3.index t = ![0, t.val / 3]
    ∧ win1_4.index t = ![t.val % 3, t.val / 3]
    ∧ win1_5.index t = ![t.val % 3, t.val / 3]
    ∧ (grid1.coords t 1).val = t.val % 3 :=
  (by decide +kernel : ∀ t : Fin grid1.N, _)

theorem idx2 : ∀ t : Fin cfg2.N, win2_0.index t = ![0, t.val % 11]
    ∧ win2_1.index t = ![0, t.val / 11]
    ∧ win2_2.index t = ![t.val % 11, t.val / 11] :=
  (by decide +kernel : ∀ t : Fin grid2.N, _)

theorem idx3 : ∀ t : Fin cfg3.N, win3_0.index t = ![t.val % 6, 0]
    ∧ win3_1.index t = ![t.val / 6, 0]
    ∧ win3_2.index t = ![t.val % 6, t.val / 6]
    ∧ win3_3.index t = ![t.val % 6, t.val / 6]
    ∧ win3_4.index t = ![t.val % 6, t.val / 6]
    ∧ win3_5.index t = ![t.val % 6, t.val / 6] :=
  (by decide +kernel : ∀ t : Fin grid3.N, _)

theorem idx4 : ∀ t : Fin cfg4.N, win4_0.index t = ![0, t.val % 4]
    ∧ win4_1.index t = ![0, t.val / 4]
    ∧ win4_2.index t = ![t.val / 4, t.val % 4, 0] :=
  (by decide +kernel : ∀ t : Fin grid4.N, _)

theorem idx5 : ∀ t : Fin cfg5.N, win5_0.index t = ![0, t.val % 4]
    ∧ win5_1.index t = ![0, t.val / 4]
    ∧ win5_2.index t = ![t.val / 4, t.val % 4, 0] :=
  (by decide +kernel : ∀ t : Fin grid5.N, _)

variable (V : (c : Dev nD) → (b : Ref sig .tc) → Buf (Elt Ideal) ((c : Thread nD τ).loc b)) (c : Dev nD)

/-! The arrays the calls read and write, as functions of their indices. -/

/-- The layer's input rows. -/
abbrev H : Ffn.Mat 2304 2048 := fun i x => (V c main_arg0 : Vec Ideal S2304x2048 .bf16) (ix2 i x)
/-- The gate's weight. -/
abbrev Wg : Ffn.Wt := fun q x e => (V c main_arg1 : Vec Ideal S4x2048x1408 .bf16) (ix3 q x e)
/-- The up weight. -/
abbrev Wu : Ffn.Wt := fun q x e => (V c main_arg2 : Vec Ideal S4x2048x1408 .bf16) (ix3 q x e)
/-- The down weight. -/
abbrev Wd : Ffn.Mat 5632 2048 := fun n j => (V c main_arg3 : Vec Ideal S5632x2048 .bf16) (ix2 n j)
/-- The residual rows. -/
abbrev X : Ffn.Mat 2304 2048 := fun i j => (V c main_arg4 : Vec Ideal S2304x2048 .f32) (ix2 i j)
/-- The residual's gate: the context's for the first rows, the latents' for the others. -/
abbrev G : Ffn.Mat 2304 2048 := fun i j => (V c main_arg5 : Vec Ideal S2x2048 .f32) (ix2 (if i.val < 256 then 0 else 1) j)
/-- The cotangent of the layer's output. -/
abbrev DF : Ffn.Mat 2304 2048 := fun i j => (V c main_arg6 : Vec Ideal S2304x2048 .bf16) (ix2 i j)
/-- The saved gate's product. -/
abbrev A : Ffn.Mat 2304 5632 := fun i n => (V c main_v0_0 : Vec Ideal S2304x5632 .bf16) (ix2 i n)
/-- The saved up product. -/
abbrev B : Ffn.Mat 2304 5632 := fun i n => (V c main_v0_1 : Vec Ideal S2304x5632 .bf16) (ix2 i n)
/-- The saved hidden layer. -/
abbrev S : Ffn.Mat 2304 5632 := fun i n => (V c main_v0_2 : Vec Ideal S2304x5632 .bf16) (ix2 i n)
/-- The gradient in the gate's product. -/
abbrev DA : Ffn.Mat 2304 5632 := fun i n => (V c main_v3_0 : Vec Ideal S2304x5632 .bf16) (ix2 i n)
/-- The gradient in the up product. -/
abbrev DB : Ffn.Mat 2304 5632 := fun i n => (V c main_v3_1 : Vec Ideal S2304x5632 .bf16) (ix2 i n)

/-- The gate's product. -/
theorem fin0_4 : (dat0 V c).arrAt 4 cfg0.N = fun y => Ffn.up (H V c) (Wg V c) (y 0) (y 1) := by
  refine (dat0 V c).arrAt_eq_of_covers 4 _ (by decide +kernel) fun t hf y => ?_
  obtain ⟨i, n, rfl⟩ : ∃ (i : Fin 384) (n : Fin 1408), y = ix2 i n := ⟨y 0, y 1, eq_ix2 y⟩
  blk_simp
  show (_ : EReal) = _
  rw [after0_4, Tile.a_at]
  refine Finset.sum_congr rfl fun x _ => congrArg₂ (· * ·) ?_ ?_
  · blk_ext [iblk0, idx0 t]
  · blk_ext [iblk0, idx0 t]

/-- The up product. -/
theorem fin0_5 : (dat0 V c).arrAt 5 cfg0.N = fun y => Ffn.up (H V c) (Wu V c) (y 0) (y 1) := by
  refine (dat0 V c).arrAt_eq_of_covers 5 _ (by decide +kernel) fun t hf y => ?_
  obtain ⟨i, n, rfl⟩ : ∃ (i : Fin 384) (n : Fin 1408), y = ix2 i n := ⟨y 0, y 1, eq_ix2 y⟩
  blk_simp
  show (_ : EReal) = _
  rw [after0_5, Tile.b_at]
  refine Finset.sum_congr rfl fun x _ => congrArg₂ (· * ·) ?_ ?_
  · blk_ext [iblk0, idx0 t]
  · blk_ext [iblk0, idx0 t]

/-- The hidden layer. -/
theorem fin0_6 : (dat0 V c).arrAt 6 cfg0.N = fun y => Ffn.hid (Ffn.up (H V c) (Wg V c)) (Ffn.up (H V c) (Wu V c)) (y 0) (y 1) := by
  refine (dat0 V c).arrAt_eq_of_covers 6 _ (by decide +kernel) fun t hf y => ?_
  obtain ⟨i, n, rfl⟩ : ∃ (i : Fin 384) (n : Fin 1408), y = ix2 i n := ⟨y 0, y 1, eq_ix2 y⟩
  blk_simp
  show (_ : EReal) = _
  rw [after0_6, Tile.s_at]
  refine congrArg₂ (fun a b : EReal => a * Ideal.logistic a * b) (Finset.sum_congr rfl fun x _ => congrArg₂ (· * ·) ?_ ?_)
    (Finset.sum_congr rfl fun x _ => congrArg₂ (· * ·) ?_ ?_)
  · blk_ext [iblk0, idx0 t]
  · blk_ext [iblk0, idx0 t]
  · blk_ext [iblk0, idx0 t]
  · blk_ext [iblk0, idx0 t]

/-- The layer's output. -/
theorem fin1_4 : (dat1 V c).arrAt 4 cfg1.N = fun y => Ffn.down (S V c) (Wd V c) (y 0) (y 1) := by
  refine (dat1 V c).arrAt_eq_of_covers 4 _ (by decide +kernel) fun t hf y => ?_
  obtain ⟨i, n, rfl⟩ : ∃ (i : Fin 768) (n : Fin 512), y = ix2 i n := ⟨y 0, y 1, eq_ix2 y⟩
  blk_simp
  show (_ : EReal) = _
  rw [after1_4, Tile.y_at]
  refine Finset.sum_congr rfl fun x _ => congrArg₂ (· * ·) ?_ ?_
  · blk_ext [iblk1, idx1 t]
  · blk_ext [iblk1, idx1 t]

/-- The residual sum. -/
theorem fin1_5 : (dat1 V c).arrAt 5 cfg1.N = fun y => Ffn.res (X V c) (G V c) (Ffn.down (S V c) (Wd V c)) (y 0) (y 1) := by
  refine (dat1 V c).arrAt_eq_of_covers 5 _ (by decide +kernel) fun t hf y => ?_
  obtain ⟨i, n, rfl⟩ : ∃ (i : Fin 768) (n : Fin 512), y = ix2 i n := ⟨y 0, y 1, eq_ix2 y⟩
  blk_simp
  show (_ : EReal) = _
  rw [after1_5, Tile.xo_at]
  refine congrArg₂ (· + ·) ?_ (congrArg₂ (· * ·) (congrArg (Ffn.half * ·) ?_) (Finset.sum_congr rfl fun x _ => congrArg₂ (· * ·) ?_ ?_))
  · blk_ext [iblk1, idx1 t]
  · blk_ext [iblk1, idx1 t]
  · blk_ext [iblk1, idx1 t]
  · blk_ext [iblk1, idx1 t]

/-- The gradient in the down weight. -/
theorem fin2_2 : (dat2 V c).arrAt 2 cfg2.N = fun y => Ffn.gradDown (S V c) (DF V c) (y 0) (y 1) := by
  refine (dat2 V c).arrAt_eq_of_covers 2 _ (by decide +kernel) fun t hf y => ?_
  obtain ⟨i, n, rfl⟩ : ∃ (i : Fin 512) (n : Fin 1024), y = ix2 i n := ⟨y 0, y 1, eq_ix2 y⟩
  blk_simp
  show (_ : EReal) = _
  rw [after2_2, Tile.wd_at]
  refine Finset.sum_congr rfl fun x _ => congrArg₂ (· * ·) ?_ ?_
  · blk_ext [iblk2, idx2 t]
  · blk_ext [iblk2, idx2 t]

/-- The gradient in the gate's product. -/
theorem fin3_4 : (dat3 V c).arrAt 4 cfg3.N = fun y => Ffn.dgate (Ffn.dhid (DF V c) (Wd V c)) (A V c) (B V c) (y 0) (y 1) := by
  refine (dat3 V c).arrAt_eq_of_covers 4 _ (by decide +kernel) fun t hf y => ?_
  obtain ⟨i, n, rfl⟩ : ∃ (i : Fin 384) (n : Fin 1408), y = ix2 i n := ⟨y 0, y 1, eq_ix2 y⟩
  blk_simp
  show (_ : EReal) = _
  rw [after3_4, Tile.da_at]
  refine congrArg₂ (· * ·) (congrArg₂ (· * ·) (Finset.sum_congr rfl fun x _ => congrArg₂ (· * ·) ?_ ?_) ?_)
    (congrArg (fun a : EReal => Ideal.logistic a * (1 + a * (1 - Ideal.logistic a))) ?_)
  · blk_ext [iblk3, idx3 t]
  · blk_ext [iblk3, idx3 t]
  · blk_ext [iblk3, idx3 t]
  · blk_ext [iblk3, idx3 t]

/-- The gradient in the up product. -/
theorem fin3_5 : (dat3 V c).arrAt 5 cfg3.N = fun y => Ffn.dup (Ffn.dhid (DF V c) (Wd V c)) (A V c) (y 0) (y 1) := by
  refine (dat3 V c).arrAt_eq_of_covers 5 _ (by decide +kernel) fun t hf y => ?_
  obtain ⟨i, n, rfl⟩ : ∃ (i : Fin 384) (n : Fin 1408), y = ix2 i n := ⟨y 0, y 1, eq_ix2 y⟩
  blk_simp
  show (_ : EReal) = _
  rw [after3_5, Tile.db_at]
  refine congrArg₂ (· * ·) (Finset.sum_congr rfl fun x _ => congrArg₂ (· * ·) ?_ ?_) (congrArg (fun a : EReal => a * Ideal.logistic a) ?_)
  · blk_ext [iblk3, idx3 t]
  · blk_ext [iblk3, idx3 t]
  · blk_ext [iblk3, idx3 t]

/-- The gradient in the gate's weight. -/
theorem fin4_2 : (dat4 V c).arrAt 2 cfg4.N = fun y => Ffn.gradUp (H V c) (DA V c) (y 0) (y 1) (y 2) := by
  refine (dat4 V c).arrAt_eq_of_covers 2 _ (by decide +kernel) fun t hf y => ?_
  obtain ⟨z, i, n, rfl⟩ : ∃ (z : Fin 1) (i : Fin 512) (n : Fin 1408), y = ix3 z i n := ⟨y 0, y 1, y 2, eq_ix3 y⟩
  obtain rfl : z = 0 := Subsingleton.elim _ _
  blk_simp
  show (_ : EReal) = _
  rw [after4_2, Tile.wg_at]
  refine Finset.sum_congr rfl fun x _ => congrArg₂ (· * ·) ?_ ?_
  · blk_ext [iblk4, idx4 t]
  · blk_ext [iblk4, idx4 t]

/-- The gradient in the up weight. -/
theorem fin5_2 : (dat5 V c).arrAt 2 cfg5.N = fun y => Ffn.gradUp (H V c) (DB V c) (y 0) (y 1) (y 2) := by
  refine (dat5 V c).arrAt_eq_of_covers 2 _ (by decide +kernel) fun t hf y => ?_
  obtain ⟨z, i, n, rfl⟩ : ∃ (z : Fin 1) (i : Fin 512) (n : Fin 1408), y = ix3 z i n := ⟨y 0, y 1, y 2, eq_ix3 y⟩
  obtain rfl : z = 0 := Subsingleton.elim _ _
  blk_simp
  show (_ : EReal) = _
  rw [after5_2, Tile.wu_at]
  refine Finset.sum_congr rfl fun x _ => congrArg₂ (· * ·) ?_ ?_
  · blk_ext [iblk5, idx5 t]
  · blk_ext [iblk5, idx5 t]

end Cert.Ffn1Ideal.Final

end
-- ==== Proof.Ffn1Run.lean ====
/- What the six calls of the first feed-forward layer leave in the result arrays. -/
module

public import proofs.«01_k».proof.Proof.Ffn1Final

@[expose] public section

set_option maxRecDepth 16384

noncomputable section

namespace Cert.Ffn1Ideal.Run

open Cert.Ffn1Ideal Cert.Ffn1Ideal.Gen Cert.Ffn1Ideal.Final
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

/-! The arguments are what they were whenever a call reads them. -/

theorem hH0 : H (V4 m ρ) c = H (V0 m ρ) c := by
  show (fun i x => W4 m ρ c (Proc.devRef .tc main_arg0) (ix2 i x)) = _
  rw [W4_args m ρ c main_arg0 (by decide)]
theorem hH1 : H (V5 m ρ) c = H (V0 m ρ) c := by
  show (fun i x => W5 m ρ c (Proc.devRef .tc main_arg0) (ix2 i x)) = _
  rw [W5_args m ρ c main_arg0 (by decide)]
theorem hWd1 : Wd (V1 m ρ) c = Wd (V0 m ρ) c := by
  show (fun i x => W1 m ρ c (Proc.devRef .tc main_arg3) (ix2 i x)) = _
  rw [W1_args m ρ c main_arg3 (by decide)]
theorem hWd3 : Wd (V3 m ρ) c = Wd (V0 m ρ) c := by
  show (fun i x => W3 m ρ c (Proc.devRef .tc main_arg3) (ix2 i x)) = _
  rw [W3_args m ρ c main_arg3 (by decide)]
theorem hX1 : X (V1 m ρ) c = X (V0 m ρ) c := by
  show (fun i x => W1 m ρ c (Proc.devRef .tc main_arg4) (ix2 i x)) = _
  rw [W1_args m ρ c main_arg4 (by decide)]
theorem hG1 : G (V1 m ρ) c = G (V0 m ρ) c := by
  show (fun (i : Fin 2304) x => W1 m ρ c (Proc.devRef .tc main_arg5) (ix2 (if i.val < 256 then 0 else 1) x)) = _
  rw [W1_args m ρ c main_arg5 (by decide)]
theorem hDF2 : DF (V2 m ρ) c = DF (V0 m ρ) c := by
  show (fun i x => W2 m ρ c (Proc.devRef .tc main_arg6) (ix2 i x)) = _
  rw [W2_args m ρ c main_arg6 (by decide)]
theorem hDF3 : DF (V3 m ρ) c = DF (V0 m ρ) c := by
  show (fun i x => W3 m ρ c (Proc.devRef .tc main_arg6) (ix2 i x)) = _
  rw [W3_args m ρ c main_arg6 (by decide)]

/-! What one call wrote is what a later call reads. -/

theorem hS1 : S (V1 m ρ) c = Ffn.hid (Ffn.up (H (V0 m ρ) c) (Wg (V0 m ρ) c)) (Ffn.up (H (V0 m ρ) c) (Wu (V0 m ρ) c)) := by
  show (fun i n => W1 m ρ c (Proc.devRef .tc (Pipeline.arrRef spec0 6)) (ix2 i n)) = _
  rw [W1_arr m ρ c 6, fin0_6]
  rfl

theorem hS2 : S (V2 m ρ) c = S (V1 m ρ) c := by
  show (fun i n => W2 m ρ c (Proc.devRef .tc main_v0_2) (ix2 i n)) = _
  rw [W2_of m ρ c main_v0_2 (by decide)]

theorem hA3 : A (V3 m ρ) c = Ffn.up (H (V0 m ρ) c) (Wg (V0 m ρ) c) := by
  show (fun i n => W3 m ρ c (Proc.devRef .tc main_v0_0) (ix2 i n)) = _
  rw [(W3_of m ρ c main_v0_0 (by decide)).trans ((W2_of m ρ c main_v0_0 (by decide)).trans ((W1_arr m ρ c 4).trans (fin0_4 (V0 m ρ) c)))]
  rfl

theorem hB3 : B (V3 m ρ) c = Ffn.up (H (V0 m ρ) c) (Wu (V0 m ρ) c) := by
  show (fun i n => W3 m ρ c (Proc.devRef .tc main_v0_1) (ix2 i n)) = _
  rw [(W3_of m ρ c main_v0_1 (by decide)).trans ((W2_of m ρ c main_v0_1 (by decide)).trans ((W1_arr m ρ c 5).trans (fin0_5 (V0 m ρ) c)))]
  rfl

theorem hDA4 : DA (V4 m ρ) c = Ffn.dgate (Ffn.dhid (DF (V0 m ρ) c) (Wd (V0 m ρ) c)) (Ffn.up (H (V0 m ρ) c) (Wg (V0 m ρ) c)) (Ffn.up (H (V0 m ρ) c) (Wu (V0 m ρ) c)) := by
  show (fun i n => W4 m ρ c (Proc.devRef .tc (Pipeline.arrRef spec3 4)) (ix2 i n)) = _
  rw [W4_arr m ρ c 4, fin3_4, hA3, hB3, hDF3, hWd3]
  rfl

theorem hDB5 : DB (V5 m ρ) c = Ffn.dup (Ffn.dhid (DF (V0 m ρ) c) (Wd (V0 m ρ) c)) (Ffn.up (H (V0 m ρ) c) (Wg (V0 m ρ) c)) := by
  show (fun i n => W5 m ρ c (Proc.devRef .tc main_v3_1) (ix2 i n)) = _
  rw [(W5_of m ρ c main_v3_1 (by decide)).trans ((W4_arr m ρ c 5).trans (fin3_5 (V3 m ρ) c)), hA3, hDF3, hWd3]
  rfl

/-! The five results at the end. -/

/-- The hidden layer from the arguments. -/
abbrev S0 : Ffn.Mat 2304 5632 := Ffn.hid (Ffn.up (H (V0 m ρ) c) (Wg (V0 m ρ) c)) (Ffn.up (H (V0 m ρ) c) (Wu (V0 m ρ) c))

/-- The layer's output. -/
theorem outF : W6 m ρ c (Proc.devRef .tc main_v1_0) = fun y => Ffn.down (S0 m ρ c) (Wd (V0 m ρ) c) (y 0) (y 1) := by
  refine (W6_of m ρ c main_v1_0 (by decide)).trans ((W5_of m ρ c main_v1_0 (by decide)).trans ((W4_of m ρ c main_v1_0 (by decide)).trans ((W3_of m ρ c main_v1_0 (by decide)).trans ((W2_arr m ρ c 4).trans ?_))))
  rw [fin1_4, hS1, hWd1]

/-- The residual sum. -/
theorem outX : W6 m ρ c (Proc.devRef .tc main_v1_1)
    = fun y => Ffn.res (X (V0 m ρ) c) (G (V0 m ρ) c) (Ffn.down (S0 m ρ c) (Wd (V0 m ρ) c)) (y 0) (y 1) := by
  refine (W6_of m ρ c main_v1_1 (by decide)).trans ((W5_of m ρ c main_v1_1 (by decide)).trans ((W4_of m ρ c main_v1_1 (by decide)).trans ((W3_of m ρ c main_v1_1 (by decide)).trans ((W2_arr m ρ c 5).trans ?_))))
  rw [fin1_5, hS1, hWd1, hX1, hG1]

/-- The gradient in the down weight. -/
theorem outWd : W6 m ρ c (Proc.devRef .tc main_v2) = fun y => Ffn.gradDown (S0 m ρ c) (DF (V0 m ρ) c) (y 0) (y 1) := by
  refine (W6_of m ρ c main_v2 (by decide)).trans ((W5_of m ρ c main_v2 (by decide)).trans ((W4_of m ρ c main_v2 (by decide)).trans ((W3_arr m ρ c 2).trans ?_)))
  rw [fin2_2, hS2, hS1, hDF2]

/-- The gradient in the gate's weight. -/
theorem outWg : W6 m ρ c (Proc.devRef .tc main_v4) = fun y => Ffn.gradUp (H (V0 m ρ) c)
    (Ffn.dgate (Ffn.dhid (DF (V0 m ρ) c) (Wd (V0 m ρ) c)) (Ffn.up (H (V0 m ρ) c) (Wg (V0 m ρ) c)) (Ffn.up (H (V0 m ρ) c) (Wu (V0 m ρ) c)))
    (y 0) (y 1) (y 2) := by
  refine (W6_of m ρ c main_v4 (by decide)).trans ((W5_arr m ρ c 2).trans ?_)
  rw [fin4_2, hH0, hDA4]

/-- The gradient in the up weight. -/
theorem outWu : W6 m ρ c (Proc.devRef .tc main_v5) = fun y => Ffn.gradUp (H (V0 m ρ) c)
    (Ffn.dup (Ffn.dhid (DF (V0 m ρ) c) (Wd (V0 m ρ) c)) (Ffn.up (H (V0 m ρ) c) (Wg (V0 m ρ) c))) (y 0) (y 1) (y 2) := by
  refine (W6_arr m ρ c 2).trans ?_
  rw [fin5_2, hH1, hDB5]

local notation "𝕄" => MT nD τ sig Unit (Elt Ideal) ℕ (UR sig nD τ) ℕ

set_option backward.isDefEq.respectTransparency.types false in
/-- From zero counters every schedule ends with each array outside the calls' own buffers as the last call left it, and the counters at zero. -/
theorem run : θ_run defs (onTc (τ := τ) (main (F := Ideal))) ⟨m, fun _ => 0, ρ⟩ (fun r => (∀ (c : Dev nD) (b : Ref sig .tc),
      ¬ (Proc.devRef .tc b : DevRef τ sig).isScoped → r.2.mem ((c.tc : Thread nD τ).loc b) = W6 m ρ c (Proc.devRef .tc b)) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨fun c b hb => h c _ (mem_uc b hb), funext fun g => hz g (.inr (no_unscoped g.2))⟩)

end Cert.Ffn1Ideal.Run

end
-- ==== Proof.Ffn1Cert.lean ====
/- The first feed-forward layer: the precondition read, and the kernel's run set beside the reference's. -/
module

public import proofs.«01_k».proof.Defs
public import proofs.«01_k».proof.Proof.FfnPre
public import proofs.«01_k».proof.Proof.Ffn1Ref
public import proofs.«01_k».proof.Proof.Ffn1Run

@[expose] public section

set_option maxRecDepth 16384

noncomputable section

namespace Cert.Ffn1RefIdeal.Value

open Cert.Ffn1RefIdeal Cert.Ffn1RefIdeal.Gen Idealize.ShloMosaic Idealize.ShloMosaic.TcCoe
open Cert.Ffn (rd2 rd3)

variable (h : FVec Ideal S2304x2048 .bf16) (wg wu : FVec Ideal S4x2048x1408 .bf16) (wd : FVec Ideal S5632x2048 .bf16)
  (x : FVec Ideal S2304x2048 .f32) (g : FVec Ideal S2x2048 .f32) (df : FVec Ideal S2304x2048 .bf16)

/-- The reference's hidden layer. -/
theorem hid_eq : rd2 (hidT (upT h wg) (upT h wu)) = Ffn.hid (Ffn.up (rd2 h) (rd3 wg)) (Ffn.up (rd2 h) (rd3 wu)) := by
  funext i n
  refine (hidT_at _ _ i n).trans ?_
  simp only [upT_at]

/-- The reference's output of the layer. -/
theorem out_eq : downT (hidT (upT h wg) (upT h wu)) wd
    = fun y => Ffn.down (Ffn.hid (Ffn.up (rd2 h) (rd3 wg)) (Ffn.up (rd2 h) (rd3 wu))) (rd2 wd) (y 0) (y 1) := by
  funext y
  obtain ⟨i, j, rfl⟩ : ∃ i j, y = ix2 i j := ⟨y 0, y 1, (ix2_eta y).symm⟩
  rw [downT_at]
  exact congrArg (fun s => Ffn.down s (rd2 wd) i j) (hid_eq h wg wu)

/-- The reference's residual sum. -/
theorem res_eq : resT x g (downT (hidT (upT h wg) (upT h wu)) wd)
    = fun y => Ffn.res (rd2 x) (fun i j => g (ix2 (if i.val < 256 then 0 else 1) j)) (Ffn.down (Ffn.hid (Ffn.up (rd2 h) (rd3 wg)) (Ffn.up (rd2 h) (rd3 wu))) (rd2 wd)) (y 0) (y 1) := by
  funext y
  obtain ⟨i, j, rfl⟩ : ∃ i j, y = ix2 i j := ⟨y 0, y 1, (ix2_eta y).symm⟩
  rw [resT_at, out_eq]
  rfl

/-- The reference's gradient in the down weight. -/
theorem gradDown_eq : gradDownT (hidT (upT h wg) (upT h wu)) df
    = fun y => Ffn.gradDown (Ffn.hid (Ffn.up (rd2 h) (rd3 wg)) (Ffn.up (rd2 h) (rd3 wu))) (rd2 df) (y 0) (y 1) := by
  funext y
  obtain ⟨n, j, rfl⟩ : ∃ n j, y = ix2 n j := ⟨y 0, y 1, (ix2_eta y).symm⟩
  rw [gradDownT_at]
  exact congrArg (fun s => Ffn.gradDown s (rd2 df) n j) (hid_eq h wg wu)

/-- The reference's gradient in the up weight. -/
theorem gradWu_eq : gradUpT h (dupT (dhidT df wd) (upT h wg))
    = fun y => Ffn.gradUp (rd2 h) (Ffn.dup (Ffn.dhid (rd2 df) (rd2 wd)) (Ffn.up (rd2 h) (rd3 wg))) (y 0) (y 1) (y 2) := by
  funext y
  obtain ⟨q, i, e, rfl⟩ : ∃ q i e, y = ix3 q i e := ⟨y 0, y 1, y 2, (ix3_eta y).symm⟩
  rw [gradUpT_at]
  simp only [dupT_at, dhidT_at, upT_at]
  rfl

/-- The reference's gradient in the gate's weight, where the up product and the hidden layer's cotangent are real. -/
theorem gradWg_eq (hd : ∀ i n, ∃ a : ℝ, Ffn.dhid (rd2 df) (rd2 wd) i n = a) (hb : ∀ i n, ∃ a : ℝ, Ffn.up (rd2 h) (rd3 wu) i n = a) :
    gradUpT h (dgateT (dhidT df wd) (upT h wg) (upT h wu))
      = fun y => Ffn.gradUp (rd2 h) (Ffn.dgate (Ffn.dhid (rd2 df) (rd2 wd)) (Ffn.up (rd2 h) (rd3 wg)) (Ffn.up (rd2 h) (rd3 wu))) (y 0) (y 1) (y 2) := by
  funext y
  obtain ⟨q, i, e, rfl⟩ : ∃ q i e, y = ix3 q i e := ⟨y 0, y 1, y 2, (ix3_eta y).symm⟩
  rw [gradUpT_at]
  refine congrArg (fun d => Ffn.gradUp (rd2 h) d q i e) (funext fun r => funext fun n => ?_)
  rw [dgateT_eq _ _ _ r n (by rw [dhidT_at]; exact hd r n) (by rw [upT_at]; exact hb r n)]
  simp only [dhidT_at, upT_at]

end Cert.Ffn1RefIdeal.Value

namespace Cert.Ffn1Cert

open Idealize.ShloMosaic Idealize.ShloMosaic.TcCoe Idealize.SL.Sem Cert.Ffn1RefIdeal.Value
open Cert.Ffn (rd2 rd3)

/-- The precondition's function takes three shape relations, all decided. -/
theorem preFacts : Cert.Pre_finite_ffn1.Facts := ⟨by decide, by decide, by decide⟩

section
variable [Cert.Pre_finite_ffn1.Facts] (X0 : FVec Ideal Cert.Pre_finite_ffn1.S2304x2048 .bf16) (X1 X2 : FVec Ideal Cert.Pre_finite_ffn1.S4x2048x1408 .bf16)
  (X3 : FVec Ideal Cert.Pre_finite_ffn1.S5632x2048 .bf16) (X4 : FVec Ideal Cert.Pre_finite_ffn1.S2304x2048 .f32)
  (X5 : FVec Ideal Cert.Pre_finite_ffn1.S2x2048 .f32) (X6 : FVec Ideal Cert.Pre_finite_ffn1.S2304x2048 .bf16)

/-- The precondition's first array: the rows' magnitudes are below the greatest extended real. -/
theorem pre0 (i : Fin 2304) (j : Fin 2048) : (Cert.Pre_finite_ffn1.fn (F := Ideal) X0 X1 X2 X3 X4 X5 X6).1 (ix2 i j)
    = BitVec.ofBool (decide (max (X0 (ix2 i j)) (-X0 (ix2 i j)) < ⊤)) := by
  rw [← Cert.Attn.posInf_eq]
  pointwise [Cert.Pre_finite_ffn1.fn]
  rfl

/-- Its first: the up weight's. -/
theorem pre1 (q : Fin 4) (i : Fin 2048) (j : Fin 1408) : (Cert.Pre_finite_ffn1.fn (F := Ideal) X0 X1 X2 X3 X4 X5 X6).2.1 (ix3 q i j)
    = BitVec.ofBool (decide (max (X2 (ix3 q i j)) (-X2 (ix3 q i j)) < ⊤)) := by
  rw [← Cert.Attn.posInf_eq]
  pointwise [Cert.Pre_finite_ffn1.fn]
  rfl

/-- Its third: the down weight's. -/
theorem pre2 (i : Fin 5632) (j : Fin 2048) : (Cert.Pre_finite_ffn1.fn (F := Ideal) X0 X1 X2 X3 X4 X5 X6).2.2.1 (ix2 i j)
    = BitVec.ofBool (decide (max (X3 (ix2 i j)) (-X3 (ix2 i j)) < ⊤)) := by
  rw [← Cert.Attn.posInf_eq]
  pointwise [Cert.Pre_finite_ffn1.fn]
  rfl

/-- Its fourth: the cotangent's. -/
theorem pre3 (i : Fin 2304) (j : Fin 2048) : (Cert.Pre_finite_ffn1.fn (F := Ideal) X0 X1 X2 X3 X4 X5 X6).2.2.2 (ix2 i j)
    = BitVec.ofBool (decide (max (X6 (ix2 i j)) (-X6 (ix2 i j)) < ⊤)) := by
  rw [← Cert.Attn.posInf_eq]
  pointwise [Cert.Pre_finite_ffn1.fn]
  rfl

/-- Under the precondition the up product and the hidden layer's cotangent are real. -/
theorem reals (h0 : (Cert.Pre_finite_ffn1.fn (F := Ideal) X0 X1 X2 X3 X4 X5 X6).1 = fun _ => 1#1)
    (h1 : (Cert.Pre_finite_ffn1.fn (F := Ideal) X0 X1 X2 X3 X4 X5 X6).2.1 = fun _ => 1#1)
    (h2 : (Cert.Pre_finite_ffn1.fn (F := Ideal) X0 X1 X2 X3 X4 X5 X6).2.2.1 = fun _ => 1#1)
    (h3 : (Cert.Pre_finite_ffn1.fn (F := Ideal) X0 X1 X2 X3 X4 X5 X6).2.2.2 = fun _ => 1#1) :
    (∀ i n, ∃ a : ℝ, Ffn.dhid (rd2 X6) (rd2 X3) i n = a) ∧ (∀ i n, ∃ a : ℝ, Ffn.up (rd2 X0) (rd3 X2) i n = a) :=
  ⟨Ffn.dhid_real _ _ (fun i j => Ffn.real_of_bit ((pre3 X0 X1 X2 X3 X4 X5 X6 i j).symm.trans (congrFun h3 _)))
      fun n j => Ffn.real_of_bit ((pre2 X0 X1 X2 X3 X4 X5 X6 n j).symm.trans (congrFun h2 _)),
    Ffn.up_real _ _ (fun i j => Ffn.real_of_bit ((pre0 X0 X1 X2 X3 X4 X5 X6 i j).symm.trans (congrFun h0 _)))
      fun q i j => Ffn.real_of_bit ((pre1 X0 X1 X2 X3 X4 X5 X6 q i j).symm.trans (congrFun h1 _))⟩
end

/-- The reference's run keeps its arguments and leaves every counter at zero: it declares no semaphore. -/
theorem frameR (m : (ℓ : Loc Cert.Ffn1RefIdeal.nD Cert.Ffn1RefIdeal.τ Cert.Ffn1RefIdeal.sig) → Buf (Elt Ideal) ℓ) (ρ : Dev Cert.Ffn1RefIdeal.nD → PrngReg) :
    θ_run (Cert.Ffn1RefIdeal.defs (F := Ideal)) (onTc (τ := Cert.Ffn1RefIdeal.τ) (Cert.Ffn1RefIdeal.main (F := Ideal))) ⟨m, fun _ => 0, ρ⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4)
      ∧ r.2.mem ((c.tc : Thread Cert.Ffn1RefIdeal.nD Cert.Ffn1RefIdeal.τ).loc Cert.Ffn1RefIdeal.main_arg5) = m ((c.tc : Thread Cert.Ffn1RefIdeal.nD Cert.Ffn1RefIdeal.τ).loc Cert.Ffn1RefIdeal.main_arg5)
      ∧ r.2.mem ((c.tc : Thread Cert.Ffn1RefIdeal.nD Cert.Ffn1RefIdeal.τ).loc Cert.Ffn1RefIdeal.main_arg6) = m ((c.tc : Thread Cert.Ffn1RefIdeal.nD Cert.Ffn1RefIdeal.τ).loc Cert.Ffn1RefIdeal.main_arg6))
      ∧ r.2.sem = fun _ => 0) :=
  (θ_run Cert.Ffn1RefIdeal.defs _ _).mono
    (fun r h => ⟨fun c => (h c).2.2.2.2.2, Idealize.ShloMosaic.sem_eq_zero_of_no_sems (by decide) r.2⟩)
    (Cert.Ffn1RefIdeal.Value.run (F := Ideal) m ρ)

/-- Where the rows, the up and down weights and the cotangent are finite, the kernel and the reference end with the same five results. -/
theorem algebraic [Cert.Pre_finite_ffn1.Facts] :
    Cert.algebraic_Ffn1Ideal_Ffn1RefIdeal_pre_finite_ffn1 (hFfn1Ideal := Cert.Ffn1Ideal.Gen.facts) (hFfn1RefIdeal := Cert.Ffn1RefIdeal.Gen.facts) := by
  intro m ρ m' ρ' hpre hag
  have hr := fun c => reals _ _ _ _ _ _ _ (hpre c).1 (hpre c).2.1 (hpre c).2.2.1 (hpre c).2.2.2
  refine ⟨fun c => Cert.Ffn1Ideal.Gen.W6 m ρ c (Proc.devRef .tc Cert.Ffn1Ideal.main_v1_0), fun c => Cert.Ffn1Ideal.Gen.W6 m ρ c (Proc.devRef .tc Cert.Ffn1Ideal.main_v1_1),
    fun c => Cert.Ffn1Ideal.Gen.W6 m ρ c (Proc.devRef .tc Cert.Ffn1Ideal.main_v4), fun c => Cert.Ffn1Ideal.Gen.W6 m ρ c (Proc.devRef .tc Cert.Ffn1Ideal.main_v5),
    fun c => Cert.Ffn1Ideal.Gen.W6 m ρ c (Proc.devRef .tc Cert.Ffn1Ideal.main_v2), ?_, ?_⟩
  · refine (θ_run Cert.Ffn1Ideal.defs _ _).mono (fun r h c => ?_) (Cert.Ffn1Ideal.Run.run m ρ)
    have h := h.1 c
    exact ⟨h _ (by decide), h _ (by decide), h _ (by decide), h _ (by decide), h _ (by decide),
      (h _ (by decide)).trans (Cert.Ffn1Ideal.Gen.W6_main_arg0 m ρ c), (h _ (by decide)).trans (Cert.Ffn1Ideal.Gen.W6_main_arg1 m ρ c),
      (h _ (by decide)).trans (Cert.Ffn1Ideal.Gen.W6_main_arg2 m ρ c), (h _ (by decide)).trans (Cert.Ffn1Ideal.Gen.W6_main_arg3 m ρ c),
      (h _ (by decide)).trans (Cert.Ffn1Ideal.Gen.W6_main_arg4 m ρ c), (h _ (by decide)).trans (Cert.Ffn1Ideal.Gen.W6_main_arg5 m ρ c),
      (h _ (by decide)).trans (Cert.Ffn1Ideal.Gen.W6_main_arg6 m ρ c)⟩
  · refine (θ_run Cert.Ffn1RefIdeal.defs _ _).mono (fun r h c => ?_) (Cert.Ffn1RefIdeal.Value.run m' ρ')
    obtain ⟨h0, h1, h2, h3, h4, ha⟩ := h c
    obtain ⟨a0, a1, a2, a3, a4, a5, a6⟩ := hag c
    rw [a0, a1, a2, a3] at h0
    rw [a0, a1, a2, a3, a4, a5] at h1
    rw [a0, a1, a2, a3, a6] at h2
    rw [a0, a1, a3, a6] at h3
    rw [a0, a1, a2, a6] at h4
    exact ⟨h0.trans ((out_eq _ _ _ _).trans (Cert.Ffn1Ideal.Run.outF m ρ c).symm),
      h1.trans ((res_eq _ _ _ _ _ _).trans (Cert.Ffn1Ideal.Run.outX m ρ c).symm),
      h2.trans ((gradWg_eq _ _ _ _ _ (hr c).1 (hr c).2).trans (Cert.Ffn1Ideal.Run.outWg m ρ c).symm),
      h3.trans ((gradWu_eq _ _ _ _).trans (Cert.Ffn1Ideal.Run.outWu m ρ c).symm),
      h4.trans ((gradDown_eq _ _ _ _).trans (Cert.Ffn1Ideal.Run.outWd m ρ c).symm), ha⟩

end Cert.Ffn1Cert

end
-- ==== Proof.LinSpec.lean ====
/- The mathematics of the products with a weight whose columns lie on four chips, over functions of indices. -/
module

public import proofs.«01_k».proof.Proof.FfnSpec
public import Idealize.ShloMosaic.Lib.Pipeline.ValueKit

@[expose] public section

noncomputable section

namespace Cert.Ffn

open Idealize.ShloMosaic

variable {M : ℕ}

/-- The product of a layer's gradient with the transpose of a weight whose columns lie on four chips. -/
def back (D : Mat M 5632) (W : Wt) : Mat M 2048 :=
  fun i x => ∑ n : Fin 5632, D i n * W ⟨n.val / 1408, by omega⟩ x ⟨n.val % 1408, by omega⟩

/-- The gradient in the layer's rows: the gate's product's part and the up product's. -/
def dh (DA DB : Mat M 5632) (Wg Wu : Wt) : Mat M 2048 := fun i x => back DA Wg i x + back DB Wu i x

/-- The part of `back` that one chip's columns give. -/
def backPart (D : Mat M 5632) (W : Wt) (u : Fin 4) : Mat M 2048 :=
  fun i x => ∑ e : Fin 1408, D i ⟨u.val * 1408 + e.val, by omega⟩ * W u x e

/-- The four chips' parts make up the product. -/
theorem back_eq (D : Mat M 5632) (W : Wt) (i : Fin M) (x : Fin 2048) : ∑ u : Fin 4, backPart D W u i x = back D W i x := by
  unfold back backPart
  refine Fin.sum_mul_add_congr fun u e hl => congrArg (D i _ * ·) ?_
  have he : e.val < 1408 := e.isLt
  have hu : (⟨(u.val * 1408 + e.val) / 1408, by omega⟩ : Fin 4) = u := Fin.ext (by show (u.val * 1408 + e.val) / 1408 = u.val; omega)
  have hv : (⟨(u.val * 1408 + e.val) % 1408, by omega⟩ : Fin 1408) = e := Fin.ext (by show (u.val * 1408 + e.val) % 1408 = e.val; omega)
  show W u x e = W ⟨(u.val * 1408 + e.val) / 1408, _⟩ x ⟨(u.val * 1408 + e.val) % 1408, _⟩
  rw [hu, hv]

/-- The four chips' parts make up the gradient in the rows. -/
theorem dh_eq (DA DB : Mat M 5632) (Wg Wu : Wt) (i : Fin M) (x : Fin 2048) :
    ∑ u : Fin 4, (backPart DA Wg u i x + backPart DB Wu u i x) = dh DA DB Wg Wu i x := by
  rw [Finset.sum_add_distrib, back_eq, back_eq]
  rfl

/-- The input projection's weight: four chips' columns. -/
abbrev WtIn := Fin 4 → Fin 2048 → Fin 2048 → EReal

/-- The rows' projection. -/
def proj (H : Mat M 2048) (W : WtIn) : Mat M 8192 :=
  fun i n => ∑ x : Fin 2048, H i x * W ⟨n.val / 2048, by omega⟩ x ⟨n.val % 2048, by omega⟩

/-- The gradient in the projection's weight. -/
def gradIn (H : Mat M 2048) (D : Mat M 8192) : WtIn := fun q x e => ∑ i : Fin M, H i x * D i ⟨q.val * 2048 + e.val, by omega⟩

/-- The gradient in the projection's rows. -/
def dxIn (D : Mat M 8192) (W : WtIn) : Mat M 2048 :=
  fun i x => ∑ n : Fin 8192, D i n * W ⟨n.val / 2048, by omega⟩ x ⟨n.val % 2048, by omega⟩

/-- The part of `dxIn` that one chip's columns give. -/
def dxInPart (D : Mat M 8192) (W : WtIn) (u : Fin 4) : Mat M 2048 :=
  fun i x => ∑ e : Fin 2048, D i ⟨u.val * 2048 + e.val, by omega⟩ * W u x e

/-- The four chips' parts make up the gradient in the projection's rows. -/
theorem dxIn_eq (D : Mat M 8192) (W : WtIn) (i : Fin M) (x : Fin 2048) : ∑ u : Fin 4, dxInPart D W u i x = dxIn D W i x := by
  unfold dxIn dxInPart
  refine Fin.sum_mul_add_congr fun u e hl => congrArg (D i _ * ·) ?_
  have he : e.val < 2048 := e.isLt
  have hu : (⟨(u.val * 2048 + e.val) / 2048, by omega⟩ : Fin 4) = u := Fin.ext (by show (u.val * 2048 + e.val) / 2048 = u.val; omega)
  have hv : (⟨(u.val * 2048 + e.val) % 2048, by omega⟩ : Fin 2048) = e := Fin.ext (by show (u.val * 2048 + e.val) % 2048 = e.val; omega)
  show W u x e = W ⟨(u.val * 2048 + e.val) / 2048, _⟩ x ⟨(u.val * 2048 + e.val) % 2048, _⟩
  rw [hu, hv]

end Cert.Ffn

end
-- ==== Proof.Dh2Final.lean ====
/- The gradient in the second layer's rows: the kernel's result array after its run, summed over the four chips' columns. -/
module

public import proofs.«01_k».proof.Proof.Gen.Dh2Ideal.Value
public import proofs.«01_k».proof.Proof.FfnPre
public import proofs.«01_k».proof.Proof.LinSpec
public import Idealize.ShloMosaic.Lib.Pipeline.ValueKit
public import Idealize.ShloMosaic.Lib.Pipeline.ReadBack

@[expose] public section

set_option maxRecDepth 16384

noncomputable section

namespace Cert.Dh2Ideal.Final

open Cert.Dh2Ideal Cert.Dh2Ideal.Gen Idealize.ShloMosaic Idealize.ShloMosaic.TcCoe
open Cert.Ffn (rd2 rd3)

/-- One point's part of a tile, from its blocks: the sum of two products over a chip's columns. -/
def term (A B : Vec Ideal S512x1408 .bf16) (G U : Vec Ideal S1x1024x1408 .bf16) (i : Fin 512) (j : Fin 1024) : EReal :=
  ∑ e : Fin 1408, A (ix2 i e) * G (ix3 0 j e) + ∑ e : Fin 1408, B (ix2 i e) * U (ix3 0 j e)

/-- The sum of the two products at an index. -/
theorem pay_at (A B : Vec Ideal S512x1408 .bf16) (G U : Vec Ideal S1x1024x1408 .bf16) (i : Fin 512) (j : Fin 1024) :
    k0_pay1 (F := Ideal) A G B U (ix2 i j) = term A B G U i j := by
  pointwise [k0_pay1, term]

variable (m : (ℓ : Loc nD τ sig) → Buf (Elt Ideal) ℓ) (c : Dev nD)

/-- A point's part, from the blocks it finds. -/
def part (t : Fin cfg0.N) (y : S512x1024.Idx) : EReal := term (iblk m c 0 t) (iblk m c 2 t) (iblk m c 1 t) (iblk m c 3 t) (y 0) (y 1)

/-- The running sum a point leaves: in the tile at a last point, in the scratch before. -/
def acc (n : ℕ) (h : n < cfg0.N) : Vec Ideal S512x1024 .f32 := if n % 4 = 3 then (outsAt0 m c n h).1 else (outsAt0 m c n h).2

/-- The first point of a tile leaves its own part. -/
theorem acc_first (t : Fin cfg0.N) (h : t.val % 4 = 0) (y : S512x1024.Idx) : acc m c t.val t.isLt y = part m c t y := by
  rw [acc, if_neg (by omega), outsAt0_A m c t h (by omega) (by omega)]
  frame_out
  obtain ⟨i, j, rfl⟩ : ∃ i j, y = ix2 i j := ⟨y 0, y 1, eq_ix2 y⟩
  refine Eq.trans ?_ (pay_at _ _ _ _ i j)
  pointwise [k0_pay2]

/-- A later point adds its part to the sum before it. -/
theorem acc_step (t : Fin cfg0.N) (h : ¬t.val % 4 = 0) (y : S512x1024.Idx) :
    acc m c t.val t.isLt y = acc m c (t.val - 1) (Nat.lt_of_le_of_lt (Nat.sub_le _ _) t.isLt) y + part m c t y := by
  obtain ⟨i, j, rfl⟩ : ∃ i j, y = ix2 i j := ⟨y 0, y 1, eq_ix2 y⟩
  unfold acc part
  rw [if_neg (show ¬(t.val - 1) % 4 = 3 by omega), ix2_0, ix2_1, ← pay_at]
  by_cases h3 : t.val % 4 = 3
  · rw [if_pos h3, outsAt0_C m c t h (by omega) h3]
    frame_out
    simp only [read_unread_whole]
    pointwise [k0_pay4]
  · rw [if_neg h3, outsAt0_B m c t h (by omega) h3]
    frame_out
    simp only [read_unread_whole]
    pointwise [k0_pay3]

/-- Which block of its array each window is on. -/
theorem idx : ∀ t : Fin cfg0.N, win0_0.index t = ![t.val / 4 % 4, t.val % 4] ∧ win0_1.index t = ![t.val % 4, t.val / 16, 0]
    ∧ win0_2.index t = ![t.val / 4 % 4, t.val % 4] ∧ win0_3.index t = ![t.val % 4, t.val / 16, 0] ∧ win0_4.index t = ![t.val / 4 % 4, t.val / 16] :=
  (by decide +kernel : ∀ t : Fin grid0.N, _)

/-- The gate's product's cotangent. -/
abbrev DA : FVec Ideal S2048x5632 .bf16 := m ((c : Thread nD τ).loc main_arg0)
/-- The up product's cotangent. -/
abbrev DB : FVec Ideal S2048x5632 .bf16 := m ((c : Thread nD τ).loc main_arg1)
/-- The gate's weight. -/
abbrev Wg : FVec Ideal S4x2048x1408 .bf16 := m ((c : Thread nD τ).loc main_arg2)
/-- The up weight. -/
abbrev Wu : FVec Ideal S4x2048x1408 .bf16 := m ((c : Thread nD τ).loc main_arg3)

/-- The grid has 32 points. -/
theorem lt_N (t : Fin cfg0.N) : t.val < 32 := lt_of_lt_of_eq t.isLt N_0

/-- A point's part is a chip's part of the whole arrays' gradient. -/
theorem part_eq (t : Fin cfg0.N) (u : Fin 4) (y : S512x1024.Idx) (i j : Fin 2048) (hu : u.val = t.val % 4)
    (hi : i.val = t.val / 4 % 4 * 512 + (y 0).val) (hj : j.val = t.val / 16 * 1024 + (y 1).val) :
    part m c t y = Ffn.backPart (rd2 (DA m c)) (rd3 (Wg m c)) u i j + Ffn.backPart (rd2 (DB m c)) (rd3 (Wu m c)) u i j := by
  obtain ⟨a, b, rfl⟩ : ∃ a b, y = ix2 a b := ⟨y 0, y 1, eq_ix2 y⟩
  have ht := lt_N t
  rw [ix2_0] at hi
  rw [ix2_1] at hj
  unfold part term Ffn.backPart
  have h0 : ∀ e : Fin 1408, (iblk m c 0 t : Vec Ideal S512x1408 .bf16) (ix2 a e) = DA m c (ix2 i ⟨u.val * 1408 + e.val, by omega⟩) := by
    intro e
    blk_ext [iblk, V, idx t]
  have h1 : ∀ e : Fin 1408, (iblk m c 1 t : Vec Ideal S1x1024x1408 .bf16) (ix3 0 b e) = Wg m c (ix3 u j e) := by
    intro e
    blk_ext [iblk, V, idx t]
  have h2 : ∀ e : Fin 1408, (iblk m c 2 t : Vec Ideal S512x1408 .bf16) (ix2 a e) = DB m c (ix2 i ⟨u.val * 1408 + e.val, by omega⟩) := by
    intro e
    blk_ext [iblk, V, idx t]
  have h3 : ∀ e : Fin 1408, (iblk m c 3 t : Vec Ideal S1x1024x1408 .bf16) (ix3 0 b e) = Wu m c (ix3 u j e) := by
    intro e
    blk_ext [iblk, V, idx t]
  exact congrArg₂ (· + ·) (Finset.sum_congr rfl fun e _ => congrArg₂ (· * ·) (h0 e) (h1 e)) (Finset.sum_congr rfl fun e _ => congrArg₂ (· * ·) (h2 e) (h3 e))

/-- The gradient in the rows after the run. -/
theorem final : (dats m 0 c).arrAt 4 cfg0.N = fun y => Ffn.dh (rd2 (DA m c)) (rd2 (DB m c)) (rd3 (Wg m c)) (rd3 (Wu m c)) (y 0) (y 1) := by
  refine (dats m 0 c).arrAt_eq_of_covers 4 _ (by decide +kernel) fun t hf y => ?_
  have hf := (flush0_4 t).mp hf
  have ht := lt_N t
  blk_simp
  show (_ : EReal) = _
  rw [after0_4, show (outsAt0 m c t.val t.isLt).1 = acc m c t.val t.isLt from (if_pos (by omega)).symm,
    Pipeline.eq_sum_fin_of_reset_step_apply_of_flush (acc m c) 4 (fun _ => 0) (part m c)
      (fun p h j => (acc_first m c p h j).trans (zero_add _).symm) (acc_step m c) t (by omega) _, zero_add]
  refine (Finset.sum_congr rfl fun u _ => part_eq m c _ u _ _ _ ?_ ?_ ?_).trans (Ffn.dh_eq _ _ _ _ _ _)
  · show u.val = (4 * (t.val / 4) + u.val) % 4
    omega
  · have hu : u.val < 4 := u.isLt
    blk_simp [idx t]
    dsimp only
    omega
  · have hu : u.val < 4 := u.isLt
    blk_simp [idx t]
    dsimp only
    omega

end Cert.Dh2Ideal.Final

end
-- ==== Proof.Dh2Cert.lean ====
/- The gradient in the second layer's rows: the kernel's run set beside the reference's. -/
module

public import proofs.«01_k».proof.Defs
public import proofs.«01_k».proof.Proof.Gen.Dh2RefIdeal.Run
public import proofs.«01_k».proof.Proof.Dh2Final
public import Idealize.ShloMosaic.Lib.Pointwise

@[expose] public section

set_option maxRecDepth 16384

noncomputable section

namespace Cert.Dh2RefIdeal.Value

open Cert.Dh2RefIdeal Cert.Dh2RefIdeal.Gen Idealize.ShloMosaic Idealize.ShloMosaic.TcCoe
open Cert.Ffn (rd2 rd3)

/-- The product of a cotangent with the transpose of a weight whose columns lie on four chips. -/
def backT (d : FVec Ideal S2048x5632 .bf16) (w : FVec Ideal S4x2048x1408 .bf16) : FVec Ideal S2048x2048 .f32 :=
  Host.dotGeneral dot_S2048x5632_S2048x5632_S2048x2048_1_1_0_0_n_n none (extf .f32 d bitsLt_bf16_f32) (shapeCast _ (transpose S2048x4x1408 [1, 0, 2] (extf .f32 w bitsLt_bf16_f32) transposes_S4x2048x1408_S2048x4x1408_1_0_2) shapeCasts_S2048x4x1408_S2048x5632)

/-- That product at an index. -/
theorem backT_at (d : FVec Ideal S2048x5632 .bf16) (w : FVec Ideal S4x2048x1408 .bf16) (i x : Fin 2048) :
    backT d w (ix2 i x) = Ffn.back (rd2 d) (rd3 w) i x := by
  pointwise [backT, Ffn.back]

/-- The reference's gradient in the rows. -/
theorem dh_eq (da db : FVec Ideal S2048x5632 .bf16) (wg wu : FVec Ideal S4x2048x1408 .bf16) :
    addf (backT db wu) (backT da wg) = fun y => Ffn.dh (rd2 da) (rd2 db) (rd3 wg) (rd3 wu) (y 0) (y 1) := by
  funext y
  obtain ⟨i, x, rfl⟩ : ∃ i x, y = ix2 i x := ⟨y 0, y 1, (ix2_eta y).symm⟩
  show backT db wu (ix2 i x) + backT da wg (ix2 i x) = _
  rw [backT_at, backT_at]
  exact add_comm _ _

end Cert.Dh2RefIdeal.Value

namespace Cert.Dh2Cert

open Idealize.ShloMosaic Idealize.ShloMosaic.TcCoe Idealize.SL.Sem

/-- The reference's run keeps its arguments and leaves every counter at zero: it declares no semaphore. -/
theorem frameR (m : (ℓ : Loc Cert.Dh2RefIdeal.nD Cert.Dh2RefIdeal.τ Cert.Dh2RefIdeal.sig) → Buf (Elt Ideal) ℓ) (ρ : Dev Cert.Dh2RefIdeal.nD → PrngReg) :
    θ_run (Cert.Dh2RefIdeal.defs (F := Ideal)) (onTc (τ := Cert.Dh2RefIdeal.τ) (Cert.Dh2RefIdeal.main (F := Ideal))) ⟨m, fun _ => 0, ρ⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1)
      ∧ r.2.mem ((c.tc : Thread Cert.Dh2RefIdeal.nD Cert.Dh2RefIdeal.τ).loc Cert.Dh2RefIdeal.main_arg2) = m ((c.tc : Thread Cert.Dh2RefIdeal.nD Cert.Dh2RefIdeal.τ).loc Cert.Dh2RefIdeal.main_arg2)
      ∧ r.2.mem ((c.tc : Thread Cert.Dh2RefIdeal.nD Cert.Dh2RefIdeal.τ).loc Cert.Dh2RefIdeal.main_arg3) = m ((c.tc : Thread Cert.Dh2RefIdeal.nD Cert.Dh2RefIdeal.τ).loc Cert.Dh2RefIdeal.main_arg3))
      ∧ r.2.sem = fun _ => 0) :=
  (θ_run Cert.Dh2RefIdeal.defs _ _).mono
    (fun r h => ⟨fun c => (h c).2, Idealize.ShloMosaic.sem_eq_zero_of_no_sems (by decide) r.2⟩)
    (Cert.Dh2RefIdeal.Value.run (F := Ideal) m ρ)

/-- The kernel and the reference end with the same gradient in the rows. -/
theorem algebraic :
    Cert.algebraic_Dh2Ideal_Dh2RefIdeal (hDh2Ideal := Cert.Dh2Ideal.Gen.facts) (hDh2RefIdeal := Cert.Dh2RefIdeal.Gen.facts) := by
  intro m ρ m' ρ' _ hag
  refine ⟨fun c y => Ffn.dh (Ffn.rd2 (Cert.Dh2Ideal.Final.DA m c)) (Ffn.rd2 (Cert.Dh2Ideal.Final.DB m c)) (Ffn.rd3 (Cert.Dh2Ideal.Final.Wg m c)) (Ffn.rd3 (Cert.Dh2Ideal.Final.Wu m c)) (y 0) (y 1), ?_, ?_⟩
  · refine (θ_run Cert.Dh2Ideal.defs _ _).mono (fun r h c => ?_) (Cert.Dh2Ideal.Value.run_blocks m ρ)
    exact ⟨(h c).1.trans (Cert.Dh2Ideal.Final.final m c), (h c).2⟩
  · refine (θ_run Cert.Dh2RefIdeal.defs _ _).mono (fun r h c => ?_) (Cert.Dh2RefIdeal.Value.run m' ρ')
    obtain ⟨h0, ha⟩ := h c
    obtain ⟨a0, a1, a2, a3⟩ := hag c
    rw [a0, a1, a2, a3] at h0
    exact ⟨h0.trans (Cert.Dh2RefIdeal.Value.dh_eq _ _ _ _), ha⟩

end Cert.Dh2Cert

end
-- ==== Proof.Dh1Final.lean ====
/- The gradient in the first layer's rows: the kernel's result array after its run, summed over the four chips' columns. -/
module

public import proofs.«01_k».proof.Proof.Gen.Dh1Ideal.Value
public import proofs.«01_k».proof.Proof.FfnPre
public import proofs.«01_k».proof.Proof.LinSpec
public import Idealize.ShloMosaic.Lib.Pipeline.ValueKit
public import Idealize.ShloMosaic.Lib.Pipeline.ReadBack

@[expose] public section

set_option maxRecDepth 16384

noncomputable section

namespace Cert.Dh1Ideal.Final

open Cert.Dh1Ideal Cert.Dh1Ideal.Gen Idealize.ShloMosaic Idealize.ShloMosaic.TcCoe
open Cert.Ffn (rd2 rd3)

/-- One point's part of a tile, from its blocks: the sum of two products over a chip's columns. -/
def term (A B : Vec Ideal S768x1408 .bf16) (G U : Vec Ideal S1x1024x1408 .bf16) (i : Fin 768) (j : Fin 1024) : EReal :=
  ∑ e : Fin 1408, A (ix2 i e) * G (ix3 0 j e) + ∑ e : Fin 1408, B (ix2 i e) * U (ix3 0 j e)

/-- The sum of the two products at an index. -/
theorem pay_at (A B : Vec Ideal S768x1408 .bf16) (G U : Vec Ideal S1x1024x1408 .bf16) (i : Fin 768) (j : Fin 1024) :
    k0_pay1 (F := Ideal) A G B U (ix2 i j) = term A B G U i j := by
  pointwise [k0_pay1, term]

variable (m : (ℓ : Loc nD τ sig) → Buf (Elt Ideal) ℓ) (c : Dev nD)

/-- A point's part, from the blocks it finds. -/
def part (t : Fin cfg0.N) (y : S768x1024.Idx) : EReal := term (iblk m c 0 t) (iblk m c 2 t) (iblk m c 1 t) (iblk m c 3 t) (y 0) (y 1)

/-- The running sum a point leaves: in the tile at a last point, in the scratch before. -/
def acc (n : ℕ) (h : n < cfg0.N) : Vec Ideal S768x1024 .f32 := if n % 4 = 3 then (outsAt0 m c n h).1 else (outsAt0 m c n h).2

/-- The first point of a tile leaves its own part. -/
theorem acc_first (t : Fin cfg0.N) (h : t.val % 4 = 0) (y : S768x1024.Idx) : acc m c t.val t.isLt y = part m c t y := by
  rw [acc, if_neg (by omega), outsAt0_A m c t h (by omega) (by omega)]
  frame_out
  obtain ⟨i, j, rfl⟩ : ∃ i j, y = ix2 i j := ⟨y 0, y 1, eq_ix2 y⟩
  refine Eq.trans ?_ (pay_at _ _ _ _ i j)
  pointwise [k0_pay2]

/-- A later point adds its part to the sum before it. -/
theorem acc_step (t : Fin cfg0.N) (h : ¬t.val % 4 = 0) (y : S768x1024.Idx) :
    acc m c t.val t.isLt y = acc m c (t.val - 1) (Nat.lt_of_le_of_lt (Nat.sub_le _ _) t.isLt) y + part m c t y := by
  obtain ⟨i, j, rfl⟩ : ∃ i j, y = ix2 i j := ⟨y 0, y 1, eq_ix2 y⟩
  unfold acc part
  rw [if_neg (show ¬(t.val - 1) % 4 = 3 by omega), ix2_0, ix2_1, ← pay_at]
  by_cases h3 : t.val % 4 = 3
  · rw [if_pos h3, outsAt0_C m c t h (by omega) h3]
    frame_out
    simp only [read_unread_whole]
    pointwise [k0_pay4]
  · rw [if_neg h3, outsAt0_B m c t h (by omega) h3]
    frame_out
    simp only [read_unread_whole]
    pointwise [k0_pay3]

/-- Which block of its array each window is on. -/
theorem idx : ∀ t : Fin cfg0.N, win0_0.index t = ![t.val / 4 % 3, t.val % 4] ∧ win0_1.index t = ![t.val % 4, t.val / 12, 0]
    ∧ win0_2.index t = ![t.val / 4 % 3, t.val % 4] ∧ win0_3.index t = ![t.val % 4, t.val / 12, 0] ∧ win0_4.index t = ![t.val / 4 % 3, t.val / 12] :=
  (by decide +kernel : ∀ t : Fin grid0.N, _)

/-- The gate's product's cotangent. -/
abbrev DA : FVec Ideal S2304x5632 .bf16 := m ((c : Thread nD τ).loc main_arg0)
/-- The up product's cotangent. -/
abbrev DB : FVec Ideal S2304x5632 .bf16 := m ((c : Thread nD τ).loc main_arg1)
/-- The gate's weight. -/
abbrev Wg : FVec Ideal S4x2048x1408 .bf16 := m ((c : Thread nD τ).loc main_arg2)
/-- The up weight. -/
abbrev Wu : FVec Ideal S4x2048x1408 .bf16 := m ((c : Thread nD τ).loc main_arg3)

/-- The grid has 24 points. -/
theorem lt_N (t : Fin cfg0.N) : t.val < 24 := lt_of_lt_of_eq t.isLt N_0

/-- A point's part is a chip's part of the whole arrays' gradient. -/
theorem part_eq (t : Fin cfg0.N) (u : Fin 4) (y : S768x1024.Idx) (i : Fin 2304) (j : Fin 2048) (hu : u.val = t.val % 4)
    (hi : i.val = t.val / 4 % 3 * 768 + (y 0).val) (hj : j.val = t.val / 12 * 1024 + (y 1).val) :
    part m c t y = Ffn.backPart (rd2 (DA m c)) (rd3 (Wg m c)) u i j + Ffn.backPart (rd2 (DB m c)) (rd3 (Wu m c)) u i j := by
  obtain ⟨a, b, rfl⟩ : ∃ a b, y = ix2 a b := ⟨y 0, y 1, eq_ix2 y⟩
  have ht := lt_N t
  rw [ix2_0] at hi
  rw [ix2_1] at hj
  unfold part term Ffn.backPart
  have h0 : ∀ e : Fin 1408, (iblk m c 0 t : Vec Ideal S768x1408 .bf16) (ix2 a e) = DA m c (ix2 i ⟨u.val * 1408 + e.val, by omega⟩) := by
    intro e
    blk_ext [iblk, V, idx t]
  have h1 : ∀ e : Fin 1408, (iblk m c 1 t : Vec Ideal S1x1024x1408 .bf16) (ix3 0 b e) = Wg m c (ix3 u j e) := by
    intro e
    blk_ext [iblk, V, idx t]
  have h2 : ∀ e : Fin 1408, (iblk m c 2 t : Vec Ideal S768x1408 .bf16) (ix2 a e) = DB m c (ix2 i ⟨u.val * 1408 + e.val, by omega⟩) := by
    intro e
    blk_ext [iblk, V, idx t]
  have h3 : ∀ e : Fin 1408, (iblk m c 3 t : Vec Ideal S1x1024x1408 .bf16) (ix3 0 b e) = Wu m c (ix3 u j e) := by
    intro e
    blk_ext [iblk, V, idx t]
  exact congrArg₂ (· + ·) (Finset.sum_congr rfl fun e _ => congrArg₂ (· * ·) (h0 e) (h1 e)) (Finset.sum_congr rfl fun e _ => congrArg₂ (· * ·) (h2 e) (h3 e))

/-- The gradient in the rows after the run. -/
theorem final : (dats m 0 c).arrAt 4 cfg0.N = fun y => Ffn.dh (rd2 (DA m c)) (rd2 (DB m c)) (rd3 (Wg m c)) (rd3 (Wu m c)) (y 0) (y 1) := by
  refine (dats m 0 c).arrAt_eq_of_covers 4 _ (by decide +kernel) fun t hf y => ?_
  have hf := (flush0_4 t).mp hf
  have ht := lt_N t
  blk_simp
  show (_ : EReal) = _
  rw [after0_4, show (outsAt0 m c t.val t.isLt).1 = acc m c t.val t.isLt from (if_pos (by omega)).symm,
    Pipeline.eq_sum_fin_of_reset_step_apply_of_flush (acc m c) 4 (fun _ => 0) (part m c)
      (fun p h j => (acc_first m c p h j).trans (zero_add _).symm) (acc_step m c) t (by omega) _, zero_add]
  refine (Finset.sum_congr rfl fun u _ => part_eq m c _ u _ _ _ ?_ ?_ ?_).trans (Ffn.dh_eq _ _ _ _ _ _)
  · show u.val = (4 * (t.val / 4) + u.val) % 4
    omega
  · have hu : u.val < 4 := u.isLt
    blk_simp [idx t]
    dsimp only
    omega
  · have hu : u.val < 4 := u.isLt
    blk_simp [idx t]
    dsimp only
    omega

end Cert.Dh1Ideal.Final

end
-- ==== Proof.Dh1Cert.lean ====
/- The gradient in the first layer's rows: the kernel's run set beside the reference's. -/
module

public import proofs.«01_k».proof.Defs
public import proofs.«01_k».proof.Proof.Gen.Dh1RefIdeal.Run
public import proofs.«01_k».proof.Proof.Dh1Final
public import Idealize.ShloMosaic.Lib.Pointwise

@[expose] public section

set_option maxRecDepth 16384

noncomputable section

namespace Cert.Dh1RefIdeal.Value

open Cert.Dh1RefIdeal Cert.Dh1RefIdeal.Gen Idealize.ShloMosaic Idealize.ShloMosaic.TcCoe
open Cert.Ffn (rd2 rd3)

/-- The product of a cotangent with the transpose of a weight whose columns lie on four chips. -/
def backT (d : FVec Ideal S2304x5632 .bf16) (w : FVec Ideal S4x2048x1408 .bf16) : FVec Ideal S2304x2048 .f32 :=
  Host.dotGeneral dot_S2304x5632_S2048x5632_S2304x2048_1_1_0_0_n_n none (extf .f32 d bitsLt_bf16_f32) (shapeCast _ (transpose S2048x4x1408 [1, 0, 2] (extf .f32 w bitsLt_bf16_f32) transposes_S4x2048x1408_S2048x4x1408_1_0_2) shapeCasts_S2048x4x1408_S2048x5632)

/-- That product at an index. -/
theorem backT_at (d : FVec Ideal S2304x5632 .bf16) (w : FVec Ideal S4x2048x1408 .bf16) (i : Fin 2304) (x : Fin 2048) :
    backT d w (ix2 i x) = Ffn.back (rd2 d) (rd3 w) i x := by
  pointwise [backT, Ffn.back]

/-- The reference's gradient in the rows. -/
theorem dh_eq (da db : FVec Ideal S2304x5632 .bf16) (wg wu : FVec Ideal S4x2048x1408 .bf16) :
    addf (backT db wu) (backT da wg) = fun y => Ffn.dh (rd2 da) (rd2 db) (rd3 wg) (rd3 wu) (y 0) (y 1) := by
  funext y
  obtain ⟨i, x, rfl⟩ : ∃ i x, y = ix2 i x := ⟨y 0, y 1, (ix2_eta y).symm⟩
  show backT db wu (ix2 i x) + backT da wg (ix2 i x) = _
  rw [backT_at, backT_at]
  exact add_comm _ _

end Cert.Dh1RefIdeal.Value

namespace Cert.Dh1Cert

open Idealize.ShloMosaic Idealize.ShloMosaic.TcCoe Idealize.SL.Sem

/-- The reference's run keeps its arguments and leaves every counter at zero: it declares no semaphore. -/
theorem frameR (m : (ℓ : Loc Cert.Dh1RefIdeal.nD Cert.Dh1RefIdeal.τ Cert.Dh1RefIdeal.sig) → Buf (Elt Ideal) ℓ) (ρ : Dev Cert.Dh1RefIdeal.nD → PrngReg) :
    θ_run (Cert.Dh1RefIdeal.defs (F := Ideal)) (onTc (τ := Cert.Dh1RefIdeal.τ) (Cert.Dh1RefIdeal.main (F := Ideal))) ⟨m, fun _ => 0, ρ⟩ (fun r => (∀ c : Dev Cert.Dh1RefIdeal.nD,
      r.2.mem ((c.tc : Thread Cert.Dh1RefIdeal.nD Cert.Dh1RefIdeal.τ).loc Cert.Dh1RefIdeal.main_arg0) = m ((c.tc : Thread Cert.Dh1RefIdeal.nD Cert.Dh1RefIdeal.τ).loc Cert.Dh1RefIdeal.main_arg0)
      ∧ r.2.mem ((c.tc : Thread Cert.Dh1RefIdeal.nD Cert.Dh1RefIdeal.τ).loc Cert.Dh1RefIdeal.main_arg1) = m ((c.tc : Thread Cert.Dh1RefIdeal.nD Cert.Dh1RefIdeal.τ).loc Cert.Dh1RefIdeal.main_arg1)
      ∧ r.2.mem ((c.tc : Thread Cert.Dh1RefIdeal.nD Cert.Dh1RefIdeal.τ).loc Cert.Dh1RefIdeal.main_arg2) = m ((c.tc : Thread Cert.Dh1RefIdeal.nD Cert.Dh1RefIdeal.τ).loc Cert.Dh1RefIdeal.main_arg2)
      ∧ r.2.mem ((c.tc : Thread Cert.Dh1RefIdeal.nD Cert.Dh1RefIdeal.τ).loc Cert.Dh1RefIdeal.main_arg3) = m ((c.tc : Thread Cert.Dh1RefIdeal.nD Cert.Dh1RefIdeal.τ).loc Cert.Dh1RefIdeal.main_arg3))
      ∧ r.2.sem = fun _ => 0) :=
  (θ_run Cert.Dh1RefIdeal.defs _ _).mono
    (fun r h => ⟨fun c => (h c).2, Idealize.ShloMosaic.sem_eq_zero_of_no_sems (by decide) r.2⟩)
    (Cert.Dh1RefIdeal.Value.run (F := Ideal) m ρ)

/-- The kernel and the reference end with the same gradient in the rows. -/
theorem algebraic :
    Cert.algebraic_Dh1Ideal_Dh1RefIdeal (hDh1Ideal := Cert.Dh1Ideal.Gen.facts) (hDh1RefIdeal := Cert.Dh1RefIdeal.Gen.facts) := by
  intro m ρ m' ρ' _ hag
  refine ⟨fun c y => Ffn.dh (Ffn.rd2 (Cert.Dh1Ideal.Final.DA m c)) (Ffn.rd2 (Cert.Dh1Ideal.Final.DB m c)) (Ffn.rd3 (Cert.Dh1Ideal.Final.Wg m c)) (Ffn.rd3 (Cert.Dh1Ideal.Final.Wu m c)) (y 0) (y 1), ?_, ?_⟩
  · refine (θ_run Cert.Dh1Ideal.defs _ _).mono (fun r h c => ?_) (Cert.Dh1Ideal.Value.run_blocks m ρ)
    exact ⟨(h c).1.trans (Cert.Dh1Ideal.Final.final m c), (h c).2⟩
  · refine (θ_run Cert.Dh1RefIdeal.defs _ _).mono (fun r h c => ?_) (Cert.Dh1RefIdeal.Value.run m' ρ')
    obtain ⟨h0, ha⟩ := h c
    obtain ⟨a0, a1, a2, a3⟩ := hag c
    rw [a0, a1, a2, a3] at h0
    exact ⟨h0.trans (Cert.Dh1RefIdeal.Value.dh_eq _ _ _ _), ha⟩

end Cert.Dh1Cert

end
-- ==== Proof.InProjFinal.lean ====
/- The input projection and its weight's gradient: what each call computes from its blocks, and its result array. -/
module

public import proofs.«01_k».proof.Proof.Gen.InProjIdeal.Frame
public import proofs.«01_k».proof.Proof.FfnPre
public import proofs.«01_k».proof.Proof.LinSpec
public import Idealize.ShloMosaic.Lib.Pointwise
public import Idealize.ShloMosaic.Lib.Pipeline.ValueKit

@[expose] public section

set_option maxRecDepth 16384

noncomputable section

namespace Cert.InProjIdeal.Final

open Cert.InProjIdeal Cert.InProjIdeal.Gen Idealize.ShloMosaic Idealize.ShloMosaic.TcCoe
open Cert.Ffn (rd2 rd3)

/-- A tile of the projection. -/
theorem p_at (x0 : Vec Ideal S768x2048 .bf16) (x1 : Vec Ideal S1x2048x1024 .bf16) (i : Fin 768) (n : Fin 1024) :
    out0_2 (F := Ideal) x0 x1 (ix2 i n) = ∑ x : Fin 2048, x0 (ix2 i x) * x1 (ix3 0 x n) := by
  unfold out0_2
  frame_out
  pointwise [k0_pay1]

/-- A tile of the weight's gradient. -/
theorem w_at (x0 : Vec Ideal S2304x512 .bf16) (x1 : Vec Ideal S2304x1024 .bf16) (x : Fin 512) (n : Fin 1024) :
    out1_2 (F := Ideal) x0 x1 (ix3 0 x n) = ∑ i : Fin 2304, x0 (ix2 i x) * x1 (ix2 i n) := by
  unfold out1_2
  frame_out
  pointwise [k1_pay1]

/-- Which block of its array each window of the projection is on. -/
theorem idx0 : ∀ t : Fin cfg0.N, win0_0.index t = ![t.val % 3, 0]
    ∧ win0_1.index t = ![t.val / 6, 0, t.val / 3 % 2]
    ∧ win0_2.index t = ![t.val % 3, t.val / 3] :=
  (by decide +kernel : ∀ t : Fin grid0.N, _)

/-- Which block of its array each window of the gradient is on. -/
theorem idx1 : ∀ t : Fin cfg1.N, win1_0.index t = ![0, t.val % 4]
    ∧ win1_1.index t = ![0, t.val / 4]
    ∧ win1_2.index t = ![t.val / 8, t.val % 4, t.val / 4 % 2] :=
  (by decide +kernel : ∀ t : Fin grid1.N, _)

variable (V : (c : Dev nD) → (b : Ref sig .tc) → Buf (Elt Ideal) ((c : Thread nD τ).loc b)) (c : Dev nD)

/-- The rows. -/
abbrev H : FVec Ideal S2304x2048 .bf16 := V c main_arg0
/-- The projection's weight. -/
abbrev W : FVec Ideal S4x2048x2048 .bf16 := V c main_arg1
/-- The projection's cotangent. -/
abbrev DP : FVec Ideal S2304x8192 .bf16 := V c main_arg2

/-- The projection after its call. -/
theorem fin0 : (dat0 V c).arrAt 2 cfg0.N = fun y => Ffn.proj (rd2 (H V c)) (rd3 (W V c)) (y 0) (y 1) := by
  refine (dat0 V c).arrAt_eq_of_covers 2 _ (by decide +kernel) fun t hf y => ?_
  obtain ⟨i, n, rfl⟩ : ∃ (i : Fin 768) (n : Fin 1024), y = ix2 i n := ⟨y 0, y 1, eq_ix2 y⟩
  blk_simp
  show (_ : EReal) = _
  rw [after0_2, p_at]
  refine Finset.sum_congr rfl fun x _ => congrArg₂ (· * ·) ?_ ?_
  · blk_ext [iblk0, idx0 t]
  · blk_ext [iblk0, idx0 t]

/-- The weight's gradient after its call. -/
theorem fin1 : (dat1 V c).arrAt 2 cfg1.N = fun y => Ffn.gradIn (rd2 (H V c)) (rd2 (DP V c)) (y 0) (y 1) (y 2) := by
  refine (dat1 V c).arrAt_eq_of_covers 2 _ (by decide +kernel) fun t hf y => ?_
  obtain ⟨z, i, n, rfl⟩ : ∃ (z : Fin 1) (i : Fin 512) (n : Fin 1024), y = ix3 z i n := ⟨y 0, y 1, y 2, eq_ix3 y⟩
  obtain rfl : z = 0 := Subsingleton.elim _ _
  blk_simp
  show (_ : EReal) = _
  rw [after1_2, w_at]
  refine Finset.sum_congr rfl fun x _ => congrArg₂ (· * ·) ?_ ?_
  · blk_ext [iblk1, idx1 t]
  · blk_ext [iblk1, idx1 t]

end Cert.InProjIdeal.Final

end
-- ==== Proof.InProjRun.lean ====
/- What the two calls of the input projection leave in the result arrays. -/
module

public import proofs.«01_k».proof.Proof.InProjFinal

@[expose] public section

set_option maxRecDepth 16384

noncomputable section

namespace Cert.InProjIdeal.Run

open Cert.InProjIdeal Cert.InProjIdeal.Gen Cert.InProjIdeal.Final
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

/-- The projection at the end. -/
theorem outP : W2 m ρ c (Proc.devRef .tc main_v0) = fun y => Ffn.proj (Ffn.rd2 (H (V0 m ρ) c)) (Ffn.rd3 (W (V0 m ρ) c)) (y 0) (y 1) :=
  (W2_of m ρ c main_v0 (by decide)).trans ((W1_arr m ρ c 2).trans (fin0 (V0 m ρ) c))

/-- The weight's gradient at the end. -/
theorem outW : W2 m ρ c (Proc.devRef .tc main_v1) = fun y => Ffn.gradIn (Ffn.rd2 (H (V0 m ρ) c)) (Ffn.rd2 (DP (V0 m ρ) c)) (y 0) (y 1) (y 2) := by
  refine (W2_arr m ρ c 2).trans ((fin1 (V1 m ρ) c).trans ?_)
  rw [show H (V1 m ρ) c = H (V0 m ρ) c from W1_args m ρ c main_arg0 (by decide),
    show DP (V1 m ρ) c = DP (V0 m ρ) c from W1_args m ρ c main_arg2 (by decide)]

local notation "𝕄" => MT nD τ sig Unit (Elt Ideal) ℕ (UR sig nD τ) ℕ

set_option backward.isDefEq.respectTransparency.types false in
/-- From zero counters every schedule ends with each array outside the calls' own buffers as the last call left it, and the counters at zero. -/
theorem run : θ_run defs (onTc (τ := τ) (main (F := Ideal))) ⟨m, fun _ => 0, ρ⟩ (fun r => (∀ (c : Dev nD) (b : Ref sig .tc),
      ¬ (Proc.devRef .tc b : DevRef τ sig).isScoped → r.2.mem ((c.tc : Thread nD τ).loc b) = W2 m ρ c (Proc.devRef .tc b)) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨fun c b hb => h c _ (mem_uc b hb), funext fun g => hz g (.inr (no_unscoped g.2))⟩)

end Cert.InProjIdeal.Run

end
-- ==== Proof.InProjCert.lean ====
/- The input projection and its weight's gradient: the kernel's run set beside the reference's. -/
module

public import proofs.«01_k».proof.Defs
public import proofs.«01_k».proof.Proof.Gen.InProjRefIdeal.Run
public import proofs.«01_k».proof.Proof.InProjRun

@[expose] public section

set_option maxRecDepth 16384

noncomputable section

namespace Cert.InProjRefIdeal.Value

open Cert.InProjRefIdeal Cert.InProjRefIdeal.Gen Idealize.ShloMosaic Idealize.ShloMosaic.TcCoe
open Cert.Ffn (rd2 rd3)

/-- The reference's projection. -/
def projT (h : FVec Ideal S2304x2048 .bf16) (w : FVec Ideal S4x2048x2048 .bf16) : FVec Ideal S2304x8192 .f32 :=
  Host.dotGeneral dot_S2304x2048_S2048x8192_S2304x8192_1_0_0_1_n_n none (extf .f32 h bitsLt_bf16_f32) (shapeCast _ (transpose S2048x4x2048 [1, 0, 2] (extf .f32 w bitsLt_bf16_f32) transposes_S4x2048x2048_S2048x4x2048_1_0_2) shapeCasts_S2048x4x2048_S2048x8192)

/-- The reference's gradient in the weight. -/
def gradT (h : FVec Ideal S2304x2048 .bf16) (d : FVec Ideal S2304x8192 .bf16) : FVec Ideal S4x2048x2048 .bf16 :=
  truncf .bf16 (transpose S4x2048x2048 [1, 0, 2] (shapeCast _ (transpose S2048x8192 [1, 0] (Host.dotGeneral dot_S2304x8192_S2304x2048_S8192x2048_0_0_1_1_n_n none (extf .f32 d bitsLt_bf16_f32) (extf .f32 h bitsLt_bf16_f32)) transposes_S8192x2048_S2048x8192_1_0) shapeCasts_S2048x8192_S2048x4x2048) transposes_S2048x4x2048_S4x2048x2048_1_0_2) bitsLt_bf16_f32

/-- The projection at an index. -/
theorem projT_at (h : FVec Ideal S2304x2048 .bf16) (w : FVec Ideal S4x2048x2048 .bf16) (i : Fin 2304) (n : Fin 8192) :
    projT h w (ix2 i n) = Ffn.proj (rd2 h) (rd3 w) i n := by
  pointwise [projT, Ffn.proj]

/-- The weight's gradient at an index. -/
theorem gradT_at (h : FVec Ideal S2304x2048 .bf16) (d : FVec Ideal S2304x8192 .bf16) (q : Fin 4) (x e : Fin 2048) :
    gradT h d (ix3 q x e) = Ffn.gradIn (rd2 h) (rd2 d) q x e := by
  pointwise [gradT, Ffn.gradIn]
  exact Finset.sum_congr rfl fun _ _ => mul_comm _ _

/-- The projection as a whole array. -/
theorem proj_eq (h : FVec Ideal S2304x2048 .bf16) (w : FVec Ideal S4x2048x2048 .bf16) : projT h w = fun y => Ffn.proj (rd2 h) (rd3 w) (y 0) (y 1) := by
  funext y
  obtain ⟨i, n, rfl⟩ : ∃ i n, y = ix2 i n := ⟨y 0, y 1, (ix2_eta y).symm⟩
  exact projT_at h w i n

/-- The weight's gradient as a whole array. -/
theorem grad_eq (h : FVec Ideal S2304x2048 .bf16) (d : FVec Ideal S2304x8192 .bf16) : gradT h d = fun y => Ffn.gradIn (rd2 h) (rd2 d) (y 0) (y 1) (y 2) := by
  funext y
  obtain ⟨q, x, e, rfl⟩ : ∃ q x e, y = ix3 q x e := ⟨y 0, y 1, y 2, (ix3_eta y).symm⟩
  exact gradT_at h d q x e

end Cert.InProjRefIdeal.Value

namespace Cert.InProjCert

open Idealize.ShloMosaic Idealize.ShloMosaic.TcCoe Idealize.SL.Sem

/-- The reference's run keeps its arguments and leaves every counter at zero: it declares no semaphore. -/
theorem frameR (m : (ℓ : Loc Cert.InProjRefIdeal.nD Cert.InProjRefIdeal.τ Cert.InProjRefIdeal.sig) → Buf (Elt Ideal) ℓ) (ρ : Dev Cert.InProjRefIdeal.nD → PrngReg) :
    θ_run (Cert.InProjRefIdeal.defs (F := Ideal)) (onTc (τ := Cert.InProjRefIdeal.τ) (Cert.InProjRefIdeal.main (F := Ideal))) ⟨m, fun _ => 0, ρ⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0) :=
  (θ_run Cert.InProjRefIdeal.defs _ _).mono
    (fun r h => ⟨fun c => (h c).2.2, Idealize.ShloMosaic.sem_eq_zero_of_no_sems (by decide) r.2⟩)
    (Cert.InProjRefIdeal.Value.run (F := Ideal) m ρ)

/-- The kernel and the reference end with the same projection and the same gradient in its weight. -/
theorem algebraic :
    Cert.algebraic_InProjIdeal_InProjRefIdeal (hInProjIdeal := Cert.InProjIdeal.Gen.facts) (hInProjRefIdeal := Cert.InProjRefIdeal.Gen.facts) := by
  intro m ρ m' ρ' _ hag
  refine ⟨fun c => Cert.InProjIdeal.Gen.W2 m ρ c (Proc.devRef .tc Cert.InProjIdeal.main_v0), fun c => Cert.InProjIdeal.Gen.W2 m ρ c (Proc.devRef .tc Cert.InProjIdeal.main_v1), ?_, ?_⟩
  · refine (θ_run Cert.InProjIdeal.defs _ _).mono (fun r h c => ?_) (Cert.InProjIdeal.Run.run m ρ)
    have h := h.1 c
    exact ⟨h _ (by decide), h _ (by decide), (h _ (by decide)).trans (Cert.InProjIdeal.Gen.W2_main_arg0 m ρ c),
      (h _ (by decide)).trans (Cert.InProjIdeal.Gen.W2_main_arg1 m ρ c), (h _ (by decide)).trans (Cert.InProjIdeal.Gen.W2_main_arg2 m ρ c)⟩
  · refine (θ_run Cert.InProjRefIdeal.defs _ _).mono (fun r h c => ?_) (Cert.InProjRefIdeal.Value.run m' ρ')
    obtain ⟨h0, h1, ha⟩ := h c
    obtain ⟨a0, a1, a2⟩ := hag c
    rw [a0, a1] at h0
    rw [a0, a2] at h1
    exact ⟨h0.trans ((Cert.InProjRefIdeal.Value.proj_eq _ _).trans (Cert.InProjIdeal.Run.outP m ρ c).symm),
      h1.trans ((Cert.InProjRefIdeal.Value.grad_eq _ _).trans (Cert.InProjIdeal.Run.outW m ρ c).symm), ha⟩

end Cert.InProjCert

end
-- ==== Proof.InProjDxFinal.lean ====
/- The gradient in the input projection's rows: the kernel's result array after its run, summed over the four chips' columns. -/
module

public import proofs.«01_k».proof.Proof.Gen.InProjDxIdeal.Value
public import proofs.«01_k».proof.Proof.FfnPre
public import proofs.«01_k».proof.Proof.LinSpec
public import Idealize.ShloMosaic.Lib.Pipeline.ValueKit
public import Idealize.ShloMosaic.Lib.Pipeline.ReadBack

@[expose] public section

set_option maxRecDepth 16384

noncomputable section

namespace Cert.InProjDxIdeal.Final

open Cert.InProjDxIdeal Cert.InProjDxIdeal.Gen Idealize.ShloMosaic Idealize.ShloMosaic.TcCoe
open Cert.Ffn (rd2 rd3)

/-- One point's part of a tile, from its blocks: a product over a chip's columns. -/
def term (A : Vec Ideal S768x2048 .bf16) (G : Vec Ideal S1x1024x2048 .bf16) (i : Fin 768) (j : Fin 1024) : EReal :=
  ∑ e : Fin 2048, A (ix2 i e) * G (ix3 0 j e)

/-- The product at an index. -/
theorem pay_at (A : Vec Ideal S768x2048 .bf16) (G : Vec Ideal S1x1024x2048 .bf16) (i : Fin 768) (j : Fin 1024) :
    k0_pay1 (F := Ideal) A G (ix2 i j) = term A G i j := by
  pointwise [k0_pay1, term]

variable (m : (ℓ : Loc nD τ sig) → Buf (Elt Ideal) ℓ) (c : Dev nD)

/-- A point's part, from the blocks it finds. -/
def part (t : Fin cfg0.N) (y : S768x1024.Idx) : EReal := term (iblk m c 0 t) (iblk m c 1 t) (y 0) (y 1)

/-- The running sum a point leaves: in the tile at a last point, in the scratch before. -/
def acc (n : ℕ) (h : n < cfg0.N) : Vec Ideal S768x1024 .f32 := if n % 4 = 3 then (outsAt0 m c n h).1 else (outsAt0 m c n h).2

/-- The first point of a tile leaves its own part. -/
theorem acc_first (t : Fin cfg0.N) (h : t.val % 4 = 0) (y : S768x1024.Idx) : acc m c t.val t.isLt y = part m c t y := by
  rw [acc, if_neg (by omega), outsAt0_A m c t h (by omega) (by omega)]
  frame_out
  obtain ⟨i, j, rfl⟩ : ∃ i j, y = ix2 i j := ⟨y 0, y 1, eq_ix2 y⟩
  refine Eq.trans ?_ (pay_at _ _ i j)
  pointwise [k0_pay2]

/-- A later point adds its part to the sum before it. -/
theorem acc_step (t : Fin cfg0.N) (h : ¬t.val % 4 = 0) (y : S768x1024.Idx) :
    acc m c t.val t.isLt y = acc m c (t.val - 1) (Nat.lt_of_le_of_lt (Nat.sub_le _ _) t.isLt) y + part m c t y := by
  obtain ⟨i, j, rfl⟩ : ∃ i j, y = ix2 i j := ⟨y 0, y 1, eq_ix2 y⟩
  unfold acc part
  rw [if_neg (show ¬(t.val - 1) % 4 = 3 by omega), ix2_0, ix2_1, ← pay_at]
  by_cases h3 : t.val % 4 = 3
  · rw [if_pos h3, outsAt0_C m c t h (by omega) h3]
    frame_out
    simp only [read_unread_whole]
    pointwise [k0_pay4]
  · rw [if_neg h3, outsAt0_B m c t h (by omega) h3]
    frame_out
    simp only [read_unread_whole]
    pointwise [k0_pay3]

/-- Which block of its array each window is on. -/
theorem idx : ∀ t : Fin cfg0.N, win0_0.index t = ![t.val / 4 % 3, t.val % 4] ∧ win0_1.index t = ![t.val % 4, t.val / 12, 0]
    ∧ win0_2.index t = ![t.val / 4 % 3, t.val / 12] :=
  (by decide +kernel : ∀ t : Fin grid0.N, _)

/-- The projection's cotangent. -/
abbrev DP : FVec Ideal S2304x8192 .bf16 := m ((c : Thread nD τ).loc main_arg0)
/-- The projection's weight. -/
abbrev W : FVec Ideal S4x2048x2048 .bf16 := m ((c : Thread nD τ).loc main_arg1)

/-- The grid has 24 points. -/
theorem lt_N (t : Fin cfg0.N) : t.val < 24 := lt_of_lt_of_eq t.isLt N_0

/-- A point's part is a chip's part of the whole arrays' gradient. -/
theorem part_eq (t : Fin cfg0.N) (u : Fin 4) (y : S768x1024.Idx) (i : Fin 2304) (j : Fin 2048) (hu : u.val = t.val % 4)
    (hi : i.val = t.val / 4 % 3 * 768 + (y 0).val) (hj : j.val = t.val / 12 * 1024 + (y 1).val) :
    part m c t y = Ffn.dxInPart (rd2 (DP m c)) (rd3 (W m c)) u i j := by
  obtain ⟨a, b, rfl⟩ : ∃ a b, y = ix2 a b := ⟨y 0, y 1, eq_ix2 y⟩
  have ht := lt_N t
  rw [ix2_0] at hi
  rw [ix2_1] at hj
  unfold part term Ffn.dxInPart
  have h0 : ∀ e : Fin 2048, (iblk m c 0 t : Vec Ideal S768x2048 .bf16) (ix2 a e) = DP m c (ix2 i ⟨u.val * 2048 + e.val, by omega⟩) := by
    intro e
    blk_ext [iblk, V, idx t]
  have h1 : ∀ e : Fin 2048, (iblk m c 1 t : Vec Ideal S1x1024x2048 .bf16) (ix3 0 b e) = W m c (ix3 u j e) := by
    intro e
    blk_ext [iblk, V, idx t]
  exact Finset.sum_congr rfl fun e _ => congrArg₂ (· * ·) (h0 e) (h1 e)

/-- The gradient in the rows after the run. -/
theorem final : (dats m 0 c).arrAt 2 cfg0.N = fun y => Ffn.dxIn (rd2 (DP m c)) (rd3 (W m c)) (y 0) (y 1) := by
  refine (dats m 0 c).arrAt_eq_of_covers 2 _ (by decide +kernel) fun t hf y => ?_
  have hf := (flush0_2 t).mp hf
  have ht := lt_N t
  blk_simp
  show (_ : EReal) = _
  rw [after0_2, show (outsAt0 m c t.val t.isLt).1 = acc m c t.val t.isLt from (if_pos (by omega)).symm,
    Pipeline.eq_sum_fin_of_reset_step_apply_of_flush (acc m c) 4 (fun _ => 0) (part m c)
      (fun p h j => (acc_first m c p h j).trans (zero_add _).symm) (acc_step m c) t (by omega) _, zero_add]
  refine (Finset.sum_congr rfl fun u _ => part_eq m c _ u _ _ _ ?_ ?_ ?_).trans (Ffn.dxIn_eq _ _ _ _)
  · show u.val = (4 * (t.val / 4) + u.val) % 4
    omega
  · have hu : u.val < 4 := u.isLt
    blk_simp [idx t]
    dsimp only
    omega
  · have hu : u.val < 4 := u.isLt
    blk_simp [idx t]
    dsimp only
    omega

end Cert.InProjDxIdeal.Final

end
-- ==== Proof.InProjDxCert.lean ====
/- The gradient in the input projection's rows: the kernel's run set beside the reference's. -/
module

public import proofs.«01_k».proof.Defs
public import proofs.«01_k».proof.Proof.Gen.InProjDxRefIdeal.Run
public import proofs.«01_k».proof.Proof.InProjDxFinal
public import Idealize.ShloMosaic.Lib.Pointwise

@[expose] public section

set_option maxRecDepth 16384

noncomputable section

namespace Cert.InProjDxRefIdeal.Value

open Cert.InProjDxRefIdeal Cert.InProjDxRefIdeal.Gen Idealize.ShloMosaic Idealize.ShloMosaic.TcCoe
open Cert.Ffn (rd2 rd3)

/-- The product of a cotangent with the transpose of a weight whose columns lie on four chips. -/
def backT (d : FVec Ideal S2304x8192 .bf16) (w : FVec Ideal S4x2048x2048 .bf16) : FVec Ideal S2304x2048 .f32 :=
  Host.dotGeneral dot_S2304x8192_S2048x8192_S2304x2048_1_1_0_0_n_n none (extf .f32 d bitsLt_bf16_f32) (shapeCast _ (transpose S2048x4x2048 [1, 0, 2] (extf .f32 w bitsLt_bf16_f32) transposes_S4x2048x2048_S2048x4x2048_1_0_2) shapeCasts_S2048x4x2048_S2048x8192)

/-- That product at an index. -/
theorem backT_at (d : FVec Ideal S2304x8192 .bf16) (w : FVec Ideal S4x2048x2048 .bf16) (i : Fin 2304) (x : Fin 2048) :
    backT d w (ix2 i x) = Ffn.dxIn (rd2 d) (rd3 w) i x := by
  pointwise [backT, Ffn.dxIn]

/-- The reference's gradient in the rows. -/
theorem dx_eq (d : FVec Ideal S2304x8192 .bf16) (w : FVec Ideal S4x2048x2048 .bf16) : backT d w = fun y => Ffn.dxIn (rd2 d) (rd3 w) (y 0) (y 1) := by
  funext y
  obtain ⟨i, x, rfl⟩ : ∃ i x, y = ix2 i x := ⟨y 0, y 1, (ix2_eta y).symm⟩
  exact backT_at d w i x

end Cert.InProjDxRefIdeal.Value

namespace Cert.InProjDxCert

open Idealize.ShloMosaic Idealize.ShloMosaic.TcCoe Idealize.SL.Sem

/-- The reference's run keeps its arguments and leaves every counter at zero: it declares no semaphore. -/
theorem frameR (m : (ℓ : Loc Cert.InProjDxRefIdeal.nD Cert.InProjDxRefIdeal.τ Cert.InProjDxRefIdeal.sig) → Buf (Elt Ideal) ℓ) (ρ : Dev Cert.InProjDxRefIdeal.nD → PrngReg) :
    θ_run (Cert.InProjDxRefIdeal.defs (F := Ideal)) (onTc (τ := Cert.InProjDxRefIdeal.τ) (Cert.InProjDxRefIdeal.main (F := Ideal))) ⟨m, fun _ => 0, ρ⟩ (fun r => (∀ c : Dev Cert.InProjDxRefIdeal.nD,
      r.2.mem ((c.tc : Thread Cert.InProjDxRefIdeal.nD Cert.InProjDxRefIdeal.τ).loc Cert.InProjDxRefIdeal.main_arg0) = m ((c.tc : Thread Cert.InProjDxRefIdeal.nD Cert.InProjDxRefIdeal.τ).loc Cert.InProjDxRefIdeal.main_arg0)
      ∧ r.2.mem ((c.tc : Thread Cert.InProjDxRefIdeal.nD Cert.InProjDxRefIdeal.τ).loc Cert.InProjDxRefIdeal.main_arg1) = m ((c.tc : Thread Cert.InProjDxRefIdeal.nD Cert.InProjDxRefIdeal.τ).loc Cert.InProjDxRefIdeal.main_arg1))
      ∧ r.2.sem = fun _ => 0) :=
  (θ_run Cert.InProjDxRefIdeal.defs _ _).mono
    (fun r h => ⟨fun c => (h c).2, Idealize.ShloMosaic.sem_eq_zero_of_no_sems (by decide) r.2⟩)
    (Cert.InProjDxRefIdeal.Value.run (F := Ideal) m ρ)

/-- The kernel and the reference end with the same gradient in the rows. -/
theorem algebraic :
    Cert.algebraic_InProjDxIdeal_InProjDxRefIdeal (hInProjDxIdeal := Cert.InProjDxIdeal.Gen.facts) (hInProjDxRefIdeal := Cert.InProjDxRefIdeal.Gen.facts) := by
  intro m ρ m' ρ' _ hag
  refine ⟨fun c y => Ffn.dxIn (Ffn.rd2 (Cert.InProjDxIdeal.Final.DP m c)) (Ffn.rd3 (Cert.InProjDxIdeal.Final.W m c)) (y 0) (y 1), ?_, ?_⟩
  · refine (θ_run Cert.InProjDxIdeal.defs _ _).mono (fun r h c => ?_) (Cert.InProjDxIdeal.Value.run_blocks m ρ)
    exact ⟨(h c).1.trans (Cert.InProjDxIdeal.Final.final m c), (h c).2⟩
  · refine (θ_run Cert.InProjDxRefIdeal.defs _ _).mono (fun r h c => ?_) (Cert.InProjDxRefIdeal.Value.run m' ρ')
    obtain ⟨h0, ha⟩ := h c
    obtain ⟨a0, a1⟩ := hag c
    rw [a0, a1] at h0
    exact ⟨h0.trans (Cert.InProjDxRefIdeal.Value.dx_eq _ _), ha⟩

end Cert.InProjDxCert

end
-- ==== Proof.UpdSpec.lean ====
/- One step of AdamW for one entry of a weight, with the constants as the programs write them. -/
module

public import Idealize.ShloMosaic.PureOps.Ideal
public import Idealize.ShloMosaic.Lib.Pointwise

@[expose] public section

noncomputable section

namespace Cert.Upd

open Idealize.ShloMosaic

/-- A constant, by its bits. -/
abbrev lit (w : BitVec 32) : EReal := Scalar.ofBits (F := Ideal) .f32 w

/-- The new first moment, of the old one and the gradient. -/
def mom (m g : EReal) : EReal := lit 0x3F666666#32 * m + lit 0x3DCCCCCD#32 * g

/-- The new second moment. -/
def var (v g : EReal) : EReal := lit 0x3F7FBE77#32 * v + lit 0x3A83126F#32 * (g * g)

/-- What the step adds to the weight. -/
def delta (w g m v : EReal) : EReal :=
  lit 0xBA83126F#32 * (Ideal.div (Ideal.div (mom m g) (lit 0x3F26BD02#32)) (Ideal.sqrt (Ideal.div (var v g) (lit 0x3C231ACC#32)) + lit 0x322BCC77#32)
    + lit 0x3C23D70A#32 * w)

variable {R C : ℕ}

/-- A weight as it lies on a chip, with a leading axis of length one. -/
abbrev Arr (R C : ℕ) := Vec Ideal ⟨3, ![1, R, C]⟩ .f32
/-- A part of a weight's gradient. -/
abbrev Part (R C : ℕ) := Vec Ideal ⟨2, ![R, C]⟩ .f32

/-- The gradient, the sum of its two parts. -/
def gradA (p q : Part R C) : Arr R C := fun y => (p (ix2 (y 1) (y 2)) : EReal) + q (ix2 (y 1) (y 2))
/-- What the step adds to the weight, as an array. -/
def deltaA (w m v : Arr R C) (p q : Part R C) : Arr R C := fun y => delta (w y) (gradA p q y) (m y) (v y)
/-- The new first moment as an array. -/
def momA (m : Arr R C) (p q : Part R C) : Arr R C := fun y => mom (m y) (gradA p q y)
/-- The new second moment as an array. -/
def varA (v : Arr R C) (p q : Part R C) : Arr R C := fun y => var (v y) (gradA p q y)

/-- The four results of a weight's step: its gradient, what is added to it, and its two new moments. -/
def Four (w m v : Arr R C) (p q : Part R C) (g d nm nv : Arr R C) : Prop :=
  g = gradA p q ∧ d = deltaA w m v p q ∧ nm = momA m p q ∧ nv = varA v p q

variable {w m v p q : EReal} {W M V : Arr R C} {P Q : Part R C} {y : (⟨3, ![1, R, C]⟩ : Shape).Idx}

/-- A sum of the two parts' entries is the gradient's entry. -/
theorem gradA_of (hp : p = P (ix2 (y 1) (y 2))) (hq : q = Q (ix2 (y 1) (y 2))) : p + q = gradA P Q y := by
  rw [hp, hq]; rfl

/-- A step of the arrays' entries is the step's entry. -/
theorem deltaA_of (hw : w = W y) (hm : m = M y) (hv : v = V y) (hp : p = P (ix2 (y 1) (y 2))) (hq : q = Q (ix2 (y 1) (y 2))) :
    delta w (p + q) m v = deltaA W M V P Q y := by
  rw [hw, hm, hv, hp, hq]; rfl

/-- A first moment of the arrays' entries is the new moment's entry. -/
theorem momA_of (hm : m = M y) (hp : p = P (ix2 (y 1) (y 2))) (hq : q = Q (ix2 (y 1) (y 2))) : mom m (p + q) = momA M P Q y := by
  rw [hm, hp, hq]; rfl

/-- A second moment of the arrays' entries is the new moment's entry. -/
theorem varA_of (hv : v = V y) (hp : p = P (ix2 (y 1) (y 2))) (hq : q = Q (ix2 (y 1) (y 2))) : var v (p + q) = varA V P Q y := by
  rw [hv, hp, hq]; rfl

/-- The arguments determine the four results. -/
theorem Four.eq {w m v w' m' v' : Arr R C} {p q p' q' : Part R C} {g d nm nv g' d' nm' nv' : Arr R C} (h : Four w m v p q g d nm nv) (h' : Four w' m' v' p' q' g' d' nm' nv')
    (hw : w' = w) (hm : m' = m) (hv : v' = v) (hp : p' = p) (hq : q' = q) : g' = g ∧ d' = d ∧ nm' = nm ∧ nv' = nv := by
  subst hw hm hv hp hq
  exact ⟨h'.1.trans h.1.symm, h'.2.1.trans h.2.1.symm, h'.2.2.1.trans h.2.2.1.symm, h'.2.2.2.trans h.2.2.2.symm⟩

/-- The results of a step, of equal arguments. -/
theorem Four.of_args {w m v w' m' v' : Arr R C} {p q p' q' : Part R C} {g d nm nv : Arr R C} (h : Four w m v p q g d nm nv)
    (hw : w = w') (hm : m = m') (hv : v = v') (hp : p = p') (hq : q = q') : Four w' m' v' p' q' g d nm nv := by
  subst hw hm hv hp hq
  exact h

end Cert.Upd

end
-- ==== Proof.UpdateFinal.lean ====
/- The optimiser's step of a weight of each of six shapes: what each call computes from its blocks, and its result arrays. -/
module

public import proofs.«01_k».proof.Proof.Gen.UpdateIdeal.Frame
public import proofs.«01_k».proof.Proof.UpdSpec
public import Idealize.ShloMosaic.Lib.Pointwise
public import Idealize.ShloMosaic.Lib.Pipeline.ValueKit

@[expose] public section

set_option maxRecDepth 16384

noncomputable section

namespace Cert.UpdateIdeal.Final

open Cert.UpdateIdeal Cert.UpdateIdeal.Gen Idealize.ShloMosaic Idealize.ShloMosaic.TcCoe

variable (V : (c : Dev nD) → (b : Ref sig .tc) → Buf (Elt Ideal) ((c : Thread nD τ).loc b)) (c : Dev nD)

/-- The four result tiles of a step of the gate and up weights. -/
theorem tile0 (w m v : Vec Ideal S1x256x1408 .f32) (p q : Vec Ideal S256x1408 .f32) (i : Fin 256) (j : Fin 1408) :
    out0_5 (F := Ideal) w m v p q (ix3 0 i j) = p (ix2 i j) + q (ix2 i j)
    ∧ out0_6 (F := Ideal) w m v p q (ix3 0 i j) = Upd.delta (w (ix3 0 i j)) (p (ix2 i j) + q (ix2 i j)) (m (ix3 0 i j)) (v (ix3 0 i j))
    ∧ out0_7 (F := Ideal) w m v p q (ix3 0 i j) = Upd.mom (m (ix3 0 i j)) (p (ix2 i j) + q (ix2 i j))
    ∧ out0_8 (F := Ideal) w m v p q (ix3 0 i j) = Upd.var (v (ix3 0 i j)) (p (ix2 i j) + q (ix2 i j)) := by
  unfold out0_5 out0_6 out0_7 out0_8
  refine ⟨?_, ?_, ?_, ?_⟩ <;> frame_out
  · pointwise [k0_pay1, k0_pay5]
  · pointwise [k0_pay2, k0_pay8, k0_pay7, k0_pay6, k0_pay5, Upd.delta, Upd.mom, Upd.var]
  · pointwise [k0_pay3, k0_pay6, k0_pay5, Upd.mom]
  · pointwise [k0_pay4, k0_pay7, k0_pay5, Upd.var]

/-- A block of a part of that gradient covers the same rows as the results' blocks. -/
theorem part0 (t : Fin cfg0.N) (i : Fin 256) (j : Fin 1408) :
    iblk0 V c 3 t (ix2 i j) = (V c main_arg3 : FVec Ideal S2048x1408 .f32) (ix2 ((win0_5.blk t).view.emb (ix3 0 i j) 1) ((win0_5.blk t).view.emb (ix3 0 i j) 2))
    ∧ iblk0 V c 4 t (ix2 i j) = (V c main_arg4 : FVec Ideal S2048x1408 .f32) (ix2 ((win0_5.blk t).view.emb (ix3 0 i j) 1) ((win0_5.blk t).view.emb (ix3 0 i j) 2)) :=
  ⟨congrArg (V c main_arg3 : FVec Ideal S2048x1408 .f32) (eq_ix2 (n0 := 2048) (n1 := 1408) _), congrArg (V c main_arg4 : FVec Ideal S2048x1408 .f32) (eq_ix2 (n0 := 2048) (n1 := 1408) _)⟩

/-- The four result arrays of that step after its call. -/
theorem fin0 : Upd.Four (V c main_arg0 : FVec Ideal S1x2048x1408 .f32) (V c main_arg1 : FVec Ideal S1x2048x1408 .f32) (V c main_arg2 : FVec Ideal S1x2048x1408 .f32)
    (V c main_arg3 : FVec Ideal S2048x1408 .f32) (V c main_arg4 : FVec Ideal S2048x1408 .f32)
    ((dat0 V c).arrAt 5 cfg0.N) ((dat0 V c).arrAt 6 cfg0.N) ((dat0 V c).arrAt 7 cfg0.N) ((dat0 V c).arrAt 8 cfg0.N) := by
  refine ⟨(dat0 V c).arrAt_eq_of_covers 5 _ (by decide +kernel) fun t hf y => ?_, (dat0 V c).arrAt_eq_of_covers 6 _ (by decide +kernel) fun t hf y => ?_,
    (dat0 V c).arrAt_eq_of_covers 7 _ (by decide +kernel) fun t hf y => ?_, (dat0 V c).arrAt_eq_of_covers 8 _ (by decide +kernel) fun t hf y => ?_⟩ <;>
  obtain ⟨z, i, j, rfl⟩ : ∃ (z : Fin 1) (i : Fin 256) (j : Fin 1408), y = ix3 z i j := ⟨y 0, y 1, y 2, eq_ix3 y⟩ <;>
  obtain rfl : z = 0 := Subsingleton.elim _ _ <;>
  obtain ⟨hp, hq⟩ := part0 V c t i j
  · exact (congrFun (after0_5 V c t) _).trans ((tile0 _ _ _ _ _ i j).1.trans (Upd.gradA_of hp hq))
  · exact (congrFun (after0_6 V c t) _).trans ((tile0 _ _ _ _ _ i j).2.1.trans (Upd.deltaA_of rfl rfl rfl hp hq))
  · exact (congrFun (after0_7 V c t) _).trans ((tile0 _ _ _ _ _ i j).2.2.1.trans (Upd.momA_of rfl hp hq))
  · exact (congrFun (after0_8 V c t) _).trans ((tile0 _ _ _ _ _ i j).2.2.2.trans (Upd.varA_of rfl hp hq))

/-- The four result tiles of a step of the down weights. -/
theorem tile1 (w m v : Vec Ideal S1x176x2048 .f32) (p q : Vec Ideal S176x2048 .f32) (i : Fin 176) (j : Fin 2048) :
    out1_5 (F := Ideal) w m v p q (ix3 0 i j) = p (ix2 i j) + q (ix2 i j)
    ∧ out1_6 (F := Ideal) w m v p q (ix3 0 i j) = Upd.delta (w (ix3 0 i j)) (p (ix2 i j) + q (ix2 i j)) (m (ix3 0 i j)) (v (ix3 0 i j))
    ∧ out1_7 (F := Ideal) w m v p q (ix3 0 i j) = Upd.mom (m (ix3 0 i j)) (p (ix2 i j) + q (ix2 i j))
    ∧ out1_8 (F := Ideal) w m v p q (ix3 0 i j) = Upd.var (v (ix3 0 i j)) (p (ix2 i j) + q (ix2 i j)) := by
  unfold out1_5 out1_6 out1_7 out1_8
  refine ⟨?_, ?_, ?_, ?_⟩ <;> frame_out
  · pointwise [k1_pay1, k1_pay5]
  · pointwise [k1_pay2, k1_pay8, k1_pay7, k1_pay6, k1_pay5, Upd.delta, Upd.mom, Upd.var]
  · pointwise [k1_pay3, k1_pay6, k1_pay5, Upd.mom]
  · pointwise [k1_pay4, k1_pay7, k1_pay5, Upd.var]

/-- A block of a part of that gradient covers the same rows as the results' blocks. -/
theorem part1 (t : Fin cfg1.N) (i : Fin 176) (j : Fin 2048) :
    iblk1 V c 3 t (ix2 i j) = (V c main_arg8 : FVec Ideal S1408x2048 .f32) (ix2 ((win1_5.blk t).view.emb (ix3 0 i j) 1) ((win1_5.blk t).view.emb (ix3 0 i j) 2))
    ∧ iblk1 V c 4 t (ix2 i j) = (V c main_arg9 : FVec Ideal S1408x2048 .f32) (ix2 ((win1_5.blk t).view.emb (ix3 0 i j) 1) ((win1_5.blk t).view.emb (ix3 0 i j) 2)) :=
  ⟨congrArg (V c main_arg8 : FVec Ideal S1408x2048 .f32) (eq_ix2 (n0 := 1408) (n1 := 2048) _), congrArg (V c main_arg9 : FVec Ideal S1408x2048 .f32) (eq_ix2 (n0 := 1408) (n1 := 2048) _)⟩

/-- The four result arrays of that step after its call. -/
theorem fin1 : Upd.Four (V c main_arg5 : FVec Ideal S1x1408x2048 .f32) (V c main_arg6 : FVec Ideal S1x1408x2048 .f32) (V c main_arg7 : FVec Ideal S1x1408x2048 .f32)
    (V c main_arg8 : FVec Ideal S1408x2048 .f32) (V c main_arg9 : FVec Ideal S1408x2048 .f32)
    ((dat1 V c).arrAt 5 cfg1.N) ((dat1 V c).arrAt 6 cfg1.N) ((dat1 V c).arrAt 7 cfg1.N) ((dat1 V c).arrAt 8 cfg1.N) := by
  refine ⟨(dat1 V c).arrAt_eq_of_covers 5 _ (by decide +kernel) fun t hf y => ?_, (dat1 V c).arrAt_eq_of_covers 6 _ (by decide +kernel) fun t hf y => ?_,
    (dat1 V c).arrAt_eq_of_covers 7 _ (by decide +kernel) fun t hf y => ?_, (dat1 V c).arrAt_eq_of_covers 8 _ (by decide +kernel) fun t hf y => ?_⟩ <;>
  obtain ⟨z, i, j, rfl⟩ : ∃ (z : Fin 1) (i : Fin 176) (j : Fin 2048), y = ix3 z i j := ⟨y 0, y 1, y 2, eq_ix3 y⟩ <;>
  obtain rfl : z = 0 := Subsingleton.elim _ _ <;>
  obtain ⟨hp, hq⟩ := part1 V c t i j
  · exact (congrFun (after1_5 V c t) _).trans ((tile1 _ _ _ _ _ i j).1.trans (Upd.gradA_of hp hq))
  · exact (congrFun (after1_6 V c t) _).trans ((tile1 _ _ _ _ _ i j).2.1.trans (Upd.deltaA_of rfl rfl rfl hp hq))
  · exact (congrFun (after1_7 V c t) _).trans ((tile1 _ _ _ _ _ i j).2.2.1.trans (Upd.momA_of rfl hp hq))
  · exact (congrFun (after1_8 V c t) _).trans ((tile1 _ _ _ _ _ i j).2.2.2.trans (Upd.varA_of rfl hp hq))

/-- The four result tiles of a step of the input projection's weight. -/
theorem tile2 (w m v : Vec Ideal S1x256x2048 .f32) (p q : Vec Ideal S256x2048 .f32) (i : Fin 256) (j : Fin 2048) :
    out2_5 (F := Ideal) w m v p q (ix3 0 i j) = p (ix2 i j) + q (ix2 i j)
    ∧ out2_6 (F := Ideal) w m v p q (ix3 0 i j) = Upd.delta (w (ix3 0 i j)) (p (ix2 i j) + q (ix2 i j)) (m (ix3 0 i j)) (v (ix3 0 i j))
    ∧ out2_7 (F := Ideal) w m v p q (ix3 0 i j) = Upd.mom (m (ix3 0 i j)) (p (ix2 i j) + q (ix2 i j))
    ∧ out2_8 (F := Ideal) w m v p q (ix3 0 i j) = Upd.var (v (ix3 0 i j)) (p (ix2 i j) + q (ix2 i j)) := by
  unfold out2_5 out2_6 out2_7 out2_8
  refine ⟨?_, ?_, ?_, ?_⟩ <;> frame_out
  · pointwise [k2_pay1, k2_pay5]
  · pointwise [k2_pay2, k2_pay8, k2_pay7, k2_pay6, k2_pay5, Upd.delta, Upd.mom, Upd.var]
  · pointwise [k2_pay3, k2_pay6, k2_pay5, Upd.mom]
  · pointwise [k2_pay4, k2_pay7, k2_pay5, Upd.var]

/-- A block of a part of that gradient covers the same rows as the results' blocks. -/
theorem part2 (t : Fin cfg2.N) (i : Fin 256) (j : Fin 2048) :
    iblk2 V c 3 t (ix2 i j) = (V c main_arg13 : FVec Ideal S2048x2048 .f32) (ix2 ((win2_5.blk t).view.emb (ix3 0 i j) 1) ((win2_5.blk t).view.emb (ix3 0 i j) 2))
    ∧ iblk2 V c 4 t (ix2 i j) = (V c main_arg14 : FVec Ideal S2048x2048 .f32) (ix2 ((win2_5.blk t).view.emb (ix3 0 i j) 1) ((win2_5.blk t).view.emb (ix3 0 i j) 2)) :=
  ⟨congrArg (V c main_arg13 : FVec Ideal S2048x2048 .f32) (eq_ix2 (n0 := 2048) (n1 := 2048) _), congrArg (V c main_arg14 : FVec Ideal S2048x2048 .f32) (eq_ix2 (n0 := 2048) (n1 := 2048) _)⟩

/-- The four result arrays of that step after its call. -/
theorem fin2 : Upd.Four (V c main_arg10 : FVec Ideal S1x2048x2048 .f32) (V c main_arg11 : FVec Ideal S1x2048x2048 .f32) (V c main_arg12 : FVec Ideal S1x2048x2048 .f32)
    (V c main_arg13 : FVec Ideal S2048x2048 .f32) (V c main_arg14 : FVec Ideal S2048x2048 .f32)
    ((dat2 V c).arrAt 5 cfg2.N) ((dat2 V c).arrAt 6 cfg2.N) ((dat2 V c).arrAt 7 cfg2.N) ((dat2 V c).arrAt 8 cfg2.N) := by
  refine ⟨(dat2 V c).arrAt_eq_of_covers 5 _ (by decide +kernel) fun t hf y => ?_, (dat2 V c).arrAt_eq_of_covers 6 _ (by decide +kernel) fun t hf y => ?_,
    (dat2 V c).arrAt_eq_of_covers 7 _ (by decide +kernel) fun t hf y => ?_, (dat2 V c).arrAt_eq_of_covers 8 _ (by decide +kernel) fun t hf y => ?_⟩ <;>
  obtain ⟨z, i, j, rfl⟩ : ∃ (z : Fin 1) (i : Fin 256) (j : Fin 2048), y = ix3 z i j := ⟨y 0, y 1, y 2, eq_ix3 y⟩ <;>
  obtain rfl : z = 0 := Subsingleton.elim _ _ <;>
  obtain ⟨hp, hq⟩ := part2 V c t i j
  · exact (congrFun (after2_5 V c t) _).trans ((tile2 _ _ _ _ _ i j).1.trans (Upd.gradA_of hp hq))
  · exact (congrFun (after2_6 V c t) _).trans ((tile2 _ _ _ _ _ i j).2.1.trans (Upd.deltaA_of rfl rfl rfl hp hq))
  · exact (congrFun (after2_7 V c t) _).trans ((tile2 _ _ _ _ _ i j).2.2.1.trans (Upd.momA_of rfl hp hq))
  · exact (congrFun (after2_8 V c t) _).trans ((tile2 _ _ _ _ _ i j).2.2.2.trans (Upd.varA_of rfl hp hq))

/-- The four result tiles of a step of the attention branch's and the output's weights. -/
theorem tile3 (w m v : Vec Ideal S1x256x2048 .f32) (p q : Vec Ideal S256x2048 .f32) (i : Fin 256) (j : Fin 2048) :
    out3_5 (F := Ideal) w m v p q (ix3 0 i j) = p (ix2 i j) + q (ix2 i j)
    ∧ out3_6 (F := Ideal) w m v p q (ix3 0 i j) = Upd.delta (w (ix3 0 i j)) (p (ix2 i j) + q (ix2 i j)) (m (ix3 0 i j)) (v (ix3 0 i j))
    ∧ out3_7 (F := Ideal) w m v p q (ix3 0 i j) = Upd.mom (m (ix3 0 i j)) (p (ix2 i j) + q (ix2 i j))
    ∧ out3_8 (F := Ideal) w m v p q (ix3 0 i j) = Upd.var (v (ix3 0 i j)) (p (ix2 i j) + q (ix2 i j)) := by
  unfold out3_5 out3_6 out3_7 out3_8
  refine ⟨?_, ?_, ?_, ?_⟩ <;> frame_out
  · pointwise [k3_pay1, k3_pay5]
  · pointwise [k3_pay2, k3_pay8, k3_pay7, k3_pay6, k3_pay5, Upd.delta, Upd.mom, Upd.var]
  · pointwise [k3_pay3, k3_pay6, k3_pay5, Upd.mom]
  · pointwise [k3_pay4, k3_pay7, k3_pay5, Upd.var]

/-- A block of a part of that gradient covers the same rows as the results' blocks. -/
theorem part3 (t : Fin cfg3.N) (i : Fin 256) (j : Fin 2048) :
    iblk3 V c 3 t (ix2 i j) = (V c main_arg18 : FVec Ideal S512x2048 .f32) (ix2 ((win3_5.blk t).view.emb (ix3 0 i j) 1) ((win3_5.blk t).view.emb (ix3 0 i j) 2))
    ∧ iblk3 V c 4 t (ix2 i j) = (V c main_arg19 : FVec Ideal S512x2048 .f32) (ix2 ((win3_5.blk t).view.emb (ix3 0 i j) 1) ((win3_5.blk t).view.emb (ix3 0 i j) 2)) :=
  ⟨congrArg (V c main_arg18 : FVec Ideal S512x2048 .f32) (eq_ix2 (n0 := 512) (n1 := 2048) _), congrArg (V c main_arg19 : FVec Ideal S512x2048 .f32) (eq_ix2 (n0 := 512) (n1 := 2048) _)⟩

/-- The four result arrays of that step after its call. -/
theorem fin3 : Upd.Four (V c main_arg15 : FVec Ideal S1x512x2048 .f32) (V c main_arg16 : FVec Ideal S1x512x2048 .f32) (V c main_arg17 : FVec Ideal S1x512x2048 .f32)
    (V c main_arg18 : FVec Ideal S512x2048 .f32) (V c main_arg19 : FVec Ideal S512x2048 .f32)
    ((dat3 V c).arrAt 5 cfg3.N) ((dat3 V c).arrAt 6 cfg3.N) ((dat3 V c).arrAt 7 cfg3.N) ((dat3 V c).arrAt 8 cfg3.N) := by
  refine ⟨(dat3 V c).arrAt_eq_of_covers 5 _ (by decide +kernel) fun t hf y => ?_, (dat3 V c).arrAt_eq_of_covers 6 _ (by decide +kernel) fun t hf y => ?_,
    (dat3 V c).arrAt_eq_of_covers 7 _ (by decide +kernel) fun t hf y => ?_, (dat3 V c).arrAt_eq_of_covers 8 _ (by decide +kernel) fun t hf y => ?_⟩ <;>
  obtain ⟨z, i, j, rfl⟩ : ∃ (z : Fin 1) (i : Fin 256) (j : Fin 2048), y = ix3 z i j := ⟨y 0, y 1, y 2, eq_ix3 y⟩ <;>
  obtain rfl : z = 0 := Subsingleton.elim _ _ <;>
  obtain ⟨hp, hq⟩ := part3 V c t i j
  · exact (congrFun (after3_5 V c t) _).trans ((tile3 _ _ _ _ _ i j).1.trans (Upd.gradA_of hp hq))
  · exact (congrFun (after3_6 V c t) _).trans ((tile3 _ _ _ _ _ i j).2.1.trans (Upd.deltaA_of rfl rfl rfl hp hq))
  · exact (congrFun (after3_7 V c t) _).trans ((tile3 _ _ _ _ _ i j).2.2.1.trans (Upd.momA_of rfl hp hq))
  · exact (congrFun (after3_8 V c t) _).trans ((tile3 _ _ _ _ _ i j).2.2.2.trans (Upd.varA_of rfl hp hq))

/-- The four result tiles of a step of the state-space branch's weight. -/
theorem tile4 (w m v : Vec Ideal S1x1024x512 .f32) (p q : Vec Ideal S1024x512 .f32) (i : Fin 1024) (j : Fin 512) :
    out4_5 (F := Ideal) w m v p q (ix3 0 i j) = p (ix2 i j) + q (ix2 i j)
    ∧ out4_6 (F := Ideal) w m v p q (ix3 0 i j) = Upd.delta (w (ix3 0 i j)) (p (ix2 i j) + q (ix2 i j)) (m (ix3 0 i j)) (v (ix3 0 i j))
    ∧ out4_7 (F := Ideal) w m v p q (ix3 0 i j) = Upd.mom (m (ix3 0 i j)) (p (ix2 i j) + q (ix2 i j))
    ∧ out4_8 (F := Ideal) w m v p q (ix3 0 i j) = Upd.var (v (ix3 0 i j)) (p (ix2 i j) + q (ix2 i j)) := by
  unfold out4_5 out4_6 out4_7 out4_8
  refine ⟨?_, ?_, ?_, ?_⟩ <;> frame_out
  · pointwise [k4_pay1, k4_pay5]
  · pointwise [k4_pay2, k4_pay8, k4_pay7, k4_pay6, k4_pay5, Upd.delta, Upd.mom, Upd.var]
  · pointwise [k4_pay3, k4_pay6, k4_pay5, Upd.mom]
  · pointwise [k4_pay4, k4_pay7, k4_pay5, Upd.var]

/-- A block of a part of that gradient covers the same rows as the results' blocks. -/
theorem part4 (t : Fin cfg4.N) (i : Fin 1024) (j : Fin 512) :
    iblk4 V c 3 t (ix2 i j) = (V c main_arg23 : FVec Ideal S1024x512 .f32) (ix2 ((win4_5.blk t).view.emb (ix3 0 i j) 1) ((win4_5.blk t).view.emb (ix3 0 i j) 2))
    ∧ iblk4 V c 4 t (ix2 i j) = (V c main_arg24 : FVec Ideal S1024x512 .f32) (ix2 ((win4_5.blk t).view.emb (ix3 0 i j) 1) ((win4_5.blk t).view.emb (ix3 0 i j) 2)) :=
  ⟨congrArg (V c main_arg23 : FVec Ideal S1024x512 .f32) (eq_ix2 (n0 := 1024) (n1 := 512) _), congrArg (V c main_arg24 : FVec Ideal S1024x512 .f32) (eq_ix2 (n0 := 1024) (n1 := 512) _)⟩

/-- The four result arrays of that step after its call. -/
theorem fin4 : Upd.Four (V c main_arg20 : FVec Ideal S1x1024x512 .f32) (V c main_arg21 : FVec Ideal S1x1024x512 .f32) (V c main_arg22 : FVec Ideal S1x1024x512 .f32)
    (V c main_arg23 : FVec Ideal S1024x512 .f32) (V c main_arg24 : FVec Ideal S1024x512 .f32)
    ((dat4 V c).arrAt 5 cfg4.N) ((dat4 V c).arrAt 6 cfg4.N) ((dat4 V c).arrAt 7 cfg4.N) ((dat4 V c).arrAt 8 cfg4.N) := by
  refine ⟨(dat4 V c).arrAt_eq_of_covers 5 _ (by decide +kernel) fun t hf y => ?_, (dat4 V c).arrAt_eq_of_covers 6 _ (by decide +kernel) fun t hf y => ?_,
    (dat4 V c).arrAt_eq_of_covers 7 _ (by decide +kernel) fun t hf y => ?_, (dat4 V c).arrAt_eq_of_covers 8 _ (by decide +kernel) fun t hf y => ?_⟩ <;>
  obtain ⟨z, i, j, rfl⟩ : ∃ (z : Fin 1) (i : Fin 1024) (j : Fin 512), y = ix3 z i j := ⟨y 0, y 1, y 2, eq_ix3 y⟩ <;>
  obtain rfl : z = 0 := Subsingleton.elim _ _ <;>
  obtain ⟨hp, hq⟩ := part4 V c t i j
  · exact (congrFun (after4_5 V c t) _).trans ((tile4 _ _ _ _ _ i j).1.trans (Upd.gradA_of hp hq))
  · exact (congrFun (after4_6 V c t) _).trans ((tile4 _ _ _ _ _ i j).2.1.trans (Upd.deltaA_of rfl rfl rfl hp hq))
  · exact (congrFun (after4_7 V c t) _).trans ((tile4 _ _ _ _ _ i j).2.2.1.trans (Upd.momA_of rfl hp hq))
  · exact (congrFun (after4_8 V c t) _).trans ((tile4 _ _ _ _ _ i j).2.2.2.trans (Upd.varA_of rfl hp hq))

/-- The four result tiles of a step of the gated linear unit's weight. -/
theorem tile5 (w m v : Vec Ideal S1x256x1024 .f32) (p q : Vec Ideal S256x1024 .f32) (i : Fin 256) (j : Fin 1024) :
    out5_5 (F := Ideal) w m v p q (ix3 0 i j) = p (ix2 i j) + q (ix2 i j)
    ∧ out5_6 (F := Ideal) w m v p q (ix3 0 i j) = Upd.delta (w (ix3 0 i j)) (p (ix2 i j) + q (ix2 i j)) (m (ix3 0 i j)) (v (ix3 0 i j))
    ∧ out5_7 (F := Ideal) w m v p q (ix3 0 i j) = Upd.mom (m (ix3 0 i j)) (p (ix2 i j) + q (ix2 i j))
    ∧ out5_8 (F := Ideal) w m v p q (ix3 0 i j) = Upd.var (v (ix3 0 i j)) (p (ix2 i j) + q (ix2 i j)) := by
  unfold out5_5 out5_6 out5_7 out5_8
  refine ⟨?_, ?_, ?_, ?_⟩ <;> frame_out
  · pointwise [k5_pay1, k5_pay5]
  · pointwise [k5_pay2, k5_pay8, k5_pay7, k5_pay6, k5_pay5, Upd.delta, Upd.mom, Upd.var]
  · pointwise [k5_pay3, k5_pay6, k5_pay5, Upd.mom]
  · pointwise [k5_pay4, k5_pay7, k5_pay5, Upd.var]

/-- A block of a part of that gradient covers the same rows as the results' blocks. -/
theorem part5 (t : Fin cfg5.N) (i : Fin 256) (j : Fin 1024) :
    iblk5 V c 3 t (ix2 i j) = (V c main_arg28 : FVec Ideal S256x1024 .f32) (ix2 ((win5_5.blk t).view.emb (ix3 0 i j) 1) ((win5_5.blk t).view.emb (ix3 0 i j) 2))
    ∧ iblk5 V c 4 t (ix2 i j) = (V c main_arg29 : FVec Ideal S256x1024 .f32) (ix2 ((win5_5.blk t).view.emb (ix3 0 i j) 1) ((win5_5.blk t).view.emb (ix3 0 i j) 2)) :=
  ⟨congrArg (V c main_arg28 : FVec Ideal S256x1024 .f32) (eq_ix2 (n0 := 256) (n1 := 1024) _), congrArg (V c main_arg29 : FVec Ideal S256x1024 .f32) (eq_ix2 (n0 := 256) (n1 := 1024) _)⟩

/-- The four result arrays of that step after its call. -/
theorem fin5 : Upd.Four (V c main_arg25 : FVec Ideal S1x256x1024 .f32) (V c main_arg26 : FVec Ideal S1x256x1024 .f32) (V c main_arg27 : FVec Ideal S1x256x1024 .f32)
    (V c main_arg28 : FVec Ideal S256x1024 .f32) (V c main_arg29 : FVec Ideal S256x1024 .f32)
    ((dat5 V c).arrAt 5 cfg5.N) ((dat5 V c).arrAt 6 cfg5.N) ((dat5 V c).arrAt 7 cfg5.N) ((dat5 V c).arrAt 8 cfg5.N) := by
  refine ⟨(dat5 V c).arrAt_eq_of_covers 5 _ (by decide +kernel) fun t hf y => ?_, (dat5 V c).arrAt_eq_of_covers 6 _ (by decide +kernel) fun t hf y => ?_,
    (dat5 V c).arrAt_eq_of_covers 7 _ (by decide +kernel) fun t hf y => ?_, (dat5 V c).arrAt_eq_of_covers 8 _ (by decide +kernel) fun t hf y => ?_⟩ <;>
  obtain ⟨z, i, j, rfl⟩ : ∃ (z : Fin 1) (i : Fin 256) (j : Fin 1024), y = ix3 z i j := ⟨y 0, y 1, y 2, eq_ix3 y⟩ <;>
  obtain rfl : z = 0 := Subsingleton.elim _ _ <;>
  obtain ⟨hp, hq⟩ := part5 V c t i j
  · exact (congrFun (after5_5 V c t) _).trans ((tile5 _ _ _ _ _ i j).1.trans (Upd.gradA_of hp hq))
  · exact (congrFun (after5_6 V c t) _).trans ((tile5 _ _ _ _ _ i j).2.1.trans (Upd.deltaA_of rfl rfl rfl hp hq))
  · exact (congrFun (after5_7 V c t) _).trans ((tile5 _ _ _ _ _ i j).2.2.1.trans (Upd.momA_of rfl hp hq))
  · exact (congrFun (after5_8 V c t) _).trans ((tile5 _ _ _ _ _ i j).2.2.2.trans (Upd.varA_of rfl hp hq))

end Cert.UpdateIdeal.Final

end
-- ==== Proof.UpdateRun.lean ====
/- What the six optimiser calls leave in the result arrays. -/
module

public import proofs.«01_k».proof.Proof.UpdateFinal

@[expose] public section

set_option maxRecDepth 16384

noncomputable section

namespace Cert.UpdateIdeal.Run

open Cert.UpdateIdeal Cert.UpdateIdeal.Gen Cert.UpdateIdeal.Final
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

/-- The four results of a step of the gate and up weights, at the end. -/
theorem out0 : Upd.Four (m ((c : Thread nD τ).loc main_arg0) : FVec Ideal S1x2048x1408 .f32) (m ((c : Thread nD τ).loc main_arg1) : FVec Ideal S1x2048x1408 .f32) (m ((c : Thread nD τ).loc main_arg2) : FVec Ideal S1x2048x1408 .f32) (m ((c : Thread nD τ).loc main_arg3) : FVec Ideal S2048x1408 .f32) (m ((c : Thread nD τ).loc main_arg4) : FVec Ideal S2048x1408 .f32)
    (W6 m ρ c (Proc.devRef .tc main_v0_0)) (W6 m ρ c (Proc.devRef .tc main_v0_1)) (W6 m ρ c (Proc.devRef .tc main_v0_2)) (W6 m ρ c (Proc.devRef .tc main_v0_3)) := by
  have a := W0_args m ρ c
  obtain ⟨h0, h1, h2, h3⟩ := (fin0 (V0 m ρ) c).of_args (a main_arg0 (by decide)) (a main_arg1 (by decide)) (a main_arg2 (by decide)) (a main_arg3 (by decide)) (a main_arg4 (by decide))
  exact ⟨((W6_of m ρ c main_v0_0 (by decide)).trans ((W5_of m ρ c main_v0_0 (by decide)).trans ((W4_of m ρ c main_v0_0 (by decide)).trans ((W3_of m ρ c main_v0_0 (by decide)).trans ((W2_of m ρ c main_v0_0 (by decide)).trans (W1_arr m ρ c 5)))))).trans h0, ((W6_of m ρ c main_v0_1 (by decide)).trans ((W5_of m ρ c main_v0_1 (by decide)).trans ((W4_of m ρ c main_v0_1 (by decide)).trans ((W3_of m ρ c main_v0_1 (by decide)).trans ((W2_of m ρ c main_v0_1 (by decide)).trans (W1_arr m ρ c 6)))))).trans h1, ((W6_of m ρ c main_v0_2 (by decide)).trans ((W5_of m ρ c main_v0_2 (by decide)).trans ((W4_of m ρ c main_v0_2 (by decide)).trans ((W3_of m ρ c main_v0_2 (by decide)).trans ((W2_of m ρ c main_v0_2 (by decide)).trans (W1_arr m ρ c 7)))))).trans h2, ((W6_of m ρ c main_v0_3 (by decide)).trans ((W5_of m ρ c main_v0_3 (by decide)).trans ((W4_of m ρ c main_v0_3 (by decide)).trans ((W3_of m ρ c main_v0_3 (by decide)).trans ((W2_of m ρ c main_v0_3 (by decide)).trans (W1_arr m ρ c 8)))))).trans h3⟩

/-- The four results of a step of the down weights, at the end. -/
theorem out1 : Upd.Four (m ((c : Thread nD τ).loc main_arg5) : FVec Ideal S1x1408x2048 .f32) (m ((c : Thread nD τ).loc main_arg6) : FVec Ideal S1x1408x2048 .f32) (m ((c : Thread nD τ).loc main_arg7) : FVec Ideal S1x1408x2048 .f32) (m ((c : Thread nD τ).loc main_arg8) : FVec Ideal S1408x2048 .f32) (m ((c : Thread nD τ).loc main_arg9) : FVec Ideal S1408x2048 .f32)
    (W6 m ρ c (Proc.devRef .tc main_v1_0)) (W6 m ρ c (Proc.devRef .tc main_v1_1)) (W6 m ρ c (Proc.devRef .tc main_v1_2)) (W6 m ρ c (Proc.devRef .tc main_v1_3)) := by
  have a := W1_args m ρ c
  obtain ⟨h0, h1, h2, h3⟩ := (fin1 (V1 m ρ) c).of_args (a main_arg5 (by decide)) (a main_arg6 (by decide)) (a main_arg7 (by decide)) (a main_arg8 (by decide)) (a main_arg9 (by decide))
  exact ⟨((W6_of m ρ c main_v1_0 (by decide)).trans ((W5_of m ρ c main_v1_0 (by decide)).trans ((W4_of m ρ c main_v1_0 (by decide)).trans ((W3_of m ρ c main_v1_0 (by decide)).trans (W2_arr m ρ c 5))))).trans h0, ((W6_of m ρ c main_v1_1 (by decide)).trans ((W5_of m ρ c main_v1_1 (by decide)).trans ((W4_of m ρ c main_v1_1 (by decide)).trans ((W3_of m ρ c main_v1_1 (by decide)).trans (W2_arr m ρ c 6))))).trans h1, ((W6_of m ρ c main_v1_2 (by decide)).trans ((W5_of m ρ c main_v1_2 (by decide)).trans ((W4_of m ρ c main_v1_2 (by decide)).trans ((W3_of m ρ c main_v1_2 (by decide)).trans (W2_arr m ρ c 7))))).trans h2, ((W6_of m ρ c main_v1_3 (by decide)).trans ((W5_of m ρ c main_v1_3 (by decide)).trans ((W4_of m ρ c main_v1_3 (by decide)).trans ((W3_of m ρ c main_v1_3 (by decide)).trans (W2_arr m ρ c 8))))).trans h3⟩

/-- The four results of a step of the input projection's weight, at the end. -/
theorem out2 : Upd.Four (m ((c : Thread nD τ).loc main_arg10) : FVec Ideal S1x2048x2048 .f32) (m ((c : Thread nD τ).loc main_arg11) : FVec Ideal S1x2048x2048 .f32) (m ((c : Thread nD τ).loc main_arg12) : FVec Ideal S1x2048x2048 .f32) (m ((c : Thread nD τ).loc main_arg13) : FVec Ideal S2048x2048 .f32) (m ((c : Thread nD τ).loc main_arg14) : FVec Ideal S2048x2048 .f32)
    (W6 m ρ c (Proc.devRef .tc main_v2_0)) (W6 m ρ c (Proc.devRef .tc main_v2_1)) (W6 m ρ c (Proc.devRef .tc main_v2_2)) (W6 m ρ c (Proc.devRef .tc main_v2_3)) := by
  have a := W2_args m ρ c
  obtain ⟨h0, h1, h2, h3⟩ := (fin2 (V2 m ρ) c).of_args (a main_arg10 (by decide)) (a main_arg11 (by decide)) (a main_arg12 (by decide)) (a main_arg13 (by decide)) (a main_arg14 (by decide))
  exact ⟨((W6_of m ρ c main_v2_0 (by decide)).trans ((W5_of m ρ c main_v2_0 (by decide)).trans ((W4_of m ρ c main_v2_0 (by decide)).trans (W3_arr m ρ c 5)))).trans h0, ((W6_of m ρ c main_v2_1 (by decide)).trans ((W5_of m ρ c main_v2_1 (by decide)).trans ((W4_of m ρ c main_v2_1 (by decide)).trans (W3_arr m ρ c 6)))).trans h1, ((W6_of m ρ c main_v2_2 (by decide)).trans ((W5_of m ρ c main_v2_2 (by decide)).trans ((W4_of m ρ c main_v2_2 (by decide)).trans (W3_arr m ρ c 7)))).trans h2, ((W6_of m ρ c main_v2_3 (by decide)).trans ((W5_of m ρ c main_v2_3 (by decide)).trans ((W4_of m ρ c main_v2_3 (by decide)).trans (W3_arr m ρ c 8)))).trans h3⟩

/-- The four results of a step of the attention branch's and the output's weights, at the end. -/
theorem out3 : Upd.Four (m ((c : Thread nD τ).loc main_arg15) : FVec Ideal S1x512x2048 .f32) (m ((c : Thread nD τ).loc main_arg16) : FVec Ideal S1x512x2048 .f32) (m ((c : Thread nD τ).loc main_arg17) : FVec Ideal S1x512x2048 .f32) (m ((c : Thread nD τ).loc main_arg18) : FVec Ideal S512x2048 .f32) (m ((c : Thread nD τ).loc main_arg19) : FVec Ideal S512x2048 .f32)
    (W6 m ρ c (Proc.devRef .tc main_v3_0)) (W6 m ρ c (Proc.devRef .tc main_v3_1)) (W6 m ρ c (Proc.devRef .tc main_v3_2)) (W6 m ρ c (Proc.devRef .tc main_v3_3)) := by
  have a := W3_args m ρ c
  obtain ⟨h0, h1, h2, h3⟩ := (fin3 (V3 m ρ) c).of_args (a main_arg15 (by decide)) (a main_arg16 (by decide)) (a main_arg17 (by decide)) (a main_arg18 (by decide)) (a main_arg19 (by decide))
  exact ⟨((W6_of m ρ c main_v3_0 (by decide)).trans ((W5_of m ρ c main_v3_0 (by decide)).trans (W4_arr m ρ c 5))).trans h0, ((W6_of m ρ c main_v3_1 (by decide)).trans ((W5_of m ρ c main_v3_1 (by decide)).trans (W4_arr m ρ c 6))).trans h1, ((W6_of m ρ c main_v3_2 (by decide)).trans ((W5_of m ρ c main_v3_2 (by decide)).trans (W4_arr m ρ c 7))).trans h2, ((W6_of m ρ c main_v3_3 (by decide)).trans ((W5_of m ρ c main_v3_3 (by decide)).trans (W4_arr m ρ c 8))).trans h3⟩

/-- The four results of a step of the state-space branch's weight, at the end. -/
theorem out4 : Upd.Four (m ((c : Thread nD τ).loc main_arg20) : FVec Ideal S1x1024x512 .f32) (m ((c : Thread nD τ).loc main_arg21) : FVec Ideal S1x1024x512 .f32) (m ((c : Thread nD τ).loc main_arg22) : FVec Ideal S1x1024x512 .f32) (m ((c : Thread nD τ).loc main_arg23) : FVec Ideal S1024x512 .f32) (m ((c : Thread nD τ).loc main_arg24) : FVec Ideal S1024x512 .f32)
    (W6 m ρ c (Proc.devRef .tc main_v4_0)) (W6 m ρ c (Proc.devRef .tc main_v4_1)) (W6 m ρ c (Proc.devRef .tc main_v4_2)) (W6 m ρ c (Proc.devRef .tc main_v4_3)) := by
  have a := W4_args m ρ c
  obtain ⟨h0, h1, h2, h3⟩ := (fin4 (V4 m ρ) c).of_args (a main_arg20 (by decide)) (a main_arg21 (by decide)) (a main_arg22 (by decide)) (a main_arg23 (by decide)) (a main_arg24 (by decide))
  exact ⟨((W6_of m ρ c main_v4_0 (by decide)).trans (W5_arr m ρ c 5)).trans h0, ((W6_of m ρ c main_v4_1 (by decide)).trans (W5_arr m ρ c 6)).trans h1, ((W6_of m ρ c main_v4_2 (by decide)).trans (W5_arr m ρ c 7)).trans h2, ((W6_of m ρ c main_v4_3 (by decide)).trans (W5_arr m ρ c 8)).trans h3⟩

/-- The four results of a step of the gated linear unit's weight, at the end. -/
theorem out5 : Upd.Four (m ((c : Thread nD τ).loc main_arg25) : FVec Ideal S1x256x1024 .f32) (m ((c : Thread nD τ).loc main_arg26) : FVec Ideal S1x256x1024 .f32) (m ((c : Thread nD τ).loc main_arg27) : FVec Ideal S1x256x1024 .f32) (m ((c : Thread nD τ).loc main_arg28) : FVec Ideal S256x1024 .f32) (m ((c : Thread nD τ).loc main_arg29) : FVec Ideal S256x1024 .f32)
    (W6 m ρ c (Proc.devRef .tc main_v5_0)) (W6 m ρ c (Proc.devRef .tc main_v5_1)) (W6 m ρ c (Proc.devRef .tc main_v5_2)) (W6 m ρ c (Proc.devRef .tc main_v5_3)) := by
  have a := W5_args m ρ c
  obtain ⟨h0, h1, h2, h3⟩ := (fin5 (V5 m ρ) c).of_args (a main_arg25 (by decide)) (a main_arg26 (by decide)) (a main_arg27 (by decide)) (a main_arg28 (by decide)) (a main_arg29 (by decide))
  exact ⟨(W6_arr m ρ c 5).trans h0, (W6_arr m ρ c 6).trans h1, (W6_arr m ρ c 7).trans h2, (W6_arr m ρ c 8).trans h3⟩

local notation "𝕄" => MT nD τ sig Unit (Elt Ideal) ℕ (UR sig nD τ) ℕ

set_option backward.isDefEq.respectTransparency.types false in
/-- From zero counters every schedule ends with each array outside the calls' own buffers as the last call left it, and the counters at zero. -/
theorem run : θ_run defs (onTc (τ := τ) (main (F := Ideal))) ⟨m, fun _ => 0, ρ⟩ (fun r => (∀ (c : Dev nD) (b : Ref sig .tc),
      ¬ (Proc.devRef .tc b : DevRef τ sig).isScoped → r.2.mem ((c.tc : Thread nD τ).loc b) = W6 m ρ c (Proc.devRef .tc b)) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨fun c b hb => h c _ (mem_uc b hb), funext fun g => hz g (.inr (no_unscoped g.2))⟩)

end Cert.UpdateIdeal.Run

end
-- ==== Proof.UpdateCert.lean ====
/- The optimiser's step: the kernel's run set beside the reference's. -/
module

public import proofs.«01_k».proof.Defs
public import proofs.«01_k».proof.Proof.Gen.UpdateRefIdeal.Run
public import proofs.«01_k».proof.Proof.UpdateRun

@[expose] public section

set_option maxRecDepth 16384

noncomputable section

namespace Cert.UpdateRefIdeal.Value

open Cert.UpdateRefIdeal Cert.UpdateRefIdeal.Gen Idealize.ShloMosaic Idealize.ShloMosaic.TcCoe

variable {R C : ℕ}

/-- The four results of the reference's step of a weight. -/
theorem four (hs : Shape.BroadcastsInDim S_ ⟨3, ![1, R, C]⟩ ![]) (hg : Shape.BroadcastsInDim ⟨2, ![R, C]⟩ ⟨3, ![1, R, C]⟩ ![1, 2])
    (w m v : FVec Ideal ⟨3, ![1, R, C]⟩ .f32) (p q : FVec Ideal ⟨2, ![R, C]⟩ .f32) {g : FVec Ideal ⟨3, ![1, R, C]⟩ .f32} (hG : g = broadcastInDim ⟨3, ![1, R, C]⟩ ![1, 2] hg (addf p q)) :
    Upd.Four w m v p q g
      (mulf (broadcastInDim ⟨3, ![1, R, C]⟩ ![] hs (constant S_ .f32 0xBA83126F#32)) (addf (Host.divf (Host.divf (addf (mulf (broadcastInDim ⟨3, ![1, R, C]⟩ ![] hs (constant S_ .f32 0x3F666666#32)) m) (mulf (broadcastInDim ⟨3, ![1, R, C]⟩ ![] hs (constant S_ .f32 0x3DCCCCCD#32)) g)) (broadcastInDim ⟨3, ![1, R, C]⟩ ![] hs (constant S_ .f32 0x3F26BD02#32))) (addf (Host.sqrt (Host.divf (addf (mulf (broadcastInDim ⟨3, ![1, R, C]⟩ ![] hs (constant S_ .f32 0x3F7FBE77#32)) v) (mulf (broadcastInDim ⟨3, ![1, R, C]⟩ ![] hs (constant S_ .f32 0x3A83126F#32)) (mulf g g))) (broadcastInDim ⟨3, ![1, R, C]⟩ ![] hs (constant S_ .f32 0x3C231ACC#32)))) (broadcastInDim ⟨3, ![1, R, C]⟩ ![] hs (constant S_ .f32 0x322BCC77#32)))) (mulf (broadcastInDim ⟨3, ![1, R, C]⟩ ![] hs (constant S_ .f32 0x3C23D70A#32)) w)) : FVec Ideal ⟨3, ![1, R, C]⟩ .f32)
      (addf (mulf (broadcastInDim ⟨3, ![1, R, C]⟩ ![] hs (constant S_ .f32 0x3F666666#32)) m) (mulf (broadcastInDim ⟨3, ![1, R, C]⟩ ![] hs (constant S_ .f32 0x3DCCCCCD#32)) g) : FVec Ideal ⟨3, ![1, R, C]⟩ .f32)
      (addf (mulf (broadcastInDim ⟨3, ![1, R, C]⟩ ![] hs (constant S_ .f32 0x3F7FBE77#32)) v) (mulf (broadcastInDim ⟨3, ![1, R, C]⟩ ![] hs (constant S_ .f32 0x3A83126F#32)) (mulf g g)) : FVec Ideal ⟨3, ![1, R, C]⟩ .f32) := by
  have e : g = Upd.gradA p q := by
    subst hG
    funext y
    obtain ⟨z, i, j, rfl⟩ : ∃ (z : Fin 1) (i : Fin R) (j : Fin C), y = ix3 z i j := ⟨y 0, y 1, y 2, eq_ix3 y⟩
    pointwise [Upd.gradA]
    refine congrArg₂ (· + ·) (congrArg p ?_) (congrArg q ?_) <;> rw [Shape.Idx.norm2] <;> refine congrArg₂ ix2 ?_ ?_ <;> split <;> rename_i h <;>
      first
        | rfl
        | exact Fin.ext (by have := i.isLt; have h : R = 1 := h; show 0 = i.val; omega)
        | exact Fin.ext (by have := j.isLt; have h : C = 1 := h; show 0 = j.val; omega)
  subst e
  refine ⟨rfl, ?_, ?_, ?_⟩ <;> funext y <;>
    obtain ⟨z, i, j, rfl⟩ : ∃ (z : Fin 1) (i : Fin R) (j : Fin C), y = ix3 z i j := ⟨y 0, y 1, y 2, eq_ix3 y⟩
  · pointwise [Upd.deltaA, Upd.delta, Upd.mom, Upd.var]
  · pointwise [Upd.momA, Upd.mom]
  · pointwise [Upd.varA, Upd.var]

end Cert.UpdateRefIdeal.Value

namespace Cert.UpdateCert

open Idealize.ShloMosaic Idealize.ShloMosaic.TcCoe Idealize.SL.Sem

/-- The reference's run keeps its arguments and leaves every counter at zero: it declares no semaphore. -/
theorem frameR (m : (ℓ : Loc Cert.UpdateRefIdeal.nD Cert.UpdateRefIdeal.τ Cert.UpdateRefIdeal.sig) → Buf (Elt Ideal) ℓ) (ρ : Dev Cert.UpdateRefIdeal.nD → PrngReg) :
    θ_run (Cert.UpdateRefIdeal.defs (F := Ideal)) (onTc (τ := Cert.UpdateRefIdeal.τ) (Cert.UpdateRefIdeal.main (F := Ideal))) ⟨m, fun _ => 0, ρ⟩ (fun r => (∀ c : Dev Cert.UpdateRefIdeal.nD,
      r.2.mem ((c.tc : Thread Cert.UpdateRefIdeal.nD Cert.UpdateRefIdeal.τ).loc Cert.UpdateRefIdeal.main_arg0) = m ((c.tc : Thread Cert.UpdateRefIdeal.nD Cert.UpdateRefIdeal.τ).loc Cert.UpdateRefIdeal.main_arg0)
      ∧ r.2.mem ((c.tc : Thread Cert.UpdateRefIdeal.nD Cert.UpdateRefIdeal.τ).loc Cert.UpdateRefIdeal.main_arg1) = m ((c.tc : Thread Cert.UpdateRefIdeal.nD Cert.UpdateRefIdeal.τ).loc Cert.UpdateRefIdeal.main_arg1)
      ∧ r.2.mem ((c.tc : Thread Cert.UpdateRefIdeal.nD Cert.UpdateRefIdeal.τ).loc Cert.UpdateRefIdeal.main_arg2) = m ((c.tc : Thread Cert.UpdateRefIdeal.nD Cert.UpdateRefIdeal.τ).loc Cert.UpdateRefIdeal.main_arg2)
      ∧ r.2.mem ((c.tc : Thread Cert.UpdateRefIdeal.nD Cert.UpdateRefIdeal.τ).loc Cert.UpdateRefIdeal.main_arg3) = m ((c.tc : Thread Cert.UpdateRefIdeal.nD Cert.UpdateRefIdeal.τ).loc Cert.UpdateRefIdeal.main_arg3)
      ∧ r.2.mem ((c.tc : Thread Cert.UpdateRefIdeal.nD Cert.UpdateRefIdeal.τ).loc Cert.UpdateRefIdeal.main_arg4) = m ((c.tc : Thread Cert.UpdateRefIdeal.nD Cert.UpdateRefIdeal.τ).loc Cert.UpdateRefIdeal.main_arg4)
      ∧ r.2.mem ((c.tc : Thread Cert.UpdateRefIdeal.nD Cert.UpdateRefIdeal.τ).loc Cert.UpdateRefIdeal.main_arg5) = m ((c.tc : Thread Cert.UpdateRefIdeal.nD Cert.UpdateRefIdeal.τ).loc Cert.UpdateRefIdeal.main_arg5)
      ∧ r.2.mem ((c.tc : Thread Cert.UpdateRefIdeal.nD Cert.UpdateRefIdeal.τ).loc Cert.UpdateRefIdeal.main_arg6) = m ((c.tc : Thread Cert.UpdateRefIdeal.nD Cert.UpdateRefIdeal.τ).loc Cert.UpdateRefIdeal.main_arg6)
      ∧ r.2.mem ((c.tc : Thread Cert.UpdateRefIdeal.nD Cert.UpdateRefIdeal.τ).loc Cert.UpdateRefIdeal.main_arg7) = m ((c.tc : Thread Cert.UpdateRefIdeal.nD Cert.UpdateRefIdeal.τ).loc Cert.UpdateRefIdeal.main_arg7)
      ∧ r.2.mem ((c.tc : Thread Cert.UpdateRefIdeal.nD Cert.UpdateRefIdeal.τ).loc Cert.UpdateRefIdeal.main_arg8) = m ((c.tc : Thread Cert.UpdateRefIdeal.nD Cert.UpdateRefIdeal.τ).loc Cert.UpdateRefIdeal.main_arg8)
      ∧ r.2.mem ((c.tc : Thread Cert.UpdateRefIdeal.nD Cert.UpdateRefIdeal.τ).loc Cert.UpdateRefIdeal.main_arg9) = m ((c.tc : Thread Cert.UpdateRefIdeal.nD Cert.UpdateRefIdeal.τ).loc Cert.UpdateRefIdeal.main_arg9)
      ∧ r.2.mem ((c.tc : Thread Cert.UpdateRefIdeal.nD Cert.UpdateRefIdeal.τ).loc Cert.UpdateRefIdeal.main_arg10) = m ((c.tc : Thread Cert.UpdateRefIdeal.nD Cert.UpdateRefIdeal.τ).loc Cert.UpdateRefIdeal.main_arg10)
      ∧ r.2.mem ((c.tc : Thread Cert.UpdateRefIdeal.nD Cert.UpdateRefIdeal.τ).loc Cert.UpdateRefIdeal.main_arg11) = m ((c.tc : Thread Cert.UpdateRefIdeal.nD Cert.UpdateRefIdeal.τ).loc Cert.UpdateRefIdeal.main_arg11)
      ∧ r.2.mem ((c.tc : Thread Cert.UpdateRefIdeal.nD Cert.UpdateRefIdeal.τ).loc Cert.UpdateRefIdeal.main_arg12) = m ((c.tc : Thread Cert.UpdateRefIdeal.nD Cert.UpdateRefIdeal.τ).loc Cert.UpdateRefIdeal.main_arg12)
      ∧ r.2.mem ((c.tc : Thread Cert.UpdateRefIdeal.nD Cert.UpdateRefIdeal.τ).loc Cert.UpdateRefIdeal.main_arg13) = m ((c.tc : Thread Cert.UpdateRefIdeal.nD Cert.UpdateRefIdeal.τ).loc Cert.UpdateRefIdeal.main_arg13)
      ∧ r.2.mem ((c.tc : Thread Cert.UpdateRefIdeal.nD Cert.UpdateRefIdeal.τ).loc Cert.UpdateRefIdeal.main_arg14) = m ((c.tc : Thread Cert.UpdateRefIdeal.nD Cert.UpdateRefIdeal.τ).loc Cert.UpdateRefIdeal.main_arg14)
      ∧ r.2.mem ((c.tc : Thread Cert.UpdateRefIdeal.nD Cert.UpdateRefIdeal.τ).loc Cert.UpdateRefIdeal.main_arg15) = m ((c.tc : Thread Cert.UpdateRefIdeal.nD Cert.UpdateRefIdeal.τ).loc Cert.UpdateRefIdeal.main_arg15)
      ∧ r.2.mem ((c.tc : Thread Cert.UpdateRefIdeal.nD Cert.UpdateRefIdeal.τ).loc Cert.UpdateRefIdeal.main_arg16) = m ((c.tc : Thread Cert.UpdateRefIdeal.nD Cert.UpdateRefIdeal.τ).loc Cert.UpdateRefIdeal.main_arg16)
      ∧ r.2.mem ((c.tc : Thread Cert.UpdateRefIdeal.nD Cert.UpdateRefIdeal.τ).loc Cert.UpdateRefIdeal.main_arg17) = m ((c.tc : Thread Cert.UpdateRefIdeal.nD Cert.UpdateRefIdeal.τ).loc Cert.UpdateRefIdeal.main_arg17)
      ∧ r.2.mem ((c.tc : Thread Cert.UpdateRefIdeal.nD Cert.UpdateRefIdeal.τ).loc Cert.UpdateRefIdeal.main_arg18) = m ((c.tc : Thread Cert.UpdateRefIdeal.nD Cert.UpdateRefIdeal.τ).loc Cert.UpdateRefIdeal.main_arg18)
      ∧ r.2.mem ((c.tc : Thread Cert.UpdateRefIdeal.nD Cert.UpdateRefIdeal.τ).loc Cert.UpdateRefIdeal.main_arg19) = m ((c.tc : Thread Cert.UpdateRefIdeal.nD Cert.UpdateRefIdeal.τ).loc Cert.UpdateRefIdeal.main_arg19)
      ∧ r.2.mem ((c.tc : Thread Cert.UpdateRefIdeal.nD Cert.UpdateRefIdeal.τ).loc Cert.UpdateRefIdeal.main_arg20) = m ((c.tc : Thread Cert.UpdateRefIdeal.nD Cert.UpdateRefIdeal.τ).loc Cert.UpdateRefIdeal.main_arg20)
      ∧ r.2.mem ((c.tc : Thread Cert.UpdateRefIdeal.nD Cert.UpdateRefIdeal.τ).loc Cert.UpdateRefIdeal.main_arg21) = m ((c.tc : Thread Cert.UpdateRefIdeal.nD Cert.UpdateRefIdeal.τ).loc Cert.UpdateRefIdeal.main_arg21)
      ∧ r.2.mem ((c.tc : Thread Cert.UpdateRefIdeal.nD Cert.UpdateRefIdeal.τ).loc Cert.UpdateRefIdeal.main_arg22) = m ((c.tc : Thread Cert.UpdateRefIdeal.nD Cert.UpdateRefIdeal.τ).loc Cert.UpdateRefIdeal.main_arg22)
      ∧ r.2.mem ((c.tc : Thread Cert.UpdateRefIdeal.nD Cert.UpdateRefIdeal.τ).loc Cert.UpdateRefIdeal.main_arg23) = m ((c.tc : Thread Cert.UpdateRefIdeal.nD Cert.UpdateRefIdeal.τ).loc Cert.UpdateRefIdeal.main_arg23)
      ∧ r.2.mem ((c.tc : Thread Cert.UpdateRefIdeal.nD Cert.UpdateRefIdeal.τ).loc Cert.UpdateRefIdeal.main_arg24) = m ((c.tc : Thread Cert.UpdateRefIdeal.nD Cert.UpdateRefIdeal.τ).loc Cert.UpdateRefIdeal.main_arg24)
      ∧ r.2.mem ((c.tc : Thread Cert.UpdateRefIdeal.nD Cert.UpdateRefIdeal.τ).loc Cert.UpdateRefIdeal.main_arg25) = m ((c.tc : Thread Cert.UpdateRefIdeal.nD Cert.UpdateRefIdeal.τ).loc Cert.UpdateRefIdeal.main_arg25)
      ∧ r.2.mem ((c.tc : Thread Cert.UpdateRefIdeal.nD Cert.UpdateRefIdeal.τ).loc Cert.UpdateRefIdeal.main_arg26) = m ((c.tc : Thread Cert.UpdateRefIdeal.nD Cert.UpdateRefIdeal.τ).loc Cert.UpdateRefIdeal.main_arg26)
      ∧ r.2.mem ((c.tc : Thread Cert.UpdateRefIdeal.nD Cert.UpdateRefIdeal.τ).loc Cert.UpdateRefIdeal.main_arg27) = m ((c.tc : Thread Cert.UpdateRefIdeal.nD Cert.UpdateRefIdeal.τ).loc Cert.UpdateRefIdeal.main_arg27)
      ∧ r.2.mem ((c.tc : Thread Cert.UpdateRefIdeal.nD Cert.UpdateRefIdeal.τ).loc Cert.UpdateRefIdeal.main_arg28) = m ((c.tc : Thread Cert.UpdateRefIdeal.nD Cert.UpdateRefIdeal.τ).loc Cert.UpdateRefIdeal.main_arg28)
      ∧ r.2.mem ((c.tc : Thread Cert.UpdateRefIdeal.nD Cert.UpdateRefIdeal.τ).loc Cert.UpdateRefIdeal.main_arg29) = m ((c.tc : Thread Cert.UpdateRefIdeal.nD Cert.UpdateRefIdeal.τ).loc Cert.UpdateRefIdeal.main_arg29))
      ∧ r.2.sem = fun _ => 0) :=
  (θ_run Cert.UpdateRefIdeal.defs _ _).mono
    (fun r h => ⟨fun c => (h c).2.2.2.2.2.2.2.2.2.2.2.2.2.2.2.2.2.2.2.2.2.2.2.2, Idealize.ShloMosaic.sem_eq_zero_of_no_sems (by decide) r.2⟩)
    (Cert.UpdateRefIdeal.Value.run (F := Ideal) m ρ)

/-- The kernel and the reference end with the same gradients, steps and moments. -/
theorem algebraic :
    Cert.algebraic_UpdateIdeal_UpdateRefIdeal (hUpdateIdeal := Cert.UpdateIdeal.Gen.facts) (hUpdateRefIdeal := Cert.UpdateRefIdeal.Gen.facts) := by
  intro m ρ m' ρ' _ hag
  refine ⟨fun c => Cert.UpdateIdeal.Gen.W6 m ρ c (Proc.devRef .tc Cert.UpdateIdeal.main_v0_0), fun c => Cert.UpdateIdeal.Gen.W6 m ρ c (Proc.devRef .tc Cert.UpdateIdeal.main_v0_1), fun c => Cert.UpdateIdeal.Gen.W6 m ρ c (Proc.devRef .tc Cert.UpdateIdeal.main_v0_2), fun c => Cert.UpdateIdeal.Gen.W6 m ρ c (Proc.devRef .tc Cert.UpdateIdeal.main_v0_3),
    fun c => Cert.UpdateIdeal.Gen.W6 m ρ c (Proc.devRef .tc Cert.UpdateIdeal.main_v1_0), fun c => Cert.UpdateIdeal.Gen.W6 m ρ c (Proc.devRef .tc Cert.UpdateIdeal.main_v1_1), fun c => Cert.UpdateIdeal.Gen.W6 m ρ c (Proc.devRef .tc Cert.UpdateIdeal.main_v1_2), fun c => Cert.UpdateIdeal.Gen.W6 m ρ c (Proc.devRef .tc Cert.UpdateIdeal.main_v1_3),
    fun c => Cert.UpdateIdeal.Gen.W6 m ρ c (Proc.devRef .tc Cert.UpdateIdeal.main_v2_0), fun c => Cert.UpdateIdeal.Gen.W6 m ρ c (Proc.devRef .tc Cert.UpdateIdeal.main_v2_1), fun c => Cert.UpdateIdeal.Gen.W6 m ρ c (Proc.devRef .tc Cert.UpdateIdeal.main_v2_2), fun c => Cert.UpdateIdeal.Gen.W6 m ρ c (Proc.devRef .tc Cert.UpdateIdeal.main_v2_3),
    fun c => Cert.UpdateIdeal.Gen.W6 m ρ c (Proc.devRef .tc Cert.UpdateIdeal.main_v3_0), fun c => Cert.UpdateIdeal.Gen.W6 m ρ c (Proc.devRef .tc Cert.UpdateIdeal.main_v3_1), fun c => Cert.UpdateIdeal.Gen.W6 m ρ c (Proc.devRef .tc Cert.UpdateIdeal.main_v3_2), fun c => Cert.UpdateIdeal.Gen.W6 m ρ c (Proc.devRef .tc Cert.UpdateIdeal.main_v3_3),
    fun c => Cert.UpdateIdeal.Gen.W6 m ρ c (Proc.devRef .tc Cert.UpdateIdeal.main_v4_0), fun c => Cert.UpdateIdeal.Gen.W6 m ρ c (Proc.devRef .tc Cert.UpdateIdeal.main_v4_1), fun c => Cert.UpdateIdeal.Gen.W6 m ρ c (Proc.devRef .tc Cert.UpdateIdeal.main_v4_2), fun c => Cert.UpdateIdeal.Gen.W6 m ρ c (Proc.devRef .tc Cert.UpdateIdeal.main_v4_3),
    fun c => Cert.UpdateIdeal.Gen.W6 m ρ c (Proc.devRef .tc Cert.UpdateIdeal.main_v5_0), fun c => Cert.UpdateIdeal.Gen.W6 m ρ c (Proc.devRef .tc Cert.UpdateIdeal.main_v5_1), fun c => Cert.UpdateIdeal.Gen.W6 m ρ c (Proc.devRef .tc Cert.UpdateIdeal.main_v5_2), fun c => Cert.UpdateIdeal.Gen.W6 m ρ c (Proc.devRef .tc Cert.UpdateIdeal.main_v5_3), ?_, ?_⟩
  · refine (θ_run Cert.UpdateIdeal.defs _ _).mono (fun r h c => ?_) (Cert.UpdateIdeal.Run.run m ρ)
    have h := h.1 c
    have a := Cert.UpdateIdeal.Gen.W6_args m ρ c
    exact ⟨h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide), h _ (by decide),
      (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide)), (h _ (by decide)).trans (a _ (by decide))⟩
  · refine (θ_run Cert.UpdateRefIdeal.defs _ _).mono (fun r h c => ?_) (Cert.UpdateRefIdeal.Value.run m' ρ')
    obtain ⟨h0, h1, h2, h3, h4, h5, h6, h7, h8, h9, h10, h11, h12, h13, h14, h15, h16, h17, h18, h19, h20, h21, h22, h23, ha⟩ := h c
    obtain ⟨a0, a1, a2, a3, a4, a5, a6, a7, a8, a9, a10, a11, a12, a13, a14, a15, a16, a17, a18, a19, a20, a21, a22, a23, a24, a25, a26, a27, a28, a29⟩ := hag c
    obtain ⟨e0, e1, e2, e3⟩ := (Cert.UpdateIdeal.Run.out0 m ρ c).eq (Cert.UpdateRefIdeal.Value.four Cert.UpdateRefIdeal.Gen.bcast_S_S1x2048x1408 Cert.UpdateRefIdeal.Gen.bcast_S2048x1408_S1x2048x1408_1_2 _ _ _ _ _ rfl) a0 a1 a2 a3 a4
    obtain ⟨e4, e5, e6, e7⟩ := (Cert.UpdateIdeal.Run.out1 m ρ c).eq (Cert.UpdateRefIdeal.Value.four Cert.UpdateRefIdeal.Gen.bcast_S_S1x1408x2048 Cert.UpdateRefIdeal.Gen.bcast_S1408x2048_S1x1408x2048_1_2 _ _ _ _ _ rfl) a5 a6 a7 a8 a9
    obtain ⟨e8, e9, e10, e11⟩ := (Cert.UpdateIdeal.Run.out2 m ρ c).eq (Cert.UpdateRefIdeal.Value.four Cert.UpdateRefIdeal.Gen.bcast_S_S1x2048x2048 Cert.UpdateRefIdeal.Gen.bcast_S2048x2048_S1x2048x2048_1_2 _ _ _ _ _ rfl) a10 a11 a12 a13 a14
    obtain ⟨e12, e13, e14, e15⟩ := (Cert.UpdateIdeal.Run.out3 m ρ c).eq (Cert.UpdateRefIdeal.Value.four Cert.UpdateRefIdeal.Gen.bcast_S_S1x512x2048 Cert.UpdateRefIdeal.Gen.bcast_S512x2048_S1x512x2048_1_2 _ _ _ _ _ rfl) a15 a16 a17 a18 a19
    obtain ⟨e16, e17, e18, e19⟩ := (Cert.UpdateIdeal.Run.out4 m ρ c).eq (Cert.UpdateRefIdeal.Value.four Cert.UpdateRefIdeal.Gen.bcast_S_S1x1024x512 Cert.UpdateRefIdeal.Gen.bcast_S1024x512_S1x1024x512_1_2 _ _ _ _ _ rfl) a20 a21 a22 a23 a24
    obtain ⟨e20, e21, e22, e23⟩ := (Cert.UpdateIdeal.Run.out5 m ρ c).eq (Cert.UpdateRefIdeal.Value.four Cert.UpdateRefIdeal.Gen.bcast_S_S1x256x1024 Cert.UpdateRefIdeal.Gen.bcast_S256x1024_S1x256x1024_1_2 _ _ _ _ _ rfl) a25 a26 a27 a28 a29
    exact ⟨h0.trans e0, h1.trans e1, h2.trans e2, h3.trans e3, h4.trans e4, h5.trans e5, h6.trans e6, h7.trans e7, h8.trans e8, h9.trans e9, h10.trans e10, h11.trans e11, h12.trans e12, h13.trans e13, h14.trans e14, h15.trans e15, h16.trans e16, h17.trans e17, h18.trans e18, h19.trans e19, h20.trans e20, h21.trans e21, h22.trans e22, h23.trans e23, ha⟩

end Cert.UpdateCert

end
-- ==== Proof.MixSpec.lean ====
/- The mathematics of the gated merge of the two branches with the output projection, and of its gradients, over functions of indices. -/
module

public import proofs.«01_k».proof.Proof.FfnPre

@[expose] public section

noncomputable section

namespace Cert.Mix

open Idealize.ShloMosaic
open Cert.Ffn (Mat)

variable {M K N : ℕ}

/-- The state-space branch's weight: of the 2048 columns each of the four chips holds 512. -/
abbrev WtS := Fin 4 → Fin 1024 → Fin 512 → EReal

/-- A matrix product. -/
def prod (A : Mat M K) (B : Mat K N) : Mat M N := fun i n => ∑ x : Fin K, A i x * B x n

/-- The product with the transpose of the second factor. -/
def back (D : Mat M K) (W : Mat N K) : Mat M N := fun i n => ∑ x : Fin K, D i x * W n x

/-- The product with the transpose of the first factor. -/
def grad (A : Mat K M) (D : Mat K N) : Mat M N := fun x n => ∑ i : Fin K, A i x * D i n

/-- The product with the state-space branch's weight. -/
def prodS (Y : Mat M 1024) (W : WtS) : Mat M 2048 := fun i n => ∑ x : Fin 1024, Y i x * W ⟨n.val / 512, by omega⟩ x ⟨n.val % 512, by omega⟩

/-- The gradient in the state-space branch's weight. -/
def gradS (Y : Mat M 1024) (D : Mat M 2048) : WtS := fun q x e => ∑ i : Fin M, Y i x * D i ⟨q.val * 512 + e.val, by omega⟩

/-- The attention's gate: the projection's columns from 4096 on, of the latent rows. -/
def gateA (P : Mat 2304 8192) : Mat 2048 2048 := fun i n => P ⟨256 + i.val, by omega⟩ ⟨4096 + n.val, by omega⟩

/-- The state-space branch's gate: the columns from 6144 on. -/
def gateS (P : Mat 2304 8192) : Mat 2048 2048 := fun i n => P ⟨256 + i.val, by omega⟩ ⟨6144 + n.val, by omega⟩

/-- The gated sum of the two branches. -/
def merge (GA GS A S : Mat M N) : Mat M N := fun i n => Ideal.logistic (GA i n) * A i n + Ideal.logistic (GS i n) * S i n

/-- The residual sum, of the latent rows. -/
def res (X : Mat 2304 2048) (G : Mat 1 2048) (Y : Mat 2048 2048) : Mat 2048 2048 := fun i j => X ⟨256 + i.val, by omega⟩ j + G 0 j * Y i j

/-- The gradient in a branch. -/
def dbranch (D G : Mat M N) : Mat M N := fun i n => D i n * Ideal.logistic (G i n)

/-- The gradient in a branch's gate. -/
def dgate (D B G : Mat M N) : Mat M N := fun i n => D i n * B i n * Ideal.logistic (G i n) * (1 - Ideal.logistic (G i n))

end Cert.Mix

end
-- ==== Proof.MixRef.lean ====
/- The terms of the gated merge's reference, cut where the mathematics cuts them, each as a matrix of the specification. -/
module

public import proofs.«01_k».proof.Proof.Gen.MixRefIdeal.Run
public import proofs.«01_k».proof.Proof.MixSpec
public import Idealize.ShloMosaic.Lib.Pointwise

@[expose] public section

set_option maxRecDepth 16384

noncomputable section

namespace Cert.MixRefIdeal.Value

open Cert.MixRefIdeal Cert.MixRefIdeal.Gen Idealize.ShloMosaic Idealize.ShloMosaic.TcCoe
open Cert.Ffn (rd2 rd3)

/-- The logistic function, as the reference writes it. -/
def sgT (a : FVec Ideal S2048x2048 .f32) : FVec Ideal S2048x2048 .f32 :=
  Host.divf (broadcastInDim S2048x2048 ![] bcast_S_S2048x2048 (constant S_ .f32 0x3F800000#32)) (addf (broadcastInDim S2048x2048 ![] bcast_S_S2048x2048 (constant S_ .f32 0x3F800000#32)) (Host.exp (Host.negf a)))

/-- The attention's gate. -/
def gateAT (p : FVec Ideal S2304x8192 .f32) : FVec Ideal S2048x2048 .f32 :=
  extractStridedSlice S2048x2048 ![0, 0] (extractStridedSlice S2048x4096 ![256, 4096] p slices_S2304x8192_S2048x4096_256_4096) slices_S2048x4096_S2048x2048_0_0

/-- The state-space branch's gate. -/
def gateST (p : FVec Ideal S2304x8192 .f32) : FVec Ideal S2048x2048 .f32 :=
  extractStridedSlice S2048x2048 ![0, 2048] (extractStridedSlice S2048x4096 ![256, 4096] p slices_S2304x8192_S2048x4096_256_4096) slices_S2048x4096_S2048x2048_0_2048

/-- A product with a weight. -/
def prodT (a : FVec Ideal S2048x2048 .f32) (w : FVec Ideal S2048x2048 .bf16) : FVec Ideal S2048x2048 .f32 :=
  Host.dotGeneral dot_S2048x2048_S2048x2048_S2048x2048_1_0_0_1_n_n none a (extf .f32 w bitsLt_bf16_f32)

/-- A product with the transpose of a weight. -/
def backT (a : FVec Ideal S2048x2048 .f32) (w : FVec Ideal S2048x2048 .bf16) : FVec Ideal S2048x2048 .f32 :=
  Host.dotGeneral dot_S2048x2048_S2048x2048_S2048x2048_1_1_0_0_n_n none a (extf .f32 w bitsLt_bf16_f32)

/-- A weight's gradient from the gradient and the rows. -/
def gradT (d a : FVec Ideal S2048x2048 .f32) : FVec Ideal S2048x2048 .bf16 :=
  truncf .bf16 (transpose S2048x2048 [1, 0] (Host.dotGeneral dot_S2048x2048_S2048x2048_S2048x2048_0_0_1_1_n_n none d a) transposes_S2048x2048_S2048x2048_1_0) bitsLt_bf16_f32

/-- The product with the state-space branch's weight. -/
def prodST (y : FVec Ideal S2048x1024 .bf16) (w : FVec Ideal S4x1024x512 .bf16) : FVec Ideal S2048x2048 .f32 :=
  Host.dotGeneral dot_S2048x1024_S1024x2048_S2048x2048_1_0_0_1_n_n none (extf .f32 y bitsLt_bf16_f32) (shapeCast _ (transpose S1024x4x512 [1, 0, 2] (extf .f32 w bitsLt_bf16_f32) transposes_S4x1024x512_S1024x4x512_1_0_2) shapeCasts_S1024x4x512_S1024x2048)

/-- The gradient in the state-space branch's weight. -/
def gradST (d : FVec Ideal S2048x2048 .f32) (y : FVec Ideal S2048x1024 .bf16) : FVec Ideal S4x1024x512 .bf16 :=
  truncf .bf16 (transpose S4x1024x512 [1, 0, 2] (shapeCast _ (transpose S1024x2048 [1, 0] (Host.dotGeneral dot_S2048x2048_S2048x1024_S2048x1024_0_0_1_1_n_n none d (extf .f32 y bitsLt_bf16_f32)) transposes_S2048x1024_S1024x2048_1_0) shapeCasts_S1024x2048_S1024x4x512) transposes_S1024x4x512_S4x1024x512_1_0_2) bitsLt_bf16_f32

/-- The gated sum. -/
def mergeT (ga gs a s : FVec Ideal S2048x2048 .f32) : FVec Ideal S2048x2048 .f32 := addf (mulf (sgT ga) a) (mulf (sgT gs) s)

/-- The residual sum. -/
def resT (x : FVec Ideal S2304x2048 .f32) (g : FVec Ideal S1x2048 .f32) (y : FVec Ideal S2048x2048 .f32) : FVec Ideal S2048x2048 .f32 :=
  addf (extractStridedSlice S2048x2048 ![256, 0] x slices_S2304x2048_S2048x2048_256_0) (mulf (broadcastInDim S2048x2048 ![0, 1] bcast_S1x2048_S2048x2048_0_1 g) y)

/-- The gradient in a gate. -/
def dgateT (d b g : FVec Ideal S2048x2048 .f32) : FVec Ideal S2048x2048 .bf16 :=
  truncf .bf16 (mulf (mulf d b) (mulf (sgT g) (subf (broadcastInDim S2048x2048 ![] bcast_S_S2048x2048 (constant S_ .f32 0x3F800000#32)) (sgT g)))) bitsLt_bf16_f32

/-- The logistic function at an index. -/
theorem sgT_at (a : FVec Ideal S2048x2048 .f32) (i n : Fin 2048) : sgT a (ix2 i n) = Ideal.logistic (a (ix2 i n)) := by
  pointwise [sgT]
  rfl

/-- The attention's gate, read. -/
theorem gateA_eq (p : FVec Ideal S2304x8192 .f32) : rd2 (gateAT p) = Mix.gateA (rd2 p) := by
  funext i n
  show gateAT p (ix2 i n) = _
  pointwise [gateAT]
  blk_ext

/-- The state-space branch's gate, read. -/
theorem gateS_eq (p : FVec Ideal S2304x8192 .f32) : rd2 (gateST p) = Mix.gateS (rd2 p) := by
  funext i n
  show gateST p (ix2 i n) = _
  pointwise [gateST]
  blk_ext

/-- A product with a weight, read. -/
theorem prod_eq (a : FVec Ideal S2048x2048 .f32) (w : FVec Ideal S2048x2048 .bf16) : rd2 (prodT a w) = Mix.prod (rd2 a) (rd2 w) := by
  funext i n
  show prodT a w (ix2 i n) = ∑ x : Fin 2048, a (ix2 i x) * w (ix2 x n)
  pointwise [prodT]

/-- A product with the transpose of a weight, read. -/
theorem back_eq (a : FVec Ideal S2048x2048 .f32) (w : FVec Ideal S2048x2048 .bf16) : rd2 (backT a w) = Mix.back (rd2 a) (rd2 w) := by
  funext i n
  show backT a w (ix2 i n) = ∑ x : Fin 2048, a (ix2 i x) * w (ix2 n x)
  pointwise [backT]

/-- A weight's gradient, read. -/
theorem grad_eq (d a : FVec Ideal S2048x2048 .f32) : rd2 (gradT d a) = Mix.grad (rd2 a) (rd2 d) := by
  funext x n
  show gradT d a (ix2 x n) = ∑ i : Fin 2048, a (ix2 i x) * d (ix2 i n)
  pointwise [gradT]
  exact Finset.sum_congr rfl fun _ _ => mul_comm _ _

/-- The product with the state-space branch's weight, read. -/
theorem prodS_eq (y : FVec Ideal S2048x1024 .bf16) (w : FVec Ideal S4x1024x512 .bf16) : rd2 (prodST y w) = Mix.prodS (rd2 y) (rd3 w) := by
  funext i n
  show prodST y w (ix2 i n) = Mix.prodS (fun i x => y (ix2 i x)) (fun q x e => w (ix3 q x e)) i n
  pointwise [prodST, Mix.prodS]

/-- The gradient in the state-space branch's weight, read. -/
theorem gradS_eq (d : FVec Ideal S2048x2048 .f32) (y : FVec Ideal S2048x1024 .bf16) : rd3 (gradST d y) = Mix.gradS (rd2 y) (rd2 d) := by
  funext q x e
  show gradST d y (ix3 q x e) = Mix.gradS (fun i x => y (ix2 i x)) (fun i n => d (ix2 i n)) q x e
  pointwise [gradST, Mix.gradS]
  exact Finset.sum_congr rfl fun _ _ => mul_comm _ _

/-- The gated sum, read. -/
theorem merge_eq (ga gs a s : FVec Ideal S2048x2048 .f32) : rd2 (mergeT ga gs a s) = Mix.merge (rd2 ga) (rd2 gs) (rd2 a) (rd2 s) := by
  funext i n
  show mergeT ga gs a s (ix2 i n) = Ideal.logistic (ga (ix2 i n)) * a (ix2 i n) + Ideal.logistic (gs (ix2 i n)) * s (ix2 i n)
  rw [← sgT_at, ← sgT_at]
  pointwise [mergeT]

/-- The residual sum, read. -/
theorem res_eq (x : FVec Ideal S2304x2048 .f32) (g : FVec Ideal S1x2048 .f32) (y : FVec Ideal S2048x2048 .f32) :
    rd2 (resT x g y) = Mix.res (rd2 x) (rd2 g) (rd2 y) := by
  funext i n
  show resT x g y (ix2 i n) = x (ix2 ⟨256 + i.val, by omega⟩ n) + g (ix2 0 n) * y (ix2 i n)
  pointwise [resT]

/-- The gradient in a branch, read: the reference multiplies in the other order. -/
theorem dbranch_eq (d g : FVec Ideal S2048x2048 .f32) : rd2 (mulf (sgT g) d) = Mix.dbranch (rd2 d) (rd2 g) := by
  funext i n
  show (mulf (sgT g) d) (ix2 i n) = d (ix2 i n) * Ideal.logistic (g (ix2 i n))
  rw [← sgT_at, mul_comm]
  rfl

/-- The gradient in a gate, read: the reference multiplies the logistic function's derivative out first. -/
theorem dgate_eq (d b g : FVec Ideal S2048x2048 .f32) : rd2 (dgateT d b g) = Mix.dgate (rd2 d) (rd2 b) (rd2 g) := by
  funext i n
  show dgateT d b g (ix2 i n) = d (ix2 i n) * b (ix2 i n) * Ideal.logistic (g (ix2 i n)) * (1 - Ideal.logistic (g (ix2 i n)))
  rw [← sgT_at, mul_assoc]
  pointwise [dgateT]

end Cert.MixRefIdeal.Value

end
-- ==== Proof.MixFinal.lean ====
/- What one grid point of each call of the gated merge and its gradients computes from its blocks, and the calls' result arrays. -/
module

public import proofs.«01_k».proof.Proof.Gen.MixIdeal.Frame
public import proofs.«01_k».proof.Proof.MixSpec
public import Idealize.ShloMosaic.Lib.Pointwise
public import Idealize.ShloMosaic.Lib.Pipeline.ValueKit

@[expose] public section

set_option maxRecDepth 16384

noncomputable section

namespace Cert.MixIdeal.Tile

open Cert.MixIdeal Cert.MixIdeal.Gen Idealize.ShloMosaic Idealize.ShloMosaic.TcCoe

/-- The tile of the attention branch's product. -/
theorem ba_at (x0 : Vec Ideal S256x2048 .bf16) (x1 : Vec Ideal S2048x512 .bf16) (x2 : Vec Ideal S256x1024 .bf16) (x3 : Vec Ideal S1x1024x512 .bf16) (x4 x5 : Vec Ideal S256x512 .f32) (i : Fin 256) (n : Fin 512) :
    out0_6 (F := Ideal) x0 x1 x2 x3 x4 x5 (ix2 i n) = ∑ x : Fin 2048, x0 (ix2 i x) * x1 (ix2 x n) := by
  unfold out0_6
  frame_out
  pointwise [k0_pay1]

/-- The tile of the state-space branch's product. -/
theorem bs_at (x0 : Vec Ideal S256x2048 .bf16) (x1 : Vec Ideal S2048x512 .bf16) (x2 : Vec Ideal S256x1024 .bf16) (x3 : Vec Ideal S1x1024x512 .bf16) (x4 x5 : Vec Ideal S256x512 .f32) (i : Fin 256) (n : Fin 512) :
    out0_7 (F := Ideal) x0 x1 x2 x3 x4 x5 (ix2 i n) = ∑ x : Fin 1024, x2 (ix2 i x) * x3 (ix3 0 x n) := by
  unfold out0_7
  frame_out
  pointwise [k0_pay2]

/-- The tile of the gated sum. -/
theorem mg_at (x0 : Vec Ideal S256x2048 .bf16) (x1 : Vec Ideal S2048x512 .bf16) (x2 : Vec Ideal S256x1024 .bf16) (x3 : Vec Ideal S1x1024x512 .bf16) (x4 x5 : Vec Ideal S256x512 .f32) (i : Fin 256) (n : Fin 512) :
    out0_8 (F := Ideal) x0 x1 x2 x3 x4 x5 (ix2 i n) = Ideal.logistic (x4 (ix2 i n)) * (∑ x : Fin 2048, x0 (ix2 i x) * x1 (ix2 x n)) + Ideal.logistic (x5 (ix2 i n)) * (∑ x : Fin 1024, x2 (ix2 i x) * x3 (ix3 0 x n)) := by
  unfold out0_8
  frame_out
  pointwise [k0_pay3, k0_pay1, k0_pay2]

/-- The tile of the output projection. -/
theorem mix_at (x0 : Vec Ideal S256x2048 .bf16) (x1 : Vec Ideal S2048x1024 .bf16) (x2 : Vec Ideal S256x1024 .f32) (x3 : Vec Ideal S1x1024 .f32) (i : Fin 256) (n : Fin 1024) :
    out1_4 (F := Ideal) x0 x1 x2 x3 (ix2 i n) = ∑ x : Fin 2048, x0 (ix2 i x) * x1 (ix2 x n) := by
  unfold out1_4
  frame_out
  pointwise [k1_pay1]

/-- The tile of the residual sum. -/
theorem res_at (x0 : Vec Ideal S256x2048 .bf16) (x1 : Vec Ideal S2048x1024 .bf16) (x2 : Vec Ideal S256x1024 .f32) (x3 : Vec Ideal S1x1024 .f32) (i : Fin 256) (n : Fin 1024) :
    out1_5 (F := Ideal) x0 x1 x2 x3 (ix2 i n) = x2 (ix2 i n) + x3 (ix2 0 n) * (∑ x : Fin 2048, x0 (ix2 i x) * x1 (ix2 x n)) := by
  unfold out1_5
  frame_out
  pointwise [k1_pay2, k1_pay1]

/-- The tile of the gradient in the attention branch. -/
theorem dba_at (x0 : Vec Ideal S256x2048 .bf16) (x1 : Vec Ideal S1024x2048 .bf16) (x2 x3 x4 x5 : Vec Ideal S256x1024 .f32) (i : Fin 256) (n : Fin 1024) :
    out2_6 (F := Ideal) x0 x1 x2 x3 x4 x5 (ix2 i n) = (∑ x : Fin 2048, x0 (ix2 i x) * x1 (ix2 n x)) * Ideal.logistic (x4 (ix2 i n)) := by
  unfold out2_6
  frame_out
  pointwise [k2_pay4, k2_pay1, k2_pay2]

/-- The tile of the gradient in the state-space branch. -/
theorem dbs_at (x0 : Vec Ideal S256x2048 .bf16) (x1 : Vec Ideal S1024x2048 .bf16) (x2 x3 x4 x5 : Vec Ideal S256x1024 .f32) (i : Fin 256) (n : Fin 1024) :
    out2_7 (F := Ideal) x0 x1 x2 x3 x4 x5 (ix2 i n) = (∑ x : Fin 2048, x0 (ix2 i x) * x1 (ix2 n x)) * Ideal.logistic (x5 (ix2 i n)) := by
  unfold out2_7
  frame_out
  pointwise [k2_pay5, k2_pay1, k2_pay3]

/-- The tile of the gradient in the attention's gate. -/
theorem dga_at (x0 : Vec Ideal S256x2048 .bf16) (x1 : Vec Ideal S1024x2048 .bf16) (x2 x3 x4 x5 : Vec Ideal S256x1024 .f32) (i : Fin 256) (n : Fin 1024) :
    out2_8 (F := Ideal) x0 x1 x2 x3 x4 x5 (ix2 i n) = (∑ x : Fin 2048, x0 (ix2 i x) * x1 (ix2 n x)) * x2 (ix2 i n) * Ideal.logistic (x4 (ix2 i n)) * (1 - Ideal.logistic (x4 (ix2 i n))) := by
  unfold out2_8
  frame_out
  pointwise [k2_pay6, k2_pay1, k2_pay2]

/-- The tile of the gradient in the state-space branch's gate. -/
theorem dgs_at (x0 : Vec Ideal S256x2048 .bf16) (x1 : Vec Ideal S1024x2048 .bf16) (x2 x3 x4 x5 : Vec Ideal S256x1024 .f32) (i : Fin 256) (n : Fin 1024) :
    out2_9 (F := Ideal) x0 x1 x2 x3 x4 x5 (ix2 i n) = (∑ x : Fin 2048, x0 (ix2 i x) * x1 (ix2 n x)) * x3 (ix2 i n) * Ideal.logistic (x5 (ix2 i n)) * (1 - Ideal.logistic (x5 (ix2 i n))) := by
  unfold out2_9
  frame_out
  pointwise [k2_pay7, k2_pay1, k2_pay3]

/-- The tile of the gradient in the output weight. -/
theorem wo_at (x0 : Vec Ideal S2048x512 .bf16) (x1 : Vec Ideal S2048x1024 .bf16) (x : Fin 512) (n : Fin 1024) :
    out3_2 (F := Ideal) x0 x1 (ix2 x n) = ∑ i : Fin 2048, x0 (ix2 i x) * x1 (ix2 i n) := by
  unfold out3_2
  frame_out
  pointwise [k3_pay1]

/-- The tile of the gradient in the attention's rows. -/
theorem da_at (x0 : Vec Ideal S512x2048 .bf16) (x1 : Vec Ideal S1024x2048 .bf16) (i : Fin 512) (n : Fin 1024) :
    out4_2 (F := Ideal) x0 x1 (ix2 i n) = ∑ x : Fin 2048, x0 (ix2 i x) * x1 (ix2 n x) := by
  unfold out4_2
  frame_out
  pointwise [k4_pay1]

/-- The tile of the gradient in the attention branch's weight. -/
theorem wa_at (x0 : Vec Ideal S2048x512 .bf16) (x1 : Vec Ideal S2048x1024 .bf16) (x : Fin 512) (n : Fin 1024) :
    out5_2 (F := Ideal) x0 x1 (ix2 x n) = ∑ i : Fin 2048, x0 (ix2 i x) * x1 (ix2 i n) := by
  unfold out5_2
  frame_out
  pointwise [k5_pay1]

/-- The tile of the gradient in the state-space branch's weight. -/
theorem ws_at (x0 : Vec Ideal S2048x512 .bf16) (x1 : Vec Ideal S2048x512 .bf16) (x : Fin 512) (n : Fin 512) :
    out6_2 (F := Ideal) x0 x1 (ix3 0 x n) = ∑ i : Fin 2048, x0 (ix2 i x) * x1 (ix2 i n) := by
  unfold out6_2
  frame_out
  pointwise [k6_pay1]

end Cert.MixIdeal.Tile

namespace Cert.MixIdeal.Final

open Cert.MixIdeal Cert.MixIdeal.Gen Idealize.ShloMosaic Idealize.ShloMosaic.TcCoe
open Cert.Ffn (rd2 rd3)

/-- Which block of its array each window of the merge is on. -/
theorem idx0 : ∀ t : Fin cfg0.N, win0_0.index t = ![t.val % 8, 0]
    ∧ win0_1.index t = ![0, t.val / 8]
    ∧ win0_2.index t = ![t.val % 8, 0]
    ∧ win0_3.index t = ![t.val / 8, 0, 0]
    ∧ win0_4.index t = ![t.val % 8 + 1, t.val / 8 + 8]
    ∧ win0_5.index t = ![t.val % 8 + 1, t.val / 8 + 12]
    ∧ win0_6.index t = ![t.val % 8, t.val / 8]
    ∧ win0_7.index t = ![t.val % 8, t.val / 8]
    ∧ win0_8.index t = ![t.val % 8, t.val / 8] :=
  (by decide +kernel : ∀ t : Fin grid0.N, _)

/-- Which block of its array each window of the output projection is on. -/
theorem idx1 : ∀ t : Fin cfg1.N, win1_0.index t = ![t.val % 8, 0]
    ∧ win1_1.index t = ![0, t.val / 8]
    ∧ win1_2.index t = ![t.val % 8 + 1, t.val / 8]
    ∧ win1_3.index t = ![0, t.val / 8]
    ∧ win1_4.index t = ![t.val % 8, t.val / 8]
    ∧ win1_5.index t = ![t.val % 8, t.val / 8] :=
  (by decide +kernel : ∀ t : Fin grid1.N, _)

/-- Which block of its array each window of the merge's gradient is on. -/
theorem idx2 : ∀ t : Fin cfg2.N, win2_0.index t = ![t.val % 8, 0]
    ∧ win2_1.index t = ![t.val / 8, 0]
    ∧ win2_2.index t = ![t.val % 8, t.val / 8]
    ∧ win2_3.index t = ![t.val % 8, t.val / 8]
    ∧ win2_4.index t = ![t.val % 8 + 1, t.val / 8 + 4]
    ∧ win2_5.index t = ![t.val % 8 + 1, t.val / 8 + 6]
    ∧ win2_6.index t = ![t.val % 8, t.val / 8]
    ∧ win2_7.index t = ![t.val % 8, t.val / 8]
    ∧ win2_8.index t = ![t.val % 8, t.val / 8]
    ∧ win2_9.index t = ![t.val % 8, t.val / 8] :=
  (by decide +kernel : ∀ t : Fin grid2.N, _)

/-- Which block of its array each window of the output weight's gradient is on. -/
theorem idx3 : ∀ t : Fin cfg3.N, win3_0.index t = ![0, t.val % 4]
    ∧ win3_1.index t = ![0, t.val / 4]
    ∧ win3_2.index t = ![t.val % 4, t.val / 4] :=
  (by decide +kernel : ∀ t : Fin grid3.N, _)

/-- Which block of its array each window of the attention's gradient is on. -/
theorem idx4 : ∀ t : Fin cfg4.N, win4_0.index t = ![t.val % 4, 0]
    ∧ win4_1.index t = ![t.val / 4, 0]
    ∧ win4_2.index t = ![t.val % 4, t.val / 4] :=
  (by decide +kernel : ∀ t : Fin grid4.N, _)

/-- Which block of its array each window of the attention branch's weight's gradient is on. -/
theorem idx5 : ∀ t : Fin cfg5.N, win5_0.index t = ![0, t.val % 4]
    ∧ win5_1.index t = ![0, t.val / 4]
    ∧ win5_2.index t = ![t.val % 4, t.val / 4] :=
  (by decide +kernel : ∀ t : Fin grid5.N, _)

/-- Which block of its array each window of the state-space branch's weight's gradient is on. -/
theorem idx6 : ∀ t : Fin cfg6.N, win6_0.index t = ![0, t.val % 2]
    ∧ win6_1.index t = ![0, t.val / 2]
    ∧ win6_2.index t = ![t.val / 2, t.val % 2, 0] :=
  (by decide +kernel : ∀ t : Fin grid6.N, _)

variable (V : (c : Dev nD) → (b : Ref sig .tc) → Buf (Elt Ideal) ((c : Thread nD τ).loc b)) (c : Dev nD)

/-- The attention's rows. -/
abbrev A : FVec Ideal S2048x2048 .bf16 := V c main_arg0
/-- The state-space branch's rows. -/
abbrev Y : FVec Ideal S2048x1024 .bf16 := V c main_arg1
/-- The attention branch's weight. -/
abbrev WA : FVec Ideal S2048x2048 .bf16 := V c main_arg2
/-- The state-space branch's weight. -/
abbrev WS : FVec Ideal S4x1024x512 .bf16 := V c main_arg3
/-- The output weight. -/
abbrev WO : FVec Ideal S2048x2048 .bf16 := V c main_arg4
/-- The input projection. -/
abbrev P : FVec Ideal S2304x8192 .f32 := V c main_arg5
/-- The residual rows. -/
abbrev X : FVec Ideal S2304x2048 .f32 := V c main_arg6
/-- The residual's gate. -/
abbrev G : FVec Ideal S1x2048 .f32 := V c main_arg7
/-- The incoming gradient. -/
abbrev DM : FVec Ideal S2048x2048 .bf16 := V c main_arg8
/-- The attention branch's product. -/
abbrev BA : FVec Ideal S2048x2048 .f32 := V c main_v0_0
/-- The state-space branch's product. -/
abbrev BS : FVec Ideal S2048x2048 .f32 := V c main_v0_1
/-- The gated sum. -/
abbrev MG : FVec Ideal S2048x2048 .bf16 := V c main_v0_2
/-- The gradient in the attention branch. -/
abbrev DA : FVec Ideal S2048x2048 .bf16 := V c main_v2_0
/-- The gradient in the state-space branch. -/
abbrev DS : FVec Ideal S2048x2048 .bf16 := V c main_v2_1

/-- The attention branch's product, after its call. -/
theorem fin0_6 : (dat0 V c).arrAt 6 cfg0.N = fun y => Mix.prod (rd2 (A V c)) (rd2 (WA V c)) (y 0) (y 1) := by
  refine (dat0 V c).arrAt_eq_of_covers 6 _ (by decide +kernel) fun t hf y => ?_
  obtain ⟨i, n, rfl⟩ : ∃ (i : Fin 256) (n : Fin 512), y = ix2 i n := ⟨y 0, y 1, eq_ix2 y⟩
  blk_simp
  show (_ : EReal) = _
  rw [after0_6, Tile.ba_at]
  refine Finset.sum_congr rfl fun x _ => congrArg₂ (· * ·) ?_ ?_ <;> blk_ext [iblk0, idx0 t]

/-- The state-space branch's product, after its call. -/
theorem fin0_7 : (dat0 V c).arrAt 7 cfg0.N = fun y => Mix.prodS (rd2 (Y V c)) (rd3 (WS V c)) (y 0) (y 1) := by
  refine (dat0 V c).arrAt_eq_of_covers 7 _ (by decide +kernel) fun t hf y => ?_
  obtain ⟨i, n, rfl⟩ : ∃ (i : Fin 256) (n : Fin 512), y = ix2 i n := ⟨y 0, y 1, eq_ix2 y⟩
  blk_simp
  show (_ : EReal) = _
  rw [after0_7, Tile.bs_at]
  refine Finset.sum_congr rfl fun x _ => congrArg₂ (· * ·) ?_ ?_ <;> blk_ext [iblk0, idx0 t]

set_option maxHeartbeats 1600000 in
/-- The gated sum, after its call. -/
theorem fin0_8 : (dat0 V c).arrAt 8 cfg0.N = fun y => Mix.merge (Mix.gateA (rd2 (P V c))) (Mix.gateS (rd2 (P V c))) (Mix.prod (rd2 (A V c)) (rd2 (WA V c))) (Mix.prodS (rd2 (Y V c)) (rd3 (WS V c))) (y 0) (y 1) := by
  refine (dat0 V c).arrAt_eq_of_covers 8 _ (by decide +kernel) fun t hf y => ?_
  obtain ⟨i, n, rfl⟩ : ∃ (i : Fin 256) (n : Fin 512), y = ix2 i n := ⟨y 0, y 1, eq_ix2 y⟩
  blk_simp
  show (_ : EReal) = _
  rw [after0_8, Tile.mg_at]
  refine congrArg₂ (· + ·) (congrArg₂ (· * ·) (congrArg Ideal.logistic ?_) (Finset.sum_congr rfl fun x _ => congrArg₂ (· * ·) ?_ ?_)) (congrArg₂ (· * ·) (congrArg Ideal.logistic ?_) (Finset.sum_congr rfl fun x _ => congrArg₂ (· * ·) ?_ ?_)) <;> blk_ext [iblk0, idx0 t]

/-- The output projection, after its call. -/
theorem fin1_4 : (dat1 V c).arrAt 4 cfg1.N = fun y => Mix.prod (rd2 (MG V c)) (rd2 (WO V c)) (y 0) (y 1) := by
  refine (dat1 V c).arrAt_eq_of_covers 4 _ (by decide +kernel) fun t hf y => ?_
  obtain ⟨i, n, rfl⟩ : ∃ (i : Fin 256) (n : Fin 1024), y = ix2 i n := ⟨y 0, y 1, eq_ix2 y⟩
  blk_simp
  show (_ : EReal) = _
  rw [after1_4, Tile.mix_at]
  refine Finset.sum_congr rfl fun x _ => congrArg₂ (· * ·) ?_ ?_ <;> blk_ext [iblk1, idx1 t]

/-- The residual sum, after its call. -/
theorem fin1_5 : (dat1 V c).arrAt 5 cfg1.N = fun y => Mix.res (rd2 (X V c)) (rd2 (G V c)) (Mix.prod (rd2 (MG V c)) (rd2 (WO V c))) (y 0) (y 1) := by
  refine (dat1 V c).arrAt_eq_of_covers 5 _ (by decide +kernel) fun t hf y => ?_
  obtain ⟨i, n, rfl⟩ : ∃ (i : Fin 256) (n : Fin 1024), y = ix2 i n := ⟨y 0, y 1, eq_ix2 y⟩
  blk_simp
  show (_ : EReal) = _
  rw [after1_5, Tile.res_at]
  refine congrArg₂ (· + ·) ?_ (congrArg₂ (· * ·) ?_ (Finset.sum_congr rfl fun x _ => congrArg₂ (· * ·) ?_ ?_)) <;> blk_ext [iblk1, idx1 t]

/-- The gradient in the attention branch, after its call. -/
theorem fin2_6 : (dat2 V c).arrAt 6 cfg2.N = fun y => Mix.dbranch (Mix.back (rd2 (DM V c)) (rd2 (WO V c))) (Mix.gateA (rd2 (P V c))) (y 0) (y 1) := by
  refine (dat2 V c).arrAt_eq_of_covers 6 _ (by decide +kernel) fun t hf y => ?_
  obtain ⟨i, n, rfl⟩ : ∃ (i : Fin 256) (n : Fin 1024), y = ix2 i n := ⟨y 0, y 1, eq_ix2 y⟩
  blk_simp
  show (_ : EReal) = _
  rw [after2_6, Tile.dba_at]
  refine congrArg₂ (· * ·) (Finset.sum_congr rfl fun x _ => congrArg₂ (· * ·) ?_ ?_) (congrArg Ideal.logistic ?_) <;> blk_ext [iblk2, idx2 t]

/-- The gradient in the state-space branch, after its call. -/
theorem fin2_7 : (dat2 V c).arrAt 7 cfg2.N = fun y => Mix.dbranch (Mix.back (rd2 (DM V c)) (rd2 (WO V c))) (Mix.gateS (rd2 (P V c))) (y 0) (y 1) := by
  refine (dat2 V c).arrAt_eq_of_covers 7 _ (by decide +kernel) fun t hf y => ?_
  obtain ⟨i, n, rfl⟩ : ∃ (i : Fin 256) (n : Fin 1024), y = ix2 i n := ⟨y 0, y 1, eq_ix2 y⟩
  blk_simp
  show (_ : EReal) = _
  rw [after2_7, Tile.dbs_at]
  refine congrArg₂ (· * ·) (Finset.sum_congr rfl fun x _ => congrArg₂ (· * ·) ?_ ?_) (congrArg Ideal.logistic ?_) <;> blk_ext [iblk2, idx2 t]

set_option maxHeartbeats 1600000 in
/-- The gradient in the attention's gate, after its call. -/
theorem fin2_8 : (dat2 V c).arrAt 8 cfg2.N = fun y => Mix.dgate (Mix.back (rd2 (DM V c)) (rd2 (WO V c))) (rd2 (BA V c)) (Mix.gateA (rd2 (P V c))) (y 0) (y 1) := by
  refine (dat2 V c).arrAt_eq_of_covers 8 _ (by decide +kernel) fun t hf y => ?_
  obtain ⟨i, n, rfl⟩ : ∃ (i : Fin 256) (n : Fin 1024), y = ix2 i n := ⟨y 0, y 1, eq_ix2 y⟩
  blk_simp
  show (_ : EReal) = _
  rw [after2_8, Tile.dga_at]
  refine congrArg₂ (· * ·) (congrArg₂ (· * ·) (congrArg₂ (· * ·) (Finset.sum_congr rfl fun x _ => congrArg₂ (· * ·) ?_ ?_) ?_) (congrArg Ideal.logistic ?_)) (congrArg (fun a : EReal => 1 - Ideal.logistic a) ?_) <;> blk_ext [iblk2, idx2 t]

set_option maxHeartbeats 1600000 in
/-- The gradient in the state-space branch's gate, after its call. -/
theorem fin2_9 : (dat2 V c).arrAt 9 cfg2.N = fun y => Mix.dgate (Mix.back (rd2 (DM V c)) (rd2 (WO V c))) (rd2 (BS V c)) (Mix.gateS (rd2 (P V c))) (y 0) (y 1) := by
  refine (dat2 V c).arrAt_eq_of_covers 9 _ (by decide +kernel) fun t hf y => ?_
  obtain ⟨i, n, rfl⟩ : ∃ (i : Fin 256) (n : Fin 1024), y = ix2 i n := ⟨y 0, y 1, eq_ix2 y⟩
  blk_simp
  show (_ : EReal) = _
  rw [after2_9, Tile.dgs_at]
  refine congrArg₂ (· * ·) (congrArg₂ (· * ·) (congrArg₂ (· * ·) (Finset.sum_congr rfl fun x _ => congrArg₂ (· * ·) ?_ ?_) ?_) (congrArg Ideal.logistic ?_)) (congrArg (fun a : EReal => 1 - Ideal.logistic a) ?_) <;> blk_ext [iblk2, idx2 t]

/-- The gradient in the output weight, after its call. -/
theorem fin3_2 : (dat3 V c).arrAt 2 cfg3.N = fun y => Mix.grad (rd2 (MG V c)) (rd2 (DM V c)) (y 0) (y 1) := by
  refine (dat3 V c).arrAt_eq_of_covers 2 _ (by decide +kernel) fun t hf y => ?_
  obtain ⟨i, n, rfl⟩ : ∃ (i : Fin 512) (n : Fin 1024), y = ix2 i n := ⟨y 0, y 1, eq_ix2 y⟩
  blk_simp
  show (_ : EReal) = _
  rw [after3_2, Tile.wo_at]
  refine Finset.sum_congr rfl fun x _ => congrArg₂ (· * ·) ?_ ?_ <;> blk_ext [iblk3, idx3 t]

/-- The gradient in the attention's rows, after its call. -/
theorem fin4_2 : (dat4 V c).arrAt 2 cfg4.N = fun y => Mix.back (rd2 (DA V c)) (rd2 (WA V c)) (y 0) (y 1) := by
  refine (dat4 V c).arrAt_eq_of_covers 2 _ (by decide +kernel) fun t hf y => ?_
  obtain ⟨i, n, rfl⟩ : ∃ (i : Fin 512) (n : Fin 1024), y = ix2 i n := ⟨y 0, y 1, eq_ix2 y⟩
  blk_simp
  show (_ : EReal) = _
  rw [after4_2, Tile.da_at]
  refine Finset.sum_congr rfl fun x _ => congrArg₂ (· * ·) ?_ ?_ <;> blk_ext [iblk4, idx4 t]

/-- The gradient in the attention branch's weight, after its call. -/
theorem fin5_2 : (dat5 V c).arrAt 2 cfg5.N = fun y => Mix.grad (rd2 (A V c)) (rd2 (DA V c)) (y 0) (y 1) := by
  refine (dat5 V c).arrAt_eq_of_covers 2 _ (by decide +kernel) fun t hf y => ?_
  obtain ⟨i, n, rfl⟩ : ∃ (i : Fin 512) (n : Fin 1024), y = ix2 i n := ⟨y 0, y 1, eq_ix2 y⟩
  blk_simp
  show (_ : EReal) = _
  rw [after5_2, Tile.wa_at]
  refine Finset.sum_congr rfl fun x _ => congrArg₂ (· * ·) ?_ ?_ <;> blk_ext [iblk5, idx5 t]

/-- The gradient in the state-space branch's weight, after its call. -/
theorem fin6_2 : (dat6 V c).arrAt 2 cfg6.N = fun y => Mix.gradS (rd2 (Y V c)) (rd2 (DS V c)) (y 0) (y 1) (y 2) := by
  refine (dat6 V c).arrAt_eq_of_covers 2 _ (by decide +kernel) fun t hf y => ?_
  obtain ⟨z, i, n, rfl⟩ : ∃ (z : Fin 1) (i : Fin 512) (n : Fin 512), y = ix3 z i n := ⟨y 0, y 1, y 2, eq_ix3 y⟩
  obtain rfl : z = 0 := Subsingleton.elim _ _
  blk_simp
  show (_ : EReal) = _
  rw [after6_2, Tile.ws_at]
  refine Finset.sum_congr rfl fun x _ => congrArg₂ (· * ·) ?_ ?_ <;> blk_ext [iblk6, idx6 t]

end Cert.MixIdeal.Final

end
-- ==== Proof.MixRun.lean ====
/- What the seven calls of the gated merge, the output projection and their gradients leave in the result arrays. -/
module

public import proofs.«01_k».proof.Proof.MixFinal

@[expose] public section

set_option maxRecDepth 16384

noncomputable section

namespace Cert.MixIdeal.Run

open Cert.MixIdeal Cert.MixIdeal.Gen Cert.MixIdeal.Final
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Ffn (Mat rd2 rd3)

variable (m : (ℓ : Loc nD τ sig) → Buf (Elt Ideal) ℓ) (ρ : Dev nD → PrngReg) (c : Dev nD)

/-- The attention branch's product, from the arguments. -/
abbrev hA : Mat 2048 2048 := Mix.prod (rd2 (A (V0 m ρ) c)) (rd2 (WA (V0 m ρ) c))
/-- The state-space branch's product. -/
abbrev hS : Mat 2048 2048 := Mix.prodS (rd2 (Y (V0 m ρ) c)) (rd3 (WS (V0 m ρ) c))
/-- The attention's gate. -/
abbrev gA : Mat 2048 2048 := Mix.gateA (rd2 (P (V0 m ρ) c))
/-- The state-space branch's gate. -/
abbrev gS : Mat 2048 2048 := Mix.gateS (rd2 (P (V0 m ρ) c))
/-- The gated sum. -/
abbrev hM : Mat 2048 2048 := Mix.merge (gA m ρ c) (gS m ρ c) (hA m ρ c) (hS m ρ c)
/-- The gradient in the gated sum. -/
abbrev hD : Mat 2048 2048 := Mix.back (rd2 (DM (V0 m ρ) c)) (rd2 (WO (V0 m ρ) c))

/-- The attention branch's product, before call 2 (counted from nought). -/
theorem eBA2 : BA (V2 m ρ) c = fun y => (hA m ρ c) (y 0) (y 1) :=
  (W2_of m ρ c main_v0_0 (by decide)).trans ((W1_arr m ρ c 6).trans (fin0_6 (V0 m ρ) c))

/-- The state-space branch's product, before call 2 (counted from nought). -/
theorem eBS2 : BS (V2 m ρ) c = fun y => (hS m ρ c) (y 0) (y 1) :=
  (W2_of m ρ c main_v0_1 (by decide)).trans ((W1_arr m ρ c 7).trans (fin0_7 (V0 m ρ) c))

/-- The gated sum, before call 1 (counted from nought). -/
theorem eMG1 : MG (V1 m ρ) c = fun y => (hM m ρ c) (y 0) (y 1) :=
  (W1_arr m ρ c 8).trans (fin0_8 (V0 m ρ) c)

/-- The gated sum, before call 3 (counted from nought). -/
theorem eMG3 : MG (V3 m ρ) c = fun y => (hM m ρ c) (y 0) (y 1) :=
  (W3_of m ρ c main_v0_2 (by decide)).trans ((W2_of m ρ c main_v0_2 (by decide)).trans ((W1_arr m ρ c 8).trans (fin0_8 (V0 m ρ) c)))

/-- The gradient in the attention branch, before call 4 (counted from nought). -/
theorem eDA4 : DA (V4 m ρ) c = fun y => (Mix.dbranch (hD m ρ c) (gA m ρ c)) (y 0) (y 1) := by
  refine ((W4_of m ρ c main_v2_0 (by decide)).trans ((W3_arr m ρ c 6).trans (fin2_6 (V2 m ρ) c))).trans ?_
  rw [show DM (V2 m ρ) c = DM (V0 m ρ) c from W2_args m ρ c main_arg8 (by decide),
    show WO (V2 m ρ) c = WO (V0 m ρ) c from W2_args m ρ c main_arg4 (by decide),
    show P (V2 m ρ) c = P (V0 m ρ) c from W2_args m ρ c main_arg5 (by decide)]
  rfl

/-- The gradient in the attention branch, before call 5 (counted from nought). -/
theorem eDA5 : DA (V5 m ρ) c = fun y => (Mix.dbranch (hD m ρ c) (gA m ρ c)) (y 0) (y 1) := by
  refine ((W5_of m ρ c main_v2_0 (by decide)).trans ((W4_of m ρ c main_v2_0 (by decide)).trans ((W3_arr m ρ c 6).trans (fin2_6 (V2 m ρ) c)))).trans ?_
  rw [show DM (V2 m ρ) c = DM (V0 m ρ) c from W2_args m ρ c main_arg8 (by decide),
    show WO (V2 m ρ) c = WO (V0 m ρ) c from W2_args m ρ c main_arg4 (by decide),
    show P (V2 m ρ) c = P (V0 m ρ) c from W2_args m ρ c main_arg5 (by decide)]
  rfl

/-- The gradient in the state-space branch, before call 6 (counted from nought). -/
theorem eDS6 : DS (V6 m ρ) c = fun y => (Mix.dbranch (hD m ρ c) (gS m ρ c)) (y 0) (y 1) := by
  refine ((W6_of m ρ c main_v2_1 (by decide)).trans ((W5_of m ρ c main_v2_1 (by decide)).trans ((W4_of m ρ c main_v2_1 (by decide)).trans ((W3_arr m ρ c 7).trans (fin2_7 (V2 m ρ) c))))).trans ?_
  rw [show DM (V2 m ρ) c = DM (V0 m ρ) c from W2_args m ρ c main_arg8 (by decide),
    show WO (V2 m ρ) c = WO (V0 m ρ) c from W2_args m ρ c main_arg4 (by decide),
    show P (V2 m ρ) c = P (V0 m ρ) c from W2_args m ρ c main_arg5 (by decide)]
  rfl

/-- The output projection at the end. -/
theorem outMix : W7 m ρ c (Proc.devRef .tc main_v1_0) = fun y => (Mix.prod (hM m ρ c) (rd2 (WO (V0 m ρ) c))) (y 0) (y 1) := by
  refine ((W7_of m ρ c main_v1_0 (by decide)).trans ((W6_of m ρ c main_v1_0 (by decide)).trans ((W5_of m ρ c main_v1_0 (by decide)).trans ((W4_of m ρ c main_v1_0 (by decide)).trans ((W3_of m ρ c main_v1_0 (by decide)).trans ((W2_arr m ρ c 4).trans (fin1_4 (V1 m ρ) c))))))).trans ?_
  rw [eMG1 m ρ c,
    show WO (V1 m ρ) c = WO (V0 m ρ) c from W1_args m ρ c main_arg4 (by decide)]
  rfl

/-- The residual sum at the end. -/
theorem outX : W7 m ρ c (Proc.devRef .tc main_v1_1) = fun y => (Mix.res (rd2 (X (V0 m ρ) c)) (rd2 (G (V0 m ρ) c)) (Mix.prod (hM m ρ c) (rd2 (WO (V0 m ρ) c)))) (y 0) (y 1) := by
  refine ((W7_of m ρ c main_v1_1 (by decide)).trans ((W6_of m ρ c main_v1_1 (by decide)).trans ((W5_of m ρ c main_v1_1 (by decide)).trans ((W4_of m ρ c main_v1_1 (by decide)).trans ((W3_of m ρ c main_v1_1 (by decide)).trans ((W2_arr m ρ c 5).trans (fin1_5 (V1 m ρ) c))))))).trans ?_
  rw [eMG1 m ρ c,
    show WO (V1 m ρ) c = WO (V0 m ρ) c from W1_args m ρ c main_arg4 (by decide),
    show X (V1 m ρ) c = X (V0 m ρ) c from W1_args m ρ c main_arg6 (by decide),
    show G (V1 m ρ) c = G (V0 m ρ) c from W1_args m ρ c main_arg7 (by decide)]
  rfl

/-- The gradient in the attention's gate at the end. -/
theorem outGA : W7 m ρ c (Proc.devRef .tc main_v2_2) = fun y => (Mix.dgate (hD m ρ c) (hA m ρ c) (gA m ρ c)) (y 0) (y 1) := by
  refine ((W7_of m ρ c main_v2_2 (by decide)).trans ((W6_of m ρ c main_v2_2 (by decide)).trans ((W5_of m ρ c main_v2_2 (by decide)).trans ((W4_of m ρ c main_v2_2 (by decide)).trans ((W3_arr m ρ c 8).trans (fin2_8 (V2 m ρ) c)))))).trans ?_
  rw [show DM (V2 m ρ) c = DM (V0 m ρ) c from W2_args m ρ c main_arg8 (by decide),
    show WO (V2 m ρ) c = WO (V0 m ρ) c from W2_args m ρ c main_arg4 (by decide),
    show P (V2 m ρ) c = P (V0 m ρ) c from W2_args m ρ c main_arg5 (by decide),
    eBA2 m ρ c]
  rfl

/-- The gradient in the state-space branch's gate at the end. -/
theorem outGS : W7 m ρ c (Proc.devRef .tc main_v2_3) = fun y => (Mix.dgate (hD m ρ c) (hS m ρ c) (gS m ρ c)) (y 0) (y 1) := by
  refine ((W7_of m ρ c main_v2_3 (by decide)).trans ((W6_of m ρ c main_v2_3 (by decide)).trans ((W5_of m ρ c main_v2_3 (by decide)).trans ((W4_of m ρ c main_v2_3 (by decide)).trans ((W3_arr m ρ c 9).trans (fin2_9 (V2 m ρ) c)))))).trans ?_
  rw [show DM (V2 m ρ) c = DM (V0 m ρ) c from W2_args m ρ c main_arg8 (by decide),
    show WO (V2 m ρ) c = WO (V0 m ρ) c from W2_args m ρ c main_arg4 (by decide),
    show P (V2 m ρ) c = P (V0 m ρ) c from W2_args m ρ c main_arg5 (by decide),
    eBS2 m ρ c]
  rfl

/-- The gradient in the output weight at the end. -/
theorem outWO : W7 m ρ c (Proc.devRef .tc main_v3) = fun y => (Mix.grad (hM m ρ c) (rd2 (DM (V0 m ρ) c))) (y 0) (y 1) := by
  refine ((W7_of m ρ c main_v3 (by decide)).trans ((W6_of m ρ c main_v3 (by decide)).trans ((W5_of m ρ c main_v3 (by decide)).trans ((W4_arr m ρ c 2).trans (fin3_2 (V3 m ρ) c))))).trans ?_
  rw [eMG3 m ρ c,
    show DM (V3 m ρ) c = DM (V0 m ρ) c from W3_args m ρ c main_arg8 (by decide)]
  rfl

/-- The gradient in the attention's rows at the end. -/
theorem outA : W7 m ρ c (Proc.devRef .tc main_v4) = fun y => (Mix.back (Mix.dbranch (hD m ρ c) (gA m ρ c)) (rd2 (WA (V0 m ρ) c))) (y 0) (y 1) := by
  refine ((W7_of m ρ c main_v4 (by decide)).trans ((W6_of m ρ c main_v4 (by decide)).trans ((W5_arr m ρ c 2).trans (fin4_2 (V4 m ρ) c)))).trans ?_
  rw [eDA4 m ρ c,
    show WA (V4 m ρ) c = WA (V0 m ρ) c from W4_args m ρ c main_arg2 (by decide)]
  rfl

/-- The gradient in the attention branch's weight at the end. -/
theorem outWA : W7 m ρ c (Proc.devRef .tc main_v5) = fun y => (Mix.grad (rd2 (A (V0 m ρ) c)) (Mix.dbranch (hD m ρ c) (gA m ρ c))) (y 0) (y 1) := by
  refine ((W7_of m ρ c main_v5 (by decide)).trans ((W6_arr m ρ c 2).trans (fin5_2 (V5 m ρ) c))).trans ?_
  rw [eDA5 m ρ c,
    show A (V5 m ρ) c = A (V0 m ρ) c from W5_args m ρ c main_arg0 (by decide)]
  rfl

/-- The gradient in the state-space branch's weight at the end. -/
theorem outWS : W7 m ρ c (Proc.devRef .tc main_v6) = fun y => (Mix.gradS (rd2 (Y (V0 m ρ) c)) (Mix.dbranch (hD m ρ c) (gS m ρ c))) (y 0) (y 1) (y 2) := by
  refine ((W7_arr m ρ c 2).trans (fin6_2 (V6 m ρ) c)).trans ?_
  rw [eDS6 m ρ c,
    show Y (V6 m ρ) c = Y (V0 m ρ) c from W6_args m ρ c main_arg1 (by decide)]
  rfl

local notation "𝕄" => MT nD τ sig Unit (Elt Ideal) ℕ (UR sig nD τ) ℕ

set_option backward.isDefEq.respectTransparency.types false in
/-- From zero counters every schedule ends with each array outside the calls' own buffers as the last call left it, and the counters at zero. -/
theorem run : θ_run defs (onTc (τ := τ) (main (F := Ideal))) ⟨m, fun _ => 0, ρ⟩ (fun r => (∀ (c : Dev nD) (b : Ref sig .tc),
      ¬ (Proc.devRef .tc b : DevRef τ sig).isScoped → r.2.mem ((c.tc : Thread nD τ).loc b) = W7 m ρ c (Proc.devRef .tc b)) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => ⟨fun c b hb => h c _ (mem_uc b hb), funext fun g => hz g (.inr (no_unscoped g.2))⟩)

end Cert.MixIdeal.Run

end
-- ==== Proof.MixCert.lean ====
/- The gated merge with the output projection, and its gradients: the kernel's run set beside the reference's. -/
module

public import proofs.«01_k».proof.Defs
public import proofs.«01_k».proof.Proof.MixRef
public import proofs.«01_k».proof.Proof.MixRun

@[expose] public section

set_option maxRecDepth 16384

noncomputable section

namespace Cert.MixRefIdeal.Value

open Cert.MixRefIdeal Cert.MixRefIdeal.Gen Idealize.ShloMosaic Idealize.ShloMosaic.TcCoe
open Cert.Ffn (Mat rd2 rd3)

/-- An array is what it reads at its pairs of indices. -/
theorem of_rd2 {M N : ℕ} {a : (Shape.mk 2 ![M, N]).Idx → EReal} {b : Mat M N} (h : rd2 a = b) : a = fun y => b (y 0) (y 1) := by
  subst h
  funext y
  exact congrArg a (ix2_eta y).symm

/-- An array is what it reads at its triples of indices. -/
theorem of_rd3 {L M N : ℕ} {a : (Shape.mk 3 ![L, M, N]).Idx → EReal} {b : Fin L → Mat M N} (h : rd3 a = b) : a = fun y => b (y 0) (y 1) (y 2) := by
  subst h
  funext y
  exact congrArg a (ix3_eta y).symm

variable (a : FVec Ideal S2048x2048 .bf16) (y : FVec Ideal S2048x1024 .bf16) (wa : FVec Ideal S2048x2048 .bf16) (ws : FVec Ideal S4x1024x512 .bf16)
  (wo : FVec Ideal S2048x2048 .bf16) (p : FVec Ideal S2304x8192 .f32) (x : FVec Ideal S2304x2048 .f32) (g : FVec Ideal S1x2048 .f32) (dm : FVec Ideal S2048x2048 .bf16)

/-- The reference's attention branch. -/
abbrev tA : FVec Ideal S2048x2048 .f32 := prodT (extf .f32 a bitsLt_bf16_f32) wa
/-- The reference's state-space branch. -/
abbrev tS : FVec Ideal S2048x2048 .f32 := prodST y ws
/-- The reference's gated sum. -/
abbrev tM : FVec Ideal S2048x2048 .f32 := mergeT (gateAT p) (gateST p) (tA a wa) (tS y ws)
/-- The reference's gradient in the gated sum. -/
abbrev tD : FVec Ideal S2048x2048 .f32 := backT (extf .f32 dm bitsLt_bf16_f32) wo

/-- A narrower array read after widening is itself. -/
theorem wide {M N : ℕ} (v : FVec Ideal ⟨2, ![M, N]⟩ .bf16) : rd2 (extf .f32 v bitsLt_bf16_f32) = rd2 v := rfl

/-- The attention branch, read. -/
theorem tA_eq : rd2 (tA a wa) = Mix.prod (rd2 a) (rd2 wa) := prod_eq _ _

/-- The gated sum, read. -/
theorem tM_eq : rd2 (tM a y wa ws p) = Mix.merge (Mix.gateA (rd2 p)) (Mix.gateS (rd2 p)) (Mix.prod (rd2 a) (rd2 wa)) (Mix.prodS (rd2 y) (rd3 ws)) := by
  rw [merge_eq, gateA_eq, gateS_eq, tA_eq, prodS_eq]

/-- The gradient in the gated sum, read. -/
theorem tD_eq : rd2 (tD wo dm) = Mix.back (rd2 dm) (rd2 wo) := back_eq _ _

/-- The reference's output projection. -/
theorem rMix : prodT (tM a y wa ws p) wo = fun t => (Mix.prod (Mix.merge (Mix.gateA (rd2 p)) (Mix.gateS (rd2 p)) (Mix.prod (rd2 a) (rd2 wa)) (Mix.prodS (rd2 y) (rd3 ws))) (rd2 wo)) (t 0) (t 1) :=
  of_rd2 (by rw [prod_eq, tM_eq])

/-- The reference's residual sum. -/
theorem rX : resT x g (prodT (tM a y wa ws p) wo) = fun t => (Mix.res (rd2 x) (rd2 g) (Mix.prod (Mix.merge (Mix.gateA (rd2 p)) (Mix.gateS (rd2 p)) (Mix.prod (rd2 a) (rd2 wa)) (Mix.prodS (rd2 y) (rd3 ws))) (rd2 wo))) (t 0) (t 1) :=
  of_rd2 (by rw [res_eq, prod_eq, tM_eq])

/-- The reference's gradient in the attention's gate. -/
theorem rGA : dgateT (tD wo dm) (tA a wa) (gateAT p) = fun t => (Mix.dgate (Mix.back (rd2 dm) (rd2 wo)) (Mix.prod (rd2 a) (rd2 wa)) (Mix.gateA (rd2 p))) (t 0) (t 1) :=
  of_rd2 (by rw [dgate_eq, tD_eq, tA_eq, gateA_eq])

/-- The reference's gradient in the state-space branch's gate. -/
theorem rGS : dgateT (tD wo dm) (tS y ws) (gateST p) = fun t => (Mix.dgate (Mix.back (rd2 dm) (rd2 wo)) (Mix.prodS (rd2 y) (rd3 ws)) (Mix.gateS (rd2 p))) (t 0) (t 1) :=
  of_rd2 (by rw [dgate_eq, tD_eq, prodS_eq, gateS_eq])

/-- The reference's gradient in the output weight. -/
theorem rWO : gradT (extf .f32 dm bitsLt_bf16_f32) (tM a y wa ws p) = fun t => (Mix.grad (Mix.merge (Mix.gateA (rd2 p)) (Mix.gateS (rd2 p)) (Mix.prod (rd2 a) (rd2 wa)) (Mix.prodS (rd2 y) (rd3 ws))) (rd2 dm)) (t 0) (t 1) :=
  of_rd2 (by rw [grad_eq, tM_eq]; rfl)

/-- The reference's gradient in the attention's rows. -/
theorem rA : truncf .bf16 (backT (mulf (sgT (gateAT p)) (tD wo dm)) wa) bitsLt_bf16_f32 = fun t => (Mix.back (Mix.dbranch (Mix.back (rd2 dm) (rd2 wo)) (Mix.gateA (rd2 p))) (rd2 wa)) (t 0) (t 1) :=
  of_rd2 (by rw [← gateA_eq, ← tD_eq, ← dbranch_eq, ← back_eq]; rfl)

/-- The reference's gradient in the attention branch's weight. -/
theorem rWA : gradT (mulf (sgT (gateAT p)) (tD wo dm)) (extf .f32 a bitsLt_bf16_f32) = fun t => (Mix.grad (rd2 a) (Mix.dbranch (Mix.back (rd2 dm) (rd2 wo)) (Mix.gateA (rd2 p)))) (t 0) (t 1) :=
  of_rd2 (by rw [grad_eq, dbranch_eq, tD_eq, gateA_eq]; rfl)

/-- The reference's gradient in the state-space branch's weight. -/
theorem rWS : gradST (mulf (sgT (gateST p)) (tD wo dm)) y = fun t => (Mix.gradS (rd2 y) (Mix.dbranch (Mix.back (rd2 dm) (rd2 wo)) (Mix.gateS (rd2 p)))) (t 0) (t 1) (t 2) :=
  of_rd3 (by rw [gradS_eq, dbranch_eq, tD_eq, gateS_eq])

end Cert.MixRefIdeal.Value

namespace Cert.MixCert

open Idealize.ShloMosaic Idealize.ShloMosaic.TcCoe Idealize.SL.Sem Cert.MixRefIdeal.Value

/-- The reference's run keeps its arguments and leaves every counter at zero: it declares no semaphore. -/
theorem frameR (m : (ℓ : Loc Cert.MixRefIdeal.nD Cert.MixRefIdeal.τ Cert.MixRefIdeal.sig) → Buf (Elt Ideal) ℓ) (ρ : Dev Cert.MixRefIdeal.nD → PrngReg) :
    θ_run (Cert.MixRefIdeal.defs (F := Ideal)) (onTc (τ := Cert.MixRefIdeal.τ) (Cert.MixRefIdeal.main (F := Ideal))) ⟨m, fun _ => 0, ρ⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8))
      ∧ r.2.sem = fun _ => 0) :=
  (θ_run Cert.MixRefIdeal.defs _ _).mono
    (fun r h => ⟨fun c => (h c).2.2.2.2.2.2.2.2, Idealize.ShloMosaic.sem_eq_zero_of_no_sems (by decide) r.2⟩)
    (Cert.MixRefIdeal.Value.run (F := Ideal) m ρ)

/-- The kernel and the reference end with the same eight results. -/
theorem algebraic :
    Cert.algebraic_MixIdeal_MixRefIdeal (hMixIdeal := Cert.MixIdeal.Gen.facts) (hMixRefIdeal := Cert.MixRefIdeal.Gen.facts) := by
  intro m ρ m' ρ' _ hag
  refine ⟨fun c => Cert.MixIdeal.Gen.W7 m ρ c (Proc.devRef .tc Cert.MixIdeal.main_v1_0),
    fun c => Cert.MixIdeal.Gen.W7 m ρ c (Proc.devRef .tc Cert.MixIdeal.main_v1_1),
    fun c => Cert.MixIdeal.Gen.W7 m ρ c (Proc.devRef .tc Cert.MixIdeal.main_v2_2),
    fun c => Cert.MixIdeal.Gen.W7 m ρ c (Proc.devRef .tc Cert.MixIdeal.main_v2_3),
    fun c => Cert.MixIdeal.Gen.W7 m ρ c (Proc.devRef .tc Cert.MixIdeal.main_v3),
    fun c => Cert.MixIdeal.Gen.W7 m ρ c (Proc.devRef .tc Cert.MixIdeal.main_v4),
    fun c => Cert.MixIdeal.Gen.W7 m ρ c (Proc.devRef .tc Cert.MixIdeal.main_v5),
    fun c => Cert.MixIdeal.Gen.W7 m ρ c (Proc.devRef .tc Cert.MixIdeal.main_v6), ?_, ?_⟩
  · refine (θ_run Cert.MixIdeal.defs _ _).mono (fun r h c => ?_) (Cert.MixIdeal.Run.run m ρ)
    have h := h.1 c
    exact ⟨h _ (by decide), h _ (by decide), h _ (by decide), h _ (by decide), h _ (by decide), h _ (by decide), h _ (by decide), h _ (by decide),
      (h _ (by decide)).trans (Cert.MixIdeal.Gen.W7_main_arg0 m ρ c),
      (h _ (by decide)).trans (Cert.MixIdeal.Gen.W7_main_arg1 m ρ c),
      (h _ (by decide)).trans (Cert.MixIdeal.Gen.W7_main_arg2 m ρ c),
      (h _ (by decide)).trans (Cert.MixIdeal.Gen.W7_main_arg3 m ρ c),
      (h _ (by decide)).trans (Cert.MixIdeal.Gen.W7_main_arg4 m ρ c),
      (h _ (by decide)).trans (Cert.MixIdeal.Gen.W7_main_arg5 m ρ c),
      (h _ (by decide)).trans (Cert.MixIdeal.Gen.W7_main_arg6 m ρ c),
      (h _ (by decide)).trans (Cert.MixIdeal.Gen.W7_main_arg7 m ρ c),
      (h _ (by decide)).trans (Cert.MixIdeal.Gen.W7_main_arg8 m ρ c)⟩
  · refine (θ_run Cert.MixRefIdeal.defs _ _).mono (fun r h c => ?_) (Cert.MixRefIdeal.Value.run m' ρ')
    obtain ⟨h0, h1, h2, h3, h4, h5, h6, h7, ha⟩ := h c
    obtain ⟨a0, a1, a2, a3, a4, a5, a6, a7, a8⟩ := hag c
    rw [a0, a1, a2, a3, a4, a5] at h0
    rw [a0, a1, a2, a3, a4, a5, a6, a7] at h1
    rw [a0, a2, a4, a5, a8] at h2
    rw [a1, a3, a4, a5, a8] at h3
    rw [a0, a1, a2, a3, a5, a8] at h4
    rw [a2, a4, a5, a8] at h5
    rw [a0, a4, a5, a8] at h6
    rw [a1, a4, a5, a8] at h7
    exact ⟨h0.trans ((rMix _ _ _ _ _ _).trans (Cert.MixIdeal.Run.outMix m ρ c).symm),
      h1.trans ((rX _ _ _ _ _ _ _ _).trans (Cert.MixIdeal.Run.outX m ρ c).symm),
      h2.trans ((rGA _ _ _ _ _).trans (Cert.MixIdeal.Run.outGA m ρ c).symm),
      h3.trans ((rGS _ _ _ _ _).trans (Cert.MixIdeal.Run.outGS m ρ c).symm),
      h4.trans ((rWO _ _ _ _ _ _).trans (Cert.MixIdeal.Run.outWO m ρ c).symm),
      h5.trans ((rA _ _ _ _).trans (Cert.MixIdeal.Run.outA m ρ c).symm),
      h6.trans ((rWA _ _ _ _).trans (Cert.MixIdeal.Run.outWA m ρ c).symm),
      h7.trans ((rWS _ _ _ _).trans (Cert.MixIdeal.Run.outWS m ρ c).symm), ha⟩

end Cert.MixCert

end
-- ==== Proof.MixDySpec.lean ====
/- The product with the transpose of the state-space branch's weight, and its cut over the four chips' columns. -/
module

public import proofs.«01_k».proof.Proof.MixSpec
public import Idealize.ShloMosaic.Lib.Pipeline.ValueKit

@[expose] public section

noncomputable section

namespace Cert.Mix

open Idealize.ShloMosaic
open Cert.Ffn (Mat)

variable {M : ℕ}

/-- The product with the transpose of the state-space branch's weight. -/
def backS (D : Mat M 2048) (W : WtS) : Mat M 1024 := fun i x => ∑ n : Fin 2048, D i n * W ⟨n.val / 512, by omega⟩ x ⟨n.val % 512, by omega⟩

/-- The part of `backS` that one chip's columns give. -/
def backSPart (D : Mat M 2048) (W : WtS) (u : Fin 4) : Mat M 1024 := fun i x => ∑ e : Fin 512, D i ⟨u.val * 512 + e.val, by omega⟩ * W u x e

/-- The four chips' parts make up that product. -/
theorem backS_eq (D : Mat M 2048) (W : WtS) (i : Fin M) (x : Fin 1024) : ∑ u : Fin 4, backSPart D W u i x = backS D W i x := by
  unfold backS backSPart
  refine Fin.sum_mul_add_congr fun u e hl => congrArg (D i _ * ·) ?_
  have he : e.val < 512 := e.isLt
  have hu : (⟨(u.val * 512 + e.val) / 512, by omega⟩ : Fin 4) = u := Fin.ext (by show (u.val * 512 + e.val) / 512 = u.val; omega)
  have hv : (⟨(u.val * 512 + e.val) % 512, by omega⟩ : Fin 512) = e := Fin.ext (by show (u.val * 512 + e.val) % 512 = e.val; omega)
  show W u x e = W ⟨(u.val * 512 + e.val) / 512, _⟩ x ⟨(u.val * 512 + e.val) % 512, _⟩
  rw [hu, hv]

end Cert.Mix

end
-- ==== Proof.MixDyFinal.lean ====
/- The gradient in the state-space branch's rows: the kernel's result array after its run, summed over the four chips' columns. -/
module

public import proofs.«01_k».proof.Proof.Gen.MixDyIdeal.Value
public import proofs.«01_k».proof.Proof.FfnPre
public import proofs.«01_k».proof.Proof.MixDySpec
public import Idealize.ShloMosaic.Lib.Pipeline.ValueKit
public import Idealize.ShloMosaic.Lib.Pipeline.ReadBack

@[expose] public section

set_option maxRecDepth 16384

noncomputable section

namespace Cert.MixDyIdeal.Final

open Cert.MixDyIdeal Cert.MixDyIdeal.Gen Idealize.ShloMosaic Idealize.ShloMosaic.TcCoe
open Cert.Ffn (rd2 rd3)

/-- One point's part of a tile, from its blocks: a product over a chip's columns. -/
def term (A : Vec Ideal S512x512 .bf16) (G : Vec Ideal S1x1024x512 .bf16) (i : Fin 512) (j : Fin 1024) : EReal :=
  ∑ e : Fin 512, A (ix2 i e) * G (ix3 0 j e)

/-- The product at an index. -/
theorem pay_at (A : Vec Ideal S512x512 .bf16) (G : Vec Ideal S1x1024x512 .bf16) (i : Fin 512) (j : Fin 1024) :
    k0_pay1 (F := Ideal) A G (ix2 i j) = term A G i j := by
  pointwise [k0_pay1, term]

variable (m : (ℓ : Loc nD τ sig) → Buf (Elt Ideal) ℓ) (c : Dev nD)

/-- A point's part, from the blocks it finds. -/
def part (t : Fin cfg0.N) (y : S512x1024.Idx) : EReal := term (iblk m c 0 t) (iblk m c 1 t) (y 0) (y 1)

/-- The running sum a point leaves: in the tile at a last point, in the scratch before. -/
def acc (n : ℕ) (h : n < cfg0.N) : Vec Ideal S512x1024 .f32 := if n % 4 = 3 then (outsAt0 m c n h).1 else (outsAt0 m c n h).2

/-- The first point of a tile leaves its own part. -/
theorem acc_first (t : Fin cfg0.N) (h : t.val % 4 = 0) (y : S512x1024.Idx) : acc m c t.val t.isLt y = part m c t y := by
  rw [acc, if_neg (by omega), outsAt0_A m c t h (by omega) (by omega)]
  frame_out
  obtain ⟨i, j, rfl⟩ : ∃ i j, y = ix2 i j := ⟨y 0, y 1, eq_ix2 y⟩
  refine Eq.trans ?_ (pay_at _ _ i j)
  pointwise [k0_pay2]

/-- A later point adds its part to the sum before it. -/
theorem acc_step (t : Fin cfg0.N) (h : ¬t.val % 4 = 0) (y : S512x1024.Idx) :
    acc m c t.val t.isLt y = acc m c (t.val - 1) (Nat.lt_of_le_of_lt (Nat.sub_le _ _) t.isLt) y + part m c t y := by
  obtain ⟨i, j, rfl⟩ : ∃ i j, y = ix2 i j := ⟨y 0, y 1, eq_ix2 y⟩
  unfold acc part
  rw [if_neg (show ¬(t.val - 1) % 4 = 3 by omega), ix2_0, ix2_1, ← pay_at]
  by_cases h3 : t.val % 4 = 3
  · rw [if_pos h3, outsAt0_C m c t h (by omega) h3]
    frame_out
    simp only [read_unread_whole]
    pointwise [k0_pay4]
  · rw [if_neg h3, outsAt0_B m c t h (by omega) h3]
    frame_out
    simp only [read_unread_whole]
    pointwise [k0_pay3]

/-- Which block of its array each window is on. -/
theorem idx : ∀ t : Fin cfg0.N, win0_0.index t = ![t.val / 4, t.val % 4] ∧ win0_1.index t = ![t.val % 4, 0, 0]
    ∧ win0_2.index t = ![t.val / 4, 0] :=
  (by decide +kernel : ∀ t : Fin grid0.N, _)

/-- The gradient in the branch. -/
abbrev DP : FVec Ideal S2048x2048 .bf16 := m ((c : Thread nD τ).loc main_arg0)
/-- The branch's weight. -/
abbrev W : FVec Ideal S4x1024x512 .bf16 := m ((c : Thread nD τ).loc main_arg1)

/-- The grid has 16 points. -/
theorem lt_N (t : Fin cfg0.N) : t.val < 16 := lt_of_lt_of_eq t.isLt N_0

/-- A point's part is a chip's part of the whole arrays' gradient. -/
theorem part_eq (t : Fin cfg0.N) (u : Fin 4) (y : S512x1024.Idx) (i : Fin 2048) (j : Fin 1024) (hu : u.val = t.val % 4)
    (hi : i.val = t.val / 4 * 512 + (y 0).val) (hj : j.val = (y 1).val) :
    part m c t y = Mix.backSPart (rd2 (DP m c)) (rd3 (W m c)) u i j := by
  obtain ⟨a, b, rfl⟩ : ∃ a b, y = ix2 a b := ⟨y 0, y 1, eq_ix2 y⟩
  have ht := lt_N t
  rw [ix2_0] at hi
  rw [ix2_1] at hj
  unfold part term Mix.backSPart
  have h0 : ∀ e : Fin 512, (iblk m c 0 t : Vec Ideal S512x512 .bf16) (ix2 a e) = DP m c (ix2 i ⟨u.val * 512 + e.val, by omega⟩) := by
    intro e
    blk_ext [iblk, V, idx t]
  have h1 : ∀ e : Fin 512, (iblk m c 1 t : Vec Ideal S1x1024x512 .bf16) (ix3 0 b e) = W m c (ix3 u j e) := by
    intro e
    blk_ext [iblk, V, idx t]
  exact Finset.sum_congr rfl fun e _ => congrArg₂ (· * ·) (h0 e) (h1 e)

/-- The gradient in the rows after the run. -/
theorem final : (dats m 0 c).arrAt 2 cfg0.N = fun y => Mix.backS (rd2 (DP m c)) (rd3 (W m c)) (y 0) (y 1) := by
  refine (dats m 0 c).arrAt_eq_of_covers 2 _ (by decide +kernel) fun t hf y => ?_
  have hf := (flush0_2 t).mp hf
  have ht := lt_N t
  blk_simp
  show (_ : EReal) = _
  rw [after0_2, show (outsAt0 m c t.val t.isLt).1 = acc m c t.val t.isLt from (if_pos (by omega)).symm,
    Pipeline.eq_sum_fin_of_reset_step_apply_of_flush (acc m c) 4 (fun _ => 0) (part m c)
      (fun p h j => (acc_first m c p h j).trans (zero_add _).symm) (acc_step m c) t (by omega) _, zero_add]
  refine (Finset.sum_congr rfl fun u _ => part_eq m c _ u _ _ _ ?_ ?_ ?_).trans (Mix.backS_eq _ _ _ _)
  · show u.val = (4 * (t.val / 4) + u.val) % 4
    omega
  · have hu : u.val < 4 := u.isLt
    blk_simp [idx t]
    dsimp only
    omega
  · blk_simp [idx t]

end Cert.MixDyIdeal.Final

end
-- ==== Proof.MixDyCert.lean ====
/- The gradient in the state-space branch's rows: the kernel's run set beside the reference's. -/
module

public import proofs.«01_k».proof.Defs
public import proofs.«01_k».proof.Proof.Gen.MixDyRefIdeal.Run
public import proofs.«01_k».proof.Proof.MixDyFinal
public import Idealize.ShloMosaic.Lib.Pointwise

@[expose] public section

set_option maxRecDepth 16384

noncomputable section

namespace Cert.MixDyRefIdeal.Value

open Cert.MixDyRefIdeal Cert.MixDyRefIdeal.Gen Idealize.ShloMosaic Idealize.ShloMosaic.TcCoe
open Cert.Ffn (rd2 rd3)

/-- The product of a cotangent with the transpose of a weight whose columns lie on four chips. -/
def backT (d : FVec Ideal S2048x2048 .bf16) (w : FVec Ideal S4x1024x512 .bf16) : FVec Ideal S2048x1024 .f32 :=
  Host.dotGeneral dot_S2048x2048_S1024x2048_S2048x1024_1_1_0_0_n_n none (extf .f32 d bitsLt_bf16_f32) (shapeCast _ (transpose S1024x4x512 [1, 0, 2] (extf .f32 w bitsLt_bf16_f32) transposes_S4x1024x512_S1024x4x512_1_0_2) shapeCasts_S1024x4x512_S1024x2048)

/-- That product at an index. -/
theorem backT_at (d : FVec Ideal S2048x2048 .bf16) (w : FVec Ideal S4x1024x512 .bf16) (i : Fin 2048) (x : Fin 1024) :
    backT d w (ix2 i x) = Mix.backS (rd2 d) (rd3 w) i x := by
  pointwise [backT, Mix.backS]

/-- The reference's gradient in the rows. -/
theorem dx_eq (d : FVec Ideal S2048x2048 .bf16) (w : FVec Ideal S4x1024x512 .bf16) : backT d w = fun y => Mix.backS (rd2 d) (rd3 w) (y 0) (y 1) := by
  funext y
  obtain ⟨i, x, rfl⟩ : ∃ i x, y = ix2 i x := ⟨y 0, y 1, (ix2_eta y).symm⟩
  exact backT_at d w i x

end Cert.MixDyRefIdeal.Value

namespace Cert.MixDyCert

open Idealize.ShloMosaic Idealize.ShloMosaic.TcCoe Idealize.SL.Sem

/-- The reference's run keeps its arguments and leaves every counter at zero: it declares no semaphore. -/
theorem frameR (m : (ℓ : Loc Cert.MixDyRefIdeal.nD Cert.MixDyRefIdeal.τ Cert.MixDyRefIdeal.sig) → Buf (Elt Ideal) ℓ) (ρ : Dev Cert.MixDyRefIdeal.nD → PrngReg) :
    θ_run (Cert.MixDyRefIdeal.defs (F := Ideal)) (onTc (τ := Cert.MixDyRefIdeal.τ) (Cert.MixDyRefIdeal.main (F := Ideal))) ⟨m, fun _ => 0, ρ⟩ (fun r => (∀ c : Dev Cert.MixDyRefIdeal.nD,
      r.2.mem ((c.tc : Thread Cert.MixDyRefIdeal.nD Cert.MixDyRefIdeal.τ).loc Cert.MixDyRefIdeal.main_arg0) = m ((c.tc : Thread Cert.MixDyRefIdeal.nD Cert.MixDyRefIdeal.τ).loc Cert.MixDyRefIdeal.main_arg0)
      ∧ r.2.mem ((c.tc : Thread Cert.MixDyRefIdeal.nD Cert.MixDyRefIdeal.τ).loc Cert.MixDyRefIdeal.main_arg1) = m ((c.tc : Thread Cert.MixDyRefIdeal.nD Cert.MixDyRefIdeal.τ).loc Cert.MixDyRefIdeal.main_arg1))
      ∧ r.2.sem = fun _ => 0) :=
  (θ_run Cert.MixDyRefIdeal.defs _ _).mono
    (fun r h => ⟨fun c => (h c).2, Idealize.ShloMosaic.sem_eq_zero_of_no_sems (by decide) r.2⟩)
    (Cert.MixDyRefIdeal.Value.run (F := Ideal) m ρ)

/-- The kernel and the reference end with the same gradient in the rows. -/
theorem algebraic :
    Cert.algebraic_MixDyIdeal_MixDyRefIdeal (hMixDyIdeal := Cert.MixDyIdeal.Gen.facts) (hMixDyRefIdeal := Cert.MixDyRefIdeal.Gen.facts) := by
  intro m ρ m' ρ' _ hag
  refine ⟨fun c y => Mix.backS (Ffn.rd2 (Cert.MixDyIdeal.Final.DP m c)) (Ffn.rd3 (Cert.MixDyIdeal.Final.W m c)) (y 0) (y 1), ?_, ?_⟩
  · refine (θ_run Cert.MixDyIdeal.defs _ _).mono (fun r h c => ?_) (Cert.MixDyIdeal.Value.run_blocks m ρ)
    exact ⟨(h c).1.trans (Cert.MixDyIdeal.Final.final m c), (h c).2⟩
  · refine (θ_run Cert.MixDyRefIdeal.defs _ _).mono (fun r h c => ?_) (Cert.MixDyRefIdeal.Value.run m' ρ')
    obtain ⟨h0, ha⟩ := h c
    obtain ⟨a0, a1⟩ := hag c
    rw [a0, a1] at h0
    exact ⟨h0.trans (Cert.MixDyRefIdeal.Value.dx_eq _ _), ha⟩

end Cert.MixDyCert

end
-- ==== Proof.UpdWhole.lean ====
/- One step of AdamW for a whole weight of any shape, as the programs that take the gradient whole write it. -/
module

public import proofs.«01_k».proof.Proof.UpdSpec
public import Idealize.ShloMosaic.PureOps.Ideal
public import Idealize.ShloMosaic.Lib.Pointwise
public import Idealize.ShloMosaic.Lib.Pipeline.ValueKit

@[expose] public section

noncomputable section

namespace Cert.Upd

open Idealize.ShloMosaic

variable {S : Shape}

/-- What the step adds to the weight, as an array of any shape. -/
def deltaW (w m v g : Vec Ideal S .f32) : Vec Ideal S .f32 := fun y => delta (w y) (g y) (m y) (v y)
/-- The new first moment as an array of any shape. -/
def momW (m g : Vec Ideal S .f32) : Vec Ideal S .f32 := fun y => mom (m y) (g y)
/-- The new second moment as an array of any shape. -/
def varW (v g : Vec Ideal S .f32) : Vec Ideal S .f32 := fun y => var (v y) (g y)

/-- What is added at one place is that at another whose four numbers are the same. -/
theorem deltaW_of {T : Shape} {w m v g : Vec Ideal S .f32} {w' m' v' g' : Vec Ideal T .f32} {y : S.Idx} {z : T.Idx}
    (hw : w y = w' z) (hm : m y = m' z) (hv : v y = v' z) (hg : g y = g' z) : deltaW w m v g y = deltaW w' m' v' g' z := by
  unfold deltaW; rw [hw, hm, hv, hg]
/-- The same of the first moment. -/
theorem momW_of {T : Shape} {m g : Vec Ideal S .f32} {m' g' : Vec Ideal T .f32} {y : S.Idx} {z : T.Idx}
    (hm : m y = m' z) (hg : g y = g' z) : momW m g y = momW m' g' z := by
  unfold momW; rw [hm, hg]
/-- The same of the second moment. -/
theorem varW_of {T : Shape} {v g : Vec Ideal S .f32} {v' g' : Vec Ideal T .f32} {y : S.Idx} {z : T.Idx}
    (hv : v y = v' z) (hg : g y = g' z) : varW v g y = varW v' g' z := by
  unfold varW; rw [hv, hg]

/-- A constant spread over a shape. -/
abbrev spread (h : Shape.BroadcastsInDim ⟨0, ![]⟩ S ![]) (b : BitVec 32) : FVec Ideal S .f32 := broadcastInDim S ![] h (constant ⟨0, ![]⟩ .f32 b)

variable (h : Shape.BroadcastsInDim ⟨0, ![]⟩ S ![])

/-- The reference's new first moment. -/
abbrev refMom (m g : FVec Ideal S .f32) : FVec Ideal S .f32 := addf (mulf (spread h 0x3F666666#32) m) (mulf (spread h 0x3DCCCCCD#32) g)
/-- The reference's new second moment. -/
abbrev refVar (v g : FVec Ideal S .f32) : FVec Ideal S .f32 := addf (mulf (spread h 0x3F7FBE77#32) v) (mulf (spread h 0x3A83126F#32) (mulf g g))
/-- What the reference adds to the weight. -/
abbrev refDelta (w m v g : FVec Ideal S .f32) : FVec Ideal S .f32 :=
  mulf (spread h 0xBA83126F#32) (addf (Host.divf (Host.divf (refMom h m g) (spread h 0x3F26BD02#32))
    (addf (Host.sqrt (Host.divf (refVar h v g) (spread h 0x3C231ACC#32))) (spread h 0x322BCC77#32))) (mulf (spread h 0x3C23D70A#32) w))

/-- The reference's new first moment is the step's. -/
theorem refMom_eq {m g m' g' : FVec Ideal S .f32} (hm : m' = m) (hg : g' = g) : refMom h m' g' = momW m g := by
  subst hm hg; rfl
/-- The reference's new second moment is the step's. -/
theorem refVar_eq {v g v' g' : FVec Ideal S .f32} (hv : v' = v) (hg : g' = g) : refVar h v' g' = varW v g := by
  subst hv hg; rfl
/-- What the reference adds to the weight is the step's. -/
theorem refDelta_eq {w m v g w' m' v' g' : FVec Ideal S .f32} (hw : w' = w) (hm : m' = m) (hv : v' = v) (hg : g' = g) :
    refDelta h w' m' v' g' = deltaW w m v g := by
  subst hw hm hv hg; rfl

end Cert.Upd

end
-- ==== Proof.UpdSmallFinal.lean ====
/- The optimiser's step of the four small weights of the state space: packing and unpacking are inverse to one another,
   and the call's result arrays are the step of the packed arrays. -/
module

public import proofs.«01_k».proof.Proof.Gen.UpdSmallIdeal.Frame
public import proofs.«01_k».proof.Proof.UpdWhole
public import Idealize.ShloMosaic.Lib.Pointwise
public import Idealize.ShloMosaic.Lib.KernelVsHost
public import Idealize.ShloMosaic.Lib.Pipeline.ValueKit
public import Idealize.ShloMosaic.Lib.StableHlo.RunRead

@[expose] public section

set_option maxRecDepth 16384

noncomputable section

namespace Cert.UpdSmallIdeal.Final

open Cert.UpdSmallIdeal Cert.UpdSmallIdeal.Gen Idealize.ShloMosaic Idealize.ShloMosaic.TcCoe

/-- Four arrays of equal length. -/
abbrev pieces (x0 x1 x2 x3 : FVec Ideal S131072 .f32) : List ((s : Shape) × (s.Idx → Ideal .f32)) :=
  [⟨S131072, x0⟩, ⟨S131072, x1⟩, ⟨S131072, x2⟩, ⟨S131072, x3⟩]

/-- Those arrays one after the other. -/
abbrev cat (x0 x1 x2 x3 : FVec Ideal S131072 .f32) : FVec Ideal S524288 .f32 :=
  concatenate S524288 0 (pieces x0 x1 x2 x3) concatenates_S131072_S131072_S131072_S131072_S524288_d0

/-- The four weights' arrays laid out as one matrix, as the call takes them. -/
abbrev pack (a b : FVec Ideal S1x2x64x64x16 .f32) (p q : FVec Ideal S1x2x64x16x64 .f32) : FVec Ideal S512x1024 .f32 :=
  shapeCast S512x1024 (pad S524288 ![0] ![0] ![0] (cat (shapeCast S131072 a shapeCasts_S1x2x64x64x16_S131072) (shapeCast S131072 b shapeCasts_S1x2x64x64x16_S131072)
    (shapeCast S131072 p shapeCasts_S1x2x64x16x64_S131072) (shapeCast S131072 q shapeCasts_S1x2x64x16x64_S131072))
    (sitofp .f32 (constantI S_ 32 0#32)) pads_S524288_S524288_000 h_S_) shapeCasts_S524288_S512x1024

/-- The packed matrix from four rows that are the arrays' entries in order. -/
theorem pack_of {a b : FVec Ideal S1x2x64x64x16 .f32} {p q : FVec Ideal S1x2x64x16x64 .f32} {x0 x1 x2 x3 : FVec Ideal S131072 .f32}
    (h0 : x0 = shapeCast S131072 a shapeCasts_S1x2x64x64x16_S131072) (h1 : x1 = shapeCast S131072 b shapeCasts_S1x2x64x64x16_S131072)
    (h2 : x2 = shapeCast S131072 p shapeCasts_S1x2x64x16x64_S131072) (h3 : x3 = shapeCast S131072 q shapeCasts_S1x2x64x16x64_S131072) :
    shapeCast S512x1024 (pad S524288 ![0] ![0] ![0] (cat x0 x1 x2 x3) (sitofp .f32 (constantI S_ 32 0#32)) pads_S524288_S524288_000 h_S_)
      shapeCasts_S524288_S512x1024 = pack a b p q := by
  subst h0 h1 h2 h3; rfl

/-- The first weight's part of such a matrix. -/
abbrev part0 (x : FVec Ideal S512x1024 .f32) : FVec Ideal S1x2x64x64x16 .f32 :=
  shapeCast S1x2x64x64x16 (extractStridedSlice S131072 ![0] (shapeCast S524288 x shapeCasts_S512x1024_S524288) slices_S524288_S131072_0) shapeCasts_S131072_S1x2x64x64x16
/-- The second weight's part. -/
abbrev part1 (x : FVec Ideal S512x1024 .f32) : FVec Ideal S1x2x64x64x16 .f32 :=
  shapeCast S1x2x64x64x16 (extractStridedSlice S131072 ![131072] (shapeCast S524288 x shapeCasts_S512x1024_S524288) slices_S524288_S131072_131072) shapeCasts_S131072_S1x2x64x64x16
/-- The third weight's part. -/
abbrev part2 (x : FVec Ideal S512x1024 .f32) : FVec Ideal S1x2x64x16x64 .f32 :=
  shapeCast S1x2x64x16x64 (extractStridedSlice S131072 ![262144] (shapeCast S524288 x shapeCasts_S512x1024_S524288) slices_S524288_S131072_262144) shapeCasts_S131072_S1x2x64x16x64
/-- The fourth weight's part. -/
abbrev part3 (x : FVec Ideal S512x1024 .f32) : FVec Ideal S1x2x64x16x64 .f32 :=
  shapeCast S1x2x64x16x64 (extractStridedSlice S131072 ![393216] (shapeCast S524288 x shapeCasts_S512x1024_S524288) slices_S524288_S131072_393216) shapeCasts_S131072_S1x2x64x16x64

/-- A padding of no width leaves the array as it is. -/
theorem pad_none (x : FVec Ideal S524288 .f32) (v : FVec Ideal S_ .f32) :
    pad S524288 ![0] ![0] ![0] x v pads_S524288_S524288_000 h_S_ = x :=
  funext fun y => pad_apply_of_inside _ _ _ x v _ _ y y fun a => by
    obtain rfl : a = 0 := Subsingleton.elim _ _
    show (y 0).val = 0 + (y 0).val * (0 + 1)
    omega

/-- The length of the rows before a piece. -/
theorem before : (([S131072] : List Shape).map fun s => if h : s.rank = S524288.rank then s.size ((0 : Fin S524288.rank).cast h.symm) else 0).sum = 131072
    ∧ (([S131072, S131072] : List Shape).map fun s => if h : s.rank = S524288.rank then s.size ((0 : Fin S524288.rank).cast h.symm) else 0).sum = 262144
    ∧ (([S131072, S131072, S131072] : List Shape).map fun s => if h : s.rank = S524288.rank then s.size ((0 : Fin S524288.rank).cast h.symm) else 0).sum = 393216 := by
  decide +kernel

/-- A slice as long as a piece, taken where the piece begins, is the piece. -/
theorem slice_cat (x0 x1 x2 x3 : FVec Ideal S131072 .f32) :
    extractStridedSlice S131072 ![0] (cat x0 x1 x2 x3) slices_S524288_S131072_0 = x0
    ∧ extractStridedSlice S131072 ![131072] (cat x0 x1 x2 x3) slices_S524288_S131072_131072 = x1
    ∧ extractStridedSlice S131072 ![262144] (cat x0 x1 x2 x3) slices_S524288_S131072_262144 = x2
    ∧ extractStridedSlice S131072 ![393216] (cat x0 x1 x2 x3) slices_S524288_S131072_393216 = x3 := by
  refine ⟨funext fun y => ?_, funext fun y => ?_, funext fun y => ?_, funext fun y => ?_⟩
  · unfold extractStridedSlice
    refine concatenate_apply_piece (t := S524288) 0 (pieces x0 x1 x2 x3) concatenates_S131072_S131072_S131072_S131072_S524288_d0 _ 0 (show 0 < 4 by decide) S131072 x0 rfl rfl 0 rfl y (fun b hb => absurd (Subsingleton.elim _ _) hb) ?_
    show 0 + (y 0).val = 0 + (y 0).val
    rfl
  · unfold extractStridedSlice
    refine concatenate_apply_piece (t := S524288) 0 (pieces x0 x1 x2 x3) concatenates_S131072_S131072_S131072_S131072_S524288_d0 _ 1 (show 1 < 4 by decide) S131072 x1 rfl rfl 131072 before.1 y (fun b hb => absurd (Subsingleton.elim _ _) hb) ?_
    show 131072 + (y 0).val = 131072 + (y 0).val
    rfl
  · unfold extractStridedSlice
    refine concatenate_apply_piece (t := S524288) 0 (pieces x0 x1 x2 x3) concatenates_S131072_S131072_S131072_S131072_S524288_d0 _ 2 (show 2 < 4 by decide) S131072 x2 rfl rfl 262144 before.2.1 y (fun b hb => absurd (Subsingleton.elim _ _) hb) ?_
    show 262144 + (y 0).val = 262144 + (y 0).val
    rfl
  · unfold extractStridedSlice
    refine concatenate_apply_piece (t := S524288) 0 (pieces x0 x1 x2 x3) concatenates_S131072_S131072_S131072_S131072_S524288_d0 _ 3 (show 3 < 4 by decide) S131072 x3 rfl rfl 393216 before.2.2 y (fun b hb => absurd (Subsingleton.elim _ _) hb) ?_
    show 393216 + (y 0).val = 393216 + (y 0).val
    rfl

variable (a b : FVec Ideal S1x2x64x64x16 .f32) (p q : FVec Ideal S1x2x64x16x64 .f32)

/-- Each part of the packed matrix is the array packed there. -/
theorem part_pack : part0 (pack a b p q) = a ∧ part1 (pack a b p q) = b ∧ part2 (pack a b p q) = p ∧ part3 (pack a b p q) = q := by
  unfold part0 part1 part2 part3 pack
  rw [shapeCast_shapeCast, pad_none]
  obtain ⟨h0, h1, h2, h3⟩ := slice_cat (shapeCast S131072 a shapeCasts_S1x2x64x64x16_S131072) (shapeCast S131072 b shapeCasts_S1x2x64x64x16_S131072)
    (shapeCast S131072 p shapeCasts_S1x2x64x16x64_S131072) (shapeCast S131072 q shapeCasts_S1x2x64x16x64_S131072)
  rw [h0, h1, h2, h3]
  exact ⟨shapeCast_shapeCast _ _ _, shapeCast_shapeCast _ _ _, shapeCast_shapeCast _ _ _, shapeCast_shapeCast _ _ _⟩

/-- A part of the step of packed arrays is the step of their parts, for the first weight. -/
theorem part0_delta (w m v g : FVec Ideal S512x1024 .f32) {w' m' v' g' : FVec Ideal S1x2x64x64x16 .f32} (hw : part0 w = w') (hm : part0 m = m') (hv : part0 v = v') (hg : part0 g = g') :
    part0 (Upd.deltaW w m v g) = Upd.deltaW w' m' v' g' := by subst hw hm hv hg; rfl
/-- The same of its first moment. -/
theorem part0_mom (m g : FVec Ideal S512x1024 .f32) {m' g' : FVec Ideal S1x2x64x64x16 .f32} (hm : part0 m = m') (hg : part0 g = g') : part0 (Upd.momW m g) = Upd.momW m' g' := by
  subst hm hg; rfl
/-- The same of its second moment. -/
theorem part0_var (v g : FVec Ideal S512x1024 .f32) {v' g' : FVec Ideal S1x2x64x64x16 .f32} (hv : part0 v = v') (hg : part0 g = g') : part0 (Upd.varW v g) = Upd.varW v' g' := by
  subst hv hg; rfl

/-- A part of the step of packed arrays is the step of their parts, for the second weight. -/
theorem part1_delta (w m v g : FVec Ideal S512x1024 .f32) {w' m' v' g' : FVec Ideal S1x2x64x64x16 .f32} (hw : part1 w = w') (hm : part1 m = m') (hv : part1 v = v') (hg : part1 g = g') :
    part1 (Upd.deltaW w m v g) = Upd.deltaW w' m' v' g' := by subst hw hm hv hg; rfl
/-- The same of its first moment. -/
theorem part1_mom (m g : FVec Ideal S512x1024 .f32) {m' g' : FVec Ideal S1x2x64x64x16 .f32} (hm : part1 m = m') (hg : part1 g = g') : part1 (Upd.momW m g) = Upd.momW m' g' := by
  subst hm hg; rfl
/-- The same of its second moment. -/
theorem part1_var (v g : FVec Ideal S512x1024 .f32) {v' g' : FVec Ideal S1x2x64x64x16 .f32} (hv : part1 v = v') (hg : part1 g = g') : part1 (Upd.varW v g) = Upd.varW v' g' := by
  subst hv hg; rfl

/-- A part of the step of packed arrays is the step of their parts, for the third weight. -/
theorem part2_delta (w m v g : FVec Ideal S512x1024 .f32) {w' m' v' g' : FVec Ideal S1x2x64x16x64 .f32} (hw : part2 w = w') (hm : part2 m = m') (hv : part2 v = v') (hg : part2 g = g') :
    part2 (Upd.deltaW w m v g) = Upd.deltaW w' m' v' g' := by subst hw hm hv hg; rfl
/-- The same of its first moment. -/
theorem part2_mom (m g : FVec Ideal S512x1024 .f32) {m' g' : FVec Ideal S1x2x64x16x64 .f32} (hm : part2 m = m') (hg : part2 g = g') : part2 (Upd.momW m g) = Upd.momW m' g' := by
  subst hm hg; rfl
/-- The same of its second moment. -/
theorem part2_var (v g : FVec Ideal S512x1024 .f32) {v' g' : FVec Ideal S1x2x64x16x64 .f32} (hv : part2 v = v') (hg : part2 g = g') : part2 (Upd.varW v g) = Upd.varW v' g' := by
  subst hv hg; rfl

/-- A part of the step of packed arrays is the step of their parts, for the fourth weight. -/
theorem part3_delta (w m v g : FVec Ideal S512x1024 .f32) {w' m' v' g' : FVec Ideal S1x2x64x16x64 .f32} (hw : part3 w = w') (hm : part3 m = m') (hv : part3 v = v') (hg : part3 g = g') :
    part3 (Upd.deltaW w m v g) = Upd.deltaW w' m' v' g' := by subst hw hm hv hg; rfl
/-- The same of its first moment. -/
theorem part3_mom (m g : FVec Ideal S512x1024 .f32) {m' g' : FVec Ideal S1x2x64x16x64 .f32} (hm : part3 m = m') (hg : part3 g = g') : part3 (Upd.momW m g) = Upd.momW m' g' := by
  subst hm hg; rfl
/-- The same of its second moment. -/
theorem part3_var (v g : FVec Ideal S512x1024 .f32) {v' g' : FVec Ideal S1x2x64x16x64 .f32} (hv : part3 v = v') (hg : part3 g = g') : part3 (Upd.varW v g) = Upd.varW v' g' := by
  subst hv hg; rfl

/-- The four result blocks of the call. -/
theorem tile (w m v g : Vec Ideal S512x1024 .f32) : out0_4 (F := Ideal) w m v g = g ∧ out0_5 (F := Ideal) w m v g = Upd.deltaW w m v g
    ∧ out0_6 (F := Ideal) w m v g = Upd.momW m g ∧ out0_7 (F := Ideal) w m v g = Upd.varW v g := by
  unfold out0_4 out0_5 out0_6 out0_7
  refine ⟨?_, ?_, ?_, ?_⟩ <;> funext y <;>
  obtain ⟨i, j, rfl⟩ : ∃ (i : Fin 512) (j : Fin 1024), y = ix2 i j := ⟨y 0, y 1, eq_ix2 y⟩ <;> frame_out
  · pointwise [k0_pay1]
  · pointwise [k0_pay4, k0_pay3, k0_pay2, k0_pay1, Upd.deltaW, Upd.delta, Upd.mom, Upd.var]
  · pointwise [k0_pay2, k0_pay1, Upd.momW, Upd.mom]
  · pointwise [k0_pay3, k0_pay1, Upd.varW, Upd.var]

variable (m : (ℓ : Loc nD τ sig) → Buf (Elt Ideal) ℓ) (c : Dev nD)

set_option maxHeartbeats 4000000 in
/-- The four result arrays of the call: the step of the packed arrays. -/
theorem fin (w mo v g : FVec Ideal S512x1024 .f32) (hw : (V m c main_v6 : FVec Ideal S512x1024 .f32) = w) (hm : (V m c main_v13 : FVec Ideal S512x1024 .f32) = mo)
    (hv : (V m c main_v20 : FVec Ideal S512x1024 .f32) = v) (hg : (V m c main_v27 : FVec Ideal S512x1024 .f32) = g) :
    (dats m 0 c).arrAt 4 cfg0.N = g ∧ (dats m 0 c).arrAt 5 cfg0.N = Upd.deltaW w mo v g
    ∧ (dats m 0 c).arrAt 6 cfg0.N = Upd.momW mo g ∧ (dats m 0 c).arrAt 7 cfg0.N = Upd.varW v g := by
  subst hw hm hv hg
  refine ⟨(dats m 0 c).arrAt_eq_of_covers 4 _ (by decide +kernel) fun t hf y => ?_, (dats m 0 c).arrAt_eq_of_covers 5 _ (by decide +kernel) fun t hf y => ?_,
    (dats m 0 c).arrAt_eq_of_covers 6 _ (by decide +kernel) fun t hf y => ?_, (dats m 0 c).arrAt_eq_of_covers 7 _ (by decide +kernel) fun t hf y => ?_⟩
  · exact (congrFun ((after0_4 m c t).trans (tile _ _ _ _).1) y).trans rfl
  · exact (congrFun ((after0_5 m c t).trans (tile _ _ _ _).2.1) y).trans (Upd.deltaW_of rfl rfl rfl rfl)
  · exact (congrFun ((after0_6 m c t).trans (tile _ _ _ _).2.2.1) y).trans (Upd.momW_of rfl rfl)
  · exact (congrFun ((after0_7 m c t).trans (tile _ _ _ _).2.2.2) y).trans (Upd.varW_of rfl rfl)

set_option maxHeartbeats 4000000 in
/-- What the call takes: the packed weights, first and second moments, and gradients. -/
theorem packed : (V m c main_v6 : FVec Ideal S512x1024 .f32) = pack (m ((c : Thread nD τ).loc main_arg0)) (m ((c : Thread nD τ).loc main_arg1)) (m ((c : Thread nD τ).loc main_arg2)) (m ((c : Thread nD τ).loc main_arg3))
    ∧ (V m c main_v13 : FVec Ideal S512x1024 .f32) = pack (m ((c : Thread nD τ).loc main_arg4)) (m ((c : Thread nD τ).loc main_arg5)) (m ((c : Thread nD τ).loc main_arg6)) (m ((c : Thread nD τ).loc main_arg7))
    ∧ (V m c main_v20 : FVec Ideal S512x1024 .f32) = pack (m ((c : Thread nD τ).loc main_arg8)) (m ((c : Thread nD τ).loc main_arg9)) (m ((c : Thread nD τ).loc main_arg10)) (m ((c : Thread nD τ).loc main_arg11))
    ∧ (V m c main_v27 : FVec Ideal S512x1024 .f32) = pack (m ((c : Thread nD τ).loc main_arg12)) (m ((c : Thread nD τ).loc main_arg13)) (m ((c : Thread nD τ).loc main_arg14)) (m ((c : Thread nD τ).loc main_arg15)) := by
  refine ⟨?_, ?_, ?_, ?_⟩ <;> (unfold V V0; after_reads_simp; refine pack_of ?_ ?_ ?_ ?_)
  · show StableHlo.upto _ _ _ (Proc.devRef .tc main_v0) = _; after_reads_simp; rfl
  · show StableHlo.upto _ _ _ (Proc.devRef .tc main_v1) = _; after_reads_simp; rfl
  · show StableHlo.upto _ _ _ (Proc.devRef .tc main_v2) = _; after_reads_simp; rfl
  · show StableHlo.upto _ _ _ (Proc.devRef .tc main_v3) = _; after_reads_simp; rfl
  · show StableHlo.upto _ _ _ (Proc.devRef .tc main_v7) = _; after_reads_simp; rfl
  · show StableHlo.upto _ _ _ (Proc.devRef .tc main_v8) = _; after_reads_simp; rfl
  · show StableHlo.upto _ _ _ (Proc.devRef .tc main_v9) = _; after_reads_simp; rfl
  · show StableHlo.upto _ _ _ (Proc.devRef .tc main_v10) = _; after_reads_simp; rfl
  · show StableHlo.upto _ _ _ (Proc.devRef .tc main_v14) = _; after_reads_simp; rfl
  · show StableHlo.upto _ _ _ (Proc.devRef .tc main_v15) = _; after_reads_simp; rfl
  · show StableHlo.upto _ _ _ (Proc.devRef .tc main_v16) = _; after_reads_simp; rfl
  · show StableHlo.upto _ _ _ (Proc.devRef .tc main_v17) = _; after_reads_simp; rfl
  · show StableHlo.upto _ _ _ (Proc.devRef .tc main_v21) = _; after_reads_simp; rfl
  · show StableHlo.upto _ _ _ (Proc.devRef .tc main_v22) = _; after_reads_simp; rfl
  · show StableHlo.upto _ _ _ (Proc.devRef .tc main_v23) = _; after_reads_simp; rfl
  · show StableHlo.upto _ _ _ (Proc.devRef .tc main_v24) = _; after_reads_simp; rfl

/-- The program's sixteen results are the parts of the call's four result arrays. -/
theorem tail (U : Valuation τ sig (Elt Ideal)) :
    let R := StableHlo.after (hostOps1 (F := Ideal)) U
    let x0 : FVec Ideal S512x1024 .f32 := U (Proc.devRef .tc main_v28_0)
    let x1 : FVec Ideal S512x1024 .f32 := U (Proc.devRef .tc main_v28_1)
    let x2 : FVec Ideal S512x1024 .f32 := U (Proc.devRef .tc main_v28_2)
    let x3 : FVec Ideal S512x1024 .f32 := U (Proc.devRef .tc main_v28_3)
    (R (Proc.devRef .tc main_v31) = part0 x0 ∧ R (Proc.devRef .tc main_v40) = part0 x1 ∧ R (Proc.devRef .tc main_v49) = part0 x2 ∧ R (Proc.devRef .tc main_v58) = part0 x3)
    ∧ (R (Proc.devRef .tc main_v33) = part1 x0 ∧ R (Proc.devRef .tc main_v42) = part1 x1 ∧ R (Proc.devRef .tc main_v51) = part1 x2 ∧ R (Proc.devRef .tc main_v60) = part1 x3)
    ∧ (R (Proc.devRef .tc main_v35) = part2 x0 ∧ R (Proc.devRef .tc main_v44) = part2 x1 ∧ R (Proc.devRef .tc main_v53) = part2 x2 ∧ R (Proc.devRef .tc main_v62) = part2 x3)
    ∧ (R (Proc.devRef .tc main_v37) = part3 x0 ∧ R (Proc.devRef .tc main_v46) = part3 x1 ∧ R (Proc.devRef .tc main_v55) = part3 x2 ∧ R (Proc.devRef .tc main_v64) = part3 x3) := by
  intro R x0 x1 x2 x3
  refine ⟨⟨?_, ?_, ?_, ?_⟩, ⟨?_, ?_, ?_, ?_⟩, ⟨?_, ?_, ?_, ?_⟩, ⟨?_, ?_, ?_, ?_⟩⟩ <;>
  (show StableHlo.after (hostOps1 (F := Ideal)) U _ = _; after_reads_simp; rfl)

end Cert.UpdSmallIdeal.Final
-- ==== Proof.UpdSmallCert.lean ====
/- The optimiser's step of the four small weights of the state space: the kernel's run set beside the reference's. -/
module

public import proofs.«01_k».proof.Defs
public import proofs.«01_k».proof.Proof.UpdSmallFinal
public import proofs.«01_k».proof.Proof.Gen.UpdSmallRefIdeal.Run
public import Idealize.ShloMosaic.Lib.Claim

@[expose] public section

set_option maxRecDepth 16384

noncomputable section

namespace Cert.UpdSmallCert

open Idealize.ShloMosaic Idealize.ShloMosaic.TcCoe Idealize.SL.Sem

/-- The reference's run keeps its arguments and leaves every counter at zero: it declares no semaphore. -/
theorem frameR (m : (ℓ : Loc Cert.UpdSmallRefIdeal.nD Cert.UpdSmallRefIdeal.τ Cert.UpdSmallRefIdeal.sig) → Buf (Elt Ideal) ℓ) (ρ : Dev Cert.UpdSmallRefIdeal.nD → PrngReg) :
    θ_run (Cert.UpdSmallRefIdeal.defs (F := Ideal)) (onTc (τ := Cert.UpdSmallRefIdeal.τ) (Cert.UpdSmallRefIdeal.main (F := Ideal))) ⟨m, fun _ => 0, ρ⟩ (fun r => (∀ c : Dev Cert.UpdSmallRefIdeal.nD,
      r.2.mem ((c.tc : Thread Cert.UpdSmallRefIdeal.nD Cert.UpdSmallRefIdeal.τ).loc Cert.UpdSmallRefIdeal.main_arg0) = m ((c.tc : Thread Cert.UpdSmallRefIdeal.nD Cert.UpdSmallRefIdeal.τ).loc Cert.UpdSmallRefIdeal.main_arg0)
      ∧ r.2.mem ((c.tc : Thread Cert.UpdSmallRefIdeal.nD Cert.UpdSmallRefIdeal.τ).loc Cert.UpdSmallRefIdeal.main_arg1) = m ((c.tc : Thread Cert.UpdSmallRefIdeal.nD Cert.UpdSmallRefIdeal.τ).loc Cert.UpdSmallRefIdeal.main_arg1)
      ∧ r.2.mem ((c.tc : Thread Cert.UpdSmallRefIdeal.nD Cert.UpdSmallRefIdeal.τ).loc Cert.UpdSmallRefIdeal.main_arg2) = m ((c.tc : Thread Cert.UpdSmallRefIdeal.nD Cert.UpdSmallRefIdeal.τ).loc Cert.UpdSmallRefIdeal.main_arg2)
      ∧ r.2.mem ((c.tc : Thread Cert.UpdSmallRefIdeal.nD Cert.UpdSmallRefIdeal.τ).loc Cert.UpdSmallRefIdeal.main_arg3) = m ((c.tc : Thread Cert.UpdSmallRefIdeal.nD Cert.UpdSmallRefIdeal.τ).loc Cert.UpdSmallRefIdeal.main_arg3)
      ∧ r.2.mem ((c.tc : Thread Cert.UpdSmallRefIdeal.nD Cert.UpdSmallRefIdeal.τ).loc Cert.UpdSmallRefIdeal.main_arg4) = m ((c.tc : Thread Cert.UpdSmallRefIdeal.nD Cert.UpdSmallRefIdeal.τ).loc Cert.UpdSmallRefIdeal.main_arg4)
      ∧ r.2.mem ((c.tc : Thread Cert.UpdSmallRefIdeal.nD Cert.UpdSmallRefIdeal.τ).loc Cert.UpdSmallRefIdeal.main_arg5) = m ((c.tc : Thread Cert.UpdSmallRefIdeal.nD Cert.UpdSmallRefIdeal.τ).loc Cert.UpdSmallRefIdeal.main_arg5)
      ∧ r.2.mem ((c.tc : Thread Cert.UpdSmallRefIdeal.nD Cert.UpdSmallRefIdeal.τ).loc Cert.UpdSmallRefIdeal.main_arg6) = m ((c.tc : Thread Cert.UpdSmallRefIdeal.nD Cert.UpdSmallRefIdeal.τ).loc Cert.UpdSmallRefIdeal.main_arg6)
      ∧ r.2.mem ((c.tc : Thread Cert.UpdSmallRefIdeal.nD Cert.UpdSmallRefIdeal.τ).loc Cert.UpdSmallRefIdeal.main_arg7) = m ((c.tc : Thread Cert.UpdSmallRefIdeal.nD Cert.UpdSmallRefIdeal.τ).loc Cert.UpdSmallRefIdeal.main_arg7)
      ∧ r.2.mem ((c.tc : Thread Cert.UpdSmallRefIdeal.nD Cert.UpdSmallRefIdeal.τ).loc Cert.UpdSmallRefIdeal.main_arg8) = m ((c.tc : Thread Cert.UpdSmallRefIdeal.nD Cert.UpdSmallRefIdeal.τ).loc Cert.UpdSmallRefIdeal.main_arg8)
      ∧ r.2.mem ((c.tc : Thread Cert.UpdSmallRefIdeal.nD Cert.UpdSmallRefIdeal.τ).loc Cert.UpdSmallRefIdeal.main_arg9) = m ((c.tc : Thread Cert.UpdSmallRefIdeal.nD Cert.UpdSmallRefIdeal.τ).loc Cert.UpdSmallRefIdeal.main_arg9)
      ∧ r.2.mem ((c.tc : Thread Cert.UpdSmallRefIdeal.nD Cert.UpdSmallRefIdeal.τ).loc Cert.UpdSmallRefIdeal.main_arg10) = m ((c.tc : Thread Cert.UpdSmallRefIdeal.nD Cert.UpdSmallRefIdeal.τ).loc Cert.UpdSmallRefIdeal.main_arg10)
      ∧ r.2.mem ((c.tc : Thread Cert.UpdSmallRefIdeal.nD Cert.UpdSmallRefIdeal.τ).loc Cert.UpdSmallRefIdeal.main_arg11) = m ((c.tc : Thread Cert.UpdSmallRefIdeal.nD Cert.UpdSmallRefIdeal.τ).loc Cert.UpdSmallRefIdeal.main_arg11)
      ∧ r.2.mem ((c.tc : Thread Cert.UpdSmallRefIdeal.nD Cert.UpdSmallRefIdeal.τ).loc Cert.UpdSmallRefIdeal.main_arg12) = m ((c.tc : Thread Cert.UpdSmallRefIdeal.nD Cert.UpdSmallRefIdeal.τ).loc Cert.UpdSmallRefIdeal.main_arg12)
      ∧ r.2.mem ((c.tc : Thread Cert.UpdSmallRefIdeal.nD Cert.UpdSmallRefIdeal.τ).loc Cert.UpdSmallRefIdeal.main_arg13) = m ((c.tc : Thread Cert.UpdSmallRefIdeal.nD Cert.UpdSmallRefIdeal.τ).loc Cert.UpdSmallRefIdeal.main_arg13)
      ∧ r.2.mem ((c.tc : Thread Cert.UpdSmallRefIdeal.nD Cert.UpdSmallRefIdeal.τ).loc Cert.UpdSmallRefIdeal.main_arg14) = m ((c.tc : Thread Cert.UpdSmallRefIdeal.nD Cert.UpdSmallRefIdeal.τ).loc Cert.UpdSmallRefIdeal.main_arg14)
      ∧ r.2.mem ((c.tc : Thread Cert.UpdSmallRefIdeal.nD Cert.UpdSmallRefIdeal.τ).loc Cert.UpdSmallRefIdeal.main_arg15) = m ((c.tc : Thread Cert.UpdSmallRefIdeal.nD Cert.UpdSmallRefIdeal.τ).loc Cert.UpdSmallRefIdeal.main_arg15))
      ∧ r.2.sem = fun _ => 0) :=
  (θ_run Cert.UpdSmallRefIdeal.defs _ _).mono
    (fun r h => ⟨fun c => (h c).2.2.2.2.2.2.2.2.2.2.2.2.2.2.2.2, Idealize.ShloMosaic.sem_eq_zero_of_no_sems (by decide) r.2⟩)
    (Cert.UpdSmallRefIdeal.Value.run (F := Ideal) m ρ)

set_option maxHeartbeats 4000000 in
open Cert.UpdSmallIdeal.Gen Cert.UpdSmallIdeal.Final in
/-- What the kernel's program leaves in its sixteen results, weight by weight: the gradient, the step and the two moments. -/
theorem left (m : (ℓ : Loc Cert.UpdSmallIdeal.nD Cert.UpdSmallIdeal.τ Cert.UpdSmallIdeal.sig) → Buf (Elt Ideal) ℓ) (c : Dev Cert.UpdSmallIdeal.nD) :
    let R : (b : Ref Cert.UpdSmallIdeal.sig .tc) → Buf (Elt Ideal) ((c : Thread Cert.UpdSmallIdeal.nD Cert.UpdSmallIdeal.τ).loc b) := Idealize.ShloMosaic.Pipeline.afterTail₀ Cert.UpdSmallIdeal.cfgs (dats m) 0 (V0 m) [hostOps1] c
    (R Cert.UpdSmallIdeal.main_v31 = (m ((c : Thread Cert.UpdSmallIdeal.nD Cert.UpdSmallIdeal.τ).loc Cert.UpdSmallIdeal.main_arg12)) ∧ R Cert.UpdSmallIdeal.main_v40 = Upd.deltaW (S := Cert.UpdSmallIdeal.S1x2x64x64x16) (m ((c : Thread Cert.UpdSmallIdeal.nD Cert.UpdSmallIdeal.τ).loc Cert.UpdSmallIdeal.main_arg0)) (m ((c : Thread Cert.UpdSmallIdeal.nD Cert.UpdSmallIdeal.τ).loc Cert.UpdSmallIdeal.main_arg4)) (m ((c : Thread Cert.UpdSmallIdeal.nD Cert.UpdSmallIdeal.τ).loc Cert.UpdSmallIdeal.main_arg8)) (m ((c : Thread Cert.UpdSmallIdeal.nD Cert.UpdSmallIdeal.τ).loc Cert.UpdSmallIdeal.main_arg12)) ∧ R Cert.UpdSmallIdeal.main_v49 = Upd.momW (S := Cert.UpdSmallIdeal.S1x2x64x64x16) (m ((c : Thread Cert.UpdSmallIdeal.nD Cert.UpdSmallIdeal.τ).loc Cert.UpdSmallIdeal.main_arg4)) (m ((c : Thread Cert.UpdSmallIdeal.nD Cert.UpdSmallIdeal.τ).loc Cert.UpdSmallIdeal.main_arg12)) ∧ R Cert.UpdSmallIdeal.main_v58 = Upd.varW (S := Cert.UpdSmallIdeal.S1x2x64x64x16) (m ((c : Thread Cert.UpdSmallIdeal.nD Cert.UpdSmallIdeal.τ).loc Cert.UpdSmallIdeal.main_arg8)) (m ((c : Thread Cert.UpdSmallIdeal.nD Cert.UpdSmallIdeal.τ).loc Cert.UpdSmallIdeal.main_arg12)))
    ∧ (R Cert.UpdSmallIdeal.main_v33 = (m ((c : Thread Cert.UpdSmallIdeal.nD Cert.UpdSmallIdeal.τ).loc Cert.UpdSmallIdeal.main_arg13)) ∧ R Cert.UpdSmallIdeal.main_v42 = Upd.deltaW (S := Cert.UpdSmallIdeal.S1x2x64x64x16) (m ((c : Thread Cert.UpdSmallIdeal.nD Cert.UpdSmallIdeal.τ).loc Cert.UpdSmallIdeal.main_arg1)) (m ((c : Thread Cert.UpdSmallIdeal.nD Cert.UpdSmallIdeal.τ).loc Cert.UpdSmallIdeal.main_arg5)) (m ((c : Thread Cert.UpdSmallIdeal.nD Cert.UpdSmallIdeal.τ).loc Cert.UpdSmallIdeal.main_arg9)) (m ((c : Thread Cert.UpdSmallIdeal.nD Cert.UpdSmallIdeal.τ).loc Cert.UpdSmallIdeal.main_arg13)) ∧ R Cert.UpdSmallIdeal.main_v51 = Upd.momW (S := Cert.UpdSmallIdeal.S1x2x64x64x16) (m ((c : Thread Cert.UpdSmallIdeal.nD Cert.UpdSmallIdeal.τ).loc Cert.UpdSmallIdeal.main_arg5)) (m ((c : Thread Cert.UpdSmallIdeal.nD Cert.UpdSmallIdeal.τ).loc Cert.UpdSmallIdeal.main_arg13)) ∧ R Cert.UpdSmallIdeal.main_v60 = Upd.varW (S := Cert.UpdSmallIdeal.S1x2x64x64x16) (m ((c : Thread Cert.UpdSmallIdeal.nD Cert.UpdSmallIdeal.τ).loc Cert.UpdSmallIdeal.main_arg9)) (m ((c : Thread Cert.UpdSmallIdeal.nD Cert.UpdSmallIdeal.τ).loc Cert.UpdSmallIdeal.main_arg13)))
    ∧ (R Cert.UpdSmallIdeal.main_v35 = (m ((c : Thread Cert.UpdSmallIdeal.nD Cert.UpdSmallIdeal.τ).loc Cert.UpdSmallIdeal.main_arg14)) ∧ R Cert.UpdSmallIdeal.main_v44 = Upd.deltaW (S := Cert.UpdSmallIdeal.S1x2x64x16x64) (m ((c : Thread Cert.UpdSmallIdeal.nD Cert.UpdSmallIdeal.τ).loc Cert.UpdSmallIdeal.main_arg2)) (m ((c : Thread Cert.UpdSmallIdeal.nD Cert.UpdSmallIdeal.τ).loc Cert.UpdSmallIdeal.main_arg6)) (m ((c : Thread Cert.UpdSmallIdeal.nD Cert.UpdSmallIdeal.τ).loc Cert.UpdSmallIdeal.main_arg10)) (m ((c : Thread Cert.UpdSmallIdeal.nD Cert.UpdSmallIdeal.τ).loc Cert.UpdSmallIdeal.main_arg14)) ∧ R Cert.UpdSmallIdeal.main_v53 = Upd.momW (S := Cert.UpdSmallIdeal.S1x2x64x16x64) (m ((c : Thread Cert.UpdSmallIdeal.nD Cert.UpdSmallIdeal.τ).loc Cert.UpdSmallIdeal.main_arg6)) (m ((c : Thread Cert.UpdSmallIdeal.nD Cert.UpdSmallIdeal.τ).loc Cert.UpdSmallIdeal.main_arg14)) ∧ R Cert.UpdSmallIdeal.main_v62 = Upd.varW (S := Cert.UpdSmallIdeal.S1x2x64x16x64) (m ((c : Thread Cert.UpdSmallIdeal.nD Cert.UpdSmallIdeal.τ).loc Cert.UpdSmallIdeal.main_arg10)) (m ((c : Thread Cert.UpdSmallIdeal.nD Cert.UpdSmallIdeal.τ).loc Cert.UpdSmallIdeal.main_arg14)))
    ∧ (R Cert.UpdSmallIdeal.main_v37 = (m ((c : Thread Cert.UpdSmallIdeal.nD Cert.UpdSmallIdeal.τ).loc Cert.UpdSmallIdeal.main_arg15)) ∧ R Cert.UpdSmallIdeal.main_v46 = Upd.deltaW (S := Cert.UpdSmallIdeal.S1x2x64x16x64) (m ((c : Thread Cert.UpdSmallIdeal.nD Cert.UpdSmallIdeal.τ).loc Cert.UpdSmallIdeal.main_arg3)) (m ((c : Thread Cert.UpdSmallIdeal.nD Cert.UpdSmallIdeal.τ).loc Cert.UpdSmallIdeal.main_arg7)) (m ((c : Thread Cert.UpdSmallIdeal.nD Cert.UpdSmallIdeal.τ).loc Cert.UpdSmallIdeal.main_arg11)) (m ((c : Thread Cert.UpdSmallIdeal.nD Cert.UpdSmallIdeal.τ).loc Cert.UpdSmallIdeal.main_arg15)) ∧ R Cert.UpdSmallIdeal.main_v55 = Upd.momW (S := Cert.UpdSmallIdeal.S1x2x64x16x64) (m ((c : Thread Cert.UpdSmallIdeal.nD Cert.UpdSmallIdeal.τ).loc Cert.UpdSmallIdeal.main_arg7)) (m ((c : Thread Cert.UpdSmallIdeal.nD Cert.UpdSmallIdeal.τ).loc Cert.UpdSmallIdeal.main_arg15)) ∧ R Cert.UpdSmallIdeal.main_v64 = Upd.varW (S := Cert.UpdSmallIdeal.S1x2x64x16x64) (m ((c : Thread Cert.UpdSmallIdeal.nD Cert.UpdSmallIdeal.τ).loc Cert.UpdSmallIdeal.main_arg11)) (m ((c : Thread Cert.UpdSmallIdeal.nD Cert.UpdSmallIdeal.τ).loc Cert.UpdSmallIdeal.main_arg15))) := by
  intro R
  obtain ⟨hw, hm, hv, hg⟩ := packed m c
  obtain ⟨f0, f1, f2, f3⟩ := fin m c _ _ _ _ hw hm hv hg
  obtain ⟨w0, w1, w2, w3⟩ := part_pack (m ((c : Thread Cert.UpdSmallIdeal.nD Cert.UpdSmallIdeal.τ).loc Cert.UpdSmallIdeal.main_arg0)) (m ((c : Thread Cert.UpdSmallIdeal.nD Cert.UpdSmallIdeal.τ).loc Cert.UpdSmallIdeal.main_arg1)) (m ((c : Thread Cert.UpdSmallIdeal.nD Cert.UpdSmallIdeal.τ).loc Cert.UpdSmallIdeal.main_arg2)) (m ((c : Thread Cert.UpdSmallIdeal.nD Cert.UpdSmallIdeal.τ).loc Cert.UpdSmallIdeal.main_arg3))
  obtain ⟨m0, m1, m2, m3⟩ := part_pack (m ((c : Thread Cert.UpdSmallIdeal.nD Cert.UpdSmallIdeal.τ).loc Cert.UpdSmallIdeal.main_arg4)) (m ((c : Thread Cert.UpdSmallIdeal.nD Cert.UpdSmallIdeal.τ).loc Cert.UpdSmallIdeal.main_arg5)) (m ((c : Thread Cert.UpdSmallIdeal.nD Cert.UpdSmallIdeal.τ).loc Cert.UpdSmallIdeal.main_arg6)) (m ((c : Thread Cert.UpdSmallIdeal.nD Cert.UpdSmallIdeal.τ).loc Cert.UpdSmallIdeal.main_arg7))
  obtain ⟨v0, v1, v2, v3⟩ := part_pack (m ((c : Thread Cert.UpdSmallIdeal.nD Cert.UpdSmallIdeal.τ).loc Cert.UpdSmallIdeal.main_arg8)) (m ((c : Thread Cert.UpdSmallIdeal.nD Cert.UpdSmallIdeal.τ).loc Cert.UpdSmallIdeal.main_arg9)) (m ((c : Thread Cert.UpdSmallIdeal.nD Cert.UpdSmallIdeal.τ).loc Cert.UpdSmallIdeal.main_arg10)) (m ((c : Thread Cert.UpdSmallIdeal.nD Cert.UpdSmallIdeal.τ).loc Cert.UpdSmallIdeal.main_arg11))
  obtain ⟨g0, g1, g2, g3⟩ := part_pack (m ((c : Thread Cert.UpdSmallIdeal.nD Cert.UpdSmallIdeal.τ).loc Cert.UpdSmallIdeal.main_arg12)) (m ((c : Thread Cert.UpdSmallIdeal.nD Cert.UpdSmallIdeal.τ).loc Cert.UpdSmallIdeal.main_arg13)) (m ((c : Thread Cert.UpdSmallIdeal.nD Cert.UpdSmallIdeal.τ).loc Cert.UpdSmallIdeal.main_arg14)) (m ((c : Thread Cert.UpdSmallIdeal.nD Cert.UpdSmallIdeal.τ).loc Cert.UpdSmallIdeal.main_arg15))
  have e (w) := Idealize.ShloMosaic.Pipeline.withArrays_arr (Cert.UpdSmallIdeal.cfgs 0).spec launch0.win.arr_inj c (V0 m c) (fun w => (dats m 0 c).arrAt w (Cert.UpdSmallIdeal.cfgs 0).N) w
  obtain ⟨⟨r0, r1, r2, r3⟩, ⟨s0, s1, s2, s3⟩, ⟨t0, t1, t2, t3⟩, ⟨u0, u1, u2, u3⟩⟩ := tail
    (Idealize.ShloMosaic.Pipeline.withArrays (Cert.UpdSmallIdeal.cfgs 0).spec c (V0 m c) fun w => (dats m 0 c).arrAt w (Cert.UpdSmallIdeal.cfgs 0).N)
  have e4 := (e 4).trans f0
  have e5 := (e 5).trans f1
  have e6 := (e 6).trans f2
  have e7 := (e 7).trans f3
  exact ⟨⟨(r0.trans (congrArg part0 e4)).trans g0,
    (r1.trans (congrArg part0 e5)).trans (part0_delta _ _ _ _ w0 m0 v0 g0),
    (r2.trans (congrArg part0 e6)).trans (part0_mom _ _ m0 g0),
    (r3.trans (congrArg part0 e7)).trans (part0_var _ _ v0 g0)⟩,
    ⟨(s0.trans (congrArg part1 e4)).trans g1,
    (s1.trans (congrArg part1 e5)).trans (part1_delta _ _ _ _ w1 m1 v1 g1),
    (s2.trans (congrArg part1 e6)).trans (part1_mom _ _ m1 g1),
    (s3.trans (congrArg part1 e7)).trans (part1_var _ _ v1 g1)⟩,
    ⟨(t0.trans (congrArg part2 e4)).trans g2,
    (t1.trans (congrArg part2 e5)).trans (part2_delta _ _ _ _ w2 m2 v2 g2),
    (t2.trans (congrArg part2 e6)).trans (part2_mom _ _ m2 g2),
    (t3.trans (congrArg part2 e7)).trans (part2_var _ _ v2 g2)⟩,
    ⟨(u0.trans (congrArg part3 e4)).trans g3,
    (u1.trans (congrArg part3 e5)).trans (part3_delta _ _ _ _ w3 m3 v3 g3),
    (u2.trans (congrArg part3 e6)).trans (part3_mom _ _ m3 g3),
    (u3.trans (congrArg part3 e7)).trans (part3_var _ _ v3 g3)⟩⟩

set_option maxHeartbeats 4000000 in
/-- The kernel and the reference end with the same gradients, steps and moments. -/
theorem algebraic :
    Cert.algebraic_UpdSmallIdeal_UpdSmallRefIdeal (hUpdSmallIdeal := Cert.UpdSmallIdeal.Gen.facts) (hUpdSmallRefIdeal := Cert.UpdSmallRefIdeal.Gen.facts) := by
  intro m ρ m' ρ' _ hag
  refine ⟨fun c => (m ((c : Thread Cert.UpdSmallIdeal.nD Cert.UpdSmallIdeal.τ).loc Cert.UpdSmallIdeal.main_arg12)), fun c => Upd.deltaW (S := Cert.UpdSmallIdeal.S1x2x64x64x16) (m ((c : Thread Cert.UpdSmallIdeal.nD Cert.UpdSmallIdeal.τ).loc Cert.UpdSmallIdeal.main_arg0)) (m ((c : Thread Cert.UpdSmallIdeal.nD Cert.UpdSmallIdeal.τ).loc Cert.UpdSmallIdeal.main_arg4)) (m ((c : Thread Cert.UpdSmallIdeal.nD Cert.UpdSmallIdeal.τ).loc Cert.UpdSmallIdeal.main_arg8)) (m ((c : Thread Cert.UpdSmallIdeal.nD Cert.UpdSmallIdeal.τ).loc Cert.UpdSmallIdeal.main_arg12)), fun c => Upd.momW (S := Cert.UpdSmallIdeal.S1x2x64x64x16) (m ((c : Thread Cert.UpdSmallIdeal.nD Cert.UpdSmallIdeal.τ).loc Cert.UpdSmallIdeal.main_arg4)) (m ((c : Thread Cert.UpdSmallIdeal.nD Cert.UpdSmallIdeal.τ).loc Cert.UpdSmallIdeal.main_arg12)), fun c => Upd.varW (S := Cert.UpdSmallIdeal.S1x2x64x64x16) (m ((c : Thread Cert.UpdSmallIdeal.nD Cert.UpdSmallIdeal.τ).loc Cert.UpdSmallIdeal.main_arg8)) (m ((c : Thread Cert.UpdSmallIdeal.nD Cert.UpdSmallIdeal.τ).loc Cert.UpdSmallIdeal.main_arg12)),
    fun c => (m ((c : Thread Cert.UpdSmallIdeal.nD Cert.UpdSmallIdeal.τ).loc Cert.UpdSmallIdeal.main_arg13)), fun c => Upd.deltaW (S := Cert.UpdSmallIdeal.S1x2x64x64x16) (m ((c : Thread Cert.UpdSmallIdeal.nD Cert.UpdSmallIdeal.τ).loc Cert.UpdSmallIdeal.main_arg1)) (m ((c : Thread Cert.UpdSmallIdeal.nD Cert.UpdSmallIdeal.τ).loc Cert.UpdSmallIdeal.main_arg5)) (m ((c : Thread Cert.UpdSmallIdeal.nD Cert.UpdSmallIdeal.τ).loc Cert.UpdSmallIdeal.main_arg9)) (m ((c : Thread Cert.UpdSmallIdeal.nD Cert.UpdSmallIdeal.τ).loc Cert.UpdSmallIdeal.main_arg13)), fun c => Upd.momW (S := Cert.UpdSmallIdeal.S1x2x64x64x16) (m ((c : Thread Cert.UpdSmallIdeal.nD Cert.UpdSmallIdeal.τ).loc Cert.UpdSmallIdeal.main_arg5)) (m ((c : Thread Cert.UpdSmallIdeal.nD Cert.UpdSmallIdeal.τ).loc Cert.UpdSmallIdeal.main_arg13)), fun c => Upd.varW (S := Cert.UpdSmallIdeal.S1x2x64x64x16) (m ((c : Thread Cert.UpdSmallIdeal.nD Cert.UpdSmallIdeal.τ).loc Cert.UpdSmallIdeal.main_arg9)) (m ((c : Thread Cert.UpdSmallIdeal.nD Cert.UpdSmallIdeal.τ).loc Cert.UpdSmallIdeal.main_arg13)),
    fun c => (m ((c : Thread Cert.UpdSmallIdeal.nD Cert.UpdSmallIdeal.τ).loc Cert.UpdSmallIdeal.main_arg14)), fun c => Upd.deltaW (S := Cert.UpdSmallIdeal.S1x2x64x16x64) (m ((c : Thread Cert.UpdSmallIdeal.nD Cert.UpdSmallIdeal.τ).loc Cert.UpdSmallIdeal.main_arg2)) (m ((c : Thread Cert.UpdSmallIdeal.nD Cert.UpdSmallIdeal.τ).loc Cert.UpdSmallIdeal.main_arg6)) (m ((c : Thread Cert.UpdSmallIdeal.nD Cert.UpdSmallIdeal.τ).loc Cert.UpdSmallIdeal.main_arg10)) (m ((c : Thread Cert.UpdSmallIdeal.nD Cert.UpdSmallIdeal.τ).loc Cert.UpdSmallIdeal.main_arg14)), fun c => Upd.momW (S := Cert.UpdSmallIdeal.S1x2x64x16x64) (m ((c : Thread Cert.UpdSmallIdeal.nD Cert.UpdSmallIdeal.τ).loc Cert.UpdSmallIdeal.main_arg6)) (m ((c : Thread Cert.UpdSmallIdeal.nD Cert.UpdSmallIdeal.τ).loc Cert.UpdSmallIdeal.main_arg14)), fun c => Upd.varW (S := Cert.UpdSmallIdeal.S1x2x64x16x64) (m ((c : Thread Cert.UpdSmallIdeal.nD Cert.UpdSmallIdeal.τ).loc Cert.UpdSmallIdeal.main_arg10)) (m ((c : Thread Cert.UpdSmallIdeal.nD Cert.UpdSmallIdeal.τ).loc Cert.UpdSmallIdeal.main_arg14)),
    fun c => (m ((c : Thread Cert.UpdSmallIdeal.nD Cert.UpdSmallIdeal.τ).loc Cert.UpdSmallIdeal.main_arg15)), fun c => Upd.deltaW (S := Cert.UpdSmallIdeal.S1x2x64x16x64) (m ((c : Thread Cert.UpdSmallIdeal.nD Cert.UpdSmallIdeal.τ).loc Cert.UpdSmallIdeal.main_arg3)) (m ((c : Thread Cert.UpdSmallIdeal.nD Cert.UpdSmallIdeal.τ).loc Cert.UpdSmallIdeal.main_arg7)) (m ((c : Thread Cert.UpdSmallIdeal.nD Cert.UpdSmallIdeal.τ).loc Cert.UpdSmallIdeal.main_arg11)) (m ((c : Thread Cert.UpdSmallIdeal.nD Cert.UpdSmallIdeal.τ).loc Cert.UpdSmallIdeal.main_arg15)), fun c => Upd.momW (S := Cert.UpdSmallIdeal.S1x2x64x16x64) (m ((c : Thread Cert.UpdSmallIdeal.nD Cert.UpdSmallIdeal.τ).loc Cert.UpdSmallIdeal.main_arg7)) (m ((c : Thread Cert.UpdSmallIdeal.nD Cert.UpdSmallIdeal.τ).loc Cert.UpdSmallIdeal.main_arg15)), fun c => Upd.varW (S := Cert.UpdSmallIdeal.S1x2x64x16x64) (m ((c : Thread Cert.UpdSmallIdeal.nD Cert.UpdSmallIdeal.τ).loc Cert.UpdSmallIdeal.main_arg11)) (m ((c : Thread Cert.UpdSmallIdeal.nD Cert.UpdSmallIdeal.τ).loc Cert.UpdSmallIdeal.main_arg15)), ?_, ?_⟩
  · refine (θ_run Cert.UpdSmallIdeal.defs _ _).mono (fun r h c => ?_) (θ_run_and (Cert.UpdSmallIdeal.Gen.run_main m ρ) (Cert.UpdSmallIdeal.Gen.unchanged m ρ))
    obtain ⟨⟨r0, r1, r2, r3⟩, ⟨s0, s1, s2, s3⟩, ⟨t0, t1, t2, t3⟩, ⟨u0, u1, u2, u3⟩⟩ := left m c
    have k := fun b hb => (h.1 c).2 b hb
    exact ⟨(k Cert.UpdSmallIdeal.main_v31 (Idealize.ShloMosaic.Pipeline.mem_restRefs_of Cert.UpdSmallIdeal.main_v31 rfl (by decide))).trans r0,
      (k Cert.UpdSmallIdeal.main_v40 (Idealize.ShloMosaic.Pipeline.mem_restRefs_of Cert.UpdSmallIdeal.main_v40 rfl (by decide))).trans r1,
      (k Cert.UpdSmallIdeal.main_v49 (Idealize.ShloMosaic.Pipeline.mem_restRefs_of Cert.UpdSmallIdeal.main_v49 rfl (by decide))).trans r2,
      (k Cert.UpdSmallIdeal.main_v58 (Idealize.ShloMosaic.Pipeline.mem_restRefs_of Cert.UpdSmallIdeal.main_v58 rfl (by decide))).trans r3,
      (k Cert.UpdSmallIdeal.main_v33 (Idealize.ShloMosaic.Pipeline.mem_restRefs_of Cert.UpdSmallIdeal.main_v33 rfl (by decide))).trans s0,
      (k Cert.UpdSmallIdeal.main_v42 (Idealize.ShloMosaic.Pipeline.mem_restRefs_of Cert.UpdSmallIdeal.main_v42 rfl (by decide))).trans s1,
      (k Cert.UpdSmallIdeal.main_v51 (Idealize.ShloMosaic.Pipeline.mem_restRefs_of Cert.UpdSmallIdeal.main_v51 rfl (by decide))).trans s2,
      (k Cert.UpdSmallIdeal.main_v60 (Idealize.ShloMosaic.Pipeline.mem_restRefs_of Cert.UpdSmallIdeal.main_v60 rfl (by decide))).trans s3,
      (k Cert.UpdSmallIdeal.main_v35 (Idealize.ShloMosaic.Pipeline.mem_restRefs_of Cert.UpdSmallIdeal.main_v35 rfl (by decide))).trans t0,
      (k Cert.UpdSmallIdeal.main_v44 (Idealize.ShloMosaic.Pipeline.mem_restRefs_of Cert.UpdSmallIdeal.main_v44 rfl (by decide))).trans t1,
      (k Cert.UpdSmallIdeal.main_v53 (Idealize.ShloMosaic.Pipeline.mem_restRefs_of Cert.UpdSmallIdeal.main_v53 rfl (by decide))).trans t2,
      (k Cert.UpdSmallIdeal.main_v62 (Idealize.ShloMosaic.Pipeline.mem_restRefs_of Cert.UpdSmallIdeal.main_v62 rfl (by decide))).trans t3,
      (k Cert.UpdSmallIdeal.main_v37 (Idealize.ShloMosaic.Pipeline.mem_restRefs_of Cert.UpdSmallIdeal.main_v37 rfl (by decide))).trans u0,
      (k Cert.UpdSmallIdeal.main_v46 (Idealize.ShloMosaic.Pipeline.mem_restRefs_of Cert.UpdSmallIdeal.main_v46 rfl (by decide))).trans u1,
      (k Cert.UpdSmallIdeal.main_v55 (Idealize.ShloMosaic.Pipeline.mem_restRefs_of Cert.UpdSmallIdeal.main_v55 rfl (by decide))).trans u2,
      (k Cert.UpdSmallIdeal.main_v64 (Idealize.ShloMosaic.Pipeline.mem_restRefs_of Cert.UpdSmallIdeal.main_v64 rfl (by decide))).trans u3, h.2 c⟩
  · refine (θ_run Cert.UpdSmallRefIdeal.defs _ _).mono (fun r h c => ?_) (Cert.UpdSmallRefIdeal.Value.run m' ρ')
    obtain ⟨h0, h1, h2, h3, h4, h5, h6, h7, h8, h9, h10, h11, h12, h13, h14, h15, ha⟩ := h c
    obtain ⟨a0, a1, a2, a3, a4, a5, a6, a7, a8, a9, a10, a11, a12, a13, a14, a15⟩ := hag c
    exact ⟨h0.trans a12, h1.trans (Upd.refDelta_eq Cert.UpdSmallRefIdeal.Gen.bcast_S_S1x2x64x64x16 a0 a4 a8 a12), h2.trans (Upd.refMom_eq Cert.UpdSmallRefIdeal.Gen.bcast_S_S1x2x64x64x16 a4 a12), h3.trans (Upd.refVar_eq Cert.UpdSmallRefIdeal.Gen.bcast_S_S1x2x64x64x16 a8 a12),
      h4.trans a13, h5.trans (Upd.refDelta_eq Cert.UpdSmallRefIdeal.Gen.bcast_S_S1x2x64x64x16 a1 a5 a9 a13), h6.trans (Upd.refMom_eq Cert.UpdSmallRefIdeal.Gen.bcast_S_S1x2x64x64x16 a5 a13), h7.trans (Upd.refVar_eq Cert.UpdSmallRefIdeal.Gen.bcast_S_S1x2x64x64x16 a9 a13),
      h8.trans a14, h9.trans (Upd.refDelta_eq Cert.UpdSmallRefIdeal.Gen.bcast_S_S1x2x64x16x64 a2 a6 a10 a14), h10.trans (Upd.refMom_eq Cert.UpdSmallRefIdeal.Gen.bcast_S_S1x2x64x16x64 a6 a14), h11.trans (Upd.refVar_eq Cert.UpdSmallRefIdeal.Gen.bcast_S_S1x2x64x16x64 a10 a14),
      h12.trans a15, h13.trans (Upd.refDelta_eq Cert.UpdSmallRefIdeal.Gen.bcast_S_S1x2x64x16x64 a3 a7 a11 a15), h14.trans (Upd.refMom_eq Cert.UpdSmallRefIdeal.Gen.bcast_S_S1x2x64x16x64 a7 a15), h15.trans (Upd.refVar_eq Cert.UpdSmallRefIdeal.Gen.bcast_S_S1x2x64x16x64 a11 a15), ha⟩

end Cert.UpdSmallCert

end
-- ==== Proof.UpdModFinal.lean ====
/- The modulation's weight: the gradient as a sum over the examples and the context, and the call's result arrays, which
   hold that gradient and the step of the optimiser that it gives. -/
module

public import proofs.«01_k».proof.Proof.Gen.UpdModIdeal.Frame
public import proofs.«01_k».proof.Proof.UpdWhole
public import proofs.«01_k».proof.Proof.FfnReal
public import Idealize.ShloMosaic.Lib.Pointwise
public import Idealize.ShloMosaic.Lib.KernelVsHost
public import Idealize.ShloMosaic.Lib.Pipeline.ValueKit
public import Idealize.ShloMosaic.Lib.StableHlo.RunRead

@[expose] public section

set_option maxRecDepth 16384

noncomputable section

namespace Cert.UpdModIdeal.Final

open Cert.UpdModIdeal Cert.UpdModIdeal.Gen Idealize.ShloMosaic Idealize.ShloMosaic.TcCoe

/-- A number times its logistic function. -/
def silu (x : EReal) : EReal := x * Ideal.logistic x

/-- Of a number that is not plus infinity it is real. -/
theorem silu_real {x : EReal} (h : x < ⊤) : ∃ r : ℝ, silu x = r := by
  unfold silu
  induction x with
  | bot => exact ⟨0, by rw [Ffn.logistic_bot, mul_zero]; rfl⟩
  | coe a => obtain ⟨s, hs⟩ := Ffn.logistic_coe a; exact ⟨a * s, by rw [hs]; rfl⟩
  | top => exact absurd h (lt_irrefl _)

/-- A real less itself is nothing. -/
theorem sub_real {x : EReal} (h : ∃ r : ℝ, x = r) : x - x = 0 := by
  obtain ⟨r, rfl⟩ := h
  rw [← EReal.coe_sub, sub_self]; rfl

/-- The gradient at a row and a column: the examples' and the context's. -/
def gradW (C : FVec Ideal S8x2048 .f32) (cc : FVec Ideal S2048 .f32) (D : FVec Ideal S8x4608 .f32) (d : FVec Ideal S1x4608 .f32) :
    FVec Ideal S1x2048x4608 .f32 :=
  fun y => (∑ r : Fin 8, silu (C (ix2 r (y 1))) * D (ix2 r (y 2))) + silu (cc (ix1 (y 1))) * d (ix2 0 (y 2))

/-- Something holds of sixteen rows if it holds of the first eight, of the ninth and of the last seven. -/
theorem rows16 {P : Fin 16 → Prop} (h : ∀ r : Fin 8, P ⟨r.1, by omega⟩) (h8 : P 8) (h9 : ∀ r : Fin 7, P ⟨9 + r.1, by omega⟩) (r : Fin 16) : P r := by
  obtain ⟨r, hr⟩ := r
  by_cases h1 : r < 8
  · exact h ⟨r, h1⟩
  by_cases h2 : r = 8
  · subst h2; exact h8
  · have e := h9 ⟨r - 9, by omega⟩
    have : 9 + (r - 9) = r := by omega
    simpa only [this] using e

/-- A sum over sixteen rows, the last seven of which give nothing. -/
theorem sum16 (f : Fin 16 → EReal) (h9 : ∀ r : Fin 7, f ⟨9 + r.1, by omega⟩ = 0) : ∑ r, f r = (∑ r : Fin 8, f ⟨r.1, by omega⟩) + f 8 := by
  have e1 := Fin.sum_univ_add (M := EReal) (a := 9) (b := 7) f
  have e2 := Fin.sum_univ_add (M := EReal) (a := 8) (b := 1) fun i => f (Fin.castAdd 7 i)
  have e3 : ∑ r : Fin 7, f (Fin.natAdd 9 r) = 0 := Finset.sum_eq_zero fun r _ => h9 r
  rw [e3, add_zero] at e1
  rw [Fin.sum_univ_one] at e2
  exact e1.trans e2

/-- The rows of the conditioning: the examples', the context's, and seven of zeros. -/
def acts (C : FVec Ideal S8x2048 .f32) (x : FVec Ideal S1x2048 .f32) (z : FVec Ideal S7x2048 .f32) : FVec Ideal S16x2048 .f32 :=
  concatenate S16x2048 0 [⟨S8x2048, C⟩, ⟨S1x2048, x⟩, ⟨S7x2048, z⟩] concatenates_S8x2048_S1x2048_S7x2048_S16x2048_d0

/-- The rows of the incoming gradients: likewise. -/
def cots (D : FVec Ideal S8x4608 .f32) (d : FVec Ideal S1x4608 .f32) (z : FVec Ideal S7x4608 .f32) : FVec Ideal S16x4608 .f32 :=
  concatenate S16x4608 0 [⟨S8x4608, D⟩, ⟨S1x4608, d⟩, ⟨S7x4608, z⟩] concatenates_S8x4608_S1x4608_S7x4608_S16x4608_d0

/-- Where each row of the conditioning comes from. -/
theorem acts_at (C : FVec Ideal S8x2048 .f32) (x : FVec Ideal S1x2048 .f32) (z : FVec Ideal S7x2048 .f32) (i : Fin 2048) :
    (∀ r : Fin 8, acts C x z (ix2 (⟨r.1, by omega⟩ : Fin 16) i) = C (ix2 r i)) ∧ acts C x z (ix2 (8 : Fin 16) i) = x (ix2 0 i)
    ∧ ∀ r : Fin 7, acts C x z (ix2 (⟨9 + r.1, by omega⟩ : Fin 16) i) = z (ix2 r i) := by
  unfold acts
  refine ⟨fun r => ?_, ?_, fun r => ?_⟩
  · exact concatenate_apply_piece (t := S16x2048) 0 [⟨S8x2048, C⟩, ⟨S1x2048, x⟩, ⟨S7x2048, z⟩] concatenates_S8x2048_S1x2048_S7x2048_S16x2048_d0 _ 0 (show 0 < 3 by decide) S8x2048 C rfl rfl 0 rfl (ix2 r i)
      (fun b hb => match b, hb with | 0, hb => absurd rfl hb | 1, _ => rfl) (Nat.zero_add _)
  · exact concatenate_apply_piece (t := S16x2048) 0 [⟨S8x2048, C⟩, ⟨S1x2048, x⟩, ⟨S7x2048, z⟩] concatenates_S8x2048_S1x2048_S7x2048_S16x2048_d0 _ 1 (show 1 < 3 by decide) S1x2048 x rfl rfl 8 rfl (ix2 0 i)
      (fun b hb => match b, hb with | 0, hb => absurd rfl hb | 1, _ => rfl) rfl
  · exact concatenate_apply_piece (t := S16x2048) 0 [⟨S8x2048, C⟩, ⟨S1x2048, x⟩, ⟨S7x2048, z⟩] concatenates_S8x2048_S1x2048_S7x2048_S16x2048_d0 _ 2 (show 2 < 3 by decide) S7x2048 z rfl rfl 9 rfl (ix2 r i)
      (fun b hb => match b, hb with | 0, hb => absurd rfl hb | 1, _ => rfl) rfl

/-- Where each row of the incoming gradients comes from. -/
theorem cots_at (D : FVec Ideal S8x4608 .f32) (d : FVec Ideal S1x4608 .f32) (z : FVec Ideal S7x4608 .f32) (i : Fin 4608) :
    (∀ r : Fin 8, cots D d z (ix2 (⟨r.1, by omega⟩ : Fin 16) i) = D (ix2 r i)) ∧ cots D d z (ix2 (8 : Fin 16) i) = d (ix2 0 i)
    ∧ ∀ r : Fin 7, cots D d z (ix2 (⟨9 + r.1, by omega⟩ : Fin 16) i) = z (ix2 r i) := by
  unfold cots
  refine ⟨fun r => ?_, ?_, fun r => ?_⟩
  · exact concatenate_apply_piece (t := S16x4608) 0 [⟨S8x4608, D⟩, ⟨S1x4608, d⟩, ⟨S7x4608, z⟩] concatenates_S8x4608_S1x4608_S7x4608_S16x4608_d0 _ 0 (show 0 < 3 by decide) S8x4608 D rfl rfl 0 rfl (ix2 r i)
      (fun b hb => match b, hb with | 0, hb => absurd rfl hb | 1, _ => rfl) (Nat.zero_add _)
  · exact concatenate_apply_piece (t := S16x4608) 0 [⟨S8x4608, D⟩, ⟨S1x4608, d⟩, ⟨S7x4608, z⟩] concatenates_S8x4608_S1x4608_S7x4608_S16x4608_d0 _ 1 (show 1 < 3 by decide) S1x4608 d rfl rfl 8 rfl (ix2 0 i)
      (fun b hb => match b, hb with | 0, hb => absurd rfl hb | 1, _ => rfl) rfl
  · exact concatenate_apply_piece (t := S16x4608) 0 [⟨S8x4608, D⟩, ⟨S1x4608, d⟩, ⟨S7x4608, z⟩] concatenates_S8x4608_S1x4608_S7x4608_S16x4608_d0 _ 2 (show 2 < 3 by decide) S7x4608 z rfl rfl 9 rfl (ix2 r i)
      (fun b hb => match b, hb with | 0, hb => absurd rfl hb | 1, _ => rfl) rfl

/-- Those rows, from the conditioning and zeros. -/
abbrev actsOf (C : FVec Ideal S8x2048 .f32) (cc : FVec Ideal S2048 .f32) : FVec Ideal S16x2048 .f32 :=
  acts C (broadcastInDim S1x2048 ![1] bcast_S2048_S1x2048_1 cc) (broadcastInDim S7x2048 ![] bcast_S_S7x2048 (constant S_ .f32 0x00000000#32))
/-- Those rows, from the incoming gradients and zeros. -/
abbrev cotsOf (D : FVec Ideal S8x4608 .f32) (d : FVec Ideal S1x4608 .f32) : FVec Ideal S16x4608 .f32 :=
  cots D d (broadcastInDim S7x4608 ![] bcast_S_S7x4608 (constant S_ .f32 0x00000000#32))

section
variable (C : FVec Ideal S8x2048 .f32) (cc : FVec Ideal S2048 .f32) (D : FVec Ideal S8x4608 .f32) (d : FVec Ideal S1x4608 .f32)

/-- The context's row is the context's conditioning. -/
theorem row_at (i : Fin 2048) : broadcastInDim S1x2048 ![1] bcast_S2048_S1x2048_1 cc (ix2 0 i) = cc (ix1 i) := by
  pointwise []
/-- A row of zeros in the conditioning. -/
theorem zeroA_at (r : Fin 7) (i : Fin 2048) :
    (broadcastInDim S7x2048 ![] bcast_S_S7x2048 (constant S_ .f32 0x00000000#32) : FVec Ideal S7x2048 .f32) (ix2 r i) = (0 : EReal) := by
  pointwise []
/-- A row of zeros in the incoming gradients. -/
theorem zeroB_at (r : Fin 7) (i : Fin 4608) :
    (broadcastInDim S7x4608 ![] bcast_S_S7x4608 (constant S_ .f32 0x00000000#32) : FVec Ideal S7x4608 .f32) (ix2 r i) = (0 : EReal) := by
  pointwise []

/-- The sum over the sixteen rows is the gradient. -/
theorem rows_grad (i : Fin 2048) (n : Fin 4608) :
    ∑ r : Fin 16, silu (actsOf C cc (ix2 r i)) * cotsOf D d (ix2 r n) = gradW C cc D d (ix3 0 i n) := by
  obtain ⟨a0, a1, a2⟩ := acts_at C (broadcastInDim S1x2048 ![1] bcast_S2048_S1x2048_1 cc) (broadcastInDim S7x2048 ![] bcast_S_S7x2048 (constant S_ .f32 0x00000000#32)) i
  obtain ⟨b0, b1, b2⟩ := cots_at D d (broadcastInDim S7x4608 ![] bcast_S_S7x4608 (constant S_ .f32 0x00000000#32)) n
  unfold actsOf cotsOf
  rw [sum16 _ fun r => by rw [(b2 r).trans (zeroB_at r n)]; exact mul_zero _]
  rw [a1, b1, row_at]
  simp only [a0, b0]
  rfl

/-- Each row is real once its number's function is. -/
theorem rows_real (hC : ∀ r i, C (ix2 r i) < ⊤) (hc : ∀ i, cc (ix1 i) < ⊤) (hD : ∀ r n, ∃ a : ℝ, D (ix2 r n) = a) (hd : ∀ n, ∃ a : ℝ, d (ix2 0 n) = a) :
    (∀ r i, ∃ a : ℝ, silu (actsOf C cc (ix2 r i)) = a) ∧ (∀ r n, ∃ a : ℝ, cotsOf D d (ix2 r n) = a) := by
  refine ⟨fun r i => ?_, fun r n => ?_⟩
  · obtain ⟨a0, a1, a2⟩ := acts_at C (broadcastInDim S1x2048 ![1] bcast_S2048_S1x2048_1 cc) (broadcastInDim S7x2048 ![] bcast_S_S7x2048 (constant S_ .f32 0x00000000#32)) i
    revert r
    refine rows16 (fun r => ?_) ?_ (fun r => ?_)
    · obtain ⟨a, h⟩ := silu_real (hC r i); exact ⟨a, (congrArg silu (a0 r)).trans h⟩
    · obtain ⟨a, h⟩ := silu_real (hc i); exact ⟨a, (congrArg silu (a1.trans (row_at cc i))).trans h⟩
    · exact ⟨0, (congrArg silu ((a2 r).trans (zeroA_at r i))).trans (zero_mul _)⟩
  · obtain ⟨b0, b1, b2⟩ := cots_at D d (broadcastInDim S7x4608 ![] bcast_S_S7x4608 (constant S_ .f32 0x00000000#32)) n
    revert r
    refine rows16 (fun r => ?_) ?_ (fun r => ?_)
    · obtain ⟨a, h⟩ := hD r n; exact ⟨a, (b0 r).trans h⟩
    · obtain ⟨a, h⟩ := hd n; exact ⟨a, b1.trans h⟩
    · exact ⟨0, (b2 r).trans (zeroB_at r n)⟩
end

/-- The product of the parts, where the numbers are real: every remainder is nothing, and one sum is left. -/
theorem pay6_at (a : Vec Ideal S16x128 .f32) (b : Vec Ideal S16x4608 .f32) (i : Fin 128) (n : Fin 4608)
    (ha : ∀ r : Fin 16, ∃ x : ℝ, silu (a (ix2 r i)) = x) (hb : ∀ r : Fin 16, ∃ x : ℝ, b (ix2 r n) = x) :
    k0_pay6 (F := Ideal) a b (ix2 i n) = ∑ r : Fin 16, silu (a (ix2 r i)) * b (ix2 r n) := by
  have ea : ∀ r : Fin 16, a (ix2 r i) * Ideal.logistic (a (ix2 r i)) - a (ix2 r i) * Ideal.logistic (a (ix2 r i)) = 0 := fun r => sub_real (ha r)
  have eb : ∀ r : Fin 16, b (ix2 r n) - b (ix2 r n) = 0 := fun r => sub_real (hb r)
  pointwise [k0_pay6, silu]
  simp only [ea, eb, sub_zero, mul_zero, zero_mul, Finset.sum_const_zero, add_zero, zero_add]

/-- The four result blocks of the call, from its product at a place. -/
theorem tile (x0 : Vec Ideal S16x128 .f32) (x1 : Vec Ideal S16x4608 .f32) (w m v : Vec Ideal S1x128x4608 .f32) (i : Fin 128) (n : Fin 4608) :
    out0_5 (F := Ideal) x0 x1 w m v (ix3 0 i n) = k0_pay6 (F := Ideal) x0 x1 (ix2 i n)
    ∧ out0_6 (F := Ideal) x0 x1 w m v (ix3 0 i n) = Upd.delta (w (ix3 0 i n)) (k0_pay6 (F := Ideal) x0 x1 (ix2 i n)) (m (ix3 0 i n)) (v (ix3 0 i n))
    ∧ out0_7 (F := Ideal) x0 x1 w m v (ix3 0 i n) = Upd.mom (m (ix3 0 i n)) (k0_pay6 (F := Ideal) x0 x1 (ix2 i n))
    ∧ out0_8 (F := Ideal) x0 x1 w m v (ix3 0 i n) = Upd.var (v (ix3 0 i n)) (k0_pay6 (F := Ideal) x0 x1 (ix2 i n)) := by
  unfold out0_5 out0_6 out0_7 out0_8 k0_pay10 k0_pay11 k0_pay7
  refine ⟨?_, ?_, ?_, ?_⟩ <;> frame_out <;> generalize k0_pay6 (F := Ideal) x0 x1 = g
  · pointwise []
  · pointwise [k0_pay3, k0_pay2, k0_pay1, k0_pay8, k0_pay9, Upd.delta, Upd.mom, Upd.var]
  · pointwise [k0_pay4, k0_pay1, k0_pay9, Upd.mom]
  · pointwise [k0_pay5, k0_pay2, Upd.var]

variable (m : (ℓ : Loc nD τ sig) → Buf (Elt Ideal) ℓ) (c : Dev nD)

/-- Rows put together from equal parts are equal. -/
theorem acts_of {C x z C' x' z'} (h0 : C = C') (h1 : x = x') (h2 : z = z') :
    concatenate S16x2048 0 [⟨S8x2048, (C : FVec Ideal S8x2048 .f32)⟩, ⟨S1x2048, (x : FVec Ideal S1x2048 .f32)⟩, ⟨S7x2048, (z : FVec Ideal S7x2048 .f32)⟩] concatenates_S8x2048_S1x2048_S7x2048_S16x2048_d0 = acts C' x' z' := by
  subst h0 h1 h2; rfl
/-- The same of the incoming gradients' rows. -/
theorem cots_of {C x z C' x' z'} (h0 : C = C') (h1 : x = x') (h2 : z = z') :
    concatenate S16x4608 0 [⟨S8x4608, (C : FVec Ideal S8x4608 .f32)⟩, ⟨S1x4608, (x : FVec Ideal S1x4608 .f32)⟩, ⟨S7x4608, (z : FVec Ideal S7x4608 .f32)⟩] concatenates_S8x4608_S1x4608_S7x4608_S16x4608_d0 = cots C' x' z' := by
  subst h0 h1 h2; rfl

set_option maxHeartbeats 4000000 in
/-- What the call takes: the rows of the conditioning and those of the incoming gradients. -/
theorem packed : (V m c main_v2 : FVec Ideal S16x2048 .f32) = actsOf (m ((c : Thread nD τ).loc main_arg0)) (m ((c : Thread nD τ).loc main_arg1))
    ∧ (V m c main_v4 : FVec Ideal S16x4608 .f32) = cotsOf (m ((c : Thread nD τ).loc main_arg2)) (m ((c : Thread nD τ).loc main_arg3)) := by
  refine ⟨?_, ?_⟩
  · unfold V; after_reads_simp; refine acts_of ?_ ?_ ?_
    · show StableHlo.upto _ _ _ (Proc.devRef .tc main_arg0) = _; after_reads_simp
    · show StableHlo.upto _ _ _ (Proc.devRef .tc main_v0) = _; after_reads_simp
    · show StableHlo.upto _ _ _ (Proc.devRef .tc main_v1) = _; after_reads_simp
  · unfold V; after_reads_simp; refine cots_of ?_ ?_ ?_
    · show StableHlo.upto _ _ _ (Proc.devRef .tc main_arg2) = _; after_reads_simp
    · show StableHlo.upto _ _ _ (Proc.devRef .tc main_arg3) = _; after_reads_simp
    · show StableHlo.upto _ _ _ (Proc.devRef .tc main_v3) = _; after_reads_simp

/-- The gradient that the program's arguments give. -/
abbrev G : FVec Ideal S1x2048x4608 .f32 :=
  gradW (m ((c : Thread nD τ).loc main_arg0)) (m ((c : Thread nD τ).loc main_arg1)) (m ((c : Thread nD τ).loc main_arg2)) (m ((c : Thread nD τ).loc main_arg3))

/-- No conditioning is plus infinity and every incoming gradient is real. -/
abbrev Fine : Prop :=
  let C : FVec Ideal S8x2048 .f32 := m ((c : Thread nD τ).loc main_arg0)
  let cc : FVec Ideal S2048 .f32 := m ((c : Thread nD τ).loc main_arg1)
  let D : FVec Ideal S8x4608 .f32 := m ((c : Thread nD τ).loc main_arg2)
  let d : FVec Ideal S1x4608 .f32 := m ((c : Thread nD τ).loc main_arg3)
  (∀ r i, C (ix2 r i) < ⊤) ∧ (∀ i, cc (ix1 i) < ⊤) ∧ (∀ r n, ∃ a : ℝ, D (ix2 r n) = a) ∧ (∀ n, ∃ a : ℝ, d (ix2 0 n) = a)

/-- The weight's rows that a tile holds. -/
def rowOf (t : Fin cfg0.N) (i : Fin 128) : Fin 2048 := ⟨t.1 * 128 + i.1, by have h : t.1 < 16 := t.2; have := i.2; omega⟩

/-- Which block of its array each window is on. -/
theorem idx : ∀ t : Fin cfg0.N, win0_0.index t = ![0, t.val] ∧ win0_1.index t = ![0, 0] ∧ win0_5.index t = ![0, t.val, 0] :=
  (by decide +kernel : ∀ t : Fin grid0.N, _)

/-- The call's blocks: the conditioning's columns of the tile, and every column of the incoming gradients. -/
theorem blocks (t : Fin cfg0.N) (r : Fin 16) (i : Fin 128) (n : Fin 4608) :
    (iblk m c 0 t : Vec Ideal S16x128 .f32) (ix2 r i) = (V m c main_v2 : FVec Ideal S16x2048 .f32) (ix2 r (rowOf t i))
    ∧ (iblk m c 1 t : Vec Ideal S16x4608 .f32) (ix2 r n) = (V m c main_v4 : FVec Ideal S16x4608 .f32) (ix2 r n) := by
  constructor
  · refine congrArg (V m c main_v2 : FVec Ideal S16x2048 .f32) (?_ : (win0_0.blk t).view.emb (ix2 r i) = _)
    blk_ext [rowOf, idx t]
  · refine congrArg (V m c main_v4 : FVec Ideal S16x4608 .f32) (?_ : (win0_1.blk t).view.emb (ix2 r n) = _)
    blk_ext [idx t]

/-- Where a place of a result's tile lies in its array. -/
theorem place (t : Fin cfg0.N) (i : Fin 128) (n : Fin 4608) : (win0_5.blk t).view.emb (ix3 0 i n) = ix3 0 (rowOf t i) n := by
  blk_ext [rowOf, idx t]

/-- The product of a tile is the gradient's tile. -/
theorem prod_at (h : Fine m c) (t : Fin cfg0.N) (i : Fin 128) (n : Fin 4608) :
    k0_pay6 (F := Ideal) (iblk m c 0 t) (iblk m c 1 t) (ix2 i n) = G m c (ix3 0 (rowOf t i) n) := by
  obtain ⟨h1, h2, h3, h4⟩ := h
  obtain ⟨ra, rb⟩ := rows_real _ _ _ _ h1 h2 h3 h4
  have ea : ∀ r : Fin 16, (iblk m c 0 t : Vec Ideal S16x128 .f32) (ix2 r i) = actsOf (m ((c : Thread nD τ).loc main_arg0)) (m ((c : Thread nD τ).loc main_arg1)) (ix2 r (rowOf t i)) :=
    fun r => ((blocks m c t r i n).1).trans (congrFun (packed m c).1 _)
  have eb : ∀ r : Fin 16, (iblk m c 1 t : Vec Ideal S16x4608 .f32) (ix2 r n) = cotsOf (m ((c : Thread nD τ).loc main_arg2)) (m ((c : Thread nD τ).loc main_arg3)) (ix2 r n) :=
    fun r => ((blocks m c t r i n).2).trans (congrFun (packed m c).2 _)
  refine (pay6_at _ _ i n (fun r => ?_) (fun r => ?_)).trans ?_
  · rw [ea r]; exact ra r _
  · rw [eb r]; exact rb r _
  · refine Eq.trans (Finset.sum_congr rfl fun r _ => ?_) (rows_grad _ _ _ _ (rowOf t i) n)
    rw [ea r, eb r]

/-- What is added to a weight at a place, from the numbers there. -/
theorem delta_at {S : Shape} {w mo v g : Vec Ideal S .f32} {y : S.Idx} {a b d e : EReal} (hw : a = w y) (hg : e = g y) (hm : b = mo y) (hv : d = v y) :
    Upd.delta a e b d = Upd.deltaW w mo v g y := by subst hw hg hm hv; rfl
/-- The new first moment there. -/
theorem mom_at {S : Shape} {mo g : Vec Ideal S .f32} {y : S.Idx} {b e : EReal} (hm : b = mo y) (hg : e = g y) : Upd.mom b e = Upd.momW mo g y := by
  subst hm hg; rfl
/-- The new second moment there. -/
theorem var_at {S : Shape} {v g : Vec Ideal S .f32} {y : S.Idx} {d e : EReal} (hv : d = v y) (hg : e = g y) : Upd.var d e = Upd.varW v g y := by
  subst hv hg; rfl

set_option maxHeartbeats 4000000 in
/-- The four result arrays of the call: the gradient, and the optimiser's step with it. -/
theorem fin (h : Fine m c) (w mo v : FVec Ideal S1x2048x4608 .f32) (hw : (V m c main_arg4 : FVec Ideal S1x2048x4608 .f32) = w)
    (hm : (V m c main_arg5 : FVec Ideal S1x2048x4608 .f32) = mo) (hv : (V m c main_arg6 : FVec Ideal S1x2048x4608 .f32) = v) :
    (dats m 0 c).arrAt 5 cfg0.N = G m c ∧ (dats m 0 c).arrAt 6 cfg0.N = Upd.deltaW w mo v (G m c)
    ∧ (dats m 0 c).arrAt 7 cfg0.N = Upd.momW mo (G m c) ∧ (dats m 0 c).arrAt 8 cfg0.N = Upd.varW v (G m c) := by
  subst hw hm hv
  refine ⟨(dats m 0 c).arrAt_eq_of_covers 5 _ (by decide +kernel) fun t hf y => ?_, (dats m 0 c).arrAt_eq_of_covers 6 _ (by decide +kernel) fun t hf y => ?_,
    (dats m 0 c).arrAt_eq_of_covers 7 _ (by decide +kernel) fun t hf y => ?_, (dats m 0 c).arrAt_eq_of_covers 8 _ (by decide +kernel) fun t hf y => ?_⟩ <;>
  obtain ⟨z, i, j, rfl⟩ : ∃ (z : Fin 1) (i : Fin 128) (j : Fin 4608), y = ix3 z i j := ⟨y 0, y 1, y 2, eq_ix3 y⟩ <;>
  obtain rfl : z = 0 := Subsingleton.elim _ _ <;>
  have hg := (prod_at m c h t i j).trans (congrArg (G m c) (place t i j).symm)
  · exact (congrFun (after0_5 m c t) _).trans ((tile _ _ _ _ _ i j).1.trans hg)
  · exact (congrFun (after0_6 m c t) _).trans ((tile _ _ _ _ _ i j).2.1.trans (delta_at rfl hg rfl rfl))
  · exact (congrFun (after0_7 m c t) _).trans ((tile _ _ _ _ _ i j).2.2.1.trans (mom_at rfl hg))
  · exact (congrFun (after0_8 m c t) _).trans ((tile _ _ _ _ _ i j).2.2.2.trans (var_at rfl hg))

end Cert.UpdModIdeal.Final

end
-- ==== Proof.UpdModCert.lean ====
/- The modulation's weight: the precondition read, the reference's gradient, and the kernel's run set beside the reference's. -/
module

public import proofs.«01_k».proof.Defs
public import proofs.«01_k».proof.Proof.UpdModFinal
public import proofs.«01_k».proof.Proof.FfnPre
public import proofs.«01_k».proof.Proof.Gen.UpdModIdeal.Value
public import proofs.«01_k».proof.Proof.Gen.UpdModRefIdeal.Run
public import Idealize.ShloMosaic.Lib.Claim

@[expose] public section

set_option maxRecDepth 16384

noncomputable section

namespace Cert.UpdModRefIdeal.Value

open Cert.UpdModRefIdeal Cert.UpdModRefIdeal.Gen Idealize.ShloMosaic Idealize.ShloMosaic.TcCoe

variable (C : FVec Ideal S8x2048 .f32) (cc : FVec Ideal S2048 .f32) (D : FVec Ideal S8x4608 .f32) (d : FVec Ideal S1x4608 .f32)

/-- The reference's gradient. -/
abbrev refG : FVec Ideal S1x2048x4608 .f32 :=
  broadcastInDim S1x2048x4608 ![1, 2] bcast_S2048x4608_S1x2048x4608_1_2 (addf
    (transpose S2048x4608 [1, 0] (Host.dotGeneral dot_S1x4608_S1x2048_S4608x2048_0_0_1_1_n_n none d (broadcastInDim S1x2048 ![1] bcast_S2048_S1x2048_1 (mulf cc (Host.divf (broadcastInDim S2048 ![] bcast_S_S2048 (constant S_ .f32 0x3F800000#32)) (addf (broadcastInDim S2048 ![] bcast_S_S2048 (constant S_ .f32 0x3F800000#32)) (Host.exp (Host.negf cc))))))) transposes_S4608x2048_S2048x4608_1_0)
    (transpose S2048x4608 [1, 0] (Host.dotGeneral dot_S8x4608_S8x2048_S4608x2048_0_0_1_1_n_n none D (mulf C (Host.divf (broadcastInDim S8x2048 ![] bcast_S_S8x2048 (constant S_ .f32 0x3F800000#32)) (addf (broadcastInDim S8x2048 ![] bcast_S_S8x2048 (constant S_ .f32 0x3F800000#32)) (Host.exp (Host.negf C)))))) transposes_S4608x2048_S2048x4608_1_0))

/-- It is the sum over the examples and the context. -/
theorem refG_eq : refG C cc D d = UpdModIdeal.Final.gradW C cc D d := by
  funext y
  obtain ⟨z, i, n, rfl⟩ : ∃ (z : Fin 1) (i : Fin 2048) (n : Fin 4608), y = ix3 z i n := ⟨y 0, y 1, y 2, eq_ix3 y⟩
  obtain rfl : z = 0 := Subsingleton.elim _ _
  show _ = (∑ r : Fin 8, UpdModIdeal.Final.silu (C (ix2 r i)) * D (ix2 r n)) + UpdModIdeal.Final.silu (cc (ix1 i)) * d (ix2 0 n)
  unfold refG UpdModIdeal.Final.silu
  pointwise []
  rw [add_comm]
  simp only [Fin.sum_univ_one]
  exact congrArg₂ (· + ·) (Finset.sum_congr rfl fun r _ => mul_comm _ _) (mul_comm _ _)

end Cert.UpdModRefIdeal.Value

namespace Cert.UpdModCert

open Idealize.ShloMosaic Idealize.ShloMosaic.TcCoe Idealize.SL.Sem

/-- The precondition's function takes four shape relations, all decided. -/
theorem preFacts : Cert.Pre_finite_mod.Facts := ⟨by decide, by decide, by decide, by decide⟩

/-- The bits of plus infinity. -/
theorem posInf_eq : Ideal.ofBits .f32 0x7F800000#32 = ⊤ := by simp [Ideal.ofBits, Ideal.ieee]

/-- A comparison's bit says that the number is below plus infinity. -/
theorem lt_of_bit {x : EReal} (h : BitVec.ofBool (decide (x < ⊤)) = 1#1) : x < ⊤ := by
  by_contra hc; simp [hc] at h

section
variable [Cert.Pre_finite_mod.Facts] (X0 : FVec Ideal Cert.Pre_finite_mod.S8x2048 .f32) (X1 : FVec Ideal Cert.Pre_finite_mod.S2048 .f32)
  (X2 : FVec Ideal Cert.Pre_finite_mod.S8x4608 .f32) (X3 : FVec Ideal Cert.Pre_finite_mod.S1x4608 .f32) (X4 X5 X6 : FVec Ideal Cert.Pre_finite_mod.S1x2048x4608 .f32)

/-- The precondition's first array: the examples' conditioning is below plus infinity. -/
theorem pre0 (r : Fin 8) (i : Fin 2048) : (Cert.Pre_finite_mod.fn (F := Ideal) X0 X1 X2 X3 X4 X5 X6).1 (ix2 r i) = BitVec.ofBool (decide (X0 (ix2 r i) < ⊤)) := by
  rw [← posInf_eq]
  pointwise [Cert.Pre_finite_mod.fn]

/-- Its second: the context's. -/
theorem pre1 (i : Fin 2048) : (Cert.Pre_finite_mod.fn (F := Ideal) X0 X1 X2 X3 X4 X5 X6).2.1 (ix1 i) = BitVec.ofBool (decide (X1 (ix1 i) < ⊤)) := by
  rw [← posInf_eq]
  pointwise [Cert.Pre_finite_mod.fn]

/-- Its third: the magnitudes of the examples' incoming gradients are. -/
theorem pre2 (r : Fin 8) (n : Fin 4608) : (Cert.Pre_finite_mod.fn (F := Ideal) X0 X1 X2 X3 X4 X5 X6).2.2.1 (ix2 r n)
    = BitVec.ofBool (decide (max (X2 (ix2 r n)) (-X2 (ix2 r n)) < ⊤)) := by
  rw [← posInf_eq]
  pointwise [Cert.Pre_finite_mod.fn]
  rfl

/-- Its fourth: those of the context's are. -/
theorem pre3 (n : Fin 4608) : (Cert.Pre_finite_mod.fn (F := Ideal) X0 X1 X2 X3 X4 X5 X6).2.2.2 (ix2 0 n)
    = BitVec.ofBool (decide (max (X3 (ix2 0 n)) (-X3 (ix2 0 n)) < ⊤)) := by
  rw [← posInf_eq]
  pointwise [Cert.Pre_finite_mod.fn]
  rfl

/-- Under the precondition no conditioning is plus infinity and the incoming gradients are real. -/
theorem reals (h0 : (Cert.Pre_finite_mod.fn (F := Ideal) X0 X1 X2 X3 X4 X5 X6).1 = fun _ => 1#1)
    (h1 : (Cert.Pre_finite_mod.fn (F := Ideal) X0 X1 X2 X3 X4 X5 X6).2.1 = fun _ => 1#1)
    (h2 : (Cert.Pre_finite_mod.fn (F := Ideal) X0 X1 X2 X3 X4 X5 X6).2.2.1 = fun _ => 1#1)
    (h3 : (Cert.Pre_finite_mod.fn (F := Ideal) X0 X1 X2 X3 X4 X5 X6).2.2.2 = fun _ => 1#1) :
    (∀ r i, X0 (ix2 r i) < ⊤) ∧ (∀ i, X1 (ix1 i) < ⊤) ∧ (∀ r n, ∃ a : ℝ, X2 (ix2 r n) = a) ∧ (∀ n, ∃ a : ℝ, X3 (ix2 0 n) = a) :=
  ⟨fun r i => lt_of_bit ((pre0 X0 X1 X2 X3 X4 X5 X6 r i).symm.trans (congrFun h0 _)),
    fun i => lt_of_bit ((pre1 X0 X1 X2 X3 X4 X5 X6 i).symm.trans (congrFun h1 _)),
    fun r n => Ffn.real_of_bit ((pre2 X0 X1 X2 X3 X4 X5 X6 r n).symm.trans (congrFun h2 _)),
    fun n => Ffn.real_of_bit ((pre3 X0 X1 X2 X3 X4 X5 X6 n).symm.trans (congrFun h3 _))⟩
end

/-- The reference's run keeps its arguments and leaves every counter at zero: it declares no semaphore. -/
theorem frameR (m : (ℓ : Loc Cert.UpdModRefIdeal.nD Cert.UpdModRefIdeal.τ Cert.UpdModRefIdeal.sig) → Buf (Elt Ideal) ℓ) (ρ : Dev Cert.UpdModRefIdeal.nD → PrngReg) :
    θ_run (Cert.UpdModRefIdeal.defs (F := Ideal)) (onTc (τ := Cert.UpdModRefIdeal.τ) (Cert.UpdModRefIdeal.main (F := Ideal))) ⟨m, fun _ => 0, ρ⟩ (fun r => (∀ c : Dev Cert.UpdModRefIdeal.nD,
      r.2.mem ((c.tc : Thread Cert.UpdModRefIdeal.nD Cert.UpdModRefIdeal.τ).loc Cert.UpdModRefIdeal.main_arg0) = m ((c.tc : Thread Cert.UpdModRefIdeal.nD Cert.UpdModRefIdeal.τ).loc Cert.UpdModRefIdeal.main_arg0)
      ∧ r.2.mem ((c.tc : Thread Cert.UpdModRefIdeal.nD Cert.UpdModRefIdeal.τ).loc Cert.UpdModRefIdeal.main_arg1) = m ((c.tc : Thread Cert.UpdModRefIdeal.nD Cert.UpdModRefIdeal.τ).loc Cert.UpdModRefIdeal.main_arg1)
      ∧ r.2.mem ((c.tc : Thread Cert.UpdModRefIdeal.nD Cert.UpdModRefIdeal.τ).loc Cert.UpdModRefIdeal.main_arg2) = m ((c.tc : Thread Cert.UpdModRefIdeal.nD Cert.UpdModRefIdeal.τ).loc Cert.UpdModRefIdeal.main_arg2)
      ∧ r.2.mem ((c.tc : Thread Cert.UpdModRefIdeal.nD Cert.UpdModRefIdeal.τ).loc Cert.UpdModRefIdeal.main_arg3) = m ((c.tc : Thread Cert.UpdModRefIdeal.nD Cert.UpdModRefIdeal.τ).loc Cert.UpdModRefIdeal.main_arg3)
      ∧ r.2.mem ((c.tc : Thread Cert.UpdModRefIdeal.nD Cert.UpdModRefIdeal.τ).loc Cert.UpdModRefIdeal.main_arg4) = m ((c.tc : Thread Cert.UpdModRefIdeal.nD Cert.UpdModRefIdeal.τ).loc Cert.UpdModRefIdeal.main_arg4)
      ∧ r.2.mem ((c.tc : Thread Cert.UpdModRefIdeal.nD Cert.UpdModRefIdeal.τ).loc Cert.UpdModRefIdeal.main_arg5) = m ((c.tc : Thread Cert.UpdModRefIdeal.nD Cert.UpdModRefIdeal.τ).loc Cert.UpdModRefIdeal.main_arg5)
      ∧ r.2.mem ((c.tc : Thread Cert.UpdModRefIdeal.nD Cert.UpdModRefIdeal.τ).loc Cert.UpdModRefIdeal.main_arg6) = m ((c.tc : Thread Cert.UpdModRefIdeal.nD Cert.UpdModRefIdeal.τ).loc Cert.UpdModRefIdeal.main_arg6))
      ∧ r.2.sem = fun _ => 0) :=
  (θ_run Cert.UpdModRefIdeal.defs _ _).mono
    (fun r h => ⟨fun c => (h c).2.2.2.2, Idealize.ShloMosaic.sem_eq_zero_of_no_sems (by decide) r.2⟩)
    (Cert.UpdModRefIdeal.Value.run (F := Ideal) m ρ)

set_option maxHeartbeats 4000000 in
/-- Where no conditioning is plus infinity and the incoming gradients are finite, the kernel and the reference end with the same
    gradient, the same step and the same two moments. -/
theorem algebraic [Cert.Pre_finite_mod.Facts] :
    Cert.algebraic_UpdModIdeal_UpdModRefIdeal_pre_finite_mod (hUpdModIdeal := Cert.UpdModIdeal.Gen.facts) (hUpdModRefIdeal := Cert.UpdModRefIdeal.Gen.facts) := by
  intro m ρ m' ρ' hpre hag
  have hr : ∀ c, Cert.UpdModIdeal.Final.Fine m c := fun c => reals _ _ _ _ _ _ _ (hpre c).1 (hpre c).2.1 (hpre c).2.2.1 (hpre c).2.2.2
  let w (c : Dev Cert.UpdModIdeal.nD) : FVec Ideal Cert.UpdModIdeal.S1x2048x4608 .f32 := m ((c : Thread Cert.UpdModIdeal.nD Cert.UpdModIdeal.τ).loc Cert.UpdModIdeal.main_arg4)
  let mo (c : Dev Cert.UpdModIdeal.nD) : FVec Ideal Cert.UpdModIdeal.S1x2048x4608 .f32 := m ((c : Thread Cert.UpdModIdeal.nD Cert.UpdModIdeal.τ).loc Cert.UpdModIdeal.main_arg5)
  let v (c : Dev Cert.UpdModIdeal.nD) : FVec Ideal Cert.UpdModIdeal.S1x2048x4608 .f32 := m ((c : Thread Cert.UpdModIdeal.nD Cert.UpdModIdeal.τ).loc Cert.UpdModIdeal.main_arg6)
  refine ⟨fun c => Cert.UpdModIdeal.Final.G m c, fun c => Upd.deltaW (w c) (mo c) (v c) (Cert.UpdModIdeal.Final.G m c),
    fun c => Upd.momW (mo c) (Cert.UpdModIdeal.Final.G m c), fun c => Upd.varW (v c) (Cert.UpdModIdeal.Final.G m c), ?_, ?_⟩
  · refine (θ_run Cert.UpdModIdeal.defs _ _).mono (fun r h c => ?_) (Cert.UpdModIdeal.Value.run_blocks m ρ)
    obtain ⟨f0, f1, f2, f3⟩ := Cert.UpdModIdeal.Final.fin m c (hr c) (w c) (mo c) (v c) (Cert.UpdModIdeal.Gen.V_main_arg4 m c) (Cert.UpdModIdeal.Gen.V_main_arg5 m c) (Cert.UpdModIdeal.Gen.V_main_arg6 m c)
    obtain ⟨h0, h1, h2, h3, ha⟩ := h c
    exact ⟨h0.trans f0, h1.trans f1, h2.trans f2, h3.trans f3, ha⟩
  · refine (θ_run Cert.UpdModRefIdeal.defs _ _).mono (fun r h c => ?_) (Cert.UpdModRefIdeal.Value.run m' ρ')
    obtain ⟨h0, h1, h2, h3, ha⟩ := h c
    obtain ⟨a0, a1, a2, a3, a4, a5, a6⟩ := hag c
    have hg : Cert.UpdModRefIdeal.Value.refG (m' ((c : Thread Cert.UpdModRefIdeal.nD Cert.UpdModRefIdeal.τ).loc Cert.UpdModRefIdeal.main_arg0)) (m' ((c : Thread Cert.UpdModRefIdeal.nD Cert.UpdModRefIdeal.τ).loc Cert.UpdModRefIdeal.main_arg1))
        (m' ((c : Thread Cert.UpdModRefIdeal.nD Cert.UpdModRefIdeal.τ).loc Cert.UpdModRefIdeal.main_arg2)) (m' ((c : Thread Cert.UpdModRefIdeal.nD Cert.UpdModRefIdeal.τ).loc Cert.UpdModRefIdeal.main_arg3)) = Cert.UpdModIdeal.Final.G m c := by
      rw [a0, a1, a2, a3]; exact Cert.UpdModRefIdeal.Value.refG_eq _ _ _ _
    have bc := Cert.UpdModRefIdeal.Gen.bcast_S_S1x2048x4608
    exact ⟨h0.trans hg, h1.trans (Upd.refDelta_eq bc a4 a5 a6 hg), h2.trans (Upd.refMom_eq bc a5 hg), h3.trans (Upd.refVar_eq bc a6 hg), ha⟩

end Cert.UpdModCert

end
-- ==== Proof.lean ====
/- The proof of the certificate's claim: the frames, and the values of the attention's gradient, of the two feed-forward layers, of the input projection, of the gated merge and of the optimiser step of the large weights, of four small ones and of the modulation's weight. -/
module

public import proofs.«01_k».proof.Defs
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Attn
public import proofs.«01_k».proof.Proof.Ffn2Cert
public import proofs.«01_k».proof.Proof.Ffn1Cert
public import proofs.«01_k».proof.Proof.Dh2Cert
public import proofs.«01_k».proof.Proof.Dh1Cert
public import proofs.«01_k».proof.Proof.InProjCert
public import proofs.«01_k».proof.Proof.InProjDxCert
public import proofs.«01_k».proof.Proof.UpdateCert
public import proofs.«01_k».proof.Proof.MixCert
public import proofs.«01_k».proof.Proof.MixDyCert
public import proofs.«01_k».proof.Proof.UpdSmallCert
public import proofs.«01_k».proof.Proof.UpdModCert
public import proofs.«01_k».proof.Proof.Gen.Ffn2
public import proofs.«01_k».proof.Proof.Gen.Ffn2.Skeleton
public import proofs.«01_k».proof.Proof.Gen.Ffn2.Launch
public import proofs.«01_k».proof.Proof.Gen.Ffn2.Points
public import proofs.«01_k».proof.Proof.Gen.Ffn2.Frame
public import proofs.«01_k».proof.Proof.Gen.Ffn2Ideal
public import proofs.«01_k».proof.Proof.Gen.Ffn2Ideal.Skeleton
public import proofs.«01_k».proof.Proof.Gen.Ffn2Ideal.Launch
public import proofs.«01_k».proof.Proof.Gen.Ffn2Ideal.Points
public import proofs.«01_k».proof.Proof.Gen.Ffn2Ideal.Frame
public import proofs.«01_k».proof.Proof.Gen.Ffn2RefIdeal
public import proofs.«01_k».proof.Proof.Gen.Ffn2RefIdeal.Run
public import proofs.«01_k».proof.Proof.Gen.Ffn1
public import proofs.«01_k».proof.Proof.Gen.Ffn1.Skeleton
public import proofs.«01_k».proof.Proof.Gen.Ffn1.Launch
public import proofs.«01_k».proof.Proof.Gen.Ffn1.Points
public import proofs.«01_k».proof.Proof.Gen.Ffn1.Frame
public import proofs.«01_k».proof.Proof.Gen.Ffn1Ideal
public import proofs.«01_k».proof.Proof.Gen.Ffn1Ideal.Skeleton
public import proofs.«01_k».proof.Proof.Gen.Ffn1Ideal.Launch
public import proofs.«01_k».proof.Proof.Gen.Ffn1Ideal.Points
public import proofs.«01_k».proof.Proof.Gen.Ffn1Ideal.Frame
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.Dh2
public import proofs.«01_k».proof.Proof.Gen.Dh2.Skeleton
public import proofs.«01_k».proof.Proof.Gen.Dh2.Launch
public import proofs.«01_k».proof.Proof.Gen.Dh2.Points
public import proofs.«01_k».proof.Proof.Gen.Dh2.Frame
public import proofs.«01_k».proof.Proof.Gen.Dh2Ideal
public import proofs.«01_k».proof.Proof.Gen.Dh2Ideal.Skeleton
public import proofs.«01_k».proof.Proof.Gen.Dh2Ideal.Launch
public import proofs.«01_k».proof.Proof.Gen.Dh2Ideal.Points
public import proofs.«01_k».proof.Proof.Gen.Dh2Ideal.Frame
public import proofs.«01_k».proof.Proof.Gen.Dh2Ideal.Value
public import proofs.«01_k».proof.Proof.Gen.Dh1
public import proofs.«01_k».proof.Proof.Gen.Dh1.Skeleton
public import proofs.«01_k».proof.Proof.Gen.Dh1.Launch
public import proofs.«01_k».proof.Proof.Gen.Dh1.Points
public import proofs.«01_k».proof.Proof.Gen.Dh1.Frame
public import proofs.«01_k».proof.Proof.Gen.Dh1Ideal
public import proofs.«01_k».proof.Proof.Gen.Dh1Ideal.Skeleton
public import proofs.«01_k».proof.Proof.Gen.Dh1Ideal.Launch
public import proofs.«01_k».proof.Proof.Gen.Dh1Ideal.Points
public import proofs.«01_k».proof.Proof.Gen.Dh1Ideal.Frame
public import proofs.«01_k».proof.Proof.Gen.Dh1Ideal.Value
public import proofs.«01_k».proof.Proof.Gen.InProjDx
public import proofs.«01_k».proof.Proof.Gen.InProjDx.Skeleton
public import proofs.«01_k».proof.Proof.Gen.InProjDx.Launch
public import proofs.«01_k».proof.Proof.Gen.InProjDx.Points
public import proofs.«01_k».proof.Proof.Gen.InProjDx.Frame
public import proofs.«01_k».proof.Proof.Gen.InProjDxIdeal
public import proofs.«01_k».proof.Proof.Gen.InProjDxIdeal.Skeleton
public import proofs.«01_k».proof.Proof.Gen.InProjDxIdeal.Launch
public import proofs.«01_k».proof.Proof.Gen.InProjDxIdeal.Points
public import proofs.«01_k».proof.Proof.Gen.InProjDxIdeal.Frame
public import proofs.«01_k».proof.Proof.Gen.InProjDxIdeal.Value
public import proofs.«01_k».proof.Proof.Gen.Ffn1RefIdeal
public import proofs.«01_k».proof.Proof.Gen.Ffn1RefIdeal.Run
public import proofs.«01_k».proof.Proof.Gen.Dh2RefIdeal
public import proofs.«01_k».proof.Proof.Gen.Dh2RefIdeal.Run
public import proofs.«01_k».proof.Proof.Gen.Dh1RefIdeal
public import proofs.«01_k».proof.Proof.Gen.Dh1RefIdeal.Run
public import proofs.«01_k».proof.Proof.Gen.InProjRefIdeal
public import proofs.«01_k».proof.Proof.Gen.InProjRefIdeal.Run
public import proofs.«01_k».proof.Proof.Gen.InProjDxRefIdeal
public import proofs.«01_k».proof.Proof.Gen.InProjDxRefIdeal.Run
public import proofs.«01_k».proof.Proof.Gen.Update
public import proofs.«01_k».proof.Proof.Gen.UpdateIdeal
public import proofs.«01_k».proof.Proof.Gen.Update.Skeleton
public import proofs.«01_k».proof.Proof.Gen.UpdateIdeal.Skeleton
public import proofs.«01_k».proof.Proof.Gen.Update.Launch
public import proofs.«01_k».proof.Proof.Gen.UpdateIdeal.Launch
public import proofs.«01_k».proof.Proof.Gen.Update.Points
public import proofs.«01_k».proof.Proof.Gen.UpdateIdeal.Points
public import proofs.«01_k».proof.Proof.Gen.Update.Frame
public import proofs.«01_k».proof.Proof.Gen.UpdateIdeal.Frame
public import proofs.«01_k».proof.Proof.Gen.UpdateRefIdeal
public import proofs.«01_k».proof.Proof.Gen.UpdateRefIdeal.Run
public import proofs.«01_k».proof.Proof.Gen.Mix
public import proofs.«01_k».proof.Proof.Gen.MixIdeal
public import proofs.«01_k».proof.Proof.Gen.Mix.Skeleton
public import proofs.«01_k».proof.Proof.Gen.MixIdeal.Skeleton
public import proofs.«01_k».proof.Proof.Gen.Mix.Launch
public import proofs.«01_k».proof.Proof.Gen.MixIdeal.Launch
public import proofs.«01_k».proof.Proof.Gen.Mix.Points
public import proofs.«01_k».proof.Proof.Gen.MixIdeal.Points
public import proofs.«01_k».proof.Proof.Gen.Mix.Frame
public import proofs.«01_k».proof.Proof.Gen.MixIdeal.Frame
public import proofs.«01_k».proof.Proof.Gen.MixRefIdeal
public import proofs.«01_k».proof.Proof.Gen.MixRefIdeal.Run
public import proofs.«01_k».proof.Proof.Gen.MixDy
public import proofs.«01_k».proof.Proof.Gen.MixDyIdeal
public import proofs.«01_k».proof.Proof.Gen.MixDy.Skeleton
public import proofs.«01_k».proof.Proof.Gen.MixDyIdeal.Skeleton
public import proofs.«01_k».proof.Proof.Gen.MixDy.Launch
public import proofs.«01_k».proof.Proof.Gen.MixDyIdeal.Launch
public import proofs.«01_k».proof.Proof.Gen.MixDy.Points
public import proofs.«01_k».proof.Proof.Gen.MixDyIdeal.Points
public import proofs.«01_k».proof.Proof.Gen.MixDy.Frame
public import proofs.«01_k».proof.Proof.Gen.MixDyIdeal.Frame
public import proofs.«01_k».proof.Proof.Gen.MixDyIdeal.Value
public import proofs.«01_k».proof.Proof.Gen.MixDyRefIdeal
public import proofs.«01_k».proof.Proof.Gen.MixDyRefIdeal.Run
public import proofs.«01_k».proof.Proof.Gen.UpdSmall
public import proofs.«01_k».proof.Proof.Gen.UpdSmallIdeal
public import proofs.«01_k».proof.Proof.Gen.UpdSmall.Skeleton
public import proofs.«01_k».proof.Proof.Gen.UpdSmallIdeal.Skeleton
public import proofs.«01_k».proof.Proof.Gen.UpdSmall.Launch
public import proofs.«01_k».proof.Proof.Gen.UpdSmallIdeal.Launch
public import proofs.«01_k».proof.Proof.Gen.UpdSmall.Points
public import proofs.«01_k».proof.Proof.Gen.UpdSmallIdeal.Points
public import proofs.«01_k».proof.Proof.Gen.UpdSmall.Frame
public import proofs.«01_k».proof.Proof.Gen.UpdSmallIdeal.Frame
public import proofs.«01_k».proof.Proof.Gen.UpdSmallRefIdeal
public import proofs.«01_k».proof.Proof.Gen.UpdSmallRefIdeal.Run
public import proofs.«01_k».proof.Proof.Gen.UpdMod
public import proofs.«01_k».proof.Proof.Gen.UpdModIdeal
public import proofs.«01_k».proof.Proof.Gen.UpdMod.Skeleton
public import proofs.«01_k».proof.Proof.Gen.UpdModIdeal.Skeleton
public import proofs.«01_k».proof.Proof.Gen.UpdMod.Launch
public import proofs.«01_k».proof.Proof.Gen.UpdModIdeal.Launch
public import proofs.«01_k».proof.Proof.Gen.UpdMod.Points
public import proofs.«01_k».proof.Proof.Gen.UpdModIdeal.Points
public import proofs.«01_k».proof.Proof.Gen.UpdMod.Frame
public import proofs.«01_k».proof.Proof.Gen.UpdModIdeal.Frame
public import proofs.«01_k».proof.Proof.Gen.UpdModIdeal.Value
public import proofs.«01_k».proof.Proof.Gen.UpdModRefIdeal
public import proofs.«01_k».proof.Proof.Gen.UpdModRefIdeal.Run
public import Idealize.ShloMosaic.Adequacy
public import Idealize.ShloMosaic.Init

@[expose] public section

noncomputable section

namespace Cert.Proof

open Idealize.ShloMosaic Idealize.SL.Sem Cert.Kernel

/-- The claim of this certificate. -/
theorem claim : Cert.Claim := ⟨Cert.Kernel.Gen.facts, Cert.KernelIdeal.Gen.facts, Cert.ReferenceIdeal.Gen.facts,
  Cert.Ffn2.Gen.facts, Cert.Ffn2Ideal.Gen.facts, Cert.Ffn2RefIdeal.Gen.facts,
  Cert.Ffn1.Gen.facts, Cert.Ffn1Ideal.Gen.facts, Cert.Ffn1RefIdeal.Gen.facts,
  Cert.Dh2.Gen.facts, Cert.Dh2Ideal.Gen.facts, Cert.Dh2RefIdeal.Gen.facts,
  Cert.Dh1.Gen.facts, Cert.Dh1Ideal.Gen.facts, Cert.Dh1RefIdeal.Gen.facts,
  Cert.InProj.Gen.facts, Cert.InProjIdeal.Gen.facts, Cert.InProjRefIdeal.Gen.facts,
  Cert.InProjDx.Gen.facts, Cert.InProjDxIdeal.Gen.facts, Cert.InProjDxRefIdeal.Gen.facts,
  Cert.Update.Gen.facts, Cert.UpdateIdeal.Gen.facts, Cert.UpdateRefIdeal.Gen.facts,
  Cert.Mix.Gen.facts, Cert.MixIdeal.Gen.facts, Cert.MixRefIdeal.Gen.facts,
  Cert.MixDy.Gen.facts, Cert.MixDyIdeal.Gen.facts, Cert.MixDyRefIdeal.Gen.facts,
  Cert.UpdSmall.Gen.facts, Cert.UpdSmallIdeal.Gen.facts, Cert.UpdSmallRefIdeal.Gen.facts,
  Cert.UpdMod.Gen.facts, Cert.UpdModIdeal.Gen.facts, Cert.UpdModRefIdeal.Gen.facts,
  Cert.Attn.preFacts, Cert.Ffn2Cert.preFacts, Cert.Ffn1Cert.preFacts, Cert.UpdModCert.preFacts,
  fun m ρ _ => Cert.Kernel.Gen.frame m ρ, fun m ρ _ => Cert.KernelIdeal.Gen.frame m ρ, fun m ρ _ => Cert.KernelIdeal.Gen.frame m ρ,
  fun m ρ _ => Cert.Attn.frameR m ρ, fun m ρ _ => Cert.Attn.frameR m ρ,
  fun m ρ _ => Cert.Ffn2.Gen.frame m ρ, fun m ρ _ => Cert.Ffn2Ideal.Gen.frame m ρ, fun m ρ _ => Cert.Ffn2Ideal.Gen.frame m ρ,
  fun m ρ _ => Cert.Ffn2Cert.frameR m ρ, fun m ρ _ => Cert.Ffn2Cert.frameR m ρ,
  fun m ρ _ => Cert.Ffn1.Gen.frame m ρ, fun m ρ _ => Cert.Ffn1Ideal.Gen.frame m ρ, fun m ρ _ => Cert.Ffn1Ideal.Gen.frame m ρ,
  fun m ρ _ => Cert.Ffn1Cert.frameR m ρ, fun m ρ _ => Cert.Ffn1Cert.frameR m ρ,
  fun m ρ _ => Cert.Dh2.Gen.frame m ρ, fun m ρ _ => Cert.Dh2Ideal.Gen.frame m ρ, fun m ρ _ => Cert.Dh2Cert.frameR m ρ,
  fun m ρ _ => Cert.Dh1.Gen.frame m ρ, fun m ρ _ => Cert.Dh1Ideal.Gen.frame m ρ, fun m ρ _ => Cert.Dh1Cert.frameR m ρ,
  fun m ρ _ => Cert.InProj.Gen.frame m ρ, fun m ρ _ => Cert.InProjIdeal.Gen.frame m ρ, fun m ρ _ => Cert.InProjCert.frameR m ρ,
  fun m ρ _ => Cert.InProjDx.Gen.frame m ρ, fun m ρ _ => Cert.InProjDxIdeal.Gen.frame m ρ, fun m ρ _ => Cert.InProjDxCert.frameR m ρ,
  fun m ρ _ => Cert.Update.Gen.frame m ρ, fun m ρ _ => Cert.UpdateIdeal.Gen.frame m ρ, fun m ρ _ => Cert.UpdateCert.frameR m ρ,
  fun m ρ _ => Cert.Mix.Gen.frame m ρ, fun m ρ _ => Cert.MixIdeal.Gen.frame m ρ, fun m ρ _ => Cert.MixCert.frameR m ρ,
  fun m ρ _ => Cert.MixDy.Gen.frame m ρ, fun m ρ _ => Cert.MixDyIdeal.Gen.frame m ρ, fun m ρ _ => Cert.MixDyCert.frameR m ρ,
  fun m ρ _ => Cert.UpdSmall.Gen.frame m ρ, fun m ρ _ => Cert.UpdSmallIdeal.Gen.frame m ρ, fun m ρ _ => Cert.UpdSmallCert.frameR m ρ,
  fun m ρ _ => Cert.UpdMod.Gen.frame m ρ, fun m ρ _ => Cert.UpdModIdeal.Gen.frame m ρ, fun m ρ _ => Cert.UpdModIdeal.Gen.frame m ρ,
  fun m ρ _ => Cert.UpdModCert.frameR m ρ, fun m ρ _ => Cert.UpdModCert.frameR m ρ,
  trivial, @Cert.Attn.algebraic Cert.Attn.preFacts, trivial, @Cert.Ffn2Cert.algebraic Cert.Ffn2Cert.preFacts,
  trivial, @Cert.Ffn1Cert.algebraic Cert.Ffn1Cert.preFacts,
  trivial, Cert.Dh2Cert.algebraic,
  trivial, Cert.Dh1Cert.algebraic,
  trivial, Cert.InProjCert.algebraic,
  trivial, Cert.InProjDxCert.algebraic,
  trivial, Cert.UpdateCert.algebraic,
  trivial, Cert.MixCert.algebraic,
  trivial, Cert.MixDyCert.algebraic,
  trivial, Cert.UpdSmallCert.algebraic,
  trivial, @Cert.UpdModCert.algebraic Cert.UpdModCert.preFacts⟩

end Cert.Proof

end
